-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_DownX (m : (ℓ : Loc Cert.DownX.nD Cert.DownX.τ Cert.DownX.sig) → Buf (Elt Bits) ℓ) : Prop :=
  True

def Pre_DownXIdeal (m : (ℓ : Loc Cert.DownXIdeal.nD Cert.DownXIdeal.τ Cert.DownXIdeal.sig) → Buf (Elt Ideal) ℓ) : Prop :=
  True

def Pre_DownXRefIdeal (m : (ℓ : Loc Cert.DownXRefIdeal.nD Cert.DownXRefIdeal.τ Cert.DownXRefIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWRefIdeal (m : (ℓ : Loc Cert.DownWRefIdeal.nD Cert.DownWRefIdeal.τ Cert.DownWRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXRefIdeal (m : (ℓ : Loc Cert.InXRefIdeal.nD Cert.InXRefIdeal.τ Cert.InXRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_GateW (m : (ℓ : Loc Cert.GateW.nD Cert.GateW.τ Cert.GateW.sig) → Buf (Elt Bits) ℓ) : Prop :=
  True

def Pre_GateWIdeal (m : (ℓ : Loc Cert.GateWIdeal.nD Cert.GateWIdeal.τ Cert.GateWIdeal.sig) → Buf (Elt Ideal) ℓ) : Prop :=
  True

def Pre_GateWRefIdeal (m : (ℓ : Loc Cert.GateWRefIdeal.nD Cert.GateWRefIdeal.τ Cert.GateWRefIdeal.sig) → Buf (Elt Ideal) ℓ) : Prop :=
  True

def Pre_GateX (m : (ℓ : Loc Cert.GateX.nD Cert.GateX.τ Cert.GateX.sig) → Buf (Elt Bits) ℓ) : Prop :=
  True

def Pre_GateXIdeal (m : (ℓ : Loc Cert.GateXIdeal.nD Cert.GateXIdeal.τ Cert.GateXIdeal.sig) → Buf (Elt Ideal) ℓ) : Prop :=
  True

def Pre_GateXRefIdeal (m : (ℓ : Loc Cert.GateXRefIdeal.nD Cert.GateXRefIdeal.τ Cert.GateXRefIdeal.sig) → Buf (Elt Ideal) ℓ) : Prop :=
  True

def Pre_UpX (m : (ℓ : Loc Cert.UpX.nD Cert.UpX.τ Cert.UpX.sig) → Buf (Elt Bits) ℓ) : Prop :=
  True

def Pre_UpXIdeal (m : (ℓ : Loc Cert.UpXIdeal.nD Cert.UpXIdeal.τ Cert.UpXIdeal.sig) → Buf (Elt Ideal) ℓ) : Prop :=
  True

def Pre_UpXRefIdeal (m : (ℓ : Loc Cert.UpXRefIdeal.nD Cert.UpXRefIdeal.τ Cert.UpXRefIdeal.sig) → Buf (Elt Ideal) ℓ) : Prop :=
  True

def Pre_DownX0 (m : (ℓ : Loc Cert.DownX0.nD Cert.DownX0.τ Cert.DownX0.sig) → Buf (Elt Bits) ℓ) : Prop :=
  True

def Pre_DownX0Ideal (m : (ℓ : Loc Cert.DownX0Ideal.nD Cert.DownX0Ideal.τ Cert.DownX0Ideal.sig) → Buf (Elt Ideal) ℓ) : Prop :=
  True

def Pre_DownX0RefIdeal (m : (ℓ : Loc Cert.DownX0RefIdeal.nD Cert.DownX0RefIdeal.τ Cert.DownX0RefIdeal.sig) → Buf (Elt Ideal) ℓ) : Prop :=
  True

def Pre_DownW0 (m : (ℓ : Loc Cert.DownW0.nD Cert.DownW0.τ Cert.DownW0.sig) → Buf (Elt Bits) ℓ) : Prop :=
  True

def Pre_DownW0Ideal (m : (ℓ : Loc Cert.DownW0Ideal.nD Cert.DownW0Ideal.τ Cert.DownW0Ideal.sig) → Buf (Elt Ideal) ℓ) : Prop :=
  True

def Pre_DownW0RefIdeal (m : (ℓ : Loc Cert.DownW0RefIdeal.nD Cert.DownW0RefIdeal.τ Cert.DownW0RefIdeal.sig) → Buf (Elt Ideal) ℓ) : Prop :=
  True

def Pre_GateW0 (m : (ℓ : Loc Cert.GateW0.nD Cert.GateW0.τ Cert.GateW0.sig) → Buf (Elt Bits) ℓ) : Prop :=
  True

def Pre_GateW0Ideal (m : (ℓ : Loc Cert.GateW0Ideal.nD Cert.GateW0Ideal.τ Cert.GateW0Ideal.sig) → Buf (Elt Ideal) ℓ) : Prop :=
  True

def Pre_GateW0RefIdeal (m : (ℓ : Loc Cert.GateW0RefIdeal.nD Cert.GateW0RefIdeal.τ Cert.GateW0RefIdeal.sig) → Buf (Elt Ideal) ℓ) : Prop :=
  True

def Pre_GateX0 (m : (ℓ : Loc Cert.GateX0.nD Cert.GateX0.τ Cert.GateX0.sig) → Buf (Elt Bits) ℓ) : Prop :=
  True

def Pre_GateX0Ideal (m : (ℓ : Loc Cert.GateX0Ideal.nD Cert.GateX0Ideal.τ Cert.GateX0Ideal.sig) → Buf (Elt Ideal) ℓ) : Prop :=
  True

def Pre_GateX0RefIdeal (m : (ℓ : Loc Cert.GateX0RefIdeal.nD Cert.GateX0RefIdeal.τ Cert.GateX0RefIdeal.sig) → Buf (Elt Ideal) ℓ) : Prop :=
  True

def Pre_UpX0 (m : (ℓ : Loc Cert.UpX0.nD Cert.UpX0.τ Cert.UpX0.sig) → Buf (Elt Bits) ℓ) : Prop :=
  True

def Pre_UpX0Ideal (m : (ℓ : Loc Cert.UpX0Ideal.nD Cert.UpX0Ideal.τ Cert.UpX0Ideal.sig) → Buf (Elt Ideal) ℓ) : Prop :=
  True

def Pre_UpX0RefIdeal (m : (ℓ : Loc Cert.UpX0RefIdeal.nD Cert.UpX0RefIdeal.τ Cert.UpX0RefIdeal.sig) → Buf (Elt Ideal) ℓ) : Prop :=
  True

def Pre_OutX (m : (ℓ : Loc Cert.OutX.nD Cert.OutX.τ Cert.OutX.sig) → Buf (Elt Bits) ℓ) : Prop :=
  True

def Pre_OutXIdeal (m : (ℓ : Loc Cert.OutXIdeal.nD Cert.OutXIdeal.τ Cert.OutXIdeal.sig) → Buf (Elt Ideal) ℓ) : Prop :=
  True

def Pre_OutXRefIdeal (m : (ℓ : Loc Cert.OutXRefIdeal.nD Cert.OutXRefIdeal.τ Cert.OutXRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_OutX0 (m : (ℓ : Loc Cert.OutX0.nD Cert.OutX0.τ Cert.OutX0.sig) → Buf (Elt Bits) ℓ) : Prop :=
  True

def Pre_OutX0Ideal (m : (ℓ : Loc Cert.OutX0Ideal.nD Cert.OutX0Ideal.τ Cert.OutX0Ideal.sig) → Buf (Elt Ideal) ℓ) : Prop :=
  True

def Pre_OutX0RefIdeal (m : (ℓ : Loc Cert.OutX0RefIdeal.nD Cert.OutX0RefIdeal.τ Cert.OutX0RefIdeal.sig) → Buf (Elt Ideal) ℓ) : Prop :=
  True

def Pre_OutW0 (m : (ℓ : Loc Cert.OutW0.nD Cert.OutW0.τ Cert.OutW0.sig) → Buf (Elt Bits) ℓ) : Prop :=
  True

def Pre_OutW0Ideal (m : (ℓ : Loc Cert.OutW0Ideal.nD Cert.OutW0Ideal.τ Cert.OutW0Ideal.sig) → Buf (Elt Ideal) ℓ) : Prop :=
  True

def Pre_OutW0RefIdeal (m : (ℓ : Loc Cert.OutW0RefIdeal.nD Cert.OutW0RefIdeal.τ Cert.OutW0RefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Conv0 (m : (ℓ : Loc Cert.Conv0.nD Cert.Conv0.τ Cert.Conv0.sig) → Buf (Elt Bits) ℓ) : Prop :=
  True

def Pre_Conv0Ideal (m : (ℓ : Loc Cert.Conv0Ideal.nD Cert.Conv0Ideal.τ Cert.Conv0Ideal.sig) → Buf (Elt Ideal) ℓ) : Prop :=
  True

def Pre_Conv0RefIdeal (m : (ℓ : Loc Cert.Conv0RefIdeal.nD Cert.Conv0RefIdeal.τ Cert.Conv0RefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_finite_act [hPre_finite_act : Cert.Pre_finite_act.Facts] (m : (ℓ : Loc Cert.ActIdeal.nD Cert.ActIdeal.τ Cert.ActIdeal.sig) → Buf (Elt Ideal) ℓ) : Prop :=
  ∀ c : Dev Cert.ActIdeal.nD,
    (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3)) (m ((c.tc : Thread Cert.ActIdeal.nD Cert.ActIdeal.τ).loc Cert.ActIdeal.main_arg4))) = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_finite_act [hPre_finite_act : Cert.Pre_finite_act.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3)) (m ((c.tc : Thread Cert.ActRefIdeal.nD Cert.ActRefIdeal.τ).loc Cert.ActRefIdeal.main_arg4))) = (fun _ => 1#1)

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Uq (m : (ℓ : Loc Cert.Uq.nD Cert.Uq.τ Cert.Uq.sig) → Buf (Elt Bits) ℓ) : Prop :=
  True

def Pre_UqIdeal (m : (ℓ : Loc Cert.UqIdeal.nD Cert.UqIdeal.τ Cert.UqIdeal.sig) → Buf (Elt Ideal) ℓ) : Prop :=
  True

def Pre_UqRefIdeal (m : (ℓ : Loc Cert.UqRefIdeal.nD Cert.UqRefIdeal.τ Cert.UqRefIdeal.sig) → Buf (Elt Ideal) ℓ) : Prop :=
  True

def Pre_Ukv (m : (ℓ : Loc Cert.Ukv.nD Cert.Ukv.τ Cert.Ukv.sig) → Buf (Elt Bits) ℓ) : Prop :=
  True

def Pre_UkvIdeal (m : (ℓ : Loc Cert.UkvIdeal.nD Cert.UkvIdeal.τ Cert.UkvIdeal.sig) → Buf (Elt Ideal) ℓ) : Prop :=
  True

def Pre_UkvRefIdeal (m : (ℓ : Loc Cert.UkvRefIdeal.nD Cert.UkvRefIdeal.τ Cert.UkvRefIdeal.sig) → Buf (Elt Ideal) ℓ) : Prop :=
  True

def Pre_UqX (m : (ℓ : Loc Cert.UqX.nD Cert.UqX.τ Cert.UqX.sig) → Buf (Elt Bits) ℓ) : Prop :=
  True

def Pre_UqXIdeal (m : (ℓ : Loc Cert.UqXIdeal.nD Cert.UqXIdeal.τ Cert.UqXIdeal.sig) → Buf (Elt Ideal) ℓ) : Prop :=
  True

def Pre_UqXRefIdeal (m : (ℓ : Loc Cert.UqXRefIdeal.nD Cert.UqXRefIdeal.τ Cert.UqXRefIdeal.sig) → Buf (Elt Ideal) ℓ) : Prop :=
  True

def Pre_UkvX (m : (ℓ : Loc Cert.UkvX.nD Cert.UkvX.τ Cert.UkvX.sig) → Buf (Elt Bits) ℓ) : Prop :=
  True

def Pre_UkvXIdeal (m : (ℓ : Loc Cert.UkvXIdeal.nD Cert.UkvXIdeal.τ Cert.UkvXIdeal.sig) → Buf (Elt Ideal) ℓ) : Prop :=
  True

def Pre_UkvXRefIdeal (m : (ℓ : Loc Cert.UkvXRefIdeal.nD Cert.UkvXRefIdeal.τ Cert.UkvXRefIdeal.sig) → Buf (Elt Ideal) ℓ) : Prop :=
  True

def Pre_UqW (m : (ℓ : Loc Cert.UqW.nD Cert.UqW.τ Cert.UqW.sig) → Buf (Elt Bits) ℓ) : Prop :=
  True

def Pre_UqWIdeal (m : (ℓ : Loc Cert.UqWIdeal.nD Cert.UqWIdeal.τ Cert.UqWIdeal.sig) → Buf (Elt Ideal) ℓ) : Prop :=
  True

def Pre_UqWRefIdeal (m : (ℓ : Loc Cert.UqWRefIdeal.nD Cert.UqWRefIdeal.τ Cert.UqWRefIdeal.sig) → Buf (Elt Ideal) ℓ) : Prop :=
  True

def Pre_UkvW (m : (ℓ : Loc Cert.UkvW.nD Cert.UkvW.τ Cert.UkvW.sig) → Buf (Elt Bits) ℓ) : Prop :=
  True

def Pre_UkvWIdeal (m : (ℓ : Loc Cert.UkvWIdeal.nD Cert.UkvWIdeal.τ Cert.UkvWIdeal.sig) → Buf (Elt Ideal) ℓ) : Prop :=
  True

def Pre_UkvWRefIdeal (m : (ℓ : Loc Cert.UkvWRefIdeal.nD Cert.UkvWRefIdeal.τ Cert.UkvWRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_DownX [hDownX : Cert.DownX.Facts] : Prop :=
  ∀ (m : (ℓ : Loc Cert.DownX.nD Cert.DownX.τ Cert.DownX.sig) → Buf (Elt Bits) ℓ) (g : Dev Cert.DownX.nD → PrngReg), Pre_DownX m →
    θ_run (Cert.DownX.defs (F := Bits)) (onTc (τ := Cert.DownX.τ) (Cert.DownX.main (F := Bits))) ⟨m, fun _ => 0, g⟩ (fun r => (∀ c : Dev Cert.DownX.nD,
      r.2.mem ((c.tc : Thread Cert.DownX.nD Cert.DownX.τ).loc Cert.DownX.main_arg0) = m ((c.tc : Thread Cert.DownX.nD Cert.DownX.τ).loc Cert.DownX.main_arg0)
      ∧ r.2.mem ((c.tc : Thread Cert.DownX.nD Cert.DownX.τ).loc Cert.DownX.main_arg1) = m ((c.tc : Thread Cert.DownX.nD Cert.DownX.τ).loc Cert.DownX.main_arg1))
      ∧ r.2.sem = fun _ => 0)

def quiescent_DownXIdeal [hDownXIdeal : Cert.DownXIdeal.Facts] : Prop :=
  ∀ (m : (ℓ : Loc Cert.DownXIdeal.nD Cert.DownXIdeal.τ Cert.DownXIdeal.sig) → Buf (Elt Ideal) ℓ) (g : Dev Cert.DownXIdeal.nD → PrngReg), Pre_DownXIdeal m →
    θ_run (Cert.DownXIdeal.defs (F := Ideal)) (onTc (τ := Cert.DownXIdeal.τ) (Cert.DownXIdeal.main (F := Ideal))) ⟨m, fun _ => 0, g⟩ (fun r => (∀ c : Dev Cert.DownXIdeal.nD,
      r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
      ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1))
      ∧ r.2.sem = fun _ => 0)

def quiescent_DownXRefIdeal [hDownXRefIdeal : Cert.DownXRefIdeal.Facts] : Prop :=
  ∀ (m : (ℓ : Loc Cert.DownXRefIdeal.nD Cert.DownXRefIdeal.τ Cert.DownXRefIdeal.sig) → Buf (Elt Ideal) ℓ) (g : Dev Cert.DownXRefIdeal.nD → PrngReg), Pre_DownXRefIdeal m →
    θ_run (Cert.DownXRefIdeal.defs (F := Ideal)) (onTc (τ := Cert.DownXRefIdeal.τ) (Cert.DownXRefIdeal.main (F := Ideal))) ⟨m, fun _ => 0, g⟩ (fun r => (∀ c : Dev Cert.DownXRefIdeal.nD,
      r.2.mem ((c.tc : Thread Cert.DownXRefIdeal.nD Cert.DownXRefIdeal.τ).loc Cert.DownXRefIdeal.main_arg0) = m ((c.tc : Thread Cert.DownXRefIdeal.nD Cert.DownXRefIdeal.τ).loc Cert.DownXRefIdeal.main_arg0)
      ∧ r.2.mem ((c.tc : Thread Cert.DownXRefIdeal.nD Cert.DownXRefIdeal.τ).loc Cert.DownXRefIdeal.main_arg1) = m ((c.tc : Thread Cert.DownXRefIdeal.nD Cert.DownXRefIdeal.τ).loc Cert.DownXRefIdeal.main_arg1))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_DownWRefIdeal [hDownWRefIdeal : Cert.DownWRefIdeal.Facts] : Prop :=
  ∀ (m : (ℓ : Loc Cert.DownWRefIdeal.nD Cert.DownWRefIdeal.τ Cert.DownWRefIdeal.sig) → Buf (Elt Ideal) ℓ) (g : Dev Cert.DownWRefIdeal.nD → PrngReg), Pre_DownWRefIdeal m →
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1))
      ∧ r.2.sem = fun _ => 0)

def quiescent_InXRefIdeal [hInXRefIdeal : Cert.InXRefIdeal.Facts] : Prop :=
  ∀ (m : (ℓ : Loc Cert.InXRefIdeal.nD Cert.InXRefIdeal.τ Cert.InXRefIdeal.sig) → Buf (Elt Ideal) ℓ) (g : Dev Cert.InXRefIdeal.nD → PrngReg), Pre_InXRefIdeal m →
    θ_run (Cert.InXRefIdeal.defs (F := Ideal)) (onTc (τ := Cert.InXRefIdeal.τ) (Cert.InXRefIdeal.main (F := Ideal))) ⟨m, fun _ => 0, g⟩ (fun r => (∀ c : Dev Cert.InXRefIdeal.nD,
      r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
      ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1))
      ∧ r.2.sem = fun _ => 0)

def quiescent_GateW [hGateW : Cert.GateW.Facts] : Prop :=
  ∀ (m : (ℓ : Loc Cert.GateW.nD Cert.GateW.τ Cert.GateW.sig) → Buf (Elt Bits) ℓ) (g : Dev Cert.GateW.nD → PrngReg), Pre_GateW m →
    θ_run (Cert.GateW.defs (F := Bits)) (onTc (τ := Cert.GateW.τ) (Cert.GateW.main (F := Bits))) ⟨m, fun _ => 0, g⟩ (fun r => (∀ c : Dev Cert.GateW.nD,
      r.2.mem ((c.tc : Thread Cert.GateW.nD Cert.GateW.τ).loc Cert.GateW.main_arg0) = m ((c.tc : Thread Cert.GateW.nD Cert.GateW.τ).loc Cert.GateW.main_arg0)
      ∧ r.2.mem ((c.tc : Thread Cert.GateW.nD Cert.GateW.τ).loc Cert.GateW.main_arg1) = m ((c.tc : Thread Cert.GateW.nD Cert.GateW.τ).loc Cert.GateW.main_arg1))
      ∧ r.2.sem = fun _ => 0)

def quiescent_GateWIdeal [hGateWIdeal : Cert.GateWIdeal.Facts] : Prop :=
  ∀ (m : (ℓ : Loc Cert.GateWIdeal.nD Cert.GateWIdeal.τ Cert.GateWIdeal.sig) → Buf (Elt Ideal) ℓ) (g : Dev Cert.GateWIdeal.nD → PrngReg), Pre_GateWIdeal m →
    θ_run (Cert.GateWIdeal.defs (F := Ideal)) (onTc (τ := Cert.GateWIdeal.τ) (Cert.GateWIdeal.main (F := Ideal))) ⟨m, fun _ => 0, g⟩ (fun r => (∀ c : Dev Cert.GateWIdeal.nD,
      r.2.mem ((c.tc : Thread Cert.GateWIdeal.nD Cert.GateWIdeal.τ).loc Cert.GateWIdeal.main_arg0) = m ((c.tc : Thread Cert.GateWIdeal.nD Cert.GateWIdeal.τ).loc Cert.GateWIdeal.main_arg0)
      ∧ r.2.mem ((c.tc : Thread Cert.GateWIdeal.nD Cert.GateWIdeal.τ).loc Cert.GateWIdeal.main_arg1) = m ((c.tc : Thread Cert.GateWIdeal.nD Cert.GateWIdeal.τ).loc Cert.GateWIdeal.main_arg1))
      ∧ r.2.sem = fun _ => 0)

def quiescent_GateWRefIdeal [hGateWRefIdeal : Cert.GateWRefIdeal.Facts] : Prop :=
  ∀ (m : (ℓ : Loc Cert.GateWRefIdeal.nD Cert.GateWRefIdeal.τ Cert.GateWRefIdeal.sig) → Buf (Elt Ideal) ℓ) (g : Dev Cert.GateWRefIdeal.nD → PrngReg), Pre_GateWRefIdeal m →
    θ_run (Cert.GateWRefIdeal.defs (F := Ideal)) (onTc (τ := Cert.GateWRefIdeal.τ) (Cert.GateWRefIdeal.main (F := Ideal))) ⟨m, fun _ => 0, g⟩ (fun r => (∀ c : Dev Cert.GateWRefIdeal.nD,
      r.2.mem ((c.tc : Thread Cert.GateWRefIdeal.nD Cert.GateWRefIdeal.τ).loc Cert.GateWRefIdeal.main_arg0) = m ((c.tc : Thread Cert.GateWRefIdeal.nD Cert.GateWRefIdeal.τ).loc Cert.GateWRefIdeal.main_arg0)
      ∧ r.2.mem ((c.tc : Thread Cert.GateWRefIdeal.nD Cert.GateWRefIdeal.τ).loc Cert.GateWRefIdeal.main_arg1) = m ((c.tc : Thread Cert.GateWRefIdeal.nD Cert.GateWRefIdeal.τ).loc Cert.GateWRefIdeal.main_arg1))
      ∧ r.2.sem = fun _ => 0)

def quiescent_GateX [hGateX : Cert.GateX.Facts] : Prop :=
  ∀ (m : (ℓ : Loc Cert.GateX.nD Cert.GateX.τ Cert.GateX.sig) → Buf (Elt Bits) ℓ) (g : Dev Cert.GateX.nD → PrngReg), Pre_GateX m →
    θ_run (Cert.GateX.defs (F := Bits)) (onTc (τ := Cert.GateX.τ) (Cert.GateX.main (F := Bits))) ⟨m, fun _ => 0, g⟩ (fun r => (∀ c : Dev Cert.GateX.nD,
      r.2.mem ((c.tc : Thread Cert.GateX.nD Cert.GateX.τ).loc Cert.GateX.main_arg0) = m ((c.tc : Thread Cert.GateX.nD Cert.GateX.τ).loc Cert.GateX.main_arg0)
      ∧ r.2.mem ((c.tc : Thread Cert.GateX.nD Cert.GateX.τ).loc Cert.GateX.main_arg1) = m ((c.tc : Thread Cert.GateX.nD Cert.GateX.τ).loc Cert.GateX.main_arg1))
      ∧ r.2.sem = fun _ => 0)

def quiescent_GateXIdeal [hGateXIdeal : Cert.GateXIdeal.Facts] : Prop :=
  ∀ (m : (ℓ : Loc Cert.GateXIdeal.nD Cert.GateXIdeal.τ Cert.GateXIdeal.sig) → Buf (Elt Ideal) ℓ) (g : Dev Cert.GateXIdeal.nD → PrngReg), Pre_GateXIdeal m →
    θ_run (Cert.GateXIdeal.defs (F := Ideal)) (onTc (τ := Cert.GateXIdeal.τ) (Cert.GateXIdeal.main (F := Ideal))) ⟨m, fun _ => 0, g⟩ (fun r => (∀ c : Dev Cert.GateXIdeal.nD,
      r.2.mem ((c.tc : Thread Cert.GateXIdeal.nD Cert.GateXIdeal.τ).loc Cert.GateXIdeal.main_arg0) = m ((c.tc : Thread Cert.GateXIdeal.nD Cert.GateXIdeal.τ).loc Cert.GateXIdeal.main_arg0)
      ∧ r.2.mem ((c.tc : Thread Cert.GateXIdeal.nD Cert.GateXIdeal.τ).loc Cert.GateXIdeal.main_arg1) = m ((c.tc : Thread Cert.GateXIdeal.nD Cert.GateXIdeal.τ).loc Cert.GateXIdeal.main_arg1))
      ∧ r.2.sem = fun _ => 0)

def quiescent_GateXRefIdeal [hGateXRefIdeal : Cert.GateXRefIdeal.Facts] : Prop :=
  ∀ (m : (ℓ : Loc Cert.GateXRefIdeal.nD Cert.GateXRefIdeal.τ Cert.GateXRefIdeal.sig) → Buf (Elt Ideal) ℓ) (g : Dev Cert.GateXRefIdeal.nD → PrngReg), Pre_GateXRefIdeal m →
    θ_run (Cert.GateXRefIdeal.defs (F := Ideal)) (onTc (τ := Cert.GateXRefIdeal.τ) (Cert.GateXRefIdeal.main (F := Ideal))) ⟨m, fun _ => 0, g⟩ (fun r => (∀ c : Dev Cert.GateXRefIdeal.nD,
      r.2.mem ((c.tc : Thread Cert.GateXRefIdeal.nD Cert.GateXRefIdeal.τ).loc Cert.GateXRefIdeal.main_arg0) = m ((c.tc : Thread Cert.GateXRefIdeal.nD Cert.GateXRefIdeal.τ).loc Cert.GateXRefIdeal.main_arg0)
      ∧ r.2.mem ((c.tc : Thread Cert.GateXRefIdeal.nD Cert.GateXRefIdeal.τ).loc Cert.GateXRefIdeal.main_arg1) = m ((c.tc : Thread Cert.GateXRefIdeal.nD Cert.GateXRefIdeal.τ).loc Cert.GateXRefIdeal.main_arg1))
      ∧ r.2.sem = fun _ => 0)

def quiescent_UpX [hUpX : Cert.UpX.Facts] : Prop :=
  ∀ (m : (ℓ : Loc Cert.UpX.nD Cert.UpX.τ Cert.UpX.sig) → Buf (Elt Bits) ℓ) (g : Dev Cert.UpX.nD → PrngReg), Pre_UpX m →
    θ_run (Cert.UpX.defs (F := Bits)) (onTc (τ := Cert.UpX.τ) (Cert.UpX.main (F := Bits))) ⟨m, fun _ => 0, g⟩ (fun r => (∀ c : Dev Cert.UpX.nD,
      r.2.mem ((c.tc : Thread Cert.UpX.nD Cert.UpX.τ).loc Cert.UpX.main_arg0) = m ((c.tc : Thread Cert.UpX.nD Cert.UpX.τ).loc Cert.UpX.main_arg0)
      ∧ r.2.mem ((c.tc : Thread Cert.UpX.nD Cert.UpX.τ).loc Cert.UpX.main_arg1) = m ((c.tc : Thread Cert.UpX.nD Cert.UpX.τ).loc Cert.UpX.main_arg1)
      ∧ r.2.mem ((c.tc : Thread Cert.UpX.nD Cert.UpX.τ).loc Cert.UpX.main_arg2) = m ((c.tc : Thread Cert.UpX.nD Cert.UpX.τ).loc Cert.UpX.main_arg2))
      ∧ r.2.sem = fun _ => 0)

def quiescent_UpXIdeal [hUpXIdeal : Cert.UpXIdeal.Facts] : Prop :=
  ∀ (m : (ℓ : Loc Cert.UpXIdeal.nD Cert.UpXIdeal.τ Cert.UpXIdeal.sig) → Buf (Elt Ideal) ℓ) (g : Dev Cert.UpXIdeal.nD → PrngReg), Pre_UpXIdeal m →
    θ_run (Cert.UpXIdeal.defs (F := Ideal)) (onTc (τ := Cert.UpXIdeal.τ) (Cert.UpXIdeal.main (F := Ideal))) ⟨m, fun _ => 0, g⟩ (fun r => (∀ c : Dev Cert.UpXIdeal.nD,
      r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
      ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1)
      ∧ r.2.mem ((c.tc : Thread Cert.UpXIdeal.nD Cert.UpXIdeal.τ).loc Cert.UpXIdeal.main_arg2) = m ((c.tc : Thread Cert.UpXIdeal.nD Cert.UpXIdeal.τ).loc Cert.UpXIdeal.main_arg2))
      ∧ r.2.sem = fun _ => 0)

def quiescent_UpXRefIdeal [hUpXRefIdeal : Cert.UpXRefIdeal.Facts] : Prop :=
  ∀ (m : (ℓ : Loc Cert.UpXRefIdeal.nD Cert.UpXRefIdeal.τ Cert.UpXRefIdeal.sig) → Buf (Elt Ideal) ℓ) (g : Dev Cert.UpXRefIdeal.nD → PrngReg), Pre_UpXRefIdeal m →
    θ_run (Cert.UpXRefIdeal.defs (F := Ideal)) (onTc (τ := Cert.UpXRefIdeal.τ) (Cert.UpXRefIdeal.main (F := Ideal))) ⟨m, fun _ => 0, g⟩ (fun r => (∀ c : Dev Cert.UpXRefIdeal.nD,
      r.2.mem ((c.tc : Thread Cert.UpXRefIdeal.nD Cert.UpXRefIdeal.τ).loc Cert.UpXRefIdeal.main_arg0) = m ((c.tc : Thread Cert.UpXRefIdeal.nD Cert.UpXRefIdeal.τ).loc Cert.UpXRefIdeal.main_arg0)
      ∧ r.2.mem ((c.tc : Thread Cert.UpXRefIdeal.nD Cert.UpXRefIdeal.τ).loc Cert.UpXRefIdeal.main_arg1) = m ((c.tc : Thread Cert.UpXRefIdeal.nD Cert.UpXRefIdeal.τ).loc Cert.UpXRefIdeal.main_arg1)
      ∧ r.2.mem ((c.tc : Thread Cert.UpXRefIdeal.nD Cert.UpXRefIdeal.τ).loc Cert.UpXRefIdeal.main_arg2) = m ((c.tc : Thread Cert.UpXRefIdeal.nD Cert.UpXRefIdeal.τ).loc Cert.UpXRefIdeal.main_arg2))
      ∧ r.2.sem = fun _ => 0)

def quiescent_DownX0 [hDownX0 : Cert.DownX0.Facts] : Prop :=
  ∀ (m : (ℓ : Loc Cert.DownX0.nD Cert.DownX0.τ Cert.DownX0.sig) → Buf (Elt Bits) ℓ) (g : Dev Cert.DownX0.nD → PrngReg), Pre_DownX0 m →
    θ_run (Cert.DownX0.defs (F := Bits)) (onTc (τ := Cert.DownX0.τ) (Cert.DownX0.main (F := Bits))) ⟨m, fun _ => 0, g⟩ (fun r => (∀ c : Dev Cert.DownX0.nD,
      r.2.mem ((c.tc : Thread Cert.DownX0.nD Cert.DownX0.τ).loc Cert.DownX0.main_arg0) = m ((c.tc : Thread Cert.DownX0.nD Cert.DownX0.τ).loc Cert.DownX0.main_arg0)
      ∧ r.2.mem ((c.tc : Thread Cert.DownX0.nD Cert.DownX0.τ).loc Cert.DownX0.main_arg1) = m ((c.tc : Thread Cert.DownX0.nD Cert.DownX0.τ).loc Cert.DownX0.main_arg1))
      ∧ r.2.sem = fun _ => 0)

def quiescent_DownX0Ideal [hDownX0Ideal : Cert.DownX0Ideal.Facts] : Prop :=
  ∀ (m : (ℓ : Loc Cert.DownX0Ideal.nD Cert.DownX0Ideal.τ Cert.DownX0Ideal.sig) → Buf (Elt Ideal) ℓ) (g : Dev Cert.DownX0Ideal.nD → PrngReg), Pre_DownX0Ideal m →
    θ_run (Cert.DownX0Ideal.defs (F := Ideal)) (onTc (τ := Cert.DownX0Ideal.τ) (Cert.DownX0Ideal.main (F := Ideal))) ⟨m, fun _ => 0, g⟩ (fun r => (∀ c : Dev Cert.DownX0Ideal.nD,
      r.2.mem ((c.tc : Thread Cert.DownX0Ideal.nD Cert.DownX0Ideal.τ).loc Cert.DownX0Ideal.main_arg0) = m ((c.tc : Thread Cert.DownX0Ideal.nD Cert.DownX0Ideal.τ).loc Cert.DownX0Ideal.main_arg0)
      ∧ r.2.mem ((c.tc : Thread Cert.DownX0Ideal.nD Cert.DownX0Ideal.τ).loc Cert.DownX0Ideal.main_arg1) = m ((c.tc : Thread Cert.DownX0Ideal.nD Cert.DownX0Ideal.τ).loc Cert.DownX0Ideal.main_arg1))
      ∧ r.2.sem = fun _ => 0)

def quiescent_DownX0RefIdeal [hDownX0RefIdeal : Cert.DownX0RefIdeal.Facts] : Prop :=
  ∀ (m : (ℓ : Loc Cert.DownX0RefIdeal.nD Cert.DownX0RefIdeal.τ Cert.DownX0RefIdeal.sig) → Buf (Elt Ideal) ℓ) (g : Dev Cert.DownX0RefIdeal.nD → PrngReg), Pre_DownX0RefIdeal m →
    θ_run (Cert.DownX0RefIdeal.defs (F := Ideal)) (onTc (τ := Cert.DownX0RefIdeal.τ) (Cert.DownX0RefIdeal.main (F := Ideal))) ⟨m, fun _ => 0, g⟩ (fun r => (∀ c : Dev Cert.DownX0RefIdeal.nD,
      r.2.mem ((c.tc : Thread Cert.DownX0RefIdeal.nD Cert.DownX0RefIdeal.τ).loc Cert.DownX0RefIdeal.main_arg0) = m ((c.tc : Thread Cert.DownX0RefIdeal.nD Cert.DownX0RefIdeal.τ).loc Cert.DownX0RefIdeal.main_arg0)
      ∧ r.2.mem ((c.tc : Thread Cert.DownX0RefIdeal.nD Cert.DownX0RefIdeal.τ).loc Cert.DownX0RefIdeal.main_arg1) = m ((c.tc : Thread Cert.DownX0RefIdeal.nD Cert.DownX0RefIdeal.τ).loc Cert.DownX0RefIdeal.main_arg1))
      ∧ r.2.sem = fun _ => 0)

def quiescent_DownW0 [hDownW0 : Cert.DownW0.Facts] : Prop :=
  ∀ (m : (ℓ : Loc Cert.DownW0.nD Cert.DownW0.τ Cert.DownW0.sig) → Buf (Elt Bits) ℓ) (g : Dev Cert.DownW0.nD → PrngReg), Pre_DownW0 m →
    θ_run (Cert.DownW0.defs (F := Bits)) (onTc (τ := Cert.DownW0.τ) (Cert.DownW0.main (F := Bits))) ⟨m, fun _ => 0, g⟩ (fun r => (∀ c : Dev Cert.DownW0.nD,
      r.2.mem ((c.tc : Thread Cert.DownW0.nD Cert.DownW0.τ).loc Cert.DownW0.main_arg0) = m ((c.tc : Thread Cert.DownW0.nD Cert.DownW0.τ).loc Cert.DownW0.main_arg0)
      ∧ r.2.mem ((c.tc : Thread Cert.DownW0.nD Cert.DownW0.τ).loc Cert.DownW0.main_arg1) = m ((c.tc : Thread Cert.DownW0.nD Cert.DownW0.τ).loc Cert.DownW0.main_arg1))
      ∧ r.2.sem = fun _ => 0)

def quiescent_DownW0Ideal [hDownW0Ideal : Cert.DownW0Ideal.Facts] : Prop :=
  ∀ (m : (ℓ : Loc Cert.DownW0Ideal.nD Cert.DownW0Ideal.τ Cert.DownW0Ideal.sig) → Buf (Elt Ideal) ℓ) (g : Dev Cert.DownW0Ideal.nD → PrngReg), Pre_DownW0Ideal m →
    θ_run (Cert.DownW0Ideal.defs (F := Ideal)) (onTc (τ := Cert.DownW0Ideal.τ) (Cert.DownW0Ideal.main (F := Ideal))) ⟨m, fun _ => 0, g⟩ (fun r => (∀ c : Dev Cert.DownW0Ideal.nD,
      r.2.mem ((c.tc : Thread Cert.DownW0Ideal.nD Cert.DownW0Ideal.τ).loc Cert.DownW0Ideal.main_arg0) = m ((c.tc : Thread Cert.DownW0Ideal.nD Cert.DownW0Ideal.τ).loc Cert.DownW0Ideal.main_arg0)
      ∧ r.2.mem ((c.tc : Thread Cert.DownW0Ideal.nD Cert.DownW0Ideal.τ).loc Cert.DownW0Ideal.main_arg1) = m ((c.tc : Thread Cert.DownW0Ideal.nD Cert.DownW0Ideal.τ).loc Cert.DownW0Ideal.main_arg1))
      ∧ r.2.sem = fun _ => 0)

def quiescent_DownW0RefIdeal [hDownW0RefIdeal : Cert.DownW0RefIdeal.Facts] : Prop :=
  ∀ (m : (ℓ : Loc Cert.DownW0RefIdeal.nD Cert.DownW0RefIdeal.τ Cert.DownW0RefIdeal.sig) → Buf (Elt Ideal) ℓ) (g : Dev Cert.DownW0RefIdeal.nD → PrngReg), Pre_DownW0RefIdeal m →
    θ_run (Cert.DownW0RefIdeal.defs (F := Ideal)) (onTc (τ := Cert.DownW0RefIdeal.τ) (Cert.DownW0RefIdeal.main (F := Ideal))) ⟨m, fun _ => 0, g⟩ (fun r => (∀ c : Dev Cert.DownW0RefIdeal.nD,
      r.2.mem ((c.tc : Thread Cert.DownW0RefIdeal.nD Cert.DownW0RefIdeal.τ).loc Cert.DownW0RefIdeal.main_arg0) = m ((c.tc : Thread Cert.DownW0RefIdeal.nD Cert.DownW0RefIdeal.τ).loc Cert.DownW0RefIdeal.main_arg0)
      ∧ r.2.mem ((c.tc : Thread Cert.DownW0RefIdeal.nD Cert.DownW0RefIdeal.τ).loc Cert.DownW0RefIdeal.main_arg1) = m ((c.tc : Thread Cert.DownW0RefIdeal.nD Cert.DownW0RefIdeal.τ).loc Cert.DownW0RefIdeal.main_arg1))
      ∧ r.2.sem = fun _ => 0)

def quiescent_GateW0 [hGateW0 : Cert.GateW0.Facts] : Prop :=
  ∀ (m : (ℓ : Loc Cert.GateW0.nD Cert.GateW0.τ Cert.GateW0.sig) → Buf (Elt Bits) ℓ) (g : Dev Cert.GateW0.nD → PrngReg), Pre_GateW0 m →
    θ_run (Cert.GateW0.defs (F := Bits)) (onTc (τ := Cert.GateW0.τ) (Cert.GateW0.main (F := Bits))) ⟨m, fun _ => 0, g⟩ (fun r => (∀ c : Dev Cert.GateW0.nD,
      r.2.mem ((c.tc : Thread Cert.GateW0.nD Cert.GateW0.τ).loc Cert.GateW0.main_arg0) = m ((c.tc : Thread Cert.GateW0.nD Cert.GateW0.τ).loc Cert.GateW0.main_arg0)
      ∧ r.2.mem ((c.tc : Thread Cert.GateW0.nD Cert.GateW0.τ).loc Cert.GateW0.main_arg1) = m ((c.tc : Thread Cert.GateW0.nD Cert.GateW0.τ).loc Cert.GateW0.main_arg1))
      ∧ r.2.sem = fun _ => 0)

def quiescent_GateW0Ideal [hGateW0Ideal : Cert.GateW0Ideal.Facts] : Prop :=
  ∀ (m : (ℓ : Loc Cert.GateW0Ideal.nD Cert.GateW0Ideal.τ Cert.GateW0Ideal.sig) → Buf (Elt Ideal) ℓ) (g : Dev Cert.GateW0Ideal.nD → PrngReg), Pre_GateW0Ideal m →
    θ_run (Cert.GateW0Ideal.defs (F := Ideal)) (onTc (τ := Cert.GateW0Ideal.τ) (Cert.GateW0Ideal.main (F := Ideal))) ⟨m, fun _ => 0, g⟩ (fun r => (∀ c : Dev Cert.GateW0Ideal.nD,
      r.2.mem ((c.tc : Thread Cert.GateW0Ideal.nD Cert.GateW0Ideal.τ).loc Cert.GateW0Ideal.main_arg0) = m ((c.tc : Thread Cert.GateW0Ideal.nD Cert.GateW0Ideal.τ).loc Cert.GateW0Ideal.main_arg0)
      ∧ r.2.mem ((c.tc : Thread Cert.GateW0Ideal.nD Cert.GateW0Ideal.τ).loc Cert.GateW0Ideal.main_arg1) = m ((c.tc : Thread Cert.GateW0Ideal.nD Cert.GateW0Ideal.τ).loc Cert.GateW0Ideal.main_arg1))
      ∧ r.2.sem = fun _ => 0)

def quiescent_GateW0RefIdeal [hGateW0RefIdeal : Cert.GateW0RefIdeal.Facts] : Prop :=
  ∀ (m : (ℓ : Loc Cert.GateW0RefIdeal.nD Cert.GateW0RefIdeal.τ Cert.GateW0RefIdeal.sig) → Buf (Elt Ideal) ℓ) (g : Dev Cert.GateW0RefIdeal.nD → PrngReg), Pre_GateW0RefIdeal m →
    θ_run (Cert.GateW0RefIdeal.defs (F := Ideal)) (onTc (τ := Cert.GateW0RefIdeal.τ) (Cert.GateW0RefIdeal.main (F := Ideal))) ⟨m, fun _ => 0, g⟩ (fun r => (∀ c : Dev Cert.GateW0RefIdeal.nD,
      r.2.mem ((c.tc : Thread Cert.GateW0RefIdeal.nD Cert.GateW0RefIdeal.τ).loc Cert.GateW0RefIdeal.main_arg0) = m ((c.tc : Thread Cert.GateW0RefIdeal.nD Cert.GateW0RefIdeal.τ).loc Cert.GateW0RefIdeal.main_arg0)
      ∧ r.2.mem ((c.tc : Thread Cert.GateW0RefIdeal.nD Cert.GateW0RefIdeal.τ).loc Cert.GateW0RefIdeal.main_arg1) = m ((c.tc : Thread Cert.GateW0RefIdeal.nD Cert.GateW0RefIdeal.τ).loc Cert.GateW0RefIdeal.main_arg1))
      ∧ r.2.sem = fun _ => 0)

def quiescent_GateX0 [hGateX0 : Cert.GateX0.Facts] : Prop :=
  ∀ (m : (ℓ : Loc Cert.GateX0.nD Cert.GateX0.τ Cert.GateX0.sig) → Buf (Elt Bits) ℓ) (g : Dev Cert.GateX0.nD → PrngReg), Pre_GateX0 m →
    θ_run (Cert.GateX0.defs (F := Bits)) (onTc (τ := Cert.GateX0.τ) (Cert.GateX0.main (F := Bits))) ⟨m, fun _ => 0, g⟩ (fun r => (∀ c : Dev Cert.GateX0.nD,
      r.2.mem ((c.tc : Thread Cert.GateX0.nD Cert.GateX0.τ).loc Cert.GateX0.main_arg0) = m ((c.tc : Thread Cert.GateX0.nD Cert.GateX0.τ).loc Cert.GateX0.main_arg0)
      ∧ r.2.mem ((c.tc : Thread Cert.GateX0.nD Cert.GateX0.τ).loc Cert.GateX0.main_arg1) = m ((c.tc : Thread Cert.GateX0.nD Cert.GateX0.τ).loc Cert.GateX0.main_arg1))
      ∧ r.2.sem = fun _ => 0)

def quiescent_GateX0Ideal [hGateX0Ideal : Cert.GateX0Ideal.Facts] : Prop :=
  ∀ (m : (ℓ : Loc Cert.GateX0Ideal.nD Cert.GateX0Ideal.τ Cert.GateX0Ideal.sig) → Buf (Elt Ideal) ℓ) (g : Dev Cert.GateX0Ideal.nD → PrngReg), Pre_GateX0Ideal m →
    θ_run (Cert.GateX0Ideal.defs (F := Ideal)) (onTc (τ := Cert.GateX0Ideal.τ) (Cert.GateX0Ideal.main (F := Ideal))) ⟨m, fun _ => 0, g⟩ (fun r => (∀ c : Dev Cert.GateX0Ideal.nD,
      r.2.mem ((c.tc : Thread Cert.GateX0Ideal.nD Cert.GateX0Ideal.τ).loc Cert.GateX0Ideal.main_arg0) = m ((c.tc : Thread Cert.GateX0Ideal.nD Cert.GateX0Ideal.τ).loc Cert.GateX0Ideal.main_arg0)
      ∧ r.2.mem ((c.tc : Thread Cert.GateX0Ideal.nD Cert.GateX0Ideal.τ).loc Cert.GateX0Ideal.main_arg1) = m ((c.tc : Thread Cert.GateX0Ideal.nD Cert.GateX0Ideal.τ).loc Cert.GateX0Ideal.main_arg1))
      ∧ r.2.sem = fun _ => 0)

def quiescent_GateX0RefIdeal [hGateX0RefIdeal : Cert.GateX0RefIdeal.Facts] : Prop :=
  ∀ (m : (ℓ : Loc Cert.GateX0RefIdeal.nD Cert.GateX0RefIdeal.τ Cert.GateX0RefIdeal.sig) → Buf (Elt Ideal) ℓ) (g : Dev Cert.GateX0RefIdeal.nD → PrngReg), Pre_GateX0RefIdeal m →
    θ_run (Cert.GateX0RefIdeal.defs (F := Ideal)) (onTc (τ := Cert.GateX0RefIdeal.τ) (Cert.GateX0RefIdeal.main (F := Ideal))) ⟨m, fun _ => 0, g⟩ (fun r => (∀ c : Dev Cert.GateX0RefIdeal.nD,
      r.2.mem ((c.tc : Thread Cert.GateX0RefIdeal.nD Cert.GateX0RefIdeal.τ).loc Cert.GateX0RefIdeal.main_arg0) = m ((c.tc : Thread Cert.GateX0RefIdeal.nD Cert.GateX0RefIdeal.τ).loc Cert.GateX0RefIdeal.main_arg0)
      ∧ r.2.mem ((c.tc : Thread Cert.GateX0RefIdeal.nD Cert.GateX0RefIdeal.τ).loc Cert.GateX0RefIdeal.main_arg1) = m ((c.tc : Thread Cert.GateX0RefIdeal.nD Cert.GateX0RefIdeal.τ).loc Cert.GateX0RefIdeal.main_arg1))
      ∧ r.2.sem = fun _ => 0)

def quiescent_UpX0 [hUpX0 : Cert.UpX0.Facts] : Prop :=
  ∀ (m : (ℓ : Loc Cert.UpX0.nD Cert.UpX0.τ Cert.UpX0.sig) → Buf (Elt Bits) ℓ) (g : Dev Cert.UpX0.nD → PrngReg), Pre_UpX0 m →
    θ_run (Cert.UpX0.defs (F := Bits)) (onTc (τ := Cert.UpX0.τ) (Cert.UpX0.main (F := Bits))) ⟨m, fun _ => 0, g⟩ (fun r => (∀ c : Dev Cert.UpX0.nD,
      r.2.mem ((c.tc : Thread Cert.UpX0.nD Cert.UpX0.τ).loc Cert.UpX0.main_arg0) = m ((c.tc : Thread Cert.UpX0.nD Cert.UpX0.τ).loc Cert.UpX0.main_arg0)
      ∧ r.2.mem ((c.tc : Thread Cert.UpX0.nD Cert.UpX0.τ).loc Cert.UpX0.main_arg1) = m ((c.tc : Thread Cert.UpX0.nD Cert.UpX0.τ).loc Cert.UpX0.main_arg1)
      ∧ r.2.mem ((c.tc : Thread Cert.UpX0.nD Cert.UpX0.τ).loc Cert.UpX0.main_arg2) = m ((c.tc : Thread Cert.UpX0.nD Cert.UpX0.τ).loc Cert.UpX0.main_arg2))
      ∧ r.2.sem = fun _ => 0)

def quiescent_UpX0Ideal [hUpX0Ideal : Cert.UpX0Ideal.Facts] : Prop :=
  ∀ (m : (ℓ : Loc Cert.UpX0Ideal.nD Cert.UpX0Ideal.τ Cert.UpX0Ideal.sig) → Buf (Elt Ideal) ℓ) (g : Dev Cert.UpX0Ideal.nD → PrngReg), Pre_UpX0Ideal m →
    θ_run (Cert.UpX0Ideal.defs (F := Ideal)) (onTc (τ := Cert.UpX0Ideal.τ) (Cert.UpX0Ideal.main (F := Ideal))) ⟨m, fun _ => 0, g⟩ (fun r => (∀ c : Dev Cert.UpX0Ideal.nD,
      r.2.mem ((c.tc : Thread Cert.UpX0Ideal.nD Cert.UpX0Ideal.τ).loc Cert.UpX0Ideal.main_arg0) = m ((c.tc : Thread Cert.UpX0Ideal.nD Cert.UpX0Ideal.τ).loc Cert.UpX0Ideal.main_arg0)
      ∧ r.2.mem ((c.tc : Thread Cert.UpX0Ideal.nD Cert.UpX0Ideal.τ).loc Cert.UpX0Ideal.main_arg1) = m ((c.tc : Thread Cert.UpX0Ideal.nD Cert.UpX0Ideal.τ).loc Cert.UpX0Ideal.main_arg1)
      ∧ r.2.mem ((c.tc : Thread Cert.UpX0Ideal.nD Cert.UpX0Ideal.τ).loc Cert.UpX0Ideal.main_arg2) = m ((c.tc : Thread Cert.UpX0Ideal.nD Cert.UpX0Ideal.τ).loc Cert.UpX0Ideal.main_arg2))
      ∧ r.2.sem = fun _ => 0)

def quiescent_UpX0RefIdeal [hUpX0RefIdeal : Cert.UpX0RefIdeal.Facts] : Prop :=
  ∀ (m : (ℓ : Loc Cert.UpX0RefIdeal.nD Cert.UpX0RefIdeal.τ Cert.UpX0RefIdeal.sig) → Buf (Elt Ideal) ℓ) (g : Dev Cert.UpX0RefIdeal.nD → PrngReg), Pre_UpX0RefIdeal m →
    θ_run (Cert.UpX0RefIdeal.defs (F := Ideal)) (onTc (τ := Cert.UpX0RefIdeal.τ) (Cert.UpX0RefIdeal.main (F := Ideal))) ⟨m, fun _ => 0, g⟩ (fun r => (∀ c : Dev Cert.UpX0RefIdeal.nD,
      r.2.mem ((c.tc : Thread Cert.UpX0RefIdeal.nD Cert.UpX0RefIdeal.τ).loc Cert.UpX0RefIdeal.main_arg0) = m ((c.tc : Thread Cert.UpX0RefIdeal.nD Cert.UpX0RefIdeal.τ).loc Cert.UpX0RefIdeal.main_arg0)
      ∧ r.2.mem ((c.tc : Thread Cert.UpX0RefIdeal.nD Cert.UpX0RefIdeal.τ).loc Cert.UpX0RefIdeal.main_arg1) = m ((c.tc : Thread Cert.UpX0RefIdeal.nD Cert.UpX0RefIdeal.τ).loc Cert.UpX0RefIdeal.main_arg1)
      ∧ r.2.mem ((c.tc : Thread Cert.UpX0RefIdeal.nD Cert.UpX0RefIdeal.τ).loc Cert.UpX0RefIdeal.main_arg2) = m ((c.tc : Thread Cert.UpX0RefIdeal.nD Cert.UpX0RefIdeal.τ).loc Cert.UpX0RefIdeal.main_arg2))
      ∧ r.2.sem = fun _ => 0)

def quiescent_OutX [hOutX : Cert.OutX.Facts] : Prop :=
  ∀ (m : (ℓ : Loc Cert.OutX.nD Cert.OutX.τ Cert.OutX.sig) → Buf (Elt Bits) ℓ) (g : Dev Cert.OutX.nD → PrngReg), Pre_OutX m →
    θ_run (Cert.OutX.defs (F := Bits)) (onTc (τ := Cert.OutX.τ) (Cert.OutX.main (F := Bits))) ⟨m, fun _ => 0, g⟩ (fun r => (∀ c : Dev Cert.OutX.nD,
      r.2.mem ((c.tc : Thread Cert.OutX.nD Cert.OutX.τ).loc Cert.OutX.main_arg0) = m ((c.tc : Thread Cert.OutX.nD Cert.OutX.τ).loc Cert.OutX.main_arg0)
      ∧ r.2.mem ((c.tc : Thread Cert.OutX.nD Cert.OutX.τ).loc Cert.OutX.main_arg1) = m ((c.tc : Thread Cert.OutX.nD Cert.OutX.τ).loc Cert.OutX.main_arg1))
      ∧ r.2.sem = fun _ => 0)

def quiescent_OutXIdeal [hOutXIdeal : Cert.OutXIdeal.Facts] : Prop :=
  ∀ (m : (ℓ : Loc Cert.OutXIdeal.nD Cert.OutXIdeal.τ Cert.OutXIdeal.sig) → Buf (Elt Ideal) ℓ) (g : Dev Cert.OutXIdeal.nD → PrngReg), Pre_OutXIdeal m →
    θ_run (Cert.OutXIdeal.defs (F := Ideal)) (onTc (τ := Cert.OutXIdeal.τ) (Cert.OutXIdeal.main (F := Ideal))) ⟨m, fun _ => 0, g⟩ (fun r => (∀ c : Dev Cert.OutXIdeal.nD,
      r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
      ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ r.2.sem = fun _ => 0)

def quiescent_OutXRefIdeal [hOutXRefIdeal : Cert.OutXRefIdeal.Facts] : Prop :=
  ∀ (m : (ℓ : Loc Cert.OutXRefIdeal.nD Cert.OutXRefIdeal.τ Cert.OutXRefIdeal.sig) → Buf (Elt Ideal) ℓ) (g : Dev Cert.OutXRefIdeal.nD → PrngReg), Pre_OutXRefIdeal m →
    θ_run (Cert.OutXRefIdeal.defs (F := Ideal)) (onTc (τ := Cert.OutXRefIdeal.τ) (Cert.OutXRefIdeal.main (F := Ideal))) ⟨m, fun _ => 0, g⟩ (fun r => (∀ c : Dev Cert.OutXRefIdeal.nD,
      r.2.mem ((c.tc : Thread Cert.OutXRefIdeal.nD Cert.OutXRefIdeal.τ).loc Cert.OutXRefIdeal.main_arg0) = m ((c.tc : Thread Cert.OutXRefIdeal.nD Cert.OutXRefIdeal.τ).loc Cert.OutXRefIdeal.main_arg0)
      ∧ r.2.mem ((c.tc : Thread Cert.OutXRefIdeal.nD Cert.OutXRefIdeal.τ).loc Cert.OutXRefIdeal.main_arg1) = m ((c.tc : Thread Cert.OutXRefIdeal.nD Cert.OutXRefIdeal.τ).loc Cert.OutXRefIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1))
      ∧ r.2.sem = fun _ => 0)

def quiescent_OutX0 [hOutX0 : Cert.OutX0.Facts] : Prop :=
  ∀ (m : (ℓ : Loc Cert.OutX0.nD Cert.OutX0.τ Cert.OutX0.sig) → Buf (Elt Bits) ℓ) (g : Dev Cert.OutX0.nD → PrngReg), Pre_OutX0 m →
    θ_run (Cert.OutX0.defs (F := Bits)) (onTc (τ := Cert.OutX0.τ) (Cert.OutX0.main (F := Bits))) ⟨m, fun _ => 0, g⟩ (fun r => (∀ c : Dev Cert.OutX0.nD,
      r.2.mem ((c.tc : Thread Cert.OutX0.nD Cert.OutX0.τ).loc Cert.OutX0.main_arg0) = m ((c.tc : Thread Cert.OutX0.nD Cert.OutX0.τ).loc Cert.OutX0.main_arg0)
      ∧ r.2.mem ((c.tc : Thread Cert.OutX0.nD Cert.OutX0.τ).loc Cert.OutX0.main_arg1) = m ((c.tc : Thread Cert.OutX0.nD Cert.OutX0.τ).loc Cert.OutX0.main_arg1))
      ∧ r.2.sem = fun _ => 0)

def quiescent_OutX0Ideal [hOutX0Ideal : Cert.OutX0Ideal.Facts] : Prop :=
  ∀ (m : (ℓ : Loc Cert.OutX0Ideal.nD Cert.OutX0Ideal.τ Cert.OutX0Ideal.sig) → Buf (Elt Ideal) ℓ) (g : Dev Cert.OutX0Ideal.nD → PrngReg), Pre_OutX0Ideal m →
    θ_run (Cert.OutX0Ideal.defs (F := Ideal)) (onTc (τ := Cert.OutX0Ideal.τ) (Cert.OutX0Ideal.main (F := Ideal))) ⟨m, fun _ => 0, g⟩ (fun r => (∀ c : Dev Cert.OutX0Ideal.nD,
      r.2.mem ((c.tc : Thread Cert.OutX0Ideal.nD Cert.OutX0Ideal.τ).loc Cert.OutX0Ideal.main_arg0) = m ((c.tc : Thread Cert.OutX0Ideal.nD Cert.OutX0Ideal.τ).loc Cert.OutX0Ideal.main_arg0)
      ∧ r.2.mem ((c.tc : Thread Cert.OutX0Ideal.nD Cert.OutX0Ideal.τ).loc Cert.OutX0Ideal.main_arg1) = m ((c.tc : Thread Cert.OutX0Ideal.nD Cert.OutX0Ideal.τ).loc Cert.OutX0Ideal.main_arg1))
      ∧ r.2.sem = fun _ => 0)

def quiescent_OutX0RefIdeal [hOutX0RefIdeal : Cert.OutX0RefIdeal.Facts] : Prop :=
  ∀ (m : (ℓ : Loc Cert.OutX0RefIdeal.nD Cert.OutX0RefIdeal.τ Cert.OutX0RefIdeal.sig) → Buf (Elt Ideal) ℓ) (g : Dev Cert.OutX0RefIdeal.nD → PrngReg), Pre_OutX0RefIdeal m →
    θ_run (Cert.OutX0RefIdeal.defs (F := Ideal)) (onTc (τ := Cert.OutX0RefIdeal.τ) (Cert.OutX0RefIdeal.main (F := Ideal))) ⟨m, fun _ => 0, g⟩ (fun r => (∀ c : Dev Cert.OutX0RefIdeal.nD,
      r.2.mem ((c.tc : Thread Cert.OutX0RefIdeal.nD Cert.OutX0RefIdeal.τ).loc Cert.OutX0RefIdeal.main_arg0) = m ((c.tc : Thread Cert.OutX0RefIdeal.nD Cert.OutX0RefIdeal.τ).loc Cert.OutX0RefIdeal.main_arg0)
      ∧ r.2.mem ((c.tc : Thread Cert.OutX0RefIdeal.nD Cert.OutX0RefIdeal.τ).loc Cert.OutX0RefIdeal.main_arg1) = m ((c.tc : Thread Cert.OutX0RefIdeal.nD Cert.OutX0RefIdeal.τ).loc Cert.OutX0RefIdeal.main_arg1))
      ∧ r.2.sem = fun _ => 0)

def quiescent_OutW0 [hOutW0 : Cert.OutW0.Facts] : Prop :=
  ∀ (m : (ℓ : Loc Cert.OutW0.nD Cert.OutW0.τ Cert.OutW0.sig) → Buf (Elt Bits) ℓ) (g : Dev Cert.OutW0.nD → PrngReg), Pre_OutW0 m →
    θ_run (Cert.OutW0.defs (F := Bits)) (onTc (τ := Cert.OutW0.τ) (Cert.OutW0.main (F := Bits))) ⟨m, fun _ => 0, g⟩ (fun r => (∀ c : Dev Cert.OutW0.nD,
      r.2.mem ((c.tc : Thread Cert.OutW0.nD Cert.OutW0.τ).loc Cert.OutW0.main_arg0) = m ((c.tc : Thread Cert.OutW0.nD Cert.OutW0.τ).loc Cert.OutW0.main_arg0)
      ∧ r.2.mem ((c.tc : Thread Cert.OutW0.nD Cert.OutW0.τ).loc Cert.OutW0.main_arg1) = m ((c.tc : Thread Cert.OutW0.nD Cert.OutW0.τ).loc Cert.OutW0.main_arg1))
      ∧ r.2.sem = fun _ => 0)

def quiescent_OutW0Ideal [hOutW0Ideal : Cert.OutW0Ideal.Facts] : Prop :=
  ∀ (m : (ℓ : Loc Cert.OutW0Ideal.nD Cert.OutW0Ideal.τ Cert.OutW0Ideal.sig) → Buf (Elt Ideal) ℓ) (g : Dev Cert.OutW0Ideal.nD → PrngReg), Pre_OutW0Ideal m →
    θ_run (Cert.OutW0Ideal.defs (F := Ideal)) (onTc (τ := Cert.OutW0Ideal.τ) (Cert.OutW0Ideal.main (F := Ideal))) ⟨m, fun _ => 0, g⟩ (fun r => (∀ c : Dev Cert.OutW0Ideal.nD,
      r.2.mem ((c.tc : Thread Cert.OutW0Ideal.nD Cert.OutW0Ideal.τ).loc Cert.OutW0Ideal.main_arg0) = m ((c.tc : Thread Cert.OutW0Ideal.nD Cert.OutW0Ideal.τ).loc Cert.OutW0Ideal.main_arg0)
      ∧ r.2.mem ((c.tc : Thread Cert.OutW0Ideal.nD Cert.OutW0Ideal.τ).loc Cert.OutW0Ideal.main_arg1) = m ((c.tc : Thread Cert.OutW0Ideal.nD Cert.OutW0Ideal.τ).loc Cert.OutW0Ideal.main_arg1))
      ∧ r.2.sem = fun _ => 0)

def quiescent_OutW0RefIdeal [hOutW0RefIdeal : Cert.OutW0RefIdeal.Facts] : Prop :=
  ∀ (m : (ℓ : Loc Cert.OutW0RefIdeal.nD Cert.OutW0RefIdeal.τ Cert.OutW0RefIdeal.sig) → Buf (Elt Ideal) ℓ) (g : Dev Cert.OutW0RefIdeal.nD → PrngReg), Pre_OutW0RefIdeal m →
    θ_run (Cert.OutW0RefIdeal.defs (F := Ideal)) (onTc (τ := Cert.OutW0RefIdeal.τ) (Cert.OutW0RefIdeal.main (F := Ideal))) ⟨m, fun _ => 0, g⟩ (fun r => (∀ c : Dev Cert.OutW0RefIdeal.nD,
      r.2.mem ((c.tc : Thread Cert.OutW0RefIdeal.nD Cert.OutW0RefIdeal.τ).loc Cert.OutW0RefIdeal.main_arg0) = m ((c.tc : Thread Cert.OutW0RefIdeal.nD Cert.OutW0RefIdeal.τ).loc Cert.OutW0RefIdeal.main_arg0)
      ∧ r.2.mem ((c.tc : Thread Cert.OutW0RefIdeal.nD Cert.OutW0RefIdeal.τ).loc Cert.OutW0RefIdeal.main_arg1) = m ((c.tc : Thread Cert.OutW0RefIdeal.nD Cert.OutW0RefIdeal.τ).loc Cert.OutW0RefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def quiescent_Conv0 [hConv0 : Cert.Conv0.Facts] : Prop :=
  ∀ (m : (ℓ : Loc Cert.Conv0.nD Cert.Conv0.τ Cert.Conv0.sig) → Buf (Elt Bits) ℓ) (g : Dev Cert.Conv0.nD → PrngReg), Pre_Conv0 m →
    θ_run (Cert.Conv0.defs (F := Bits)) (onTc (τ := Cert.Conv0.τ) (Cert.Conv0.main (F := Bits))) ⟨m, fun _ => 0, g⟩ (fun r => (∀ c : Dev Cert.Conv0.nD,
      r.2.mem ((c.tc : Thread Cert.Conv0.nD Cert.Conv0.τ).loc Cert.Conv0.main_arg0) = m ((c.tc : Thread Cert.Conv0.nD Cert.Conv0.τ).loc Cert.Conv0.main_arg0)
      ∧ r.2.mem ((c.tc : Thread Cert.Conv0.nD Cert.Conv0.τ).loc Cert.Conv0.main_arg1) = m ((c.tc : Thread Cert.Conv0.nD Cert.Conv0.τ).loc Cert.Conv0.main_arg1))
      ∧ r.2.sem = fun _ => 0)

def quiescent_Conv0Ideal [hConv0Ideal : Cert.Conv0Ideal.Facts] : Prop :=
  ∀ (m : (ℓ : Loc Cert.Conv0Ideal.nD Cert.Conv0Ideal.τ Cert.Conv0Ideal.sig) → Buf (Elt Ideal) ℓ) (g : Dev Cert.Conv0Ideal.nD → PrngReg), Pre_Conv0Ideal m →
    θ_run (Cert.Conv0Ideal.defs (F := Ideal)) (onTc (τ := Cert.Conv0Ideal.τ) (Cert.Conv0Ideal.main (F := Ideal))) ⟨m, fun _ => 0, g⟩ (fun r => (∀ c : Dev Cert.Conv0Ideal.nD,
      r.2.mem ((c.tc : Thread Cert.Conv0Ideal.nD Cert.Conv0Ideal.τ).loc Cert.Conv0Ideal.main_arg0) = m ((c.tc : Thread Cert.Conv0Ideal.nD Cert.Conv0Ideal.τ).loc Cert.Conv0Ideal.main_arg0)
      ∧ r.2.mem ((c.tc : Thread Cert.Conv0Ideal.nD Cert.Conv0Ideal.τ).loc Cert.Conv0Ideal.main_arg1) = m ((c.tc : Thread Cert.Conv0Ideal.nD Cert.Conv0Ideal.τ).loc Cert.Conv0Ideal.main_arg1))
      ∧ r.2.sem = fun _ => 0)

def quiescent_Conv0RefIdeal [hConv0RefIdeal : Cert.Conv0RefIdeal.Facts] : Prop :=
  ∀ (m : (ℓ : Loc Cert.Conv0RefIdeal.nD Cert.Conv0RefIdeal.τ Cert.Conv0RefIdeal.sig) → Buf (Elt Ideal) ℓ) (g : Dev Cert.Conv0RefIdeal.nD → PrngReg), Pre_Conv0RefIdeal m →
    θ_run (Cert.Conv0RefIdeal.defs (F := Ideal)) (onTc (τ := Cert.Conv0RefIdeal.τ) (Cert.Conv0RefIdeal.main (F := Ideal))) ⟨m, fun _ => 0, g⟩ (fun r => (∀ c : Dev Cert.Conv0RefIdeal.nD,
      r.2.mem ((c.tc : Thread Cert.Conv0RefIdeal.nD Cert.Conv0RefIdeal.τ).loc Cert.Conv0RefIdeal.main_arg0) = m ((c.tc : Thread Cert.Conv0RefIdeal.nD Cert.Conv0RefIdeal.τ).loc Cert.Conv0RefIdeal.main_arg0)
      ∧ r.2.mem ((c.tc : Thread Cert.Conv0RefIdeal.nD Cert.Conv0RefIdeal.τ).loc Cert.Conv0RefIdeal.main_arg1) = m ((c.tc : Thread Cert.Conv0RefIdeal.nD Cert.Conv0RefIdeal.τ).loc Cert.Conv0RefIdeal.main_arg1))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3)
      ∧ r.2.mem ((c.tc : Thread Cert.Act.nD Cert.Act.τ).loc Cert.Act.main_arg4) = m ((c.tc : Thread Cert.Act.nD Cert.Act.τ).loc Cert.Act.main_arg4))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
      ∧ r.2.mem ((c.tc : Thread Cert.ActIdeal.nD Cert.ActIdeal.τ).loc Cert.ActIdeal.main_arg4) = m ((c.tc : Thread Cert.ActIdeal.nD Cert.ActIdeal.τ).loc Cert.ActIdeal.main_arg4))
      ∧ r.2.sem = fun _ => 0)

def quiescent_ActIdeal_pre_finite_act [hActIdeal : Cert.ActIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg), Pre_ActIdeal_finite_act m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
      ∧ r.2.mem ((c.tc : Thread Cert.ActIdeal.nD Cert.ActIdeal.τ).loc Cert.ActIdeal.main_arg4) = m ((c.tc : Thread Cert.ActIdeal.nD Cert.ActIdeal.τ).loc Cert.ActIdeal.main_arg4))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3)
      ∧ r.2.mem ((c.tc : Thread Cert.ActRefIdeal.nD Cert.ActRefIdeal.τ).loc Cert.ActRefIdeal.main_arg4) = m ((c.tc : Thread Cert.ActRefIdeal.nD Cert.ActRefIdeal.τ).loc Cert.ActRefIdeal.main_arg4))
      ∧ r.2.sem = fun _ => 0)

def quiescent_ActRefIdeal_pre_finite_act [hActRefIdeal : Cert.ActRefIdeal.Facts] [hPre_finite_act : Cert.Pre_finite_act.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_finite_act m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3)
      ∧ r.2.mem ((c.tc : Thread Cert.ActRefIdeal.nD Cert.ActRefIdeal.τ).loc Cert.ActRefIdeal.main_arg4) = m ((c.tc : Thread Cert.ActRefIdeal.nD Cert.ActRefIdeal.τ).loc Cert.ActRefIdeal.main_arg4))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3))
      ∧ r.2.sem = fun _ => 0)

def quiescent_Uq [hUq : Cert.Uq.Facts] : Prop :=
  ∀ (m : (ℓ : Loc Cert.Uq.nD Cert.Uq.τ Cert.Uq.sig) → Buf (Elt Bits) ℓ) (g : Dev Cert.Uq.nD → PrngReg), Pre_Uq m →
    θ_run (Cert.Uq.defs (F := Bits)) (onTc (τ := Cert.Uq.τ) (Cert.Uq.main (F := Bits))) ⟨m, fun _ => 0, g⟩ (fun r => (∀ c : Dev Cert.Uq.nD,
      r.2.mem ((c.tc : Thread Cert.Uq.nD Cert.Uq.τ).loc Cert.Uq.main_arg0) = m ((c.tc : Thread Cert.Uq.nD Cert.Uq.τ).loc Cert.Uq.main_arg0)
      ∧ r.2.mem ((c.tc : Thread Cert.Uq.nD Cert.Uq.τ).loc Cert.Uq.main_arg1) = m ((c.tc : Thread Cert.Uq.nD Cert.Uq.τ).loc Cert.Uq.main_arg1))
      ∧ r.2.sem = fun _ => 0)

def quiescent_UqIdeal [hUqIdeal : Cert.UqIdeal.Facts] : Prop :=
  ∀ (m : (ℓ : Loc Cert.UqIdeal.nD Cert.UqIdeal.τ Cert.UqIdeal.sig) → Buf (Elt Ideal) ℓ) (g : Dev Cert.UqIdeal.nD → PrngReg), Pre_UqIdeal m →
    θ_run (Cert.UqIdeal.defs (F := Ideal)) (onTc (τ := Cert.UqIdeal.τ) (Cert.UqIdeal.main (F := Ideal))) ⟨m, fun _ => 0, g⟩ (fun r => (∀ c : Dev Cert.UqIdeal.nD,
      r.2.mem ((c.tc : Thread Cert.UqIdeal.nD Cert.UqIdeal.τ).loc Cert.UqIdeal.main_arg0) = m ((c.tc : Thread Cert.UqIdeal.nD Cert.UqIdeal.τ).loc Cert.UqIdeal.main_arg0)
      ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ r.2.sem = fun _ => 0)

def quiescent_UqRefIdeal [hUqRefIdeal : Cert.UqRefIdeal.Facts] : Prop :=
  ∀ (m : (ℓ : Loc Cert.UqRefIdeal.nD Cert.UqRefIdeal.τ Cert.UqRefIdeal.sig) → Buf (Elt Ideal) ℓ) (g : Dev Cert.UqRefIdeal.nD → PrngReg), Pre_UqRefIdeal m →
    θ_run (Cert.UqRefIdeal.defs (F := Ideal)) (onTc (τ := Cert.UqRefIdeal.τ) (Cert.UqRefIdeal.main (F := Ideal))) ⟨m, fun _ => 0, g⟩ (fun r => (∀ c : Dev Cert.UqRefIdeal.nD,
      r.2.mem ((c.tc : Thread Cert.UqRefIdeal.nD Cert.UqRefIdeal.τ).loc Cert.UqRefIdeal.main_arg0) = m ((c.tc : Thread Cert.UqRefIdeal.nD Cert.UqRefIdeal.τ).loc Cert.UqRefIdeal.main_arg0)
      ∧ r.2.mem ((c.tc : Thread Cert.UqRefIdeal.nD Cert.UqRefIdeal.τ).loc Cert.UqRefIdeal.main_arg1) = m ((c.tc : Thread Cert.UqRefIdeal.nD Cert.UqRefIdeal.τ).loc Cert.UqRefIdeal.main_arg1))
      ∧ r.2.sem = fun _ => 0)

def quiescent_Ukv [hUkv : Cert.Ukv.Facts] : Prop :=
  ∀ (m : (ℓ : Loc Cert.Ukv.nD Cert.Ukv.τ Cert.Ukv.sig) → Buf (Elt Bits) ℓ) (g : Dev Cert.Ukv.nD → PrngReg), Pre_Ukv m →
    θ_run (Cert.Ukv.defs (F := Bits)) (onTc (τ := Cert.Ukv.τ) (Cert.Ukv.main (F := Bits))) ⟨m, fun _ => 0, g⟩ (fun r => (∀ c : Dev Cert.Ukv.nD,
      r.2.mem ((c.tc : Thread Cert.Ukv.nD Cert.Ukv.τ).loc Cert.Ukv.main_arg0) = m ((c.tc : Thread Cert.Ukv.nD Cert.Ukv.τ).loc Cert.Ukv.main_arg0)
      ∧ r.2.mem ((c.tc : Thread Cert.Ukv.nD Cert.Ukv.τ).loc Cert.Ukv.main_arg1) = m ((c.tc : Thread Cert.Ukv.nD Cert.Ukv.τ).loc Cert.Ukv.main_arg1))
      ∧ r.2.sem = fun _ => 0)

def quiescent_UkvIdeal [hUkvIdeal : Cert.UkvIdeal.Facts] : Prop :=
  ∀ (m : (ℓ : Loc Cert.UkvIdeal.nD Cert.UkvIdeal.τ Cert.UkvIdeal.sig) → Buf (Elt Ideal) ℓ) (g : Dev Cert.UkvIdeal.nD → PrngReg), Pre_UkvIdeal m →
    θ_run (Cert.UkvIdeal.defs (F := Ideal)) (onTc (τ := Cert.UkvIdeal.τ) (Cert.UkvIdeal.main (F := Ideal))) ⟨m, fun _ => 0, g⟩ (fun r => (∀ c : Dev Cert.UkvIdeal.nD,
      r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
      ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ r.2.sem = fun _ => 0)

def quiescent_UkvRefIdeal [hUkvRefIdeal : Cert.UkvRefIdeal.Facts] : Prop :=
  ∀ (m : (ℓ : Loc Cert.UkvRefIdeal.nD Cert.UkvRefIdeal.τ Cert.UkvRefIdeal.sig) → Buf (Elt Ideal) ℓ) (g : Dev Cert.UkvRefIdeal.nD → PrngReg), Pre_UkvRefIdeal m →
    θ_run (Cert.UkvRefIdeal.defs (F := Ideal)) (onTc (τ := Cert.UkvRefIdeal.τ) (Cert.UkvRefIdeal.main (F := Ideal))) ⟨m, fun _ => 0, g⟩ (fun r => (∀ c : Dev Cert.UkvRefIdeal.nD,
      r.2.mem ((c.tc : Thread Cert.UkvRefIdeal.nD Cert.UkvRefIdeal.τ).loc Cert.UkvRefIdeal.main_arg0) = m ((c.tc : Thread Cert.UkvRefIdeal.nD Cert.UkvRefIdeal.τ).loc Cert.UkvRefIdeal.main_arg0)
      ∧ r.2.mem ((c.tc : Thread Cert.UkvRefIdeal.nD Cert.UkvRefIdeal.τ).loc Cert.UkvRefIdeal.main_arg1) = m ((c.tc : Thread Cert.UkvRefIdeal.nD Cert.UkvRefIdeal.τ).loc Cert.UkvRefIdeal.main_arg1))
      ∧ r.2.sem = fun _ => 0)

def quiescent_UqX [hUqX : Cert.UqX.Facts] : Prop :=
  ∀ (m : (ℓ : Loc Cert.UqX.nD Cert.UqX.τ Cert.UqX.sig) → Buf (Elt Bits) ℓ) (g : Dev Cert.UqX.nD → PrngReg), Pre_UqX m →
    θ_run (Cert.UqX.defs (F := Bits)) (onTc (τ := Cert.UqX.τ) (Cert.UqX.main (F := Bits))) ⟨m, fun _ => 0, g⟩ (fun r => (∀ c : Dev Cert.UqX.nD,
      r.2.mem ((c.tc : Thread Cert.UqX.nD Cert.UqX.τ).loc Cert.UqX.main_arg0) = m ((c.tc : Thread Cert.UqX.nD Cert.UqX.τ).loc Cert.UqX.main_arg0)
      ∧ r.2.mem ((c.tc : Thread Cert.UqX.nD Cert.UqX.τ).loc Cert.UqX.main_arg1) = m ((c.tc : Thread Cert.UqX.nD Cert.UqX.τ).loc Cert.UqX.main_arg1))
      ∧ r.2.sem = fun _ => 0)

def quiescent_UqXIdeal [hUqXIdeal : Cert.UqXIdeal.Facts] : Prop :=
  ∀ (m : (ℓ : Loc Cert.UqXIdeal.nD Cert.UqXIdeal.τ Cert.UqXIdeal.sig) → Buf (Elt Ideal) ℓ) (g : Dev Cert.UqXIdeal.nD → PrngReg), Pre_UqXIdeal m →
    θ_run (Cert.UqXIdeal.defs (F := Ideal)) (onTc (τ := Cert.UqXIdeal.τ) (Cert.UqXIdeal.main (F := Ideal))) ⟨m, fun _ => 0, g⟩ (fun r => (∀ c : Dev Cert.UqXIdeal.nD,
      r.2.mem ((c.tc : Thread Cert.UqXIdeal.nD Cert.UqXIdeal.τ).loc Cert.UqXIdeal.main_arg0) = m ((c.tc : Thread Cert.UqXIdeal.nD Cert.UqXIdeal.τ).loc Cert.UqXIdeal.main_arg0)
      ∧ r.2.mem ((c.tc : Thread Cert.UqXIdeal.nD Cert.UqXIdeal.τ).loc Cert.UqXIdeal.main_arg1) = m ((c.tc : Thread Cert.UqXIdeal.nD Cert.UqXIdeal.τ).loc Cert.UqXIdeal.main_arg1))
      ∧ r.2.sem = fun _ => 0)

def quiescent_UqXRefIdeal [hUqXRefIdeal : Cert.UqXRefIdeal.Facts] : Prop :=
  ∀ (m : (ℓ : Loc Cert.UqXRefIdeal.nD Cert.UqXRefIdeal.τ Cert.UqXRefIdeal.sig) → Buf (Elt Ideal) ℓ) (g : Dev Cert.UqXRefIdeal.nD → PrngReg), Pre_UqXRefIdeal m →
    θ_run (Cert.UqXRefIdeal.defs (F := Ideal)) (onTc (τ := Cert.UqXRefIdeal.τ) (Cert.UqXRefIdeal.main (F := Ideal))) ⟨m, fun _ => 0, g⟩ (fun r => (∀ c : Dev Cert.UqXRefIdeal.nD,
      r.2.mem ((c.tc : Thread Cert.UqXRefIdeal.nD Cert.UqXRefIdeal.τ).loc Cert.UqXRefIdeal.main_arg0) = m ((c.tc : Thread Cert.UqXRefIdeal.nD Cert.UqXRefIdeal.τ).loc Cert.UqXRefIdeal.main_arg0)
      ∧ r.2.mem ((c.tc : Thread Cert.UqXRefIdeal.nD Cert.UqXRefIdeal.τ).loc Cert.UqXRefIdeal.main_arg1) = m ((c.tc : Thread Cert.UqXRefIdeal.nD Cert.UqXRefIdeal.τ).loc Cert.UqXRefIdeal.main_arg1))
      ∧ r.2.sem = fun _ => 0)

def quiescent_UkvX [hUkvX : Cert.UkvX.Facts] : Prop :=
  ∀ (m : (ℓ : Loc Cert.UkvX.nD Cert.UkvX.τ Cert.UkvX.sig) → Buf (Elt Bits) ℓ) (g : Dev Cert.UkvX.nD → PrngReg), Pre_UkvX m →
    θ_run (Cert.UkvX.defs (F := Bits)) (onTc (τ := Cert.UkvX.τ) (Cert.UkvX.main (F := Bits))) ⟨m, fun _ => 0, g⟩ (fun r => (∀ c : Dev Cert.UkvX.nD,
      r.2.mem ((c.tc : Thread Cert.UkvX.nD Cert.UkvX.τ).loc Cert.UkvX.main_arg0) = m ((c.tc : Thread Cert.UkvX.nD Cert.UkvX.τ).loc Cert.UkvX.main_arg0)
      ∧ r.2.mem ((c.tc : Thread Cert.UkvX.nD Cert.UkvX.τ).loc Cert.UkvX.main_arg1) = m ((c.tc : Thread Cert.UkvX.nD Cert.UkvX.τ).loc Cert.UkvX.main_arg1))
      ∧ r.2.sem = fun _ => 0)

def quiescent_UkvXIdeal [hUkvXIdeal : Cert.UkvXIdeal.Facts] : Prop :=
  ∀ (m : (ℓ : Loc Cert.UkvXIdeal.nD Cert.UkvXIdeal.τ Cert.UkvXIdeal.sig) → Buf (Elt Ideal) ℓ) (g : Dev Cert.UkvXIdeal.nD → PrngReg), Pre_UkvXIdeal m →
    θ_run (Cert.UkvXIdeal.defs (F := Ideal)) (onTc (τ := Cert.UkvXIdeal.τ) (Cert.UkvXIdeal.main (F := Ideal))) ⟨m, fun _ => 0, g⟩ (fun r => (∀ c : Dev Cert.UkvXIdeal.nD,
      r.2.mem ((c.tc : Thread Cert.UkvXIdeal.nD Cert.UkvXIdeal.τ).loc Cert.UkvXIdeal.main_arg0) = m ((c.tc : Thread Cert.UkvXIdeal.nD Cert.UkvXIdeal.τ).loc Cert.UkvXIdeal.main_arg0)
      ∧ r.2.mem ((c.tc : Thread Cert.UkvXIdeal.nD Cert.UkvXIdeal.τ).loc Cert.UkvXIdeal.main_arg1) = m ((c.tc : Thread Cert.UkvXIdeal.nD Cert.UkvXIdeal.τ).loc Cert.UkvXIdeal.main_arg1))
      ∧ r.2.sem = fun _ => 0)

def quiescent_UkvXRefIdeal [hUkvXRefIdeal : Cert.UkvXRefIdeal.Facts] : Prop :=
  ∀ (m : (ℓ : Loc Cert.UkvXRefIdeal.nD Cert.UkvXRefIdeal.τ Cert.UkvXRefIdeal.sig) → Buf (Elt Ideal) ℓ) (g : Dev Cert.UkvXRefIdeal.nD → PrngReg), Pre_UkvXRefIdeal m →
    θ_run (Cert.UkvXRefIdeal.defs (F := Ideal)) (onTc (τ := Cert.UkvXRefIdeal.τ) (Cert.UkvXRefIdeal.main (F := Ideal))) ⟨m, fun _ => 0, g⟩ (fun r => (∀ c : Dev Cert.UkvXRefIdeal.nD,
      r.2.mem ((c.tc : Thread Cert.UkvXRefIdeal.nD Cert.UkvXRefIdeal.τ).loc Cert.UkvXRefIdeal.main_arg0) = m ((c.tc : Thread Cert.UkvXRefIdeal.nD Cert.UkvXRefIdeal.τ).loc Cert.UkvXRefIdeal.main_arg0)
      ∧ r.2.mem ((c.tc : Thread Cert.UkvXRefIdeal.nD Cert.UkvXRefIdeal.τ).loc Cert.UkvXRefIdeal.main_arg1) = m ((c.tc : Thread Cert.UkvXRefIdeal.nD Cert.UkvXRefIdeal.τ).loc Cert.UkvXRefIdeal.main_arg1))
      ∧ r.2.sem = fun _ => 0)

def quiescent_UqW [hUqW : Cert.UqW.Facts] : Prop :=
  ∀ (m : (ℓ : Loc Cert.UqW.nD Cert.UqW.τ Cert.UqW.sig) → Buf (Elt Bits) ℓ) (g : Dev Cert.UqW.nD → PrngReg), Pre_UqW m →
    θ_run (Cert.UqW.defs (F := Bits)) (onTc (τ := Cert.UqW.τ) (Cert.UqW.main (F := Bits))) ⟨m, fun _ => 0, g⟩ (fun r => (∀ c : Dev Cert.UqW.nD,
      r.2.mem ((c.tc : Thread Cert.UqW.nD Cert.UqW.τ).loc Cert.UqW.main_arg0) = m ((c.tc : Thread Cert.UqW.nD Cert.UqW.τ).loc Cert.UqW.main_arg0)
      ∧ r.2.mem ((c.tc : Thread Cert.UqW.nD Cert.UqW.τ).loc Cert.UqW.main_arg1) = m ((c.tc : Thread Cert.UqW.nD Cert.UqW.τ).loc Cert.UqW.main_arg1))
      ∧ r.2.sem = fun _ => 0)

def quiescent_UqWIdeal [hUqWIdeal : Cert.UqWIdeal.Facts] : Prop :=
  ∀ (m : (ℓ : Loc Cert.UqWIdeal.nD Cert.UqWIdeal.τ Cert.UqWIdeal.sig) → Buf (Elt Ideal) ℓ) (g : Dev Cert.UqWIdeal.nD → PrngReg), Pre_UqWIdeal m →
    θ_run (Cert.UqWIdeal.defs (F := Ideal)) (onTc (τ := Cert.UqWIdeal.τ) (Cert.UqWIdeal.main (F := Ideal))) ⟨m, fun _ => 0, g⟩ (fun r => (∀ c : Dev Cert.UqWIdeal.nD,
      r.2.mem ((c.tc : Thread Cert.UqWIdeal.nD Cert.UqWIdeal.τ).loc Cert.UqWIdeal.main_arg0) = m ((c.tc : Thread Cert.UqWIdeal.nD Cert.UqWIdeal.τ).loc Cert.UqWIdeal.main_arg0)
      ∧ r.2.mem ((c.tc : Thread Cert.UqWIdeal.nD Cert.UqWIdeal.τ).loc Cert.UqWIdeal.main_arg1) = m ((c.tc : Thread Cert.UqWIdeal.nD Cert.UqWIdeal.τ).loc Cert.UqWIdeal.main_arg1))
      ∧ r.2.sem = fun _ => 0)

def quiescent_UqWRefIdeal [hUqWRefIdeal : Cert.UqWRefIdeal.Facts] : Prop :=
  ∀ (m : (ℓ : Loc Cert.UqWRefIdeal.nD Cert.UqWRefIdeal.τ Cert.UqWRefIdeal.sig) → Buf (Elt Ideal) ℓ) (g : Dev Cert.UqWRefIdeal.nD → PrngReg), Pre_UqWRefIdeal m →
    θ_run (Cert.UqWRefIdeal.defs (F := Ideal)) (onTc (τ := Cert.UqWRefIdeal.τ) (Cert.UqWRefIdeal.main (F := Ideal))) ⟨m, fun _ => 0, g⟩ (fun r => (∀ c : Dev Cert.UqWRefIdeal.nD,
      r.2.mem ((c.tc : Thread Cert.UqWRefIdeal.nD Cert.UqWRefIdeal.τ).loc Cert.UqWRefIdeal.main_arg0) = m ((c.tc : Thread Cert.UqWRefIdeal.nD Cert.UqWRefIdeal.τ).loc Cert.UqWRefIdeal.main_arg0)
      ∧ r.2.mem ((c.tc : Thread Cert.UqWRefIdeal.nD Cert.UqWRefIdeal.τ).loc Cert.UqWRefIdeal.main_arg1) = m ((c.tc : Thread Cert.UqWRefIdeal.nD Cert.UqWRefIdeal.τ).loc Cert.UqWRefIdeal.main_arg1))
      ∧ r.2.sem = fun _ => 0)

def quiescent_UkvW [hUkvW : Cert.UkvW.Facts] : Prop :=
  ∀ (m : (ℓ : Loc Cert.UkvW.nD Cert.UkvW.τ Cert.UkvW.sig) → Buf (Elt Bits) ℓ) (g : Dev Cert.UkvW.nD → PrngReg), Pre_UkvW m →
    θ_run (Cert.UkvW.defs (F := Bits)) (onTc (τ := Cert.UkvW.τ) (Cert.UkvW.main (F := Bits))) ⟨m, fun _ => 0, g⟩ (fun r => (∀ c : Dev Cert.UkvW.nD,
      r.2.mem ((c.tc : Thread Cert.UkvW.nD Cert.UkvW.τ).loc Cert.UkvW.main_arg0) = m ((c.tc : Thread Cert.UkvW.nD Cert.UkvW.τ).loc Cert.UkvW.main_arg0)
      ∧ r.2.mem ((c.tc : Thread Cert.UkvW.nD Cert.UkvW.τ).loc Cert.UkvW.main_arg1) = m ((c.tc : Thread Cert.UkvW.nD Cert.UkvW.τ).loc Cert.UkvW.main_arg1))
      ∧ r.2.sem = fun _ => 0)

def quiescent_UkvWIdeal [hUkvWIdeal : Cert.UkvWIdeal.Facts] : Prop :=
  ∀ (m : (ℓ : Loc Cert.UkvWIdeal.nD Cert.UkvWIdeal.τ Cert.UkvWIdeal.sig) → Buf (Elt Ideal) ℓ) (g : Dev Cert.UkvWIdeal.nD → PrngReg), Pre_UkvWIdeal m →
    θ_run (Cert.UkvWIdeal.defs (F := Ideal)) (onTc (τ := Cert.UkvWIdeal.τ) (Cert.UkvWIdeal.main (F := Ideal))) ⟨m, fun _ => 0, g⟩ (fun r => (∀ c : Dev Cert.UkvWIdeal.nD,
      r.2.mem ((c.tc : Thread Cert.UkvWIdeal.nD Cert.UkvWIdeal.τ).loc Cert.UkvWIdeal.main_arg0) = m ((c.tc : Thread Cert.UkvWIdeal.nD Cert.UkvWIdeal.τ).loc Cert.UkvWIdeal.main_arg0)
      ∧ r.2.mem ((c.tc : Thread Cert.UkvWIdeal.nD Cert.UkvWIdeal.τ).loc Cert.UkvWIdeal.main_arg1) = m ((c.tc : Thread Cert.UkvWIdeal.nD Cert.UkvWIdeal.τ).loc Cert.UkvWIdeal.main_arg1))
      ∧ r.2.sem = fun _ => 0)

def quiescent_UkvWRefIdeal [hUkvWRefIdeal : Cert.UkvWRefIdeal.Facts] : Prop :=
  ∀ (m : (ℓ : Loc Cert.UkvWRefIdeal.nD Cert.UkvWRefIdeal.τ Cert.UkvWRefIdeal.sig) → Buf (Elt Ideal) ℓ) (g : Dev Cert.UkvWRefIdeal.nD → PrngReg), Pre_UkvWRefIdeal m →
    θ_run (Cert.UkvWRefIdeal.defs (F := Ideal)) (onTc (τ := Cert.UkvWRefIdeal.τ) (Cert.UkvWRefIdeal.main (F := Ideal))) ⟨m, fun _ => 0, g⟩ (fun r => (∀ c : Dev Cert.UkvWRefIdeal.nD,
      r.2.mem ((c.tc : Thread Cert.UkvWRefIdeal.nD Cert.UkvWRefIdeal.τ).loc Cert.UkvWRefIdeal.main_arg0) = m ((c.tc : Thread Cert.UkvWRefIdeal.nD Cert.UkvWRefIdeal.τ).loc Cert.UkvWRefIdeal.main_arg0)
      ∧ r.2.mem ((c.tc : Thread Cert.UkvWRefIdeal.nD Cert.UkvWRefIdeal.τ).loc Cert.UkvWRefIdeal.main_arg1) = m ((c.tc : Thread Cert.UkvWRefIdeal.nD Cert.UkvWRefIdeal.τ).loc Cert.UkvWRefIdeal.main_arg1))
      ∧ r.2.sem = fun _ => 0)

def preserves_Kernel_KernelIdeal : Prop :=
  IdealRules.named_const.Statement Cert.KernelIdeal.κ "scale2" .f32 0x3E0293EE#32 (((11863283 / 134217728) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v58_0)) (v1 : (c : Dev Cert.KernelIdeal.nD) → Buf (Elt Ideal) ((c.tc : Thread Cert.KernelIdeal.nD Cert.KernelIdeal.τ).loc Cert.KernelIdeal.main_v58_1)) (v2 : (c : Dev Cert.KernelIdeal.nD) → Buf (Elt Ideal) ((c.tc : Thread Cert.KernelIdeal.nD Cert.KernelIdeal.τ).loc Cert.KernelIdeal.main_v58_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_0) = v0 c
          ∧ r.2.mem ((c.tc : Thread Cert.KernelIdeal.nD Cert.KernelIdeal.τ).loc Cert.KernelIdeal.main_v58_1) = v1 c
          ∧ r.2.mem ((c.tc : Thread Cert.KernelIdeal.nD Cert.KernelIdeal.τ).loc Cert.KernelIdeal.main_v58_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_DownX_DownXIdeal : Prop :=
  True

def algebraic_DownXIdeal_DownXRefIdeal [hDownXIdeal : Cert.DownXIdeal.Facts] [hDownXRefIdeal : Cert.DownXRefIdeal.Facts] : Prop :=
  ∀ (m : (ℓ : Loc Cert.DownXIdeal.nD Cert.DownXIdeal.τ Cert.DownXIdeal.sig) → Buf (Elt Ideal) ℓ) (g : Dev Cert.DownXIdeal.nD → PrngReg)
    (m' : (ℓ : Loc Cert.DownXRefIdeal.nD Cert.DownXRefIdeal.τ Cert.DownXRefIdeal.sig) → Buf (Elt Ideal) ℓ) (g' : Dev Cert.DownXRefIdeal.nD → PrngReg), Pre_DownXIdeal m →
    (∀ c : Dev Cert.DownXIdeal.nD,
      m' ((c.tc : Thread Cert.DownXRefIdeal.nD Cert.DownXRefIdeal.τ).loc Cert.DownXRefIdeal.main_arg0) = m ((c.tc : Thread Cert.DownXIdeal.nD Cert.DownXIdeal.τ).loc Cert.DownXIdeal.main_arg0)
      ∧ m' ((c.tc : Thread Cert.DownXRefIdeal.nD Cert.DownXRefIdeal.τ).loc Cert.DownXRefIdeal.main_arg1) = m ((c.tc : Thread Cert.DownXIdeal.nD Cert.DownXIdeal.τ).loc Cert.DownXIdeal.main_arg1)) →
    ∃ (v0 : (c : Dev Cert.DownXIdeal.nD) → Buf (Elt Ideal) ((c.tc : Thread Cert.DownXIdeal.nD Cert.DownXIdeal.τ).loc Cert.DownXIdeal.main_v0)),
      θ_run (Cert.DownXIdeal.defs (F := Ideal)) (onTc (τ := Cert.DownXIdeal.τ) (Cert.DownXIdeal.main (F := Ideal))) ⟨m, fun _ => 0, g⟩ (fun r => ∀ c : Dev Cert.DownXIdeal.nD,
          r.2.mem ((c.tc : Thread Cert.DownXIdeal.nD Cert.DownXIdeal.τ).loc Cert.DownXIdeal.main_v0) = v0 c
          ∧ r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
          ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1))
      ∧ θ_run (Cert.DownXRefIdeal.defs (F := Ideal)) (onTc (τ := Cert.DownXRefIdeal.τ) (Cert.DownXRefIdeal.main (F := Ideal))) ⟨m', fun _ => 0, g'⟩ (fun r => ∀ c : Dev Cert.DownXRefIdeal.nD,
          r.2.mem ((c.tc : Thread Cert.DownXRefIdeal.nD Cert.DownXRefIdeal.τ).loc Cert.DownXRefIdeal.main_v6) = v0 c
          ∧ r.2.mem ((c.tc : Thread Cert.DownXRefIdeal.nD Cert.DownXRefIdeal.τ).loc Cert.DownXRefIdeal.main_arg0) = m' ((c.tc : Thread Cert.DownXRefIdeal.nD Cert.DownXRefIdeal.τ).loc Cert.DownXRefIdeal.main_arg0)
          ∧ r.2.mem ((c.tc : Thread Cert.DownXRefIdeal.nD Cert.DownXRefIdeal.τ).loc Cert.DownXRefIdeal.main_arg1) = m' ((c.tc : Thread Cert.DownXRefIdeal.nD Cert.DownXRefIdeal.τ).loc Cert.DownXRefIdeal.main_arg1))

def preserves_DownW_DownWIdeal : Prop :=
  True

def algebraic_DownWIdeal_DownWRefIdeal [hDownWIdeal : Cert.DownWIdeal.Facts] [hDownWRefIdeal : Cert.DownWRefIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWRefIdeal.nD Cert.DownWRefIdeal.τ Cert.DownWRefIdeal.sig) → Buf (Elt Ideal) ℓ) (g' : Dev Cert.DownWRefIdeal.nD → PrngReg), Pre_DownWIdeal m →
    (∀ c : Dev Cert.DownWIdeal.nD,
      m' ((c.tc : Thread Cert.DownWRefIdeal.nD Cert.DownWRefIdeal.τ).loc Cert.DownWRefIdeal.main_arg0) = m ((c.tc : Thread Cert.DownWIdeal.nD Cert.DownWIdeal.τ).loc Cert.DownWIdeal.main_arg0)
      ∧ m' ((c.tc : Thread Cert.DownWRefIdeal.nD Cert.DownWRefIdeal.τ).loc Cert.DownWRefIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v0)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v0) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.DownWRefIdeal.defs (F := Ideal)) (onTc (τ := Cert.DownWRefIdeal.τ) (Cert.DownWRefIdeal.main (F := Ideal))) ⟨m', fun _ => 0, g'⟩ (fun r => ∀ c : Dev Cert.DownWRefIdeal.nD,
          r.2.mem ((c.tc : Thread Cert.DownWRefIdeal.nD Cert.DownWRefIdeal.τ).loc Cert.DownWRefIdeal.main_v5) = v0 c
          ∧ r.2.mem ((c.tc : Thread Cert.DownWRefIdeal.nD Cert.DownWRefIdeal.τ).loc Cert.DownWRefIdeal.main_arg0) = m' ((c.tc : Thread Cert.DownWRefIdeal.nD Cert.DownWRefIdeal.τ).loc Cert.DownWRefIdeal.main_arg0)
          ∧ r.2.mem ((c.tc : Thread Cert.DownWRefIdeal.nD Cert.DownWRefIdeal.τ).loc Cert.DownWRefIdeal.main_arg1) = m' ((c.tc : Thread Cert.DownWRefIdeal.nD Cert.DownWRefIdeal.τ).loc Cert.DownWRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v4) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_InX_InXIdeal : Prop :=
  True

def algebraic_InXIdeal_InXRefIdeal [hInXIdeal : Cert.InXIdeal.Facts] [hInXRefIdeal : Cert.InXRefIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXRefIdeal.nD Cert.InXRefIdeal.τ Cert.InXRefIdeal.sig) → Buf (Elt Ideal) ℓ) (g' : Dev Cert.InXRefIdeal.nD → PrngReg), Pre_InXIdeal m →
    (∀ c : Dev Cert.InXIdeal.nD,
      m' ((c.tc : Thread Cert.InXRefIdeal.nD Cert.InXRefIdeal.τ).loc Cert.InXRefIdeal.main_arg0) = m ((c.tc : Thread Cert.InXIdeal.nD Cert.InXIdeal.τ).loc Cert.InXIdeal.main_arg0)
      ∧ m' ((c.tc : Thread Cert.InXRefIdeal.nD Cert.InXRefIdeal.τ).loc Cert.InXRefIdeal.main_arg1) = m ((c.tc : Thread Cert.InXIdeal.nD Cert.InXIdeal.τ).loc Cert.InXIdeal.main_arg1)) →
    ∃ (v0 : (c : Dev Cert.InXIdeal.nD) → Buf (Elt Ideal) ((c.tc : Thread Cert.InXIdeal.nD Cert.InXIdeal.τ).loc Cert.InXIdeal.main_v0)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v0) = v0 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1))
      ∧ θ_run (Cert.InXRefIdeal.defs (F := Ideal)) (onTc (τ := Cert.InXRefIdeal.τ) (Cert.InXRefIdeal.main (F := Ideal))) ⟨m', fun _ => 0, g'⟩ (fun r => ∀ c : Dev Cert.InXRefIdeal.nD,
          r.2.mem ((c.tc : Thread Cert.InXRefIdeal.nD Cert.InXRefIdeal.τ).loc Cert.InXRefIdeal.main_v5) = v0 c
          ∧ r.2.mem ((c.tc : Thread Cert.InXRefIdeal.nD Cert.InXRefIdeal.τ).loc Cert.InXRefIdeal.main_arg0) = m' ((c.tc : Thread Cert.InXRefIdeal.nD Cert.InXRefIdeal.τ).loc Cert.InXRefIdeal.main_arg0)
          ∧ r.2.mem ((c.tc : Thread Cert.InXRefIdeal.nD Cert.InXRefIdeal.τ).loc Cert.InXRefIdeal.main_arg1) = m' ((c.tc : Thread Cert.InXRefIdeal.nD Cert.InXRefIdeal.τ).loc Cert.InXRefIdeal.main_arg1))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)) →
    ∃ (v0 : (c : Dev Cert.InWIdeal.nD) → Buf (Elt Ideal) ((c.tc : Thread Cert.InWIdeal.nD Cert.InWIdeal.τ).loc Cert.InWIdeal.main_v0)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v0) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v7) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1))

def preserves_GateW_GateWIdeal : Prop :=
  True

def algebraic_GateWIdeal_GateWRefIdeal [hGateWIdeal : Cert.GateWIdeal.Facts] [hGateWRefIdeal : Cert.GateWRefIdeal.Facts] : Prop :=
  ∀ (m : (ℓ : Loc Cert.GateWIdeal.nD Cert.GateWIdeal.τ Cert.GateWIdeal.sig) → Buf (Elt Ideal) ℓ) (g : Dev Cert.GateWIdeal.nD → PrngReg)
    (m' : (ℓ : Loc Cert.GateWRefIdeal.nD Cert.GateWRefIdeal.τ Cert.GateWRefIdeal.sig) → Buf (Elt Ideal) ℓ) (g' : Dev Cert.GateWRefIdeal.nD → PrngReg), Pre_GateWIdeal m →
    (∀ c : Dev Cert.GateWIdeal.nD,
      m' ((c.tc : Thread Cert.GateWRefIdeal.nD Cert.GateWRefIdeal.τ).loc Cert.GateWRefIdeal.main_arg0) = m ((c.tc : Thread Cert.GateWIdeal.nD Cert.GateWIdeal.τ).loc Cert.GateWIdeal.main_arg0)
      ∧ m' ((c.tc : Thread Cert.GateWRefIdeal.nD Cert.GateWRefIdeal.τ).loc Cert.GateWRefIdeal.main_arg1) = m ((c.tc : Thread Cert.GateWIdeal.nD Cert.GateWIdeal.τ).loc Cert.GateWIdeal.main_arg1)) →
    ∃ (v0 : (c : Dev Cert.GateWIdeal.nD) → Buf (Elt Ideal) ((c.tc : Thread Cert.GateWIdeal.nD Cert.GateWIdeal.τ).loc Cert.GateWIdeal.main_v0)),
      θ_run (Cert.GateWIdeal.defs (F := Ideal)) (onTc (τ := Cert.GateWIdeal.τ) (Cert.GateWIdeal.main (F := Ideal))) ⟨m, fun _ => 0, g⟩ (fun r => ∀ c : Dev Cert.GateWIdeal.nD,
          r.2.mem ((c.tc : Thread Cert.GateWIdeal.nD Cert.GateWIdeal.τ).loc Cert.GateWIdeal.main_v0) = v0 c
          ∧ r.2.mem ((c.tc : Thread Cert.GateWIdeal.nD Cert.GateWIdeal.τ).loc Cert.GateWIdeal.main_arg0) = m ((c.tc : Thread Cert.GateWIdeal.nD Cert.GateWIdeal.τ).loc Cert.GateWIdeal.main_arg0)
          ∧ r.2.mem ((c.tc : Thread Cert.GateWIdeal.nD Cert.GateWIdeal.τ).loc Cert.GateWIdeal.main_arg1) = m ((c.tc : Thread Cert.GateWIdeal.nD Cert.GateWIdeal.τ).loc Cert.GateWIdeal.main_arg1))
      ∧ θ_run (Cert.GateWRefIdeal.defs (F := Ideal)) (onTc (τ := Cert.GateWRefIdeal.τ) (Cert.GateWRefIdeal.main (F := Ideal))) ⟨m', fun _ => 0, g'⟩ (fun r => ∀ c : Dev Cert.GateWRefIdeal.nD,
          r.2.mem ((c.tc : Thread Cert.GateWRefIdeal.nD Cert.GateWRefIdeal.τ).loc Cert.GateWRefIdeal.main_v8) = v0 c
          ∧ r.2.mem ((c.tc : Thread Cert.GateWRefIdeal.nD Cert.GateWRefIdeal.τ).loc Cert.GateWRefIdeal.main_arg0) = m' ((c.tc : Thread Cert.GateWRefIdeal.nD Cert.GateWRefIdeal.τ).loc Cert.GateWRefIdeal.main_arg0)
          ∧ r.2.mem ((c.tc : Thread Cert.GateWRefIdeal.nD Cert.GateWRefIdeal.τ).loc Cert.GateWRefIdeal.main_arg1) = m' ((c.tc : Thread Cert.GateWRefIdeal.nD Cert.GateWRefIdeal.τ).loc Cert.GateWRefIdeal.main_arg1))

def preserves_GateX_GateXIdeal : Prop :=
  True

def algebraic_GateXIdeal_GateXRefIdeal [hGateXIdeal : Cert.GateXIdeal.Facts] [hGateXRefIdeal : Cert.GateXRefIdeal.Facts] : Prop :=
  ∀ (m : (ℓ : Loc Cert.GateXIdeal.nD Cert.GateXIdeal.τ Cert.GateXIdeal.sig) → Buf (Elt Ideal) ℓ) (g : Dev Cert.GateXIdeal.nD → PrngReg)
    (m' : (ℓ : Loc Cert.GateXRefIdeal.nD Cert.GateXRefIdeal.τ Cert.GateXRefIdeal.sig) → Buf (Elt Ideal) ℓ) (g' : Dev Cert.GateXRefIdeal.nD → PrngReg), Pre_GateXIdeal m →
    (∀ c : Dev Cert.GateXIdeal.nD,
      m' ((c.tc : Thread Cert.GateXRefIdeal.nD Cert.GateXRefIdeal.τ).loc Cert.GateXRefIdeal.main_arg0) = m ((c.tc : Thread Cert.GateXIdeal.nD Cert.GateXIdeal.τ).loc Cert.GateXIdeal.main_arg0)
      ∧ m' ((c.tc : Thread Cert.GateXRefIdeal.nD Cert.GateXRefIdeal.τ).loc Cert.GateXRefIdeal.main_arg1) = m ((c.tc : Thread Cert.GateXIdeal.nD Cert.GateXIdeal.τ).loc Cert.GateXIdeal.main_arg1)) →
    ∃ (v0 : (c : Dev Cert.GateXIdeal.nD) → Buf (Elt Ideal) ((c.tc : Thread Cert.GateXIdeal.nD Cert.GateXIdeal.τ).loc Cert.GateXIdeal.main_v0)),
      θ_run (Cert.GateXIdeal.defs (F := Ideal)) (onTc (τ := Cert.GateXIdeal.τ) (Cert.GateXIdeal.main (F := Ideal))) ⟨m, fun _ => 0, g⟩ (fun r => ∀ c : Dev Cert.GateXIdeal.nD,
          r.2.mem ((c.tc : Thread Cert.GateXIdeal.nD Cert.GateXIdeal.τ).loc Cert.GateXIdeal.main_v0) = v0 c
          ∧ r.2.mem ((c.tc : Thread Cert.GateXIdeal.nD Cert.GateXIdeal.τ).loc Cert.GateXIdeal.main_arg0) = m ((c.tc : Thread Cert.GateXIdeal.nD Cert.GateXIdeal.τ).loc Cert.GateXIdeal.main_arg0)
          ∧ r.2.mem ((c.tc : Thread Cert.GateXIdeal.nD Cert.GateXIdeal.τ).loc Cert.GateXIdeal.main_arg1) = m ((c.tc : Thread Cert.GateXIdeal.nD Cert.GateXIdeal.τ).loc Cert.GateXIdeal.main_arg1))
      ∧ θ_run (Cert.GateXRefIdeal.defs (F := Ideal)) (onTc (τ := Cert.GateXRefIdeal.τ) (Cert.GateXRefIdeal.main (F := Ideal))) ⟨m', fun _ => 0, g'⟩ (fun r => ∀ c : Dev Cert.GateXRefIdeal.nD,
          r.2.mem ((c.tc : Thread Cert.GateXRefIdeal.nD Cert.GateXRefIdeal.τ).loc Cert.GateXRefIdeal.main_v4) = v0 c
          ∧ r.2.mem ((c.tc : Thread Cert.GateXRefIdeal.nD Cert.GateXRefIdeal.τ).loc Cert.GateXRefIdeal.main_arg0) = m' ((c.tc : Thread Cert.GateXRefIdeal.nD Cert.GateXRefIdeal.τ).loc Cert.GateXRefIdeal.main_arg0)
          ∧ r.2.mem ((c.tc : Thread Cert.GateXRefIdeal.nD Cert.GateXRefIdeal.τ).loc Cert.GateXRefIdeal.main_arg1) = m' ((c.tc : Thread Cert.GateXRefIdeal.nD Cert.GateXRefIdeal.τ).loc Cert.GateXRefIdeal.main_arg1))

def preserves_UpX_UpXIdeal : Prop :=
  True

def algebraic_UpXIdeal_UpXRefIdeal [hUpXIdeal : Cert.UpXIdeal.Facts] [hUpXRefIdeal : Cert.UpXRefIdeal.Facts] : Prop :=
  ∀ (m : (ℓ : Loc Cert.UpXIdeal.nD Cert.UpXIdeal.τ Cert.UpXIdeal.sig) → Buf (Elt Ideal) ℓ) (g : Dev Cert.UpXIdeal.nD → PrngReg)
    (m' : (ℓ : Loc Cert.UpXRefIdeal.nD Cert.UpXRefIdeal.τ Cert.UpXRefIdeal.sig) → Buf (Elt Ideal) ℓ) (g' : Dev Cert.UpXRefIdeal.nD → PrngReg), Pre_UpXIdeal m →
    (∀ c : Dev Cert.UpXIdeal.nD,
      m' ((c.tc : Thread Cert.UpXRefIdeal.nD Cert.UpXRefIdeal.τ).loc Cert.UpXRefIdeal.main_arg0) = m ((c.tc : Thread Cert.UpXIdeal.nD Cert.UpXIdeal.τ).loc Cert.UpXIdeal.main_arg0)
      ∧ m' ((c.tc : Thread Cert.UpXRefIdeal.nD Cert.UpXRefIdeal.τ).loc Cert.UpXRefIdeal.main_arg1) = m ((c.tc : Thread Cert.UpXIdeal.nD Cert.UpXIdeal.τ).loc Cert.UpXIdeal.main_arg1)
      ∧ m' ((c.tc : Thread Cert.UpXRefIdeal.nD Cert.UpXRefIdeal.τ).loc Cert.UpXRefIdeal.main_arg2) = m ((c.tc : Thread Cert.UpXIdeal.nD Cert.UpXIdeal.τ).loc Cert.UpXIdeal.main_arg2)) →
    ∃ (v0 : (c : Dev Cert.UpXIdeal.nD) → Buf (Elt Ideal) ((c.tc : Thread Cert.UpXIdeal.nD Cert.UpXIdeal.τ).loc Cert.UpXIdeal.main_v0)),
      θ_run (Cert.UpXIdeal.defs (F := Ideal)) (onTc (τ := Cert.UpXIdeal.τ) (Cert.UpXIdeal.main (F := Ideal))) ⟨m, fun _ => 0, g⟩ (fun r => ∀ c : Dev Cert.UpXIdeal.nD,
          r.2.mem ((c.tc : Thread Cert.UpXIdeal.nD Cert.UpXIdeal.τ).loc Cert.UpXIdeal.main_v0) = v0 c
          ∧ r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
          ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1)
          ∧ r.2.mem ((c.tc : Thread Cert.UpXIdeal.nD Cert.UpXIdeal.τ).loc Cert.UpXIdeal.main_arg2) = m ((c.tc : Thread Cert.UpXIdeal.nD Cert.UpXIdeal.τ).loc Cert.UpXIdeal.main_arg2))
      ∧ θ_run (Cert.UpXRefIdeal.defs (F := Ideal)) (onTc (τ := Cert.UpXRefIdeal.τ) (Cert.UpXRefIdeal.main (F := Ideal))) ⟨m', fun _ => 0, g'⟩ (fun r => ∀ c : Dev Cert.UpXRefIdeal.nD,
          r.2.mem ((c.tc : Thread Cert.UpXRefIdeal.nD Cert.UpXRefIdeal.τ).loc Cert.UpXRefIdeal.main_v5) = v0 c
          ∧ r.2.mem ((c.tc : Thread Cert.UpXRefIdeal.nD Cert.UpXRefIdeal.τ).loc Cert.UpXRefIdeal.main_arg0) = m' ((c.tc : Thread Cert.UpXRefIdeal.nD Cert.UpXRefIdeal.τ).loc Cert.UpXRefIdeal.main_arg0)
          ∧ r.2.mem ((c.tc : Thread Cert.UpXRefIdeal.nD Cert.UpXRefIdeal.τ).loc Cert.UpXRefIdeal.main_arg1) = m' ((c.tc : Thread Cert.UpXRefIdeal.nD Cert.UpXRefIdeal.τ).loc Cert.UpXRefIdeal.main_arg1)
          ∧ r.2.mem ((c.tc : Thread Cert.UpXRefIdeal.nD Cert.UpXRefIdeal.τ).loc Cert.UpXRefIdeal.main_arg2) = m' ((c.tc : Thread Cert.UpXRefIdeal.nD Cert.UpXRefIdeal.τ).loc Cert.UpXRefIdeal.main_arg2))

def preserves_DownX0_DownX0Ideal : Prop :=
  True

def algebraic_DownX0Ideal_DownX0RefIdeal [hDownX0Ideal : Cert.DownX0Ideal.Facts] [hDownX0RefIdeal : Cert.DownX0RefIdeal.Facts] : Prop :=
  ∀ (m : (ℓ : Loc Cert.DownX0Ideal.nD Cert.DownX0Ideal.τ Cert.DownX0Ideal.sig) → Buf (Elt Ideal) ℓ) (g : Dev Cert.DownX0Ideal.nD → PrngReg)
    (m' : (ℓ : Loc Cert.DownX0RefIdeal.nD Cert.DownX0RefIdeal.τ Cert.DownX0RefIdeal.sig) → Buf (Elt Ideal) ℓ) (g' : Dev Cert.DownX0RefIdeal.nD → PrngReg), Pre_DownX0Ideal m →
    (∀ c : Dev Cert.DownX0Ideal.nD,
      m' ((c.tc : Thread Cert.DownX0RefIdeal.nD Cert.DownX0RefIdeal.τ).loc Cert.DownX0RefIdeal.main_arg0) = m ((c.tc : Thread Cert.DownX0Ideal.nD Cert.DownX0Ideal.τ).loc Cert.DownX0Ideal.main_arg0)
      ∧ m' ((c.tc : Thread Cert.DownX0RefIdeal.nD Cert.DownX0RefIdeal.τ).loc Cert.DownX0RefIdeal.main_arg1) = m ((c.tc : Thread Cert.DownX0Ideal.nD Cert.DownX0Ideal.τ).loc Cert.DownX0Ideal.main_arg1)) →
    ∃ (v0 : (c : Dev Cert.DownX0Ideal.nD) → Buf (Elt Ideal) ((c.tc : Thread Cert.DownX0Ideal.nD Cert.DownX0Ideal.τ).loc Cert.DownX0Ideal.main_v0)),
      θ_run (Cert.DownX0Ideal.defs (F := Ideal)) (onTc (τ := Cert.DownX0Ideal.τ) (Cert.DownX0Ideal.main (F := Ideal))) ⟨m, fun _ => 0, g⟩ (fun r => ∀ c : Dev Cert.DownX0Ideal.nD,
          r.2.mem ((c.tc : Thread Cert.DownX0Ideal.nD Cert.DownX0Ideal.τ).loc Cert.DownX0Ideal.main_v0) = v0 c
          ∧ r.2.mem ((c.tc : Thread Cert.DownX0Ideal.nD Cert.DownX0Ideal.τ).loc Cert.DownX0Ideal.main_arg0) = m ((c.tc : Thread Cert.DownX0Ideal.nD Cert.DownX0Ideal.τ).loc Cert.DownX0Ideal.main_arg0)
          ∧ r.2.mem ((c.tc : Thread Cert.DownX0Ideal.nD Cert.DownX0Ideal.τ).loc Cert.DownX0Ideal.main_arg1) = m ((c.tc : Thread Cert.DownX0Ideal.nD Cert.DownX0Ideal.τ).loc Cert.DownX0Ideal.main_arg1))
      ∧ θ_run (Cert.DownX0RefIdeal.defs (F := Ideal)) (onTc (τ := Cert.DownX0RefIdeal.τ) (Cert.DownX0RefIdeal.main (F := Ideal))) ⟨m', fun _ => 0, g'⟩ (fun r => ∀ c : Dev Cert.DownX0RefIdeal.nD,
          r.2.mem ((c.tc : Thread Cert.DownX0RefIdeal.nD Cert.DownX0RefIdeal.τ).loc Cert.DownX0RefIdeal.main_v6) = v0 c
          ∧ r.2.mem ((c.tc : Thread Cert.DownX0RefIdeal.nD Cert.DownX0RefIdeal.τ).loc Cert.DownX0RefIdeal.main_arg0) = m' ((c.tc : Thread Cert.DownX0RefIdeal.nD Cert.DownX0RefIdeal.τ).loc Cert.DownX0RefIdeal.main_arg0)
          ∧ r.2.mem ((c.tc : Thread Cert.DownX0RefIdeal.nD Cert.DownX0RefIdeal.τ).loc Cert.DownX0RefIdeal.main_arg1) = m' ((c.tc : Thread Cert.DownX0RefIdeal.nD Cert.DownX0RefIdeal.τ).loc Cert.DownX0RefIdeal.main_arg1))

def preserves_DownW0_DownW0Ideal : Prop :=
  True

def algebraic_DownW0Ideal_DownW0RefIdeal [hDownW0Ideal : Cert.DownW0Ideal.Facts] [hDownW0RefIdeal : Cert.DownW0RefIdeal.Facts] : Prop :=
  ∀ (m : (ℓ : Loc Cert.DownW0Ideal.nD Cert.DownW0Ideal.τ Cert.DownW0Ideal.sig) → Buf (Elt Ideal) ℓ) (g : Dev Cert.DownW0Ideal.nD → PrngReg)
    (m' : (ℓ : Loc Cert.DownW0RefIdeal.nD Cert.DownW0RefIdeal.τ Cert.DownW0RefIdeal.sig) → Buf (Elt Ideal) ℓ) (g' : Dev Cert.DownW0RefIdeal.nD → PrngReg), Pre_DownW0Ideal m →
    (∀ c : Dev Cert.DownW0Ideal.nD,
      m' ((c.tc : Thread Cert.DownW0RefIdeal.nD Cert.DownW0RefIdeal.τ).loc Cert.DownW0RefIdeal.main_arg0) = m ((c.tc : Thread Cert.DownW0Ideal.nD Cert.DownW0Ideal.τ).loc Cert.DownW0Ideal.main_arg0)
      ∧ m' ((c.tc : Thread Cert.DownW0RefIdeal.nD Cert.DownW0RefIdeal.τ).loc Cert.DownW0RefIdeal.main_arg1) = m ((c.tc : Thread Cert.DownW0Ideal.nD Cert.DownW0Ideal.τ).loc Cert.DownW0Ideal.main_arg1)) →
    ∃ (v0 : (c : Dev Cert.DownW0Ideal.nD) → Buf (Elt Ideal) ((c.tc : Thread Cert.DownW0Ideal.nD Cert.DownW0Ideal.τ).loc Cert.DownW0Ideal.main_v0)),
      θ_run (Cert.DownW0Ideal.defs (F := Ideal)) (onTc (τ := Cert.DownW0Ideal.τ) (Cert.DownW0Ideal.main (F := Ideal))) ⟨m, fun _ => 0, g⟩ (fun r => ∀ c : Dev Cert.DownW0Ideal.nD,
          r.2.mem ((c.tc : Thread Cert.DownW0Ideal.nD Cert.DownW0Ideal.τ).loc Cert.DownW0Ideal.main_v0) = v0 c
          ∧ r.2.mem ((c.tc : Thread Cert.DownW0Ideal.nD Cert.DownW0Ideal.τ).loc Cert.DownW0Ideal.main_arg0) = m ((c.tc : Thread Cert.DownW0Ideal.nD Cert.DownW0Ideal.τ).loc Cert.DownW0Ideal.main_arg0)
          ∧ r.2.mem ((c.tc : Thread Cert.DownW0Ideal.nD Cert.DownW0Ideal.τ).loc Cert.DownW0Ideal.main_arg1) = m ((c.tc : Thread Cert.DownW0Ideal.nD Cert.DownW0Ideal.τ).loc Cert.DownW0Ideal.main_arg1))
      ∧ θ_run (Cert.DownW0RefIdeal.defs (F := Ideal)) (onTc (τ := Cert.DownW0RefIdeal.τ) (Cert.DownW0RefIdeal.main (F := Ideal))) ⟨m', fun _ => 0, g'⟩ (fun r => ∀ c : Dev Cert.DownW0RefIdeal.nD,
          r.2.mem ((c.tc : Thread Cert.DownW0RefIdeal.nD Cert.DownW0RefIdeal.τ).loc Cert.DownW0RefIdeal.main_v5) = v0 c
          ∧ r.2.mem ((c.tc : Thread Cert.DownW0RefIdeal.nD Cert.DownW0RefIdeal.τ).loc Cert.DownW0RefIdeal.main_arg0) = m' ((c.tc : Thread Cert.DownW0RefIdeal.nD Cert.DownW0RefIdeal.τ).loc Cert.DownW0RefIdeal.main_arg0)
          ∧ r.2.mem ((c.tc : Thread Cert.DownW0RefIdeal.nD Cert.DownW0RefIdeal.τ).loc Cert.DownW0RefIdeal.main_arg1) = m' ((c.tc : Thread Cert.DownW0RefIdeal.nD Cert.DownW0RefIdeal.τ).loc Cert.DownW0RefIdeal.main_arg1))

def preserves_GateW0_GateW0Ideal : Prop :=
  True

def algebraic_GateW0Ideal_GateW0RefIdeal [hGateW0Ideal : Cert.GateW0Ideal.Facts] [hGateW0RefIdeal : Cert.GateW0RefIdeal.Facts] : Prop :=
  ∀ (m : (ℓ : Loc Cert.GateW0Ideal.nD Cert.GateW0Ideal.τ Cert.GateW0Ideal.sig) → Buf (Elt Ideal) ℓ) (g : Dev Cert.GateW0Ideal.nD → PrngReg)
    (m' : (ℓ : Loc Cert.GateW0RefIdeal.nD Cert.GateW0RefIdeal.τ Cert.GateW0RefIdeal.sig) → Buf (Elt Ideal) ℓ) (g' : Dev Cert.GateW0RefIdeal.nD → PrngReg), Pre_GateW0Ideal m →
    (∀ c : Dev Cert.GateW0Ideal.nD,
      m' ((c.tc : Thread Cert.GateW0RefIdeal.nD Cert.GateW0RefIdeal.τ).loc Cert.GateW0RefIdeal.main_arg0) = m ((c.tc : Thread Cert.GateW0Ideal.nD Cert.GateW0Ideal.τ).loc Cert.GateW0Ideal.main_arg0)
      ∧ m' ((c.tc : Thread Cert.GateW0RefIdeal.nD Cert.GateW0RefIdeal.τ).loc Cert.GateW0RefIdeal.main_arg1) = m ((c.tc : Thread Cert.GateW0Ideal.nD Cert.GateW0Ideal.τ).loc Cert.GateW0Ideal.main_arg1)) →
    ∃ (v0 : (c : Dev Cert.GateW0Ideal.nD) → Buf (Elt Ideal) ((c.tc : Thread Cert.GateW0Ideal.nD Cert.GateW0Ideal.τ).loc Cert.GateW0Ideal.main_v0)),
      θ_run (Cert.GateW0Ideal.defs (F := Ideal)) (onTc (τ := Cert.GateW0Ideal.τ) (Cert.GateW0Ideal.main (F := Ideal))) ⟨m, fun _ => 0, g⟩ (fun r => ∀ c : Dev Cert.GateW0Ideal.nD,
          r.2.mem ((c.tc : Thread Cert.GateW0Ideal.nD Cert.GateW0Ideal.τ).loc Cert.GateW0Ideal.main_v0) = v0 c
          ∧ r.2.mem ((c.tc : Thread Cert.GateW0Ideal.nD Cert.GateW0Ideal.τ).loc Cert.GateW0Ideal.main_arg0) = m ((c.tc : Thread Cert.GateW0Ideal.nD Cert.GateW0Ideal.τ).loc Cert.GateW0Ideal.main_arg0)
          ∧ r.2.mem ((c.tc : Thread Cert.GateW0Ideal.nD Cert.GateW0Ideal.τ).loc Cert.GateW0Ideal.main_arg1) = m ((c.tc : Thread Cert.GateW0Ideal.nD Cert.GateW0Ideal.τ).loc Cert.GateW0Ideal.main_arg1))
      ∧ θ_run (Cert.GateW0RefIdeal.defs (F := Ideal)) (onTc (τ := Cert.GateW0RefIdeal.τ) (Cert.GateW0RefIdeal.main (F := Ideal))) ⟨m', fun _ => 0, g'⟩ (fun r => ∀ c : Dev Cert.GateW0RefIdeal.nD,
          r.2.mem ((c.tc : Thread Cert.GateW0RefIdeal.nD Cert.GateW0RefIdeal.τ).loc Cert.GateW0RefIdeal.main_v8) = v0 c
          ∧ r.2.mem ((c.tc : Thread Cert.GateW0RefIdeal.nD Cert.GateW0RefIdeal.τ).loc Cert.GateW0RefIdeal.main_arg0) = m' ((c.tc : Thread Cert.GateW0RefIdeal.nD Cert.GateW0RefIdeal.τ).loc Cert.GateW0RefIdeal.main_arg0)
          ∧ r.2.mem ((c.tc : Thread Cert.GateW0RefIdeal.nD Cert.GateW0RefIdeal.τ).loc Cert.GateW0RefIdeal.main_arg1) = m' ((c.tc : Thread Cert.GateW0RefIdeal.nD Cert.GateW0RefIdeal.τ).loc Cert.GateW0RefIdeal.main_arg1))

def preserves_GateX0_GateX0Ideal : Prop :=
  True

def algebraic_GateX0Ideal_GateX0RefIdeal [hGateX0Ideal : Cert.GateX0Ideal.Facts] [hGateX0RefIdeal : Cert.GateX0RefIdeal.Facts] : Prop :=
  ∀ (m : (ℓ : Loc Cert.GateX0Ideal.nD Cert.GateX0Ideal.τ Cert.GateX0Ideal.sig) → Buf (Elt Ideal) ℓ) (g : Dev Cert.GateX0Ideal.nD → PrngReg)
    (m' : (ℓ : Loc Cert.GateX0RefIdeal.nD Cert.GateX0RefIdeal.τ Cert.GateX0RefIdeal.sig) → Buf (Elt Ideal) ℓ) (g' : Dev Cert.GateX0RefIdeal.nD → PrngReg), Pre_GateX0Ideal m →
    (∀ c : Dev Cert.GateX0Ideal.nD,
      m' ((c.tc : Thread Cert.GateX0RefIdeal.nD Cert.GateX0RefIdeal.τ).loc Cert.GateX0RefIdeal.main_arg0) = m ((c.tc : Thread Cert.GateX0Ideal.nD Cert.GateX0Ideal.τ).loc Cert.GateX0Ideal.main_arg0)
      ∧ m' ((c.tc : Thread Cert.GateX0RefIdeal.nD Cert.GateX0RefIdeal.τ).loc Cert.GateX0RefIdeal.main_arg1) = m ((c.tc : Thread Cert.GateX0Ideal.nD Cert.GateX0Ideal.τ).loc Cert.GateX0Ideal.main_arg1)) →
    ∃ (v0 : (c : Dev Cert.GateX0Ideal.nD) → Buf (Elt Ideal) ((c.tc : Thread Cert.GateX0Ideal.nD Cert.GateX0Ideal.τ).loc Cert.GateX0Ideal.main_v0)),
      θ_run (Cert.GateX0Ideal.defs (F := Ideal)) (onTc (τ := Cert.GateX0Ideal.τ) (Cert.GateX0Ideal.main (F := Ideal))) ⟨m, fun _ => 0, g⟩ (fun r => ∀ c : Dev Cert.GateX0Ideal.nD,
          r.2.mem ((c.tc : Thread Cert.GateX0Ideal.nD Cert.GateX0Ideal.τ).loc Cert.GateX0Ideal.main_v0) = v0 c
          ∧ r.2.mem ((c.tc : Thread Cert.GateX0Ideal.nD Cert.GateX0Ideal.τ).loc Cert.GateX0Ideal.main_arg0) = m ((c.tc : Thread Cert.GateX0Ideal.nD Cert.GateX0Ideal.τ).loc Cert.GateX0Ideal.main_arg0)
          ∧ r.2.mem ((c.tc : Thread Cert.GateX0Ideal.nD Cert.GateX0Ideal.τ).loc Cert.GateX0Ideal.main_arg1) = m ((c.tc : Thread Cert.GateX0Ideal.nD Cert.GateX0Ideal.τ).loc Cert.GateX0Ideal.main_arg1))
      ∧ θ_run (Cert.GateX0RefIdeal.defs (F := Ideal)) (onTc (τ := Cert.GateX0RefIdeal.τ) (Cert.GateX0RefIdeal.main (F := Ideal))) ⟨m', fun _ => 0, g'⟩ (fun r => ∀ c : Dev Cert.GateX0RefIdeal.nD,
          r.2.mem ((c.tc : Thread Cert.GateX0RefIdeal.nD Cert.GateX0RefIdeal.τ).loc Cert.GateX0RefIdeal.main_v4) = v0 c
          ∧ r.2.mem ((c.tc : Thread Cert.GateX0RefIdeal.nD Cert.GateX0RefIdeal.τ).loc Cert.GateX0RefIdeal.main_arg0) = m' ((c.tc : Thread Cert.GateX0RefIdeal.nD Cert.GateX0RefIdeal.τ).loc Cert.GateX0RefIdeal.main_arg0)
          ∧ r.2.mem ((c.tc : Thread Cert.GateX0RefIdeal.nD Cert.GateX0RefIdeal.τ).loc Cert.GateX0RefIdeal.main_arg1) = m' ((c.tc : Thread Cert.GateX0RefIdeal.nD Cert.GateX0RefIdeal.τ).loc Cert.GateX0RefIdeal.main_arg1))

def preserves_UpX0_UpX0Ideal : Prop :=
  True

def algebraic_UpX0Ideal_UpX0RefIdeal [hUpX0Ideal : Cert.UpX0Ideal.Facts] [hUpX0RefIdeal : Cert.UpX0RefIdeal.Facts] : Prop :=
  ∀ (m : (ℓ : Loc Cert.UpX0Ideal.nD Cert.UpX0Ideal.τ Cert.UpX0Ideal.sig) → Buf (Elt Ideal) ℓ) (g : Dev Cert.UpX0Ideal.nD → PrngReg)
    (m' : (ℓ : Loc Cert.UpX0RefIdeal.nD Cert.UpX0RefIdeal.τ Cert.UpX0RefIdeal.sig) → Buf (Elt Ideal) ℓ) (g' : Dev Cert.UpX0RefIdeal.nD → PrngReg), Pre_UpX0Ideal m →
    (∀ c : Dev Cert.UpX0Ideal.nD,
      m' ((c.tc : Thread Cert.UpX0RefIdeal.nD Cert.UpX0RefIdeal.τ).loc Cert.UpX0RefIdeal.main_arg0) = m ((c.tc : Thread Cert.UpX0Ideal.nD Cert.UpX0Ideal.τ).loc Cert.UpX0Ideal.main_arg0)
      ∧ m' ((c.tc : Thread Cert.UpX0RefIdeal.nD Cert.UpX0RefIdeal.τ).loc Cert.UpX0RefIdeal.main_arg1) = m ((c.tc : Thread Cert.UpX0Ideal.nD Cert.UpX0Ideal.τ).loc Cert.UpX0Ideal.main_arg1)
      ∧ m' ((c.tc : Thread Cert.UpX0RefIdeal.nD Cert.UpX0RefIdeal.τ).loc Cert.UpX0RefIdeal.main_arg2) = m ((c.tc : Thread Cert.UpX0Ideal.nD Cert.UpX0Ideal.τ).loc Cert.UpX0Ideal.main_arg2)) →
    ∃ (v0 : (c : Dev Cert.UpX0Ideal.nD) → Buf (Elt Ideal) ((c.tc : Thread Cert.UpX0Ideal.nD Cert.UpX0Ideal.τ).loc Cert.UpX0Ideal.main_v0)),
      θ_run (Cert.UpX0Ideal.defs (F := Ideal)) (onTc (τ := Cert.UpX0Ideal.τ) (Cert.UpX0Ideal.main (F := Ideal))) ⟨m, fun _ => 0, g⟩ (fun r => ∀ c : Dev Cert.UpX0Ideal.nD,
          r.2.mem ((c.tc : Thread Cert.UpX0Ideal.nD Cert.UpX0Ideal.τ).loc Cert.UpX0Ideal.main_v0) = v0 c
          ∧ r.2.mem ((c.tc : Thread Cert.UpX0Ideal.nD Cert.UpX0Ideal.τ).loc Cert.UpX0Ideal.main_arg0) = m ((c.tc : Thread Cert.UpX0Ideal.nD Cert.UpX0Ideal.τ).loc Cert.UpX0Ideal.main_arg0)
          ∧ r.2.mem ((c.tc : Thread Cert.UpX0Ideal.nD Cert.UpX0Ideal.τ).loc Cert.UpX0Ideal.main_arg1) = m ((c.tc : Thread Cert.UpX0Ideal.nD Cert.UpX0Ideal.τ).loc Cert.UpX0Ideal.main_arg1)
          ∧ r.2.mem ((c.tc : Thread Cert.UpX0Ideal.nD Cert.UpX0Ideal.τ).loc Cert.UpX0Ideal.main_arg2) = m ((c.tc : Thread Cert.UpX0Ideal.nD Cert.UpX0Ideal.τ).loc Cert.UpX0Ideal.main_arg2))
      ∧ θ_run (Cert.UpX0RefIdeal.defs (F := Ideal)) (onTc (τ := Cert.UpX0RefIdeal.τ) (Cert.UpX0RefIdeal.main (F := Ideal))) ⟨m', fun _ => 0, g'⟩ (fun r => ∀ c : Dev Cert.UpX0RefIdeal.nD,
          r.2.mem ((c.tc : Thread Cert.UpX0RefIdeal.nD Cert.UpX0RefIdeal.τ).loc Cert.UpX0RefIdeal.main_v5) = v0 c
          ∧ r.2.mem ((c.tc : Thread Cert.UpX0RefIdeal.nD Cert.UpX0RefIdeal.τ).loc Cert.UpX0RefIdeal.main_arg0) = m' ((c.tc : Thread Cert.UpX0RefIdeal.nD Cert.UpX0RefIdeal.τ).loc Cert.UpX0RefIdeal.main_arg0)
          ∧ r.2.mem ((c.tc : Thread Cert.UpX0RefIdeal.nD Cert.UpX0RefIdeal.τ).loc Cert.UpX0RefIdeal.main_arg1) = m' ((c.tc : Thread Cert.UpX0RefIdeal.nD Cert.UpX0RefIdeal.τ).loc Cert.UpX0RefIdeal.main_arg1)
          ∧ r.2.mem ((c.tc : Thread Cert.UpX0RefIdeal.nD Cert.UpX0RefIdeal.τ).loc Cert.UpX0RefIdeal.main_arg2) = m' ((c.tc : Thread Cert.UpX0RefIdeal.nD Cert.UpX0RefIdeal.τ).loc Cert.UpX0RefIdeal.main_arg2))

def preserves_OutX_OutXIdeal : Prop :=
  True

def algebraic_OutXIdeal_OutXRefIdeal [hOutXIdeal : Cert.OutXIdeal.Facts] [hOutXRefIdeal : Cert.OutXRefIdeal.Facts] : Prop :=
  ∀ (m : (ℓ : Loc Cert.OutXIdeal.nD Cert.OutXIdeal.τ Cert.OutXIdeal.sig) → Buf (Elt Ideal) ℓ) (g : Dev Cert.OutXIdeal.nD → PrngReg)
    (m' : (ℓ : Loc Cert.OutXRefIdeal.nD Cert.OutXRefIdeal.τ Cert.OutXRefIdeal.sig) → Buf (Elt Ideal) ℓ) (g' : Dev Cert.OutXRefIdeal.nD → PrngReg), Pre_OutXIdeal m →
    (∀ c : Dev Cert.OutXIdeal.nD,
      m' ((c.tc : Thread Cert.OutXRefIdeal.nD Cert.OutXRefIdeal.τ).loc Cert.OutXRefIdeal.main_arg0) = m ((c.tc : Thread Cert.OutXIdeal.nD Cert.OutXIdeal.τ).loc Cert.OutXIdeal.main_arg0)
      ∧ m' ((c.tc : Thread Cert.OutXRefIdeal.nD Cert.OutXRefIdeal.τ).loc Cert.OutXRefIdeal.main_arg1) = m ((c.tc : Thread Cert.OutXIdeal.nD Cert.OutXIdeal.τ).loc Cert.OutXIdeal.main_arg1)) →
    ∃ (v0 : (c : Dev Cert.OutXIdeal.nD) → Buf (Elt Ideal) ((c.tc : Thread Cert.OutXIdeal.nD Cert.OutXIdeal.τ).loc Cert.OutXIdeal.main_v0)),
      θ_run (Cert.OutXIdeal.defs (F := Ideal)) (onTc (τ := Cert.OutXIdeal.τ) (Cert.OutXIdeal.main (F := Ideal))) ⟨m, fun _ => 0, g⟩ (fun r => ∀ c : Dev Cert.OutXIdeal.nD,
          r.2.mem ((c.tc : Thread Cert.OutXIdeal.nD Cert.OutXIdeal.τ).loc Cert.OutXIdeal.main_v0) = v0 c
          ∧ r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
          ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ θ_run (Cert.OutXRefIdeal.defs (F := Ideal)) (onTc (τ := Cert.OutXRefIdeal.τ) (Cert.OutXRefIdeal.main (F := Ideal))) ⟨m', fun _ => 0, g'⟩ (fun r => ∀ c : Dev Cert.OutXRefIdeal.nD,
          r.2.mem ((c.tc : Thread Cert.OutXRefIdeal.nD Cert.OutXRefIdeal.τ).loc Cert.OutXRefIdeal.main_v6) = v0 c
          ∧ r.2.mem ((c.tc : Thread Cert.OutXRefIdeal.nD Cert.OutXRefIdeal.τ).loc Cert.OutXRefIdeal.main_arg0) = m' ((c.tc : Thread Cert.OutXRefIdeal.nD Cert.OutXRefIdeal.τ).loc Cert.OutXRefIdeal.main_arg0)
          ∧ r.2.mem ((c.tc : Thread Cert.OutXRefIdeal.nD Cert.OutXRefIdeal.τ).loc Cert.OutXRefIdeal.main_arg1) = m' ((c.tc : Thread Cert.OutXRefIdeal.nD Cert.OutXRefIdeal.τ).loc Cert.OutXRefIdeal.main_arg1))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v6) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1))

def preserves_OutX0_OutX0Ideal : Prop :=
  True

def algebraic_OutX0Ideal_OutX0RefIdeal [hOutX0Ideal : Cert.OutX0Ideal.Facts] [hOutX0RefIdeal : Cert.OutX0RefIdeal.Facts] : Prop :=
  ∀ (m : (ℓ : Loc Cert.OutX0Ideal.nD Cert.OutX0Ideal.τ Cert.OutX0Ideal.sig) → Buf (Elt Ideal) ℓ) (g : Dev Cert.OutX0Ideal.nD → PrngReg)
    (m' : (ℓ : Loc Cert.OutX0RefIdeal.nD Cert.OutX0RefIdeal.τ Cert.OutX0RefIdeal.sig) → Buf (Elt Ideal) ℓ) (g' : Dev Cert.OutX0RefIdeal.nD → PrngReg), Pre_OutX0Ideal m →
    (∀ c : Dev Cert.OutX0Ideal.nD,
      m' ((c.tc : Thread Cert.OutX0RefIdeal.nD Cert.OutX0RefIdeal.τ).loc Cert.OutX0RefIdeal.main_arg0) = m ((c.tc : Thread Cert.OutX0Ideal.nD Cert.OutX0Ideal.τ).loc Cert.OutX0Ideal.main_arg0)
      ∧ m' ((c.tc : Thread Cert.OutX0RefIdeal.nD Cert.OutX0RefIdeal.τ).loc Cert.OutX0RefIdeal.main_arg1) = m ((c.tc : Thread Cert.OutX0Ideal.nD Cert.OutX0Ideal.τ).loc Cert.OutX0Ideal.main_arg1)) →
    ∃ (v0 : (c : Dev Cert.OutX0Ideal.nD) → Buf (Elt Ideal) ((c.tc : Thread Cert.OutX0Ideal.nD Cert.OutX0Ideal.τ).loc Cert.OutX0Ideal.main_v0)),
      θ_run (Cert.OutX0Ideal.defs (F := Ideal)) (onTc (τ := Cert.OutX0Ideal.τ) (Cert.OutX0Ideal.main (F := Ideal))) ⟨m, fun _ => 0, g⟩ (fun r => ∀ c : Dev Cert.OutX0Ideal.nD,
          r.2.mem ((c.tc : Thread Cert.OutX0Ideal.nD Cert.OutX0Ideal.τ).loc Cert.OutX0Ideal.main_v0) = v0 c
          ∧ r.2.mem ((c.tc : Thread Cert.OutX0Ideal.nD Cert.OutX0Ideal.τ).loc Cert.OutX0Ideal.main_arg0) = m ((c.tc : Thread Cert.OutX0Ideal.nD Cert.OutX0Ideal.τ).loc Cert.OutX0Ideal.main_arg0)
          ∧ r.2.mem ((c.tc : Thread Cert.OutX0Ideal.nD Cert.OutX0Ideal.τ).loc Cert.OutX0Ideal.main_arg1) = m ((c.tc : Thread Cert.OutX0Ideal.nD Cert.OutX0Ideal.τ).loc Cert.OutX0Ideal.main_arg1))
      ∧ θ_run (Cert.OutX0RefIdeal.defs (F := Ideal)) (onTc (τ := Cert.OutX0RefIdeal.τ) (Cert.OutX0RefIdeal.main (F := Ideal))) ⟨m', fun _ => 0, g'⟩ (fun r => ∀ c : Dev Cert.OutX0RefIdeal.nD,
          r.2.mem ((c.tc : Thread Cert.OutX0RefIdeal.nD Cert.OutX0RefIdeal.τ).loc Cert.OutX0RefIdeal.main_v6) = v0 c
          ∧ r.2.mem ((c.tc : Thread Cert.OutX0RefIdeal.nD Cert.OutX0RefIdeal.τ).loc Cert.OutX0RefIdeal.main_arg0) = m' ((c.tc : Thread Cert.OutX0RefIdeal.nD Cert.OutX0RefIdeal.τ).loc Cert.OutX0RefIdeal.main_arg0)
          ∧ r.2.mem ((c.tc : Thread Cert.OutX0RefIdeal.nD Cert.OutX0RefIdeal.τ).loc Cert.OutX0RefIdeal.main_arg1) = m' ((c.tc : Thread Cert.OutX0RefIdeal.nD Cert.OutX0RefIdeal.τ).loc Cert.OutX0RefIdeal.main_arg1))

def preserves_OutW0_OutW0Ideal : Prop :=
  True

def algebraic_OutW0Ideal_OutW0RefIdeal [hOutW0Ideal : Cert.OutW0Ideal.Facts] [hOutW0RefIdeal : Cert.OutW0RefIdeal.Facts] : Prop :=
  ∀ (m : (ℓ : Loc Cert.OutW0Ideal.nD Cert.OutW0Ideal.τ Cert.OutW0Ideal.sig) → Buf (Elt Ideal) ℓ) (g : Dev Cert.OutW0Ideal.nD → PrngReg)
    (m' : (ℓ : Loc Cert.OutW0RefIdeal.nD Cert.OutW0RefIdeal.τ Cert.OutW0RefIdeal.sig) → Buf (Elt Ideal) ℓ) (g' : Dev Cert.OutW0RefIdeal.nD → PrngReg), Pre_OutW0Ideal m →
    (∀ c : Dev Cert.OutW0Ideal.nD,
      m' ((c.tc : Thread Cert.OutW0RefIdeal.nD Cert.OutW0RefIdeal.τ).loc Cert.OutW0RefIdeal.main_arg0) = m ((c.tc : Thread Cert.OutW0Ideal.nD Cert.OutW0Ideal.τ).loc Cert.OutW0Ideal.main_arg0)
      ∧ m' ((c.tc : Thread Cert.OutW0RefIdeal.nD Cert.OutW0RefIdeal.τ).loc Cert.OutW0RefIdeal.main_arg1) = m ((c.tc : Thread Cert.OutW0Ideal.nD Cert.OutW0Ideal.τ).loc Cert.OutW0Ideal.main_arg1)) →
    ∃ (v0 : (c : Dev Cert.OutW0Ideal.nD) → Buf (Elt Ideal) ((c.tc : Thread Cert.OutW0Ideal.nD Cert.OutW0Ideal.τ).loc Cert.OutW0Ideal.main_v0)),
      θ_run (Cert.OutW0Ideal.defs (F := Ideal)) (onTc (τ := Cert.OutW0Ideal.τ) (Cert.OutW0Ideal.main (F := Ideal))) ⟨m, fun _ => 0, g⟩ (fun r => ∀ c : Dev Cert.OutW0Ideal.nD,
          r.2.mem ((c.tc : Thread Cert.OutW0Ideal.nD Cert.OutW0Ideal.τ).loc Cert.OutW0Ideal.main_v0) = v0 c
          ∧ r.2.mem ((c.tc : Thread Cert.OutW0Ideal.nD Cert.OutW0Ideal.τ).loc Cert.OutW0Ideal.main_arg0) = m ((c.tc : Thread Cert.OutW0Ideal.nD Cert.OutW0Ideal.τ).loc Cert.OutW0Ideal.main_arg0)
          ∧ r.2.mem ((c.tc : Thread Cert.OutW0Ideal.nD Cert.OutW0Ideal.τ).loc Cert.OutW0Ideal.main_arg1) = m ((c.tc : Thread Cert.OutW0Ideal.nD Cert.OutW0Ideal.τ).loc Cert.OutW0Ideal.main_arg1))
      ∧ θ_run (Cert.OutW0RefIdeal.defs (F := Ideal)) (onTc (τ := Cert.OutW0RefIdeal.τ) (Cert.OutW0RefIdeal.main (F := Ideal))) ⟨m', fun _ => 0, g'⟩ (fun r => ∀ c : Dev Cert.OutW0RefIdeal.nD,
          r.2.mem ((c.tc : Thread Cert.OutW0RefIdeal.nD Cert.OutW0RefIdeal.τ).loc Cert.OutW0RefIdeal.main_v5) = v0 c
          ∧ r.2.mem ((c.tc : Thread Cert.OutW0RefIdeal.nD Cert.OutW0RefIdeal.τ).loc Cert.OutW0RefIdeal.main_arg0) = m' ((c.tc : Thread Cert.OutW0RefIdeal.nD Cert.OutW0RefIdeal.τ).loc Cert.OutW0RefIdeal.main_arg0)
          ∧ r.2.mem ((c.tc : Thread Cert.OutW0RefIdeal.nD Cert.OutW0RefIdeal.τ).loc Cert.OutW0RefIdeal.main_arg1) = m' ((c.tc : Thread Cert.OutW0RefIdeal.nD Cert.OutW0RefIdeal.τ).loc Cert.OutW0RefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v45) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def preserves_Conv0_Conv0Ideal : Prop :=
  True

def algebraic_Conv0Ideal_Conv0RefIdeal [hConv0Ideal : Cert.Conv0Ideal.Facts] [hConv0RefIdeal : Cert.Conv0RefIdeal.Facts] : Prop :=
  ∀ (m : (ℓ : Loc Cert.Conv0Ideal.nD Cert.Conv0Ideal.τ Cert.Conv0Ideal.sig) → Buf (Elt Ideal) ℓ) (g : Dev Cert.Conv0Ideal.nD → PrngReg)
    (m' : (ℓ : Loc Cert.Conv0RefIdeal.nD Cert.Conv0RefIdeal.τ Cert.Conv0RefIdeal.sig) → Buf (Elt Ideal) ℓ) (g' : Dev Cert.Conv0RefIdeal.nD → PrngReg), Pre_Conv0Ideal m →
    (∀ c : Dev Cert.Conv0Ideal.nD,
      m' ((c.tc : Thread Cert.Conv0RefIdeal.nD Cert.Conv0RefIdeal.τ).loc Cert.Conv0RefIdeal.main_arg0) = m ((c.tc : Thread Cert.Conv0Ideal.nD Cert.Conv0Ideal.τ).loc Cert.Conv0Ideal.main_arg0)
      ∧ m' ((c.tc : Thread Cert.Conv0RefIdeal.nD Cert.Conv0RefIdeal.τ).loc Cert.Conv0RefIdeal.main_arg1) = m ((c.tc : Thread Cert.Conv0Ideal.nD Cert.Conv0Ideal.τ).loc Cert.Conv0Ideal.main_arg1)) →
    ∃ (v0 : (c : Dev Cert.Conv0Ideal.nD) → Buf (Elt Ideal) ((c.tc : Thread Cert.Conv0Ideal.nD Cert.Conv0Ideal.τ).loc Cert.Conv0Ideal.main_v0)),
      θ_run (Cert.Conv0Ideal.defs (F := Ideal)) (onTc (τ := Cert.Conv0Ideal.τ) (Cert.Conv0Ideal.main (F := Ideal))) ⟨m, fun _ => 0, g⟩ (fun r => ∀ c : Dev Cert.Conv0Ideal.nD,
          r.2.mem ((c.tc : Thread Cert.Conv0Ideal.nD Cert.Conv0Ideal.τ).loc Cert.Conv0Ideal.main_v0) = v0 c
          ∧ r.2.mem ((c.tc : Thread Cert.Conv0Ideal.nD Cert.Conv0Ideal.τ).loc Cert.Conv0Ideal.main_arg0) = m ((c.tc : Thread Cert.Conv0Ideal.nD Cert.Conv0Ideal.τ).loc Cert.Conv0Ideal.main_arg0)
          ∧ r.2.mem ((c.tc : Thread Cert.Conv0Ideal.nD Cert.Conv0Ideal.τ).loc Cert.Conv0Ideal.main_arg1) = m ((c.tc : Thread Cert.Conv0Ideal.nD Cert.Conv0Ideal.τ).loc Cert.Conv0Ideal.main_arg1))
      ∧ θ_run (Cert.Conv0RefIdeal.defs (F := Ideal)) (onTc (τ := Cert.Conv0RefIdeal.τ) (Cert.Conv0RefIdeal.main (F := Ideal))) ⟨m', fun _ => 0, g'⟩ (fun r => ∀ c : Dev Cert.Conv0RefIdeal.nD,
          r.2.mem ((c.tc : Thread Cert.Conv0RefIdeal.nD Cert.Conv0RefIdeal.τ).loc Cert.Conv0RefIdeal.main_v94) = v0 c
          ∧ r.2.mem ((c.tc : Thread Cert.Conv0RefIdeal.nD Cert.Conv0RefIdeal.τ).loc Cert.Conv0RefIdeal.main_arg0) = m' ((c.tc : Thread Cert.Conv0RefIdeal.nD Cert.Conv0RefIdeal.τ).loc Cert.Conv0RefIdeal.main_arg0)
          ∧ r.2.mem ((c.tc : Thread Cert.Conv0RefIdeal.nD Cert.Conv0RefIdeal.τ).loc Cert.Conv0RefIdeal.main_arg1) = m' ((c.tc : Thread Cert.Conv0RefIdeal.nD Cert.Conv0RefIdeal.τ).loc Cert.Conv0RefIdeal.main_arg1))

def preserves_Act_ActIdeal : Prop :=
  True

def algebraic_ActIdeal_ActRefIdeal_pre_finite_act [hActIdeal : Cert.ActIdeal.Facts] [hActRefIdeal : Cert.ActRefIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_finite_act m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)
      ∧ m' ((c.tc : Thread Cert.ActRefIdeal.nD Cert.ActRefIdeal.τ).loc Cert.ActRefIdeal.main_arg4) = m ((c.tc : Thread Cert.ActIdeal.nD Cert.ActIdeal.τ).loc Cert.ActIdeal.main_arg4)) →
    ∃ (v0 : (c : Dev Cert.ActIdeal.nD) → Buf (Elt Ideal) ((c.tc : Thread Cert.ActIdeal.nD Cert.ActIdeal.τ).loc Cert.ActIdeal.main_v0_0)) (v1 : (c : Dev Cert.ActIdeal.nD) → Buf (Elt Ideal) ((c.tc : Thread Cert.ActIdeal.nD Cert.ActIdeal.τ).loc Cert.ActIdeal.main_v0_1)) (v2 : (c : Dev Cert.ActIdeal.nD) → Buf (Elt Ideal) ((c.tc : Thread Cert.ActIdeal.nD Cert.ActIdeal.τ).loc Cert.ActIdeal.main_v0_2)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0_0) = v0 c
          ∧ r.2.mem ((c.tc : Thread Cert.ActIdeal.nD Cert.ActIdeal.τ).loc Cert.ActIdeal.main_v0_1) = v1 c
          ∧ r.2.mem ((c.tc : Thread Cert.ActIdeal.nD Cert.ActIdeal.τ).loc Cert.ActIdeal.main_v0_2) = v2 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
          ∧ r.2.mem ((c.tc : Thread Cert.ActIdeal.nD Cert.ActIdeal.τ).loc Cert.ActIdeal.main_arg4) = m ((c.tc : Thread Cert.ActIdeal.nD Cert.ActIdeal.τ).loc Cert.ActIdeal.main_arg4))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v92) = v0 c
          ∧ r.2.mem ((c.tc : Thread Cert.ActRefIdeal.nD Cert.ActRefIdeal.τ).loc Cert.ActRefIdeal.main_v94) = v1 c
          ∧ r.2.mem ((c.tc : Thread Cert.ActRefIdeal.nD Cert.ActRefIdeal.τ).loc Cert.ActRefIdeal.main_v97) = v2 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3)
          ∧ r.2.mem ((c.tc : Thread Cert.ActRefIdeal.nD Cert.ActRefIdeal.τ).loc Cert.ActRefIdeal.main_arg4) = m' ((c.tc : Thread Cert.ActRefIdeal.nD Cert.ActRefIdeal.τ).loc Cert.ActRefIdeal.main_arg4))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)) →
    ∃ (v0 : (c : Dev Cert.MidIdeal.nD) → Buf (Elt Ideal) ((c.tc : Thread Cert.MidIdeal.nD Cert.MidIdeal.τ).loc Cert.MidIdeal.main_v0)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v0) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v33) = v0 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3))

def preserves_Uq_UqIdeal : Prop :=
  True

def algebraic_UqIdeal_UqRefIdeal [hUqIdeal : Cert.UqIdeal.Facts] [hUqRefIdeal : Cert.UqRefIdeal.Facts] : Prop :=
  ∀ (m : (ℓ : Loc Cert.UqIdeal.nD Cert.UqIdeal.τ Cert.UqIdeal.sig) → Buf (Elt Ideal) ℓ) (g : Dev Cert.UqIdeal.nD → PrngReg)
    (m' : (ℓ : Loc Cert.UqRefIdeal.nD Cert.UqRefIdeal.τ Cert.UqRefIdeal.sig) → Buf (Elt Ideal) ℓ) (g' : Dev Cert.UqRefIdeal.nD → PrngReg), Pre_UqIdeal m →
    (∀ c : Dev Cert.UqIdeal.nD,
      m' ((c.tc : Thread Cert.UqRefIdeal.nD Cert.UqRefIdeal.τ).loc Cert.UqRefIdeal.main_arg0) = m ((c.tc : Thread Cert.UqIdeal.nD Cert.UqIdeal.τ).loc Cert.UqIdeal.main_arg0)
      ∧ m' ((c.tc : Thread Cert.UqRefIdeal.nD Cert.UqRefIdeal.τ).loc Cert.UqRefIdeal.main_arg1) = m ((c.tc : Thread Cert.UqIdeal.nD Cert.UqIdeal.τ).loc Cert.UqIdeal.main_arg1)) →
    ∃ (v0 : (c : Dev Cert.UqIdeal.nD) → Buf (Elt Ideal) ((c.tc : Thread Cert.UqIdeal.nD Cert.UqIdeal.τ).loc Cert.UqIdeal.main_v0)),
      θ_run (Cert.UqIdeal.defs (F := Ideal)) (onTc (τ := Cert.UqIdeal.τ) (Cert.UqIdeal.main (F := Ideal))) ⟨m, fun _ => 0, g⟩ (fun r => ∀ c : Dev Cert.UqIdeal.nD,
          r.2.mem ((c.tc : Thread Cert.UqIdeal.nD Cert.UqIdeal.τ).loc Cert.UqIdeal.main_v0) = v0 c
          ∧ r.2.mem ((c.tc : Thread Cert.UqIdeal.nD Cert.UqIdeal.τ).loc Cert.UqIdeal.main_arg0) = m ((c.tc : Thread Cert.UqIdeal.nD Cert.UqIdeal.τ).loc Cert.UqIdeal.main_arg0)
          ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ θ_run (Cert.UqRefIdeal.defs (F := Ideal)) (onTc (τ := Cert.UqRefIdeal.τ) (Cert.UqRefIdeal.main (F := Ideal))) ⟨m', fun _ => 0, g'⟩ (fun r => ∀ c : Dev Cert.UqRefIdeal.nD,
          r.2.mem ((c.tc : Thread Cert.UqRefIdeal.nD Cert.UqRefIdeal.τ).loc Cert.UqRefIdeal.main_v3) = v0 c
          ∧ r.2.mem ((c.tc : Thread Cert.UqRefIdeal.nD Cert.UqRefIdeal.τ).loc Cert.UqRefIdeal.main_arg0) = m' ((c.tc : Thread Cert.UqRefIdeal.nD Cert.UqRefIdeal.τ).loc Cert.UqRefIdeal.main_arg0)
          ∧ r.2.mem ((c.tc : Thread Cert.UqRefIdeal.nD Cert.UqRefIdeal.τ).loc Cert.UqRefIdeal.main_arg1) = m' ((c.tc : Thread Cert.UqRefIdeal.nD Cert.UqRefIdeal.τ).loc Cert.UqRefIdeal.main_arg1))

def preserves_Ukv_UkvIdeal : Prop :=
  True

def algebraic_UkvIdeal_UkvRefIdeal [hUkvIdeal : Cert.UkvIdeal.Facts] [hUkvRefIdeal : Cert.UkvRefIdeal.Facts] : Prop :=
  ∀ (m : (ℓ : Loc Cert.UkvIdeal.nD Cert.UkvIdeal.τ Cert.UkvIdeal.sig) → Buf (Elt Ideal) ℓ) (g : Dev Cert.UkvIdeal.nD → PrngReg)
    (m' : (ℓ : Loc Cert.UkvRefIdeal.nD Cert.UkvRefIdeal.τ Cert.UkvRefIdeal.sig) → Buf (Elt Ideal) ℓ) (g' : Dev Cert.UkvRefIdeal.nD → PrngReg), Pre_UkvIdeal m →
    (∀ c : Dev Cert.UkvIdeal.nD,
      m' ((c.tc : Thread Cert.UkvRefIdeal.nD Cert.UkvRefIdeal.τ).loc Cert.UkvRefIdeal.main_arg0) = m ((c.tc : Thread Cert.UkvIdeal.nD Cert.UkvIdeal.τ).loc Cert.UkvIdeal.main_arg0)
      ∧ m' ((c.tc : Thread Cert.UkvRefIdeal.nD Cert.UkvRefIdeal.τ).loc Cert.UkvRefIdeal.main_arg1) = m ((c.tc : Thread Cert.UkvIdeal.nD Cert.UkvIdeal.τ).loc Cert.UkvIdeal.main_arg1)) →
    ∃ (v0 : (c : Dev Cert.UkvIdeal.nD) → Buf (Elt Ideal) ((c.tc : Thread Cert.UkvIdeal.nD Cert.UkvIdeal.τ).loc Cert.UkvIdeal.main_v0)),
      θ_run (Cert.UkvIdeal.defs (F := Ideal)) (onTc (τ := Cert.UkvIdeal.τ) (Cert.UkvIdeal.main (F := Ideal))) ⟨m, fun _ => 0, g⟩ (fun r => ∀ c : Dev Cert.UkvIdeal.nD,
          r.2.mem ((c.tc : Thread Cert.UkvIdeal.nD Cert.UkvIdeal.τ).loc Cert.UkvIdeal.main_v0) = v0 c
          ∧ r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
          ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ θ_run (Cert.UkvRefIdeal.defs (F := Ideal)) (onTc (τ := Cert.UkvRefIdeal.τ) (Cert.UkvRefIdeal.main (F := Ideal))) ⟨m', fun _ => 0, g'⟩ (fun r => ∀ c : Dev Cert.UkvRefIdeal.nD,
          r.2.mem ((c.tc : Thread Cert.UkvRefIdeal.nD Cert.UkvRefIdeal.τ).loc Cert.UkvRefIdeal.main_v4) = v0 c
          ∧ r.2.mem ((c.tc : Thread Cert.UkvRefIdeal.nD Cert.UkvRefIdeal.τ).loc Cert.UkvRefIdeal.main_arg0) = m' ((c.tc : Thread Cert.UkvRefIdeal.nD Cert.UkvRefIdeal.τ).loc Cert.UkvRefIdeal.main_arg0)
          ∧ r.2.mem ((c.tc : Thread Cert.UkvRefIdeal.nD Cert.UkvRefIdeal.τ).loc Cert.UkvRefIdeal.main_arg1) = m' ((c.tc : Thread Cert.UkvRefIdeal.nD Cert.UkvRefIdeal.τ).loc Cert.UkvRefIdeal.main_arg1))

def preserves_UqX_UqXIdeal : Prop :=
  True

def algebraic_UqXIdeal_UqXRefIdeal [hUqXIdeal : Cert.UqXIdeal.Facts] [hUqXRefIdeal : Cert.UqXRefIdeal.Facts] : Prop :=
  ∀ (m : (ℓ : Loc Cert.UqXIdeal.nD Cert.UqXIdeal.τ Cert.UqXIdeal.sig) → Buf (Elt Ideal) ℓ) (g : Dev Cert.UqXIdeal.nD → PrngReg)
    (m' : (ℓ : Loc Cert.UqXRefIdeal.nD Cert.UqXRefIdeal.τ Cert.UqXRefIdeal.sig) → Buf (Elt Ideal) ℓ) (g' : Dev Cert.UqXRefIdeal.nD → PrngReg), Pre_UqXIdeal m →
    (∀ c : Dev Cert.UqXIdeal.nD,
      m' ((c.tc : Thread Cert.UqXRefIdeal.nD Cert.UqXRefIdeal.τ).loc Cert.UqXRefIdeal.main_arg0) = m ((c.tc : Thread Cert.UqXIdeal.nD Cert.UqXIdeal.τ).loc Cert.UqXIdeal.main_arg0)
      ∧ m' ((c.tc : Thread Cert.UqXRefIdeal.nD Cert.UqXRefIdeal.τ).loc Cert.UqXRefIdeal.main_arg1) = m ((c.tc : Thread Cert.UqXIdeal.nD Cert.UqXIdeal.τ).loc Cert.UqXIdeal.main_arg1)) →
    ∃ (v0 : (c : Dev Cert.UqXIdeal.nD) → Buf (Elt Ideal) ((c.tc : Thread Cert.UqXIdeal.nD Cert.UqXIdeal.τ).loc Cert.UqXIdeal.main_v0)),
      θ_run (Cert.UqXIdeal.defs (F := Ideal)) (onTc (τ := Cert.UqXIdeal.τ) (Cert.UqXIdeal.main (F := Ideal))) ⟨m, fun _ => 0, g⟩ (fun r => ∀ c : Dev Cert.UqXIdeal.nD,
          r.2.mem ((c.tc : Thread Cert.UqXIdeal.nD Cert.UqXIdeal.τ).loc Cert.UqXIdeal.main_v0) = v0 c
          ∧ r.2.mem ((c.tc : Thread Cert.UqXIdeal.nD Cert.UqXIdeal.τ).loc Cert.UqXIdeal.main_arg0) = m ((c.tc : Thread Cert.UqXIdeal.nD Cert.UqXIdeal.τ).loc Cert.UqXIdeal.main_arg0)
          ∧ r.2.mem ((c.tc : Thread Cert.UqXIdeal.nD Cert.UqXIdeal.τ).loc Cert.UqXIdeal.main_arg1) = m ((c.tc : Thread Cert.UqXIdeal.nD Cert.UqXIdeal.τ).loc Cert.UqXIdeal.main_arg1))
      ∧ θ_run (Cert.UqXRefIdeal.defs (F := Ideal)) (onTc (τ := Cert.UqXRefIdeal.τ) (Cert.UqXRefIdeal.main (F := Ideal))) ⟨m', fun _ => 0, g'⟩ (fun r => ∀ c : Dev Cert.UqXRefIdeal.nD,
          r.2.mem ((c.tc : Thread Cert.UqXRefIdeal.nD Cert.UqXRefIdeal.τ).loc Cert.UqXRefIdeal.main_v4) = v0 c
          ∧ r.2.mem ((c.tc : Thread Cert.UqXRefIdeal.nD Cert.UqXRefIdeal.τ).loc Cert.UqXRefIdeal.main_arg0) = m' ((c.tc : Thread Cert.UqXRefIdeal.nD Cert.UqXRefIdeal.τ).loc Cert.UqXRefIdeal.main_arg0)
          ∧ r.2.mem ((c.tc : Thread Cert.UqXRefIdeal.nD Cert.UqXRefIdeal.τ).loc Cert.UqXRefIdeal.main_arg1) = m' ((c.tc : Thread Cert.UqXRefIdeal.nD Cert.UqXRefIdeal.τ).loc Cert.UqXRefIdeal.main_arg1))

def preserves_UkvX_UkvXIdeal : Prop :=
  True

def algebraic_UkvXIdeal_UkvXRefIdeal [hUkvXIdeal : Cert.UkvXIdeal.Facts] [hUkvXRefIdeal : Cert.UkvXRefIdeal.Facts] : Prop :=
  ∀ (m : (ℓ : Loc Cert.UkvXIdeal.nD Cert.UkvXIdeal.τ Cert.UkvXIdeal.sig) → Buf (Elt Ideal) ℓ) (g : Dev Cert.UkvXIdeal.nD → PrngReg)
    (m' : (ℓ : Loc Cert.UkvXRefIdeal.nD Cert.UkvXRefIdeal.τ Cert.UkvXRefIdeal.sig) → Buf (Elt Ideal) ℓ) (g' : Dev Cert.UkvXRefIdeal.nD → PrngReg), Pre_UkvXIdeal m →
    (∀ c : Dev Cert.UkvXIdeal.nD,
      m' ((c.tc : Thread Cert.UkvXRefIdeal.nD Cert.UkvXRefIdeal.τ).loc Cert.UkvXRefIdeal.main_arg0) = m ((c.tc : Thread Cert.UkvXIdeal.nD Cert.UkvXIdeal.τ).loc Cert.UkvXIdeal.main_arg0)
      ∧ m' ((c.tc : Thread Cert.UkvXRefIdeal.nD Cert.UkvXRefIdeal.τ).loc Cert.UkvXRefIdeal.main_arg1) = m ((c.tc : Thread Cert.UkvXIdeal.nD Cert.UkvXIdeal.τ).loc Cert.UkvXIdeal.main_arg1)) →
    ∃ (v0 : (c : Dev Cert.UkvXIdeal.nD) → Buf (Elt Ideal) ((c.tc : Thread Cert.UkvXIdeal.nD Cert.UkvXIdeal.τ).loc Cert.UkvXIdeal.main_v0)),
      θ_run (Cert.UkvXIdeal.defs (F := Ideal)) (onTc (τ := Cert.UkvXIdeal.τ) (Cert.UkvXIdeal.main (F := Ideal))) ⟨m, fun _ => 0, g⟩ (fun r => ∀ c : Dev Cert.UkvXIdeal.nD,
          r.2.mem ((c.tc : Thread Cert.UkvXIdeal.nD Cert.UkvXIdeal.τ).loc Cert.UkvXIdeal.main_v0) = v0 c
          ∧ r.2.mem ((c.tc : Thread Cert.UkvXIdeal.nD Cert.UkvXIdeal.τ).loc Cert.UkvXIdeal.main_arg0) = m ((c.tc : Thread Cert.UkvXIdeal.nD Cert.UkvXIdeal.τ).loc Cert.UkvXIdeal.main_arg0)
          ∧ r.2.mem ((c.tc : Thread Cert.UkvXIdeal.nD Cert.UkvXIdeal.τ).loc Cert.UkvXIdeal.main_arg1) = m ((c.tc : Thread Cert.UkvXIdeal.nD Cert.UkvXIdeal.τ).loc Cert.UkvXIdeal.main_arg1))
      ∧ θ_run (Cert.UkvXRefIdeal.defs (F := Ideal)) (onTc (τ := Cert.UkvXRefIdeal.τ) (Cert.UkvXRefIdeal.main (F := Ideal))) ⟨m', fun _ => 0, g'⟩ (fun r => ∀ c : Dev Cert.UkvXRefIdeal.nD,
          r.2.mem ((c.tc : Thread Cert.UkvXRefIdeal.nD Cert.UkvXRefIdeal.τ).loc Cert.UkvXRefIdeal.main_v4) = v0 c
          ∧ r.2.mem ((c.tc : Thread Cert.UkvXRefIdeal.nD Cert.UkvXRefIdeal.τ).loc Cert.UkvXRefIdeal.main_arg0) = m' ((c.tc : Thread Cert.UkvXRefIdeal.nD Cert.UkvXRefIdeal.τ).loc Cert.UkvXRefIdeal.main_arg0)
          ∧ r.2.mem ((c.tc : Thread Cert.UkvXRefIdeal.nD Cert.UkvXRefIdeal.τ).loc Cert.UkvXRefIdeal.main_arg1) = m' ((c.tc : Thread Cert.UkvXRefIdeal.nD Cert.UkvXRefIdeal.τ).loc Cert.UkvXRefIdeal.main_arg1))

def preserves_UqW_UqWIdeal : Prop :=
  True

def algebraic_UqWIdeal_UqWRefIdeal [hUqWIdeal : Cert.UqWIdeal.Facts] [hUqWRefIdeal : Cert.UqWRefIdeal.Facts] : Prop :=
  ∀ (m : (ℓ : Loc Cert.UqWIdeal.nD Cert.UqWIdeal.τ Cert.UqWIdeal.sig) → Buf (Elt Ideal) ℓ) (g : Dev Cert.UqWIdeal.nD → PrngReg)
    (m' : (ℓ : Loc Cert.UqWRefIdeal.nD Cert.UqWRefIdeal.τ Cert.UqWRefIdeal.sig) → Buf (Elt Ideal) ℓ) (g' : Dev Cert.UqWRefIdeal.nD → PrngReg), Pre_UqWIdeal m →
    (∀ c : Dev Cert.UqWIdeal.nD,
      m' ((c.tc : Thread Cert.UqWRefIdeal.nD Cert.UqWRefIdeal.τ).loc Cert.UqWRefIdeal.main_arg0) = m ((c.tc : Thread Cert.UqWIdeal.nD Cert.UqWIdeal.τ).loc Cert.UqWIdeal.main_arg0)
      ∧ m' ((c.tc : Thread Cert.UqWRefIdeal.nD Cert.UqWRefIdeal.τ).loc Cert.UqWRefIdeal.main_arg1) = m ((c.tc : Thread Cert.UqWIdeal.nD Cert.UqWIdeal.τ).loc Cert.UqWIdeal.main_arg1)) →
    ∃ (v0 : (c : Dev Cert.UqWIdeal.nD) → Buf (Elt Ideal) ((c.tc : Thread Cert.UqWIdeal.nD Cert.UqWIdeal.τ).loc Cert.UqWIdeal.main_v0)),
      θ_run (Cert.UqWIdeal.defs (F := Ideal)) (onTc (τ := Cert.UqWIdeal.τ) (Cert.UqWIdeal.main (F := Ideal))) ⟨m, fun _ => 0, g⟩ (fun r => ∀ c : Dev Cert.UqWIdeal.nD,
          r.2.mem ((c.tc : Thread Cert.UqWIdeal.nD Cert.UqWIdeal.τ).loc Cert.UqWIdeal.main_v0) = v0 c
          ∧ r.2.mem ((c.tc : Thread Cert.UqWIdeal.nD Cert.UqWIdeal.τ).loc Cert.UqWIdeal.main_arg0) = m ((c.tc : Thread Cert.UqWIdeal.nD Cert.UqWIdeal.τ).loc Cert.UqWIdeal.main_arg0)
          ∧ r.2.mem ((c.tc : Thread Cert.UqWIdeal.nD Cert.UqWIdeal.τ).loc Cert.UqWIdeal.main_arg1) = m ((c.tc : Thread Cert.UqWIdeal.nD Cert.UqWIdeal.τ).loc Cert.UqWIdeal.main_arg1))
      ∧ θ_run (Cert.UqWRefIdeal.defs (F := Ideal)) (onTc (τ := Cert.UqWRefIdeal.τ) (Cert.UqWRefIdeal.main (F := Ideal))) ⟨m', fun _ => 0, g'⟩ (fun r => ∀ c : Dev Cert.UqWRefIdeal.nD,
          r.2.mem ((c.tc : Thread Cert.UqWRefIdeal.nD Cert.UqWRefIdeal.τ).loc Cert.UqWRefIdeal.main_v5) = v0 c
          ∧ r.2.mem ((c.tc : Thread Cert.UqWRefIdeal.nD Cert.UqWRefIdeal.τ).loc Cert.UqWRefIdeal.main_arg0) = m' ((c.tc : Thread Cert.UqWRefIdeal.nD Cert.UqWRefIdeal.τ).loc Cert.UqWRefIdeal.main_arg0)
          ∧ r.2.mem ((c.tc : Thread Cert.UqWRefIdeal.nD Cert.UqWRefIdeal.τ).loc Cert.UqWRefIdeal.main_arg1) = m' ((c.tc : Thread Cert.UqWRefIdeal.nD Cert.UqWRefIdeal.τ).loc Cert.UqWRefIdeal.main_arg1))

def preserves_UkvW_UkvWIdeal : Prop :=
  True

def algebraic_UkvWIdeal_UkvWRefIdeal [hUkvWIdeal : Cert.UkvWIdeal.Facts] [hUkvWRefIdeal : Cert.UkvWRefIdeal.Facts] : Prop :=
  ∀ (m : (ℓ : Loc Cert.UkvWIdeal.nD Cert.UkvWIdeal.τ Cert.UkvWIdeal.sig) → Buf (Elt Ideal) ℓ) (g : Dev Cert.UkvWIdeal.nD → PrngReg)
    (m' : (ℓ : Loc Cert.UkvWRefIdeal.nD Cert.UkvWRefIdeal.τ Cert.UkvWRefIdeal.sig) → Buf (Elt Ideal) ℓ) (g' : Dev Cert.UkvWRefIdeal.nD → PrngReg), Pre_UkvWIdeal m →
    (∀ c : Dev Cert.UkvWIdeal.nD,
      m' ((c.tc : Thread Cert.UkvWRefIdeal.nD Cert.UkvWRefIdeal.τ).loc Cert.UkvWRefIdeal.main_arg0) = m ((c.tc : Thread Cert.UkvWIdeal.nD Cert.UkvWIdeal.τ).loc Cert.UkvWIdeal.main_arg0)
      ∧ m' ((c.tc : Thread Cert.UkvWRefIdeal.nD Cert.UkvWRefIdeal.τ).loc Cert.UkvWRefIdeal.main_arg1) = m ((c.tc : Thread Cert.UkvWIdeal.nD Cert.UkvWIdeal.τ).loc Cert.UkvWIdeal.main_arg1)) →
    ∃ (v0 : (c : Dev Cert.UkvWIdeal.nD) → Buf (Elt Ideal) ((c.tc : Thread Cert.UkvWIdeal.nD Cert.UkvWIdeal.τ).loc Cert.UkvWIdeal.main_v0)),
      θ_run (Cert.UkvWIdeal.defs (F := Ideal)) (onTc (τ := Cert.UkvWIdeal.τ) (Cert.UkvWIdeal.main (F := Ideal))) ⟨m, fun _ => 0, g⟩ (fun r => ∀ c : Dev Cert.UkvWIdeal.nD,
          r.2.mem ((c.tc : Thread Cert.UkvWIdeal.nD Cert.UkvWIdeal.τ).loc Cert.UkvWIdeal.main_v0) = v0 c
          ∧ r.2.mem ((c.tc : Thread Cert.UkvWIdeal.nD Cert.UkvWIdeal.τ).loc Cert.UkvWIdeal.main_arg0) = m ((c.tc : Thread Cert.UkvWIdeal.nD Cert.UkvWIdeal.τ).loc Cert.UkvWIdeal.main_arg0)
          ∧ r.2.mem ((c.tc : Thread Cert.UkvWIdeal.nD Cert.UkvWIdeal.τ).loc Cert.UkvWIdeal.main_arg1) = m ((c.tc : Thread Cert.UkvWIdeal.nD Cert.UkvWIdeal.τ).loc Cert.UkvWIdeal.main_arg1))
      ∧ θ_run (Cert.UkvWRefIdeal.defs (F := Ideal)) (onTc (τ := Cert.UkvWRefIdeal.τ) (Cert.UkvWRefIdeal.main (F := Ideal))) ⟨m', fun _ => 0, g'⟩ (fun r => ∀ c : Dev Cert.UkvWRefIdeal.nD,
          r.2.mem ((c.tc : Thread Cert.UkvWRefIdeal.nD Cert.UkvWRefIdeal.τ).loc Cert.UkvWRefIdeal.main_v5) = v0 c
          ∧ r.2.mem ((c.tc : Thread Cert.UkvWRefIdeal.nD Cert.UkvWRefIdeal.τ).loc Cert.UkvWRefIdeal.main_arg0) = m' ((c.tc : Thread Cert.UkvWRefIdeal.nD Cert.UkvWRefIdeal.τ).loc Cert.UkvWRefIdeal.main_arg0)
          ∧ r.2.mem ((c.tc : Thread Cert.UkvWRefIdeal.nD Cert.UkvWRefIdeal.τ).loc Cert.UkvWRefIdeal.main_arg1) = m' ((c.tc : Thread Cert.UkvWRefIdeal.nD Cert.UkvWRefIdeal.τ).loc Cert.UkvWRefIdeal.main_arg1))

def Claim : Prop :=
  ∃ (hKernel : Cert.Kernel.Facts) (hKernelIdeal : Cert.KernelIdeal.Facts) (hReferenceIdeal : Cert.ReferenceIdeal.Facts) (hDownX : Cert.DownX.Facts) (hDownXIdeal : Cert.DownXIdeal.Facts) (hDownXRefIdeal : Cert.DownXRefIdeal.Facts) (hDownW : Cert.DownW.Facts) (hDownWIdeal : Cert.DownWIdeal.Facts) (hDownWRefIdeal : Cert.DownWRefIdeal.Facts) (hIn : Cert.In.Facts) (hInIdeal : Cert.InIdeal.Facts) (hInRefIdeal : Cert.InRefIdeal.Facts) (hInX : Cert.InX.Facts) (hInXIdeal : Cert.InXIdeal.Facts) (hInXRefIdeal : Cert.InXRefIdeal.Facts) (hInW : Cert.InW.Facts) (hInWIdeal : Cert.InWIdeal.Facts) (hInWRefIdeal : Cert.InWRefIdeal.Facts) (hGateW : Cert.GateW.Facts) (hGateWIdeal : Cert.GateWIdeal.Facts) (hGateWRefIdeal : Cert.GateWRefIdeal.Facts) (hGateX : Cert.GateX.Facts) (hGateXIdeal : Cert.GateXIdeal.Facts) (hGateXRefIdeal : Cert.GateXRefIdeal.Facts) (hUpX : Cert.UpX.Facts) (hUpXIdeal : Cert.UpXIdeal.Facts) (hUpXRefIdeal : Cert.UpXRefIdeal.Facts) (hDownX0 : Cert.DownX0.Facts) (hDownX0Ideal : Cert.DownX0Ideal.Facts) (hDownX0RefIdeal : Cert.DownX0RefIdeal.Facts) (hDownW0 : Cert.DownW0.Facts) (hDownW0Ideal : Cert.DownW0Ideal.Facts) (hDownW0RefIdeal : Cert.DownW0RefIdeal.Facts) (hGateW0 : Cert.GateW0.Facts) (hGateW0Ideal : Cert.GateW0Ideal.Facts) (hGateW0RefIdeal : Cert.GateW0RefIdeal.Facts) (hGateX0 : Cert.GateX0.Facts) (hGateX0Ideal : Cert.GateX0Ideal.Facts) (hGateX0RefIdeal : Cert.GateX0RefIdeal.Facts) (hUpX0 : Cert.UpX0.Facts) (hUpX0Ideal : Cert.UpX0Ideal.Facts) (hUpX0RefIdeal : Cert.UpX0RefIdeal.Facts) (hOutX : Cert.OutX.Facts) (hOutXIdeal : Cert.OutXIdeal.Facts) (hOutXRefIdeal : Cert.OutXRefIdeal.Facts) (hOutW : Cert.OutW.Facts) (hOutWIdeal : Cert.OutWIdeal.Facts) (hOutWRefIdeal : Cert.OutWRefIdeal.Facts) (hOutX0 : Cert.OutX0.Facts) (hOutX0Ideal : Cert.OutX0Ideal.Facts) (hOutX0RefIdeal : Cert.OutX0RefIdeal.Facts) (hOutW0 : Cert.OutW0.Facts) (hOutW0Ideal : Cert.OutW0Ideal.Facts) (hOutW0RefIdeal : Cert.OutW0RefIdeal.Facts) (hDown : Cert.Down.Facts) (hDownIdeal : Cert.DownIdeal.Facts) (hDownRefIdeal : Cert.DownRefIdeal.Facts) (hConv : Cert.Conv.Facts) (hConvIdeal : Cert.ConvIdeal.Facts) (hConvRefIdeal : Cert.ConvRefIdeal.Facts) (hConv0 : Cert.Conv0.Facts) (hConv0Ideal : Cert.Conv0Ideal.Facts) (hConv0RefIdeal : Cert.Conv0RefIdeal.Facts) (hAct : Cert.Act.Facts) (hActIdeal : Cert.ActIdeal.Facts) (hActRefIdeal : Cert.ActRefIdeal.Facts) (hMid : Cert.Mid.Facts) (hMidIdeal : Cert.MidIdeal.Facts) (hMidRefIdeal : Cert.MidRefIdeal.Facts) (hUq : Cert.Uq.Facts) (hUqIdeal : Cert.UqIdeal.Facts) (hUqRefIdeal : Cert.UqRefIdeal.Facts) (hUkv : Cert.Ukv.Facts) (hUkvIdeal : Cert.UkvIdeal.Facts) (hUkvRefIdeal : Cert.UkvRefIdeal.Facts) (hUqX : Cert.UqX.Facts) (hUqXIdeal : Cert.UqXIdeal.Facts) (hUqXRefIdeal : Cert.UqXRefIdeal.Facts) (hUkvX : Cert.UkvX.Facts) (hUkvXIdeal : Cert.UkvXIdeal.Facts) (hUkvXRefIdeal : Cert.UkvXRefIdeal.Facts) (hUqW : Cert.UqW.Facts) (hUqWIdeal : Cert.UqWIdeal.Facts) (hUqWRefIdeal : Cert.UqWRefIdeal.Facts) (hUkvW : Cert.UkvW.Facts) (hUkvWIdeal : Cert.UkvWIdeal.Facts) (hUkvWRefIdeal : Cert.UkvWRefIdeal.Facts) (hPre_finite : Cert.Pre_finite.Facts) (hPre_finite_act : Cert.Pre_finite_act.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownX (hDownX := hDownX)
    ∧ quiescent_DownXIdeal (hDownXIdeal := hDownXIdeal)
    ∧ quiescent_DownXRefIdeal (hDownXRefIdeal := hDownXRefIdeal)
    ∧ quiescent_DownW (hDownW := hDownW)
    ∧ quiescent_DownWIdeal (hDownWIdeal := hDownWIdeal)
    ∧ quiescent_DownWRefIdeal (hDownWRefIdeal := hDownWRefIdeal)
    ∧ quiescent_In (hIn := hIn)
    ∧ quiescent_InIdeal (hInIdeal := hInIdeal)
    ∧ quiescent_InRefIdeal (hInRefIdeal := hInRefIdeal)
    ∧ quiescent_InX (hInX := hInX)
    ∧ quiescent_InXIdeal (hInXIdeal := hInXIdeal)
    ∧ quiescent_InXRefIdeal (hInXRefIdeal := hInXRefIdeal)
    ∧ quiescent_InW (hInW := hInW)
    ∧ quiescent_InWIdeal (hInWIdeal := hInWIdeal)
    ∧ quiescent_InWRefIdeal (hInWRefIdeal := hInWRefIdeal)
    ∧ quiescent_GateW (hGateW := hGateW)
    ∧ quiescent_GateWIdeal (hGateWIdeal := hGateWIdeal)
    ∧ quiescent_GateWRefIdeal (hGateWRefIdeal := hGateWRefIdeal)
    ∧ quiescent_GateX (hGateX := hGateX)
    ∧ quiescent_GateXIdeal (hGateXIdeal := hGateXIdeal)
    ∧ quiescent_GateXRefIdeal (hGateXRefIdeal := hGateXRefIdeal)
    ∧ quiescent_UpX (hUpX := hUpX)
    ∧ quiescent_UpXIdeal (hUpXIdeal := hUpXIdeal)
    ∧ quiescent_UpXRefIdeal (hUpXRefIdeal := hUpXRefIdeal)
    ∧ quiescent_DownX0 (hDownX0 := hDownX0)
    ∧ quiescent_DownX0Ideal (hDownX0Ideal := hDownX0Ideal)
    ∧ quiescent_DownX0RefIdeal (hDownX0RefIdeal := hDownX0RefIdeal)
    ∧ quiescent_DownW0 (hDownW0 := hDownW0)
    ∧ quiescent_DownW0Ideal (hDownW0Ideal := hDownW0Ideal)
    ∧ quiescent_DownW0RefIdeal (hDownW0RefIdeal := hDownW0RefIdeal)
    ∧ quiescent_GateW0 (hGateW0 := hGateW0)
    ∧ quiescent_GateW0Ideal (hGateW0Ideal := hGateW0Ideal)
    ∧ quiescent_GateW0RefIdeal (hGateW0RefIdeal := hGateW0RefIdeal)
    ∧ quiescent_GateX0 (hGateX0 := hGateX0)
    ∧ quiescent_GateX0Ideal (hGateX0Ideal := hGateX0Ideal)
    ∧ quiescent_GateX0RefIdeal (hGateX0RefIdeal := hGateX0RefIdeal)
    ∧ quiescent_UpX0 (hUpX0 := hUpX0)
    ∧ quiescent_UpX0Ideal (hUpX0Ideal := hUpX0Ideal)
    ∧ quiescent_UpX0RefIdeal (hUpX0RefIdeal := hUpX0RefIdeal)
    ∧ quiescent_OutX (hOutX := hOutX)
    ∧ quiescent_OutXIdeal (hOutXIdeal := hOutXIdeal)
    ∧ quiescent_OutXRefIdeal (hOutXRefIdeal := hOutXRefIdeal)
    ∧ quiescent_OutW (hOutW := hOutW)
    ∧ quiescent_OutWIdeal (hOutWIdeal := hOutWIdeal)
    ∧ quiescent_OutWRefIdeal (hOutWRefIdeal := hOutWRefIdeal)
    ∧ quiescent_OutX0 (hOutX0 := hOutX0)
    ∧ quiescent_OutX0Ideal (hOutX0Ideal := hOutX0Ideal)
    ∧ quiescent_OutX0RefIdeal (hOutX0RefIdeal := hOutX0RefIdeal)
    ∧ quiescent_OutW0 (hOutW0 := hOutW0)
    ∧ quiescent_OutW0Ideal (hOutW0Ideal := hOutW0Ideal)
    ∧ quiescent_OutW0RefIdeal (hOutW0RefIdeal := hOutW0RefIdeal)
    ∧ quiescent_Down (hDown := hDown)
    ∧ quiescent_DownIdeal (hDownIdeal := hDownIdeal)
    ∧ quiescent_DownRefIdeal (hDownRefIdeal := hDownRefIdeal)
    ∧ quiescent_Conv (hConv := hConv)
    ∧ quiescent_ConvIdeal (hConvIdeal := hConvIdeal)
    ∧ quiescent_ConvRefIdeal (hConvRefIdeal := hConvRefIdeal)
    ∧ quiescent_Conv0 (hConv0 := hConv0)
    ∧ quiescent_Conv0Ideal (hConv0Ideal := hConv0Ideal)
    ∧ quiescent_Conv0RefIdeal (hConv0RefIdeal := hConv0RefIdeal)
    ∧ quiescent_Act (hAct := hAct)
    ∧ quiescent_ActIdeal (hActIdeal := hActIdeal)
    ∧ quiescent_ActIdeal_pre_finite_act (hActIdeal := hActIdeal) (hPre_finite_act := hPre_finite_act)
    ∧ quiescent_ActRefIdeal (hActRefIdeal := hActRefIdeal)
    ∧ quiescent_ActRefIdeal_pre_finite_act (hActRefIdeal := hActRefIdeal) (hPre_finite_act := hPre_finite_act)
    ∧ quiescent_Mid (hMid := hMid)
    ∧ quiescent_MidIdeal (hMidIdeal := hMidIdeal)
    ∧ quiescent_MidRefIdeal (hMidRefIdeal := hMidRefIdeal)
    ∧ quiescent_Uq (hUq := hUq)
    ∧ quiescent_UqIdeal (hUqIdeal := hUqIdeal)
    ∧ quiescent_UqRefIdeal (hUqRefIdeal := hUqRefIdeal)
    ∧ quiescent_Ukv (hUkv := hUkv)
    ∧ quiescent_UkvIdeal (hUkvIdeal := hUkvIdeal)
    ∧ quiescent_UkvRefIdeal (hUkvRefIdeal := hUkvRefIdeal)
    ∧ quiescent_UqX (hUqX := hUqX)
    ∧ quiescent_UqXIdeal (hUqXIdeal := hUqXIdeal)
    ∧ quiescent_UqXRefIdeal (hUqXRefIdeal := hUqXRefIdeal)
    ∧ quiescent_UkvX (hUkvX := hUkvX)
    ∧ quiescent_UkvXIdeal (hUkvXIdeal := hUkvXIdeal)
    ∧ quiescent_UkvXRefIdeal (hUkvXRefIdeal := hUkvXRefIdeal)
    ∧ quiescent_UqW (hUqW := hUqW)
    ∧ quiescent_UqWIdeal (hUqWIdeal := hUqWIdeal)
    ∧ quiescent_UqWRefIdeal (hUqWRefIdeal := hUqWRefIdeal)
    ∧ quiescent_UkvW (hUkvW := hUkvW)
    ∧ quiescent_UkvWIdeal (hUkvWIdeal := hUkvWIdeal)
    ∧ quiescent_UkvWRefIdeal (hUkvWRefIdeal := hUkvWRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownX_DownXIdeal
    ∧ algebraic_DownXIdeal_DownXRefIdeal (hDownXIdeal := hDownXIdeal) (hDownXRefIdeal := hDownXRefIdeal)
    ∧ preserves_DownW_DownWIdeal
    ∧ algebraic_DownWIdeal_DownWRefIdeal (hDownWIdeal := hDownWIdeal) (hDownWRefIdeal := hDownWRefIdeal)
    ∧ preserves_In_InIdeal
    ∧ algebraic_InIdeal_InRefIdeal (hInIdeal := hInIdeal) (hInRefIdeal := hInRefIdeal)
    ∧ preserves_InX_InXIdeal
    ∧ algebraic_InXIdeal_InXRefIdeal (hInXIdeal := hInXIdeal) (hInXRefIdeal := hInXRefIdeal)
    ∧ preserves_InW_InWIdeal
    ∧ algebraic_InWIdeal_InWRefIdeal (hInWIdeal := hInWIdeal) (hInWRefIdeal := hInWRefIdeal)
    ∧ preserves_GateW_GateWIdeal
    ∧ algebraic_GateWIdeal_GateWRefIdeal (hGateWIdeal := hGateWIdeal) (hGateWRefIdeal := hGateWRefIdeal)
    ∧ preserves_GateX_GateXIdeal
    ∧ algebraic_GateXIdeal_GateXRefIdeal (hGateXIdeal := hGateXIdeal) (hGateXRefIdeal := hGateXRefIdeal)
    ∧ preserves_UpX_UpXIdeal
    ∧ algebraic_UpXIdeal_UpXRefIdeal (hUpXIdeal := hUpXIdeal) (hUpXRefIdeal := hUpXRefIdeal)
    ∧ preserves_DownX0_DownX0Ideal
    ∧ algebraic_DownX0Ideal_DownX0RefIdeal (hDownX0Ideal := hDownX0Ideal) (hDownX0RefIdeal := hDownX0RefIdeal)
    ∧ preserves_DownW0_DownW0Ideal
    ∧ algebraic_DownW0Ideal_DownW0RefIdeal (hDownW0Ideal := hDownW0Ideal) (hDownW0RefIdeal := hDownW0RefIdeal)
    ∧ preserves_GateW0_GateW0Ideal
    ∧ algebraic_GateW0Ideal_GateW0RefIdeal (hGateW0Ideal := hGateW0Ideal) (hGateW0RefIdeal := hGateW0RefIdeal)
    ∧ preserves_GateX0_GateX0Ideal
    ∧ algebraic_GateX0Ideal_GateX0RefIdeal (hGateX0Ideal := hGateX0Ideal) (hGateX0RefIdeal := hGateX0RefIdeal)
    ∧ preserves_UpX0_UpX0Ideal
    ∧ algebraic_UpX0Ideal_UpX0RefIdeal (hUpX0Ideal := hUpX0Ideal) (hUpX0RefIdeal := hUpX0RefIdeal)
    ∧ preserves_OutX_OutXIdeal
    ∧ algebraic_OutXIdeal_OutXRefIdeal (hOutXIdeal := hOutXIdeal) (hOutXRefIdeal := hOutXRefIdeal)
    ∧ preserves_OutW_OutWIdeal
    ∧ algebraic_OutWIdeal_OutWRefIdeal (hOutWIdeal := hOutWIdeal) (hOutWRefIdeal := hOutWRefIdeal)
    ∧ preserves_OutX0_OutX0Ideal
    ∧ algebraic_OutX0Ideal_OutX0RefIdeal (hOutX0Ideal := hOutX0Ideal) (hOutX0RefIdeal := hOutX0RefIdeal)
    ∧ preserves_OutW0_OutW0Ideal
    ∧ algebraic_OutW0Ideal_OutW0RefIdeal (hOutW0Ideal := hOutW0Ideal) (hOutW0RefIdeal := hOutW0RefIdeal)
    ∧ preserves_Down_DownIdeal
    ∧ algebraic_DownIdeal_DownRefIdeal (hDownIdeal := hDownIdeal) (hDownRefIdeal := hDownRefIdeal)
    ∧ preserves_Conv_ConvIdeal
    ∧ algebraic_ConvIdeal_ConvRefIdeal (hConvIdeal := hConvIdeal) (hConvRefIdeal := hConvRefIdeal)
    ∧ preserves_Conv0_Conv0Ideal
    ∧ algebraic_Conv0Ideal_Conv0RefIdeal (hConv0Ideal := hConv0Ideal) (hConv0RefIdeal := hConv0RefIdeal)
    ∧ preserves_Act_ActIdeal
    ∧ algebraic_ActIdeal_ActRefIdeal_pre_finite_act (hActIdeal := hActIdeal) (hActRefIdeal := hActRefIdeal) (hPre_finite_act := hPre_finite_act)
    ∧ preserves_Mid_MidIdeal
    ∧ algebraic_MidIdeal_MidRefIdeal (hMidIdeal := hMidIdeal) (hMidRefIdeal := hMidRefIdeal)
    ∧ preserves_Uq_UqIdeal
    ∧ algebraic_UqIdeal_UqRefIdeal (hUqIdeal := hUqIdeal) (hUqRefIdeal := hUqRefIdeal)
    ∧ preserves_Ukv_UkvIdeal
    ∧ algebraic_UkvIdeal_UkvRefIdeal (hUkvIdeal := hUkvIdeal) (hUkvRefIdeal := hUkvRefIdeal)
    ∧ preserves_UqX_UqXIdeal
    ∧ algebraic_UqXIdeal_UqXRefIdeal (hUqXIdeal := hUqXIdeal) (hUqXRefIdeal := hUqXRefIdeal)
    ∧ preserves_UkvX_UkvXIdeal
    ∧ algebraic_UkvXIdeal_UkvXRefIdeal (hUkvXIdeal := hUkvXIdeal) (hUkvXRefIdeal := hUkvXRefIdeal)
    ∧ preserves_UqW_UqWIdeal
    ∧ algebraic_UqWIdeal_UqWRefIdeal (hUqWIdeal := hUqWIdeal) (hUqWRefIdeal := hUqWRefIdeal)
    ∧ preserves_UkvW_UkvWIdeal
    ∧ algebraic_UkvWIdeal_UkvWRefIdeal (hUkvWIdeal := hUkvWIdeal) (hUkvWRefIdeal := hUkvWRefIdeal)
-- ==== Pre_finite.lean ====
abbrev S4352x4224 : Shape := ⟨2, ![4352, 4224]⟩
abbrev S4096x2048 : Shape := ⟨2, ![4096, 2048]⟩
abbrev S_ : Shape := ⟨0, ![]⟩

class Facts : Prop where
  bitsLt_bf16_f32 : FTy.bits .bf16 < FTy.bits .f32
  bcast_S_S4352x4224 : S_.BroadcastsInDim S4352x4224 (![] : Fin 0 → Fin S4352x4224.rank)
  reducesTo_S4352x4224_S_d0_1 : S4352x4224.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4352x4224 .bf16) (main_arg1 : FVec F S4096x2048 .bf16) : IVec S_ 1 :=
  let main_v0 : FVec F S4352x4224 .f32 := (extf .f32 · bitsLt_bf16_f32) main_arg0
  let main_v1 : FVec F S4352x4224 .f32 := Host.absf main_v0
  let main_cst : FVec F S_ .f32 := constant S_ .f32 0x7F800000#32
  let main_v2 : FVec F S4352x4224 .f32 := broadcastInDim S4352x4224 ![] bcast_S_S4352x4224 main_cst
  let main_v3 : IVec S4352x4224 1 := cmpf .olt main_v1 main_v2
  let main_c : IVec S_ 1 := constantI S_ 1 1#1
  let main_v4 : IVec S_ 1 := (fun x v => Host.reduce IntOp.andi x v reducesTo_S4352x4224_S_d0_1 h_S_) main_v3 main_c
  let main_v5 : FVec F S4096x2048 .f32 := (extf .f32 · bitsLt_bf16_f32) main_arg1
  let main_v6 : FVec F S4096x2048 .f32 := Host.absf main_v5
  let main_cst_0 : FVec F S_ .f32 := constant S_ .f32 0x7F800000#32
  let main_v7 : FVec F S4096x2048 .f32 := broadcastInDim S4096x2048 ![] bcast_S_S4096x2048 main_cst_0
  let main_v8 : IVec S4096x2048 1 := cmpf .olt main_v6 main_v7
  let main_c_1 : IVec S_ 1 := constantI S_ 1 1#1
  let main_v9 : IVec S_ 1 := (fun x v => Host.reduce IntOp.andi x v reducesTo_S4096x2048_S_d0_1 h_S_) main_v8 main_c_1
  let main_v10 : IVec S_ 1 := andi main_v4 main_v9
  main_v10
-- ==== Pre_finite_act.lean ====
abbrev S4096x5632 : Shape := ⟨2, ![4096, 5632]⟩
abbrev S3x5632 : Shape := ⟨2, ![3, 5632]⟩
abbrev S1x5632 : Shape := ⟨2, ![1, 5632]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)
  reducesTo_S4096x5632_S_d0_1 : S4096x5632.ReducesTo [0, 1] S_
  h_S_ : 0 < S_.numel

variable [Facts]

def fn {F : FTy → Type} [FloatOps F] (main_arg0 : FVec F S4096x5632 .bf16) (main_arg1 : FVec F S4096x5632 .bf16) (main_arg2 : FVec F S4096x5632 .bf16) (main_arg3 : FVec F S3x5632 .f32) (main_arg4 : FVec F S1x5632 .f32) : IVec S_ 1 :=
  let main_v0 : FVec F S4096x5632 .f32 := (extf .f32 · bitsLt_bf16_f32) main_arg1
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_c : IVec S_ 1 := constantI S_ 1 1#1
  let main_v4 : IVec S_ 1 := (fun x v => Host.reduce IntOp.andi x v reducesTo_S4096x5632_S_d0_1 h_S_) main_v3 main_c
  let main_v5 : FVec F S4096x5632 .f32 := (extf .f32 · bitsLt_bf16_f32) main_arg2
  let main_v6 : FVec F S4096x5632 .f32 := Host.absf main_v5
  let main_cst_0 : FVec F S_ .f32 := constant S_ .f32 0x7F800000#32
  let main_v7 : FVec F S4096x5632 .f32 := broadcastInDim S4096x5632 ![] bcast_S_S4096x5632 main_cst_0
  let main_v8 : IVec S4096x5632 1 := cmpf .olt main_v6 main_v7
  let main_c_1 : IVec S_ 1 := constantI S_ 1 1#1
  let main_v9 : IVec S_ 1 := (fun x v => Host.reduce IntOp.andi x v reducesTo_S4096x5632_S_d0_1 h_S_) main_v8 main_c_1
  let main_v10 : IVec S_ 1 := andi main_v4 main_v9
  main_v10
-- ==== Kernel.lean ====
abbrev S4352x4224 : Shape := ⟨2, ![4352, 4224]⟩
abbrev S4096x2048 : Shape := ⟨2, ![4096, 2048]⟩
abbrev S4352x512 : Shape := ⟨2, ![4352, 512]⟩
abbrev S4352x256 : Shape := ⟨2, ![4352, 256]⟩
abbrev S4096x512 : Shape := ⟨2, ![4096, 512]⟩
abbrev S1x4096x512 : Shape := ⟨3, ![1, 4096, 512]⟩
abbrev S1x4096x4x128 : Shape := ⟨4, ![1, 4096, 4, 128]⟩
abbrev S1x4x4096x128 : Shape := ⟨4, ![1, 4, 4096, 128]⟩
abbrev S1x2x2x4096x128 : Shape := ⟨5, ![1, 2, 2, 4096, 128]⟩
abbrev S1x4352x256 : Shape := ⟨3, ![1, 4352, 256]⟩
abbrev S1x4352x2x128 : Shape := ⟨4, ![1, 4352, 2, 128]⟩
abbrev S1x2x4352x128 : Shape := ⟨4, ![1, 2, 4352, 128]⟩
abbrev S1x2x2x4096x4352 : Shape := ⟨5, ![1, 2, 2, 4096, 4352]⟩
abbrev S_ : Shape := ⟨0, ![]⟩
abbrev S1x2x2x4096 : Shape := ⟨4, ![1, 2, 2, 4096]⟩
abbrev S1x2x2x4096x1 : Shape := ⟨5, ![1, 2, 2, 4096, 1]⟩
abbrev S4352x2048 : Shape := ⟨2, ![4352, 2048]⟩
abbrev S256x256 : Shape := ⟨2, ![256, 256]⟩
abbrev S4352x128 : Shape := ⟨2, ![4352, 128]⟩
abbrev S256x128 : Shape := ⟨2, ![256, 128]⟩
abbrev S512x128 : Shape := ⟨2, ![512, 128]⟩
abbrev S512 : Shape := ⟨1, ![512]⟩
abbrev S512x1 : Shape := ⟨2, ![512, 1]⟩
abbrev S1024x128 : Shape := ⟨2, ![1024, 128]⟩
abbrev S512x1024 : Shape := ⟨2, ![512, 1024]⟩
abbrev S512x256 : Shape := ⟨2, ![512, 256]⟩

abbrev nBuf : Space → Nat
  | .hbm => 77
  | .vmem => 18
  | .smem => 0
  | _ => 0

abbrev bufTy : (tb : Table) → Fin (tcTables nBuf tb) → BufTy
  | .hbm, ⟨0, _⟩ => ⟨S4352x4224, .bf16⟩
  | .hbm, ⟨1, _⟩ => ⟨S4096x2048, .bf16⟩
  | .hbm, ⟨2, _⟩ => ⟨S4352x512, .bf16⟩
  | .hbm, ⟨3, _⟩ => ⟨S4352x256, .bf16⟩
  | .hbm, ⟨4, _⟩ => ⟨S4352x256, .bf16⟩
  | .hbm, ⟨5, _⟩ => ⟨S4096x512, .bf16⟩
  | .hbm, ⟨6, _⟩ => ⟨S1x4096x512, .bf16⟩
  | .hbm, ⟨7, _⟩ => ⟨S1x4096x4x128, .bf16⟩
  | .hbm, ⟨8, _⟩ => ⟨S1x4x4096x128, .bf16⟩
  | .hbm, ⟨9, _⟩ => ⟨S1x2x2x4096x128, .bf16⟩
  | .hbm, ⟨10, _⟩ => ⟨S1x4352x256, .bf16⟩
  | .hbm, ⟨11, _⟩ => ⟨S1x4352x2x128, .bf16⟩
  | .hbm, ⟨12, _⟩ => ⟨S1x2x4352x128, .bf16⟩
  | .hbm, ⟨13, _⟩ => ⟨S1x4352x256, .bf16⟩
  | .hbm, ⟨14, _⟩ => ⟨S1x4352x2x128, .bf16⟩
  | .hbm, ⟨15, _⟩ => ⟨S1x2x4352x128, .bf16⟩
  | .hbm, ⟨16, _⟩ => ⟨S1x2x2x4096x4352, .f32⟩
  | .hbm, ⟨17, _⟩ => ⟨S_, .f32⟩
  | .hbm, ⟨18, _⟩ => ⟨S1x2x2x4096x4352, .f32⟩
  | .hbm, ⟨19, _⟩ => ⟨S1x2x2x4096x4352, .f32⟩
  | .hbm, ⟨20, _⟩ => ⟨S1x2x2x4096x4352, .f32⟩
  | .hbm, ⟨21, _⟩ => ⟨S_, .f32⟩
  | .hbm, ⟨22, _⟩ => ⟨S1x2x2x4096x4352, .f32⟩
  | .hbm, ⟨23, _⟩ => ⟨S1x2x2x4096x4352, .f32⟩
  | .hbm, ⟨24, _⟩ => ⟨S_, .f32⟩
  | .hbm, ⟨25, _⟩ => ⟨S1x2x2x4096, .f32⟩
  | .hbm, ⟨26, _⟩ => ⟨S_, .f32⟩
  | .hbm, ⟨27, _⟩ => ⟨S1x2x2x4096, .f32⟩
  | .hbm, ⟨28, _⟩ => ⟨S1x2x2x4096, .f32⟩
  | .hbm, ⟨29, _⟩ => ⟨S1x2x2x4096x1, .f32⟩
  | .hbm, ⟨30, _⟩ => ⟨S1x2x2x4096x4352, .f32⟩
  | .hbm, ⟨31, _⟩ => ⟨S1x2x2x4096x4352, .f32⟩
  | .hbm, ⟨32, _⟩ => ⟨S1x2x2x4096x4352, .f32⟩
  | .hbm, ⟨33, _⟩ => ⟨S_, .f32⟩
  | .hbm, ⟨34, _⟩ => ⟨S1x2x2x4096, .f32⟩
  | .hbm, ⟨35, _⟩ => ⟨S1x2x2x4096x1, .f32⟩
  | .hbm, ⟨36, _⟩ => ⟨S1x2x2x4096x4352, .f32⟩
  | .hbm, ⟨37, _⟩ => ⟨S1x2x2x4096x4352, .f32⟩
  | .hbm, ⟨38, _⟩ => ⟨S1x2x2x4096x4352, .bf16⟩
  | .hbm, ⟨39, _⟩ => ⟨S1x2x2x4096x128, .f32⟩
  | .hbm, ⟨40, _⟩ => ⟨S1x2x2x4096x128, .bf16⟩
  | .hbm, ⟨41, _⟩ => ⟨S_, .f32⟩
  | .hbm, ⟨42, _⟩ => ⟨S1x2x2x4096, .f32⟩
  | .hbm, ⟨43, _⟩ => ⟨S1x2x2x4096x1, .f32⟩
  | .hbm, ⟨44, _⟩ => ⟨S1x2x2x4096x4352, .f32⟩
  | .hbm, ⟨45, _⟩ => ⟨S1x2x2x4096x4352, .f32⟩
  | .hbm, ⟨46, _⟩ => ⟨S1x2x2x4096x4352, .f32⟩
  | .hbm, ⟨47, _⟩ => ⟨S_, .f32⟩
  | .hbm, ⟨48, _⟩ => ⟨S1x2x2x4096, .f32⟩
  | .hbm, ⟨49, _⟩ => ⟨S1x2x2x4096, .f32⟩
  | .hbm, ⟨50, _⟩ => ⟨S1x2x2x4096, .f32⟩
  | .hbm, ⟨51, _⟩ => ⟨S_, .f32⟩
  | .hbm, ⟨52, _⟩ => ⟨S_, .f32⟩
  | .hbm, ⟨53, _⟩ => ⟨S1x2x2x4096, .f32⟩
  | .hbm, ⟨54, _⟩ => ⟨S1x2x2x4096, .f32⟩
  | .hbm, ⟨55, _⟩ => ⟨S1x2x2x4096x1, .f32⟩
  | .hbm, ⟨56, _⟩ => ⟨S1x2x2x4096x128, .f32⟩
  | .hbm, ⟨57, _⟩ => ⟨S1x4x4096x128, .bf16⟩
  | .hbm, ⟨58, _⟩ => ⟨S1x4096x4x128, .bf16⟩
  | .hbm, ⟨59, _⟩ => ⟨S1x4096x512, .bf16⟩
  | .hbm, ⟨60, _⟩ => ⟨S4096x512, .bf16⟩
  | .hbm, ⟨61, _⟩ => ⟨S_, .i32⟩
  | .hbm, ⟨62, _⟩ => ⟨S_, .bf16⟩
  | .hbm, ⟨63, _⟩ => ⟨S4352x512, .bf16⟩
  | .hbm, ⟨64, _⟩ => ⟨S_, .i32⟩
  | .hbm, ⟨65, _⟩ => ⟨S_, .bf16⟩
  | .hbm, ⟨66, _⟩ => ⟨S4352x2048, .bf16⟩
  | .hbm, ⟨67, _⟩ => ⟨S1x4x4096x128, .f32⟩
  | .hbm, ⟨68, _⟩ => ⟨S1x4096x4x128, .f32⟩
  | .hbm, ⟨69, _⟩ => ⟨S1x4096x512, .f32⟩
  | .hbm, ⟨70, _⟩ => ⟨S4096x512, .f32⟩
  | .hbm, ⟨71, _⟩ => ⟨S_, .i32⟩
  | .hbm, ⟨72, _⟩ => ⟨S_, .f32⟩
  | .hbm, ⟨73, _⟩ => ⟨S4352x512, .f32⟩
  | .hbm, ⟨74, _⟩ => ⟨S4352x512, .f32⟩
  | .hbm, ⟨75, _⟩ => ⟨S4352x256, .f32⟩
  | .hbm, ⟨76, _⟩ => ⟨S4352x256, .f32⟩
  | .local _ .vmem, ⟨0, _⟩ => ⟨S256x256, .bf16⟩
  | .local _ .vmem, ⟨1, _⟩ => ⟨S256x256, .bf16⟩
  | .local _ .vmem, ⟨2, _⟩ => ⟨S4352x128, .bf16⟩
  | .local _ .vmem, ⟨3, _⟩ => ⟨S4352x128, .bf16⟩
  | .local _ .vmem, ⟨4, _⟩ => ⟨S4352x128, .bf16⟩
  | .local _ .vmem, ⟨5, _⟩ => ⟨S4352x128, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S4352x128, .f32⟩
  | .local _ .vmem, ⟨15, _⟩ => ⟨S4352x128, .f32⟩
  | .local _ .vmem, ⟨16, _⟩ => ⟨S4352x128, .f32⟩
  | .local _ .vmem, ⟨17, _⟩ => ⟨S4352x128, .f32⟩
  | _, _ => ⟨S4352x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_3 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_4 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_5 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_6 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_c : Ref sig .tc := ⟨.hbm, 61, rfl⟩
abbrev main_call0_v0 : Ref sig .tc := ⟨.hbm, 62, rfl⟩
abbrev main_v51 : Ref sig .tc := ⟨.hbm, 63, rfl⟩
abbrev main_c_7 : Ref sig .tc := ⟨.hbm, 64, rfl⟩
abbrev main_call1_v0 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_c_8 : Ref sig .tc := ⟨.hbm, 71, rfl⟩
abbrev main_call2_v0 : Ref sig .tc := ⟨.hbm, 72, rfl⟩
abbrev main_v57 : Ref sig .tc := ⟨.hbm, 73, rfl⟩
abbrev main_v58_0 : Ref sig .tc := ⟨.hbm, 74, rfl⟩
abbrev main_v58_1 : Ref sig .tc := ⟨.hbm, 75, rfl⟩
abbrev main_v58_2 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 17], ![false, false]⟩

def k0_cond2 (i : grid0.Coords) : BitVec 1 :=
  let arg1 : BitVec 32 := BitVec.ofNat 32 (i 1).val
  let c256_i32 : BitVec 32 := 256#32
  let v3 : BitVec 32 := Scalar.muli arg1 c256_i32
  let c4096_i32 : BitVec 32 := 4096#32
  let v4 : BitVec 1 := Scalar.cmpi .slt v3 c4096_i32
  let v5 : BitVec 32 := Scalar.extui v4
  let c0_i32_1 : BitVec 32 := 0#32
  let v6 : BitVec 1 := Scalar.cmpi .ne v5 c0_i32_1
  v6

def k0_cond3 (i : grid0.Coords) : BitVec 1 :=
  let arg1 : BitVec 32 := BitVec.ofNat 32 (i 1).val
  let c256_i32_2 : BitVec 32 := 256#32
  let v7 : BitVec 32 := Scalar.muli arg1 c256_i32_2
  let c4096_i32_3 : BitVec 32 := 4096#32
  let v8 : BitVec 1 := Scalar.cmpi .sge v7 c4096_i32_3
  let v9 : BitVec 32 := Scalar.extui v8
  let c0_i32_4 : BitVec 32 := 0#32
  let v10 : BitVec 1 := Scalar.cmpi .ne v9 c0_i32_4
  v10

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.addi c30_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c6_i32 : BitVec 32 := 6#32
  let v1 : BitVec 32 := Scalar.addi c6_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4352x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4352x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "scale2" => some (((11863283 / 134217728) * (Real.log 2)⁻¹ : ℝ) : EReal)
  | _ => none
-- ==== ReferenceIdeal.lean ====
abbrev S4352x4224 : Shape := ⟨2, ![4352, 4224]⟩
abbrev S4096x2048 : Shape := ⟨2, ![4096, 2048]⟩
abbrev S4352x512 : Shape := ⟨2, ![4352, 512]⟩
abbrev S4352x256 : Shape := ⟨2, ![4352, 256]⟩
abbrev S4096x512 : Shape := ⟨2, ![4096, 512]⟩
abbrev S1x4096x512 : Shape := ⟨3, ![1, 4096, 512]⟩
abbrev S1x4096x4x128 : Shape := ⟨4, ![1, 4096, 4, 128]⟩
abbrev S1x4x4096x128 : Shape := ⟨4, ![1, 4, 4096, 128]⟩
abbrev S1x2x2x4096x128 : Shape := ⟨5, ![1, 2, 2, 4096, 128]⟩
abbrev S1x4352x256 : Shape := ⟨3, ![1, 4352, 256]⟩
abbrev S1x4352x2x128 : Shape := ⟨4, ![1, 4352, 2, 128]⟩
abbrev S1x2x4352x128 : Shape := ⟨4, ![1, 2, 4352, 128]⟩
abbrev S1x2x2x4096x4352 : Shape := ⟨5, ![1, 2, 2, 4096, 4352]⟩
abbrev S_ : Shape := ⟨0, ![]⟩
abbrev S1x2x2x4096 : Shape := ⟨4, ![1, 2, 2, 4096]⟩
abbrev S1x2x2x4096x1 : Shape := ⟨5, ![1, 2, 2, 4096, 1]⟩
abbrev S1x2x128x4352 : Shape := ⟨4, ![1, 2, 128, 4352]⟩
abbrev S2x2x4096 : Shape := ⟨3, ![2, 2, 4096]⟩

abbrev nBuf : Space → Nat
  | .hbm => 117
  | .vmem => 0
  | .smem => 0
  | _ => 0

abbrev bufTy : (tb : Table) → Fin (tcTables nBuf tb) → BufTy
  | .hbm, ⟨0, _⟩ => ⟨S4352x4224, .bf16⟩
  | .hbm, ⟨1, _⟩ => ⟨S4096x2048, .bf16⟩
  | .hbm, ⟨2, _⟩ => ⟨S4352x512, .bf16⟩
  | .hbm, ⟨3, _⟩ => ⟨S4352x256, .bf16⟩
  | .hbm, ⟨4, _⟩ => ⟨S4352x256, .bf16⟩
  | .hbm, ⟨5, _⟩ => ⟨S4096x512, .bf16⟩
  | .hbm, ⟨6, _⟩ => ⟨S1x4096x512, .bf16⟩
  | .hbm, ⟨7, _⟩ => ⟨S1x4096x4x128, .bf16⟩
  | .hbm, ⟨8, _⟩ => ⟨S1x4x4096x128, .bf16⟩
  | .hbm, ⟨9, _⟩ => ⟨S1x2x2x4096x128, .bf16⟩
  | .hbm, ⟨10, _⟩ => ⟨S1x4352x256, .bf16⟩
  | .hbm, ⟨11, _⟩ => ⟨S1x4352x2x128, .bf16⟩
  | .hbm, ⟨12, _⟩ => ⟨S1x2x4352x128, .bf16⟩
  | .hbm, ⟨13, _⟩ => ⟨S1x4352x256, .bf16⟩
  | .hbm, ⟨14, _⟩ => ⟨S1x4352x2x128, .bf16⟩
  | .hbm, ⟨15, _⟩ => ⟨S1x2x4352x128, .bf16⟩
  | .hbm, ⟨16, _⟩ => ⟨S1x2x2x4096x4352, .f32⟩
  | .hbm, ⟨17, _⟩ => ⟨S_, .f32⟩
  | .hbm, ⟨18, _⟩ => ⟨S1x2x2x4096x4352, .f32⟩
  | .hbm, ⟨19, _⟩ => ⟨S1x2x2x4096x4352, .f32⟩
  | .hbm, ⟨20, _⟩ => ⟨S_, .f32⟩
  | .hbm, ⟨21, _⟩ => ⟨S1x2x2x4096, .f32⟩
  | .hbm, ⟨22, _⟩ => ⟨S1x2x2x4096x1, .f32⟩
  | .hbm, ⟨23, _⟩ => ⟨S1x2x2x4096x4352, .f32⟩
  | .hbm, ⟨24, _⟩ => ⟨S1x2x2x4096x4352, .i1⟩
  | .hbm, ⟨25, _⟩ => ⟨S1x2x2x4096x4352, .f32⟩
  | .hbm, ⟨26, _⟩ => ⟨S_, .f32⟩
  | .hbm, ⟨27, _⟩ => ⟨S1x2x2x4096, .f32⟩
  | .hbm, ⟨28, _⟩ => ⟨S_, .f32⟩
  | .hbm, ⟨29, _⟩ => ⟨S1x2x2x4096, .f32⟩
  | .hbm, ⟨30, _⟩ => ⟨S1x2x2x4096, .f32⟩
  | .hbm, ⟨31, _⟩ => ⟨S_, .f32⟩
  | .hbm, ⟨32, _⟩ => ⟨S1x2x2x4096, .f32⟩
  | .hbm, ⟨33, _⟩ => ⟨S1x2x2x4096, .i1⟩
  | .hbm, ⟨34, _⟩ => ⟨S_, .f32⟩
  | .hbm, ⟨35, _⟩ => ⟨S1x2x2x4096, .f32⟩
  | .hbm, ⟨36, _⟩ => ⟨S1x2x2x4096, .i1⟩
  | .hbm, ⟨37, _⟩ => ⟨S_, .f32⟩
  | .hbm, ⟨38, _⟩ => ⟨S1x2x2x4096, .f32⟩
  | .hbm, ⟨39, _⟩ => ⟨S_, .f32⟩
  | .hbm, ⟨40, _⟩ => ⟨S1x2x2x4096, .f32⟩
  | .hbm, ⟨41, _⟩ => ⟨S_, .f32⟩
  | .hbm, ⟨42, _⟩ => ⟨S1x2x2x4096, .f32⟩
  | .hbm, ⟨43, _⟩ => ⟨S1x2x2x4096, .f32⟩
  | .hbm, ⟨44, _⟩ => ⟨S1x2x2x4096, .f32⟩
  | .hbm, ⟨45, _⟩ => ⟨S1x2x2x4096x1, .f32⟩
  | .hbm, ⟨46, _⟩ => ⟨S1x2x2x4096x4352, .f32⟩
  | .hbm, ⟨47, _⟩ => ⟨S1x2x2x4096x4352, .f32⟩
  | .hbm, ⟨48, _⟩ => ⟨S1x2x2x4096x4352, .f32⟩
  | .hbm, ⟨49, _⟩ => ⟨S_, .f32⟩
  | .hbm, ⟨50, _⟩ => ⟨S1x2x2x4096, .f32⟩
  | .hbm, ⟨51, _⟩ => ⟨S1x2x2x4096x1, .f32⟩
  | .hbm, ⟨52, _⟩ => ⟨S1x2x2x4096x4352, .f32⟩
  | .hbm, ⟨53, _⟩ => ⟨S1x2x2x4096x4352, .f32⟩
  | .hbm, ⟨54, _⟩ => ⟨S1x2x2x4096x1, .f32⟩
  | .hbm, ⟨55, _⟩ => ⟨S_, .f32⟩
  | .hbm, ⟨56, _⟩ => ⟨S1x2x2x4096x1, .f32⟩
  | .hbm, ⟨57, _⟩ => ⟨S1x2x2x4096x1, .f32⟩
  | .hbm, ⟨58, _⟩ => ⟨S1x2x2x4096x4352, .bf16⟩
  | .hbm, ⟨59, _⟩ => ⟨S1x2x2x4096x128, .f32⟩
  | .hbm, ⟨60, _⟩ => ⟨S1x2x2x4096x128, .bf16⟩
  | .hbm, ⟨61, _⟩ => ⟨S1x4x4096x128, .bf16⟩
  | .hbm, ⟨62, _⟩ => ⟨S1x4096x4x128, .bf16⟩
  | .hbm, ⟨63, _⟩ => ⟨S1x4096x512, .bf16⟩
  | .hbm, ⟨64, _⟩ => ⟨S4096x512, .bf16⟩
  | .hbm, ⟨65, _⟩ => ⟨S4096x512, .bf16⟩
  | .hbm, ⟨66, _⟩ => ⟨S1x4096x512, .bf16⟩
  | .hbm, ⟨67, _⟩ => ⟨S1x4096x4x128, .bf16⟩
  | .hbm, ⟨68, _⟩ => ⟨S1x4x4096x128, .bf16⟩
  | .hbm, ⟨69, _⟩ => ⟨S1x2x2x4096x128, .bf16⟩
  | .hbm, ⟨70, _⟩ => ⟨S1x2x2x4096x128, .f32⟩
  | .hbm, ⟨71, _⟩ => ⟨S1x2x128x4352, .f32⟩
  | .hbm, ⟨72, _⟩ => ⟨S1x2x4352x128, .f32⟩
  | .hbm, ⟨73, _⟩ => ⟨S1x2x4352x128, .bf16⟩
  | .hbm, ⟨74, _⟩ => ⟨S1x2x2x4096x4352, .f32⟩
  | .hbm, ⟨75, _⟩ => ⟨S1x2x2x4096x4352, .bf16⟩
  | .hbm, ⟨76, _⟩ => ⟨S1x2x2x4096x4352, .f32⟩
  | .hbm, ⟨77, _⟩ => ⟨S1x2x2x4096x4352, .f32⟩
  | .hbm, ⟨78, _⟩ => ⟨S1x2x2x4096x4352, .f32⟩
  | .hbm, ⟨79, _⟩ => ⟨S1x2x2x4096x4352, .f32⟩
  | .hbm, ⟨80, _⟩ => ⟨S_, .f32⟩
  | .hbm, ⟨81, _⟩ => ⟨S1x2x2x4096, .f32⟩
  | .hbm, ⟨82, _⟩ => ⟨S1x2x2x4096x1, .f32⟩
  | .hbm, ⟨83, _⟩ => ⟨S1x2x2x4096x1, .f32⟩
  | .hbm, ⟨84, _⟩ => ⟨S1x2x2x4096x4352, .f32⟩
  | .hbm, ⟨85, _⟩ => ⟨S1x2x2x4096x4352, .f32⟩
  | .hbm, ⟨86, _⟩ => ⟨S_, .f32⟩
  | .hbm, ⟨87, _⟩ => ⟨S2x2x4096, .f32⟩
  | .hbm, ⟨88, _⟩ => ⟨S1x2x2x4096, .f32⟩
  | .hbm, ⟨89, _⟩ => ⟨S1x2x2x4096x4352, .f32⟩
  | .hbm, ⟨90, _⟩ => ⟨S1x2x2x4096x4352, .f32⟩
  | .hbm, ⟨91, _⟩ => ⟨S1x2x2x4096x4352, .f32⟩
  | .hbm, ⟨92, _⟩ => ⟨S_, .f32⟩
  | .hbm, ⟨93, _⟩ => ⟨S1x2x2x4096x4352, .f32⟩
  | .hbm, ⟨94, _⟩ => ⟨S1x2x2x4096x4352, .f32⟩
  | .hbm, ⟨95, _⟩ => ⟨S1x2x4352x128, .f32⟩
  | .hbm, ⟨96, _⟩ => ⟨S1x2x4352x128, .bf16⟩
  | .hbm, ⟨97, _⟩ => ⟨S1x2x2x4096x128, .f32⟩
  | .hbm, ⟨98, _⟩ => ⟨S1x2x2x4096x128, .bf16⟩
  | .hbm, ⟨99, _⟩ => ⟨S1x4352x2x128, .bf16⟩
  | .hbm, ⟨100, _⟩ => ⟨S1x4352x256, .bf16⟩
  | .hbm, ⟨101, _⟩ => ⟨S_, .bf16⟩
  | .hbm, ⟨102, _⟩ => ⟨S4352x256, .bf16⟩
  | .hbm, ⟨103, _⟩ => ⟨S1x4352x2x128, .bf16⟩
  | .hbm, ⟨104, _⟩ => ⟨S1x4352x256, .bf16⟩
  | .hbm, ⟨105, _⟩ => ⟨S_, .bf16⟩
  | .hbm, ⟨106, _⟩ => ⟨S4352x256, .bf16⟩
  | .hbm, ⟨107, _⟩ => ⟨S1x4x4096x128, .bf16⟩
  | .hbm, ⟨108, _⟩ => ⟨S1x4096x4x128, .bf16⟩
  | .hbm, ⟨109, _⟩ => ⟨S1x4096x512, .bf16⟩
  | .hbm, ⟨110, _⟩ => ⟨S_, .bf16⟩
  | .hbm, ⟨111, _⟩ => ⟨S4096x512, .bf16⟩
  | .hbm, ⟨112, _⟩ => ⟨S_, .bf16⟩
  | .hbm, ⟨113, _⟩ => ⟨S4352x512, .bf16⟩
  | .hbm, ⟨114, _⟩ => ⟨S4352x512, .f32⟩
  | .hbm, ⟨115, _⟩ => ⟨S4352x256, .f32⟩
  | .hbm, ⟨116, _⟩ => ⟨S4352x256, .f32⟩
  | _, _ => ⟨S4352x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_v25 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_8 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_9 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_cst_10 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_11 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_cst_12 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_cst_13 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_cst_14 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_cst_15 : Ref sig .tc := ⟨.hbm, 110, rfl⟩
abbrev main_v92 : Ref sig .tc := ⟨.hbm, 111, rfl⟩
abbrev main_cst_16 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩

abbrev nD : Nat := 1
abbrev τ : Topo := Topo.v7x

variable {F : FTy → Type} [FloatOps F]
-- ==== DownX.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownXIdeal.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownXRefIdeal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S_, .bf16⟩
  | .hbm, ⟨3, _⟩ => ⟨S4096x5632, .bf16⟩
  | .hbm, ⟨4, _⟩ => ⟨S4096x5632, .f32⟩
  | .hbm, ⟨5, _⟩ => ⟨S5632x2048, .f32⟩
  | .hbm, ⟨6, _⟩ => ⟨S4096x2048, .f32⟩
  | .hbm, ⟨7, _⟩ => ⟨S4096x2048, .f32⟩
  | .hbm, ⟨8, _⟩ => ⟨S4096x5632, .f32⟩
  | .hbm, ⟨9, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownW.lean ====
abbrev S4096x5632 : Shape := ⟨2, ![4096, 5632]⟩
abbrev S4096x2048 : Shape := ⟨2, ![4096, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWIdeal.lean ====
abbrev S4096x5632 : Shape := ⟨2, ![4096, 5632]⟩
abbrev S4096x2048 : Shape := ⟨2, ![4096, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== In.lean ====
abbrev S4352x2048 : Shape := ⟨2, ![4352, 2048]⟩
abbrev S4224x2048 : Shape := ⟨2, ![4224, 2048]⟩
abbrev S4352x4224 : Shape := ⟨2, ![4352, 4224]⟩
abbrev S1088x2048 : Shape := ⟨2, ![1088, 2048]⟩
abbrev S1408x2048 : Shape := ⟨2, ![1408, 2048]⟩
abbrev S1088x1408 : Shape := ⟨2, ![1088, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4224x2048, .bf16⟩
  | .hbm, ⟨2, _⟩ => ⟨S4352x4224, .bf16⟩
  | .local _ .vmem, ⟨0, _⟩ => ⟨S1088x2048, .bf16⟩
  | .local _ .vmem, ⟨1, _⟩ => ⟨S1088x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1088x1408, .bf16⟩
  | .local _ .vmem, ⟨5, _⟩ => ⟨S1088x1408, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S4352x2048 : Shape := ⟨2, ![4352, 2048]⟩
abbrev S4224x2048 : Shape := ⟨2, ![4224, 2048]⟩
abbrev S2048x4224 : Shape := ⟨2, ![2048, 4224]⟩
abbrev S4352x4224 : Shape := ⟨2, ![4352, 4224]⟩

abbrev nBuf : Space → Nat
  | .hbm => 7
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4224x2048, .bf16⟩
  | .hbm, ⟨2, _⟩ => ⟨S2048x4224, .bf16⟩
  | .hbm, ⟨3, _⟩ => ⟨S4352x2048, .f32⟩
  | .hbm, ⟨4, _⟩ => ⟨S2048x4224, .f32⟩
  | .hbm, ⟨5, _⟩ => ⟨S4352x4224, .f32⟩
  | .hbm, ⟨6, _⟩ => ⟨S4352x4224, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InX.lean ====
abbrev S4352x4224 : Shape := ⟨2, ![4352, 4224]⟩
abbrev S4224x2048 : Shape := ⟨2, ![4224, 2048]⟩
abbrev S4352x2048 : Shape := ⟨2, ![4352, 2048]⟩
abbrev S1088x1408 : Shape := ⟨2, ![1088, 1408]⟩
abbrev S1408x1024 : Shape := ⟨2, ![1408, 1024]⟩
abbrev S1088x1024 : Shape := ⟨2, ![1088, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x4224, .bf16⟩
  | .hbm, ⟨1, _⟩ => ⟨S4224x2048, .bf16⟩
  | .hbm, ⟨2, _⟩ => ⟨S4352x2048, .f32⟩
  | .local _ .vmem, ⟨0, _⟩ => ⟨S1088x1408, .bf16⟩
  | .local _ .vmem, ⟨1, _⟩ => ⟨S1088x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32_6 : BitVec 32 := 2#32
  let v11 : BitVec 1 := Scalar.cmpi .eq arg2 c2_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InXRefIdeal.lean ====
abbrev S4352x4224 : Shape := ⟨2, ![4352, 4224]⟩
abbrev S4224x2048 : Shape := ⟨2, ![4224, 2048]⟩
abbrev S_ : Shape := ⟨0, ![]⟩
abbrev S4352x2048 : Shape := ⟨2, ![4352, 2048]⟩
abbrev S2048x4224 : Shape := ⟨2, ![2048, 4224]⟩

abbrev nBuf : Space → Nat
  | .hbm => 9
  | .vmem => 0
  | .smem => 0
  | _ => 0

abbrev bufTy : (tb : Table) → Fin (tcTables nBuf tb) → BufTy
  | .hbm, ⟨0, _⟩ => ⟨S4352x4224, .bf16⟩
  | .hbm, ⟨1, _⟩ => ⟨S4224x2048, .bf16⟩
  | .hbm, ⟨2, _⟩ => ⟨S_, .f32⟩
  | .hbm, ⟨3, _⟩ => ⟨S4352x2048, .f32⟩
  | .hbm, ⟨4, _⟩ => ⟨S2048x4224, .bf16⟩
  | .hbm, ⟨5, _⟩ => ⟨S2048x4224, .f32⟩
  | .hbm, ⟨6, _⟩ => ⟨S4352x4224, .f32⟩
  | .hbm, ⟨7, _⟩ => ⟨S4352x4224, .f32⟩
  | .hbm, ⟨8, _⟩ => ⟨S4352x2048, .f32⟩
  | _, _ => ⟨S4352x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InW.lean ====
abbrev S4352x4224 : Shape := ⟨2, ![4352, 4224]⟩
abbrev S4352x2048 : Shape := ⟨2, ![4352, 2048]⟩
abbrev S4224x2048 : Shape := ⟨2, ![4224, 2048]⟩
abbrev S2176x1408 : Shape := ⟨2, ![2176, 1408]⟩
abbrev S2176x1024 : Shape := ⟨2, ![2176, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x4224, .bf16⟩
  | .hbm, ⟨1, _⟩ => ⟨S4352x2048, .bf16⟩
  | .hbm, ⟨2, _⟩ => ⟨S4224x2048, .f32⟩
  | .local _ .vmem, ⟨0, _⟩ => ⟨S2176x1408, .bf16⟩
  | .local _ .vmem, ⟨1, _⟩ => ⟨S2176x1408, .bf16⟩
  | .local _ .vmem, ⟨2, _⟩ => ⟨S2176x1024, .bf16⟩
  | .local _ .vmem, ⟨3, _⟩ => ⟨S2176x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4352x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWRefIdeal.lean ====
abbrev S4352x4224 : Shape := ⟨2, ![4352, 4224]⟩
abbrev S4352x2048 : Shape := ⟨2, ![4352, 2048]⟩
abbrev S_ : Shape := ⟨0, ![]⟩
abbrev S4224x2048 : Shape := ⟨2, ![4224, 2048]⟩
abbrev S2048x4224 : Shape := ⟨2, ![2048, 4224]⟩

abbrev nBuf : Space → Nat
  | .hbm => 11
  | .vmem => 0
  | .smem => 0
  | _ => 0

abbrev bufTy : (tb : Table) → Fin (tcTables nBuf tb) → BufTy
  | .hbm, ⟨0, _⟩ => ⟨S4352x4224, .bf16⟩
  | .hbm, ⟨1, _⟩ => ⟨S4352x2048, .bf16⟩
  | .hbm, ⟨2, _⟩ => ⟨S_, .f32⟩
  | .hbm, ⟨3, _⟩ => ⟨S4224x2048, .f32⟩
  | .hbm, ⟨4, _⟩ => ⟨S2048x4224, .f32⟩
  | .hbm, ⟨5, _⟩ => ⟨S4352x2048, .f32⟩
  | .hbm, ⟨6, _⟩ => ⟨S4352x4224, .f32⟩
  | .hbm, ⟨7, _⟩ => ⟨S4352x4224, .f32⟩
  | .hbm, ⟨8, _⟩ => ⟨S4224x2048, .f32⟩
  | .hbm, ⟨9, _⟩ => ⟨S2048x4224, .f32⟩
  | .hbm, ⟨10, _⟩ => ⟨S4224x2048, .f32⟩
  | _, _ => ⟨S4352x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GateW.lean ====
abbrev S4096x2048 : Shape := ⟨2, ![4096, 2048]⟩
abbrev S4096x5632 : Shape := ⟨2, ![4096, 5632]⟩
abbrev S1x4x2048x1408 : Shape := ⟨4, ![1, 4, 2048, 1408]⟩
abbrev S2048x1024 : Shape := ⟨2, ![2048, 1024]⟩
abbrev S2048x1408 : Shape := ⟨2, ![2048, 1408]⟩
abbrev S1x1x1024x1408 : Shape := ⟨4, ![1, 1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S1x4x2048x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1x1024x1408, .f32⟩
  | .local _ .vmem, ⟨5, _⟩ => ⟨S1x1x1024x1408, .f32⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateWIdeal.lean ====
abbrev S4096x2048 : Shape := ⟨2, ![4096, 2048]⟩
abbrev S4096x5632 : Shape := ⟨2, ![4096, 5632]⟩
abbrev S1x4x2048x1408 : Shape := ⟨4, ![1, 4, 2048, 1408]⟩
abbrev S2048x1024 : Shape := ⟨2, ![2048, 1024]⟩
abbrev S2048x1408 : Shape := ⟨2, ![2048, 1408]⟩
abbrev S1x1x1024x1408 : Shape := ⟨4, ![1, 1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S1x4x2048x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1x1024x1408, .f32⟩
  | .local _ .vmem, ⟨5, _⟩ => ⟨S1x1x1024x1408, .f32⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateWRefIdeal.lean ====
abbrev S4096x2048 : Shape := ⟨2, ![4096, 2048]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩
abbrev S1x4x2048x1408 : Shape := ⟨4, ![1, 4, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S_, .f32⟩
  | .hbm, ⟨3, _⟩ => ⟨S2048x5632, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S5632x2048, .f32⟩
  | .hbm, ⟨8, _⟩ => ⟨S2048x5632, .f32⟩
  | .hbm, ⟨9, _⟩ => ⟨S2048x4x1408, .f32⟩
  | .hbm, ⟨10, _⟩ => ⟨S4x2048x1408, .f32⟩
  | .hbm, ⟨11, _⟩ => ⟨S1x4x2048x1408, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GateX.lean ====
abbrev S4096x5632 : Shape := ⟨2, ![4096, 5632]⟩
abbrev S2048x5632 : Shape := ⟨2, ![2048, 5632]⟩
abbrev S4096x2048 : Shape := ⟨2, ![4096, 2048]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .bf16⟩
  | .hbm, ⟨2, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateXIdeal.lean ====
abbrev S4096x5632 : Shape := ⟨2, ![4096, 5632]⟩
abbrev S2048x5632 : Shape := ⟨2, ![2048, 5632]⟩
abbrev S4096x2048 : Shape := ⟨2, ![4096, 2048]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .bf16⟩
  | .hbm, ⟨2, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateXRefIdeal.lean ====
abbrev S4096x5632 : Shape := ⟨2, ![4096, 5632]⟩
abbrev S2048x5632 : Shape := ⟨2, ![2048, 5632]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .bf16⟩
  | .hbm, ⟨2, _⟩ => ⟨S_, .f32⟩
  | .hbm, ⟨3, _⟩ => ⟨S4096x2048, .f32⟩
  | .hbm, ⟨4, _⟩ => ⟨S2048x5632, .f32⟩
  | .hbm, ⟨5, _⟩ => ⟨S4096x5632, .f32⟩
  | .hbm, ⟨6, _⟩ => ⟨S4096x5632, .f32⟩
  | .hbm, ⟨7, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpX.lean ====
abbrev S4096x5632 : Shape := ⟨2, ![4096, 5632]⟩
abbrev S2048x5632 : Shape := ⟨2, ![2048, 5632]⟩
abbrev S4096x2048 : Shape := ⟨2, ![4096, 2048]⟩
abbrev S512x2816 : Shape := ⟨2, ![512, 2816]⟩
abbrev S1024x2816 : Shape := ⟨2, ![1024, 2816]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .bf16⟩
  | .hbm, ⟨2, _⟩ => ⟨S4096x2048, .f32⟩
  | .hbm, ⟨3, _⟩ => ⟨S4096x2048, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S1024x2816, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpXIdeal.lean ====
abbrev S4096x5632 : Shape := ⟨2, ![4096, 5632]⟩
abbrev S2048x5632 : Shape := ⟨2, ![2048, 5632]⟩
abbrev S4096x2048 : Shape := ⟨2, ![4096, 2048]⟩
abbrev S512x2816 : Shape := ⟨2, ![512, 2816]⟩
abbrev S1024x2816 : Shape := ⟨2, ![1024, 2816]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .bf16⟩
  | .hbm, ⟨2, _⟩ => ⟨S4096x2048, .f32⟩
  | .hbm, ⟨3, _⟩ => ⟨S4096x2048, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S1024x2816, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpXRefIdeal.lean ====
abbrev S4096x5632 : Shape := ⟨2, ![4096, 5632]⟩
abbrev S2048x5632 : Shape := ⟨2, ![2048, 5632]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S2048x5632, .f32⟩
  | .hbm, ⟨6, _⟩ => ⟨S4096x5632, .f32⟩
  | .hbm, ⟨7, _⟩ => ⟨S4096x5632, .f32⟩
  | .hbm, ⟨8, _⟩ => ⟨S4096x2048, .f32⟩
  | .hbm, ⟨9, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DownX0.lean ====
abbrev S4352x2048 : Shape := ⟨2, ![4352, 2048]⟩
abbrev S5632x2048 : Shape := ⟨2, ![5632, 2048]⟩
abbrev S4352x5632 : Shape := ⟨2, ![4352, 5632]⟩
abbrev S1088x2048 : Shape := ⟨2, ![1088, 2048]⟩
abbrev S1408x2048 : Shape := ⟨2, ![1408, 2048]⟩
abbrev S1088x1408 : Shape := ⟨2, ![1088, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S5632x2048, .bf16⟩
  | .hbm, ⟨2, _⟩ => ⟨S4352x5632, .bf16⟩
  | .local _ .vmem, ⟨0, _⟩ => ⟨S1088x2048, .bf16⟩
  | .local _ .vmem, ⟨1, _⟩ => ⟨S1088x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1088x1408, .bf16⟩
  | .local _ .vmem, ⟨5, _⟩ => ⟨S1088x1408, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownX0RefIdeal.lean ====
abbrev S4352x2048 : Shape := ⟨2, ![4352, 2048]⟩
abbrev S5632x2048 : Shape := ⟨2, ![5632, 2048]⟩
abbrev S_ : Shape := ⟨0, ![]⟩
abbrev S4352x5632 : Shape := ⟨2, ![4352, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S5632x2048, .bf16⟩
  | .hbm, ⟨2, _⟩ => ⟨S_, .bf16⟩
  | .hbm, ⟨3, _⟩ => ⟨S4352x5632, .bf16⟩
  | .hbm, ⟨4, _⟩ => ⟨S4352x5632, .f32⟩
  | .hbm, ⟨5, _⟩ => ⟨S5632x2048, .f32⟩
  | .hbm, ⟨6, _⟩ => ⟨S4352x2048, .f32⟩
  | .hbm, ⟨7, _⟩ => ⟨S4352x2048, .f32⟩
  | .hbm, ⟨8, _⟩ => ⟨S4352x5632, .f32⟩
  | .hbm, ⟨9, _⟩ => ⟨S4352x5632, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownW0.lean ====
abbrev S4352x5632 : Shape := ⟨2, ![4352, 5632]⟩
abbrev S4352x2048 : Shape := ⟨2, ![4352, 2048]⟩
abbrev S5632x2048 : Shape := ⟨2, ![5632, 2048]⟩
abbrev S2176x1408 : Shape := ⟨2, ![2176, 1408]⟩
abbrev S2176x1024 : Shape := ⟨2, ![2176, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x5632, .bf16⟩
  | .hbm, ⟨1, _⟩ => ⟨S4352x2048, .bf16⟩
  | .hbm, ⟨2, _⟩ => ⟨S5632x2048, .f32⟩
  | .local _ .vmem, ⟨0, _⟩ => ⟨S2176x1408, .bf16⟩
  | .local _ .vmem, ⟨1, _⟩ => ⟨S2176x1408, .bf16⟩
  | .local _ .vmem, ⟨2, _⟩ => ⟨S2176x1024, .bf16⟩
  | .local _ .vmem, ⟨3, _⟩ => ⟨S2176x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownW0RefIdeal.lean ====
abbrev S4352x5632 : Shape := ⟨2, ![4352, 5632]⟩
abbrev S4352x2048 : Shape := ⟨2, ![4352, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S4352x2048, .bf16⟩
  | .hbm, ⟨2, _⟩ => ⟨S_, .f32⟩
  | .hbm, ⟨3, _⟩ => ⟨S5632x2048, .f32⟩
  | .hbm, ⟨4, _⟩ => ⟨S4352x5632, .f32⟩
  | .hbm, ⟨5, _⟩ => ⟨S4352x2048, .f32⟩
  | .hbm, ⟨6, _⟩ => ⟨S4352x2048, .f32⟩
  | .hbm, ⟨7, _⟩ => ⟨S2048x5632, .f32⟩
  | .hbm, ⟨8, _⟩ => ⟨S5632x2048, .f32⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GateW0.lean ====
abbrev S4352x2048 : Shape := ⟨2, ![4352, 2048]⟩
abbrev S4352x5632 : Shape := ⟨2, ![4352, 5632]⟩
abbrev S1x4x2048x1408 : Shape := ⟨4, ![1, 4, 2048, 1408]⟩
abbrev S2176x1024 : Shape := ⟨2, ![2176, 1024]⟩
abbrev S2176x1408 : Shape := ⟨2, ![2176, 1408]⟩
abbrev S1x1x1024x1408 : Shape := ⟨4, ![1, 1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x5632, .bf16⟩
  | .hbm, ⟨2, _⟩ => ⟨S1x4x2048x1408, .f32⟩
  | .local _ .vmem, ⟨0, _⟩ => ⟨S2176x1024, .bf16⟩
  | .local _ .vmem, ⟨1, _⟩ => ⟨S2176x1024, .bf16⟩
  | .local _ .vmem, ⟨2, _⟩ => ⟨S2176x1408, .bf16⟩
  | .local _ .vmem, ⟨3, _⟩ => ⟨S2176x1408, .bf16⟩
  | .local _ .vmem, ⟨4, _⟩ => ⟨S1x1x1024x1408, .f32⟩
  | .local _ .vmem, ⟨5, _⟩ => ⟨S1x1x1024x1408, .f32⟩
  | .local _ .vmem, ⟨6, _⟩ => ⟨S1024x1408, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg0.toNat, v26.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateW0RefIdeal.lean ====
abbrev S4352x2048 : Shape := ⟨2, ![4352, 2048]⟩
abbrev S4352x5632 : Shape := ⟨2, ![4352, 5632]⟩
abbrev S_ : Shape := ⟨0, ![]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩
abbrev S1x4x2048x1408 : Shape := ⟨4, ![1, 4, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x5632, .bf16⟩
  | .hbm, ⟨2, _⟩ => ⟨S_, .f32⟩
  | .hbm, ⟨3, _⟩ => ⟨S2048x5632, .f32⟩
  | .hbm, ⟨4, _⟩ => ⟨S4352x2048, .f32⟩
  | .hbm, ⟨5, _⟩ => ⟨S4352x5632, .f32⟩
  | .hbm, ⟨6, _⟩ => ⟨S4352x5632, .f32⟩
  | .hbm, ⟨7, _⟩ => ⟨S5632x2048, .f32⟩
  | .hbm, ⟨8, _⟩ => ⟨S2048x5632, .f32⟩
  | .hbm, ⟨9, _⟩ => ⟨S2048x4x1408, .f32⟩
  | .hbm, ⟨10, _⟩ => ⟨S4x2048x1408, .f32⟩
  | .hbm, ⟨11, _⟩ => ⟨S1x4x2048x1408, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GateX0.lean ====
abbrev S4352x5632 : Shape := ⟨2, ![4352, 5632]⟩
abbrev S2048x5632 : Shape := ⟨2, ![2048, 5632]⟩
abbrev S4352x2048 : Shape := ⟨2, ![4352, 2048]⟩
abbrev S1088x2816 : Shape := ⟨2, ![1088, 2816]⟩
abbrev S1024x2816 : Shape := ⟨2, ![1024, 2816]⟩
abbrev S1088x1024 : Shape := ⟨2, ![1088, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x5632, .bf16⟩
  | .hbm, ⟨1, _⟩ => ⟨S2048x5632, .bf16⟩
  | .hbm, ⟨2, _⟩ => ⟨S4352x2048, .f32⟩
  | .local _ .vmem, ⟨0, _⟩ => ⟨S1088x2816, .bf16⟩
  | .local _ .vmem, ⟨1, _⟩ => ⟨S1088x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateX0RefIdeal.lean ====
abbrev S4352x5632 : Shape := ⟨2, ![4352, 5632]⟩
abbrev S2048x5632 : Shape := ⟨2, ![2048, 5632]⟩
abbrev S_ : Shape := ⟨0, ![]⟩
abbrev S4352x2048 : Shape := ⟨2, ![4352, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S2048x5632, .bf16⟩
  | .hbm, ⟨2, _⟩ => ⟨S_, .f32⟩
  | .hbm, ⟨3, _⟩ => ⟨S4352x2048, .f32⟩
  | .hbm, ⟨4, _⟩ => ⟨S2048x5632, .f32⟩
  | .hbm, ⟨5, _⟩ => ⟨S4352x5632, .f32⟩
  | .hbm, ⟨6, _⟩ => ⟨S4352x5632, .f32⟩
  | .hbm, ⟨7, _⟩ => ⟨S4352x2048, .f32⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpX0.lean ====
abbrev S4352x5632 : Shape := ⟨2, ![4352, 5632]⟩
abbrev S2048x5632 : Shape := ⟨2, ![2048, 5632]⟩
abbrev S4352x2048 : Shape := ⟨2, ![4352, 2048]⟩
abbrev S544x2816 : Shape := ⟨2, ![544, 2816]⟩
abbrev S1024x2816 : Shape := ⟨2, ![1024, 2816]⟩
abbrev S544x1024 : Shape := ⟨2, ![544, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4352x5632, .bf16⟩
  | .hbm, ⟨1, _⟩ => ⟨S2048x5632, .bf16⟩
  | .hbm, ⟨2, _⟩ => ⟨S4352x2048, .f32⟩
  | .hbm, ⟨3, _⟩ => ⟨S4352x2048, .f32⟩
  | .local _ .vmem, ⟨0, _⟩ => ⟨S544x2816, .bf16⟩
  | .local _ .vmem, ⟨1, _⟩ => ⟨S544x2816, .bf16⟩
  | .local _ .vmem, ⟨2, _⟩ => ⟨S1024x2816, .bf16⟩
  | .local _ .vmem, ⟨3, _⟩ => ⟨S1024x2816, .bf16⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpX0RefIdeal.lean ====
abbrev S4352x5632 : Shape := ⟨2, ![4352, 5632]⟩
abbrev S2048x5632 : Shape := ⟨2, ![2048, 5632]⟩
abbrev S4352x2048 : Shape := ⟨2, ![4352, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S2048x5632, .bf16⟩
  | .hbm, ⟨2, _⟩ => ⟨S4352x2048, .f32⟩
  | .hbm, ⟨3, _⟩ => ⟨S_, .f32⟩
  | .hbm, ⟨4, _⟩ => ⟨S4352x2048, .f32⟩
  | .hbm, ⟨5, _⟩ => ⟨S2048x5632, .f32⟩
  | .hbm, ⟨6, _⟩ => ⟨S4352x5632, .f32⟩
  | .hbm, ⟨7, _⟩ => ⟨S4352x5632, .f32⟩
  | .hbm, ⟨8, _⟩ => ⟨S4352x2048, .f32⟩
  | .hbm, ⟨9, _⟩ => ⟨S4352x2048, .f32⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== OutX.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutXIdeal.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutXRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .bf16⟩
  | .hbm, ⟨3, _⟩ => ⟨S4096x2048, .bf16⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutW.lean ====
abbrev S4352x2048 : Shape := ⟨2, ![4352, 2048]⟩
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4096x2048, .bf16⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWIdeal.lean ====
abbrev S4352x2048 : Shape := ⟨2, ![4352, 2048]⟩
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4096x2048, .bf16⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWRefIdeal.lean ====
abbrev S4352x2048 : Shape := ⟨2, ![4352, 2048]⟩
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .bf16⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S2048x2048, .f32⟩
  | .hbm, ⟨9, _⟩ => ⟨S2048x2048, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutX0.lean ====
abbrev S4352x2048 : Shape := ⟨2, ![4352, 2048]⟩
abbrev S2048x2048 : Shape := ⟨2, ![2048, 2048]⟩
abbrev S1088x2048 : Shape := ⟨2, ![1088, 2048]⟩
abbrev S1024x2048 : Shape := ⟨2, ![1024, 2048]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .bf16⟩
  | .local _ .vmem, ⟨0, _⟩ => ⟨S1088x2048, .bf16⟩
  | .local _ .vmem, ⟨1, _⟩ => ⟨S1088x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1088x1024, .bf16⟩
  | .local _ .vmem, ⟨5, _⟩ => ⟨S1088x1024, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutX0RefIdeal.lean ====
abbrev S4352x2048 : Shape := ⟨2, ![4352, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S_, .bf16⟩
  | .hbm, ⟨3, _⟩ => ⟨S4352x2048, .bf16⟩
  | .hbm, ⟨4, _⟩ => ⟨S4352x2048, .f32⟩
  | .hbm, ⟨5, _⟩ => ⟨S2048x2048, .f32⟩
  | .hbm, ⟨6, _⟩ => ⟨S4352x2048, .f32⟩
  | .hbm, ⟨7, _⟩ => ⟨S4352x2048, .f32⟩
  | .hbm, ⟨8, _⟩ => ⟨S4352x2048, .f32⟩
  | .hbm, ⟨9, _⟩ => ⟨S4352x2048, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutW0.lean ====
abbrev S4352x2048 : Shape := ⟨2, ![4352, 2048]⟩
abbrev S2048x2048 : Shape := ⟨2, ![2048, 2048]⟩
abbrev S2176x1024 : Shape := ⟨2, ![2176, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x2048, .bf16⟩
  | .hbm, ⟨2, _⟩ => ⟨S2048x2048, .f32⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutW0RefIdeal.lean ====
abbrev S4352x2048 : Shape := ⟨2, ![4352, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x2048, .bf16⟩
  | .hbm, ⟨2, _⟩ => ⟨S_, .f32⟩
  | .hbm, ⟨3, _⟩ => ⟨S2048x2048, .f32⟩
  | .hbm, ⟨4, _⟩ => ⟨S4352x2048, .f32⟩
  | .hbm, ⟨5, _⟩ => ⟨S4352x2048, .f32⟩
  | .hbm, ⟨6, _⟩ => ⟨S4352x2048, .f32⟩
  | .hbm, ⟨7, _⟩ => ⟨S2048x2048, .f32⟩
  | .hbm, ⟨8, _⟩ => ⟨S2048x2048, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Down.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x5632, .f32⟩
  | .hbm, ⟨3, _⟩ => ⟨S5632x2048, .f32⟩
  | .hbm, ⟨4, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Conv.lean ====
abbrev S4096x5632 : Shape := ⟨2, ![4096, 5632]⟩
abbrev S3x5632 : Shape := ⟨2, ![3, 5632]⟩
abbrev S256x1408 : Shape := ⟨2, ![256, 1408]⟩
abbrev S8x1408 : Shape := ⟨2, ![8, 1408]⟩
abbrev S3x1408 : Shape := ⟨2, ![3, 1408]⟩
abbrev S1x1408 : Shape := ⟨2, ![1, 1408]⟩

abbrev nBuf : Space → Nat
  | .hbm => 3
  | .vmem => 10
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S4096x5632, .bf16⟩
  | .local _ .vmem, ⟨0, _⟩ => ⟨S256x1408, .f32⟩
  | .local _ .vmem, ⟨1, _⟩ => ⟨S256x1408, .f32⟩
  | .local _ .vmem, ⟨2, _⟩ => ⟨S8x1408, .f32⟩
  | .local _ .vmem, ⟨3, _⟩ => ⟨S8x1408, .f32⟩
  | .local _ .vmem, ⟨4, _⟩ => ⟨S8x1408, .f32⟩
  | .local _ .vmem, ⟨5, _⟩ => ⟨S8x1408, .f32⟩
  | .local _ .vmem, ⟨6, _⟩ => ⟨S3x1408, .f32⟩
  | .local _ .vmem, ⟨7, _⟩ => ⟨S3x1408, .f32⟩
  | .local _ .vmem, ⟨8, _⟩ => ⟨S256x1408, .bf16⟩
  | .local _ .vmem, ⟨9, _⟩ => ⟨S256x1408, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvIdeal.lean ====
abbrev S4096x5632 : Shape := ⟨2, ![4096, 5632]⟩
abbrev S3x5632 : Shape := ⟨2, ![3, 5632]⟩
abbrev S256x1408 : Shape := ⟨2, ![256, 1408]⟩
abbrev S8x1408 : Shape := ⟨2, ![8, 1408]⟩
abbrev S3x1408 : Shape := ⟨2, ![3, 1408]⟩
abbrev S1x1408 : Shape := ⟨2, ![1, 1408]⟩

abbrev nBuf : Space → Nat
  | .hbm => 3
  | .vmem => 10
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S4096x5632, .bf16⟩
  | .local _ .vmem, ⟨0, _⟩ => ⟨S256x1408, .f32⟩
  | .local _ .vmem, ⟨1, _⟩ => ⟨S256x1408, .f32⟩
  | .local _ .vmem, ⟨2, _⟩ => ⟨S8x1408, .f32⟩
  | .local _ .vmem, ⟨3, _⟩ => ⟨S8x1408, .f32⟩
  | .local _ .vmem, ⟨4, _⟩ => ⟨S8x1408, .f32⟩
  | .local _ .vmem, ⟨5, _⟩ => ⟨S8x1408, .f32⟩
  | .local _ .vmem, ⟨6, _⟩ => ⟨S3x1408, .f32⟩
  | .local _ .vmem, ⟨7, _⟩ => ⟨S3x1408, .f32⟩
  | .local _ .vmem, ⟨8, _⟩ => ⟨S256x1408, .bf16⟩
  | .local _ .vmem, ⟨9, _⟩ => ⟨S256x1408, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvRefIdeal.lean ====
abbrev S4096x5632 : Shape := ⟨2, ![4096, 5632]⟩
abbrev S3x5632 : Shape := ⟨2, ![3, 5632]⟩
abbrev S_ : Shape := ⟨0, ![]⟩
abbrev S1x4096x5632 : Shape := ⟨3, ![1, 4096, 5632]⟩
abbrev S5632 : Shape := ⟨1, ![5632]⟩
abbrev S1x1x5632 : Shape := ⟨3, ![1, 1, 5632]⟩
abbrev S1x4098x5632 : Shape := ⟨3, ![1, 4098, 5632]⟩
abbrev S1x5632 : Shape := ⟨2, ![1, 5632]⟩

abbrev nBuf : Space → Nat
  | .hbm => 56
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S_, .f32⟩
  | .hbm, ⟨3, _⟩ => ⟨S1x4096x5632, .f32⟩
  | .hbm, ⟨4, _⟩ => ⟨S_, .f32⟩
  | .hbm, ⟨5, _⟩ => ⟨S5632, .f32⟩
  | .hbm, ⟨6, _⟩ => ⟨S_, .f32⟩
  | .hbm, ⟨7, _⟩ => ⟨S1x1x5632, .f32⟩
  | .hbm, ⟨8, _⟩ => ⟨S1x4098x5632, .f32⟩
  | .hbm, ⟨9, _⟩ => ⟨S_, .f32⟩
  | .hbm, ⟨10, _⟩ => ⟨S1x1x5632, .f32⟩
  | .hbm, ⟨11, _⟩ => ⟨S_, .f32⟩
  | .hbm, ⟨12, _⟩ => ⟨S1x1x5632, .f32⟩
  | .hbm, ⟨13, _⟩ => ⟨S1x4096x5632, .f32⟩
  | .hbm, ⟨14, _⟩ => ⟨S1x5632, .f32⟩
  | .hbm, ⟨15, _⟩ => ⟨S5632, .f32⟩
  | .hbm, ⟨16, _⟩ => ⟨S1x1x5632, .f32⟩
  | .hbm, ⟨17, _⟩ => ⟨S1x4096x5632, .f32⟩
  | .hbm, ⟨18, _⟩ => ⟨S1x4096x5632, .f32⟩
  | .hbm, ⟨19, _⟩ => ⟨S1x4096x5632, .f32⟩
  | .hbm, ⟨20, _⟩ => ⟨S1x5632, .f32⟩
  | .hbm, ⟨21, _⟩ => ⟨S5632, .f32⟩
  | .hbm, ⟨22, _⟩ => ⟨S1x1x5632, .f32⟩
  | .hbm, ⟨23, _⟩ => ⟨S1x4096x5632, .f32⟩
  | .hbm, ⟨24, _⟩ => ⟨S1x4096x5632, .f32⟩
  | .hbm, ⟨25, _⟩ => ⟨S1x4096x5632, .f32⟩
  | .hbm, ⟨26, _⟩ => ⟨S1x4096x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S1x4096x5632, .f32⟩
  | .hbm, ⟨31, _⟩ => ⟨S1x4096x5632, .f32⟩
  | .hbm, ⟨32, _⟩ => ⟨S1x4096x5632, .f32⟩
  | .hbm, ⟨33, _⟩ => ⟨S1x1x5632, .f32⟩
  | .hbm, ⟨34, _⟩ => ⟨S1x4096x5632, .f32⟩
  | .hbm, ⟨35, _⟩ => ⟨S1x4096x5632, .f32⟩
  | .hbm, ⟨36, _⟩ => ⟨S1x4096x5632, .f32⟩
  | .hbm, ⟨37, _⟩ => ⟨S1x4096x5632, .f32⟩
  | .hbm, ⟨38, _⟩ => ⟨S1x4096x5632, .f32⟩
  | .hbm, ⟨39, _⟩ => ⟨S_, .f32⟩
  | .hbm, ⟨40, _⟩ => ⟨S1x4098x5632, .f32⟩
  | .hbm, ⟨41, _⟩ => ⟨S1x4096x5632, .f32⟩
  | .hbm, ⟨42, _⟩ => ⟨S1x4096x5632, .f32⟩
  | .hbm, ⟨43, _⟩ => ⟨S_, .f32⟩
  | .hbm, ⟨44, _⟩ => ⟨S1x4098x5632, .f32⟩
  | .hbm, ⟨45, _⟩ => ⟨S1x4098x5632, .f32⟩
  | .hbm, ⟨46, _⟩ => ⟨S1x4096x5632, .f32⟩
  | .hbm, ⟨47, _⟩ => ⟨S1x4096x5632, .f32⟩
  | .hbm, ⟨48, _⟩ => ⟨S_, .f32⟩
  | .hbm, ⟨49, _⟩ => ⟨S1x4098x5632, .f32⟩
  | .hbm, ⟨50, _⟩ => ⟨S1x4098x5632, .f32⟩
  | .hbm, ⟨51, _⟩ => ⟨S1x1x5632, .f32⟩
  | .hbm, ⟨52, _⟩ => ⟨S1x4096x5632, .f32⟩
  | .hbm, ⟨53, _⟩ => ⟨S1x1x5632, .f32⟩
  | .hbm, ⟨54, _⟩ => ⟨S4096x5632, .f32⟩
  | .hbm, ⟨55, _⟩ => ⟨S4096x5632, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_cst_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_4 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_5 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_6 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩

abbrev nD : Nat := 1
abbrev τ : Topo := Topo.v7x

variable {F : FTy → Type} [FloatOps F]
-- ==== Conv0.lean ====
abbrev S4352x5632 : Shape := ⟨2, ![4352, 5632]⟩
abbrev S3x5632 : Shape := ⟨2, ![3, 5632]⟩
abbrev S256x1408 : Shape := ⟨2, ![256, 1408]⟩
abbrev S8x1408 : Shape := ⟨2, ![8, 1408]⟩
abbrev S3x1408 : Shape := ⟨2, ![3, 1408]⟩
abbrev S1x1408 : Shape := ⟨2, ![1, 1408]⟩

abbrev nBuf : Space → Nat
  | .hbm => 3
  | .vmem => 10
  | .smem => 0
  | _ => 0

abbrev bufTy : (tb : Table) → Fin (tcTables nBuf tb) → BufTy
  | .hbm, ⟨0, _⟩ => ⟨S4352x5632, .f32⟩
  | .hbm, ⟨1, _⟩ => ⟨S3x5632, .f32⟩
  | .hbm, ⟨2, _⟩ => ⟨S4352x5632, .bf16⟩
  | .local _ .vmem, ⟨0, _⟩ => ⟨S256x1408, .f32⟩
  | .local _ .vmem, ⟨1, _⟩ => ⟨S256x1408, .f32⟩
  | .local _ .vmem, ⟨2, _⟩ => ⟨S8x1408, .f32⟩
  | .local _ .vmem, ⟨3, _⟩ => ⟨S8x1408, .f32⟩
  | .local _ .vmem, ⟨4, _⟩ => ⟨S8x1408, .f32⟩
  | .local _ .vmem, ⟨5, _⟩ => ⟨S8x1408, .f32⟩
  | .local _ .vmem, ⟨6, _⟩ => ⟨S3x1408, .f32⟩
  | .local _ .vmem, ⟨7, _⟩ => ⟨S3x1408, .f32⟩
  | .local _ .vmem, ⟨8, _⟩ => ⟨S256x1408, .bf16⟩
  | .local _ .vmem, ⟨9, _⟩ => ⟨S256x1408, .bf16⟩
  | _, _ => ⟨S4352x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c543_i32 : BitVec 32 := 543#32
  let v2 : BitVec 32 := Scalar.minsi v1 c543_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Conv0RefIdeal.lean ====
abbrev S4352x5632 : Shape := ⟨2, ![4352, 5632]⟩
abbrev S3x5632 : Shape := ⟨2, ![3, 5632]⟩
abbrev S4096x5632 : Shape := ⟨2, ![4096, 5632]⟩
abbrev S_ : Shape := ⟨0, ![]⟩
abbrev S1x4096x5632 : Shape := ⟨3, ![1, 4096, 5632]⟩
abbrev S5632 : Shape := ⟨1, ![5632]⟩
abbrev S1x1x5632 : Shape := ⟨3, ![1, 1, 5632]⟩
abbrev S1x4098x5632 : Shape := ⟨3, ![1, 4098, 5632]⟩
abbrev S1x5632 : Shape := ⟨2, ![1, 5632]⟩
abbrev S256x5632 : Shape := ⟨2, ![256, 5632]⟩
abbrev S1x256x5632 : Shape := ⟨3, ![1, 256, 5632]⟩
abbrev S1x258x5632 : Shape := ⟨3, ![1, 258, 5632]⟩

abbrev nBuf : Space → Nat
  | .hbm => 113
  | .vmem => 0
  | .smem => 0
  | _ => 0

abbrev bufTy : (tb : Table) → Fin (tcTables nBuf tb) → BufTy
  | .hbm, ⟨0, _⟩ => ⟨S4352x5632, .f32⟩
  | .hbm, ⟨1, _⟩ => ⟨S3x5632, .f32⟩
  | .hbm, ⟨2, _⟩ => ⟨S4096x5632, .f32⟩
  | .hbm, ⟨3, _⟩ => ⟨S_, .f32⟩
  | .hbm, ⟨4, _⟩ => ⟨S1x4096x5632, .f32⟩
  | .hbm, ⟨5, _⟩ => ⟨S_, .f32⟩
  | .hbm, ⟨6, _⟩ => ⟨S5632, .f32⟩
  | .hbm, ⟨7, _⟩ => ⟨S_, .f32⟩
  | .hbm, ⟨8, _⟩ => ⟨S1x1x5632, .f32⟩
  | .hbm, ⟨9, _⟩ => ⟨S1x4098x5632, .f32⟩
  | .hbm, ⟨10, _⟩ => ⟨S_, .f32⟩
  | .hbm, ⟨11, _⟩ => ⟨S1x1x5632, .f32⟩
  | .hbm, ⟨12, _⟩ => ⟨S_, .f32⟩
  | .hbm, ⟨13, _⟩ => ⟨S1x1x5632, .f32⟩
  | .hbm, ⟨14, _⟩ => ⟨S1x4096x5632, .f32⟩
  | .hbm, ⟨15, _⟩ => ⟨S1x5632, .f32⟩
  | .hbm, ⟨16, _⟩ => ⟨S5632, .f32⟩
  | .hbm, ⟨17, _⟩ => ⟨S1x1x5632, .f32⟩
  | .hbm, ⟨18, _⟩ => ⟨S1x4096x5632, .f32⟩
  | .hbm, ⟨19, _⟩ => ⟨S1x4096x5632, .f32⟩
  | .hbm, ⟨20, _⟩ => ⟨S1x4096x5632, .f32⟩
  | .hbm, ⟨21, _⟩ => ⟨S1x5632, .f32⟩
  | .hbm, ⟨22, _⟩ => ⟨S5632, .f32⟩
  | .hbm, ⟨23, _⟩ => ⟨S1x1x5632, .f32⟩
  | .hbm, ⟨24, _⟩ => ⟨S1x4096x5632, .f32⟩
  | .hbm, ⟨25, _⟩ => ⟨S1x4096x5632, .f32⟩
  | .hbm, ⟨26, _⟩ => ⟨S1x4096x5632, .f32⟩
  | .hbm, ⟨27, _⟩ => ⟨S1x4096x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S1x4096x5632, .f32⟩
  | .hbm, ⟨32, _⟩ => ⟨S1x4096x5632, .f32⟩
  | .hbm, ⟨33, _⟩ => ⟨S1x4096x5632, .f32⟩
  | .hbm, ⟨34, _⟩ => ⟨S1x1x5632, .f32⟩
  | .hbm, ⟨35, _⟩ => ⟨S1x4096x5632, .f32⟩
  | .hbm, ⟨36, _⟩ => ⟨S1x4096x5632, .f32⟩
  | .hbm, ⟨37, _⟩ => ⟨S1x4096x5632, .f32⟩
  | .hbm, ⟨38, _⟩ => ⟨S1x4096x5632, .f32⟩
  | .hbm, ⟨39, _⟩ => ⟨S1x4096x5632, .f32⟩
  | .hbm, ⟨40, _⟩ => ⟨S_, .f32⟩
  | .hbm, ⟨41, _⟩ => ⟨S1x4098x5632, .f32⟩
  | .hbm, ⟨42, _⟩ => ⟨S1x4096x5632, .f32⟩
  | .hbm, ⟨43, _⟩ => ⟨S1x4096x5632, .f32⟩
  | .hbm, ⟨44, _⟩ => ⟨S_, .f32⟩
  | .hbm, ⟨45, _⟩ => ⟨S1x4098x5632, .f32⟩
  | .hbm, ⟨46, _⟩ => ⟨S1x4098x5632, .f32⟩
  | .hbm, ⟨47, _⟩ => ⟨S1x4096x5632, .f32⟩
  | .hbm, ⟨48, _⟩ => ⟨S1x4096x5632, .f32⟩
  | .hbm, ⟨49, _⟩ => ⟨S_, .f32⟩
  | .hbm, ⟨50, _⟩ => ⟨S1x4098x5632, .f32⟩
  | .hbm, ⟨51, _⟩ => ⟨S1x4098x5632, .f32⟩
  | .hbm, ⟨52, _⟩ => ⟨S1x1x5632, .f32⟩
  | .hbm, ⟨53, _⟩ => ⟨S1x4096x5632, .f32⟩
  | .hbm, ⟨54, _⟩ => ⟨S1x1x5632, .f32⟩
  | .hbm, ⟨55, _⟩ => ⟨S4096x5632, .f32⟩
  | .hbm, ⟨56, _⟩ => ⟨S4096x5632, .bf16⟩
  | .hbm, ⟨57, _⟩ => ⟨S256x5632, .f32⟩
  | .hbm, ⟨58, _⟩ => ⟨S_, .f32⟩
  | .hbm, ⟨59, _⟩ => ⟨S1x256x5632, .f32⟩
  | .hbm, ⟨60, _⟩ => ⟨S_, .f32⟩
  | .hbm, ⟨61, _⟩ => ⟨S5632, .f32⟩
  | .hbm, ⟨62, _⟩ => ⟨S_, .f32⟩
  | .hbm, ⟨63, _⟩ => ⟨S1x1x5632, .f32⟩
  | .hbm, ⟨64, _⟩ => ⟨S1x258x5632, .f32⟩
  | .hbm, ⟨65, _⟩ => ⟨S_, .f32⟩
  | .hbm, ⟨66, _⟩ => ⟨S1x1x5632, .f32⟩
  | .hbm, ⟨67, _⟩ => ⟨S_, .f32⟩
  | .hbm, ⟨68, _⟩ => ⟨S1x1x5632, .f32⟩
  | .hbm, ⟨69, _⟩ => ⟨S1x256x5632, .f32⟩
  | .hbm, ⟨70, _⟩ => ⟨S1x5632, .f32⟩
  | .hbm, ⟨71, _⟩ => ⟨S5632, .f32⟩
  | .hbm, ⟨72, _⟩ => ⟨S1x1x5632, .f32⟩
  | .hbm, ⟨73, _⟩ => ⟨S1x256x5632, .f32⟩
  | .hbm, ⟨74, _⟩ => ⟨S1x256x5632, .f32⟩
  | .hbm, ⟨75, _⟩ => ⟨S1x256x5632, .f32⟩
  | .hbm, ⟨76, _⟩ => ⟨S1x5632, .f32⟩
  | .hbm, ⟨77, _⟩ => ⟨S5632, .f32⟩
  | .hbm, ⟨78, _⟩ => ⟨S1x1x5632, .f32⟩
  | .hbm, ⟨79, _⟩ => ⟨S1x256x5632, .f32⟩
  | .hbm, ⟨80, _⟩ => ⟨S1x256x5632, .f32⟩
  | .hbm, ⟨81, _⟩ => ⟨S1x256x5632, .f32⟩
  | .hbm, ⟨82, _⟩ => ⟨S1x256x5632, .f32⟩
  | .hbm, ⟨83, _⟩ => ⟨S1x5632, .f32⟩
  | .hbm, ⟨84, _⟩ => ⟨S5632, .f32⟩
  | .hbm, ⟨85, _⟩ => ⟨S1x1x5632, .f32⟩
  | .hbm, ⟨86, _⟩ => ⟨S1x256x5632, .f32⟩
  | .hbm, ⟨87, _⟩ => ⟨S1x256x5632, .f32⟩
  | .hbm, ⟨88, _⟩ => ⟨S1x256x5632, .f32⟩
  | .hbm, ⟨89, _⟩ => ⟨S1x1x5632, .f32⟩
  | .hbm, ⟨90, _⟩ => ⟨S1x256x5632, .f32⟩
  | .hbm, ⟨91, _⟩ => ⟨S1x256x5632, .f32⟩
  | .hbm, ⟨92, _⟩ => ⟨S1x256x5632, .f32⟩
  | .hbm, ⟨93, _⟩ => ⟨S1x256x5632, .f32⟩
  | .hbm, ⟨94, _⟩ => ⟨S1x256x5632, .f32⟩
  | .hbm, ⟨95, _⟩ => ⟨S_, .f32⟩
  | .hbm, ⟨96, _⟩ => ⟨S1x258x5632, .f32⟩
  | .hbm, ⟨97, _⟩ => ⟨S1x256x5632, .f32⟩
  | .hbm, ⟨98, _⟩ => ⟨S1x256x5632, .f32⟩
  | .hbm, ⟨99, _⟩ => ⟨S_, .f32⟩
  | .hbm, ⟨100, _⟩ => ⟨S1x258x5632, .f32⟩
  | .hbm, ⟨101, _⟩ => ⟨S1x258x5632, .f32⟩
  | .hbm, ⟨102, _⟩ => ⟨S1x256x5632, .f32⟩
  | .hbm, ⟨103, _⟩ => ⟨S1x256x5632, .f32⟩
  | .hbm, ⟨104, _⟩ => ⟨S_, .f32⟩
  | .hbm, ⟨105, _⟩ => ⟨S1x258x5632, .f32⟩
  | .hbm, ⟨106, _⟩ => ⟨S1x258x5632, .f32⟩
  | .hbm, ⟨107, _⟩ => ⟨S1x1x5632, .f32⟩
  | .hbm, ⟨108, _⟩ => ⟨S1x256x5632, .f32⟩
  | .hbm, ⟨109, _⟩ => ⟨S1x1x5632, .f32⟩
  | .hbm, ⟨110, _⟩ => ⟨S256x5632, .f32⟩
  | .hbm, ⟨111, _⟩ => ⟨S256x5632, .bf16⟩
  | .hbm, ⟨112, _⟩ => ⟨S4352x5632, .bf16⟩
  | _, _ => ⟨S4352x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_cst_3 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_4 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_5 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_6 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_7 : Ref sig .tc := ⟨.hbm, 58, rfl⟩
abbrev main_v48 : Ref sig .tc := ⟨.hbm, 59, rfl⟩
abbrev main_cst_8 : Ref sig .tc := ⟨.hbm, 60, rfl⟩
abbrev main_v49 : Ref sig .tc := ⟨.hbm, 61, rfl⟩
abbrev main_cst_9 : Ref sig .tc := ⟨.hbm, 62, rfl⟩
abbrev main_v50 : Ref sig .tc := ⟨.hbm, 63, rfl⟩
abbrev main_v51 : Ref sig .tc := ⟨.hbm, 64, rfl⟩
abbrev main_cst_10 : Ref sig .tc := ⟨.hbm, 65, rfl⟩
abbrev main_v52 : Ref sig .tc := ⟨.hbm, 66, rfl⟩
abbrev main_cst_11 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_cst_12 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_cst_13 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_cst_14 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩

abbrev nD : Nat := 1
abbrev τ : Topo := Topo.v7x

variable {F : FTy → Type} [FloatOps F]
-- ==== Act.lean ====
abbrev S4096x5632 : Shape := ⟨2, ![4096, 5632]⟩
abbrev S3x5632 : Shape := ⟨2, ![3, 5632]⟩
abbrev S1x5632 : Shape := ⟨2, ![1, 5632]⟩
abbrev S8x5632 : Shape := ⟨2, ![8, 5632]⟩
abbrev S256x1408 : Shape := ⟨2, ![256, 1408]⟩
abbrev S16x1408 : Shape := ⟨2, ![16, 1408]⟩
abbrev S3x1408 : Shape := ⟨2, ![3, 1408]⟩
abbrev S1x1408 : Shape := ⟨2, ![1, 1408]⟩
abbrev S8x1408 : Shape := ⟨2, ![8, 1408]⟩
abbrev S1408 : Shape := ⟨1, ![1408]⟩

abbrev nBuf : Space → Nat
  | .hbm => 8
  | .vmem => 20
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S4096x5632, .bf16⟩
  | .hbm, ⟨3, _⟩ => ⟨S3x5632, .f32⟩
  | .hbm, ⟨4, _⟩ => ⟨S1x5632, .f32⟩
  | .hbm, ⟨5, _⟩ => ⟨S4096x5632, .f32⟩
  | .hbm, ⟨6, _⟩ => ⟨S4096x5632, .bf16⟩
  | .hbm, ⟨7, _⟩ => ⟨S8x5632, .f32⟩
  | .local _ .vmem, ⟨0, _⟩ => ⟨S256x1408, .bf16⟩
  | .local _ .vmem, ⟨1, _⟩ => ⟨S256x1408, .bf16⟩
  | .local _ .vmem, ⟨2, _⟩ => ⟨S16x1408, .bf16⟩
  | .local _ .vmem, ⟨3, _⟩ => ⟨S16x1408, .bf16⟩
  | .local _ .vmem, ⟨4, _⟩ => ⟨S16x1408, .bf16⟩
  | .local _ .vmem, ⟨5, _⟩ => ⟨S16x1408, .bf16⟩
  | .local _ .vmem, ⟨6, _⟩ => ⟨S256x1408, .bf16⟩
  | .local _ .vmem, ⟨7, _⟩ => ⟨S256x1408, .bf16⟩
  | .local _ .vmem, ⟨8, _⟩ => ⟨S256x1408, .bf16⟩
  | .local _ .vmem, ⟨9, _⟩ => ⟨S256x1408, .bf16⟩
  | .local _ .vmem, ⟨10, _⟩ => ⟨S3x1408, .f32⟩
  | .local _ .vmem, ⟨11, _⟩ => ⟨S3x1408, .f32⟩
  | .local _ .vmem, ⟨12, _⟩ => ⟨S1x1408, .f32⟩
  | .local _ .vmem, ⟨13, _⟩ => ⟨S1x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .bf16⟩
  | .local _ .vmem, ⟨17, _⟩ => ⟨S256x1408, .bf16⟩
  | .local _ .vmem, ⟨18, _⟩ => ⟨S8x1408, .f32⟩
  | .local _ .vmem, ⟨19, _⟩ => ⟨S8x1408, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ActRefIdeal.lean ====
abbrev S4096x5632 : Shape := ⟨2, ![4096, 5632]⟩
abbrev S3x5632 : Shape := ⟨2, ![3, 5632]⟩
abbrev S1x5632 : Shape := ⟨2, ![1, 5632]⟩
abbrev S1x4096x5632 : Shape := ⟨3, ![1, 4096, 5632]⟩
abbrev S5632 : Shape := ⟨1, ![5632]⟩
abbrev S_ : Shape := ⟨0, ![]⟩
abbrev S1x1x5632 : Shape := ⟨3, ![1, 1, 5632]⟩
abbrev S1x4098x5632 : Shape := ⟨3, ![1, 4098, 5632]⟩
abbrev S4x5632 : Shape := ⟨2, ![4, 5632]⟩
abbrev S8x5632 : Shape := ⟨2, ![8, 5632]⟩

abbrev nBuf : Space → Nat
  | .hbm => 140
  | .vmem => 0
  | .smem => 0
  | _ => 0

abbrev hbmTy0_0 (i : Nat) : BufTy := match i % 128 with
  | 0 => ⟨S4096x5632, .bf16⟩
  | 1 => ⟨S4096x5632, .bf16⟩
  | 2 => ⟨S4096x5632, .bf16⟩
  | 3 => ⟨S3x5632, .f32⟩
  | 4 => ⟨S1x5632, .f32⟩
  | 5 => ⟨S1x4096x5632, .bf16⟩
  | 6 => ⟨S1x4096x5632, .f32⟩
  | 7 => ⟨S1x4096x5632, .bf16⟩
  | 8 => ⟨S1x4096x5632, .f32⟩
  | 9 => ⟨S5632, .f32⟩
  | 10 => ⟨S_, .f32⟩
  | 11 => ⟨S1x1x5632, .f32⟩
  | 12 => ⟨S1x4098x5632, .f32⟩
  | 13 => ⟨S1x4096x5632, .f32⟩
  | 14 => ⟨S1x5632, .f32⟩
  | 15 => ⟨S5632, .f32⟩
  | 16 => ⟨S1x1x5632, .f32⟩
  | 17 => ⟨S1x4096x5632, .f32⟩
  | 18 => ⟨S1x4096x5632, .f32⟩
  | 19 => ⟨S1x4096x5632, .f32⟩
  | 20 => ⟨S1x5632, .f32⟩
  | 21 => ⟨S5632, .f32⟩
  | 22 => ⟨S1x1x5632, .f32⟩
  | 23 => ⟨S1x4096x5632, .f32⟩
  | 24 => ⟨S1x4096x5632, .f32⟩
  | 25 => ⟨S1x4096x5632, .f32⟩
  | 26 => ⟨S1x4096x5632, .f32⟩
  | 27 => ⟨S1x5632, .f32⟩
  | 28 => ⟨S5632, .f32⟩
  | 29 => ⟨S1x1x5632, .f32⟩
  | 30 => ⟨S1x4096x5632, .f32⟩
  | 31 => ⟨S1x4096x5632, .f32⟩
  | 32 => ⟨S1x4096x5632, .f32⟩
  | 33 => ⟨S1x1x5632, .f32⟩
  | 34 => ⟨S1x4096x5632, .f32⟩
  | 35 => ⟨S1x4096x5632, .f32⟩
  | 36 => ⟨S1x4096x5632, .f32⟩
  | 37 => ⟨S1x4096x5632, .f32⟩
  | 38 => ⟨S_, .f32⟩
  | 39 => ⟨S1x4096x5632, .f32⟩
  | 40 => ⟨S1x4096x5632, .f32⟩
  | 41 => ⟨S_, .f32⟩
  | 42 => ⟨S1x4096x5632, .f32⟩
  | 43 => ⟨S1x4096x5632, .f32⟩
  | 44 => ⟨S_, .f32⟩
  | 45 => ⟨S1x4096x5632, .f32⟩
  | 46 => ⟨S1x4096x5632, .f32⟩
  | 47 => ⟨S1x4096x5632, .f32⟩
  | 48 => ⟨S1x4096x5632, .f32⟩
  | 49 => ⟨S1x4096x5632, .bf16⟩
  | 50 => ⟨S1x4096x5632, .f32⟩
  | 51 => ⟨S1x4096x5632, .f32⟩
  | 52 => ⟨S1x4096x5632, .f32⟩
  | 53 => ⟨S1x4096x5632, .f32⟩
  | 54 => ⟨S1x4096x5632, .f32⟩
  | 55 => ⟨S1x4096x5632, .f32⟩
  | 56 => ⟨S1x4096x5632, .f32⟩
  | 57 => ⟨S1x4096x5632, .bf16⟩
  | 58 => ⟨S1x4096x5632, .f32⟩
  | 59 => ⟨S1x4096x5632, .f32⟩
  | 60 => ⟨S1x4096x5632, .f32⟩
  | 61 => ⟨S_, .f32⟩
  | 62 => ⟨S1x4096x5632, .f32⟩
  | 63 => ⟨S1x4096x5632, .f32⟩
  | 64 => ⟨S_, .f32⟩
  | 65 => ⟨S1x4096x5632, .f32⟩
  | 66 => ⟨S1x4096x5632, .f32⟩
  | 67 => ⟨S1x4096x5632, .f32⟩
  | 68 => ⟨S1x4096x5632, .f32⟩
  | 69 => ⟨S1x4096x5632, .f32⟩
  | 70 => ⟨S5632, .f32⟩
  | 71 => ⟨S1x4096x5632, .bf16⟩
  | 72 => ⟨S1x4096x5632, .f32⟩
  | 73 => ⟨S_, .f32⟩
  | 74 => ⟨S1x1x5632, .f32⟩
  | 75 => ⟨S1x4098x5632, .f32⟩
  | 76 => ⟨S1x4096x5632, .f32⟩
  | 77 => ⟨S1x5632, .f32⟩
  | 78 => ⟨S5632, .f32⟩
  | 79 => ⟨S1x1x5632, .f32⟩
  | 80 => ⟨S1x4096x5632, .f32⟩
  | 81 => ⟨S1x4096x5632, .f32⟩
  | 82 => ⟨S1x4096x5632, .f32⟩
  | 83 => ⟨S1x5632, .f32⟩
  | 84 => ⟨S5632, .f32⟩
  | 85 => ⟨S1x1x5632, .f32⟩
  | 86 => ⟨S1x4096x5632, .f32⟩
  | 87 => ⟨S1x4096x5632, .f32⟩
  | 88 => ⟨S1x4096x5632, .f32⟩
  | 89 => ⟨S1x4096x5632, .f32⟩
  | 90 => ⟨S1x5632, .f32⟩
  | 91 => ⟨S5632, .f32⟩
  | 92 => ⟨S1x1x5632, .f32⟩
  | 93 => ⟨S1x4096x5632, .f32⟩
  | 94 => ⟨S1x4096x5632, .f32⟩
  | 95 => ⟨S1x4096x5632, .f32⟩
  | 96 => ⟨S1x1x5632, .f32⟩
  | 97 => ⟨S1x4096x5632, .f32⟩
  | 98 => ⟨S1x4096x5632, .f32⟩
  | 99 => ⟨S_, .f32⟩
  | 100 => ⟨S1x5632, .f32⟩
  | 101 => ⟨S1x1x5632, .f32⟩
  | 102 => ⟨S_, .f32⟩
  | 103 => ⟨S5632, .f32⟩
  | 104 => ⟨S1x4096x5632, .f32⟩
  | 105 => ⟨S_, .f32⟩
  | 106 => ⟨S1x5632, .f32⟩
  | 107 => ⟨S1x1x5632, .f32⟩
  | 108 => ⟨S_, .f32⟩
  | 109 => ⟨S5632, .f32⟩
  | 110 => ⟨S1x5632, .f32⟩
  | 111 => ⟨S_, .f32⟩
  | 112 => ⟨S3x5632, .f32⟩
  | 113 => ⟨S1x4096x5632, .f32⟩
  | 114 => ⟨S_, .f32⟩
  | 115 => ⟨S1x5632, .f32⟩
  | 116 => ⟨S1x1x5632, .f32⟩
  | 117 => ⟨S_, .f32⟩
  | 118 => ⟨S5632, .f32⟩
  | 119 => ⟨S1x5632, .f32⟩
  | 120 => ⟨S_, .f32⟩
  | 121 => ⟨S3x5632, .f32⟩
  | 122 => ⟨S3x5632, .f32⟩
  | 123 => ⟨S1x4096x5632, .f32⟩
  | 124 => ⟨S_, .f32⟩
  | 125 => ⟨S1x5632, .f32⟩
  | 126 => ⟨S1x1x5632, .f32⟩
  | 127 => ⟨S_, .f32⟩
  | _ => ⟨S4096x5632, .bf16⟩

abbrev hbmTy0_1 (i : Nat) : BufTy := match i % 128 with
  | 0 => ⟨S5632, .f32⟩
  | 1 => ⟨S1x5632, .f32⟩
  | 2 => ⟨S_, .f32⟩
  | 3 => ⟨S3x5632, .f32⟩
  | 4 => ⟨S3x5632, .f32⟩
  | 5 => ⟨S4096x5632, .f32⟩
  | 6 => ⟨S4096x5632, .f32⟩
  | 7 => ⟨S4096x5632, .bf16⟩
  | 8 => ⟨S1x5632, .f32⟩
  | 9 => ⟨S_, .f32⟩
  | 10 => ⟨S4x5632, .f32⟩
  | 11 => ⟨S8x5632, .f32⟩
  | _ => ⟨S4096x5632, .bf16⟩

abbrev hbmTy (i : Nat) : BufTy := match i / 128 with
  | 0 => hbmTy0_0 i
  | 1 => hbmTy0_1 i
  | _ => ⟨S4096x5632, .bf16⟩

abbrev bufTy : (tb : Table) → Fin (tcTables nBuf tb) → BufTy
  | .hbm, ⟨i, _⟩ => hbmTy i
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v30_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v30_1 : Ref sig .tc := ⟨.hbm, 47, rfl⟩
abbrev main_v30_0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call2_v0 : Ref sig .tc := ⟨.hbm, 59, rfl⟩
abbrev main_call2_v1 : Ref sig .tc := ⟨.hbm, 60, rfl⟩
abbrev main_call2_cst : Ref sig .tc := ⟨.hbm, 61, rfl⟩
abbrev main_call2_v2 : Ref sig .tc := ⟨.hbm, 62, rfl⟩
abbrev main_call2_v3 : Ref sig .tc := ⟨.hbm, 63, rfl⟩
abbrev main_call2_cst_0 : Ref sig .tc := ⟨.hbm, 64, rfl⟩
abbrev main_call2_v4 : Ref sig .tc := ⟨.hbm, 65, rfl⟩
abbrev main_call2_v5 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_0 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_1 : Ref sig .tc := ⟨.hbm, 99, rfl⟩
abbrev main_v69 : Ref sig .tc := ⟨.hbm, 100, rfl⟩
abbrev main_v70 : Ref sig .tc := ⟨.hbm, 101, rfl⟩
abbrev main_cst_2 : Ref sig .tc := ⟨.hbm, 102, rfl⟩
abbrev main_v71 : Ref sig .tc := ⟨.hbm, 103, rfl⟩
abbrev main_v72 : Ref sig .tc := ⟨.hbm, 104, rfl⟩
abbrev main_cst_3 : Ref sig .tc := ⟨.hbm, 105, rfl⟩
abbrev main_v73 : Ref sig .tc := ⟨.hbm, 106, rfl⟩
abbrev main_v74 : Ref sig .tc := ⟨.hbm, 107, rfl⟩
abbrev main_cst_4 : Ref sig .tc := ⟨.hbm, 108, rfl⟩
abbrev main_v75 : Ref sig .tc := ⟨.hbm, 109, rfl⟩
abbrev main_v76 : Ref sig .tc := ⟨.hbm, 110, rfl⟩
abbrev main_cst_5 : Ref sig .tc := ⟨.hbm, 111, rfl⟩
abbrev main_v77 : Ref sig .tc := ⟨.hbm, 112, rfl⟩
abbrev main_v78 : Ref sig .tc := ⟨.hbm, 113, rfl⟩
abbrev main_cst_6 : Ref sig .tc := ⟨.hbm, 114, rfl⟩
abbrev main_v79 : Ref sig .tc := ⟨.hbm, 115, rfl⟩
abbrev main_v80 : Ref sig .tc := ⟨.hbm, 116, rfl⟩
abbrev main_cst_7 : Ref sig .tc := ⟨.hbm, 117, rfl⟩
abbrev main_v81 : Ref sig .tc := ⟨.hbm, 118, rfl⟩
abbrev main_v82 : Ref sig .tc := ⟨.hbm, 119, rfl⟩
abbrev main_cst_8 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_9 : Ref sig .tc := ⟨.hbm, 124, rfl⟩
abbrev main_v86 : Ref sig .tc := ⟨.hbm, 125, rfl⟩
abbrev main_v87 : Ref sig .tc := ⟨.hbm, 126, rfl⟩
abbrev main_cst_10 : Ref sig .tc := ⟨.hbm, 127, rfl⟩
abbrev main_v88 : Ref sig .tc := ⟨.hbm, 128, rfl⟩
abbrev main_v89 : Ref sig .tc := ⟨.hbm, 129, rfl⟩
abbrev main_cst_11 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_12 : Ref sig .tc := ⟨.hbm, 137, rfl⟩
abbrev main_v96 : Ref sig .tc := ⟨.hbm, 138, rfl⟩
abbrev main_v97 : Ref sig .tc := ⟨.hbm, 139, rfl⟩

abbrev nD : Nat := 1
abbrev τ : Topo := Topo.v7x

variable {F : FTy → Type} [FloatOps F]
-- ==== Mid.lean ====
abbrev S4096x5632 : Shape := ⟨2, ![4096, 5632]⟩
abbrev S3x5632 : Shape := ⟨2, ![3, 5632]⟩
abbrev S1x5632 : Shape := ⟨2, ![1, 5632]⟩
abbrev S256x1408 : Shape := ⟨2, ![256, 1408]⟩
abbrev S16x1408 : Shape := ⟨2, ![16, 1408]⟩
abbrev S3x1408 : Shape := ⟨2, ![3, 1408]⟩
abbrev S1x1408 : Shape := ⟨2, ![1, 1408]⟩

abbrev nBuf : Space → Nat
  | .hbm => 5
  | .vmem => 14
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S3x5632, .f32⟩
  | .hbm, ⟨3, _⟩ => ⟨S1x5632, .f32⟩
  | .hbm, ⟨4, _⟩ => ⟨S4096x5632, .bf16⟩
  | .local _ .vmem, ⟨0, _⟩ => ⟨S256x1408, .bf16⟩
  | .local _ .vmem, ⟨1, _⟩ => ⟨S256x1408, .bf16⟩
  | .local _ .vmem, ⟨2, _⟩ => ⟨S16x1408, .bf16⟩
  | .local _ .vmem, ⟨3, _⟩ => ⟨S16x1408, .bf16⟩
  | .local _ .vmem, ⟨4, _⟩ => ⟨S16x1408, .bf16⟩
  | .local _ .vmem, ⟨5, _⟩ => ⟨S16x1408, .bf16⟩
  | .local _ .vmem, ⟨6, _⟩ => ⟨S256x1408, .bf16⟩
  | .local _ .vmem, ⟨7, _⟩ => ⟨S256x1408, .bf16⟩
  | .local _ .vmem, ⟨8, _⟩ => ⟨S3x1408, .f32⟩
  | .local _ .vmem, ⟨9, _⟩ => ⟨S3x1408, .f32⟩
  | .local _ .vmem, ⟨10, _⟩ => ⟨S1x1408, .f32⟩
  | .local _ .vmem, ⟨11, _⟩ => ⟨S1x1408, .f32⟩
  | .local _ .vmem, ⟨12, _⟩ => ⟨S256x1408, .bf16⟩
  | .local _ .vmem, ⟨13, _⟩ => ⟨S256x1408, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MidRefIdeal.lean ====
abbrev S4096x5632 : Shape := ⟨2, ![4096, 5632]⟩
abbrev S3x5632 : Shape := ⟨2, ![3, 5632]⟩
abbrev S1x5632 : Shape := ⟨2, ![1, 5632]⟩
abbrev S1x4096x5632 : Shape := ⟨3, ![1, 4096, 5632]⟩
abbrev S5632 : Shape := ⟨1, ![5632]⟩
abbrev S_ : Shape := ⟨0, ![]⟩
abbrev S1x1x5632 : Shape := ⟨3, ![1, 1, 5632]⟩
abbrev S1x4098x5632 : Shape := ⟨3, ![1, 4098, 5632]⟩

abbrev nBuf : Space → Nat
  | .hbm => 47
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S3x5632, .f32⟩
  | .hbm, ⟨3, _⟩ => ⟨S1x5632, .f32⟩
  | .hbm, ⟨4, _⟩ => ⟨S1x4096x5632, .bf16⟩
  | .hbm, ⟨5, _⟩ => ⟨S1x4096x5632, .f32⟩
  | .hbm, ⟨6, _⟩ => ⟨S5632, .f32⟩
  | .hbm, ⟨7, _⟩ => ⟨S_, .f32⟩
  | .hbm, ⟨8, _⟩ => ⟨S1x1x5632, .f32⟩
  | .hbm, ⟨9, _⟩ => ⟨S1x4098x5632, .f32⟩
  | .hbm, ⟨10, _⟩ => ⟨S1x4096x5632, .f32⟩
  | .hbm, ⟨11, _⟩ => ⟨S1x5632, .f32⟩
  | .hbm, ⟨12, _⟩ => ⟨S5632, .f32⟩
  | .hbm, ⟨13, _⟩ => ⟨S1x1x5632, .f32⟩
  | .hbm, ⟨14, _⟩ => ⟨S1x4096x5632, .f32⟩
  | .hbm, ⟨15, _⟩ => ⟨S1x4096x5632, .f32⟩
  | .hbm, ⟨16, _⟩ => ⟨S1x4096x5632, .f32⟩
  | .hbm, ⟨17, _⟩ => ⟨S1x5632, .f32⟩
  | .hbm, ⟨18, _⟩ => ⟨S5632, .f32⟩
  | .hbm, ⟨19, _⟩ => ⟨S1x1x5632, .f32⟩
  | .hbm, ⟨20, _⟩ => ⟨S1x4096x5632, .f32⟩
  | .hbm, ⟨21, _⟩ => ⟨S1x4096x5632, .f32⟩
  | .hbm, ⟨22, _⟩ => ⟨S1x4096x5632, .f32⟩
  | .hbm, ⟨23, _⟩ => ⟨S1x4096x5632, .f32⟩
  | .hbm, ⟨24, _⟩ => ⟨S1x5632, .f32⟩
  | .hbm, ⟨25, _⟩ => ⟨S5632, .f32⟩
  | .hbm, ⟨26, _⟩ => ⟨S1x1x5632, .f32⟩
  | .hbm, ⟨27, _⟩ => ⟨S1x4096x5632, .f32⟩
  | .hbm, ⟨28, _⟩ => ⟨S1x4096x5632, .f32⟩
  | .hbm, ⟨29, _⟩ => ⟨S1x4096x5632, .f32⟩
  | .hbm, ⟨30, _⟩ => ⟨S1x1x5632, .f32⟩
  | .hbm, ⟨31, _⟩ => ⟨S1x4096x5632, .f32⟩
  | .hbm, ⟨32, _⟩ => ⟨S1x4096x5632, .f32⟩
  | .hbm, ⟨33, _⟩ => ⟨S1x4096x5632, .f32⟩
  | .hbm, ⟨34, _⟩ => ⟨S1x4096x5632, .f32⟩
  | .hbm, ⟨35, _⟩ => ⟨S_, .f32⟩
  | .hbm, ⟨36, _⟩ => ⟨S1x4096x5632, .f32⟩
  | .hbm, ⟨37, _⟩ => ⟨S1x4096x5632, .f32⟩
  | .hbm, ⟨38, _⟩ => ⟨S_, .f32⟩
  | .hbm, ⟨39, _⟩ => ⟨S1x4096x5632, .f32⟩
  | .hbm, ⟨40, _⟩ => ⟨S1x4096x5632, .f32⟩
  | .hbm, ⟨41, _⟩ => ⟨S1x4096x5632, .f32⟩
  | .hbm, ⟨42, _⟩ => ⟨S1x4096x5632, .bf16⟩
  | .hbm, ⟨43, _⟩ => ⟨S1x4096x5632, .f32⟩
  | .hbm, ⟨44, _⟩ => ⟨S1x4096x5632, .f32⟩
  | .hbm, ⟨45, _⟩ => ⟨S4096x5632, .f32⟩
  | .hbm, ⟨46, _⟩ => ⟨S4096x5632, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Uq.lean ====
abbrev S4352x4224 : Shape := ⟨2, ![4352, 4224]⟩
abbrev S384x1024 : Shape := ⟨2, ![384, 1024]⟩
abbrev S4352x1024 : Shape := ⟨2, ![4352, 1024]⟩
abbrev S1088x128 : Shape := ⟨2, ![1088, 128]⟩
abbrev S128x1024 : Shape := ⟨2, ![128, 1024]⟩
abbrev S1088x1024 : Shape := ⟨2, ![1088, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x4224, .bf16⟩
  | .hbm, ⟨1, _⟩ => ⟨S384x1024, .bf16⟩
  | .hbm, ⟨2, _⟩ => ⟨S4352x1024, .f32⟩
  | .local _ .vmem, ⟨0, _⟩ => ⟨S1088x128, .bf16⟩
  | .local _ .vmem, ⟨1, _⟩ => ⟨S1088x128, .bf16⟩
  | .local _ .vmem, ⟨2, _⟩ => ⟨S128x1024, .bf16⟩
  | .local _ .vmem, ⟨3, _⟩ => ⟨S128x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32_6 : BitVec 32 := 2#32
  let v11 : BitVec 1 := Scalar.cmpi .eq arg2 c2_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi arg2 c20_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqRefIdeal.lean ====
abbrev S4352x4224 : Shape := ⟨2, ![4352, 4224]⟩
abbrev S384x1024 : Shape := ⟨2, ![384, 1024]⟩
abbrev S4352x384 : Shape := ⟨2, ![4352, 384]⟩
abbrev S4352x1024 : Shape := ⟨2, ![4352, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4352x4224, .bf16⟩
  | .hbm, ⟨1, _⟩ => ⟨S384x1024, .bf16⟩
  | .hbm, ⟨2, _⟩ => ⟨S4352x384, .bf16⟩
  | .hbm, ⟨3, _⟩ => ⟨S4352x384, .f32⟩
  | .hbm, ⟨4, _⟩ => ⟨S384x1024, .f32⟩
  | .hbm, ⟨5, _⟩ => ⟨S4352x1024, .f32⟩
  | _, _ => ⟨S4352x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Ukv.lean ====
abbrev S4352x4224 : Shape := ⟨2, ![4352, 4224]⟩
abbrev S128x1024 : Shape := ⟨2, ![128, 1024]⟩
abbrev S4352x1024 : Shape := ⟨2, ![4352, 1024]⟩
abbrev S1088x128 : Shape := ⟨2, ![1088, 128]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x4224, .bf16⟩
  | .hbm, ⟨1, _⟩ => ⟨S128x1024, .bf16⟩
  | .hbm, ⟨2, _⟩ => ⟨S4352x1024, .bf16⟩
  | .local _ .vmem, ⟨0, _⟩ => ⟨S1088x128, .bf16⟩
  | .local _ .vmem, ⟨1, _⟩ => ⟨S1088x128, .bf16⟩
  | .local _ .vmem, ⟨2, _⟩ => ⟨S128x1024, .bf16⟩
  | .local _ .vmem, ⟨3, _⟩ => ⟨S1088x1024, .bf16⟩
  | .local _ .vmem, ⟨4, _⟩ => ⟨S1088x1024, .bf16⟩
  | _, _ => ⟨S4352x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c23_i32 : BitVec 32 := 23#32
  let v0 : BitVec 32 := Scalar.addi arg2 c23_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvRefIdeal.lean ====
abbrev S4352x4224 : Shape := ⟨2, ![4352, 4224]⟩
abbrev S128x1024 : Shape := ⟨2, ![128, 1024]⟩
abbrev S4352x128 : Shape := ⟨2, ![4352, 128]⟩
abbrev S4352x1024 : Shape := ⟨2, ![4352, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4352x4224, .bf16⟩
  | .hbm, ⟨1, _⟩ => ⟨S128x1024, .bf16⟩
  | .hbm, ⟨2, _⟩ => ⟨S4352x128, .bf16⟩
  | .hbm, ⟨3, _⟩ => ⟨S4352x128, .f32⟩
  | .hbm, ⟨4, _⟩ => ⟨S128x1024, .f32⟩
  | .hbm, ⟨5, _⟩ => ⟨S4352x1024, .f32⟩
  | .hbm, ⟨6, _⟩ => ⟨S4352x1024, .bf16⟩
  | _, _ => ⟨S4352x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== UqX.lean ====
abbrev S4352x1024 : Shape := ⟨2, ![4352, 1024]⟩
abbrev S384x1024 : Shape := ⟨2, ![384, 1024]⟩
abbrev S4352x384 : Shape := ⟨2, ![4352, 384]⟩
abbrev S1088x1024 : Shape := ⟨2, ![1088, 1024]⟩
abbrev S1088x384 : Shape := ⟨2, ![1088, 384]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S384x1024, .bf16⟩
  | .hbm, ⟨2, _⟩ => ⟨S4352x384, .f32⟩
  | .local _ .vmem, ⟨0, _⟩ => ⟨S1088x1024, .bf16⟩
  | .local _ .vmem, ⟨1, _⟩ => ⟨S1088x1024, .bf16⟩
  | .local _ .vmem, ⟨2, _⟩ => ⟨S384x1024, .bf16⟩
  | .local _ .vmem, ⟨3, _⟩ => ⟨S1088x384, .f32⟩
  | .local _ .vmem, ⟨4, _⟩ => ⟨S1088x384, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqXRefIdeal.lean ====
abbrev S4352x1024 : Shape := ⟨2, ![4352, 1024]⟩
abbrev S384x1024 : Shape := ⟨2, ![384, 1024]⟩
abbrev S_ : Shape := ⟨0, ![]⟩
abbrev S4352x384 : Shape := ⟨2, ![4352, 384]⟩

abbrev nBuf : Space → Nat
  | .hbm => 8
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S384x1024, .bf16⟩
  | .hbm, ⟨2, _⟩ => ⟨S_, .f32⟩
  | .hbm, ⟨3, _⟩ => ⟨S4352x384, .f32⟩
  | .hbm, ⟨4, _⟩ => ⟨S384x1024, .f32⟩
  | .hbm, ⟨5, _⟩ => ⟨S4352x1024, .f32⟩
  | .hbm, ⟨6, _⟩ => ⟨S4352x1024, .f32⟩
  | .hbm, ⟨7, _⟩ => ⟨S4352x384, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UkvX.lean ====
abbrev S4352x1024 : Shape := ⟨2, ![4352, 1024]⟩
abbrev S128x1024 : Shape := ⟨2, ![128, 1024]⟩
abbrev S4352x128 : Shape := ⟨2, ![4352, 128]⟩
abbrev S1088x1024 : Shape := ⟨2, ![1088, 1024]⟩
abbrev S1088x128 : Shape := ⟨2, ![1088, 128]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S128x1024, .bf16⟩
  | .hbm, ⟨2, _⟩ => ⟨S4352x128, .f32⟩
  | .local _ .vmem, ⟨0, _⟩ => ⟨S1088x1024, .bf16⟩
  | .local _ .vmem, ⟨1, _⟩ => ⟨S1088x1024, .bf16⟩
  | .local _ .vmem, ⟨2, _⟩ => ⟨S128x1024, .bf16⟩
  | .local _ .vmem, ⟨3, _⟩ => ⟨S1088x128, .f32⟩
  | .local _ .vmem, ⟨4, _⟩ => ⟨S1088x128, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvXRefIdeal.lean ====
abbrev S4352x1024 : Shape := ⟨2, ![4352, 1024]⟩
abbrev S128x1024 : Shape := ⟨2, ![128, 1024]⟩
abbrev S_ : Shape := ⟨0, ![]⟩
abbrev S4352x128 : Shape := ⟨2, ![4352, 128]⟩

abbrev nBuf : Space → Nat
  | .hbm => 8
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S128x1024, .bf16⟩
  | .hbm, ⟨2, _⟩ => ⟨S_, .f32⟩
  | .hbm, ⟨3, _⟩ => ⟨S4352x128, .f32⟩
  | .hbm, ⟨4, _⟩ => ⟨S128x1024, .f32⟩
  | .hbm, ⟨5, _⟩ => ⟨S4352x1024, .f32⟩
  | .hbm, ⟨6, _⟩ => ⟨S4352x1024, .f32⟩
  | .hbm, ⟨7, _⟩ => ⟨S4352x128, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UqW.lean ====
abbrev S4352x384 : Shape := ⟨2, ![4352, 384]⟩
abbrev S4352x1024 : Shape := ⟨2, ![4352, 1024]⟩
abbrev S384x1024 : Shape := ⟨2, ![384, 1024]⟩
abbrev S2176x384 : Shape := ⟨2, ![2176, 384]⟩
abbrev S2176x1024 : Shape := ⟨2, ![2176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x384, .bf16⟩
  | .hbm, ⟨1, _⟩ => ⟨S4352x1024, .bf16⟩
  | .hbm, ⟨2, _⟩ => ⟨S384x1024, .f32⟩
  | .local _ .vmem, ⟨0, _⟩ => ⟨S2176x384, .bf16⟩
  | .local _ .vmem, ⟨1, _⟩ => ⟨S2176x384, .bf16⟩
  | .local _ .vmem, ⟨2, _⟩ => ⟨S2176x1024, .bf16⟩
  | .local _ .vmem, ⟨3, _⟩ => ⟨S2176x1024, .bf16⟩
  | .local _ .vmem, ⟨4, _⟩ => ⟨S384x1024, .f32⟩
  | .local _ .vmem, ⟨5, _⟩ => ⟨S384x1024, .f32⟩
  | _, _ => ⟨S4352x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UqWRefIdeal.lean ====
abbrev S4352x384 : Shape := ⟨2, ![4352, 384]⟩
abbrev S4352x1024 : Shape := ⟨2, ![4352, 1024]⟩
abbrev S_ : Shape := ⟨0, ![]⟩
abbrev S384x1024 : Shape := ⟨2, ![384, 1024]⟩
abbrev S1024x384 : Shape := ⟨2, ![1024, 384]⟩

abbrev nBuf : Space → Nat
  | .hbm => 9
  | .vmem => 0
  | .smem => 0
  | _ => 0

abbrev bufTy : (tb : Table) → Fin (tcTables nBuf tb) → BufTy
  | .hbm, ⟨0, _⟩ => ⟨S4352x384, .bf16⟩
  | .hbm, ⟨1, _⟩ => ⟨S4352x1024, .bf16⟩
  | .hbm, ⟨2, _⟩ => ⟨S_, .f32⟩
  | .hbm, ⟨3, _⟩ => ⟨S384x1024, .f32⟩
  | .hbm, ⟨4, _⟩ => ⟨S4352x384, .f32⟩
  | .hbm, ⟨5, _⟩ => ⟨S4352x1024, .f32⟩
  | .hbm, ⟨6, _⟩ => ⟨S4352x1024, .f32⟩
  | .hbm, ⟨7, _⟩ => ⟨S1024x384, .f32⟩
  | .hbm, ⟨8, _⟩ => ⟨S384x1024, .f32⟩
  | _, _ => ⟨S4352x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UkvW.lean ====
abbrev S4352x128 : Shape := ⟨2, ![4352, 128]⟩
abbrev S4352x1024 : Shape := ⟨2, ![4352, 1024]⟩
abbrev S128x1024 : Shape := ⟨2, ![128, 1024]⟩
abbrev S2176x128 : Shape := ⟨2, ![2176, 128]⟩
abbrev S2176x1024 : Shape := ⟨2, ![2176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x128, .bf16⟩
  | .hbm, ⟨1, _⟩ => ⟨S4352x1024, .bf16⟩
  | .hbm, ⟨2, _⟩ => ⟨S128x1024, .f32⟩
  | .local _ .vmem, ⟨0, _⟩ => ⟨S2176x128, .bf16⟩
  | .local _ .vmem, ⟨1, _⟩ => ⟨S2176x128, .bf16⟩
  | .local _ .vmem, ⟨2, _⟩ => ⟨S2176x1024, .bf16⟩
  | .local _ .vmem, ⟨3, _⟩ => ⟨S2176x1024, .bf16⟩
  | .local _ .vmem, ⟨4, _⟩ => ⟨S128x1024, .f32⟩
  | .local _ .vmem, ⟨5, _⟩ => ⟨S128x1024, .f32⟩
  | _, _ => ⟨S4352x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UkvWRefIdeal.lean ====
abbrev S4352x128 : Shape := ⟨2, ![4352, 128]⟩
abbrev S4352x1024 : Shape := ⟨2, ![4352, 1024]⟩
abbrev S_ : Shape := ⟨0, ![]⟩
abbrev S128x1024 : Shape := ⟨2, ![128, 1024]⟩
abbrev S1024x128 : Shape := ⟨2, ![1024, 128]⟩

abbrev nBuf : Space → Nat
  | .hbm => 9
  | .vmem => 0
  | .smem => 0
  | _ => 0

abbrev bufTy : (tb : Table) → Fin (tcTables nBuf tb) → BufTy
  | .hbm, ⟨0, _⟩ => ⟨S4352x128, .bf16⟩
  | .hbm, ⟨1, _⟩ => ⟨S4352x1024, .bf16⟩
  | .hbm, ⟨2, _⟩ => ⟨S_, .f32⟩
  | .hbm, ⟨3, _⟩ => ⟨S128x1024, .f32⟩
  | .hbm, ⟨4, _⟩ => ⟨S4352x128, .f32⟩
  | .hbm, ⟨5, _⟩ => ⟨S4352x1024, .f32⟩
  | .hbm, ⟨6, _⟩ => ⟨S4352x1024, .f32⟩
  | .hbm, ⟨7, _⟩ => ⟨S1024x128, .f32⟩
  | .hbm, ⟨8, _⟩ => ⟨S128x1024, .f32⟩
  | _, _ => ⟨S4352x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Bwd.Sched.lean ====
/- The grid of the attention gradient: point `t` is head pair `t / 17` and query block `t % 17`; blocks 0 … 15
   are query rows, block 16 the context rows, where the body only clears the query gradient's block. This module
   says which branches the body takes at a point and where its outputs are live, carried or fresh. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The grid has 34 points. -/
theorem lt34 (t : Fin cfg0.N) : t.val < 34 := lt_of_lt_of_eq t.isLt (show cfg0.N = 34 from N_0)

/-- The first branch (clear the key and value gradients) is taken at query block 0. -/
theorem first_iff : ∀ t : Fin cfg0.N, k0_cond1 (grid0.coords t) = 1#1 ↔ t.val % 17 = 0 :=
  (by decide +kernel : ∀ t : Fin grid0.N, k0_cond1 (grid0.coords t) = 1#1 ↔ t.val % 17 = 0)
/-- The second branch (a block of query rows) is taken at query blocks 0 … 15. -/
theorem rows_iff : ∀ t : Fin cfg0.N, k0_cond2 (grid0.coords t) = 1#1 ↔ t.val % 17 ≤ 15 :=
  (by decide +kernel : ∀ t : Fin grid0.N, k0_cond2 (grid0.coords t) = 1#1 ↔ t.val % 17 ≤ 15)
/-- The third branch (clear the query gradient's block) is taken at query block 16. -/
theorem last_iff : ∀ t : Fin cfg0.N, k0_cond3 (grid0.coords t) = 1#1 ↔ t.val % 17 = 16 :=
  (by decide +kernel : ∀ t : Fin grid0.N, k0_cond3 (grid0.coords t) = 1#1 ↔ t.val % 17 = 16)

/-- The query gradient's block is stored at every point. -/
theorem live6 : ∀ t : Fin cfg0.N, cfg0.idle 6 (grid0.coords t) = false :=
  (by decide +kernel : ∀ t : Fin grid0.N, cfg0.idle 6 (grid0.coords t) = false)
/-- The key gradient's block is stored at query blocks 0 … 15 and kept at query block 16. -/
theorem idle7 : ∀ t : Fin cfg0.N, cfg0.idle 7 (grid0.coords t) = decide (t.val % 17 = 16) :=
  (by decide +kernel : ∀ t : Fin grid0.N, cfg0.idle 7 (grid0.coords t) = decide (t.val % 17 = 16))
/-- The value gradient's block likewise. -/
theorem idle8 : ∀ t : Fin cfg0.N, cfg0.idle 8 (grid0.coords t) = decide (t.val % 17 = 16) :=
  (by decide +kernel : ∀ t : Fin grid0.N, cfg0.idle 8 (grid0.coords t) = decide (t.val % 17 = 16))

/-- The gradients' buffers hold nothing of the body's at the start of each head pair. -/
def freshTab : ℕ → Bool := fun n => decide (n % 17 = 0)
theorem freshTab_step7 : ∀ t : Fin cfg0.N,
    freshTab (t.val + 1) = ((cfg0.win 7).flush t || (cfg0.idle 7 (cfg0.grid.coords t) && freshTab t.val)) := by decide +kernel
theorem freshTab_step8 : ∀ t : Fin cfg0.N,
    freshTab (t.val + 1) = ((cfg0.win 8).flush t || (cfg0.idle 8 (cfg0.grid.coords t) && freshTab t.val)) := by decide +kernel
theorem fresh7 (t : Fin cfg0.N) : cfg0.fresh 7 t.val = decide (t.val % 17 = 0) :=
  Pipeline.Cfg.fresh_tab cfg0 7 freshTab rfl freshTab_step7 t.val (Nat.le_of_lt t.isLt)
theorem fresh8 (t : Fin cfg0.N) : cfg0.fresh 8 t.val = decide (t.val % 17 = 0) :=
  Pipeline.Cfg.fresh_tab cfg0 8 freshTab rfl freshTab_step8 t.val (Nat.le_of_lt t.isLt)

end Cert.KernelIdeal.Bwd

end
-- ==== Proof.Bwd.RunA.lean ====
/- What the body's stores leave in its output buffers at query block 0, by running it. -/
module

public import proofs.«01_k».proof.Proof.Bwd.Sched

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at query block 0, on whole buffers: it clears the key and value gradients and then treats the block of query
    rows. The lists are the stores each output buffer ends with, last first, found by the run. -/
noncomputable def runA (c : Dev nD) (i : grid0.Coords) (arg2 : Memref sig .tc .vmem S256x256 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S4352x128 .f32) (harg9 : arg9.IsWhole) (arg10 : Memref sig .tc .vmem S4352x128 .f32) (harg10 : arg10.IsWhole)
    (hc0 : k0_cond1 i = 1#1) (hc1 : k0_cond2 i = 1#1) (hc2 : ¬k0_cond3 i = 1#1)
    (x0 : Vec F S256x256 .bf16) (x1 : Vec F S4352x128 .bf16) (x2 : Vec F S4352x128 .bf16) (x3 : Vec F S256x256 .bf16) (x4 : Vec F S256x256 .bf16) (x5 : Vec F S256x256 .f32) :
    Σ' (L6 : List (View.Piece (Elt F) S256x256 .f32)), Σ' (L7 : List (View.Piece (Elt F) S4352x128 .f32)), { L8 : List (View.Piece (Elt F) S4352x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc0_gqa_bwd i arg2 harg2 arg3 harg3 arg4 harg4 arg5 harg5 arg6 harg6 arg7 harg7 arg8 harg8 arg9 harg9 arg10 harg10) K } := by
  refine ⟨?_, ?_, ?_, fun E K => ?run⟩
  case run =>
    simp only [cc0_gqa_bwd_eq_skeleton]; unfold cc0_gqa_bwd_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact H8

end Cert.KernelIdeal.Bwd

end
-- ==== Proof.Bwd.RunB.lean ====
/- What the body's stores leave in its output buffers at query blocks 1 … 15, by running it. -/
module

public import proofs.«01_k».proof.Proof.Bwd.RunA

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at query blocks 1 … 15: it adds the block's parts to the key and value gradients `xo7`, `xo8` the buffers
    held. The lists are the stores each output buffer ends with, last first, found by the run. -/
noncomputable def runB (c : Dev nD) (i : grid0.Coords) (arg2 : Memref sig .tc .vmem S256x256 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S4352x128 .f32) (harg9 : arg9.IsWhole) (arg10 : Memref sig .tc .vmem S4352x128 .f32) (harg10 : arg10.IsWhole)
    (hc0 : ¬k0_cond1 i = 1#1) (hc1 : k0_cond2 i = 1#1) (hc2 : ¬k0_cond3 i = 1#1)
    (x0 : Vec F S256x256 .bf16) (x1 : Vec F S4352x128 .bf16) (x2 : Vec F S4352x128 .bf16) (x3 : Vec F S256x256 .bf16) (x4 : Vec F S256x256 .bf16) (x5 : Vec F S256x256 .f32) (xo7 : Vec F S4352x128 .f32) (xo8 : Vec F S4352x128 .f32) :
    Σ' (L6 : List (View.Piece (Elt F) S256x256 .f32)), Σ' (L7 : List (View.Piece (Elt F) S4352x128 .f32)), { L8 : List (View.Piece (Elt F) S4352x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xo7 ∗ owns (c : Thread nD τ) arg10 fullShare xo8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc0_gqa_bwd i arg2 harg2 arg3 harg3 arg4 harg4 arg5 harg5 arg6 harg6 arg7 harg7 arg8 harg8 arg9 harg9 arg10 harg10) K } := by
  refine ⟨?_, ?_, ?_, fun E K => ?run⟩
  case run =>
    simp only [cc0_gqa_bwd_eq_skeleton]; unfold cc0_gqa_bwd_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact H8

end Cert.KernelIdeal.Bwd

end
-- ==== Proof.Bwd.RunC.lean ====
/- What the body's stores leave in its output buffers at the block of context rows, by running it. -/
module

public import proofs.«01_k».proof.Proof.Bwd.RunB

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at query block 16: it clears the query gradient's block and leaves the key and value gradients as they are. -/
noncomputable def runC (c : Dev nD) (i : grid0.Coords) (arg2 : Memref sig .tc .vmem S256x256 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S4352x128 .f32) (harg9 : arg9.IsWhole) (arg10 : Memref sig .tc .vmem S4352x128 .f32) (harg10 : arg10.IsWhole)
    (hc0 : ¬k0_cond1 i = 1#1) (hc1 : ¬k0_cond2 i = 1#1) (hc2 : k0_cond3 i = 1#1)
    (x0 : Vec F S256x256 .bf16) (x1 : Vec F S4352x128 .bf16) (x2 : Vec F S4352x128 .bf16) (x3 : Vec F S256x256 .bf16) (x4 : Vec F S256x256 .bf16) (x5 : Vec F S256x256 .f32) (xo7 : Vec F S4352x128 .f32) (xo8 : Vec F S4352x128 .f32) :
    { L6 : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xo7 ∗ owns (c : Thread nD τ) arg10 fullShare xo8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xo7 ∗ owns (c : Thread nD τ) arg10 fullShare xo8) -∗ K ⟨⟩))
          ⊢ wp frame (wpE (defs₀ (F := F)) Variants.none c none) E (cc0_gqa_bwd i arg2 harg2 arg3 harg3 arg4 harg4 arg5 harg5 arg6 harg6 arg7 harg7 arg8 harg8 arg9 harg9 arg10 harg10) K } := by
  refine ⟨?_, fun E K => ?run⟩
  case run =>
    simp only [cc0_gqa_bwd_eq_skeleton]; unfold cc0_gqa_bwd_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; isplitr; · ipureintro; exact harg10.read_unread _
    iexact H8

end Cert.KernelIdeal.Bwd

end
-- ==== Proof.Bwd.Frame.lean ====
/- The attention gradient's run: what its three outputs hold after each point of the grid, the proof data of the
   pipeline, the body's triple at a generic point, and the launch with its frame. A point of query block 0 clears the
   key and value gradients and adds its rows' part; a point of query blocks 1 … 15 adds to what the point before left;
   the point of query block 16 clears the query gradient's block and keeps the other two. -/
module

public import proofs.«01_k».proof.Proof.Bwd.RunA
public import proofs.«01_k».proof.Proof.Bwd.RunB
public import proofs.«01_k».proof.Proof.Bwd.RunC
public import Idealize.ShloMosaic.Lib.Claim

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The query gradient's block is covered by what a point of query block 0 stores. -/
theorem cover6A (c : Dev nD) (i : grid0.Coords) (arg2 : Memref sig .tc .vmem S256x256 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S4352x128 .f32) (harg9 : arg9.IsWhole) (arg10 : Memref sig .tc .vmem S4352x128 .f32) (harg10 : arg10.IsWhole) (hc0 : k0_cond1 i = 1#1) (hc1 : k0_cond2 i = 1#1) (hc2 : ¬k0_cond3 i = 1#1)
    (x0 : Vec F S256x256 .bf16) (x1 : Vec F S4352x128 .bf16) (x2 : Vec F S4352x128 .bf16) (x3 : Vec F S256x256 .bf16) (x4 : Vec F S256x256 .bf16) (x5 : Vec F S256x256 .f32) (y : S256x256.Idx) :
    ∃ pc ∈ (runA c i arg2 harg2 arg3 harg3 arg4 harg4 arg5 harg5 arg6 harg6 arg7 harg7 arg8 harg8 arg9 harg9 arg10 harg10 hc0 hc1 hc2 x0 x1 x2 x3 x4 x5).1, y ∈ pc.1.set :=
  View.cover_of_tiledL (runA c i arg2 harg2 arg3 harg3 arg4 harg4 arg5 harg5 arg6 harg6 arg7 harg7 arg8 harg8 arg9 harg9 arg10 harg10 hc0 hc1 hc2 x0 x1 x2 x3 x4 x5).1 S256x128.size (by sl_kernel_rfl) y

/-- The query gradient's block after a point of query block 0. -/
def out6A (c : Dev nD) (i : grid0.Coords) (arg2 : Memref sig .tc .vmem S256x256 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S4352x128 .f32) (harg9 : arg9.IsWhole) (arg10 : Memref sig .tc .vmem S4352x128 .f32) (harg10 : arg10.IsWhole) (hc0 : k0_cond1 i = 1#1) (hc1 : k0_cond2 i = 1#1) (hc2 : ¬k0_cond3 i = 1#1)
    (x0 : Vec F S256x256 .bf16) (x1 : Vec F S4352x128 .bf16) (x2 : Vec F S4352x128 .bf16) (x3 : Vec F S256x256 .bf16) (x4 : Vec F S256x256 .bf16) (x5 : Vec F S256x256 .f32) : Vec F S256x256 .f32 :=
  arg8.view.read (Elt F) (arg8.view.writes (Elt F) arg8.view.junk (runA c i arg2 harg2 arg3 harg3 arg4 harg4 arg5 harg5 arg6 harg6 arg7 harg7 arg8 harg8 arg9 harg9 arg10 harg10 hc0 hc1 hc2 x0 x1 x2 x3 x4 x5).1)

/-- The key gradient's block is covered by what a point of query block 0 stores. -/
theorem cover7A (c : Dev nD) (i : grid0.Coords) (arg2 : Memref sig .tc .vmem S256x256 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S4352x128 .f32) (harg9 : arg9.IsWhole) (arg10 : Memref sig .tc .vmem S4352x128 .f32) (harg10 : arg10.IsWhole) (hc0 : k0_cond1 i = 1#1) (hc1 : k0_cond2 i = 1#1) (hc2 : ¬k0_cond3 i = 1#1)
    (x0 : Vec F S256x256 .bf16) (x1 : Vec F S4352x128 .bf16) (x2 : Vec F S4352x128 .bf16) (x3 : Vec F S256x256 .bf16) (x4 : Vec F S256x256 .bf16) (x5 : Vec F S256x256 .f32) (y : S4352x128.Idx) :
    ∃ pc ∈ (runA c i arg2 harg2 arg3 harg3 arg4 harg4 arg5 harg5 arg6 harg6 arg7 harg7 arg8 harg8 arg9 harg9 arg10 harg10 hc0 hc1 hc2 x0 x1 x2 x3 x4 x5).2.1, y ∈ pc.1.set :=
  View.cover_of_tiledBy (runA c i arg2 harg2 arg3 harg3 arg4 harg4 arg5 harg5 arg6 harg6 arg7 harg7 arg8 harg8 arg9 harg9 arg10 harg10 hc0 hc1 hc2 x0 x1 x2 x3 x4 x5).2.1 ![256, 128] (by sl_kernel_rfl) y

/-- The key gradient's block after a point of query block 0. -/
def out7A (c : Dev nD) (i : grid0.Coords) (arg2 : Memref sig .tc .vmem S256x256 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S4352x128 .f32) (harg9 : arg9.IsWhole) (arg10 : Memref sig .tc .vmem S4352x128 .f32) (harg10 : arg10.IsWhole) (hc0 : k0_cond1 i = 1#1) (hc1 : k0_cond2 i = 1#1) (hc2 : ¬k0_cond3 i = 1#1)
    (x0 : Vec F S256x256 .bf16) (x1 : Vec F S4352x128 .bf16) (x2 : Vec F S4352x128 .bf16) (x3 : Vec F S256x256 .bf16) (x4 : Vec F S256x256 .bf16) (x5 : Vec F S256x256 .f32) : Vec F S4352x128 .f32 :=
  arg9.view.read (Elt F) (arg9.view.writes (Elt F) arg9.view.junk (runA c i arg2 harg2 arg3 harg3 arg4 harg4 arg5 harg5 arg6 harg6 arg7 harg7 arg8 harg8 arg9 harg9 arg10 harg10 hc0 hc1 hc2 x0 x1 x2 x3 x4 x5).2.1)

/-- The value gradient's block is covered by what a point of query block 0 stores. -/
theorem cover8A (c : Dev nD) (i : grid0.Coords) (arg2 : Memref sig .tc .vmem S256x256 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S4352x128 .f32) (harg9 : arg9.IsWhole) (arg10 : Memref sig .tc .vmem S4352x128 .f32) (harg10 : arg10.IsWhole) (hc0 : k0_cond1 i = 1#1) (hc1 : k0_cond2 i = 1#1) (hc2 : ¬k0_cond3 i = 1#1)
    (x0 : Vec F S256x256 .bf16) (x1 : Vec F S4352x128 .bf16) (x2 : Vec F S4352x128 .bf16) (x3 : Vec F S256x256 .bf16) (x4 : Vec F S256x256 .bf16) (x5 : Vec F S256x256 .f32) (y : S4352x128.Idx) :
    ∃ pc ∈ (runA c i arg2 harg2 arg3 harg3 arg4 harg4 arg5 harg5 arg6 harg6 arg7 harg7 arg8 harg8 arg9 harg9 arg10 harg10 hc0 hc1 hc2 x0 x1 x2 x3 x4 x5).2.2.1, y ∈ pc.1.set :=
  View.cover_of_tiledBy (runA c i arg2 harg2 arg3 harg3 arg4 harg4 arg5 harg5 arg6 harg6 arg7 harg7 arg8 harg8 arg9 harg9 arg10 harg10 hc0 hc1 hc2 x0 x1 x2 x3 x4 x5).2.2.1 ![256, 128] (by sl_kernel_rfl) y

/-- The value gradient's block after a point of query block 0. -/
def out8A (c : Dev nD) (i : grid0.Coords) (arg2 : Memref sig .tc .vmem S256x256 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S4352x128 .f32) (harg9 : arg9.IsWhole) (arg10 : Memref sig .tc .vmem S4352x128 .f32) (harg10 : arg10.IsWhole) (hc0 : k0_cond1 i = 1#1) (hc1 : k0_cond2 i = 1#1) (hc2 : ¬k0_cond3 i = 1#1)
    (x0 : Vec F S256x256 .bf16) (x1 : Vec F S4352x128 .bf16) (x2 : Vec F S4352x128 .bf16) (x3 : Vec F S256x256 .bf16) (x4 : Vec F S256x256 .bf16) (x5 : Vec F S256x256 .f32) : Vec F S4352x128 .f32 :=
  arg10.view.read (Elt F) (arg10.view.writes (Elt F) arg10.view.junk (runA c i arg2 harg2 arg3 harg3 arg4 harg4 arg5 harg5 arg6 harg6 arg7 harg7 arg8 harg8 arg9 harg9 arg10 harg10 hc0 hc1 hc2 x0 x1 x2 x3 x4 x5).2.2.1)

/-- The query gradient's block is covered by what a point of query blocks 1 … 15 stores. -/
theorem cover6B (c : Dev nD) (i : grid0.Coords) (arg2 : Memref sig .tc .vmem S256x256 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S4352x128 .f32) (harg9 : arg9.IsWhole) (arg10 : Memref sig .tc .vmem S4352x128 .f32) (harg10 : arg10.IsWhole) (hc0 : ¬k0_cond1 i = 1#1) (hc1 : k0_cond2 i = 1#1) (hc2 : ¬k0_cond3 i = 1#1)
    (x0 : Vec F S256x256 .bf16) (x1 : Vec F S4352x128 .bf16) (x2 : Vec F S4352x128 .bf16) (x3 : Vec F S256x256 .bf16) (x4 : Vec F S256x256 .bf16) (x5 : Vec F S256x256 .f32) (xo7 : Vec F S4352x128 .f32) (xo8 : Vec F S4352x128 .f32) (y : S256x256.Idx) :
    ∃ pc ∈ (runB c i arg2 harg2 arg3 harg3 arg4 harg4 arg5 harg5 arg6 harg6 arg7 harg7 arg8 harg8 arg9 harg9 arg10 harg10 hc0 hc1 hc2 x0 x1 x2 x3 x4 x5 xo7 xo8).1, y ∈ pc.1.set :=
  View.cover_of_tiledL (runB c i arg2 harg2 arg3 harg3 arg4 harg4 arg5 harg5 arg6 harg6 arg7 harg7 arg8 harg8 arg9 harg9 arg10 harg10 hc0 hc1 hc2 x0 x1 x2 x3 x4 x5 xo7 xo8).1 S256x128.size (by sl_kernel_rfl) y

/-- The query gradient's block after a point of query blocks 1 … 15. -/
def out6B (c : Dev nD) (i : grid0.Coords) (arg2 : Memref sig .tc .vmem S256x256 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S4352x128 .f32) (harg9 : arg9.IsWhole) (arg10 : Memref sig .tc .vmem S4352x128 .f32) (harg10 : arg10.IsWhole) (hc0 : ¬k0_cond1 i = 1#1) (hc1 : k0_cond2 i = 1#1) (hc2 : ¬k0_cond3 i = 1#1)
    (x0 : Vec F S256x256 .bf16) (x1 : Vec F S4352x128 .bf16) (x2 : Vec F S4352x128 .bf16) (x3 : Vec F S256x256 .bf16) (x4 : Vec F S256x256 .bf16) (x5 : Vec F S256x256 .f32) (xo7 : Vec F S4352x128 .f32) (xo8 : Vec F S4352x128 .f32) : Vec F S256x256 .f32 :=
  arg8.view.read (Elt F) (arg8.view.writes (Elt F) arg8.view.junk (runB c i arg2 harg2 arg3 harg3 arg4 harg4 arg5 harg5 arg6 harg6 arg7 harg7 arg8 harg8 arg9 harg9 arg10 harg10 hc0 hc1 hc2 x0 x1 x2 x3 x4 x5 xo7 xo8).1)

/-- The key gradient's block is covered by what a point of query blocks 1 … 15 stores. -/
theorem cover7B (c : Dev nD) (i : grid0.Coords) (arg2 : Memref sig .tc .vmem S256x256 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S4352x128 .f32) (harg9 : arg9.IsWhole) (arg10 : Memref sig .tc .vmem S4352x128 .f32) (harg10 : arg10.IsWhole) (hc0 : ¬k0_cond1 i = 1#1) (hc1 : k0_cond2 i = 1#1) (hc2 : ¬k0_cond3 i = 1#1)
    (x0 : Vec F S256x256 .bf16) (x1 : Vec F S4352x128 .bf16) (x2 : Vec F S4352x128 .bf16) (x3 : Vec F S256x256 .bf16) (x4 : Vec F S256x256 .bf16) (x5 : Vec F S256x256 .f32) (xo7 : Vec F S4352x128 .f32) (xo8 : Vec F S4352x128 .f32) (y : S4352x128.Idx) :
    ∃ pc ∈ (runB c i arg2 harg2 arg3 harg3 arg4 harg4 arg5 harg5 arg6 harg6 arg7 harg7 arg8 harg8 arg9 harg9 arg10 harg10 hc0 hc1 hc2 x0 x1 x2 x3 x4 x5 xo7 xo8).2.1, y ∈ pc.1.set :=
  View.cover_of_tiledBy (runB c i arg2 harg2 arg3 harg3 arg4 harg4 arg5 harg5 arg6 harg6 arg7 harg7 arg8 harg8 arg9 harg9 arg10 harg10 hc0 hc1 hc2 x0 x1 x2 x3 x4 x5 xo7 xo8).2.1 ![256, 128] (by sl_kernel_rfl) y

/-- The key gradient's block after a point of query blocks 1 … 15. -/
def out7B (c : Dev nD) (i : grid0.Coords) (arg2 : Memref sig .tc .vmem S256x256 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S4352x128 .f32) (harg9 : arg9.IsWhole) (arg10 : Memref sig .tc .vmem S4352x128 .f32) (harg10 : arg10.IsWhole) (hc0 : ¬k0_cond1 i = 1#1) (hc1 : k0_cond2 i = 1#1) (hc2 : ¬k0_cond3 i = 1#1)
    (x0 : Vec F S256x256 .bf16) (x1 : Vec F S4352x128 .bf16) (x2 : Vec F S4352x128 .bf16) (x3 : Vec F S256x256 .bf16) (x4 : Vec F S256x256 .bf16) (x5 : Vec F S256x256 .f32) (xo7 : Vec F S4352x128 .f32) (xo8 : Vec F S4352x128 .f32) : Vec F S4352x128 .f32 :=
  arg9.view.read (Elt F) (arg9.view.writes (Elt F) arg9.view.junk (runB c i arg2 harg2 arg3 harg3 arg4 harg4 arg5 harg5 arg6 harg6 arg7 harg7 arg8 harg8 arg9 harg9 arg10 harg10 hc0 hc1 hc2 x0 x1 x2 x3 x4 x5 xo7 xo8).2.1)

/-- The value gradient's block is covered by what a point of query blocks 1 … 15 stores. -/
theorem cover8B (c : Dev nD) (i : grid0.Coords) (arg2 : Memref sig .tc .vmem S256x256 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S4352x128 .f32) (harg9 : arg9.IsWhole) (arg10 : Memref sig .tc .vmem S4352x128 .f32) (harg10 : arg10.IsWhole) (hc0 : ¬k0_cond1 i = 1#1) (hc1 : k0_cond2 i = 1#1) (hc2 : ¬k0_cond3 i = 1#1)
    (x0 : Vec F S256x256 .bf16) (x1 : Vec F S4352x128 .bf16) (x2 : Vec F S4352x128 .bf16) (x3 : Vec F S256x256 .bf16) (x4 : Vec F S256x256 .bf16) (x5 : Vec F S256x256 .f32) (xo7 : Vec F S4352x128 .f32) (xo8 : Vec F S4352x128 .f32) (y : S4352x128.Idx) :
    ∃ pc ∈ (runB c i arg2 harg2 arg3 harg3 arg4 harg4 arg5 harg5 arg6 harg6 arg7 harg7 arg8 harg8 arg9 harg9 arg10 harg10 hc0 hc1 hc2 x0 x1 x2 x3 x4 x5 xo7 xo8).2.2.1, y ∈ pc.1.set :=
  View.cover_of_tiledBy (runB c i arg2 harg2 arg3 harg3 arg4 harg4 arg5 harg5 arg6 harg6 arg7 harg7 arg8 harg8 arg9 harg9 arg10 harg10 hc0 hc1 hc2 x0 x1 x2 x3 x4 x5 xo7 xo8).2.2.1 ![256, 128] (by sl_kernel_rfl) y

/-- The value gradient's block after a point of query blocks 1 … 15. -/
def out8B (c : Dev nD) (i : grid0.Coords) (arg2 : Memref sig .tc .vmem S256x256 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S4352x128 .f32) (harg9 : arg9.IsWhole) (arg10 : Memref sig .tc .vmem S4352x128 .f32) (harg10 : arg10.IsWhole) (hc0 : ¬k0_cond1 i = 1#1) (hc1 : k0_cond2 i = 1#1) (hc2 : ¬k0_cond3 i = 1#1)
    (x0 : Vec F S256x256 .bf16) (x1 : Vec F S4352x128 .bf16) (x2 : Vec F S4352x128 .bf16) (x3 : Vec F S256x256 .bf16) (x4 : Vec F S256x256 .bf16) (x5 : Vec F S256x256 .f32) (xo7 : Vec F S4352x128 .f32) (xo8 : Vec F S4352x128 .f32) : Vec F S4352x128 .f32 :=
  arg10.view.read (Elt F) (arg10.view.writes (Elt F) arg10.view.junk (runB c i arg2 harg2 arg3 harg3 arg4 harg4 arg5 harg5 arg6 harg6 arg7 harg7 arg8 harg8 arg9 harg9 arg10 harg10 hc0 hc1 hc2 x0 x1 x2 x3 x4 x5 xo7 xo8).2.2.1)

/-- The query gradient's block is covered by what a point of query block 16 stores. -/
theorem cover6C (c : Dev nD) (i : grid0.Coords) (arg2 : Memref sig .tc .vmem S256x256 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S4352x128 .f32) (harg9 : arg9.IsWhole) (arg10 : Memref sig .tc .vmem S4352x128 .f32) (harg10 : arg10.IsWhole) (hc0 : ¬k0_cond1 i = 1#1) (hc1 : ¬k0_cond2 i = 1#1) (hc2 : k0_cond3 i = 1#1)
    (x0 : Vec F S256x256 .bf16) (x1 : Vec F S4352x128 .bf16) (x2 : Vec F S4352x128 .bf16) (x3 : Vec F S256x256 .bf16) (x4 : Vec F S256x256 .bf16) (x5 : Vec F S256x256 .f32) (xo7 : Vec F S4352x128 .f32) (xo8 : Vec F S4352x128 .f32) (y : S256x256.Idx) :
    ∃ pc ∈ (runC c i arg2 harg2 arg3 harg3 arg4 harg4 arg5 harg5 arg6 harg6 arg7 harg7 arg8 harg8 arg9 harg9 arg10 harg10 hc0 hc1 hc2 x0 x1 x2 x3 x4 x5 xo7 xo8).1, y ∈ pc.1.set :=
  View.cover_of_tiledL (runC c i arg2 harg2 arg3 harg3 arg4 harg4 arg5 harg5 arg6 harg6 arg7 harg7 arg8 harg8 arg9 harg9 arg10 harg10 hc0 hc1 hc2 x0 x1 x2 x3 x4 x5 xo7 xo8).1 S256x256.size (by sl_kernel_rfl) y

/-- The query gradient's block after a point of query block 16. -/
def out6C (c : Dev nD) (i : grid0.Coords) (arg2 : Memref sig .tc .vmem S256x256 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S4352x128 .f32) (harg9 : arg9.IsWhole) (arg10 : Memref sig .tc .vmem S4352x128 .f32) (harg10 : arg10.IsWhole) (hc0 : ¬k0_cond1 i = 1#1) (hc1 : ¬k0_cond2 i = 1#1) (hc2 : k0_cond3 i = 1#1)
    (x0 : Vec F S256x256 .bf16) (x1 : Vec F S4352x128 .bf16) (x2 : Vec F S4352x128 .bf16) (x3 : Vec F S256x256 .bf16) (x4 : Vec F S256x256 .bf16) (x5 : Vec F S256x256 .f32) (xo7 : Vec F S4352x128 .f32) (xo8 : Vec F S4352x128 .f32) : Vec F S256x256 .f32 :=
  arg8.view.read (Elt F) (arg8.view.writes (Elt F) arg8.view.junk (runC c i arg2 harg2 arg3 harg3 arg4 harg4 arg5 harg5 arg6 harg6 arg7 harg7 arg8 harg8 arg9 harg9 arg10 harg10 hc0 hc1 hc2 x0 x1 x2 x3 x4 x5 xo7 xo8).1)

/-- The three outputs' contents. -/
abbrev Outs (F : FTy → Type) := Vec F S256x256 .f32 × Vec F S4352x128 .f32 × Vec F S4352x128 .f32

/-- What the outputs' buffers hold after the body at point `t`, over what the point before left. -/
def stepAt (c : Dev nD) (t : Fin cfg0.N) (prev : Outs F) : Outs F :=
  if h0 : t.val % 17 = 0 then
    (out6A c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) ((first_iff t).mpr h0) ((rows_iff t).mpr (by omega)) (fun h => absurd ((last_iff t).mp h) (by omega)) (X0_0 m c t) (iblk m c 1 t) (iblk m c 2 t) (iblk m c 3 t) (iblk m c 4 t) (iblk m c 5 t),
     out7A c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) ((first_iff t).mpr h0) ((rows_iff t).mpr (by omega)) (fun h => absurd ((last_iff t).mp h) (by omega)) (X0_0 m c t) (iblk m c 1 t) (iblk m c 2 t) (iblk m c 3 t) (iblk m c 4 t) (iblk m c 5 t),
     out8A c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) ((first_iff t).mpr h0) ((rows_iff t).mpr (by omega)) (fun h => absurd ((last_iff t).mp h) (by omega)) (X0_0 m c t) (iblk m c 1 t) (iblk m c 2 t) (iblk m c 3 t) (iblk m c 4 t) (iblk m c 5 t))
  else if h2 : t.val % 17 = 16 then
    (out6C c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (fun h => h0 ((first_iff t).mp h)) (fun h => absurd ((rows_iff t).mp h) (by omega)) ((last_iff t).mpr h2) (X0_0 m c t) (iblk m c 1 t) (iblk m c 2 t) (iblk m c 3 t) (iblk m c 4 t) (iblk m c 5 t) prev.2.1 prev.2.2, prev.2.1, prev.2.2)
  else
    (out6B c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (fun h => h0 ((first_iff t).mp h)) ((rows_iff t).mpr (by omega)) (fun h => h2 ((last_iff t).mp h)) (X0_0 m c t) (iblk m c 1 t) (iblk m c 2 t) (iblk m c 3 t) (iblk m c 4 t) (iblk m c 5 t) prev.2.1 prev.2.2,
     out7B c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (fun h => h0 ((first_iff t).mp h)) ((rows_iff t).mpr (by omega)) (fun h => h2 ((last_iff t).mp h)) (X0_0 m c t) (iblk m c 1 t) (iblk m c 2 t) (iblk m c 3 t) (iblk m c 4 t) (iblk m c 5 t) prev.2.1 prev.2.2,
     out8B c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (fun h => h0 ((first_iff t).mp h)) ((rows_iff t).mpr (by omega)) (fun h => h2 ((last_iff t).mp h)) (X0_0 m c t) (iblk m c 1 t) (iblk m c 2 t) (iblk m c 3 t) (iblk m c 4 t) (iblk m c 5 t) prev.2.1 prev.2.2)

/-- What the outputs' buffers hold after the point at position `n`. -/
def outsAt (c : Dev nD) : (n : ℕ) → n < cfg0.N → Outs F
  | 0, hn => stepAt m c ⟨0, hn⟩ (k0_pay10, k0_pay1, k0_pay2)
  | n + 1, hn => stepAt m c ⟨n + 1, hn⟩ (outsAt c n (Nat.lt_of_succ_lt hn))

/-- The point before `t`, or the first point. -/
abbrev prevAt (c : Dev nD) (t : Fin cfg0.N) : Outs F := outsAt m c (t.val - 1) (Nat.lt_of_le_of_lt (Nat.sub_le _ _) t.isLt)

theorem outsAt_A (c : Dev nD) (t : Fin cfg0.N) (h0 : t.val % 17 = 0) :
    outsAt m c t.val t.isLt =
    (out6A c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) ((first_iff t).mpr h0) ((rows_iff t).mpr (by omega)) (fun h => absurd ((last_iff t).mp h) (by omega)) (X0_0 m c t) (iblk m c 1 t) (iblk m c 2 t) (iblk m c 3 t) (iblk m c 4 t) (iblk m c 5 t),
     out7A c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) ((first_iff t).mpr h0) ((rows_iff t).mpr (by omega)) (fun h => absurd ((last_iff t).mp h) (by omega)) (X0_0 m c t) (iblk m c 1 t) (iblk m c 2 t) (iblk m c 3 t) (iblk m c 4 t) (iblk m c 5 t),
     out8A c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) ((first_iff t).mpr h0) ((rows_iff t).mpr (by omega)) (fun h => absurd ((last_iff t).mp h) (by omega)) (X0_0 m c t) (iblk m c 1 t) (iblk m c 2 t) (iblk m c 3 t) (iblk m c 4 t) (iblk m c 5 t)) := by
  obtain ⟨n, hn⟩ := t
  cases n with
  | zero => exact (show outsAt m c 0 hn = stepAt m c ⟨0, hn⟩ _ from rfl).trans (dif_pos (show (⟨0, hn⟩ : Fin cfg0.N).val % 17 = 0 from rfl))
  | succ n => exact (dif_pos h0).trans rfl

theorem outsAt_B (c : Dev nD) (t : Fin cfg0.N) (h0 : ¬t.val % 17 = 0) (h2 : ¬t.val % 17 = 16) :
    outsAt m c t.val t.isLt =
    (out6B c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (fun h => h0 ((first_iff t).mp h)) ((rows_iff t).mpr (by omega)) (fun h => h2 ((last_iff t).mp h)) (X0_0 m c t) (iblk m c 1 t) (iblk m c 2 t) (iblk m c 3 t) (iblk m c 4 t) (iblk m c 5 t) (prevAt m c t).2.1 (prevAt m c t).2.2,
     out7B c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (fun h => h0 ((first_iff t).mp h)) ((rows_iff t).mpr (by omega)) (fun h => h2 ((last_iff t).mp h)) (X0_0 m c t) (iblk m c 1 t) (iblk m c 2 t) (iblk m c 3 t) (iblk m c 4 t) (iblk m c 5 t) (prevAt m c t).2.1 (prevAt m c t).2.2,
     out8B c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (fun h => h0 ((first_iff t).mp h)) ((rows_iff t).mpr (by omega)) (fun h => h2 ((last_iff t).mp h)) (X0_0 m c t) (iblk m c 1 t) (iblk m c 2 t) (iblk m c 3 t) (iblk m c 4 t) (iblk m c 5 t) (prevAt m c t).2.1 (prevAt m c t).2.2) := by
  obtain ⟨n, hn⟩ := t
  cases n with
  | zero => exact absurd (Nat.zero_mod _) h0
  | succ n => exact (dif_neg h0).trans ((dif_neg h2).trans rfl)

theorem outsAt_C (c : Dev nD) (t : Fin cfg0.N) (h0 : ¬t.val % 17 = 0) (h2 : t.val % 17 = 16) :
    outsAt m c t.val t.isLt =
    (out6C c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (fun h => h0 ((first_iff t).mp h)) (fun h => absurd ((rows_iff t).mp h) (by omega)) ((last_iff t).mpr h2) (X0_0 m c t) (iblk m c 1 t) (iblk m c 2 t) (iblk m c 3 t) (iblk m c 4 t) (iblk m c 5 t) (prevAt m c t).2.1 (prevAt m c t).2.2, (prevAt m c t).2.1, (prevAt m c t).2.2) := by
  obtain ⟨n, hn⟩ := t
  cases n with
  | zero => exact absurd (Nat.zero_mod _) h0
  | succ n => exact (dif_neg h0).trans ((dif_pos h2).trans rfl)

/-- The proof data of the pipeline on core `c`: the arrays as the region finds them; after the body each input's buffer
    at its block and the outputs' at `outsAt`; nothing owed. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
    | ⟨7, _⟩ => (outsAt m c t.val t.isLt).2.1
    | ⟨8, _⟩ => (outsAt m c t.val t.isLt).2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = X0_0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (outsAt m c t.val t.isLt).1 := by dsimp only [dats]
theorem after_7 (c : Dev nD) (t : Fin cfg0.N) : (dats m 0 c).after 7 t = (outsAt m c t.val t.isLt).2.1 := by dsimp only [dats]
theorem after_8 (c : Dev nD) (t : Fin cfg0.N) : (dats m 0 c).after 8 t = (outsAt m c t.val t.isLt).2.2 := by dsimp only [dats]
theorem before_0 (c : Dev nD) (t : Fin cfg0.N) (d) : (dats m 0 c).before 0 t d = X0_0 m c t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- The key gradient's buffer is carried through the points that leave it alone. -/
theorem carry7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ hi _
  rw [after_7, after_7]
  rw [idle7 t] at hi
  have h2 : t.val % 17 = 16 := of_decide_eq_true hi
  rw [outsAt_C m c t (by omega) h2]

/-- After query block 0 its buffer holds, before the body, what the point before left. -/
theorem before_7 (c : Dev nD) (t : Fin cfg0.N) (h0 : ¬t.val % 17 = 0) (d) :
    (dats m 0 c).before 7 t d = (prevAt m c t).2.1 := by
  rw [Dat.before_out_traj _ 7 rfl (fun _ _ => rfl) (carry7 m c) t.val t rfl d,
    if_neg (by rw [fresh7 t]; simp [h0])]
  dsimp only [dats]

/-- The value gradient's buffer is carried through the points that leave it alone. -/
theorem carry8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  rw [after_8, after_8]
  rw [idle8 t] at hi
  have h2 : t.val % 17 = 16 := of_decide_eq_true hi
  rw [outsAt_C m c t (by omega) h2]

/-- After query block 0 its buffer holds, before the body, what the point before left. -/
theorem before_8 (c : Dev nD) (t : Fin cfg0.N) (h0 : ¬t.val % 17 = 0) (d) :
    (dats m 0 c).before 8 t d = (prevAt m c t).2.2 := by
  rw [Dat.before_out_traj _ 8 rfl (fun _ _ => rfl) (carry8 m c) t.val t rfl d,
    if_neg (by rw [fresh8 t]; simp [h0])]
  dsimp only [dats]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves_0 (c : Dev nD) (t : Fin cfg0.N) : (dats m 0 c).leavesExact 0 t = owns (c : Thread nD τ) (st0_0 t) fullShare ((dats m 0 c).after 0 t) := by
  unfold Dat.leavesExact; rw [show cfg0.idle 0 (cfg0.grid.coords t) = false from rfl]
theorem leaves_1 (c : Dev nD) (t : Fin cfg0.N) : (dats m 0 c).leavesExact 1 t = owns (c : Thread nD τ) (st0_1 t) fullShare ((dats m 0 c).after 1 t) := by
  unfold Dat.leavesExact; rw [show cfg0.idle 1 (cfg0.grid.coords t) = false from rfl]
theorem leaves_2 (c : Dev nD) (t : Fin cfg0.N) : (dats m 0 c).leavesExact 2 t = owns (c : Thread nD τ) (st0_2 t) fullShare ((dats m 0 c).after 2 t) := by
  unfold Dat.leavesExact; rw [show cfg0.idle 2 (cfg0.grid.coords t) = false from rfl]
theorem leaves_3 (c : Dev nD) (t : Fin cfg0.N) : (dats m 0 c).leavesExact 3 t = owns (c : Thread nD τ) (st0_3 t) fullShare ((dats m 0 c).after 3 t) := by
  unfold Dat.leavesExact; rw [show cfg0.idle 3 (cfg0.grid.coords t) = false from rfl]
theorem leaves_4 (c : Dev nD) (t : Fin cfg0.N) : (dats m 0 c).leavesExact 4 t = owns (c : Thread nD τ) (st0_4 t) fullShare ((dats m 0 c).after 4 t) := by
  unfold Dat.leavesExact; rw [show cfg0.idle 4 (cfg0.grid.coords t) = false from rfl]
theorem leaves_5 (c : Dev nD) (t : Fin cfg0.N) : (dats m 0 c).leavesExact 5 t = owns (c : Thread nD τ) (st0_5 t) fullShare ((dats m 0 c).after 5 t) := by
  unfold Dat.leavesExact; rw [show cfg0.idle 5 (cfg0.grid.coords t) = false from rfl]
theorem leaves_6 (c : Dev nD) (t : Fin cfg0.N) : (dats m 0 c).leavesExact 6 t = owns (c : Thread nD τ) (st0_6 t) fullShare ((dats m 0 c).after 6 t) := by
  unfold Dat.leavesExact; rw [live6 t]
theorem leaves_7 (c : Dev nD) (t : Fin cfg0.N) : (dats m 0 c).leavesExact 7 t = owns (c : Thread nD τ) (st0_7 t) fullShare ((dats m 0 c).after 7 t) := by
  unfold Dat.leavesExact
  by_cases h2 : t.val % 17 = 16
  · rw [idle7 t, (flush0_7 t).mpr h2, decide_eq_true h2]
  · rw [idle7 t, decide_eq_false h2]
theorem leaves_8 (c : Dev nD) (t : Fin cfg0.N) : (dats m 0 c).leavesExact 8 t = owns (c : Thread nD τ) (st0_8 t) fullShare ((dats m 0 c).after 8 t) := by
  unfold Dat.leavesExact
  by_cases h2 : t.val % 17 = 16
  · rw [idle8 t, (flush0_8 t).mpr h2, decide_eq_true h2]
  · rw [idle8 t, decide_eq_false h2]

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl]
  rw [leaves_0, leaves_1, leaves_2, leaves_3, leaves_4, leaves_5, leaves_6, leaves_7, leaves_8, after_0, after_1, after_2, after_3, after_4, after_5, after_6, after_7, after_8]
  have hN := lt34 t
  by_cases h0 : t.val % 17 = 0
  · rw [outsAt_A m c t h0]
    unfold out6A out7A out8A; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA c (grid0.coords t) _ _ _ _ _ _ _ _ _ _ _ _ _ _ _ _ _ _ ((first_iff t).mpr h0) ((rows_iff t).mpr (by omega)) (fun h => absurd ((last_iff t).mp h) (by omega)) (X0_0 m c t) (iblk m c 1 t) (iblk m c 2 t) (iblk m c 3 t) (iblk m c 4 t) (iblk m c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover6A c _ _ _ _ _ _ _ _ _ _ _ _ _ _ _ _ _ _ _ _ _ _ _ _ _ _ _ _ )
    isplitl [H7]
    · unfold owns; iexists _; isplitr
      swap; · iexact H7
      ipureintro; exact View.read_writes_of_cover _ _ _ _ _ (cover7A c _ _ _ _ _ _ _ _ _ _ _ _ _ _ _ _ _ _ _ _ _ _ _ _ _ _ _ _ )
    unfold owns; iexists _; isplitr
    swap; · iexact H8
    ipureintro; exact View.read_writes_of_cover _ _ _ _ _ (cover8A c _ _ _ _ _ _ _ _ _ _ _ _ _ _ _ _ _ _ _ _ _ _ _ _ _ _ _ _ )
  by_cases h2 : t.val % 17 = 16
  · rw [outsAt_C m c t h0 h2]
    simp only [before_7 m c t h0, before_8 m c t h0]
    unfold out6C; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runC c (grid0.coords t) _ _ _ _ _ _ _ _ _ _ _ _ _ _ _ _ _ _ (fun h => h0 ((first_iff t).mp h)) (fun h => absurd ((rows_iff t).mp h) (by omega)) ((last_iff t).mpr h2) (X0_0 m c t) (iblk m c 1 t) (iblk m c 2 t) (iblk m c 3 t) (iblk m c 4 t) (iblk m c 5 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover6C c _ _ _ _ _ _ _ _ _ _ _ _ _ _ _ _ _ _ _ _ _ _ _ _ _ _ _ _ _ _ )
    isplitl [H7]; · iexact H7
    iexact H8
  · rw [outsAt_B m c t h0 h2]
    simp only [before_7 m c t h0, before_8 m c t h0]
    unfold out6B out7B out8B; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB c (grid0.coords t) _ _ _ _ _ _ _ _ _ _ _ _ _ _ _ _ _ _ (fun h => h0 ((first_iff t).mp h)) ((rows_iff t).mpr (by omega)) (fun h => h2 ((last_iff t).mp h)) (X0_0 m c t) (iblk m c 1 t) (iblk m c 2 t) (iblk m c 3 t) (iblk m c 4 t) (iblk m c 5 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover6B c _ _ _ _ _ _ _ _ _ _ _ _ _ _ _ _ _ _ _ _ _ _ _ _ _ _ _ _ _ _ )
    isplitl [H7]
    · unfold owns; iexists _; isplitr
      swap; · iexact H7
      ipureintro; exact View.read_writes_of_cover _ _ _ _ _ (cover7B c _ _ _ _ _ _ _ _ _ _ _ _ _ _ _ _ _ _ _ _ _ _ _ _ _ _ _ _ _ _ )
    unfold owns; iexists _; isplitr
    swap; · iexact H8
    ipureintro; exact View.read_writes_of_cover _ _ _ _ _ (cover8B c _ _ _ _ _ _ _ _ _ _ _ _ _ _ _ _ _ _ _ _ _ _ _ _ _ _ _ _ _ _ )

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every execution ends with every array at what the proof data computes and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.KernelIdeal.Bwd

end
-- ==== Proof.Bwd.Block.lean ====
/- What one point of the attention gradient's grid leaves in its three blocks, over the extended reals, entry by entry:
   the sums over keys (query gradient) and over the block's query rows (key and value gradients). -/
module

public import proofs.«01_k».proof.Proof.Bwd.Frame
public import Idealize.ShloMosaic.Lib.Pointwise
public import Idealize.ShloMosaic.Lib.Pipeline.Value
public import Idealize.ShloMosaic.Lib.Pipeline.ReadBack

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

/-- Column `d` of a block's first head. -/
def lo (d : Fin 128) : Fin 256 := ⟨d.val, by omega⟩
/-- Column `d` of a block's second head. -/
def hi (d : Fin 128) : Fin 256 := ⟨128 + d.val, by omega⟩

/-- The scale of the scores in base two. -/
def c2 : EReal := Named.named (F := Ideal) (φ := .f32) κ "scale2" 0x3E0293EE#32
/-- The scale of the scores. -/
def cc : EReal := Ideal.ofBits .f32 0x3DB504F3#32

/-- The probability of the key `K` for the query `q`, `l` the logarithm of the query's sum. -/
def prb (q K : Fin 128 → EReal) (l : EReal) : EReal :=
  Ideal.exp2 ((∑ d, q d * K d) * c2 - l)

/-- The gradient of that key's score: `W` the key's value, `o` the incoming gradient and `u` the output at the query. -/
def dsc (q K o u W : Fin 128 → EReal) (l : EReal) : EReal :=
  prb q K l * ((∑ d, o d * W d - ∑ d, o d * u d) * cc)

/-- Row `r` of one head of a block. -/
def rw2 (x : S256x256.Idx → EReal) (s : Fin 128 → Fin 256) (r : Fin 256) : Fin 128 → EReal := fun d => x (ix2 r (s d))
/-- Row `k` of the keys or the values. -/
def rw1 (x : S4352x128.Idx → EReal) (k : Fin 4352) : Fin 128 → EReal := fun d => x (ix2 k d)

/-- The query gradient of one head at row `r`, column `d`. -/
def dqA (x0 : S256x256.Idx → EReal) (x1 x2 : S4352x128.Idx → EReal) (x3 x4 x5 : S256x256.Idx → EReal) (s : Fin 128 → Fin 256) (r : Fin 256) (d : Fin 128) : EReal :=
  ∑ k : Fin 4352, dsc (rw2 x0 s r) (rw1 x1 k) (rw2 x3 s r) (rw2 x4 s r) (rw1 x2 k) (x5 (ix2 r (s 0))) * x1 (ix2 k d)

/-- The query gradient's block. -/
def dqF (x0 : S256x256.Idx → EReal) (x1 x2 : S4352x128.Idx → EReal) (x3 x4 x5 : S256x256.Idx → EReal) (y : S256x256.Idx) : EReal :=
  if h : (y 1).val < 128 then dqA x0 x1 x2 x3 x4 x5 lo (y 0) ⟨(y 1).val, h⟩
  else dqA x0 x1 x2 x3 x4 x5 hi (y 0) ⟨(y 1).val - 128, by have h2 : (y 1).val < 256 := (y 1).isLt; omega⟩

/-- One head's part of the key gradient. -/
def dkA (x0 : S256x256.Idx → EReal) (x1 x2 : S4352x128.Idx → EReal) (x3 x4 x5 : S256x256.Idx → EReal) (s : Fin 128 → Fin 256) (k : Fin 4352) (d : Fin 128) : EReal :=
  ∑ r : Fin 256, dsc (rw2 x0 s r) (rw1 x1 k) (rw2 x3 s r) (rw2 x4 s r) (rw1 x2 k) (x5 (ix2 r (s 0))) * x0 (ix2 r (s d))

/-- What a block's rows add to the key gradient. -/
def dkF (x0 : S256x256.Idx → EReal) (x1 x2 : S4352x128.Idx → EReal) (x3 x4 x5 : S256x256.Idx → EReal) (y : S4352x128.Idx) : EReal :=
  dkA x0 x1 x2 x3 x4 x5 lo (y 0) (y 1) + dkA x0 x1 x2 x3 x4 x5 hi (y 0) (y 1)

/-- One head's part of the value gradient. -/
def dvA (x0 : S256x256.Idx → EReal) (x1 : S4352x128.Idx → EReal) (x3 x5 : S256x256.Idx → EReal) (s : Fin 128 → Fin 256) (k : Fin 4352) (d : Fin 128) : EReal :=
  ∑ r : Fin 256, prb (rw2 x0 s r) (rw1 x1 k) (x5 (ix2 r (s 0))) * x3 (ix2 r (s d))

/-- What a block's rows add to the value gradient. -/
def dvF (x0 : S256x256.Idx → EReal) (x1 : S4352x128.Idx → EReal) (x3 x5 : S256x256.Idx → EReal) (y : S4352x128.Idx) : EReal :=
  dvA x0 x1 x3 x5 lo (y 0) (y 1) + dvA x0 x1 x3 x5 hi (y 0) (y 1)

/-- Where a block's entry lies in the array. -/
theorem emb_at {m n a b : ℕ} (o p : ℕ) (inb) (i : Fin a) (j : Fin b) (hi : o + i.val < m) (hj : p + j.val < n) :
    (Rect.unit (s := (⟨2, ![m, n]⟩ : Shape)) ![o, p] ![a, b] inb).emb (ix2 i j) = ix2 ⟨o + i.val, hi⟩ ⟨p + j.val, hj⟩ := by
  refine Rect.emb_eq_of_coords _ _ _ fun t => ?_
  fin_cases t
  · show o + i.val = o + 1 * i.val; omega
  · show p + j.val = p + 1 * j.val; omega

/-- A sum over the keys in the kernel's five parts. -/
theorem sum_parts (f : Fin 4352 → EReal) : ∑ k, f k
    = (∑ k : Fin 1024, f ⟨k.val, by omega⟩) + (∑ k : Fin 1024, f ⟨1024 + k.val, by omega⟩) + (∑ k : Fin 1024, f ⟨2048 + k.val, by omega⟩)
      + (∑ k : Fin 1024, f ⟨3072 + k.val, by omega⟩) + ∑ k : Fin 256, f ⟨4096 + k.val, by omega⟩ := by
  rw [show (∑ k, f k) = ∑ k : Fin (1024 + 1024 + 1024 + 1024 + 256), f k from rfl, Fin.sum_univ_add, Fin.sum_univ_add, Fin.sum_univ_add, Fin.sum_univ_add]
  rfl

/-- Rows 4096 to 4351. -/
abbrev R4096 : Rect S4352x128 := Rect.unit ![4096, 0] ![256, 128] inb_S4352x128_S256x128_4096_0
/-- Rows 3072 to 4095. -/
abbrev R3072 : Rect S4352x128 := Rect.unit ![3072, 0] ![1024, 128] inb_S4352x128_S1024x128_3072_0
/-- Rows 2048 to 3071. -/
abbrev R2048 : Rect S4352x128 := Rect.unit ![2048, 0] ![1024, 128] inb_S4352x128_S1024x128_2048_0
/-- Rows 1024 to 2047. -/
abbrev R1024 : Rect S4352x128 := Rect.unit ![1024, 0] ![1024, 128] inb_S4352x128_S1024x128_1024_0
/-- Rows 0 to 1023. -/
abbrev R0 : Rect S4352x128 := Rect.unit ![0, 0] ![1024, 128] inb_S4352x128_S1024x128_0_0

/-- Five blocks of rows stored over an earlier fill make up the array whose blocks they are. -/
theorem canon_five (G : S4352x128.Idx → EReal) (w4096 : R4096.shape.Idx → EReal) (w3072 : R3072.shape.Idx → EReal) (w2048 : R2048.shape.Idx → EReal) (w1024 : R1024.shape.Idx → EReal) (w0 : R0.shape.Idx → EReal) (L : List (View.Piece (Elt Ideal) S4352x128 .f32))
    (h4096 : ∀ z, w4096 z = G (R4096.emb z))
    (h3072 : ∀ z, w3072 z = G (R3072.emb z))
    (h2048 : ∀ z, w2048 z = G (R2048.emb z))
    (h1024 : ∀ z, w1024 z = G (R1024.emb z))
    (h0 : ∀ z, w0 z = G (R0.emb z)) (y : S4352x128.Idx) :
    View.canon (Val := Elt Ideal) (s := S4352x128) (e := .f32) (⟨R4096, w4096⟩ :: ⟨R3072, w3072⟩ :: ⟨R2048, w2048⟩ :: ⟨R1024, w1024⟩ :: ⟨R0, w0⟩ :: L) y = G y :=
  View.canon_append_of_piecesOf (Val := Elt Ideal) (s := S4352x128) (e := .f32) G L
    [⟨R4096, w4096⟩, ⟨R3072, w3072⟩, ⟨R2048, w2048⟩, ⟨R1024, w1024⟩, ⟨R0, w0⟩] ⟨h4096, h3072, h2048, h1024, h0, trivial⟩ y
    (View.cover_of_tiledBy (Val := Elt Ideal) (s := S4352x128) (e := .f32) _ ![256, 128] (by sl_kernel_rfl) y)

/-- Rows 4096 onwards, read before they are stored, are the fill's. -/
theorem rd4096 (v : View sig .tc .vmem S4352x128 .f32) (w3072 : R3072.shape.Idx → EReal) (w2048 : R2048.shape.Idx → EReal) (w1024 : R1024.shape.Idx → EReal) (w0 : R0.shape.Idx → EReal) (Z : S4352x128.Idx → EReal) :
    v.readCov (Val := Elt Ideal) (⟨R3072, w3072⟩ :: ⟨R2048, w2048⟩ :: ⟨R1024, w1024⟩ :: ⟨R0, w0⟩ :: [⟨Rect.unit ![0, 0] ![4352, 128] inb_S4352x128_S4352x128_0_0, Z⟩]) R4096.toLoadRect = View.ld (Val := Elt Ideal) (e' := .f32) (S := S4352x128) Z R4096 := by
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  rw [View.readCov_fill]
  decide

/-- Rows 3072 onwards, read before they are stored, are the fill's. -/
theorem rd3072 (v : View sig .tc .vmem S4352x128 .f32) (w2048 : R2048.shape.Idx → EReal) (w1024 : R1024.shape.Idx → EReal) (w0 : R0.shape.Idx → EReal) (Z : S4352x128.Idx → EReal) :
    v.readCov (Val := Elt Ideal) (⟨R2048, w2048⟩ :: ⟨R1024, w1024⟩ :: ⟨R0, w0⟩ :: [⟨Rect.unit ![0, 0] ![4352, 128] inb_S4352x128_S4352x128_0_0, Z⟩]) R3072.toLoadRect = View.ld (Val := Elt Ideal) (e' := .f32) (S := S4352x128) Z R3072 := by
  rw [View.readCov_skip _ _ _ _ _ (by decide +kernel)]
  rw [View.readCov_skip _ _ _ _ _ (by decide +kernel)]
  rw [View.readCov_skip _ _ _ _ _ (by decide +kernel)]
  rw [View.readCov_fill]
  decide

/-- Rows 2048 onwards, read before they are stored, are the fill's. -/
theorem rd2048 (v : View sig .tc .vmem S4352x128 .f32) (w1024 : R1024.shape.Idx → EReal) (w0 : R0.shape.Idx → EReal) (Z : S4352x128.Idx → EReal) :
    v.readCov (Val := Elt Ideal) (⟨R1024, w1024⟩ :: ⟨R0, w0⟩ :: [⟨Rect.unit ![0, 0] ![4352, 128] inb_S4352x128_S4352x128_0_0, Z⟩]) R2048.toLoadRect = View.ld (Val := Elt Ideal) (e' := .f32) (S := S4352x128) Z R2048 := by
  rw [View.readCov_skip _ _ _ _ _ (by decide +kernel)]
  rw [View.readCov_skip _ _ _ _ _ (by decide +kernel)]
  rw [View.readCov_fill]
  decide

/-- Rows 1024 onwards, read before they are stored, are the fill's. -/
theorem rd1024 (v : View sig .tc .vmem S4352x128 .f32) (w0 : R0.shape.Idx → EReal) (Z : S4352x128.Idx → EReal) :
    v.readCov (Val := Elt Ideal) (⟨R0, w0⟩ :: [⟨Rect.unit ![0, 0] ![4352, 128] inb_S4352x128_S4352x128_0_0, Z⟩]) R1024.toLoadRect = View.ld (Val := Elt Ideal) (e' := .f32) (S := S4352x128) Z R1024 := by
  rw [View.readCov_skip _ _ _ _ _ (by decide +kernel)]
  rw [View.readCov_fill]
  decide

/-- Rows 0 onwards, read before they are stored, are the fill's. -/
theorem rd0 (v : View sig .tc .vmem S4352x128 .f32)  (Z : S4352x128.Idx → EReal) :
    v.readCov (Val := Elt Ideal) ([⟨Rect.unit ![0, 0] ![4352, 128] inb_S4352x128_S4352x128_0_0, Z⟩]) R0.toLoadRect = View.ld (Val := Elt Ideal) (e' := .f32) (S := S4352x128) Z R0 := by
  rw [View.readCov_fill]
  decide

end Cert.KernelIdeal.Bwd
end
-- ==== Proof.Bwd.BlockQ.lean ====
/- The query gradient's block after one point, entry by entry. -/
module

public import proofs.«01_k».proof.Proof.Bwd.Block
public import Idealize.ShloMosaic.Lib.Pointwise
public import Idealize.ShloMosaic.Lib.Pipeline.Value
public import Idealize.ShloMosaic.Lib.Pipeline.ReadBack

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

set_option maxHeartbeats 4000000 in
/-- The query gradient's block of query block 0. -/
theorem out6A_eq (c : Dev nD) (i : grid0.Coords) (arg2 : Memref sig .tc .vmem S256x256 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S4352x128 .f32) (harg9 : arg9.IsWhole) (arg10 : Memref sig .tc .vmem S4352x128 .f32) (harg10 : arg10.IsWhole) (hc0 : k0_cond1 i = 1#1) (hc1 : k0_cond2 i = 1#1) (hc2 : ¬k0_cond3 i = 1#1)
    (x0 : Vec Ideal S256x256 .bf16) (x1 : Vec Ideal S4352x128 .bf16) (x2 : Vec Ideal S4352x128 .bf16) (x3 : Vec Ideal S256x256 .bf16) (x4 : Vec Ideal S256x256 .bf16) (x5 : Vec Ideal S256x256 .f32) :
    out6A c i arg2 harg2 arg3 harg3 arg4 harg4 arg5 harg5 arg6 harg6 arg7 harg7 arg8 harg8 arg9 harg9 arg10 harg10 hc0 hc1 hc2 x0 x1 x2 x3 x4 x5 = dqF x0 x1 x2 x3 x4 x5 := by
  funext y
  unfold out6A
  refine View.read_writes_apply_of_pieces (Val := Elt Ideal) (s := S256x256) (e := .f32) _ _ (dqF x0 x1 x2 x3 x4 x5) _ (View.PiecesOf.mem (Val := Elt Ideal) (s := S256x256) (e := .f32) (G := dqF x0 x1 x2 x3 x4 x5) ?_) _ (cover6A ..)
  dsimp only [runA]
  refine ⟨fun z => ?_, fun z => ?_, trivial⟩
  · sl_unfold_words
    simp only [View.readAt_eq_ld, Memref.IsWhole.read_unread]
    idx_vars z
    rw [emb_at 0 128 _ z0 z1 (by omega) (by omega)]
    simp only [Nat.zero_add]
    unfold dqF
    rw [dif_neg (by show ¬ 128 + z1.val < 128; omega)]
    dsimp only [dqA]
    rw [sum_parts]
    dsimp only [dsc, prb, rw1, rw2, lo, hi]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    rfl
  · sl_unfold_words
    simp only [View.readAt_eq_ld, Memref.IsWhole.read_unread]
    idx_vars z
    rw [emb_at 0 0 _ z0 z1 (by omega) (by omega)]
    simp only [Nat.zero_add]
    unfold dqF
    rw [dif_pos (by show z1.val < 128; omega)]
    dsimp only [dqA]
    rw [sum_parts]
    dsimp only [dsc, prb, rw1, rw2, lo, hi]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    rfl

set_option maxHeartbeats 4000000 in
/-- The query gradient's block of a later query block. -/
theorem out6B_eq (c : Dev nD) (i : grid0.Coords) (arg2 : Memref sig .tc .vmem S256x256 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S4352x128 .f32) (harg9 : arg9.IsWhole) (arg10 : Memref sig .tc .vmem S4352x128 .f32) (harg10 : arg10.IsWhole) (hc0 : ¬k0_cond1 i = 1#1) (hc1 : k0_cond2 i = 1#1) (hc2 : ¬k0_cond3 i = 1#1)
    (x0 : Vec Ideal S256x256 .bf16) (x1 : Vec Ideal S4352x128 .bf16) (x2 : Vec Ideal S4352x128 .bf16) (x3 : Vec Ideal S256x256 .bf16) (x4 : Vec Ideal S256x256 .bf16) (x5 : Vec Ideal S256x256 .f32) (xo7 xo8 : Vec Ideal S4352x128 .f32) :
    out6B c i arg2 harg2 arg3 harg3 arg4 harg4 arg5 harg5 arg6 harg6 arg7 harg7 arg8 harg8 arg9 harg9 arg10 harg10 hc0 hc1 hc2 x0 x1 x2 x3 x4 x5 xo7 xo8 = dqF x0 x1 x2 x3 x4 x5 := by
  funext y
  unfold out6B
  refine View.read_writes_apply_of_pieces (Val := Elt Ideal) (s := S256x256) (e := .f32) _ _ (dqF x0 x1 x2 x3 x4 x5) _ (View.PiecesOf.mem (Val := Elt Ideal) (s := S256x256) (e := .f32) (G := dqF x0 x1 x2 x3 x4 x5) ?_) _ (cover6B ..)
  dsimp only [runB]
  refine ⟨fun z => ?_, fun z => ?_, trivial⟩
  · sl_unfold_words
    simp only [View.readAt_eq_ld, Memref.IsWhole.read_unread]
    idx_vars z
    rw [emb_at 0 128 _ z0 z1 (by omega) (by omega)]
    simp only [Nat.zero_add]
    unfold dqF
    rw [dif_neg (by show ¬ 128 + z1.val < 128; omega)]
    dsimp only [dqA]
    rw [sum_parts]
    dsimp only [dsc, prb, rw1, rw2, lo, hi]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    rfl
  · sl_unfold_words
    simp only [View.readAt_eq_ld, Memref.IsWhole.read_unread]
    idx_vars z
    rw [emb_at 0 0 _ z0 z1 (by omega) (by omega)]
    simp only [Nat.zero_add]
    unfold dqF
    rw [dif_pos (by show z1.val < 128; omega)]
    dsimp only [dqA]
    rw [sum_parts]
    dsimp only [dsc, prb, rw1, rw2, lo, hi]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    rfl

set_option maxHeartbeats 4000000 in
/-- The query gradient's block past the last query row. -/
theorem out6C_eq (c : Dev nD) (i : grid0.Coords) (arg2 : Memref sig .tc .vmem S256x256 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S4352x128 .f32) (harg9 : arg9.IsWhole) (arg10 : Memref sig .tc .vmem S4352x128 .f32) (harg10 : arg10.IsWhole) (hc0 : ¬k0_cond1 i = 1#1) (hc1 : ¬k0_cond2 i = 1#1) (hc2 : k0_cond3 i = 1#1)
    (x0 : Vec Ideal S256x256 .bf16) (x1 : Vec Ideal S4352x128 .bf16) (x2 : Vec Ideal S4352x128 .bf16) (x3 : Vec Ideal S256x256 .bf16) (x4 : Vec Ideal S256x256 .bf16) (x5 : Vec Ideal S256x256 .f32) (xo7 xo8 : Vec Ideal S4352x128 .f32) :
    out6C c i arg2 harg2 arg3 harg3 arg4 harg4 arg5 harg5 arg6 harg6 arg7 harg7 arg8 harg8 arg9 harg9 arg10 harg10 hc0 hc1 hc2 x0 x1 x2 x3 x4 x5 xo7 xo8 = fun _ => (0 : EReal) := by
  funext y
  unfold out6C
  refine View.read_writes_apply_of_pieces (Val := Elt Ideal) (s := S256x256) (e := .f32) _ _ (fun _ => (0 : EReal)) _ (View.PiecesOf.mem (Val := Elt Ideal) (s := S256x256) (e := .f32) (G := fun _ => (0 : EReal)) ?_) _ (cover6C ..)
  dsimp only [runC]
  refine ⟨fun z => ?_, trivial⟩
  idx_vars z
  pointwise [k0_pay10]

end Cert.KernelIdeal.Bwd
end
-- ==== Proof.Bwd.BlockK.lean ====
/- The key gradient's block after one point, entry by entry. -/
module

public import proofs.«01_k».proof.Proof.Bwd.Block
public import Idealize.ShloMosaic.Lib.Pointwise
public import Idealize.ShloMosaic.Lib.Pipeline.Value
public import Idealize.ShloMosaic.Lib.Pipeline.ReadBack

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

set_option maxHeartbeats 4000000 in
/-- The key gradient's block after query block 0. -/
theorem out7A_eq (c : Dev nD) (i : grid0.Coords) (arg2 : Memref sig .tc .vmem S256x256 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S4352x128 .f32) (harg9 : arg9.IsWhole) (arg10 : Memref sig .tc .vmem S4352x128 .f32) (harg10 : arg10.IsWhole) (hc0 : k0_cond1 i = 1#1) (hc1 : k0_cond2 i = 1#1) (hc2 : ¬k0_cond3 i = 1#1)
    (x0 : Vec Ideal S256x256 .bf16) (x1 : Vec Ideal S4352x128 .bf16) (x2 : Vec Ideal S4352x128 .bf16) (x3 : Vec Ideal S256x256 .bf16) (x4 : Vec Ideal S256x256 .bf16) (x5 : Vec Ideal S256x256 .f32) :
    out7A c i arg2 harg2 arg3 harg3 arg4 harg4 arg5 harg5 arg6 harg6 arg7 harg7 arg8 harg8 arg9 harg9 arg10 harg10 hc0 hc1 hc2 x0 x1 x2 x3 x4 x5 = dkF x0 x1 x2 x3 x4 x5 := by
  funext y
  unfold out7A
  rw [View.read_writes_junk_eq_canon]
  refine canon_five (dkF x0 x1 x2 x3 x4 x5) _ _ _ _ _ _ (fun z => ?_) (fun z => ?_) (fun z => ?_) (fun z => ?_) (fun z => ?_) y
  · sl_unfold_words
    rw [rd4096]
    simp only [View.readAt_eq_ld, Memref.IsWhole.read_unread]
    idx_vars z
    rw [emb_at 4096 0 _ z0 z1 (by omega) (by omega)]
    simp only [Nat.zero_add]
    dsimp only [dkF, dkA, dsc, prb, rw1, rw2, lo, hi]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    rfl
  · sl_unfold_words
    rw [rd3072]
    simp only [View.readAt_eq_ld, Memref.IsWhole.read_unread]
    idx_vars z
    rw [emb_at 3072 0 _ z0 z1 (by omega) (by omega)]
    simp only [Nat.zero_add]
    dsimp only [dkF, dkA, dsc, prb, rw1, rw2, lo, hi]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    rfl
  · sl_unfold_words
    rw [rd2048]
    simp only [View.readAt_eq_ld, Memref.IsWhole.read_unread]
    idx_vars z
    rw [emb_at 2048 0 _ z0 z1 (by omega) (by omega)]
    simp only [Nat.zero_add]
    dsimp only [dkF, dkA, dsc, prb, rw1, rw2, lo, hi]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    rfl
  · sl_unfold_words
    rw [rd1024]
    simp only [View.readAt_eq_ld, Memref.IsWhole.read_unread]
    idx_vars z
    rw [emb_at 1024 0 _ z0 z1 (by omega) (by omega)]
    simp only [Nat.zero_add]
    dsimp only [dkF, dkA, dsc, prb, rw1, rw2, lo, hi]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    rfl
  · sl_unfold_words
    rw [rd0]
    simp only [View.readAt_eq_ld, Memref.IsWhole.read_unread]
    idx_vars z
    rw [emb_at 0 0 _ z0 z1 (by omega) (by omega)]
    simp only [Nat.zero_add]
    dsimp only [dkF, dkA, dsc, prb, rw1, rw2, lo, hi]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    rfl

set_option maxHeartbeats 4000000 in
/-- The key gradient's block after a later query block. -/
theorem out7B_eq (c : Dev nD) (i : grid0.Coords) (arg2 : Memref sig .tc .vmem S256x256 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S4352x128 .f32) (harg9 : arg9.IsWhole) (arg10 : Memref sig .tc .vmem S4352x128 .f32) (harg10 : arg10.IsWhole) (hc0 : ¬k0_cond1 i = 1#1) (hc1 : k0_cond2 i = 1#1) (hc2 : ¬k0_cond3 i = 1#1)
    (x0 : Vec Ideal S256x256 .bf16) (x1 : Vec Ideal S4352x128 .bf16) (x2 : Vec Ideal S4352x128 .bf16) (x3 : Vec Ideal S256x256 .bf16) (x4 : Vec Ideal S256x256 .bf16) (x5 : Vec Ideal S256x256 .f32) (xo7 xo8 : Vec Ideal S4352x128 .f32) :
    out7B c i arg2 harg2 arg3 harg3 arg4 harg4 arg5 harg5 arg6 harg6 arg7 harg7 arg8 harg8 arg9 harg9 arg10 harg10 hc0 hc1 hc2 x0 x1 x2 x3 x4 x5 xo7 xo8 = (fun y : S4352x128.Idx => (xo7 y + dkF x0 x1 x2 x3 x4 x5 y : EReal)) := by
  funext y
  unfold out7B
  refine View.read_writes_apply_of_pieces _ _ (fun y : S4352x128.Idx => (xo7 y + dkF x0 x1 x2 x3 x4 x5 y : EReal)) _ (View.PiecesOf.mem (G := (fun y : S4352x128.Idx => (xo7 y + dkF x0 x1 x2 x3 x4 x5 y : EReal))) ?_) _ (cover7B ..)
  dsimp only [runB]
  refine ⟨fun z => ?_, fun z => ?_, fun z => ?_, fun z => ?_, fun z => ?_, trivial⟩
  · sl_unfold_words
    simp only [View.readAt_eq_ld, Memref.IsWhole.read_unread]
    idx_vars z
    rw [emb_at 4096 0 _ z0 z1 (by omega) (by omega)]
    simp only [Nat.zero_add]
    dsimp only [dkF, dkA, dsc, prb, rw1, rw2, lo, hi]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    rfl
  · sl_unfold_words
    simp only [View.readAt_eq_ld, Memref.IsWhole.read_unread]
    idx_vars z
    rw [emb_at 3072 0 _ z0 z1 (by omega) (by omega)]
    simp only [Nat.zero_add]
    dsimp only [dkF, dkA, dsc, prb, rw1, rw2, lo, hi]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    rfl
  · sl_unfold_words
    simp only [View.readAt_eq_ld, Memref.IsWhole.read_unread]
    idx_vars z
    rw [emb_at 2048 0 _ z0 z1 (by omega) (by omega)]
    simp only [Nat.zero_add]
    dsimp only [dkF, dkA, dsc, prb, rw1, rw2, lo, hi]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    rfl
  · sl_unfold_words
    simp only [View.readAt_eq_ld, Memref.IsWhole.read_unread]
    idx_vars z
    rw [emb_at 1024 0 _ z0 z1 (by omega) (by omega)]
    simp only [Nat.zero_add]
    dsimp only [dkF, dkA, dsc, prb, rw1, rw2, lo, hi]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    rfl
  · sl_unfold_words
    simp only [View.readAt_eq_ld, Memref.IsWhole.read_unread]
    idx_vars z
    rw [emb_at 0 0 _ z0 z1 (by omega) (by omega)]
    simp only [Nat.zero_add]
    dsimp only [dkF, dkA, dsc, prb, rw1, rw2, lo, hi]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    rfl

end Cert.KernelIdeal.Bwd
end
-- ==== Proof.Bwd.BlockV.lean ====
/- The value gradient's block after one point, entry by entry. -/
module

public import proofs.«01_k».proof.Proof.Bwd.Block
public import Idealize.ShloMosaic.Lib.Pointwise
public import Idealize.ShloMosaic.Lib.Pipeline.Value
public import Idealize.ShloMosaic.Lib.Pipeline.ReadBack

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

set_option maxHeartbeats 4000000 in
/-- The value gradient's block after query block 0. -/
theorem out8A_eq (c : Dev nD) (i : grid0.Coords) (arg2 : Memref sig .tc .vmem S256x256 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S4352x128 .f32) (harg9 : arg9.IsWhole) (arg10 : Memref sig .tc .vmem S4352x128 .f32) (harg10 : arg10.IsWhole) (hc0 : k0_cond1 i = 1#1) (hc1 : k0_cond2 i = 1#1) (hc2 : ¬k0_cond3 i = 1#1)
    (x0 : Vec Ideal S256x256 .bf16) (x1 : Vec Ideal S4352x128 .bf16) (x2 : Vec Ideal S4352x128 .bf16) (x3 : Vec Ideal S256x256 .bf16) (x4 : Vec Ideal S256x256 .bf16) (x5 : Vec Ideal S256x256 .f32) :
    out8A c i arg2 harg2 arg3 harg3 arg4 harg4 arg5 harg5 arg6 harg6 arg7 harg7 arg8 harg8 arg9 harg9 arg10 harg10 hc0 hc1 hc2 x0 x1 x2 x3 x4 x5 = dvF x0 x1 x3 x5 := by
  funext y
  unfold out8A
  rw [View.read_writes_junk_eq_canon]
  refine canon_five (dvF x0 x1 x3 x5) _ _ _ _ _ _ (fun z => ?_) (fun z => ?_) (fun z => ?_) (fun z => ?_) (fun z => ?_) y
  · sl_unfold_words
    rw [rd4096]
    simp only [View.readAt_eq_ld, Memref.IsWhole.read_unread]
    idx_vars z
    rw [emb_at 4096 0 _ z0 z1 (by omega) (by omega)]
    simp only [Nat.zero_add]
    dsimp only [dvF, dvA, prb, rw1, rw2, lo, hi]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    rfl
  · sl_unfold_words
    rw [rd3072]
    simp only [View.readAt_eq_ld, Memref.IsWhole.read_unread]
    idx_vars z
    rw [emb_at 3072 0 _ z0 z1 (by omega) (by omega)]
    simp only [Nat.zero_add]
    dsimp only [dvF, dvA, prb, rw1, rw2, lo, hi]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    rfl
  · sl_unfold_words
    rw [rd2048]
    simp only [View.readAt_eq_ld, Memref.IsWhole.read_unread]
    idx_vars z
    rw [emb_at 2048 0 _ z0 z1 (by omega) (by omega)]
    simp only [Nat.zero_add]
    dsimp only [dvF, dvA, prb, rw1, rw2, lo, hi]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    rfl
  · sl_unfold_words
    rw [rd1024]
    simp only [View.readAt_eq_ld, Memref.IsWhole.read_unread]
    idx_vars z
    rw [emb_at 1024 0 _ z0 z1 (by omega) (by omega)]
    simp only [Nat.zero_add]
    dsimp only [dvF, dvA, prb, rw1, rw2, lo, hi]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    rfl
  · sl_unfold_words
    rw [rd0]
    simp only [View.readAt_eq_ld, Memref.IsWhole.read_unread]
    idx_vars z
    rw [emb_at 0 0 _ z0 z1 (by omega) (by omega)]
    simp only [Nat.zero_add]
    dsimp only [dvF, dvA, prb, rw1, rw2, lo, hi]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    rfl

set_option maxHeartbeats 4000000 in
/-- The value gradient's block after a later query block. -/
theorem out8B_eq (c : Dev nD) (i : grid0.Coords) (arg2 : Memref sig .tc .vmem S256x256 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S4352x128 .f32) (harg9 : arg9.IsWhole) (arg10 : Memref sig .tc .vmem S4352x128 .f32) (harg10 : arg10.IsWhole) (hc0 : ¬k0_cond1 i = 1#1) (hc1 : k0_cond2 i = 1#1) (hc2 : ¬k0_cond3 i = 1#1)
    (x0 : Vec Ideal S256x256 .bf16) (x1 : Vec Ideal S4352x128 .bf16) (x2 : Vec Ideal S4352x128 .bf16) (x3 : Vec Ideal S256x256 .bf16) (x4 : Vec Ideal S256x256 .bf16) (x5 : Vec Ideal S256x256 .f32) (xo7 xo8 : Vec Ideal S4352x128 .f32) :
    out8B c i arg2 harg2 arg3 harg3 arg4 harg4 arg5 harg5 arg6 harg6 arg7 harg7 arg8 harg8 arg9 harg9 arg10 harg10 hc0 hc1 hc2 x0 x1 x2 x3 x4 x5 xo7 xo8 = (fun y : S4352x128.Idx => (xo8 y + dvF x0 x1 x3 x5 y : EReal)) := by
  funext y
  unfold out8B
  refine View.read_writes_apply_of_pieces _ _ (fun y : S4352x128.Idx => (xo8 y + dvF x0 x1 x3 x5 y : EReal)) _ (View.PiecesOf.mem (G := (fun y : S4352x128.Idx => (xo8 y + dvF x0 x1 x3 x5 y : EReal))) ?_) _ (cover8B ..)
  dsimp only [runB]
  refine ⟨fun z => ?_, fun z => ?_, fun z => ?_, fun z => ?_, fun z => ?_, trivial⟩
  · sl_unfold_words
    simp only [View.readAt_eq_ld, Memref.IsWhole.read_unread]
    idx_vars z
    rw [emb_at 4096 0 _ z0 z1 (by omega) (by omega)]
    simp only [Nat.zero_add]
    dsimp only [dvF, dvA, prb, rw1, rw2, lo, hi]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    rfl
  · sl_unfold_words
    simp only [View.readAt_eq_ld, Memref.IsWhole.read_unread]
    idx_vars z
    rw [emb_at 3072 0 _ z0 z1 (by omega) (by omega)]
    simp only [Nat.zero_add]
    dsimp only [dvF, dvA, prb, rw1, rw2, lo, hi]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    rfl
  · sl_unfold_words
    simp only [View.readAt_eq_ld, Memref.IsWhole.read_unread]
    idx_vars z
    rw [emb_at 2048 0 _ z0 z1 (by omega) (by omega)]
    simp only [Nat.zero_add]
    dsimp only [dvF, dvA, prb, rw1, rw2, lo, hi]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    rfl
  · sl_unfold_words
    simp only [View.readAt_eq_ld, Memref.IsWhole.read_unread]
    idx_vars z
    rw [emb_at 1024 0 _ z0 z1 (by omega) (by omega)]
    simp only [Nat.zero_add]
    dsimp only [dvF, dvA, prb, rw1, rw2, lo, hi]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    rfl
  · sl_unfold_words
    simp only [View.readAt_eq_ld, Memref.IsWhole.read_unread]
    idx_vars z
    rw [emb_at 0 0 _ z0 z1 (by omega) (by omega)]
    simp only [Nat.zero_add]
    dsimp only [dvF, dvA, prb, rw1, rw2, lo, hi]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    rfl

end Cert.KernelIdeal.Bwd
end
-- ==== Proof.Bwd.Reads.lean ====
/- Each block the attention gradient's points read, as entries of its array. -/
module

public import proofs.«01_k».proof.Proof.Bwd.Block
public import Idealize.ShloMosaic.Lib.Pointwise
public import Idealize.ShloMosaic.Lib.Pipeline.Value
public import Idealize.ShloMosaic.Lib.Pipeline.ReadBack

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable (m : (ℓ : Loc nD τ sig) → Buf (Elt Ideal) ℓ)

theorem lt34' (t : Fin cfg0.N) : t.val < 34 := t.isLt

theorem index0 : ∀ t : Fin cfg0.N, (cfg0.win 0).index t 0 = t.val % 17 ∧ (cfg0.win 0).index t 1 = 12 + t.val / 17 :=
  (by decide +kernel : ∀ t : Fin grid0.N, win0_0.index t 0 = t.val % 17 ∧ win0_0.index t 1 = 12 + t.val / 17)

theorem blk0 (c : Dev nD) (t : Fin cfg0.N) (a b : Fin 256) :
    X0_0 m c t (ix2 a b) = V m c main_arg0 (ix2 ⟨(t.val % 17) * 256 + a.val, by have := lt34' t; omega⟩ ⟨(12 + t.val / 17) * 256 + b.val, by have := lt34' t; omega⟩) := by
  obtain ⟨h0, h1⟩ := index0 t
  unfold X0_0 Pipeline.Window.fill
  rw [dif_pos (moved0_0 t _)]
  unfold iblk
  rw [View.read_apply]
  refine congrArg (V m c main_arg0) ?_
  funext q
  apply Fin.ext
  match q with
  | ⟨0, _⟩ => show (cfg0.win 0).index t 0 * 256 + 1 * a.val = (t.val % 17) * 256 + a.val; rw [h0]; omega
  | ⟨1, _⟩ => show (cfg0.win 0).index t 1 * 256 + 1 * b.val = (12 + t.val / 17) * 256 + b.val; rw [h1]; omega

theorem index1 : ∀ t : Fin cfg0.N, (cfg0.win 1).index t 0 = 0 ∧ (cfg0.win 1).index t 1 = 28 + t.val / 17 :=
  (by decide +kernel : ∀ t : Fin grid0.N, win0_1.index t 0 = 0 ∧ win0_1.index t 1 = 28 + t.val / 17)

theorem blk1 (c : Dev nD) (t : Fin cfg0.N) (a : Fin 4352) (b : Fin 128) :
    iblk m c 1 t (ix2 a b) = V m c main_arg0 (ix2 ⟨(0) * 4352 + a.val, by have := lt34' t; omega⟩ ⟨(28 + t.val / 17) * 128 + b.val, by have := lt34' t; omega⟩) := by
  obtain ⟨h0, h1⟩ := index1 t
  unfold iblk
  rw [View.read_apply]
  refine congrArg (V m c main_arg0) ?_
  funext q
  apply Fin.ext
  match q with
  | ⟨0, _⟩ => show (cfg0.win 1).index t 0 * 4352 + 1 * a.val = (0) * 4352 + a.val; rw [h0]; omega
  | ⟨1, _⟩ => show (cfg0.win 1).index t 1 * 128 + 1 * b.val = (28 + t.val / 17) * 128 + b.val; rw [h1]; omega

theorem index2 : ∀ t : Fin cfg0.N, (cfg0.win 2).index t 0 = 0 ∧ (cfg0.win 2).index t 1 = 30 + t.val / 17 :=
  (by decide +kernel : ∀ t : Fin grid0.N, win0_2.index t 0 = 0 ∧ win0_2.index t 1 = 30 + t.val / 17)

theorem blk2 (c : Dev nD) (t : Fin cfg0.N) (a : Fin 4352) (b : Fin 128) :
    iblk m c 2 t (ix2 a b) = V m c main_arg0 (ix2 ⟨(0) * 4352 + a.val, by have := lt34' t; omega⟩ ⟨(30 + t.val / 17) * 128 + b.val, by have := lt34' t; omega⟩) := by
  obtain ⟨h0, h1⟩ := index2 t
  unfold iblk
  rw [View.read_apply]
  refine congrArg (V m c main_arg0) ?_
  funext q
  apply Fin.ext
  match q with
  | ⟨0, _⟩ => show (cfg0.win 2).index t 0 * 4352 + 1 * a.val = (0) * 4352 + a.val; rw [h0]; omega
  | ⟨1, _⟩ => show (cfg0.win 2).index t 1 * 128 + 1 * b.val = (30 + t.val / 17) * 128 + b.val; rw [h1]; omega

theorem index3 : ∀ t : Fin cfg0.N, (cfg0.win 3).index t 0 = min (t.val % 17) 15 ∧ (cfg0.win 3).index t 1 = 6 + t.val / 17 :=
  (by decide +kernel : ∀ t : Fin grid0.N, win0_3.index t 0 = min (t.val % 17) 15 ∧ win0_3.index t 1 = 6 + t.val / 17)

theorem blk3 (c : Dev nD) (t : Fin cfg0.N) (a : Fin 256) (b : Fin 256) :
    iblk m c 3 t (ix2 a b) = V m c main_arg1 (ix2 ⟨(min (t.val % 17) 15) * 256 + a.val, by have := lt34' t; omega⟩ ⟨(6 + t.val / 17) * 256 + b.val, by have := lt34' t; omega⟩) := by
  obtain ⟨h0, h1⟩ := index3 t
  unfold iblk
  rw [View.read_apply]
  refine congrArg (V m c main_arg1) ?_
  funext q
  apply Fin.ext
  match q with
  | ⟨0, _⟩ => show (cfg0.win 3).index t 0 * 256 + 1 * a.val = (min (t.val % 17) 15) * 256 + a.val; rw [h0]; omega
  | ⟨1, _⟩ => show (cfg0.win 3).index t 1 * 256 + 1 * b.val = (6 + t.val / 17) * 256 + b.val; rw [h1]; omega

theorem index4 : ∀ t : Fin cfg0.N, (cfg0.win 4).index t 0 = t.val % 17 ∧ (cfg0.win 4).index t 1 = 6 + t.val / 17 :=
  (by decide +kernel : ∀ t : Fin grid0.N, win0_4.index t 0 = t.val % 17 ∧ win0_4.index t 1 = 6 + t.val / 17)

theorem blk4 (c : Dev nD) (t : Fin cfg0.N) (a : Fin 256) (b : Fin 256) :
    iblk m c 4 t (ix2 a b) = V m c main_v52 (ix2 ⟨(t.val % 17) * 256 + a.val, by have := lt34' t; omega⟩ ⟨(6 + t.val / 17) * 256 + b.val, by have := lt34' t; omega⟩) := by
  obtain ⟨h0, h1⟩ := index4 t
  unfold iblk
  rw [View.read_apply]
  refine congrArg (V m c main_v52) ?_
  funext q
  apply Fin.ext
  match q with
  | ⟨0, _⟩ => show (cfg0.win 4).index t 0 * 256 + 1 * a.val = (t.val % 17) * 256 + a.val; rw [h0]; omega
  | ⟨1, _⟩ => show (cfg0.win 4).index t 1 * 256 + 1 * b.val = (6 + t.val / 17) * 256 + b.val; rw [h1]; omega

theorem index5 : ∀ t : Fin cfg0.N, (cfg0.win 5).index t 0 = t.val % 17 ∧ (cfg0.win 5).index t 1 = t.val / 17 :=
  (by decide +kernel : ∀ t : Fin grid0.N, win0_5.index t 0 = t.val % 17 ∧ win0_5.index t 1 = t.val / 17)

theorem blk5 (c : Dev nD) (t : Fin cfg0.N) (a : Fin 256) (b : Fin 256) :
    iblk m c 5 t (ix2 a b) = V m c main_v57 (ix2 ⟨(t.val % 17) * 256 + a.val, by have := lt34' t; omega⟩ ⟨(t.val / 17) * 256 + b.val, by have := lt34' t; omega⟩) := by
  obtain ⟨h0, h1⟩ := index5 t
  unfold iblk
  rw [View.read_apply]
  refine congrArg (V m c main_v57) ?_
  funext q
  apply Fin.ext
  match q with
  | ⟨0, _⟩ => show (cfg0.win 5).index t 0 * 256 + 1 * a.val = (t.val % 17) * 256 + a.val; rw [h0]; omega
  | ⟨1, _⟩ => show (cfg0.win 5).index t 1 * 256 + 1 * b.val = (t.val / 17) * 256 + b.val; rw [h1]; omega

theorem index6 : ∀ t : Fin cfg0.N, (cfg0.win 6).index t 0 = t.val % 17 ∧ (cfg0.win 6).index t 1 = t.val / 17 :=
  (by decide +kernel : ∀ t : Fin grid0.N, win0_6.index t 0 = t.val % 17 ∧ win0_6.index t 1 = t.val / 17)

theorem index7 : ∀ t : Fin cfg0.N, (cfg0.win 7).index t 0 = 0 ∧ (cfg0.win 7).index t 1 = t.val / 17 :=
  (by decide +kernel : ∀ t : Fin grid0.N, win0_7.index t 0 = 0 ∧ win0_7.index t 1 = t.val / 17)

theorem index8 : ∀ t : Fin cfg0.N, (cfg0.win 8).index t 0 = 0 ∧ (cfg0.win 8).index t 1 = t.val / 17 :=
  (by decide +kernel : ∀ t : Fin grid0.N, win0_8.index t 0 = 0 ∧ win0_8.index t 1 = t.val / 17)

end Cert.KernelIdeal.Bwd
end
-- ==== Proof.Bwd.Arrays.lean ====
/- The attention gradient's three arrays after the run, over the extended reals: sums over keys and over query rows of
   the arrays the kernel is launched on. -/
module

public import proofs.«01_k».proof.Proof.Bwd.BlockQ
public import proofs.«01_k».proof.Proof.Bwd.BlockK
public import proofs.«01_k».proof.Proof.Bwd.BlockV
public import proofs.«01_k».proof.Proof.Bwd.Reads

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

/-- A query row among all rows. -/
def up (r : Fin 4096) : Fin 4352 := ⟨r.val, by omega⟩
/-- The key head of a query head. -/
def kv (n : Fin 4) : Fin 2 := ⟨n.val / 2, by omega⟩

/-- Row `r` of query head `n`. -/
def Qr (A : S4352x4224.Idx → EReal) (n : Fin 4) (r : Fin 4352) : Fin 128 → EReal := fun d => A (ix2 r ⟨3072 + 128 * n.val + d.val, by omega⟩)
/-- Row `k` of key head `n`. -/
def Kr (A : S4352x4224.Idx → EReal) (n : Fin 2) (k : Fin 4352) : Fin 128 → EReal := fun d => A (ix2 k ⟨3584 + 128 * n.val + d.val, by omega⟩)
/-- Row `k` of value head `n`. -/
def Vr (A : S4352x4224.Idx → EReal) (n : Fin 2) (k : Fin 4352) : Fin 128 → EReal := fun d => A (ix2 k ⟨3840 + 128 * n.val + d.val, by omega⟩)
/-- Row `r` of the incoming gradient's head `n`. -/
def Dr (B : S4096x2048.Idx → EReal) (n : Fin 4) (r : Fin 4096) : Fin 128 → EReal := fun d => B (ix2 r ⟨1536 + 128 * n.val + d.val, by omega⟩)
/-- Row `r` of the output's head `n`. -/
def Or (O : S4352x2048.Idx → EReal) (n : Fin 4) (r : Fin 4352) : Fin 128 → EReal := fun d => O (ix2 r ⟨1536 + 128 * n.val + d.val, by omega⟩)
/-- The logarithm of the sum of row `r` in head `n`. -/
def Lr (L : S4352x512.Idx → EReal) (n : Fin 4) (r : Fin 4352) : EReal := L (ix2 r ⟨128 * n.val, by omega⟩)

/-- The probability of key `k` for query `r` in head `n`. -/
def prG (A : S4352x4224.Idx → EReal) (L : S4352x512.Idx → EReal) (n : Fin 4) (r : Fin 4096) (k : Fin 4352) : EReal :=
  prb (Qr A n (up r)) (Kr A (kv n) k) (Lr L n (up r))

/-- The gradient of that key's score. -/
def dsG (A : S4352x4224.Idx → EReal) (B : S4096x2048.Idx → EReal) (O : S4352x2048.Idx → EReal) (L : S4352x512.Idx → EReal) (n : Fin 4) (r : Fin 4096) (k : Fin 4352) : EReal :=
  dsc (Qr A n (up r)) (Kr A (kv n) k) (Dr B n r) (Or O n (up r)) (Vr A (kv n) k) (Lr L n (up r))

/-- The query gradient. -/
def dqG (A : S4352x4224.Idx → EReal) (B : S4096x2048.Idx → EReal) (O : S4352x2048.Idx → EReal) (L : S4352x512.Idx → EReal) (y : S4352x512.Idx) : EReal :=
  if h : (y 0).val < 4096 then
    ∑ k, dsG A B O L ⟨(y 1).val / 128, by have h2 : (y 1).val < 512 := (y 1).isLt; omega⟩ ⟨(y 0).val, h⟩ k
      * Kr A ⟨(y 1).val / 256, by have h2 : (y 1).val < 512 := (y 1).isLt; omega⟩ k ⟨(y 1).val % 128, Nat.mod_lt _ (by decide)⟩
  else 0

/-- One query head's part of the key gradient. -/
def dkH (A : S4352x4224.Idx → EReal) (B : S4096x2048.Idx → EReal) (O : S4352x2048.Idx → EReal) (L : S4352x512.Idx → EReal) (n : Fin 4) (k : Fin 4352) (d : Fin 128) : EReal :=
  ∑ r, dsG A B O L n r k * Qr A n (up r) d

/-- One query head's part of the value gradient. -/
def dvH (A : S4352x4224.Idx → EReal) (B : S4096x2048.Idx → EReal) (L : S4352x512.Idx → EReal) (n : Fin 4) (k : Fin 4352) (d : Fin 128) : EReal :=
  ∑ r, prG A L n r k * Dr B n r d

/-- The first query head that shares the key head of column `b`, -/
def h0 (b : Fin 256) : Fin 4 := ⟨2 * (b.val / 128), by omega⟩
/-- and the second. -/
def h1 (b : Fin 256) : Fin 4 := ⟨2 * (b.val / 128) + 1, by omega⟩
/-- The column within the head. -/
def cl (b : Fin 256) : Fin 128 := ⟨b.val % 128, Nat.mod_lt _ (by decide)⟩

/-- The key gradient. -/
def dkG (A : S4352x4224.Idx → EReal) (B : S4096x2048.Idx → EReal) (O : S4352x2048.Idx → EReal) (L : S4352x512.Idx → EReal) (y : S4352x256.Idx) : EReal :=
  dkH A B O L (h0 (y 1)) (y 0) (cl (y 1)) + dkH A B O L (h1 (y 1)) (y 0) (cl (y 1))

/-- The value gradient. -/
def dvG (A : S4352x4224.Idx → EReal) (B : S4096x2048.Idx → EReal) (L : S4352x512.Idx → EReal) (y : S4352x256.Idx) : EReal :=
  dvH A B L (h0 (y 1)) (y 0) (cl (y 1)) + dvH A B L (h1 (y 1)) (y 0) (cl (y 1))

/-- A sum over the query rows, block by block. -/
theorem sum_rows (f : Fin 4096 → EReal) : ∑ i ∈ Finset.range 16, ∑ r : Fin 256, (if h : i * 256 + r.val < 4096 then f ⟨i * 256 + r.val, h⟩ else 0) = ∑ r, f r := by
  rw [Finset.sum_range, ← Fintype.sum_prod_type', ← (finProdFinEquiv (m := 16) (n := 256)).sum_comp]
  refine Finset.sum_congr rfl fun x _ => ?_
  have hx : x.1.val * 256 + x.2.val < 4096 := by have := x.1.isLt; have := x.2.isLt; omega
  rw [dif_pos hx]
  refine congrArg f (Fin.ext ?_)
  show x.1.val * 256 + x.2.val = x.2.val + 256 * x.1.val
  omega

variable (m : (ℓ : Loc nD τ sig) → Buf (Elt Ideal) ℓ)

/-- The arrays the kernel is launched on. -/
abbrev aA (c : Dev nD) : S4352x4224.Idx → EReal := V m c main_arg0
abbrev aB (c : Dev nD) : S4096x2048.Idx → EReal := V m c main_arg1
abbrev aO (c : Dev nD) : S4352x2048.Idx → EReal := V m c main_v52
abbrev aL (c : Dev nD) : S4352x512.Idx → EReal := V m c main_v57

/-- The point's two query heads, -/
def g0 (t : Fin cfg0.N) : Fin 4 := ⟨2 * (t.val / 17), by have := lt34' t; omega⟩
def g1 (t : Fin cfg0.N) : Fin 4 := ⟨2 * (t.val / 17) + 1, by have := lt34' t; omega⟩
/-- its key head, -/
def gk (t : Fin cfg0.N) : Fin 2 := ⟨t.val / 17, by have := lt34' t; omega⟩
/-- and the row of its query `r`. -/
def gr (t : Fin cfg0.N) (ht : t.val % 17 < 16) (r : Fin 256) : Fin 4096 := ⟨t.val % 17 * 256 + r.val, by omega⟩

theorem kv_g0 (t : Fin cfg0.N) : kv (g0 t) = gk t := by apply Fin.ext; show 2 * (t.val / 17) / 2 = t.val / 17; omega
theorem kv_g1 (t : Fin cfg0.N) : kv (g1 t) = gk t := by apply Fin.ext; show (2 * (t.val / 17) + 1) / 2 = t.val / 17; omega

theorem row0lo (c : Dev nD) (t : Fin cfg0.N) (ht : t.val % 17 < 16) (r : Fin 256) : rw2 (X0_0 m c t) lo r = Qr (aA m c) (g0 t) (up (gr t ht r)) := by
  funext d
  unfold rw2
  rw [blk0 m c t r (lo d)]
  refine congrArg (aA m c) (congrArg₂ ix2 (Fin.ext ?_) (Fin.ext ?_))
  · show t.val % 17 * 256 + r.val = t.val % 17 * 256 + r.val; omega
  · show (12 + t.val / 17) * 256 + d.val = 3072 + 128 * (2 * (t.val / 17)) + d.val; omega
theorem row0hi (c : Dev nD) (t : Fin cfg0.N) (ht : t.val % 17 < 16) (r : Fin 256) : rw2 (X0_0 m c t) hi r = Qr (aA m c) (g1 t) (up (gr t ht r)) := by
  funext d
  unfold rw2
  rw [blk0 m c t r (hi d)]
  refine congrArg (aA m c) (congrArg₂ ix2 (Fin.ext ?_) (Fin.ext ?_))
  · show t.val % 17 * 256 + r.val = t.val % 17 * 256 + r.val; omega
  · show (12 + t.val / 17) * 256 + (128 + d.val) = 3072 + 128 * ((2 * (t.val / 17) + 1)) + d.val; omega
theorem row3lo (c : Dev nD) (t : Fin cfg0.N) (ht : t.val % 17 < 16) (r : Fin 256) : rw2 (iblk m c 3 t) lo r = Dr (aB m c) (g0 t) (gr t ht r) := by
  funext d
  unfold rw2
  rw [blk3 m c t r (lo d)]
  refine congrArg (aB m c) (congrArg₂ ix2 (Fin.ext ?_) (Fin.ext ?_))
  · show (min (t.val % 17) 15) * 256 + r.val = t.val % 17 * 256 + r.val; omega
  · show (6 + t.val / 17) * 256 + d.val = 1536 + 128 * (2 * (t.val / 17)) + d.val; omega
theorem row3hi (c : Dev nD) (t : Fin cfg0.N) (ht : t.val % 17 < 16) (r : Fin 256) : rw2 (iblk m c 3 t) hi r = Dr (aB m c) (g1 t) (gr t ht r) := by
  funext d
  unfold rw2
  rw [blk3 m c t r (hi d)]
  refine congrArg (aB m c) (congrArg₂ ix2 (Fin.ext ?_) (Fin.ext ?_))
  · show (min (t.val % 17) 15) * 256 + r.val = t.val % 17 * 256 + r.val; omega
  · show (6 + t.val / 17) * 256 + (128 + d.val) = 1536 + 128 * ((2 * (t.val / 17) + 1)) + d.val; omega
theorem row4lo (c : Dev nD) (t : Fin cfg0.N) (ht : t.val % 17 < 16) (r : Fin 256) : rw2 (iblk m c 4 t) lo r = Or (aO m c) (g0 t) (up (gr t ht r)) := by
  funext d
  unfold rw2
  rw [blk4 m c t r (lo d)]
  refine congrArg (aO m c) (congrArg₂ ix2 (Fin.ext ?_) (Fin.ext ?_))
  · show t.val % 17 * 256 + r.val = t.val % 17 * 256 + r.val; omega
  · show (6 + t.val / 17) * 256 + d.val = 1536 + 128 * (2 * (t.val / 17)) + d.val; omega
theorem row4hi (c : Dev nD) (t : Fin cfg0.N) (ht : t.val % 17 < 16) (r : Fin 256) : rw2 (iblk m c 4 t) hi r = Or (aO m c) (g1 t) (up (gr t ht r)) := by
  funext d
  unfold rw2
  rw [blk4 m c t r (hi d)]
  refine congrArg (aO m c) (congrArg₂ ix2 (Fin.ext ?_) (Fin.ext ?_))
  · show t.val % 17 * 256 + r.val = t.val % 17 * 256 + r.val; omega
  · show (6 + t.val / 17) * 256 + (128 + d.val) = 1536 + 128 * ((2 * (t.val / 17) + 1)) + d.val; omega
theorem row1 (c : Dev nD) (t : Fin cfg0.N) (k : Fin 4352) : rw1 (iblk m c 1 t) k = Kr (aA m c) (gk t) k := by
  funext d
  unfold rw1
  rw [blk1 m c t k d]
  refine congrArg (aA m c) (congrArg₂ ix2 (Fin.ext ?_) (Fin.ext ?_))
  · show 0 * 4352 + k.val = k.val; omega
  · show (28 + t.val / 17) * 128 + d.val = 3584 + 128 * (t.val / 17) + d.val; omega
theorem row2 (c : Dev nD) (t : Fin cfg0.N) (k : Fin 4352) : rw1 (iblk m c 2 t) k = Vr (aA m c) (gk t) k := by
  funext d
  unfold rw1
  rw [blk2 m c t k d]
  refine congrArg (aA m c) (congrArg₂ ix2 (Fin.ext ?_) (Fin.ext ?_))
  · show 0 * 4352 + k.val = k.val; omega
  · show (30 + t.val / 17) * 128 + d.val = 3840 + 128 * (t.val / 17) + d.val; omega
theorem lselo (c : Dev nD) (t : Fin cfg0.N) (ht : t.val % 17 < 16) (r : Fin 256) : iblk m c 5 t (ix2 r (lo 0)) = Lr (aL m c) (g0 t) (up (gr t ht r)) := by
  rw [blk5 m c t r (lo 0)]
  refine congrArg (aL m c) (congrArg₂ ix2 (Fin.ext ?_) (Fin.ext ?_))
  · show t.val % 17 * 256 + r.val = t.val % 17 * 256 + r.val; rfl
  · show t.val / 17 * 256 + 0 = 128 * (2 * (t.val / 17)); omega
theorem lsehi (c : Dev nD) (t : Fin cfg0.N) (ht : t.val % 17 < 16) (r : Fin 256) : iblk m c 5 t (ix2 r (hi 0)) = Lr (aL m c) (g1 t) (up (gr t ht r)) := by
  rw [blk5 m c t r (hi 0)]
  refine congrArg (aL m c) (congrArg₂ ix2 (Fin.ext ?_) (Fin.ext ?_))
  · show t.val % 17 * 256 + r.val = t.val % 17 * 256 + r.val; rfl
  · show t.val / 17 * 256 + (128 + 0) = 128 * ((2 * (t.val / 17) + 1)); omega

/-- The score gradients of a point's first head, -/
theorem ds_lo (c : Dev nD) (t : Fin cfg0.N) (ht : t.val % 17 < 16) (r : Fin 256) (k : Fin 4352) :
    dsc (rw2 (X0_0 m c t) lo r) (rw1 (iblk m c 1 t) k) (rw2 (iblk m c 3 t) lo r) (rw2 (iblk m c 4 t) lo r) (rw1 (iblk m c 2 t) k) (iblk m c 5 t (ix2 r (lo 0)))
      = dsG (aA m c) (aB m c) (aO m c) (aL m c) (g0 t) (gr t ht r) k := by
  rw [row0lo m c t ht, row1, row3lo m c t ht, row4lo m c t ht, row2, lselo m c t ht, ← kv_g0]; rfl
/-- and of its second. -/
theorem ds_hi (c : Dev nD) (t : Fin cfg0.N) (ht : t.val % 17 < 16) (r : Fin 256) (k : Fin 4352) :
    dsc (rw2 (X0_0 m c t) hi r) (rw1 (iblk m c 1 t) k) (rw2 (iblk m c 3 t) hi r) (rw2 (iblk m c 4 t) hi r) (rw1 (iblk m c 2 t) k) (iblk m c 5 t (ix2 r (hi 0)))
      = dsG (aA m c) (aB m c) (aO m c) (aL m c) (g1 t) (gr t ht r) k := by
  rw [row0hi m c t ht, row1, row3hi m c t ht, row4hi m c t ht, row2, lsehi m c t ht, ← kv_g1]; rfl
/-- The probabilities of a point's first head, -/
theorem pr_lo (c : Dev nD) (t : Fin cfg0.N) (ht : t.val % 17 < 16) (r : Fin 256) (k : Fin 4352) :
    prb (rw2 (X0_0 m c t) lo r) (rw1 (iblk m c 1 t) k) (iblk m c 5 t (ix2 r (lo 0))) = prG (aA m c) (aL m c) (g0 t) (gr t ht r) k := by
  rw [row0lo m c t ht, row1, lselo m c t ht, ← kv_g0]; rfl
/-- and of its second. -/
theorem pr_hi (c : Dev nD) (t : Fin cfg0.N) (ht : t.val % 17 < 16) (r : Fin 256) (k : Fin 4352) :
    prb (rw2 (X0_0 m c t) hi r) (rw1 (iblk m c 1 t) k) (iblk m c 5 t (ix2 r (hi 0))) = prG (aA m c) (aL m c) (g1 t) (gr t ht r) k := by
  rw [row0hi m c t ht, row1, lsehi m c t ht, ← kv_g1]; rfl

/-- What the point at position `n` adds to the key gradient's block, -/
def P7 (c : Dev nD) (n : ℕ) (y : S4352x128.Idx) : EReal :=
  if hn : n < cfg0.N then dkF (X0_0 m c ⟨n, hn⟩) (iblk m c 1 ⟨n, hn⟩) (iblk m c 2 ⟨n, hn⟩) (iblk m c 3 ⟨n, hn⟩) (iblk m c 4 ⟨n, hn⟩) (iblk m c 5 ⟨n, hn⟩) y else 0
/-- and to the value gradient's. -/
def P8 (c : Dev nD) (n : ℕ) (y : S4352x128.Idx) : EReal :=
  if hn : n < cfg0.N then dvF (X0_0 m c ⟨n, hn⟩) (iblk m c 1 ⟨n, hn⟩) (iblk m c 3 ⟨n, hn⟩) (iblk m c 5 ⟨n, hn⟩) y else 0

/-- The block after query block `j` of key head `h`: the sum so far. -/
theorem acc7 (c : Dev nD) (h : ℕ) : ∀ (j : ℕ) (_ : j < 16) (hn : 17 * h + j < cfg0.N),
    (outsAt m c (17 * h + j) hn).2.1 = fun y => ∑ i ∈ Finset.range (j + 1), P7 m c (17 * h + i) y
  | 0, _, hn => by
    rw [outsAt_A m c ⟨17 * h + 0, hn⟩ (by show (17 * h + 0) % 17 = 0; omega)]
    dsimp only
    rw [out7A_eq]
    funext y
    rw [Finset.sum_range_one]
    unfold P7
    rw [dif_pos hn]
  | j + 1, hj, hn => by
    rw [outsAt_B m c ⟨17 * h + (j + 1), hn⟩ (by show ¬(17 * h + (j + 1)) % 17 = 0; omega) (by show ¬(17 * h + (j + 1)) % 17 = 16; omega)]
    dsimp only
    rw [out7B_eq]
    funext y
    rw [Finset.sum_range_succ]
    refine congrArg₂ (· + ·) ?_ ?_
    · exact congrFun (acc7 c h j (by omega) (by omega)) y
    · unfold P7
      rw [dif_pos hn]

/-- The block written back at the last point of a key head. -/
theorem last7 (c : Dev nD) (t : Fin cfg0.N) (ht : t.val % 17 = 16) :
    (outsAt m c t.val t.isLt).2.1 = fun y => ∑ i ∈ Finset.range 16, P7 m c (17 * (t.val / 17) + i) y := by
  rw [outsAt_C m c t (by omega) ht]
  have e : t.val - 1 = 17 * (t.val / 17) + 15 := by omega
  have key : ∀ (n : ℕ) (hn : n < cfg0.N), n = 17 * (t.val / 17) + 15 → (outsAt m c n hn).2.1 = fun y => ∑ i ∈ Finset.range 16, P7 m c (17 * (t.val / 17) + i) y := by
    rintro n hn rfl
    exact acc7 m c (t.val / 17) 15 (by omega) hn
  exact key _ _ e

/-- The block after query block `j` of key head `h`: the sum so far. -/
theorem acc8 (c : Dev nD) (h : ℕ) : ∀ (j : ℕ) (_ : j < 16) (hn : 17 * h + j < cfg0.N),
    (outsAt m c (17 * h + j) hn).2.2 = fun y => ∑ i ∈ Finset.range (j + 1), P8 m c (17 * h + i) y
  | 0, _, hn => by
    rw [outsAt_A m c ⟨17 * h + 0, hn⟩ (by show (17 * h + 0) % 17 = 0; omega)]
    dsimp only
    rw [out8A_eq]
    funext y
    rw [Finset.sum_range_one]
    unfold P8
    rw [dif_pos hn]
  | j + 1, hj, hn => by
    rw [outsAt_B m c ⟨17 * h + (j + 1), hn⟩ (by show ¬(17 * h + (j + 1)) % 17 = 0; omega) (by show ¬(17 * h + (j + 1)) % 17 = 16; omega)]
    dsimp only
    rw [out8B_eq]
    funext y
    rw [Finset.sum_range_succ]
    refine congrArg₂ (· + ·) ?_ ?_
    · exact congrFun (acc8 c h j (by omega) (by omega)) y
    · unfold P8
      rw [dif_pos hn]

/-- The block written back at the last point of a key head. -/
theorem last8 (c : Dev nD) (t : Fin cfg0.N) (ht : t.val % 17 = 16) :
    (outsAt m c t.val t.isLt).2.2 = fun y => ∑ i ∈ Finset.range 16, P8 m c (17 * (t.val / 17) + i) y := by
  rw [outsAt_C m c t (by omega) ht]
  have e : t.val - 1 = 17 * (t.val / 17) + 15 := by omega
  have key : ∀ (n : ℕ) (hn : n < cfg0.N), n = 17 * (t.val / 17) + 15 → (outsAt m c n hn).2.2 = fun y => ∑ i ∈ Finset.range 16, P8 m c (17 * (t.val / 17) + i) y := by
    rintro n hn rfl
    exact acc8 m c (t.val / 17) 15 (by omega) hn
  exact key _ _ e

theorem P7_eq (c : Dev nD) (t : Fin cfg0.N) (ht : t.val % 17 < 16) (k : Fin 4352) (d : Fin 128) : P7 m c t.val (ix2 k d)
    = (∑ x : Fin 256, (fun r => dsG (aA m c) (aB m c) (aO m c) (aL m c) (g0 t) r k * Qr (aA m c) (g0 t) (up r) d) (gr t ht x)) + ∑ x : Fin 256, (fun r => dsG (aA m c) (aB m c) (aO m c) (aL m c) (g1 t) r k * Qr (aA m c) (g1 t) (up r) d) (gr t ht x) := by
  unfold P7
  rw [dif_pos t.isLt]
  show dkA (X0_0 m c t) (iblk m c 1 t) (iblk m c 2 t) (iblk m c 3 t) (iblk m c 4 t) (iblk m c 5 t) lo k d + dkA (X0_0 m c t) (iblk m c 1 t) (iblk m c 2 t) (iblk m c 3 t) (iblk m c 4 t) (iblk m c 5 t) hi k d = _
  unfold dkA
  refine congrArg₂ (· + ·) (Finset.sum_congr rfl fun r _ => ?_) (Finset.sum_congr rfl fun r _ => ?_)
  · rw [ds_lo m c t ht]
    exact congrArg _ (congrFun (row0lo m c t ht r) d)
  · rw [ds_hi m c t ht]
    exact congrArg _ (congrFun (row0hi m c t ht r) d)

/-- The key gradient's block at the end of a key head. -/
theorem block7 (c : Dev nD) (t : Fin cfg0.N) (ht : t.val % 17 = 16) (k : Fin 4352) (d : Fin 128) :
    (outsAt m c t.val t.isLt).2.1 (ix2 k d) = dkH (aA m c) (aB m c) (aO m c) (aL m c) (g0 t) k d + dkH (aA m c) (aB m c) (aO m c) (aL m c) (g1 t) k d := by
  rw [last7 m c t ht]
  dsimp only
  unfold dkH
  rw [← sum_rows, ← sum_rows, ← Finset.sum_add_distrib]
  refine Finset.sum_congr rfl fun i hi => ?_
  have hi' : i < 16 := Finset.mem_range.mp hi
  have hlt := lt34' t
  have hn : 17 * (t.val / 17) + i < cfg0.N := by show _ < 34; omega
  have hq : (17 * (t.val / 17) + i) % 17 = i := by omega
  have hd : (17 * (t.val / 17) + i) / 17 = t.val / 17 := by omega
  refine (P7_eq m c ⟨17 * (t.val / 17) + i, hn⟩ (by show (17 * (t.val / 17) + i) % 17 < 16; omega) k d).trans ?_
  have e0 : g0 ⟨17 * (t.val / 17) + i, hn⟩ = g0 t := Fin.ext (by show 2 * ((17 * (t.val / 17) + i) / 17) = 2 * (t.val / 17); omega)
  have e1 : g1 ⟨17 * (t.val / 17) + i, hn⟩ = g1 t := Fin.ext (by show 2 * ((17 * (t.val / 17) + i) / 17) + 1 = 2 * (t.val / 17) + 1; omega)
  rw [e0, e1]
  refine congrArg₂ (· + ·) (Finset.sum_congr rfl fun x _ => ?_) (Finset.sum_congr rfl fun x _ => ?_)
  all_goals
    have hx : i * 256 + x.val < 4096 := by have := x.isLt; omega
    rw [dif_pos hx]
    have er : gr ⟨17 * (t.val / 17) + i, hn⟩ (by show (17 * (t.val / 17) + i) % 17 < 16; omega) x = ⟨i * 256 + x.val, hx⟩ :=
      Fin.ext (by show (17 * (t.val / 17) + i) % 17 * 256 + x.val = i * 256 + x.val; rw [hq])
    rw [er]

theorem P8_eq (c : Dev nD) (t : Fin cfg0.N) (ht : t.val % 17 < 16) (k : Fin 4352) (d : Fin 128) : P8 m c t.val (ix2 k d)
    = (∑ x : Fin 256, (fun r => prG (aA m c) (aL m c) (g0 t) r k * Dr (aB m c) (g0 t) r d) (gr t ht x)) + ∑ x : Fin 256, (fun r => prG (aA m c) (aL m c) (g1 t) r k * Dr (aB m c) (g1 t) r d) (gr t ht x) := by
  unfold P8
  rw [dif_pos t.isLt]
  show dvA (X0_0 m c t) (iblk m c 1 t) (iblk m c 3 t) (iblk m c 5 t) lo k d + dvA (X0_0 m c t) (iblk m c 1 t) (iblk m c 3 t) (iblk m c 5 t) hi k d = _
  unfold dvA
  refine congrArg₂ (· + ·) (Finset.sum_congr rfl fun r _ => ?_) (Finset.sum_congr rfl fun r _ => ?_)
  · rw [pr_lo m c t ht]
    exact congrArg _ (congrFun (row3lo m c t ht r) d)
  · rw [pr_hi m c t ht]
    exact congrArg _ (congrFun (row3hi m c t ht r) d)

/-- The value gradient's block at the end of a key head. -/
theorem block8 (c : Dev nD) (t : Fin cfg0.N) (ht : t.val % 17 = 16) (k : Fin 4352) (d : Fin 128) :
    (outsAt m c t.val t.isLt).2.2 (ix2 k d) = dvH (aA m c) (aB m c) (aL m c) (g0 t) k d + dvH (aA m c) (aB m c) (aL m c) (g1 t) k d := by
  rw [last8 m c t ht]
  dsimp only
  unfold dvH
  rw [← sum_rows, ← sum_rows, ← Finset.sum_add_distrib]
  refine Finset.sum_congr rfl fun i hi => ?_
  have hi' : i < 16 := Finset.mem_range.mp hi
  have hlt := lt34' t
  have hn : 17 * (t.val / 17) + i < cfg0.N := by show _ < 34; omega
  have hq : (17 * (t.val / 17) + i) % 17 = i := by omega
  have hd : (17 * (t.val / 17) + i) / 17 = t.val / 17 := by omega
  refine (P8_eq m c ⟨17 * (t.val / 17) + i, hn⟩ (by show (17 * (t.val / 17) + i) % 17 < 16; omega) k d).trans ?_
  have e0 : g0 ⟨17 * (t.val / 17) + i, hn⟩ = g0 t := Fin.ext (by show 2 * ((17 * (t.val / 17) + i) / 17) = 2 * (t.val / 17); omega)
  have e1 : g1 ⟨17 * (t.val / 17) + i, hn⟩ = g1 t := Fin.ext (by show 2 * ((17 * (t.val / 17) + i) / 17) + 1 = 2 * (t.val / 17) + 1; omega)
  rw [e0, e1]
  refine congrArg₂ (· + ·) (Finset.sum_congr rfl fun x _ => ?_) (Finset.sum_congr rfl fun x _ => ?_)
  all_goals
    have hx : i * 256 + x.val < 4096 := by have := x.isLt; omega
    rw [dif_pos hx]
    have er : gr ⟨17 * (t.val / 17) + i, hn⟩ (by show (17 * (t.val / 17) + i) % 17 < 16; omega) x = ⟨i * 256 + x.val, hx⟩ :=
      Fin.ext (by show (17 * (t.val / 17) + i) % 17 * 256 + x.val = i * 256 + x.val; rw [hq])
    rw [er]

/-- The query gradient's block at a point of query rows. -/
theorem block6 (c : Dev nD) (t : Fin cfg0.N) (ht : t.val % 17 < 16) (a b : Fin 256) :
    (outsAt m c t.val t.isLt).1 (ix2 a b) = dqG (aA m c) (aB m c) (aO m c) (aL m c) (ix2 ⟨t.val % 17 * 256 + a.val, by omega⟩ ⟨t.val / 17 * 256 + b.val, by have := lt34' t; omega⟩) := by
  have hlt := lt34' t
  have hF : (outsAt m c t.val t.isLt).1 = dqF (X0_0 m c t) (iblk m c 1 t) (iblk m c 2 t) (iblk m c 3 t) (iblk m c 4 t) (iblk m c 5 t) := by
    by_cases h0 : t.val % 17 = 0
    · rw [outsAt_A m c t h0]; dsimp only; rw [out6A_eq]
    · rw [outsAt_B m c t h0 (by omega)]; dsimp only; rw [out6B_eq]
  rw [hF]
  have hr : t.val % 17 * 256 + a.val < 4096 := by omega
  unfold dqG
  rw [dif_pos (show ((ix2 (⟨t.val % 17 * 256 + a.val, by omega⟩ : Fin 4352) (⟨t.val / 17 * 256 + b.val, by omega⟩ : Fin 512) : S4352x512.Idx) 0).val < 4096 from hr)]
  unfold dqF
  by_cases hb : b.val < 128
  · rw [dif_pos (show ((ix2 a b : S256x256.Idx) 1).val < 128 from hb)]
    unfold dqA
    refine Finset.sum_congr rfl fun k _ => ?_
    refine congrArg₂ (· * ·) ((ds_lo m c t ht a k).trans ?_) ((congrFun (row1 m c t k) ⟨b.val, hb⟩).trans ?_)
    · refine congrArg₂ (fun x y => dsG (aA m c) (aB m c) (aO m c) (aL m c) x y k) (Fin.ext ?_) rfl
      show 2 * (t.val / 17) = (t.val / 17 * 256 + b.val) / 128; omega
    · refine congrArg₂ (fun x y => Kr (aA m c) x k y) (Fin.ext ?_) (Fin.ext ?_)
      · show t.val / 17 = (t.val / 17 * 256 + b.val) / 256; omega
      · show b.val = (t.val / 17 * 256 + b.val) % 128; omega
  · rw [dif_neg (show ¬ ((ix2 a b : S256x256.Idx) 1).val < 128 from hb)]
    unfold dqA
    refine Finset.sum_congr rfl fun k _ => ?_
    refine congrArg₂ (· * ·) ((ds_hi m c t ht a k).trans ?_) ((congrFun (row1 m c t k) ⟨b.val - 128, by omega⟩).trans ?_)
    · refine congrArg₂ (fun x y => dsG (aA m c) (aB m c) (aO m c) (aL m c) x y k) (Fin.ext ?_) rfl
      show 2 * (t.val / 17) + 1 = (t.val / 17 * 256 + b.val) / 128; omega
    · refine congrArg₂ (fun x y => Kr (aA m c) x k y) (Fin.ext ?_) (Fin.ext ?_)
      · show t.val / 17 = (t.val / 17 * 256 + b.val) / 256; omega
      · show b.val - 128 = (t.val / 17 * 256 + b.val) % 128; omega

/-- Past the query rows the query gradient's block is zero. -/
theorem block6' (c : Dev nD) (t : Fin cfg0.N) (ht : t.val % 17 = 16) (a b : Fin 256) : (outsAt m c t.val t.isLt).1 (ix2 a b) = 0 := by
  rw [outsAt_C m c t (by omega) ht]; dsimp only; rw [out6C_eq]

end Cert.KernelIdeal.Bwd
end
-- ==== Proof.Bwd.Final.lean ====
/- The arrays the attention gradient's run ends with. -/
module

public import proofs.«01_k».proof.Proof.Bwd.Arrays

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable (m : (ℓ : Loc nD τ sig) → Buf (Elt Ideal) ℓ) (ρ : Dev nD → PrngReg)

/-- What point `t` writes back, at an entry. -/
theorem entry6 (c : Dev nD) (t : Fin cfg0.N) (a : Fin 256) (b : Fin 256) :
    (outsAt m c t.val t.isLt).1 (ix2 a b) = dqG (aA m c) (aB m c) (aO m c) (aL m c) (ix2 ⟨(t.val % 17) * 256 + a.val, by have := lt34' t; omega⟩ ⟨t.val / 17 * 256 + b.val, by have := lt34' t; omega⟩) := by
  have hlt := lt34' t
  by_cases ht : t.val % 17 < 16
  · exact block6 m c t ht a b
  · rw [block6' m c t (by omega) a b]
    unfold dqG
    rw [dif_neg]
    show ¬ t.val % 17 * 256 + a.val < 4096
    omega

/-- What point `t` writes back is its block of the result. -/
theorem flushed6 (c : Dev nD) (t : Fin cfg0.N) (hf : (cfg0.win 6).flush t = true) :
    (dats m 0 c).flushed 6 t = ((cfg0.win 6).blk t).view.read (Elt Ideal) (dqG (aA m c) (aB m c) (aO m c) (aL m c)) := by
  obtain ⟨h0, h1⟩ := index6 t
  have hlt := lt34' t
  show (cfg0.win 6).cut (grid0.coords t) ((dats m 0 c).after 6 t) = _
  rw [after_6]
  have key : ∀ z : (⟨2, ![256, 256]⟩ : Shape).Idx, (outsAt m c t.val t.isLt).1 z = dqG (aA m c) (aB m c) (aO m c) (aL m c) (((cfg0.win 6).blk t).view.emb z) := by
    intro z
    idx_vars z
    refine (entry6 m c t z0 z1).trans (congrArg _ ?_)
    funext q
    apply Fin.ext
    match q with
    | ⟨0, _⟩ => show (t.val % 17) * 256 + z0.val = (cfg0.win 6).index t 0 * 256 + 1 * z0.val; rw [h0]; omega
    | ⟨1, _⟩ => show t.val / 17 * 256 + z1.val = (cfg0.win 6).index t 1 * 256 + 1 * z1.val; rw [h1]; omega
  funext z
  exact key z

/-- The result array, whole. -/
theorem final6 (c : Dev nD) : (dats m 0 c).arrAt 6 cfg0.N = dqG (aA m c) (aB m c) (aO m c) (aL m c) :=
  (dats m 0 c).arrAt_eq_of_cover 6 (dqG (aA m c) (aB m c) (aO m c) (aL m c)) (flushed6 m c) fun i => by
    have key : ∀ i : (⟨2, ![4352, 512]⟩ : Shape).Idx, ∃ t : Fin cfg0.N, (cfg0.win 6).flush t = true ∧ i ∈ ((cfg0.win 6).blk t).view.set := by
      intro i
      idx_vars i
      have hp : ∃ t : Fin cfg0.N, t.val = 17 * (i1.val / 256) + i0.val / 256 := ⟨⟨17 * (i1.val / 256) + i0.val / 256, by show _ < 34; omega⟩, rfl⟩
      obtain ⟨t, ht⟩ := hp
      obtain ⟨h0, h1⟩ := index6 t
      refine ⟨t, flush0_6 t, ?_⟩
      show (ix2 i0 i1 : (⟨2, ![4352, 512]⟩ : Shape).Idx) ∈ ((View.whole main_v58_0).slice (win0_6.rect t)).set
      rw [View.set_slice_whole, Rect.mem_set_unit]
      intro q
      match q with
      | ⟨0, _⟩ => show (cfg0.win 6).index t 0 * 256 ≤ i0.val ∧ i0.val < (cfg0.win 6).index t 0 * 256 + 256
                  rw [h0]; omega
      | ⟨1, _⟩ => show (cfg0.win 6).index t 1 * 256 ≤ i1.val ∧ i1.val < (cfg0.win 6).index t 1 * 256 + 256
                  rw [h1]; omega
    exact key i

/-- What point `t` writes back, at an entry. -/
theorem entry7 (c : Dev nD) (t : Fin cfg0.N) (ht : t.val % 17 = 16) (a : Fin 4352) (b : Fin 128) :
    (outsAt m c t.val t.isLt).2.1 (ix2 a b) = dkG (aA m c) (aB m c) (aO m c) (aL m c) (ix2 ⟨(0) * 4352 + a.val, by have := lt34' t; omega⟩ ⟨t.val / 17 * 128 + b.val, by have := lt34' t; omega⟩) := by
  have hlt := lt34' t
  rw [block7 m c t ht a b]
  unfold dkG
  refine congrArg₂ (· + ·) ?_ ?_
  · refine congr (congr (congrArg (dkH (aA m c) (aB m c) (aO m c) (aL m c)) (Fin.ext ?_)) (Fin.ext ?_)) (Fin.ext ?_)
    · show 2 * (t.val / 17) = 2 * ((t.val / 17 * 128 + b.val) / 128); omega
    · show a.val = 0 * 4352 + a.val; omega
    · show b.val = (t.val / 17 * 128 + b.val) % 128; omega
  · refine congr (congr (congrArg (dkH (aA m c) (aB m c) (aO m c) (aL m c)) (Fin.ext ?_)) (Fin.ext ?_)) (Fin.ext ?_)
    · show 2 * (t.val / 17) + 1 = 2 * ((t.val / 17 * 128 + b.val) / 128) + 1; omega
    · show a.val = 0 * 4352 + a.val; omega
    · show b.val = (t.val / 17 * 128 + b.val) % 128; omega

/-- What point `t` writes back is its block of the result. -/
theorem flushed7 (c : Dev nD) (t : Fin cfg0.N) (hf : (cfg0.win 7).flush t = true) :
    (dats m 0 c).flushed 7 t = ((cfg0.win 7).blk t).view.read (Elt Ideal) (dkG (aA m c) (aB m c) (aO m c) (aL m c)) := by
  obtain ⟨h0, h1⟩ := index7 t
  have hlt := lt34' t
  show (cfg0.win 7).cut (grid0.coords t) ((dats m 0 c).after 7 t) = _
  rw [after_7]
  have key : ∀ z : (⟨2, ![4352, 128]⟩ : Shape).Idx, (outsAt m c t.val t.isLt).2.1 z = dkG (aA m c) (aB m c) (aO m c) (aL m c) (((cfg0.win 7).blk t).view.emb z) := by
    intro z
    idx_vars z
    refine (entry7 m c t ((flush0_7 t).mp hf) z0 z1).trans (congrArg _ ?_)
    funext q
    apply Fin.ext
    match q with
    | ⟨0, _⟩ => show (0) * 4352 + z0.val = (cfg0.win 7).index t 0 * 4352 + 1 * z0.val; rw [h0]; omega
    | ⟨1, _⟩ => show t.val / 17 * 128 + z1.val = (cfg0.win 7).index t 1 * 128 + 1 * z1.val; rw [h1]; omega
  funext z
  exact key z

/-- The result array, whole. -/
theorem final7 (c : Dev nD) : (dats m 0 c).arrAt 7 cfg0.N = dkG (aA m c) (aB m c) (aO m c) (aL m c) :=
  (dats m 0 c).arrAt_eq_of_cover 7 (dkG (aA m c) (aB m c) (aO m c) (aL m c)) (flushed7 m c) fun i => by
    have key : ∀ i : (⟨2, ![4352, 256]⟩ : Shape).Idx, ∃ t : Fin cfg0.N, (cfg0.win 7).flush t = true ∧ i ∈ ((cfg0.win 7).blk t).view.set := by
      intro i
      idx_vars i
      have hp : ∃ t : Fin cfg0.N, t.val = 17 * (i1.val / 128) + 16 := ⟨⟨17 * (i1.val / 128) + 16, by show _ < 34; omega⟩, rfl⟩
      obtain ⟨t, ht⟩ := hp
      obtain ⟨h0, h1⟩ := index7 t
      refine ⟨t, (flush0_7 t).mpr (by omega), ?_⟩
      show (ix2 i0 i1 : (⟨2, ![4352, 256]⟩ : Shape).Idx) ∈ ((View.whole main_v58_1).slice (win0_7.rect t)).set
      rw [View.set_slice_whole, Rect.mem_set_unit]
      intro q
      match q with
      | ⟨0, _⟩ => show (cfg0.win 7).index t 0 * 4352 ≤ i0.val ∧ i0.val < (cfg0.win 7).index t 0 * 4352 + 4352
                  rw [h0]; omega
      | ⟨1, _⟩ => show (cfg0.win 7).index t 1 * 128 ≤ i1.val ∧ i1.val < (cfg0.win 7).index t 1 * 128 + 128
                  rw [h1]; omega
    exact key i

/-- What point `t` writes back, at an entry. -/
theorem entry8 (c : Dev nD) (t : Fin cfg0.N) (ht : t.val % 17 = 16) (a : Fin 4352) (b : Fin 128) :
    (outsAt m c t.val t.isLt).2.2 (ix2 a b) = dvG (aA m c) (aB m c) (aL m c) (ix2 ⟨(0) * 4352 + a.val, by have := lt34' t; omega⟩ ⟨t.val / 17 * 128 + b.val, by have := lt34' t; omega⟩) := by
  have hlt := lt34' t
  rw [block8 m c t ht a b]
  unfold dvG
  refine congrArg₂ (· + ·) ?_ ?_
  · refine congr (congr (congrArg (dvH (aA m c) (aB m c) (aL m c)) (Fin.ext ?_)) (Fin.ext ?_)) (Fin.ext ?_)
    · show 2 * (t.val / 17) = 2 * ((t.val / 17 * 128 + b.val) / 128); omega
    · show a.val = 0 * 4352 + a.val; omega
    · show b.val = (t.val / 17 * 128 + b.val) % 128; omega
  · refine congr (congr (congrArg (dvH (aA m c) (aB m c) (aL m c)) (Fin.ext ?_)) (Fin.ext ?_)) (Fin.ext ?_)
    · show 2 * (t.val / 17) + 1 = 2 * ((t.val / 17 * 128 + b.val) / 128) + 1; omega
    · show a.val = 0 * 4352 + a.val; omega
    · show b.val = (t.val / 17 * 128 + b.val) % 128; omega

/-- What point `t` writes back is its block of the result. -/
theorem flushed8 (c : Dev nD) (t : Fin cfg0.N) (hf : (cfg0.win 8).flush t = true) :
    (dats m 0 c).flushed 8 t = ((cfg0.win 8).blk t).view.read (Elt Ideal) (dvG (aA m c) (aB m c) (aL m c)) := by
  obtain ⟨h0, h1⟩ := index8 t
  have hlt := lt34' t
  show (cfg0.win 8).cut (grid0.coords t) ((dats m 0 c).after 8 t) = _
  rw [after_8]
  have key : ∀ z : (⟨2, ![4352, 128]⟩ : Shape).Idx, (outsAt m c t.val t.isLt).2.2 z = dvG (aA m c) (aB m c) (aL m c) (((cfg0.win 8).blk t).view.emb z) := by
    intro z
    idx_vars z
    refine (entry8 m c t ((flush0_8 t).mp hf) z0 z1).trans (congrArg _ ?_)
    funext q
    apply Fin.ext
    match q with
    | ⟨0, _⟩ => show (0) * 4352 + z0.val = (cfg0.win 8).index t 0 * 4352 + 1 * z0.val; rw [h0]; omega
    | ⟨1, _⟩ => show t.val / 17 * 128 + z1.val = (cfg0.win 8).index t 1 * 128 + 1 * z1.val; rw [h1]; omega
  funext z
  exact key z

/-- The result array, whole. -/
theorem final8 (c : Dev nD) : (dats m 0 c).arrAt 8 cfg0.N = dvG (aA m c) (aB m c) (aL m c) :=
  (dats m 0 c).arrAt_eq_of_cover 8 (dvG (aA m c) (aB m c) (aL m c)) (flushed8 m c) fun i => by
    have key : ∀ i : (⟨2, ![4352, 256]⟩ : Shape).Idx, ∃ t : Fin cfg0.N, (cfg0.win 8).flush t = true ∧ i ∈ ((cfg0.win 8).blk t).view.set := by
      intro i
      idx_vars i
      have hp : ∃ t : Fin cfg0.N, t.val = 17 * (i1.val / 128) + 16 := ⟨⟨17 * (i1.val / 128) + 16, by show _ < 34; omega⟩, rfl⟩
      obtain ⟨t, ht⟩ := hp
      obtain ⟨h0, h1⟩ := index8 t
      refine ⟨t, (flush0_8 t).mpr (by omega), ?_⟩
      show (ix2 i0 i1 : (⟨2, ![4352, 256]⟩ : Shape).Idx) ∈ ((View.whole main_v58_2).slice (win0_8.rect t)).set
      rw [View.set_slice_whole, Rect.mem_set_unit]
      intro q
      match q with
      | ⟨0, _⟩ => show (cfg0.win 8).index t 0 * 4352 ≤ i0.val ∧ i0.val < (cfg0.win 8).index t 0 * 4352 + 4352
                  rw [h0]; omega
      | ⟨1, _⟩ => show (cfg0.win 8).index t 1 * 128 ≤ i1.val ∧ i1.val < (cfg0.win 8).index t 1 * 128 + 128
                  rw [h1]; omega
    exact key i

/-- The run: the three gradients, the arguments unchanged. -/
theorem run : θ_run defs (onTc (τ := τ) (main (F := Ideal))) ⟨m, fun _ => 0, ρ⟩ fun r => ∀ c : Dev nD,
      r.2.mem ((c.tc : Thread nD τ).loc main_v58_0) = dqG (aA m c) (aB m c) (aO m c) (aL m c)
      ∧ r.2.mem ((c.tc : Thread nD τ).loc main_v58_1) = dkG (aA m c) (aB m c) (aO m c) (aL m c)
      ∧ r.2.mem ((c.tc : Thread nD τ).loc main_v58_2) = dvG (aA m c) (aB m c) (aL m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 6).trans (final6 m c), ((h.1 c).1 7).trans (final7 m c), ((h.1 c).1 8).trans (final8 m c),
      ((h.1 c).1 2).trans (((dats m 0 c).arrAt_in 2 rfl _).trans ((A_eq m c 2).trans (V_main_arg0 m c))),
      ((h.1 c).1 3).trans (((dats m 0 c).arrAt_in 3 rfl _).trans ((A_eq m c 3).trans (V_main_arg1 m c)))⟩)
    (run_quiescent m ρ)

end Cert.KernelIdeal.Bwd
end
-- ==== Proof.Bwd.Ref.lean ====
/- The reference of the attention gradient read at an index, stage by stage, over the extended reals. -/
module

public import proofs.«01_k».proof.Proof.Bwd.Arrays
public import proofs.«01_k».proof.Proof.Gen.ReferenceIdeal.Read
public import Idealize.ShloMosaic.Lib.Pointwise
public import Idealize.ShloMosaic.Lib.MatmulPlain

@[expose] public section

set_option maxRecDepth 16384

noncomputable section

namespace Cert.KernelIdeal.Bwd

open Idealize.ShloMosaic Idealize.ShloMosaic.TcCoe Idealize.SL.Sem Idealize.ShloMosaic.StableHlo
open Cert.ReferenceIdeal.Read

variable (A : Cert.ReferenceIdeal.S4352x4224.Idx → EReal) (B : Cert.ReferenceIdeal.S4096x2048.Idx → EReal)

/-- The word of minus infinity. -/
theorem word_bot : Ideal.ofBits .f32 0xFF800000#32 = ⊥ := by simp [Ideal.ofBits, Ideal.ieee]

/-- Query head `g` of key head `h`. -/
def hd (h g : Fin 2) : Fin 4 := ⟨2 * h.val + g.val, by omega⟩

/-- The query heads. -/
theorem v7_at (h g : Fin 2) (r : Fin 4096) (d : Fin 128) : val_main_v7 (F := Ideal) A (ix5 0 h g r d) = Qr A (hd h g) (up r) d := by
  pointwise [val_main_v7, val_main_v6, val_main_v5, val_main_v4, val_main_v3, val_main_v0]
  refine congrArg A (congrArg₂ ix2 rfl (Fin.ext ?_))
  show 3072 + ((h.val * 2 + g.val) * 128 + d.val) = 3072 + 128 * (2 * h.val + g.val) + d.val
  omega

/-- The key heads. -/
theorem v10_at (h : Fin 2) (k : Fin 4352) (d : Fin 128) : val_main_v10 (F := Ideal) A (ix4 0 h k d) = Kr A h k d := by
  pointwise [val_main_v10, val_main_v9, val_main_v8, val_main_v1]
  refine congrArg A (congrArg₂ ix2 rfl (Fin.ext ?_))
  show 3584 + (h.val * 128 + d.val) = 3584 + 128 * h.val + d.val
  omega

/-- The value heads. -/
theorem v13_at (h : Fin 2) (k : Fin 4352) (d : Fin 128) : val_main_v13 (F := Ideal) A (ix4 0 h k d) = Vr A h k d := by
  pointwise [val_main_v13, val_main_v12, val_main_v11, val_main_v2]
  refine congrArg A (congrArg₂ ix2 rfl (Fin.ext ?_))
  show 3840 + (h.val * 128 + d.val) = 3840 + 128 * h.val + d.val
  omega

/-- The incoming gradient by heads. -/
theorem v57_at (h g : Fin 2) (r : Fin 4096) (d : Fin 128) : val_main_v57 (F := Ideal) B (ix5 0 h g r d) = Dr B (hd h g) r d := by
  pointwise [val_main_v57, val_main_v56, val_main_v55, val_main_v54, val_main_v53, val_main_v52]
  refine congrArg B (congrArg₂ ix2 rfl (Fin.ext ?_))
  show 1536 + ((h.val * 2 + g.val) * 128 + d.val) = 1536 + 128 * (2 * h.val + g.val) + d.val
  omega

/-- The products of queries and keys. -/
theorem v14_at (h g : Fin 2) (r : Fin 4096) (k : Fin 4352) : val_main_v14 (F := Ideal) A (ix5 0 h g r k) = ∑ d, Qr A (hd h g) (up r) d * Kr A h k d := by
  pointwise [val_main_v14]
  simp only [v7_at, v10_at]
/-- The scores. -/
theorem v16_at (h g : Fin 2) (r : Fin 4096) (k : Fin 4352) : val_main_v16 (F := Ideal) A (ix5 0 h g r k) = val_main_v14 (F := Ideal) A (ix5 0 h g r k) * cc := by
  pointwise [val_main_v16, val_main_v15, val_main_cst]
  rfl

/-- The largest score of a row. -/
theorem v17_at (h g : Fin 2) (r : Fin 4096) : val_main_v17 (F := Ideal) A (ix4 0 h g r) = Finset.univ.fold max (⊥ : EReal) fun k : Fin 4352 => val_main_v16 (F := Ideal) A (ix5 0 h g r k) := by
  pointwise [val_main_v17, val_main_cst_0]
  rw [word_bot]
/-- The largest score of a row, from minus infinity. -/
theorem max_at (M17 : FVec Ideal Cert.ReferenceIdeal.S1x2x2x4096 .f32) (h g : Fin 2) (r : Fin 4096) :
    maximumf (val_main_v23 (F := Ideal)) M17 (ix4 0 h g r) = max ⊥ (M17 (ix4 0 h g r)) := by
  show max (val_main_v23 (F := Ideal) (ix4 0 h g r)) _ = _
  rw [val_main_v23_apply, val_main_cst_2_apply]
  show max (Ideal.ofBits .f32 0xFF800000#32) _ = _
  rw [word_bot]

/-- The exponentials of a row. -/
theorem v37_at (h g : Fin 2) (r : Fin 4096) (k : Fin 4352) : val_main_v37 (F := Ideal) A (ix5 0 h g r k) =
    Ideal.exp (val_main_v16 (F := Ideal) A (ix5 0 h g r k) - max ⊥ (val_main_v17 (F := Ideal) A (ix4 0 h g r))) := by
  have e : val_main_v35 (F := Ideal) A (ix5 0 h g r k) = val_main_v24 (F := Ideal) A (ix4 0 h g r) := by
    rw [val_main_v35_apply, val_main_v34_apply]
    generalize val_main_v24 (F := Ideal) A = y
    exact congrArg y (funext fun a => Fin.ext (by match a with | ⟨0, _⟩ => rfl | ⟨1, _⟩ => rfl | ⟨2, _⟩ => rfl | ⟨3, _⟩ => rfl))
  have e' : val_main_v24 (F := Ideal) A (ix4 0 h g r) = max ⊥ (val_main_v17 (F := Ideal) A (ix4 0 h g r)) := max_at _ h g r
  rw [val_main_v37_apply, val_main_v36_apply, e, e']
  generalize val_main_v17 (F := Ideal) A = M17
  generalize val_main_v16 (F := Ideal) A = S16
  rfl

/-- Their sum. -/
theorem v38_at (h g : Fin 2) (r : Fin 4096) : val_main_v38 (F := Ideal) A (ix4 0 h g r) = ∑ k, val_main_v37 (F := Ideal) A (ix5 0 h g r k) := by
  pointwise [val_main_v38, val_main_cst_8]

/-- The attention weights. -/
theorem v45_at (h g : Fin 2) (r : Fin 4096) (k : Fin 4352) : val_main_v45 (F := Ideal) A (ix5 0 h g r k) =
    Ideal.div (val_main_v37 (F := Ideal) A (ix5 0 h g r k)) (val_main_v38 (F := Ideal) A (ix4 0 h g r)) := by
  pointwise [val_main_v45, val_main_v41, val_main_v40, val_main_v39]

/-- The gradient of the weights. -/
theorem v62_at (h g : Fin 2) (r : Fin 4096) (k : Fin 4352) : val_main_v63 (F := Ideal) A B (ix5 0 h g r k) =
    ∑ d, Dr B (hd h g) r d * Vr A h k d := by
  pointwise [val_main_v63, val_main_v62, val_main_v61]
  simp only [v57_at, v13_at]
/-- The sum that the quotient rule takes over a row. -/
theorem v67_at (h g : Fin 2) (r : Fin 4096) : val_main_v67 (F := Ideal) A B (ix4 0 h g r) = ∑ k, val_main_v63 (F := Ideal) A B (ix5 0 h g r k) *
    Ideal.div 1 (val_main_v38 (F := Ideal) A (ix4 0 h g r) * val_main_v38 (F := Ideal) A (ix4 0 h g r)) * val_main_v37 (F := Ideal) A (ix5 0 h g r k) := by
  pointwise [val_main_v67, val_main_cst_10, val_main_v66, val_main_v65, val_main_v64, val_main_v44, val_main_v43, val_main_v42, val_main_v39, val_main_cst_9]

/-- The same sum with its sign, read through the two unit axes. -/
theorem v72_at (h g : Fin 2) (r : Fin 4096) : val_main_v72 (F := Ideal) A B (ix3 h g r) = - val_main_v67 (F := Ideal) A B (ix4 0 h g r) := by
  unfold val_main_v72
  simp only [Host.reduceAdd, Ideal.hostReduceAdd_def]
  unfold Ideal.hostReduceAdd
  have hf : (Finset.univ.filter fun i => Shape.ReducesTo.drop Cert.ReferenceIdeal.Gen.reducesTo_S1x2x2x4096x1_S2x2x4096_d0_4 i = ix3 h g r) = {ix5 (0 : Fin 1) h g r (0 : Fin 1)} := by
    ext i
    rw [Finset.mem_filter, Finset.mem_singleton]
    constructor
    · rintro ⟨-, hi⟩
      have e1 : (i 1).val = h.val := congrArg (fun j : Cert.ReferenceIdeal.S2x2x4096.Idx => (j 0).val) hi
      have e2 : (i 2).val = g.val := congrArg (fun j : Cert.ReferenceIdeal.S2x2x4096.Idx => (j 1).val) hi
      have e3 : (i 3).val = r.val := congrArg (fun j : Cert.ReferenceIdeal.S2x2x4096.Idx => (j 2).val) hi
      have e0 : (i 0).val < 1 := (i 0).isLt
      have e4 : (i 4).val < 1 := (i 4).isLt
      funext a
      apply Fin.ext
      match a with
      | ⟨0, _⟩ => show (i 0).val = 0; omega
      | ⟨1, _⟩ => exact e1
      | ⟨2, _⟩ => exact e2
      | ⟨3, _⟩ => exact e3
      | ⟨4, _⟩ => show (i 4).val = 0; omega
    · rintro rfl
      refine ⟨Finset.mem_univ _, funext fun a => Fin.ext ?_⟩
      match a with
      | ⟨0, _⟩ => rfl
      | ⟨1, _⟩ => rfl
      | ⟨2, _⟩ => rfl
  rw [hf, Finset.sum_singleton]
  pointwise [val_main_cst_11, val_main_v69, val_main_v68]

/-- The gradient of the products of queries and keys. -/
theorem v78_at (h g : Fin 2) (r : Fin 4096) (k : Fin 4352) : val_main_v78 (F := Ideal) A B (ix5 0 h g r k) =
    (Ideal.div (val_main_v63 (F := Ideal) A B (ix5 0 h g r k)) (val_main_v38 (F := Ideal) A (ix4 0 h g r)) + -val_main_v67 (F := Ideal) A B (ix4 0 h g r)) * val_main_v37 (F := Ideal) A (ix5 0 h g r k) * cc := by
  pointwise [val_main_v78, val_main_v77, val_main_cst_12, val_main_v76, val_main_v75, val_main_v71, val_main_v70, val_main_v39, val_main_v74, val_main_v73]
  rw [v72_at]
  rfl
/-- The keys' gradient by heads. -/
theorem v79_at (h : Fin 2) (k : Fin 4352) (d : Fin 128) : val_main_v79 (F := Ideal) A B (ix4 0 h k d) = ∑ g : Fin 2, ∑ r : Fin 4096, val_main_v78 (F := Ideal) A B (ix5 0 h g r k) * Qr A (hd h g) (up r) d := by
  simp only [← v7_at]
  exact Ideal.dotGeneral_batch2contr2_apply (b := 1) (h := 2) (i := 2) (q := 4096) (k := 4352) (d := 128) (by decide) (by decide) none _ _ _ 0 h k d
/-- The values' gradient by heads. -/
theorem v58_at (h : Fin 2) (k : Fin 4352) (d : Fin 128) : val_main_v58 (F := Ideal) A B (ix4 0 h d k) = ∑ g : Fin 2, ∑ r : Fin 4096, Dr B (hd h g) r d * val_main_v45 (F := Ideal) A (ix5 0 h g r k) := by
  simp only [← v57_at]
  exact Ideal.dotGeneral_batch2contr2_apply (b := 1) (h := 2) (i := 2) (q := 4096) (k := 128) (d := 4352) (by decide) (by decide) none _ _ _ 0 h d k
/-- The queries' gradient by heads. -/
theorem v81_at (h g : Fin 2) (r : Fin 4096) (d : Fin 128) : val_main_v81 (F := Ideal) A B (ix5 0 h g r d) = ∑ k, val_main_v78 (F := Ideal) A B (ix5 0 h g r k) * Kr A h k d := by
  pointwise [val_main_v81]
  simp only [v10_at]
/-- The output by heads. -/
theorem v46_at (h g : Fin 2) (r : Fin 4096) (d : Fin 128) : val_main_v46 (F := Ideal) A (ix5 0 h g r d) = ∑ k, val_main_v45 (F := Ideal) A (ix5 0 h g r k) * Vr A h k d := by
  pointwise [val_main_v46]
  simp only [v13_at]
/-- The output, its heads side by side. -/
theorem v51_at (n : Fin 4) (r : Fin 4096) (d : Fin 128) : val_main_v51 (F := Ideal) A (ix2 r ⟨128 * n.val + d.val, by omega⟩) = val_main_v46 (F := Ideal) A (ix5 0 (kv n) ⟨n.val % 2, by omega⟩ r d) := by
  pointwise [val_main_v51, val_main_v50, val_main_v49, val_main_v48, val_main_v47]
  rfl
/-- The queries' gradient, its heads side by side. -/
theorem v92_at (y : Cert.ReferenceIdeal.S4096x512.Idx) : val_main_v92 (F := Ideal) A B y = val_main_v81 (F := Ideal) A B (ix5 0 ⟨(y 1).val / 256, by have : (y 1).val < 512 := (y 1).isLt; omega⟩ ⟨(y 1).val / 128 % 2, by omega⟩ (y 0) ⟨(y 1).val % 128, by omega⟩) := by
  idx_vars y
  pointwise [val_main_v92, val_main_v91, val_main_v90, val_main_v89, val_main_v82, val_main_cst_15]
  rw [Fin.sum_univ_one]
  exact congrArg (fun q : Fin 2 => val_main_v81 (F := Ideal) A B (ix5 0 q _ y0 _)) (Fin.ext (by show y1.val / 128 / 2 = y1.val / 256; omega))
/-- The keys' gradient, its heads side by side. -/
theorem v95_at (y : Cert.ReferenceIdeal.S4352x256.Idx) : val_main_v95 (F := Ideal) A B y = val_main_v79 (F := Ideal) A B (ix4 0 ⟨(y 1).val / 128, by have : (y 1).val < 256 := (y 1).isLt; omega⟩ (y 0) ⟨(y 1).val % 128, by omega⟩) := by
  idx_vars y
  pointwise [val_main_v95, val_main_v88, val_main_v87, val_main_v86, val_main_v80, val_main_cst_14]
  rw [Fin.sum_univ_one]
/-- The values' gradient, its heads side by side. -/
theorem v96_at (y : Cert.ReferenceIdeal.S4352x256.Idx) : val_main_v96 (F := Ideal) A B y = val_main_v58 (F := Ideal) A B (ix4 0 ⟨(y 1).val / 128, by have : (y 1).val < 256 := (y 1).isLt; omega⟩ ⟨(y 1).val % 128, by omega⟩ (y 0)) := by
  idx_vars y
  pointwise [val_main_v96, val_main_v85, val_main_v84, val_main_v83, val_main_v60, val_main_v59, val_main_cst_13]
  rw [Fin.sum_univ_one]
/-- The queries' gradient, zero on the rows that hold no query. -/
theorem v94_at (y : Cert.ReferenceIdeal.S4352x512.Idx) : val_main_v94 (F := Ideal) A B y = if h : (y 0).val < 4096 then val_main_v92 (F := Ideal) A B (ix2 ⟨(y 0).val, h⟩ (y 1)) else 0 := by
  idx_vars y
  pointwise [val_main_v94, val_main_v93, val_main_cst_16]

end Cert.KernelIdeal.Bwd

end
-- ==== Proof.Bwd.Host.lean ====
/- What the host lines hand the kernel: the output of the attention and the logarithm of its sums, as terms of the
   reference's own stages. -/
module

public import proofs.«01_k».proof.Proof.Bwd.Arrays
public import proofs.«01_k».proof.Proof.Gen.ReferenceIdeal.Read
public import Idealize.ShloMosaic.Lib.StableHlo.ReadAt
public import proofs.«01_k».proof.Proof.Bwd.Ref

@[expose] public section

set_option maxRecDepth 16384

noncomputable section

namespace Cert.KernelIdeal.Bwd

open Cert.KernelIdeal Cert.KernelIdeal.Gen Idealize.ShloMosaic Idealize.ShloMosaic.TcCoe Idealize.SL.Sem Idealize.ShloMosaic.StableHlo
open Cert.ReferenceIdeal.Read

variable (m : (ℓ : Loc nD τ sig) → Buf (Elt Ideal) ℓ)

/-- The output of the attention laid out as the kernel reads it: the reference's own output, padded. -/
theorem aO_eq (c : Dev nD) : aO m c = pad S4352x2048 ![0, 1536] ![0, 0] ![0, 0]
    (pad S4352x512 ![0, 0] ![256, 0] ![0, 0] (val_main_v51 (F := Ideal) (aA m c)) (sitofp (F := Ideal) .bf16 (constantI S_ 32 0#32)) pads_S4096x512_S4352x512_02560_000 h_S_)
      (sitofp (F := Ideal) .bf16 (constantI S_ 32 0#32)) pads_S4352x512_S4352x2048_000_153600 h_S_ := by
  unfold aO V
  after_reads_simp
  simp -implicitDefEqProofs only [StableHlo.TRef.toBuf, StableHlo.TRef.ofBuf, cast_cast, cast_eq]
  simp only [val_main_v51, val_main_v50, val_main_v49, val_main_v48, val_main_v47, val_main_v46, val_main_v45, val_main_v41, val_main_v40, val_main_v39, val_main_v38, val_main_v37, val_main_v36, val_main_v35, val_main_v34, val_main_v24, val_main_v23, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_2, val_main_cst_8]
  clean_types
  rfl

/-- The binary logarithm of the sum of exponentials of each row of scores. -/
abbrev lse5 (A : S4352x4224.Idx → EReal) : S1x2x2x4096.Idx → EReal :=
  Host.divf (F := Ideal) (φ := .f32) (addf (val_main_v17 (F := Ideal) A : FVec Ideal S1x2x2x4096 .f32) (Host.log (Host.reduceAdd (Host.exp (subf (val_main_v16 (F := Ideal) A : FVec Ideal S1x2x2x4096x4352 .f32) (broadcastInDim S1x2x2x4096x4352 ![0, 1, 2, 3, 4] bcast_S1x2x2x4096x1_S1x2x2x4096x4352_0_1_2_3_4 (broadcastInDim S1x2x2x4096x1 ![0, 1, 2, 3] bcast_S1x2x2x4096_S1x2x2x4096x1_0_1_2_3 (val_main_v17 (F := Ideal) A : FVec Ideal S1x2x2x4096 .f32))))) (constant S_ .f32 0x00000000#32) reducesTo_S1x2x2x4096x4352_S1x2x2x4096_d4 h_S_)))
    (broadcastInDim S1x2x2x4096 ![] bcast_S_S1x2x2x4096 (Host.log (constant S_ .f32 0x40000000#32)))

/-- The logarithms laid out as the kernel reads them: one copy per column of a head, padded. -/
theorem aL_eq (c : Dev nD) : aL m c =
    pad S4352x512 ![0, 0] ![256, 0] ![0, 0]
       (shapeCast _ (shapeCast _ (transpose S1x4096x4x128 [0, 2, 1, 3] (shapeCast _ (broadcastInDim S1x2x2x4096x128 ![0, 1, 2, 3, 4] bcast_S1x2x2x4096x1_S1x2x2x4096x128_0_1_2_3_4 (broadcastInDim S1x2x2x4096x1 ![0, 1, 2, 3] bcast_S1x2x2x4096_S1x2x2x4096x1_0_1_2_3 (lse5 (aA m c))))  shapeCasts_S1x2x2x4096x128_S1x4x4096x128) transposes_S1x4x4096x128_S1x4096x4x128_0_2_1_3) shapeCasts_S1x4096x4x128_S1x4096x512) shapeCasts_S1x4096x512_S4096x512)
       (sitofp (F := Ideal) .f32 (constantI S_ 32 0#32)) pads_S4096x512_S4352x512_02560_000 h_S_ := by
  unfold aL V
  after_reads_simp
  simp -implicitDefEqProofs only [StableHlo.TRef.toBuf, StableHlo.TRef.ofBuf, cast_cast, cast_eq]
  simp only [lse5, val_main_v17, val_main_v16, val_main_v15, val_main_v14, val_main_v10, val_main_v9, val_main_v8, val_main_v7, val_main_v6, val_main_v5, val_main_v4, val_main_v3, val_main_v1, val_main_v0, val_main_cst, val_main_cst_0]
  clean_types
  rfl

/-- A row's entry read at every column of the scores. -/
theorem row_at (M17 : FVec Ideal S1x2x2x4096 .f32) (h g : Fin 2) (r : Fin 4096) (k : Fin 4352) :
    (broadcastInDim S1x2x2x4096x4352 ![0, 1, 2, 3, 4] bcast_S1x2x2x4096x1_S1x2x2x4096x4352_0_1_2_3_4
      (broadcastInDim S1x2x2x4096x1 ![0, 1, 2, 3] bcast_S1x2x2x4096_S1x2x2x4096x1_0_1_2_3 M17)) (ix5 0 h g r k) = M17 (ix4 0 h g r) := by
  pointwise

/-- The exponentials below a logarithm. -/
def expR (S16 : FVec Ideal S1x2x2x4096x4352 .f32) (M17 : FVec Ideal S1x2x2x4096 .f32) : FVec Ideal S1x2x2x4096x4352 .f32 :=
  Host.exp (subf S16 (broadcastInDim S1x2x2x4096x4352 ![0, 1, 2, 3, 4] bcast_S1x2x2x4096x1_S1x2x2x4096x4352_0_1_2_3_4
      (broadcastInDim S1x2x2x4096x1 ![0, 1, 2, 3] bcast_S1x2x2x4096_S1x2x2x4096x1_0_1_2_3 M17)))

/-- They are the exponentials of the scores less the row's entry. -/
theorem expR_at (S16 : FVec Ideal S1x2x2x4096x4352 .f32) (M17 : FVec Ideal S1x2x2x4096 .f32) (h g : Fin 2) (r : Fin 4096) (k : Fin 4352) :
    expR S16 M17 (ix5 0 h g r k) = Ideal.exp (S16 (ix5 0 h g r k) - M17 (ix4 0 h g r)) := by
  refine Eq.trans ?_ (congrArg (fun z => Ideal.exp (S16 (ix5 0 h g r k) - z)) (row_at M17 h g r k))
  unfold expR
  generalize (broadcastInDim S1x2x2x4096x4352 ![0, 1, 2, 3, 4] bcast_S1x2x2x4096x1_S1x2x2x4096x4352_0_1_2_3_4
      (broadcastInDim S1x2x2x4096x1 ![0, 1, 2, 3] bcast_S1x2x2x4096_S1x2x2x4096x1_0_1_2_3 M17)) = y
  rfl

/-- The logarithm over any exponentials, at a row. -/
theorem lse_at (E : FVec Ideal S1x2x2x4096x4352 .f32) (M17 : FVec Ideal S1x2x2x4096 .f32) (h g : Fin 2) (r : Fin 4096) :
    (Host.divf (addf M17 (Host.log (Host.reduceAdd E (constant S_ .f32 0x00000000#32) reducesTo_S1x2x2x4096x4352_S1x2x2x4096_d4 h_S_)))
      (broadcastInDim S1x2x2x4096 ![] bcast_S_S1x2x2x4096 (Host.log (constant S_ .f32 0x40000000#32)))) (ix4 0 h g r)
    = Ideal.div (M17 (ix4 0 h g r) + Ideal.log (∑ k : Fin 4352, E (ix5 0 h g r k))) (Ideal.log (Ideal.ofBits .f32 0x40000000#32)) := by
  pointwise

/-- The binary logarithm at a row. -/
theorem lse5_at (A : S4352x4224.Idx → EReal) (h g : Fin 2) (r : Fin 4096) : lse5 A (ix4 0 h g r) =
    Ideal.div (val_main_v17 (F := Ideal) A (ix4 0 h g r) + Ideal.log (∑ k : Fin 4352,
      Ideal.exp (val_main_v16 (F := Ideal) A (ix5 0 h g r k) - val_main_v17 (F := Ideal) A (ix4 0 h g r)))) (Ideal.log (Ideal.ofBits .f32 0x40000000#32)) := by
  refine (lse_at (expR (val_main_v16 (F := Ideal) A) (val_main_v17 (F := Ideal) A)) (val_main_v17 (F := Ideal) A) h g r).trans ?_
  simp only [expR_at]

/-- The logarithm that the kernel reads for a row. -/
theorem aL_at (c : Dev nD) (n : Fin 4) (r : Fin 4096) : Lr (aL m c) n (up r) = lse5 (aA m c) (ix4 0 (kv n) ⟨n.val % 2, by omega⟩ r) := by
  rw [aL_eq]
  generalize lse5 (aA m c) = y
  unfold Lr
  pointwise [up]
  rw [dif_pos (by omega)]
  rfl

/-- The output that the kernel reads for a row. -/
theorem aO_at (c : Dev nD) (n : Fin 4) (r : Fin 4096) (d : Fin 128) : Or (aO m c) n (up r) d = val_main_v51 (F := Ideal) (aA m c) (ix2 r ⟨128 * n.val + d.val, by omega⟩) := by
  rw [aO_eq]
  generalize val_main_v51 (F := Ideal) (aA m c) = y
  unfold Or
  pointwise [up]
  rw [dif_pos (by omega), dif_pos (by omega)]
  exact congrArg (fun q => y (ix2 r q)) (Fin.ext (by show 1536 + 128 * n.val + d.val - 1536 = 128 * n.val + d.val; omega))

end Cert.KernelIdeal.Bwd

end
-- ==== Proof.Bwd.Row.lean ====
/- One row of the attention gradient over the reals: the kernel's formula, with a power of two and a row's logarithm,
   and the reference's, with exponentials and the quotient rule, are one number. -/
module

public import proofs.«01_k».proof.Proof.Bwd.Block

@[expose] public section

noncomputable section

namespace Cert.KernelIdeal.Bwd

open Cert.KernelIdeal Idealize.ShloMosaic

/-- A sum of reals is the same sum among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many reals is a real. -/
theorem fold_real {ι : Type} [Fintype ι] [Nonempty ι] (s : ι → ℝ) : ∃ M : ℝ, Finset.univ.fold max (⊥ : EReal) (fun k => (s k : EReal)) = (M : EReal) := by
  obtain ⟨k, -, hk⟩ := Finset.exists_mem_eq_sup Finset.univ Finset.univ_nonempty (fun k => (s k : EReal))
  exact ⟨s k, hk⟩

/-- The scale of the scores. -/
def cr : ℝ := 11863283 / 134217728

/-- The word of the scale is its real. -/
theorem cc_eq : cc = (cr : EReal) := by
  unfold cc cr
  simp [Ideal.ofBits, Ideal.ieee]
  norm_num [zpow_neg]
  rw [← EReal.coe_mul]
  norm_num

/-- The named constant is the scale over the logarithm of two. -/
theorem c2_eq : c2 = ((cr * (Real.log 2)⁻¹ : ℝ) : EReal) := rfl

/-- The word of two. -/
theorem two_eq : Ideal.ofBits .f32 0x40000000#32 = ((2 : ℝ) : EReal) := by
  simp [Ideal.ofBits, Ideal.ieee]
  norm_num
  rw [← EReal.coe_mul]
  norm_num

/-- A quotient of reals. -/
theorem div_real (x y : ℝ) (h : y ≠ 0) : Ideal.div (x : EReal) (y : EReal) = ((x / y : ℝ) : EReal) := by
  rw [Ideal.div_coe h, ← EReal.coe_mul, mul_one_div]

/-- The logarithm of a positive real. -/
theorem log_real (x : ℝ) (h : 0 < x) : Ideal.log (x : EReal) = (Real.log x : EReal) := by
  rw [Ideal.log_coe, if_neg (not_le.mpr h)]

/-- A power of two whose exponent is a logarithm's share is an exponential over the sum. -/
theorem pow_eq (s M l : ℝ) (hl : 0 < l) : Real.rpow 2 (s * (Real.log 2)⁻¹ - (M + Real.log l) / Real.log 2) = Real.exp (s - M) / l := by
  have h2 : Real.log 2 ≠ 0 := ne_of_gt (Real.log_pos (by norm_num))
  rw [Real.rpow_eq_pow, Real.rpow_def_of_pos (by norm_num : (0 : ℝ) < 2)]
  have e : Real.log 2 * (s * (Real.log 2)⁻¹ - (M + Real.log l) / Real.log 2) = (s - M) - Real.log l := by
    field_simp
    ring
  rw [e, Real.exp_sub, Real.exp_log hl]

section Row

variable (q o : Fin 128 → ℝ) (K V : Fin 4352 → Fin 128 → ℝ)

/-- A score. -/
def sR (k : Fin 4352) : ℝ := (∑ d, q d * K k d) * cr
/-- A product of the incoming gradient with a value row. -/
def dpR (k : Fin 4352) : ℝ := ∑ d, o d * V k d
/-- The exponential of a score, less `M`. -/
def eR (M : ℝ) (k : Fin 4352) : ℝ := Real.exp (sR q K k - M)
/-- The row's sum. -/
def lR (M : ℝ) : ℝ := ∑ k, eR q K M k

/-- A row's sum is positive. -/
theorem lR_pos (M : ℝ) : 0 < lR q K M := Finset.sum_pos (fun k _ => Real.exp_pos _) Finset.univ_nonempty

/-- The two formulas of the scores' gradient agree. -/
theorem ds_real (M : ℝ) (k : Fin 4352) :
    eR q K M k / lR q K M * ((dpR o V k - ∑ d, o d * ∑ j, eR q K M j / lR q K M * V j d) * cr)
    = (dpR o V k / lR q K M + -(∑ j, dpR o V j * (1 / (lR q K M * lR q K M)) * eR q K M j)) * eR q K M k * cr := by
  have hl := (lR_pos q K M).ne'
  have e : ∑ d, o d * ∑ j, eR q K M j / lR q K M * V j d = ∑ j, eR q K M j / lR q K M * dpR o V j := by
    simp only [Finset.mul_sum, dpR]
    rw [Finset.sum_comm]
    exact Finset.sum_congr rfl fun j _ => Finset.sum_congr rfl fun d _ => by ring
  have e' : ∑ j, dpR o V j * (1 / (lR q K M * lR q K M)) * eR q K M j = (∑ j, eR q K M j / lR q K M * dpR o V j) / lR q K M := by
    rw [Finset.sum_div]
    exact Finset.sum_congr rfl fun j _ => by field_simp
  rw [e, e']
  generalize ∑ j, eR q K M j / lR q K M * dpR o V j = T
  field_simp
  ring

end Row

section RowE

variable (q o : Fin 128 → EReal) (K V : Fin 4352 → Fin 128 → EReal)

/-- The scores of a row. -/
def sE (k : Fin 4352) : EReal := (∑ d, q d * K k d) * cc
/-- The largest. -/
def mE : EReal := Finset.univ.fold max ⊥ (sE q K)
/-- Their exponentials as the reference takes them. -/
def eE (k : Fin 4352) : EReal := Ideal.exp (sE q K k - max ⊥ (mE q K))
/-- The sum of a row. -/
def lE : EReal := ∑ k, eE q K k
/-- The binary logarithm of the sum. -/
def lseE : EReal := Ideal.div (mE q K + Ideal.log (∑ k, Ideal.exp (sE q K k - mE q K))) (Ideal.log (Ideal.ofBits .f32 0x40000000#32))
/-- The gradient of the weights. -/
def dpE (k : Fin 4352) : EReal := ∑ d, o d * V k d
/-- The output row. -/
def oE (d : Fin 128) : EReal := ∑ k, Ideal.div (eE q K k) (lE q K) * V k d
/-- The gradient of the products of queries and keys, as the reference takes it. -/
def dsE (k : Fin 4352) : EReal :=
  (Ideal.div (dpE o V k) (lE q K) + -(∑ j, dpE o V j * Ideal.div 1 (lE q K * lE q K) * eE q K j)) * eE q K k * cc

/-- On rows of reals the kernel's weight is the reference's, and so is the gradient. -/
theorem row_eq (q o : Fin 128 → ℝ) (K V : Fin 4352 → Fin 128 → ℝ) (q' o' : Fin 128 → EReal) (K' V' : Fin 4352 → Fin 128 → EReal)
    (hq : q' = fun d => (q d : EReal)) (ho : o' = fun d => (o d : EReal)) (hK : K' = fun k d => (K k d : EReal)) (hV : V' = fun k d => (V k d : EReal)) (k : Fin 4352) :
    prb q' (K' k) (lseE q' K') = Ideal.div (eE q' K' k) (lE q' K')
    ∧ dsc q' (K' k) o' (oE q' K' V') (V' k) (lseE q' K') = dsE q' o' K' V' k := by
  have hs : ∀ k, sE q' K' k = (sR q K k : EReal) := by
    intro k
    subst hq hK
    simp only [sE, sR, cc_eq, EReal.coe_mul, coe_sum]
  obtain ⟨M, hM⟩ := fold_real (sR q K)
  have hm : mE q' K' = (M : EReal) := by
    unfold mE
    rw [← hM]
    exact congrArg (fun f => Finset.univ.fold max ⊥ f) (funext hs)
  have he0 : ∀ k, Ideal.exp (sE q' K' k - mE q' K') = (eR q K M k : EReal) := by
    intro k
    rw [hs, hm, ← EReal.coe_sub, Ideal.exp_coe]
    rfl
  have he : ∀ k, eE q' K' k = (eR q K M k : EReal) := by
    intro k
    rw [← he0 k]
    unfold eE
    rw [max_eq_right bot_le]
  have hl : lE q' K' = (lR q K M : EReal) := by
    simp only [lE, he, lR, coe_sum]
  have hlp := lR_pos q K M
  have hse : lseE q' K' = (((M + Real.log (lR q K M)) / Real.log 2 : ℝ) : EReal) := by
    unfold lseE
    simp only [he0]
    rw [← coe_sum, hm, two_eq]
    change Ideal.div (_ + Ideal.log ((lR q K M : ℝ) : EReal)) _ = _
    rw [log_real _ hlp, log_real _ (by norm_num), ← EReal.coe_add, div_real _ _ (ne_of_gt (Real.log_pos (by norm_num)))]
  have hp : ∀ k, prb q' (K' k) (lseE q' K') = ((eR q K M k / lR q K M : ℝ) : EReal) := by
    intro k
    unfold prb
    rw [hse, c2_eq]
    subst hq hK
    simp only [← EReal.coe_mul, ← coe_sum, ← EReal.coe_sub, Ideal.exp2_coe]
    rw [← mul_assoc]
    exact congrArg _ (pow_eq (sR q K k) M (lR q K M) hlp)
  have hd : ∀ k, Ideal.div (eE q' K' k) (lE q' K') = ((eR q K M k / lR q K M : ℝ) : EReal) := by
    intro k
    rw [he, hl, div_real _ _ hlp.ne']
  have hdp : ∀ k, dpE o' V' k = (dpR o V k : EReal) := by
    intro k
    subst ho hV
    simp only [dpE, dpR, EReal.coe_mul, coe_sum]
  refine ⟨(hp k).trans (hd k).symm, ?_⟩
  have hO : ∀ d, oE q' K' V' d = ((∑ j, eR q K M j / lR q K M * V j d : ℝ) : EReal) := by
    intro d
    subst hV
    simp only [oE, hd, ← EReal.coe_mul, ← coe_sum]
  have hdp' : ∑ d, o' d * V' k d = (dpR o V k : EReal) := hdp k
  unfold dsc dsE
  rw [hp, hdp', cc_eq, hl, he]
  simp only [hO, hdp, he]
  subst ho
  rw [← EReal.coe_one]
  simp only [← EReal.coe_mul]
  rw [div_real _ _ hlp.ne', div_real _ _ (mul_pos hlp hlp).ne']
  simp only [← EReal.coe_mul, ← coe_sum, ← EReal.coe_sub, ← EReal.coe_neg, ← EReal.coe_add]
  exact congrArg _ (ds_real q o K V M k)

end RowE

end Cert.KernelIdeal.Bwd

end
-- ==== Proof.Bwd.Match.lean ====
/- The kernel's three gradients are the reference's, on arrays of reals. -/
module

public import proofs.«01_k».proof.Proof.Bwd.Final
public import proofs.«01_k».proof.Proof.Bwd.Host
public import proofs.«01_k».proof.Proof.Bwd.Row

@[expose] public section

noncomputable section

namespace Cert.KernelIdeal.Bwd

open Cert.KernelIdeal Cert.KernelIdeal.Gen Idealize.ShloMosaic Idealize.ShloMosaic.TcCoe Idealize.SL.Sem Idealize.ShloMosaic.StableHlo
open Cert.ReferenceIdeal.Read

section Stages

variable (A : S4352x4224.Idx → EReal) (B : S4096x2048.Idx → EReal)

/-- The scores are the row's. -/
theorem m16 (h g : Fin 2) (r : Fin 4096) (k : Fin 4352) : val_main_v16 (F := Ideal) A (ix5 0 h g r k) = sE (Qr A (hd h g) (up r)) (Kr A h) k := by
  rw [v16_at, v14_at]
  rfl

/-- The largest score is the row's. -/
theorem m17 (h g : Fin 2) (r : Fin 4096) : val_main_v17 (F := Ideal) A (ix4 0 h g r) = mE (Qr A (hd h g) (up r)) (Kr A h) := by
  rw [v17_at]
  simp only [m16]
  rfl

/-- The exponentials are the row's. -/
theorem m37 (h g : Fin 2) (r : Fin 4096) (k : Fin 4352) : val_main_v37 (F := Ideal) A (ix5 0 h g r k) = eE (Qr A (hd h g) (up r)) (Kr A h) k := by
  rw [v37_at, m16, m17]
  rfl

/-- The sum is the row's. -/
theorem m38 (h g : Fin 2) (r : Fin 4096) : val_main_v38 (F := Ideal) A (ix4 0 h g r) = lE (Qr A (hd h g) (up r)) (Kr A h) := by
  rw [v38_at]
  simp only [m37]
  rfl

/-- The weights are the row's. -/
theorem m45 (h g : Fin 2) (r : Fin 4096) (k : Fin 4352) : val_main_v45 (F := Ideal) A (ix5 0 h g r k) =
    Ideal.div (eE (Qr A (hd h g) (up r)) (Kr A h) k) (lE (Qr A (hd h g) (up r)) (Kr A h)) := by
  rw [v45_at, m37, m38]

/-- The gradient of the weights is the row's. -/
theorem m63 (h g : Fin 2) (r : Fin 4096) (k : Fin 4352) : val_main_v63 (F := Ideal) A B (ix5 0 h g r k) = dpE (Dr B (hd h g) r) (Vr A h) k := by
  rw [v62_at]
  rfl

/-- The gradient of the scores is the row's. -/
theorem m78 (h g : Fin 2) (r : Fin 4096) (k : Fin 4352) : val_main_v78 (F := Ideal) A B (ix5 0 h g r k) =
    dsE (Qr A (hd h g) (up r)) (Dr B (hd h g) r) (Kr A h) (Vr A h) k := by
  rw [v78_at, v67_at]
  simp only [m63, m37, m38]
  rfl

/-- The output is the row's. -/
theorem m46 (h g : Fin 2) (r : Fin 4096) (d : Fin 128) : val_main_v46 (F := Ideal) A (ix5 0 h g r d) = oE (Qr A (hd h g) (up r)) (Kr A h) (Vr A h) d := by
  rw [v46_at]
  simp only [m45]
  rfl

/-- The binary logarithm is the row's. -/
theorem mlse (h g : Fin 2) (r : Fin 4096) : lse5 A (ix4 0 h g r) = lseE (Qr A (hd h g) (up r)) (Kr A h) := by
  rw [lse5_at]
  simp only [m16, m17]
  rfl

end Stages

section Heads

/-- The key head of a query head is the one it stands for. -/
theorem kv_hd (h g : Fin 2) : kv (hd h g) = h := by
  apply Fin.ext
  show (2 * h.val + g.val) / 2 = h.val
  omega

/-- Its place within the pair. -/
theorem mod_hd (h g : Fin 2) (p : (hd h g).val % 2 < 2) : (⟨(hd h g).val % 2, p⟩ : Fin 2) = g := by
  apply Fin.ext
  show (2 * h.val + g.val) % 2 = g.val
  omega

section Generic

variable (A : S4352x4224.Idx → EReal) (B : S4096x2048.Idx → EReal) (O : S4352x2048.Idx → EReal) (L : S4352x512.Idx → EReal)

/-- The kernel's weight and its score gradient are the reference's, when the output and the logarithm are the rows'. -/
theorem heads (a : S4352x4224.Idx → ℝ) (b : S4096x2048.Idx → ℝ) (hA : ∀ i, A i = (a i : EReal)) (hB : ∀ i, B i = (b i : EReal)) (h g : Fin 2) (r : Fin 4096)
    (hL : Lr L (hd h g) (up r) = lseE (Qr A (hd h g) (up r)) (Kr A h))
    (hO : Or O (hd h g) (up r) = oE (Qr A (hd h g) (up r)) (Kr A h) (Vr A h)) (k : Fin 4352) :
    prG A L (hd h g) r k = val_main_v45 (F := Ideal) A (ix5 0 h g r k)
    ∧ dsG A B O L (hd h g) r k = val_main_v78 (F := Ideal) A B (ix5 0 h g r k) := by
  have hq : Qr A (hd h g) (up r) = fun d => (a (ix2 (up r) ⟨3072 + 128 * (hd h g).val + d.val, by omega⟩) : EReal) := funext fun d => hA _
  have hd' : Dr B (hd h g) r = fun d => (b (ix2 r ⟨1536 + 128 * (hd h g).val + d.val, by omega⟩) : EReal) := funext fun d => hB _
  have hk : Kr A h = fun k d => (a (ix2 k ⟨3584 + 128 * h.val + d.val, by omega⟩) : EReal) := funext fun k => funext fun d => hA _
  have hv : Vr A h = fun k d => (a (ix2 k ⟨3840 + 128 * h.val + d.val, by omega⟩) : EReal) := funext fun k => funext fun d => hA _
  have e := row_eq _ _ _ _ _ _ _ _ hq hd' hk hv k
  refine ⟨Eq.trans ?_ (m45 A h g r k).symm, Eq.trans ?_ (m78 A B h g r k).symm⟩
  · unfold prG
    rw [hL, kv_hd]
    exact e.1
  · unfold dsG
    rw [hL, hO, kv_hd]
    exact e.2

variable (hp : ∀ h g r k, prG A L (hd h g) r k = val_main_v45 (F := Ideal) A (ix5 0 h g r k))
  (hs : ∀ h g r k, dsG A B O L (hd h g) r k = val_main_v78 (F := Ideal) A B (ix5 0 h g r k))

include hs in
/-- The queries' gradient. -/
theorem dq_of : dqG A B O L = val_main_v94 (F := Ideal) A B := by
  funext y
  refine Eq.trans ?_ (v94_at A B y).symm
  unfold dqG
  have hy : (y 1).val < 512 := (y 1).isLt
  by_cases h : (y 0).val < 4096
  · rw [dif_pos h, dif_pos h]
    refine Eq.trans ?_ ((v92_at A B _).trans (v81_at A B _ _ _ _)).symm
    refine Finset.sum_congr rfl fun k _ => congrArg₂ _ (Eq.trans ?_ (hs _ _ _ k)) rfl
    refine congrArg (fun n => dsG _ _ _ _ n _ k) (Fin.ext ?_)
    show (y 1).val / 128 = 2 * ((y 1).val / 256) + (y 1).val / 128 % 2
    omega
  · rw [dif_neg h, dif_neg h]

include hs in
/-- One key head's gradient. -/
theorem dkH_of (h g : Fin 2) (k : Fin 4352) (d : Fin 128) :
    dkH A B O L (hd h g) k d = ∑ r : Fin 4096, val_main_v78 (F := Ideal) A B (ix5 0 h g r k) * Qr A (hd h g) (up r) d := by
  unfold dkH
  simp only [hs]

include hp in
/-- One value head's gradient. -/
theorem dvH_of (h g : Fin 2) (k : Fin 4352) (d : Fin 128) :
    dvH A B L (hd h g) k d = ∑ r : Fin 4096, Dr B (hd h g) r d * val_main_v45 (F := Ideal) A (ix5 0 h g r k) := by
  unfold dvH
  simp only [hp, mul_comm (Dr B _ _ _)]

/-- The first head of a pair. -/
theorem h0_eq (b : Fin 256) : h0 b = hd ⟨b.val / 128, by omega⟩ 0 := Fin.ext rfl
/-- The second head of a pair. -/
theorem h1_eq (b : Fin 256) : h1 b = hd ⟨b.val / 128, by omega⟩ 1 := Fin.ext rfl

include hs in
/-- The keys' gradient. -/
theorem dk_of : dkG A B O L = val_main_v95 (F := Ideal) A B := by
  funext y
  refine Eq.trans ?_ (((v95_at A B y).trans (v79_at A B _ _ _)).trans (Fin.sum_univ_two _)).symm
  unfold dkG
  exact congrArg₂ _ ((congrArg (fun n => dkH A B O L n (y 0) (cl (y 1))) (h0_eq (y 1))).trans (dkH_of A B O L hs _ 0 (y 0) (cl (y 1))))
    ((congrArg (fun n => dkH A B O L n (y 0) (cl (y 1))) (h1_eq (y 1))).trans (dkH_of A B O L hs _ 1 (y 0) (cl (y 1))))

include hp in
/-- The values' gradient. -/
theorem dv_of : dvG A B L = val_main_v96 (F := Ideal) A B := by
  funext y
  refine Eq.trans ?_ (((v96_at A B y).trans (v58_at A B _ _ _)).trans (Fin.sum_univ_two _)).symm
  unfold dvG
  exact congrArg₂ _ ((congrArg (fun n => dvH A B L n (y 0) (cl (y 1))) (h0_eq (y 1))).trans (dvH_of A B L hp _ 0 (y 0) (cl (y 1))))
    ((congrArg (fun n => dvH A B L n (y 0) (cl (y 1))) (h1_eq (y 1))).trans (dvH_of A B L hp _ 1 (y 0) (cl (y 1))))

end Generic

variable (m : (ℓ : Loc nD τ sig) → Buf (Elt Ideal) ℓ) (c : Dev nD)

/-- The logarithm the kernel reads. -/
theorem hlse (h g : Fin 2) (r : Fin 4096) : Lr (aL m c) (hd h g) (up r) = lseE (Qr (aA m c) (hd h g) (up r)) (Kr (aA m c) h) := by
  rw [aL_at, kv_hd, mod_hd, mlse]

/-- The output the kernel reads. -/
theorem hout (h g : Fin 2) (r : Fin 4096) : Or (aO m c) (hd h g) (up r) = oE (Qr (aA m c) (hd h g) (up r)) (Kr (aA m c) h) (Vr (aA m c) h) := by
  funext d
  rw [aO_at, v51_at, kv_hd, mod_hd, m46]

/-- The three gradients. -/
theorem grads_eq (hA : ∀ i, ∃ x : ℝ, aA m c i = (x : EReal)) (hB : ∀ i, ∃ x : ℝ, aB m c i = (x : EReal)) :
    dqG (aA m c) (aB m c) (aO m c) (aL m c) = val_main_v94 (F := Ideal) (aA m c) (aB m c)
    ∧ dkG (aA m c) (aB m c) (aO m c) (aL m c) = val_main_v95 (F := Ideal) (aA m c) (aB m c)
    ∧ dvG (aA m c) (aB m c) (aL m c) = val_main_v96 (F := Ideal) (aA m c) (aB m c) := by
  have hL := hlse m c
  have hO := hout m c
  revert hA hB hL hO
  generalize aA m c = A
  generalize aB m c = B
  generalize aO m c = O
  generalize aL m c = L
  intro hA hB hL hO
  choose a ha using hA
  choose b hb using hB
  have e := fun h g r k => heads A B O L a b ha hb h g r (hL h g r) (hO h g r) k
  exact ⟨dq_of A B O L fun h g r k => (e h g r k).2, dk_of A B O L fun h g r k => (e h g r k).2, dv_of A B L fun h g r k => (e h g r k).1⟩

end Heads

end Cert.KernelIdeal.Bwd

end
-- ==== Proof.Bwd.Finite.lean ====
/- The precondition read back: every entry of the two arrays is a real. -/
module

public import proofs.«01_k».proof.Pre_finite
public import Idealize.ShloMosaic.Lib.ReduceAll
public import Idealize.ShloMosaic.Lib.Pointwise

@[expose] public section

noncomputable section

namespace Cert.Pre_finite

open Idealize.ShloMosaic

/-- The predicate's side conditions. -/
theorem facts : Facts where
  bitsLt_bf16_f32 := by decide
  bcast_S_S4352x4224 := by decide
  reducesTo_S4352x4224_S_d0_1 := by decide
  h_S_ := by decide
  bcast_S_S4096x2048 := by decide
  reducesTo_S4096x2048_S_d0_1 := by decide

/-- A value whose absolute value is less than infinity is a real. -/
theorem real_of_lt (x : EReal) (h : Ideal.cmp .olt (max x (-x)) (Ideal.ofBits .f32 0x7F800000#32) = 1#1) : ∃ y : ℝ, x = (y : EReal) := by
  have e : Ideal.ofBits .f32 0x7F800000#32 = ⊤ := by simp [Ideal.ofBits, Ideal.ieee]
  rw [e] at h
  have h' : max x (-x) < ⊤ := by
    by_contra hn
    simp [Ideal.cmp, hn] at h
  have h1 : x ≠ ⊤ := ne_of_lt (lt_of_le_of_lt (le_max_left _ _) h')
  have h2 : x ≠ ⊥ := by
    rintro rfl
    simp at h'
  exact ⟨x.toReal, (EReal.coe_toReal h1 h2).symm⟩

/-- Two bits whose conjunction is one are ones. -/
theorem and_one : ∀ a b : BitVec 1, a &&& b = 1#1 → a = 1#1 ∧ b = 1#1 := by decide

/-- Under the precondition both arrays hold reals. -/
theorem reals [Facts] (A : FVec Ideal S4352x4224 .bf16) (B : FVec Ideal S4096x2048 .bf16) (h : fn (F := Ideal) A B = fun _ => 1#1) :
    (∀ i, ∃ y : ℝ, A i = (y : EReal)) ∧ ∀ i, ∃ y : ℝ, B i = (y : EReal) := by
  have h0 := congrFun h (fun a => a.elim0)
  obtain ⟨ha, hb⟩ := and_one _ _ h0
  haveI : Subsingleton S_.Idx := ⟨fun x y => funext fun a => a.elim0⟩
  exact ⟨fun i => real_of_lt _ (Host.reduce_andi_all _ _ _ _ _ ha i), fun i => real_of_lt _ (Host.reduce_andi_all _ _ _ _ _ hb i)⟩

end Cert.Pre_finite

end
-- ==== Proof.Bwd.Claims.lean ====
/- The claims about the attention gradient, one theorem each. -/
module

public import proofs.«01_k».proof.Defs
public import proofs.«01_k».proof.Proof.Gen.Kernel
public import proofs.«01_k».proof.Proof.Words.Frame
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Bwd.Frame
public import proofs.«01_k».proof.Proof.Bwd.Match
public import proofs.«01_k».proof.Proof.Bwd.Finite

@[expose] public section

noncomputable section

namespace Cert.BwdClaims

open Idealize.ShloMosaic Idealize.SL.Sem

/-- The kernel runs and keeps its arguments; every counter ends at zero. -/
theorem frame_p : Cert.quiescent_Kernel (hKernel := Cert.Kernel.Gen.facts) := fun m ρ _ => Cert.Kernel.Words.frame m ρ

/-- So does its idealization. -/
theorem frame_pi : Cert.quiescent_KernelIdeal (hKernelIdeal := Cert.KernelIdeal.Gen.facts) := fun m ρ _ => Cert.KernelIdeal.Bwd.frame m ρ

/-- The same under the precondition. -/
theorem frame_pi_pre : Cert.quiescent_KernelIdeal_pre_finite (hKernelIdeal := Cert.KernelIdeal.Gen.facts) (hPre_finite := Cert.Pre_finite.facts) :=
  fun m ρ _ => Cert.KernelIdeal.Bwd.frame m ρ

/-- The reference runs and keeps its arguments; it declares no semaphore. -/
theorem frame_r (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2.2.2, sem_eq_zero_of_no_sems (by decide) r.2⟩)
    (Cert.ReferenceIdeal.Value.run (F := Ideal) m g)

/-- The only replaced words are the five scores' scales, by the named real. -/
theorem preserves : Cert.preserves_Kernel_KernelIdeal :=
  IdealRules.named_const.statement Cert.KernelIdeal.κ "scale2" .f32 0x3E0293EE#32 (((11863283 / 134217728) * (Real.log 2)⁻¹ : ℝ) : EReal) rfl

/-- The three gradients of the kernel and of the reference are equal over the extended reals, for finite arguments. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hag
  have key := fun c => Cert.KernelIdeal.Bwd.grads_eq m c
    (by
      have h := (@Cert.Pre_finite.reals Cert.Pre_finite.facts _ _ (hpre c)).1
      rw [show Cert.KernelIdeal.Bwd.aA m c = _ from Cert.KernelIdeal.Gen.V_main_arg0 m c]
      exact h)
    (by
      have h := (@Cert.Pre_finite.reals Cert.Pre_finite.facts _ _ (hpre c)).2
      rw [show Cert.KernelIdeal.Bwd.aB m c = _ from Cert.KernelIdeal.Gen.V_main_arg1 m c]
      exact h)
  have hA : ∀ c, Cert.KernelIdeal.Bwd.aA m c = m' ((c.tc : Thread Cert.ReferenceIdeal.nD Cert.ReferenceIdeal.τ).loc Cert.ReferenceIdeal.main_arg0) :=
    fun c => (Cert.KernelIdeal.Gen.V_main_arg0 m c).trans (hag c).1.symm
  have hB : ∀ c, Cert.KernelIdeal.Bwd.aB m c = m' ((c.tc : Thread Cert.ReferenceIdeal.nD Cert.ReferenceIdeal.τ).loc Cert.ReferenceIdeal.main_arg1) :=
    fun c => (Cert.KernelIdeal.Gen.V_main_arg1 m c).trans (hag c).2.symm
  refine ⟨_, _, _, Cert.KernelIdeal.Bwd.run m g, (θ_run Cert.ReferenceIdeal.defs _ _).mono (fun r h c => ?_) (Cert.ReferenceIdeal.Value.run (F := Ideal) m' g')⟩
  obtain ⟨h0, h1, h2, h3⟩ := h c
  refine ⟨h0.trans ?_, h1.trans ?_, h2.trans ?_, h3⟩
  · refine (Cert.ReferenceIdeal.Read.val_main_v94_eq m' c).trans (Eq.trans ?_ (key c).1.symm)
    rw [hA c, hB c]
  · refine (Cert.ReferenceIdeal.Read.val_main_v95_eq m' c).trans (Eq.trans ?_ (key c).2.1.symm)
    rw [hA c, hB c]
  · refine (Cert.ReferenceIdeal.Read.val_main_v96_eq m' c).trans (Eq.trans ?_ (key c).2.2.symm)
    rw [hA c, hB c]

end Cert.BwdClaims

end
-- ==== Proof.Mm.Sum.lean ====
/- The entries of a product of two matrices, and of a product added up block by block along the contracted axis. -/
module

public import Idealize.ShloMosaic.Lib.Pipeline.ValueKit
public import Idealize.ShloMosaic.Lib.Pointwise
public import Idealize.ShloMosaic.Lib.MatmulPlain

@[expose] public section

noncomputable section

namespace Cert.Mm

open Idealize.ShloMosaic

variable {M N K : ℕ}

/-- A matrix over the extended reals. -/
abbrev Mat (a b : ℕ) := (⟨2, ![a, b]⟩ : Shape).Idx → EReal

/-- Rows of the first against rows of the second. -/
def nt (A : Mat M K) (B : Mat N K) : Mat M N := fun i => ∑ k : Fin K, A (ix2 (i 0 : Fin M) k) * B (ix2 (i 1 : Fin N) k)

/-- Columns of the first against columns of the second. -/
def tn (A : Mat K M) (B : Mat K N) : Mat M N := fun i => ∑ k : Fin K, A (ix2 k (i 0 : Fin M)) * B (ix2 k (i 1 : Fin N))

/-- Rows of the first against columns of the second. -/
def nn (A : Mat M K) (B : Mat K N) : Mat M N := fun i => ∑ k : Fin K, A (ix2 (i 0 : Fin M) k) * B (ix2 k (i 1 : Fin N))

/-- A product of rows against rows, over a matrix that is added to it. -/
def ntPlus (A : Mat M K) (B : Mat N K) (H : Mat M N) : Mat M N := fun i => nt A B i + H i

/-- A product of columns against columns, its columns in four blocks. -/
def split (A : Mat K 2048) (B : Mat K 5632) : (⟨4, ![1, 4, 2048, 1408]⟩ : Shape).Idx → EReal :=
  fun i => tn A B (ix2 (i 2 : Fin 2048) ⟨(i 1 : Fin 4).val * 1408 + (i 3 : Fin 1408).val, by have h1 : (i 1 : Fin 4).val < 4 := (i 1 : Fin 4).isLt; have h3 : (i 3 : Fin 1408).val < 1408 := (i 3 : Fin 1408).isLt; omega⟩)

/-- A sum in two halves. -/
theorem halves {n L : ℕ} (h : L = n + n) (f : Fin L → EReal) :
    ∑ k, f k = ∑ k : Fin n, f ⟨k.val, by omega⟩ + ∑ k : Fin n, f ⟨n + k.val, by omega⟩ := by
  subst h
  exact Fin.sum_univ_add f

/-- Two consecutive parts added up are the whole sum. -/
theorem add_two {n L : ℕ} (h : L = n + n) (f : Fin L → EReal) {p q : EReal}
    (hp : p = ∑ k : Fin n, f ⟨k.val, by omega⟩) (hq : q = ∑ k : Fin n, f ⟨n + k.val, by omega⟩) : p + q = ∑ k, f k := by
  rw [hp, hq, halves h f]

/-- A sum in three thirds. -/
theorem thirds {n L : ℕ} (h : L = n + n + n) (f : Fin L → EReal) :
    ∑ k, f k = ∑ k : Fin n, f ⟨k.val, by omega⟩ + ∑ k : Fin n, f ⟨n + k.val, by omega⟩ + ∑ k : Fin n, f ⟨n + n + k.val, by omega⟩ := by
  subst h
  exact (Fin.sum_univ_add f).trans (congrArg (· + _) (Fin.sum_univ_add fun k => f (Fin.castAdd n k)))

/-- Three consecutive parts added up are the whole sum. -/
theorem add_three {n L : ℕ} (h : L = n + n + n) (f : Fin L → EReal) {p q r : EReal} (hp : p = ∑ k : Fin n, f ⟨k.val, by omega⟩)
    (hq : q = ∑ k : Fin n, f ⟨n + k.val, by omega⟩) (hr : r = ∑ k : Fin n, f ⟨n + n + k.val, by omega⟩) : p + q + r = ∑ k, f k := by
  rw [hp, hq, hr, thirds h f]

/-- A product of rows against rows, from the blocks of two consecutive parts. -/
theorem nt_two {a b n : ℕ} (h : K = n + n) {A : Mat M K} {B : Mat N K} {x x' : Mat a n} {w w' : Mat b n} {y : Fin a} {z : Fin b}
    {i : (⟨2, ![M, N]⟩ : Shape).Idx} (hx : ∀ k : Fin n, x (ix2 y k) = A (ix2 (i 0 : Fin M) ⟨k.val, by omega⟩))
    (hw : ∀ k : Fin n, w (ix2 z k) = B (ix2 (i 1 : Fin N) ⟨k.val, by omega⟩))
    (hx' : ∀ k : Fin n, x' (ix2 y k) = A (ix2 (i 0 : Fin M) ⟨n + k.val, by omega⟩))
    (hw' : ∀ k : Fin n, w' (ix2 z k) = B (ix2 (i 1 : Fin N) ⟨n + k.val, by omega⟩)) :
    ∑ k : Fin n, x (ix2 y k) * w (ix2 z k) + ∑ k : Fin n, x' (ix2 y k) * w' (ix2 z k) = nt A B i :=
  add_two h _ (Finset.sum_congr rfl fun k _ => congrArg₂ (· * ·) (hx k) (hw k))
    (Finset.sum_congr rfl fun k _ => congrArg₂ (· * ·) (hx' k) (hw' k))

/-- A product of columns against columns, from the blocks of two consecutive parts. -/
theorem tn_two {a b n : ℕ} (h : K = n + n) {A : Mat K M} {B : Mat K N} {x x' : Mat n a} {w w' : Mat n b} {y : Fin a} {z : Fin b}
    {i : (⟨2, ![M, N]⟩ : Shape).Idx} (hx : ∀ k : Fin n, x (ix2 k y) = A (ix2 ⟨k.val, by omega⟩ (i 0 : Fin M)))
    (hw : ∀ k : Fin n, w (ix2 k z) = B (ix2 ⟨k.val, by omega⟩ (i 1 : Fin N)))
    (hx' : ∀ k : Fin n, x' (ix2 k y) = A (ix2 ⟨n + k.val, by omega⟩ (i 0 : Fin M)))
    (hw' : ∀ k : Fin n, w' (ix2 k z) = B (ix2 ⟨n + k.val, by omega⟩ (i 1 : Fin N))) :
    ∑ k : Fin n, x (ix2 k y) * w (ix2 k z) + ∑ k : Fin n, x' (ix2 k y) * w' (ix2 k z) = tn A B i :=
  add_two h _ (Finset.sum_congr rfl fun k _ => congrArg₂ (· * ·) (hx k) (hw k))
    (Finset.sum_congr rfl fun k _ => congrArg₂ (· * ·) (hx' k) (hw' k))

/-- A product of rows against columns, from the blocks of two consecutive parts. -/
theorem nn_two {a b n : ℕ} (h : K = n + n) {A : Mat M K} {B : Mat K N} {x x' : Mat a n} {w w' : Mat n b} {y : Fin a} {z : Fin b}
    {i : (⟨2, ![M, N]⟩ : Shape).Idx} (hx : ∀ k : Fin n, x (ix2 y k) = A (ix2 (i 0 : Fin M) ⟨k.val, by omega⟩))
    (hw : ∀ k : Fin n, w (ix2 k z) = B (ix2 ⟨k.val, by omega⟩ (i 1 : Fin N)))
    (hx' : ∀ k : Fin n, x' (ix2 y k) = A (ix2 (i 0 : Fin M) ⟨n + k.val, by omega⟩))
    (hw' : ∀ k : Fin n, w' (ix2 k z) = B (ix2 ⟨n + k.val, by omega⟩ (i 1 : Fin N))) :
    ∑ k : Fin n, x (ix2 y k) * w (ix2 k z) + ∑ k : Fin n, x' (ix2 y k) * w' (ix2 k z) = nn A B i :=
  add_two h _ (Finset.sum_congr rfl fun k _ => congrArg₂ (· * ·) (hx k) (hw k))
    (Finset.sum_congr rfl fun k _ => congrArg₂ (· * ·) (hx' k) (hw' k))

end Cert.Mm

end
-- ==== Proof.Mm.DownX.lean ====
/- The gradient of the second feed-forward product's input. -/
module

public import proofs.«01_k».proof.Proof.Mm.Sum
public import proofs.«01_k».proof.Proof.Gen.DownXIdeal.Value
public import proofs.«01_k».proof.Proof.Gen.DownX.Frame
public import proofs.«01_k».proof.Proof.Gen.DownXRefIdeal.Read
public import proofs.«01_k».proof.Proof.Gen.DownXRefIdeal
public import proofs.«01_k».proof.Defs

@[expose] public section

set_option maxRecDepth 16384

noncomputable section

namespace Cert.DownXIdeal.Mm

open Cert.DownXIdeal Cert.DownXIdeal.Gen Cert.Mm Idealize.ShloMosaic Idealize.ShloMosaic.TcCoe Idealize.SL.Sem

variable (m : (ℓ : Loc nD τ sig) → Buf (Elt Ideal) ℓ) (ρ : Dev nD → PrngReg)

/-- The blocks a point reads and writes. -/
theorem index : ∀ t : Fin cfg0.N, (win0_0.index t 0 = win0_2.index t 0 ∧ win0_0.index t 1 = 0) ∧ win0_1.index t 0 = win0_2.index t 1 ∧ win0_1.index t 1 = 0 :=
  (by decide +kernel : ∀ t : Fin grid0.N, (win0_0.index t 0 = win0_2.index t 0 ∧ win0_0.index t 1 = 0) ∧ win0_1.index t 0 = win0_2.index t 1 ∧ win0_1.index t 1 = 0)

/-- A point's block of the product. -/
theorem part (x : Vec Ideal S1024x2048 .bf16) (w : Vec Ideal S1408x2048 .bf16) (a : Fin 1024) (b : Fin 1408) :
    k0_pay1 (F := Ideal) x w (ix2 a b) = ∑ k : Fin 2048, x (ix2 a k) * w (ix2 b k) := by
  pointwise [k0_pay1]

/-- The result array. -/
theorem final (c : Dev nD) : (dats m 0 c).arrAt 2 cfg0.N = nt (V m c main_arg0) (V m c main_arg1) := by
  refine (dats m 0 c).arrAt_eq_of_covers 2 _ (by decide +kernel) fun t hf y => ?_
  obtain ⟨⟨h0, h1⟩, h2, h3⟩ := index t
  blk_simp
  rw [after0_2]
  frame_out
  revert y
  intro (y : (⟨2, ![1024, 1408]⟩ : Shape).Idx)
  idx_vars y
  refine (part _ _ y0 y1).trans (Finset.sum_congr rfl fun k _ => congrArg₂ (· * ·) ?_ ?_)
  · blk_simp [iblk]
    refine congrArg (V m c main_arg0) ?_
    blk_ext [h0, h1]
  · blk_simp [iblk]
    refine congrArg (V m c main_arg1) ?_
    blk_ext [h2, h3]

/-- The reference's result is the same product. -/
theorem reference (A : Mat 4096 2048) (B : Mat 5632 2048) : Cert.DownXRefIdeal.Read.val_main_v6 (F := Ideal) A B = nt A B := by
  funext i
  revert i
  intro (i : (⟨2, ![4096, 5632]⟩ : Shape).Idx)
  idx_vars i
  pointwise [Cert.DownXRefIdeal.Read.val_main_v6, Cert.DownXRefIdeal.Read.val_main_v5, Cert.DownXRefIdeal.Read.val_main_v4, Cert.DownXRefIdeal.Read.val_main_v2]
  rfl

/-- The kernel runs and keeps its arguments; every counter ends at zero. -/
theorem frame_p : Cert.quiescent_DownX (hDownX := Cert.DownX.Gen.facts) := fun m ρ _ => Cert.DownX.Gen.frame m ρ

/-- So does its idealization. -/
theorem frame_pi : Cert.quiescent_DownXIdeal (hDownXIdeal := Cert.DownXIdeal.Gen.facts) := fun m ρ _ => Cert.DownXIdeal.Gen.frame m ρ

/-- So does the reference, which declares no semaphore. -/
theorem frame_r : Cert.quiescent_DownXRefIdeal (hDownXRefIdeal := Cert.DownXRefIdeal.Gen.facts) := fun m ρ _ =>
  (θ_run Cert.DownXRefIdeal.defs _ _).mono (fun r h => ⟨fun c => (h c).2, sem_eq_zero_of_no_sems (by decide) r.2⟩)
    (Cert.DownXRefIdeal.Value.run (F := Ideal) m ρ)

/-- The kernel's result is the reference's, over the extended reals. -/
theorem algebraic : Cert.algebraic_DownXIdeal_DownXRefIdeal (hDownXIdeal := Cert.DownXIdeal.Gen.facts) (hDownXRefIdeal := Cert.DownXRefIdeal.Gen.facts) := by
  intro m g m' g' _ hag
  refine ⟨_, (θ_run defs _ _).mono (fun r h c => ⟨(h c).1.trans (final m c), (h c).2⟩) (Value.run_blocks m g),
    (θ_run Cert.DownXRefIdeal.defs _ _).mono (fun r h c => ⟨(h c).1.trans ?_, (h c).2⟩) (Cert.DownXRefIdeal.Value.run (F := Ideal) m' g')⟩
  rw [(hag c).1, (hag c).2]
  exact reference (V m c main_arg0) (V m c main_arg1)

end Cert.DownXIdeal.Mm

end
-- ==== Proof.Mm.DownW.lean ====
/- The gradient of the second feed-forward product's weight. -/
module

public import Idealize.ShloMosaic.Lib.Pipeline.ReadBack
public import proofs.«01_k».proof.Proof.Mm.Sum
public import proofs.«01_k».proof.Proof.Gen.DownWIdeal.Value
public import proofs.«01_k».proof.Proof.Gen.DownW.Frame
public import proofs.«01_k».proof.Proof.Gen.DownWRefIdeal.Read
public import proofs.«01_k».proof.Proof.Gen.DownWRefIdeal
public import proofs.«01_k».proof.Defs

@[expose] public section

set_option maxRecDepth 16384

noncomputable section

namespace Cert.DownWIdeal.Mm

open Cert.DownWIdeal Cert.DownWIdeal.Gen Cert.Mm Idealize.ShloMosaic Idealize.ShloMosaic.TcCoe Idealize.SL.Sem

variable (m : (ℓ : Loc nD τ sig) → Buf (Elt Ideal) ℓ) (ρ : Dev nD → PrngReg)

/-- The blocks a point reads and writes. -/
theorem index : ∀ t : Fin cfg0.N, (win0_0.index t 0 = t.val % 2 ∧ win0_0.index t 1 = t.val / 4) ∧ (win0_1.index t 0 = t.val % 2 ∧ win0_1.index t 1 = t.val / 2 % 2)
    ∧ win0_2.index t 0 = t.val / 4 ∧ win0_2.index t 1 = t.val / 2 % 2 :=
  (by decide +kernel : ∀ t : Fin grid0.N, (win0_0.index t 0 = t.val % 2 ∧ win0_0.index t 1 = t.val / 4) ∧ (win0_1.index t 0 = t.val % 2 ∧ win0_1.index t 1 = t.val / 2 % 2)
    ∧ win0_2.index t 0 = t.val / 4 ∧ win0_2.index t 1 = t.val / 2 % 2)

/-- A point's part of the product. -/
theorem part (x : Vec Ideal S2048x1408 .bf16) (w : Vec Ideal S2048x1024 .bf16) (a : Fin 1408) (b : Fin 1024) :
    k0_pay1 (F := Ideal) x w (ix2 a b) = ∑ k : Fin 2048, x (ix2 k a) * w (ix2 k b) := by
  pointwise [k0_pay1]

/-- What the first point of a run leaves for the next. -/
theorem first (x : Vec Ideal S2048x1408 .bf16) (w : Vec Ideal S2048x1024 .bf16) (a : Fin 1408) (b : Fin 1024) :
    k0_pay2 (F := Ideal) x w (ix2 a b) = ∑ k : Fin 2048, x (ix2 k a) * w (ix2 k b) := by
  unfold k0_pay2
  simp only [shapeCast_self]
  exact part x w a b

/-- What the last point stores, over what the one before left. -/
theorem last (x : Vec Ideal S2048x1408 .bf16) (w : Vec Ideal S2048x1024 .bf16) (v : Vec Ideal S1408x1024 .f32) (a : Fin 1408) (b : Fin 1024) (e f : EReal)
    (he : v (ix2 a b) = e) (hf : ∑ k : Fin 2048, x (ix2 k a) * w (ix2 k b) = f) : k0_pay4 (F := Ideal) x w v (ix2 a b) = e + f :=
  congrArg₂ (fun e f : EReal => e + f) he ((part x w a b).trans hf)

/-- The result array. -/
theorem final (c : Dev nD) : (dats m 0 c).arrAt 2 cfg0.N = tn (V m c main_arg0) (V m c main_arg1) := by
  refine (dats m 0 c).arrAt_eq_of_covers 2 _ (by decide +kernel) fun t hf y => ?_
  have ht := (flush0_2 t).mp hf
  have hlt : t.val - 1 < cfg0.N := Nat.lt_of_le_of_lt (Nat.sub_le _ _) t.isLt
  obtain ⟨⟨h0, h1⟩, ⟨h2, h3⟩, h4, h5⟩ := index t
  obtain ⟨⟨g0, g1⟩, ⟨g2, g3⟩, g4, g5⟩ := index ⟨t.val - 1, hlt⟩
  have hp : (outsAt0 m c (t.val - 1) hlt).2 = k0_pay2 (F := Ideal) (iblk m c 0 ⟨t.val - 1, hlt⟩) (iblk m c 1 ⟨t.val - 1, hlt⟩) := by
    rw [outsAt0_A m c ⟨t.val - 1, hlt⟩ (show (t.val - 1) % 2 = 0 by omega) (show ¬ (t.val - 1) % 2 = 1 by omega)]
    frame_out
  blk_simp
  rw [after0_2, outsAt0_B m c t (by omega) ht]
  frame_out
  rw [hp, read_unread_whole]
  revert y
  intro (y : (⟨2, ![1408, 1024]⟩ : Shape).Idx)
  idx_vars y
  refine (last _ _ _ y0 y1 _ _ (first _ _ y0 y1) rfl).trans (add_two (n := 2048) rfl _ ?_ ?_)
  · refine Finset.sum_congr rfl fun k _ => congrArg₂ (· * ·) ?_ ?_
    · blk_simp [iblk]
      refine congrArg (V m c main_arg0) ?_
      blk_ext [g0, g1, h4]
    · blk_simp [iblk]
      refine congrArg (V m c main_arg1) ?_
      blk_ext [g2, g3, h5]
  · refine Finset.sum_congr rfl fun k _ => congrArg₂ (· * ·) ?_ ?_
    · blk_simp [iblk]
      refine congrArg (V m c main_arg0) ?_
      blk_ext [h0, h1, h4]
    · blk_simp [iblk]
      refine congrArg (V m c main_arg1) ?_
      blk_ext [h2, h3, h5]

/-- The reference's result is the same product. -/
theorem reference (A : Mat 4096 5632) (B : Mat 4096 2048) : Cert.DownWRefIdeal.Read.val_main_v5 (F := Ideal) A B = tn A B := by
  funext i
  revert i
  intro (i : (⟨2, ![5632, 2048]⟩ : Shape).Idx)
  idx_vars i
  pointwise [Cert.DownWRefIdeal.Read.val_main_v5, Cert.DownWRefIdeal.Read.val_main_v4, Cert.DownWRefIdeal.Read.val_main_v3, Cert.DownWRefIdeal.Read.val_main_v1]
  exact Finset.sum_congr rfl fun k _ => mul_comm _ _

/-- The kernel runs and keeps its arguments; every counter ends at zero. -/
theorem frame_p : Cert.quiescent_DownW (hDownW := Cert.DownW.Gen.facts) := fun m ρ _ => Cert.DownW.Gen.frame m ρ

/-- So does its idealization. -/
theorem frame_pi : Cert.quiescent_DownWIdeal (hDownWIdeal := Cert.DownWIdeal.Gen.facts) := fun m ρ _ => Cert.DownWIdeal.Gen.frame m ρ

/-- So does the reference, which declares no semaphore. -/
theorem frame_r : Cert.quiescent_DownWRefIdeal (hDownWRefIdeal := Cert.DownWRefIdeal.Gen.facts) := fun m ρ _ =>
  (θ_run Cert.DownWRefIdeal.defs _ _).mono (fun r h => ⟨fun c => (h c).2, sem_eq_zero_of_no_sems (by decide) r.2⟩)
    (Cert.DownWRefIdeal.Value.run (F := Ideal) m ρ)

/-- The kernel's result is the reference's, over the extended reals. -/
theorem algebraic : Cert.algebraic_DownWIdeal_DownWRefIdeal (hDownWIdeal := Cert.DownWIdeal.Gen.facts) (hDownWRefIdeal := Cert.DownWRefIdeal.Gen.facts) := by
  intro m g m' g' _ hag
  refine ⟨_, (θ_run defs _ _).mono (fun r h c => ⟨(h c).1.trans (final m c), (h c).2⟩) (Value.run_blocks m g),
    (θ_run Cert.DownWRefIdeal.defs _ _).mono (fun r h c => ⟨(h c).1.trans ?_, (h c).2⟩) (Cert.DownWRefIdeal.Value.run (F := Ideal) m' g')⟩
  rw [(hag c).1, (hag c).2]
  exact reference (V m c main_arg0) (V m c main_arg1)

end Cert.DownWIdeal.Mm

end
-- ==== Proof.Mm.In.lean ====
/- The first projection. -/
module

public import proofs.«01_k».proof.Proof.Mm.Sum
public import proofs.«01_k».proof.Proof.Gen.InIdeal.Value
public import proofs.«01_k».proof.Proof.Gen.In.Frame
public import proofs.«01_k».proof.Proof.Gen.InRefIdeal.Read
public import proofs.«01_k».proof.Proof.Gen.InRefIdeal
public import proofs.«01_k».proof.Defs

@[expose] public section

set_option maxRecDepth 16384

noncomputable section

namespace Cert.InIdeal.Mm

open Cert.InIdeal Cert.InIdeal.Gen Cert.Mm Idealize.ShloMosaic Idealize.ShloMosaic.TcCoe Idealize.SL.Sem

variable (m : (ℓ : Loc nD τ sig) → Buf (Elt Ideal) ℓ) (ρ : Dev nD → PrngReg)

/-- The blocks a point reads and writes. -/
theorem index : ∀ t : Fin cfg0.N, (win0_0.index t 0 = win0_2.index t 0 ∧ win0_0.index t 1 = 0) ∧ win0_1.index t 0 = win0_2.index t 1 ∧ win0_1.index t 1 = 0 :=
  (by decide +kernel : ∀ t : Fin grid0.N, (win0_0.index t 0 = win0_2.index t 0 ∧ win0_0.index t 1 = 0) ∧ win0_1.index t 0 = win0_2.index t 1 ∧ win0_1.index t 1 = 0)

/-- A point's block of the product. -/
theorem part (x : Vec Ideal S1088x2048 .bf16) (w : Vec Ideal S1408x2048 .bf16) (a : Fin 1088) (b : Fin 1408) :
    k0_pay1 (F := Ideal) x w (ix2 a b) = ∑ k : Fin 2048, x (ix2 a k) * w (ix2 b k) := by
  pointwise [k0_pay1]

/-- The result array. -/
theorem final (c : Dev nD) : (dats m 0 c).arrAt 2 cfg0.N = nt (V m c main_arg0) (V m c main_arg1) := by
  refine (dats m 0 c).arrAt_eq_of_covers 2 _ (by decide +kernel) fun t hf y => ?_
  obtain ⟨⟨h0, h1⟩, h2, h3⟩ := index t
  blk_simp
  rw [after0_2]
  frame_out
  revert y
  intro (y : (⟨2, ![1088, 1408]⟩ : Shape).Idx)
  idx_vars y
  refine (part _ _ y0 y1).trans (Finset.sum_congr rfl fun k _ => congrArg₂ (· * ·) ?_ ?_)
  · blk_simp [iblk]
    refine congrArg (V m c main_arg0) ?_
    blk_ext [h0, h1]
  · blk_simp [iblk]
    refine congrArg (V m c main_arg1) ?_
    blk_ext [h2, h3]

/-- The reference's result is the same product. -/
theorem reference (A : Mat 4352 2048) (B : Mat 4224 2048) : Cert.InRefIdeal.Read.val_main_v4 (F := Ideal) A B = nt A B := by
  funext i
  revert i
  intro (i : (⟨2, ![4352, 4224]⟩ : Shape).Idx)
  idx_vars i
  pointwise [Cert.InRefIdeal.Read.val_main_v4, Cert.InRefIdeal.Read.val_main_v3, Cert.InRefIdeal.Read.val_main_v2, Cert.InRefIdeal.Read.val_main_v1, Cert.InRefIdeal.Read.val_main_v0]
  rfl

/-- The kernel runs and keeps its arguments; every counter ends at zero. -/
theorem frame_p : Cert.quiescent_In (hIn := Cert.In.Gen.facts) := fun m ρ _ => Cert.In.Gen.frame m ρ

/-- So does its idealization. -/
theorem frame_pi : Cert.quiescent_InIdeal (hInIdeal := Cert.InIdeal.Gen.facts) := fun m ρ _ => Cert.InIdeal.Gen.frame m ρ

/-- So does the reference, which declares no semaphore. -/
theorem frame_r : Cert.quiescent_InRefIdeal (hInRefIdeal := Cert.InRefIdeal.Gen.facts) := fun m ρ _ =>
  (θ_run Cert.InRefIdeal.defs _ _).mono (fun r h => ⟨fun c => (h c).2, sem_eq_zero_of_no_sems (by decide) r.2⟩)
    (Cert.InRefIdeal.Value.run (F := Ideal) m ρ)

/-- The kernel's result is the reference's, over the extended reals. -/
theorem algebraic : Cert.algebraic_InIdeal_InRefIdeal (hInIdeal := Cert.InIdeal.Gen.facts) (hInRefIdeal := Cert.InRefIdeal.Gen.facts) := by
  intro m g m' g' _ hag
  refine ⟨_, (θ_run defs _ _).mono (fun r h c => ⟨(h c).1.trans (final m c), (h c).2⟩) (Value.run_blocks m g),
    (θ_run Cert.InRefIdeal.defs _ _).mono (fun r h c => ⟨(h c).1.trans ?_, (h c).2⟩) (Cert.InRefIdeal.Value.run (F := Ideal) m' g')⟩
  rw [(hag c).1, (hag c).2]
  exact reference (V m c main_arg0) (V m c main_arg1)

end Cert.InIdeal.Mm

end
-- ==== Proof.Mm.InX.lean ====
/- The gradient of the first projection's input. -/
module

public import Idealize.ShloMosaic.Lib.Pipeline.ReadBack
public import proofs.«01_k».proof.Proof.Mm.Sum
public import proofs.«01_k».proof.Proof.Gen.InXIdeal.Value
public import proofs.«01_k».proof.Proof.Gen.InX.Frame
public import proofs.«01_k».proof.Proof.Gen.InXRefIdeal.Read
public import proofs.«01_k».proof.Proof.Gen.InXRefIdeal
public import proofs.«01_k».proof.Defs

@[expose] public section

set_option maxRecDepth 16384

noncomputable section

namespace Cert.InXIdeal.Mm

open Cert.InXIdeal Cert.InXIdeal.Gen Cert.Mm Idealize.ShloMosaic Idealize.ShloMosaic.TcCoe Idealize.SL.Sem

variable (m : (ℓ : Loc nD τ sig) → Buf (Elt Ideal) ℓ) (ρ : Dev nD → PrngReg)

/-- The blocks a point reads and writes. -/
theorem index : ∀ t : Fin cfg0.N, (win0_0.index t 0 = t.val / 6 ∧ win0_0.index t 1 = t.val % 3) ∧ (win0_1.index t 0 = t.val % 3 ∧ win0_1.index t 1 = t.val / 3 % 2)
    ∧ win0_2.index t 0 = t.val / 6 ∧ win0_2.index t 1 = t.val / 3 % 2 :=
  (by decide +kernel : ∀ t : Fin grid0.N, (win0_0.index t 0 = t.val / 6 ∧ win0_0.index t 1 = t.val % 3) ∧ (win0_1.index t 0 = t.val % 3 ∧ win0_1.index t 1 = t.val / 3 % 2)
    ∧ win0_2.index t 0 = t.val / 6 ∧ win0_2.index t 1 = t.val / 3 % 2)

/-- A point's part of the product. -/
theorem part (x : Vec Ideal S1088x1408 .bf16) (w : Vec Ideal S1408x1024 .bf16) (a : Fin 1088) (b : Fin 1024) :
    k0_pay1 (F := Ideal) x w (ix2 a b) = ∑ k : Fin 1408, x (ix2 a k) * w (ix2 k b) := by
  pointwise [k0_pay1]

/-- What the first point of a run leaves for the next. -/
theorem first (x : Vec Ideal S1088x1408 .bf16) (w : Vec Ideal S1408x1024 .bf16) (a : Fin 1088) (b : Fin 1024) :
    k0_pay2 (F := Ideal) x w (ix2 a b) = ∑ k : Fin 1408, x (ix2 a k) * w (ix2 k b) := by
  unfold k0_pay2
  simp only [shapeCast_self]
  exact part x w a b

/-- What the middle point leaves for the last, over what the first left. -/
theorem middle (x : Vec Ideal S1088x1408 .bf16) (w : Vec Ideal S1408x1024 .bf16) (v : Vec Ideal S1088x1024 .f32) (a : Fin 1088) (b : Fin 1024) (e f : EReal)
    (he : v (ix2 a b) = e) (hf : ∑ k : Fin 1408, x (ix2 a k) * w (ix2 k b) = f) : k0_pay3 (F := Ideal) x w v (ix2 a b) = e + f := by
  unfold k0_pay3
  simp only [shapeCast_self]
  exact congrArg₂ (fun e f : EReal => e + f) he ((part x w a b).trans hf)

/-- What the last point stores, over what the one before left. -/
theorem last (x : Vec Ideal S1088x1408 .bf16) (w : Vec Ideal S1408x1024 .bf16) (v : Vec Ideal S1088x1024 .f32) (a : Fin 1088) (b : Fin 1024) (e f : EReal)
    (he : v (ix2 a b) = e) (hf : ∑ k : Fin 1408, x (ix2 a k) * w (ix2 k b) = f) : k0_pay4 (F := Ideal) x w v (ix2 a b) = e + f :=
  congrArg₂ (fun e f : EReal => e + f) he ((part x w a b).trans hf)

/-- The result array. -/
theorem final (c : Dev nD) : (dats m 0 c).arrAt 2 cfg0.N = nn (V m c main_arg0) (V m c main_arg1) := by
  refine (dats m 0 c).arrAt_eq_of_covers 2 _ (by decide +kernel) fun t hf y => ?_
  have ht := (flush0_2 t).mp hf
  have hlt : t.val - 1 < cfg0.N := Nat.lt_of_le_of_lt (Nat.sub_le _ _) t.isLt
  have hlt' : t.val - 1 - 1 < cfg0.N := Nat.lt_of_le_of_lt (Nat.sub_le _ _) hlt
  obtain ⟨⟨h0, h1⟩, ⟨h2, h3⟩, h4, h5⟩ := index t
  obtain ⟨⟨g0, g1⟩, ⟨g2, g3⟩, g4, g5⟩ := index ⟨t.val - 1, hlt⟩
  obtain ⟨⟨f0, f1⟩, ⟨f2, f3⟩, f4, f5⟩ := index ⟨t.val - 1 - 1, hlt'⟩
  have hp : (outsAt0 m c (t.val - 1 - 1) hlt').2 = k0_pay2 (F := Ideal) (iblk m c 0 ⟨t.val - 1 - 1, hlt'⟩) (iblk m c 1 ⟨t.val - 1 - 1, hlt'⟩) := by
    rw [outsAt0_A m c ⟨t.val - 1 - 1, hlt'⟩ (show (t.val - 1 - 1) % 3 = 0 by omega) (show ¬ (t.val - 1 - 1) % 3 = 1 by omega) (show ¬ (t.val - 1 - 1) % 3 = 2 by omega)]
    frame_out
  have hq : (outsAt0 m c (t.val - 1) hlt).2 = k0_pay3 (F := Ideal) (iblk m c 0 ⟨t.val - 1, hlt⟩) (iblk m c 1 ⟨t.val - 1, hlt⟩)
      (k0_pay2 (F := Ideal) (iblk m c 0 ⟨t.val - 1 - 1, hlt'⟩) (iblk m c 1 ⟨t.val - 1 - 1, hlt'⟩)) := by
    rw [outsAt0_B m c ⟨t.val - 1, hlt⟩ (show ¬ (t.val - 1) % 3 = 0 by omega) (show (t.val - 1) % 3 = 1 by omega) (show ¬ (t.val - 1) % 3 = 2 by omega)]
    frame_out
    rw [hp, read_unread_whole]
  blk_simp
  rw [after0_2, outsAt0_C m c t (by omega) (by omega) ht]
  frame_out
  rw [hq, read_unread_whole]
  revert y
  intro (y : (⟨2, ![1088, 1024]⟩ : Shape).Idx)
  idx_vars y
  refine (last _ _ _ y0 y1 _ _ (middle _ _ _ y0 y1 _ _ (first _ _ y0 y1) rfl) rfl).trans (add_three (n := 1408) rfl _ ?_ ?_ ?_)
  · refine Finset.sum_congr rfl fun k _ => congrArg₂ (· * ·) ?_ ?_
    · blk_simp [iblk]
      refine congrArg (V m c main_arg0) ?_
      blk_ext [f0, f1, h4]
    · blk_simp [iblk]
      refine congrArg (V m c main_arg1) ?_
      blk_ext [f2, f3, h5]
  · refine Finset.sum_congr rfl fun k _ => congrArg₂ (· * ·) ?_ ?_
    · blk_simp [iblk]
      refine congrArg (V m c main_arg0) ?_
      blk_ext [g0, g1, h4]
    · blk_simp [iblk]
      refine congrArg (V m c main_arg1) ?_
      blk_ext [g2, g3, h5]
  · refine Finset.sum_congr rfl fun k _ => congrArg₂ (· * ·) ?_ ?_
    · blk_simp [iblk]
      refine congrArg (V m c main_arg0) ?_
      blk_ext [h0, h1, h4]
    · blk_simp [iblk]
      refine congrArg (V m c main_arg1) ?_
      blk_ext [h2, h3, h5]

/-- The reference's result is the same product. -/
theorem reference (A : Mat 4352 4224) (B : Mat 4224 2048) : Cert.InXRefIdeal.Read.val_main_v5 (F := Ideal) A B = nn A B := by
  funext i
  revert i
  intro (i : (⟨2, ![4352, 2048]⟩ : Shape).Idx)
  idx_vars i
  pointwise [Cert.InXRefIdeal.Read.val_main_v5, Cert.InXRefIdeal.Read.val_main_v4, Cert.InXRefIdeal.Read.val_main_v2, Cert.InXRefIdeal.Read.val_main_v1]
  rfl

/-- The kernel runs and keeps its arguments; every counter ends at zero. -/
theorem frame_p : Cert.quiescent_InX (hInX := Cert.InX.Gen.facts) := fun m ρ _ => Cert.InX.Gen.frame m ρ

/-- So does its idealization. -/
theorem frame_pi : Cert.quiescent_InXIdeal (hInXIdeal := Cert.InXIdeal.Gen.facts) := fun m ρ _ => Cert.InXIdeal.Gen.frame m ρ

/-- So does the reference, which declares no semaphore. -/
theorem frame_r : Cert.quiescent_InXRefIdeal (hInXRefIdeal := Cert.InXRefIdeal.Gen.facts) := fun m ρ _ =>
  (θ_run Cert.InXRefIdeal.defs _ _).mono (fun r h => ⟨fun c => (h c).2, sem_eq_zero_of_no_sems (by decide) r.2⟩)
    (Cert.InXRefIdeal.Value.run (F := Ideal) m ρ)

/-- The kernel's result is the reference's, over the extended reals. -/
theorem algebraic : Cert.algebraic_InXIdeal_InXRefIdeal (hInXIdeal := Cert.InXIdeal.Gen.facts) (hInXRefIdeal := Cert.InXRefIdeal.Gen.facts) := by
  intro m g m' g' _ hag
  refine ⟨_, (θ_run defs _ _).mono (fun r h c => ⟨(h c).1.trans (final m c), (h c).2⟩) (Value.run_blocks m g),
    (θ_run Cert.InXRefIdeal.defs _ _).mono (fun r h c => ⟨(h c).1.trans ?_, (h c).2⟩) (Cert.InXRefIdeal.Value.run (F := Ideal) m' g')⟩
  rw [(hag c).1, (hag c).2]
  exact reference (V m c main_arg0) (V m c main_arg1)

end Cert.InXIdeal.Mm

end
-- ==== Proof.Mm.InW.lean ====
/- The gradient of the first projection's weight. -/
module

public import Idealize.ShloMosaic.Lib.Pipeline.ReadBack
public import proofs.«01_k».proof.Proof.Mm.Sum
public import proofs.«01_k».proof.Proof.Gen.InWIdeal.Value
public import proofs.«01_k».proof.Proof.Gen.InW.Frame
public import proofs.«01_k».proof.Proof.Gen.InWRefIdeal.Read
public import proofs.«01_k».proof.Proof.Gen.InWRefIdeal
public import proofs.«01_k».proof.Defs

@[expose] public section

set_option maxRecDepth 16384

noncomputable section

namespace Cert.InWIdeal.Mm

open Cert.InWIdeal Cert.InWIdeal.Gen Cert.Mm Idealize.ShloMosaic Idealize.ShloMosaic.TcCoe Idealize.SL.Sem

variable (m : (ℓ : Loc nD τ sig) → Buf (Elt Ideal) ℓ) (ρ : Dev nD → PrngReg)

/-- The blocks a point reads and writes. -/
theorem index : ∀ t : Fin cfg0.N, (win0_0.index t 0 = t.val % 2 ∧ win0_0.index t 1 = t.val / 4) ∧ (win0_1.index t 0 = t.val % 2 ∧ win0_1.index t 1 = t.val / 2 % 2)
    ∧ win0_2.index t 0 = t.val / 4 ∧ win0_2.index t 1 = t.val / 2 % 2 :=
  (by decide +kernel : ∀ t : Fin grid0.N, (win0_0.index t 0 = t.val % 2 ∧ win0_0.index t 1 = t.val / 4) ∧ (win0_1.index t 0 = t.val % 2 ∧ win0_1.index t 1 = t.val / 2 % 2)
    ∧ win0_2.index t 0 = t.val / 4 ∧ win0_2.index t 1 = t.val / 2 % 2)

/-- A point's part of the product. -/
theorem part (x : Vec Ideal S2176x1408 .bf16) (w : Vec Ideal S2176x1024 .bf16) (a : Fin 1408) (b : Fin 1024) :
    k0_pay1 (F := Ideal) x w (ix2 a b) = ∑ k : Fin 2176, x (ix2 k a) * w (ix2 k b) := by
  pointwise [k0_pay1]

/-- What the first point of a run leaves for the next. -/
theorem first (x : Vec Ideal S2176x1408 .bf16) (w : Vec Ideal S2176x1024 .bf16) (a : Fin 1408) (b : Fin 1024) :
    k0_pay2 (F := Ideal) x w (ix2 a b) = ∑ k : Fin 2176, x (ix2 k a) * w (ix2 k b) := by
  unfold k0_pay2
  simp only [shapeCast_self]
  exact part x w a b

/-- What the last point stores, over what the one before left. -/
theorem last (x : Vec Ideal S2176x1408 .bf16) (w : Vec Ideal S2176x1024 .bf16) (v : Vec Ideal S1408x1024 .f32) (a : Fin 1408) (b : Fin 1024) (e f : EReal)
    (he : v (ix2 a b) = e) (hf : ∑ k : Fin 2176, x (ix2 k a) * w (ix2 k b) = f) : k0_pay4 (F := Ideal) x w v (ix2 a b) = e + f :=
  congrArg₂ (fun e f : EReal => e + f) he ((part x w a b).trans hf)

/-- The result array. -/
theorem final (c : Dev nD) : (dats m 0 c).arrAt 2 cfg0.N = tn (V m c main_arg0) (V m c main_arg1) := by
  refine (dats m 0 c).arrAt_eq_of_covers 2 _ (by decide +kernel) fun t hf y => ?_
  have ht := (flush0_2 t).mp hf
  have hlt : t.val - 1 < cfg0.N := Nat.lt_of_le_of_lt (Nat.sub_le _ _) t.isLt
  obtain ⟨⟨h0, h1⟩, ⟨h2, h3⟩, h4, h5⟩ := index t
  obtain ⟨⟨g0, g1⟩, ⟨g2, g3⟩, g4, g5⟩ := index ⟨t.val - 1, hlt⟩
  have hp : (outsAt0 m c (t.val - 1) hlt).2 = k0_pay2 (F := Ideal) (iblk m c 0 ⟨t.val - 1, hlt⟩) (iblk m c 1 ⟨t.val - 1, hlt⟩) := by
    rw [outsAt0_A m c ⟨t.val - 1, hlt⟩ (show (t.val - 1) % 2 = 0 by omega) (show ¬ (t.val - 1) % 2 = 1 by omega)]
    frame_out
  blk_simp
  rw [after0_2, outsAt0_B m c t (by omega) ht]
  frame_out
  rw [hp, read_unread_whole]
  revert y
  intro (y : (⟨2, ![1408, 1024]⟩ : Shape).Idx)
  idx_vars y
  refine (last _ _ _ y0 y1 _ _ (first _ _ y0 y1) rfl).trans (add_two (n := 2176) rfl _ ?_ ?_)
  · refine Finset.sum_congr rfl fun k _ => congrArg₂ (· * ·) ?_ ?_
    · blk_simp [iblk]
      refine congrArg (V m c main_arg0) ?_
      blk_ext [g0, g1, h4]
    · blk_simp [iblk]
      refine congrArg (V m c main_arg1) ?_
      blk_ext [g2, g3, h5]
  · refine Finset.sum_congr rfl fun k _ => congrArg₂ (· * ·) ?_ ?_
    · blk_simp [iblk]
      refine congrArg (V m c main_arg0) ?_
      blk_ext [h0, h1, h4]
    · blk_simp [iblk]
      refine congrArg (V m c main_arg1) ?_
      blk_ext [h2, h3, h5]

/-- The reference's result is the same product. -/
theorem reference (A : Mat 4352 4224) (B : Mat 4352 2048) : Cert.InWRefIdeal.Read.val_main_v7 (F := Ideal) A B = tn A B := by
  funext i
  revert i
  intro (i : (⟨2, ![4224, 2048]⟩ : Shape).Idx)
  idx_vars i
  pointwise [Cert.InWRefIdeal.Read.val_main_v7, Cert.InWRefIdeal.Read.val_main_v6, Cert.InWRefIdeal.Read.val_main_v5, Cert.InWRefIdeal.Read.val_main_v4, Cert.InWRefIdeal.Read.val_main_v2]
  rfl

/-- The kernel runs and keeps its arguments; every counter ends at zero. -/
theorem frame_p : Cert.quiescent_InW (hInW := Cert.InW.Gen.facts) := fun m ρ _ => Cert.InW.Gen.frame m ρ

/-- So does its idealization. -/
theorem frame_pi : Cert.quiescent_InWIdeal (hInWIdeal := Cert.InWIdeal.Gen.facts) := fun m ρ _ => Cert.InWIdeal.Gen.frame m ρ

/-- So does the reference, which declares no semaphore. -/
theorem frame_r : Cert.quiescent_InWRefIdeal (hInWRefIdeal := Cert.InWRefIdeal.Gen.facts) := fun m ρ _ =>
  (θ_run Cert.InWRefIdeal.defs _ _).mono (fun r h => ⟨fun c => (h c).2, sem_eq_zero_of_no_sems (by decide) r.2⟩)
    (Cert.InWRefIdeal.Value.run (F := Ideal) m ρ)

/-- The kernel's result is the reference's, over the extended reals. -/
theorem algebraic : Cert.algebraic_InWIdeal_InWRefIdeal (hInWIdeal := Cert.InWIdeal.Gen.facts) (hInWRefIdeal := Cert.InWRefIdeal.Gen.facts) := by
  intro m g m' g' _ hag
  refine ⟨_, (θ_run defs _ _).mono (fun r h c => ⟨(h c).1.trans (final m c), (h c).2⟩) (Value.run_blocks m g),
    (θ_run Cert.InWRefIdeal.defs _ _).mono (fun r h c => ⟨(h c).1.trans ?_, (h c).2⟩) (Cert.InWRefIdeal.Value.run (F := Ideal) m' g')⟩
  rw [(hag c).1, (hag c).2]
  exact reference (V m c main_arg0) (V m c main_arg1)

end Cert.InWIdeal.Mm

end
-- ==== Proof.Mm.GateW.lean ====
/- The gradient of the gate product's weight (and of the up product's), in four column blocks. -/
module

public import Idealize.ShloMosaic.Lib.Pipeline.ReadBack
public import proofs.«01_k».proof.Proof.Mm.Sum
public import proofs.«01_k».proof.Proof.Gen.GateWIdeal.Value
public import proofs.«01_k».proof.Proof.Gen.GateW.Frame
public import proofs.«01_k».proof.Proof.Gen.GateWRefIdeal.Read
public import proofs.«01_k».proof.Proof.Gen.GateWRefIdeal
public import proofs.«01_k».proof.Defs

@[expose] public section

set_option maxRecDepth 16384

noncomputable section

namespace Cert.GateWIdeal.Mm

open Cert.GateWIdeal Cert.GateWIdeal.Gen Cert.Mm Idealize.ShloMosaic Idealize.ShloMosaic.TcCoe Idealize.SL.Sem

variable (m : (ℓ : Loc nD τ sig) → Buf (Elt Ideal) ℓ) (ρ : Dev nD → PrngReg)

/-- The blocks a point reads and writes. -/
theorem index : ∀ t : Fin cfg0.N, (win0_0.index t 0 = t.val % 2 ∧ win0_0.index t 1 = t.val / 8) ∧ (win0_1.index t 0 = t.val % 2 ∧ win0_1.index t 1 = t.val / 2 % 4)
    ∧ (win0_2.index t 0 = 0 ∧ win0_2.index t 1 = t.val / 2 % 4) ∧ win0_2.index t 2 = t.val / 8 ∧ win0_2.index t 3 = 0 :=
  (by decide +kernel : ∀ t : Fin grid0.N, (win0_0.index t 0 = t.val % 2 ∧ win0_0.index t 1 = t.val / 8) ∧ (win0_1.index t 0 = t.val % 2 ∧ win0_1.index t 1 = t.val / 2 % 4)
    ∧ (win0_2.index t 0 = 0 ∧ win0_2.index t 1 = t.val / 2 % 4) ∧ win0_2.index t 2 = t.val / 8 ∧ win0_2.index t 3 = 0)

/-- A point's part of the product. -/
theorem part (x : Vec Ideal S2048x1024 .bf16) (w : Vec Ideal S2048x1408 .bf16) (a : Fin 1024) (b : Fin 1408) :
    k0_pay1 (F := Ideal) x w (ix2 a b) = ∑ k : Fin 2048, x (ix2 k a) * w (ix2 k b) := by
  pointwise [k0_pay1]

/-- What the first point of a run leaves for the next. -/
theorem first (x : Vec Ideal S2048x1024 .bf16) (w : Vec Ideal S2048x1408 .bf16) (a : Fin 1024) (b : Fin 1408) :
    k0_pay2 (F := Ideal) x w (ix2 a b) = ∑ k : Fin 2048, x (ix2 k a) * w (ix2 k b) := by
  unfold k0_pay2
  simp only [shapeCast_self]
  exact part x w a b

/-- What the last point stores, over what the one before left. -/
theorem last (x : Vec Ideal S2048x1024 .bf16) (w : Vec Ideal S2048x1408 .bf16) (v : Vec Ideal S1024x1408 .f32) (a : Fin 1024) (b : Fin 1408) (e f : EReal)
    (he : v (ix2 a b) = e) (hf : ∑ k : Fin 2048, x (ix2 k a) * w (ix2 k b) = f) : k0_pay4 (F := Ideal) x w v (ix4 0 0 a b) = e + f := by
  have h : k0_pay4 (F := Ideal) x w v (ix4 0 0 a b) = addf v (k0_pay1 x w) (ix2 a b) := by
    unfold k0_pay4
    generalize addf v (k0_pay1 x w) = z
    pointwise []
  exact h.trans (congrArg₂ (fun e f : EReal => e + f) he ((part x w a b).trans hf))

/-- The result array. -/
theorem final (c : Dev nD) : (dats m 0 c).arrAt 2 cfg0.N = split (V m c main_arg0) (V m c main_arg1) := by
  refine (dats m 0 c).arrAt_eq_of_covers 2 _ (by decide +kernel) fun t hf y => ?_
  have ht := (flush0_2 t).mp hf
  have hlt : t.val - 1 < cfg0.N := Nat.lt_of_le_of_lt (Nat.sub_le _ _) t.isLt
  obtain ⟨⟨h0, h1⟩, ⟨h2, h3⟩, ⟨h4, h5⟩, h6, h7⟩ := index t
  obtain ⟨⟨g0, g1⟩, ⟨g2, g3⟩, ⟨g4, g5⟩, g6, g7⟩ := index ⟨t.val - 1, hlt⟩
  have hp : (outsAt0 m c (t.val - 1) hlt).2 = k0_pay2 (F := Ideal) (iblk m c 0 ⟨t.val - 1, hlt⟩) (iblk m c 1 ⟨t.val - 1, hlt⟩) := by
    rw [outsAt0_A m c ⟨t.val - 1, hlt⟩ (show (t.val - 1) % 2 = 0 by omega) (show ¬ (t.val - 1) % 2 = 1 by omega)]
    frame_out
  blk_simp
  rw [after0_2, outsAt0_B m c t (by omega) ht]
  frame_out
  rw [hp, read_unread_whole]
  revert y
  intro (y : (⟨4, ![1, 1, 1024, 1408]⟩ : Shape).Idx)
  idx_vars y
  obtain rfl : y0 = 0 := Subsingleton.elim _ _
  obtain rfl : y1 = 0 := Subsingleton.elim _ _
  refine (last _ _ _ y2 y3 _ _ (first _ _ y2 y3) rfl).trans ?_
  unfold split tn
  refine add_two (n := 2048) rfl _ ?_ ?_
  · refine Finset.sum_congr rfl fun k _ => congrArg₂ (· * ·) ?_ ?_
    · blk_simp [iblk]
      refine congrArg (V m c main_arg0) ?_
      blk_ext [g0, g1, h6]
    · blk_simp [iblk]
      refine congrArg (V m c main_arg1) ?_
      blk_ext [g2, g3, h5, h7]
  · refine Finset.sum_congr rfl fun k _ => congrArg₂ (· * ·) ?_ ?_
    · blk_simp [iblk]
      refine congrArg (V m c main_arg0) ?_
      blk_ext [h0, h1, h6]
    · blk_simp [iblk]
      refine congrArg (V m c main_arg1) ?_
      blk_ext [h2, h3, h5, h7]

/-- The reference's result is the same. -/
theorem reference (A : Mat 4096 2048) (B : Mat 4096 5632) : Cert.GateWRefIdeal.Read.val_main_v8 (F := Ideal) A B = split A B := by
  funext i
  revert i
  intro (i : (⟨4, ![1, 4, 2048, 1408]⟩ : Shape).Idx)
  idx_vars i
  pointwise [Cert.GateWRefIdeal.Read.val_main_v8, Cert.GateWRefIdeal.Read.val_main_v7, Cert.GateWRefIdeal.Read.val_main_v6, Cert.GateWRefIdeal.Read.val_main_v5, Cert.GateWRefIdeal.Read.val_main_v4, Cert.GateWRefIdeal.Read.val_main_v3, Cert.GateWRefIdeal.Read.val_main_v1]
  exact Finset.sum_congr rfl fun k _ => mul_comm _ _

/-- The kernel runs and keeps its arguments; every counter ends at zero. -/
theorem frame_p : Cert.quiescent_GateW (hGateW := Cert.GateW.Gen.facts) := fun m ρ _ => Cert.GateW.Gen.frame m ρ

/-- So does its idealization. -/
theorem frame_pi : Cert.quiescent_GateWIdeal (hGateWIdeal := Cert.GateWIdeal.Gen.facts) := fun m ρ _ => Cert.GateWIdeal.Gen.frame m ρ

/-- So does the reference, which declares no semaphore. -/
theorem frame_r : Cert.quiescent_GateWRefIdeal (hGateWRefIdeal := Cert.GateWRefIdeal.Gen.facts) := fun m ρ _ =>
  (θ_run Cert.GateWRefIdeal.defs _ _).mono (fun r h => ⟨fun c => (h c).2, sem_eq_zero_of_no_sems (by decide) r.2⟩)
    (Cert.GateWRefIdeal.Value.run (F := Ideal) m ρ)

/-- The kernel's result is the reference's, over the extended reals. -/
theorem algebraic : Cert.algebraic_GateWIdeal_GateWRefIdeal (hGateWIdeal := Cert.GateWIdeal.Gen.facts) (hGateWRefIdeal := Cert.GateWRefIdeal.Gen.facts) := by
  intro m g m' g' _ hag
  refine ⟨_, (θ_run defs _ _).mono (fun r h c => ⟨(h c).1.trans (final m c), (h c).2⟩) (Value.run_blocks m g),
    (θ_run Cert.GateWRefIdeal.defs _ _).mono (fun r h c => ⟨(h c).1.trans ?_, (h c).2⟩) (Cert.GateWRefIdeal.Value.run (F := Ideal) m' g')⟩
  rw [(hag c).1, (hag c).2]
  exact reference (V m c main_arg0) (V m c main_arg1)

end Cert.GateWIdeal.Mm

end
-- ==== Proof.Mm.GateX.lean ====
/- The gradient of the gate product's input. -/
module

public import Idealize.ShloMosaic.Lib.Pipeline.ReadBack
public import proofs.«01_k».proof.Proof.Mm.Sum
public import proofs.«01_k».proof.Proof.Gen.GateXIdeal.Value
public import proofs.«01_k».proof.Proof.Gen.GateX.Frame
public import proofs.«01_k».proof.Proof.Gen.GateXRefIdeal.Read
public import proofs.«01_k».proof.Proof.Gen.GateXRefIdeal
public import proofs.«01_k».proof.Defs

@[expose] public section

set_option maxRecDepth 16384

noncomputable section

namespace Cert.GateXIdeal.Mm

open Cert.GateXIdeal Cert.GateXIdeal.Gen Cert.Mm Idealize.ShloMosaic Idealize.ShloMosaic.TcCoe Idealize.SL.Sem

variable (m : (ℓ : Loc nD τ sig) → Buf (Elt Ideal) ℓ) (ρ : Dev nD → PrngReg)

/-- The blocks a point reads and writes. -/
theorem index : ∀ t : Fin cfg0.N, (win0_0.index t 0 = t.val / 4 ∧ win0_0.index t 1 = t.val % 2) ∧ (win0_1.index t 0 = t.val / 2 % 2 ∧ win0_1.index t 1 = t.val % 2)
    ∧ win0_2.index t 0 = t.val / 4 ∧ win0_2.index t 1 = t.val / 2 % 2 :=
  (by decide +kernel : ∀ t : Fin grid0.N, (win0_0.index t 0 = t.val / 4 ∧ win0_0.index t 1 = t.val % 2) ∧ (win0_1.index t 0 = t.val / 2 % 2 ∧ win0_1.index t 1 = t.val % 2)
    ∧ win0_2.index t 0 = t.val / 4 ∧ win0_2.index t 1 = t.val / 2 % 2)

/-- A point's part of the product. -/
theorem part (x : Vec Ideal S1024x2816 .bf16) (w : Vec Ideal S1024x2816 .bf16) (a : Fin 1024) (b : Fin 1024) :
    k0_pay1 (F := Ideal) x w (ix2 a b) = ∑ k : Fin 2816, x (ix2 a k) * w (ix2 b k) := by
  pointwise [k0_pay1]

/-- What the first point of a run leaves for the next. -/
theorem first (x : Vec Ideal S1024x2816 .bf16) (w : Vec Ideal S1024x2816 .bf16) (a : Fin 1024) (b : Fin 1024) :
    k0_pay2 (F := Ideal) x w (ix2 a b) = ∑ k : Fin 2816, x (ix2 a k) * w (ix2 b k) := by
  unfold k0_pay2
  simp only [shapeCast_self]
  exact part x w a b

/-- What the last point stores, over what the one before left. -/
theorem last (x : Vec Ideal S1024x2816 .bf16) (w : Vec Ideal S1024x2816 .bf16) (v : Vec Ideal S1024x1024 .f32) (a : Fin 1024) (b : Fin 1024) (e f : EReal)
    (he : v (ix2 a b) = e) (hf : ∑ k : Fin 2816, x (ix2 a k) * w (ix2 b k) = f) : k0_pay4 (F := Ideal) x w v (ix2 a b) = e + f :=
  congrArg₂ (fun e f : EReal => e + f) he ((part x w a b).trans hf)

/-- The result array. -/
theorem final (c : Dev nD) : (dats m 0 c).arrAt 2 cfg0.N = nt (V m c main_arg0) (V m c main_arg1) := by
  refine (dats m 0 c).arrAt_eq_of_covers 2 _ (by decide +kernel) fun t hf y => ?_
  have ht := (flush0_2 t).mp hf
  have hlt : t.val - 1 < cfg0.N := Nat.lt_of_le_of_lt (Nat.sub_le _ _) t.isLt
  obtain ⟨⟨h0, h1⟩, ⟨h2, h3⟩, h4, h5⟩ := index t
  obtain ⟨⟨g0, g1⟩, ⟨g2, g3⟩, g4, g5⟩ := index ⟨t.val - 1, hlt⟩
  have hp : (outsAt0 m c (t.val - 1) hlt).2 = k0_pay2 (F := Ideal) (iblk m c 0 ⟨t.val - 1, hlt⟩) (iblk m c 1 ⟨t.val - 1, hlt⟩) := by
    rw [outsAt0_A m c ⟨t.val - 1, hlt⟩ (show (t.val - 1) % 2 = 0 by omega) (show ¬ (t.val - 1) % 2 = 1 by omega)]
    frame_out
  blk_simp
  rw [after0_2, outsAt0_B m c t (by omega) ht]
  frame_out
  rw [hp, read_unread_whole]
  revert y
  intro (y : (⟨2, ![1024, 1024]⟩ : Shape).Idx)
  idx_vars y
  refine (last _ _ _ y0 y1 _ _ (first _ _ y0 y1) rfl).trans (add_two (n := 2816) rfl _ ?_ ?_)
  · refine Finset.sum_congr rfl fun k _ => congrArg₂ (· * ·) ?_ ?_
    · blk_simp [iblk]
      refine congrArg (V m c main_arg0) ?_
      blk_ext [g0, g1, h4]
    · blk_simp [iblk]
      refine congrArg (V m c main_arg1) ?_
      blk_ext [g2, g3, h5]
  · refine Finset.sum_congr rfl fun k _ => congrArg₂ (· * ·) ?_ ?_
    · blk_simp [iblk]
      refine congrArg (V m c main_arg0) ?_
      blk_ext [h0, h1, h4]
    · blk_simp [iblk]
      refine congrArg (V m c main_arg1) ?_
      blk_ext [h2, h3, h5]

/-- The reference's result is the same product. -/
theorem reference (A : Mat 4096 5632) (B : Mat 2048 5632) : Cert.GateXRefIdeal.Read.val_main_v4 (F := Ideal) A B = nt A B := by
  funext i
  revert i
  intro (i : (⟨2, ![4096, 2048]⟩ : Shape).Idx)
  idx_vars i
  pointwise [Cert.GateXRefIdeal.Read.val_main_v4, Cert.GateXRefIdeal.Read.val_main_v3, Cert.GateXRefIdeal.Read.val_main_v1]
  rfl

/-- The kernel runs and keeps its arguments; every counter ends at zero. -/
theorem frame_p : Cert.quiescent_GateX (hGateX := Cert.GateX.Gen.facts) := fun m ρ _ => Cert.GateX.Gen.frame m ρ

/-- So does its idealization. -/
theorem frame_pi : Cert.quiescent_GateXIdeal (hGateXIdeal := Cert.GateXIdeal.Gen.facts) := fun m ρ _ => Cert.GateXIdeal.Gen.frame m ρ

/-- So does the reference, which declares no semaphore. -/
theorem frame_r : Cert.quiescent_GateXRefIdeal (hGateXRefIdeal := Cert.GateXRefIdeal.Gen.facts) := fun m ρ _ =>
  (θ_run Cert.GateXRefIdeal.defs _ _).mono (fun r h => ⟨fun c => (h c).2, sem_eq_zero_of_no_sems (by decide) r.2⟩)
    (Cert.GateXRefIdeal.Value.run (F := Ideal) m ρ)

/-- The kernel's result is the reference's, over the extended reals. -/
theorem algebraic : Cert.algebraic_GateXIdeal_GateXRefIdeal (hGateXIdeal := Cert.GateXIdeal.Gen.facts) (hGateXRefIdeal := Cert.GateXRefIdeal.Gen.facts) := by
  intro m g m' g' _ hag
  refine ⟨_, (θ_run defs _ _).mono (fun r h c => ⟨(h c).1.trans (final m c), (h c).2⟩) (Value.run_blocks m g),
    (θ_run Cert.GateXRefIdeal.defs _ _).mono (fun r h c => ⟨(h c).1.trans ?_, (h c).2⟩) (Cert.GateXRefIdeal.Value.run (F := Ideal) m' g')⟩
  rw [(hag c).1, (hag c).2]
  exact reference (V m c main_arg0) (V m c main_arg1)

end Cert.GateXIdeal.Mm

end
-- ==== Proof.Mm.UpX.lean ====
/- The gradient of the up product's input, added to the gate's. -/
module

public import Idealize.ShloMosaic.Lib.Pipeline.ReadBack
public import proofs.«01_k».proof.Proof.Mm.Sum
public import proofs.«01_k».proof.Proof.Gen.UpXIdeal.Value
public import proofs.«01_k».proof.Proof.Gen.UpX.Frame
public import proofs.«01_k».proof.Proof.Gen.UpXRefIdeal.Read
public import proofs.«01_k».proof.Proof.Gen.UpXRefIdeal
public import proofs.«01_k».proof.Defs

@[expose] public section

set_option maxRecDepth 16384

noncomputable section

namespace Cert.UpXIdeal.Mm

open Cert.UpXIdeal Cert.UpXIdeal.Gen Cert.Mm Idealize.ShloMosaic Idealize.ShloMosaic.TcCoe Idealize.SL.Sem

variable (m : (ℓ : Loc nD τ sig) → Buf (Elt Ideal) ℓ) (ρ : Dev nD → PrngReg)

/-- The blocks a point reads and writes. -/
theorem index : ∀ t : Fin cfg0.N, (win0_0.index t 0 = t.val / 4 ∧ win0_0.index t 1 = t.val % 2) ∧ (win0_1.index t 0 = t.val / 2 % 2 ∧ win0_1.index t 1 = t.val % 2)
    ∧ (win0_3.index t 0 = t.val / 4 ∧ win0_3.index t 1 = t.val / 2 % 2) ∧ win0_2.index t 0 = t.val / 4 ∧ win0_2.index t 1 = t.val / 2 % 2 :=
  (by decide +kernel : ∀ t : Fin grid0.N, (win0_0.index t 0 = t.val / 4 ∧ win0_0.index t 1 = t.val % 2) ∧ (win0_1.index t 0 = t.val / 2 % 2 ∧ win0_1.index t 1 = t.val % 2)
    ∧ (win0_3.index t 0 = t.val / 4 ∧ win0_3.index t 1 = t.val / 2 % 2) ∧ win0_2.index t 0 = t.val / 4 ∧ win0_2.index t 1 = t.val / 2 % 2)

/-- A point's part of the product. -/
theorem part (x : Vec Ideal S512x2816 .bf16) (w : Vec Ideal S1024x2816 .bf16) (a : Fin 512) (b : Fin 1024) :
    k0_pay1 (F := Ideal) x w (ix2 a b) = ∑ k : Fin 2816, x (ix2 a k) * w (ix2 b k) := by
  pointwise [k0_pay1]

/-- What the first point of a run leaves for the next. -/
theorem first (x : Vec Ideal S512x2816 .bf16) (w : Vec Ideal S1024x2816 .bf16) (a : Fin 512) (b : Fin 1024) :
    k0_pay2 (F := Ideal) x w (ix2 a b) = ∑ k : Fin 2816, x (ix2 a k) * w (ix2 b k) := by
  unfold k0_pay2
  simp only [shapeCast_self]
  exact part x w a b

/-- What the last point stores, over what the one before left and the array added. -/
theorem last (x : Vec Ideal S512x2816 .bf16) (w : Vec Ideal S1024x2816 .bf16) (v u : Vec Ideal S512x1024 .f32) (a : Fin 512) (b : Fin 1024) (e f g : EReal)
    (he : v (ix2 a b) = e) (hf : ∑ k : Fin 2816, x (ix2 a k) * w (ix2 b k) = f) (hg : u (ix2 a b) = g) : k0_pay4 (F := Ideal) x w v u (ix2 a b) = e + f + g := by
  subst hg
  exact congrArg₂ (fun e f : EReal => e + f + u (ix2 a b)) he ((part x w a b).trans hf)

/-- The result array. -/
theorem final (c : Dev nD) : (dats m 0 c).arrAt 3 cfg0.N = ntPlus (V m c main_arg0) (V m c main_arg1) (V m c main_arg2) := by
  refine (dats m 0 c).arrAt_eq_of_covers 3 _ (by decide +kernel) fun t hf y => ?_
  have ht := (flush0_3 t).mp hf
  have hlt : t.val - 1 < cfg0.N := Nat.lt_of_le_of_lt (Nat.sub_le _ _) t.isLt
  obtain ⟨⟨h0, h1⟩, ⟨h2, h3⟩, ⟨h4, h5⟩, h6, h7⟩ := index t
  obtain ⟨⟨g0, g1⟩, ⟨g2, g3⟩, ⟨g4, g5⟩, g6, g7⟩ := index ⟨t.val - 1, hlt⟩
  have hp : (outsAt0 m c (t.val - 1) hlt).2 = k0_pay2 (F := Ideal) (iblk m c 0 ⟨t.val - 1, hlt⟩) (iblk m c 1 ⟨t.val - 1, hlt⟩) := by
    rw [outsAt0_A m c ⟨t.val - 1, hlt⟩ (show (t.val - 1) % 2 = 0 by omega) (show ¬ (t.val - 1) % 2 = 1 by omega)]
    frame_out
  blk_simp
  rw [after0_3, outsAt0_B m c t (by omega) ht]
  frame_out
  rw [hp, read_unread_whole]
  revert y
  intro (y : (⟨2, ![512, 1024]⟩ : Shape).Idx)
  idx_vars y
  refine (last _ _ _ _ y0 y1 _ _ _ (first _ _ y0 y1) rfl rfl).trans ?_
  unfold ntPlus
  refine congrArg₂ (fun e f : EReal => e + f) ?_ ?_
  · refine add_two (n := 2816) rfl _ ?_ ?_
    · refine Finset.sum_congr rfl fun k _ => congrArg₂ (· * ·) ?_ ?_
      · blk_simp [iblk]
        refine congrArg (V m c main_arg0) ?_
        blk_ext [g0, g1, h4]
      · blk_simp [iblk]
        refine congrArg (V m c main_arg1) ?_
        blk_ext [g2, g3, h5]
    · refine Finset.sum_congr rfl fun k _ => congrArg₂ (· * ·) ?_ ?_
      · blk_simp [iblk]
        refine congrArg (V m c main_arg0) ?_
        blk_ext [h0, h1, h4]
      · blk_simp [iblk]
        refine congrArg (V m c main_arg1) ?_
        blk_ext [h2, h3, h5]
  · blk_simp [iblk]
    refine congrArg (V m c main_arg2) ?_
    blk_ext [h4, h5, h6, h7]

/-- The reference's result is the same. -/
theorem reference (A : Mat 4096 5632) (B : Mat 2048 5632) (H : Mat 4096 2048) : Cert.UpXRefIdeal.Read.val_main_v5 (F := Ideal) A B H = ntPlus A B H := by
  funext i
  revert i
  intro (i : (⟨2, ![4096, 2048]⟩ : Shape).Idx)
  idx_vars i
  pointwise [Cert.UpXRefIdeal.Read.val_main_v5, Cert.UpXRefIdeal.Read.val_main_v4, Cert.UpXRefIdeal.Read.val_main_v3, Cert.UpXRefIdeal.Read.val_main_v1]
  exact add_comm _ _

/-- The kernel runs and keeps its arguments; every counter ends at zero. -/
theorem frame_p : Cert.quiescent_UpX (hUpX := Cert.UpX.Gen.facts) := fun m ρ _ => Cert.UpX.Gen.frame m ρ

/-- So does its idealization. -/
theorem frame_pi : Cert.quiescent_UpXIdeal (hUpXIdeal := Cert.UpXIdeal.Gen.facts) := fun m ρ _ => Cert.UpXIdeal.Gen.frame m ρ

/-- So does the reference, which declares no semaphore. -/
theorem frame_r : Cert.quiescent_UpXRefIdeal (hUpXRefIdeal := Cert.UpXRefIdeal.Gen.facts) := fun m ρ _ =>
  (θ_run Cert.UpXRefIdeal.defs _ _).mono (fun r h => ⟨fun c => (h c).2, sem_eq_zero_of_no_sems (by decide) r.2⟩)
    (Cert.UpXRefIdeal.Value.run (F := Ideal) m ρ)

/-- The kernel's result is the reference's, over the extended reals. -/
theorem algebraic : Cert.algebraic_UpXIdeal_UpXRefIdeal (hUpXIdeal := Cert.UpXIdeal.Gen.facts) (hUpXRefIdeal := Cert.UpXRefIdeal.Gen.facts) := by
  intro m g m' g' _ hag
  refine ⟨_, (θ_run defs _ _).mono (fun r h c => ⟨(h c).1.trans (final m c), (h c).2⟩) (Value.run_blocks m g),
    (θ_run Cert.UpXRefIdeal.defs _ _).mono (fun r h c => ⟨(h c).1.trans ?_, (h c).2⟩) (Cert.UpXRefIdeal.Value.run (F := Ideal) m' g')⟩
  rw [(hag c).1, (hag c).2.1, (hag c).2.2]
  exact reference (V m c main_arg0) (V m c main_arg1) (V m c main_arg2)

end Cert.UpXIdeal.Mm

end
-- ==== Proof.Mm.DownX0.lean ====
/- The gradient of the second feed-forward product's input, in the first layer. -/
module

public import proofs.«01_k».proof.Proof.Mm.Sum
public import proofs.«01_k».proof.Proof.Gen.DownX0Ideal.Value
public import proofs.«01_k».proof.Proof.Gen.DownX0.Frame
public import proofs.«01_k».proof.Proof.Gen.DownX0RefIdeal.Read
public import proofs.«01_k».proof.Proof.Gen.DownX0RefIdeal
public import proofs.«01_k».proof.Defs

@[expose] public section

set_option maxRecDepth 16384

noncomputable section

namespace Cert.DownX0Ideal.Mm

open Cert.DownX0Ideal Cert.DownX0Ideal.Gen Cert.Mm Idealize.ShloMosaic Idealize.ShloMosaic.TcCoe Idealize.SL.Sem

variable (m : (ℓ : Loc nD τ sig) → Buf (Elt Ideal) ℓ) (ρ : Dev nD → PrngReg)

/-- The blocks a point reads and writes. -/
theorem index : ∀ t : Fin cfg0.N, (win0_0.index t 0 = win0_2.index t 0 ∧ win0_0.index t 1 = 0) ∧ win0_1.index t 0 = win0_2.index t 1 ∧ win0_1.index t 1 = 0 :=
  (by decide +kernel : ∀ t : Fin grid0.N, (win0_0.index t 0 = win0_2.index t 0 ∧ win0_0.index t 1 = 0) ∧ win0_1.index t 0 = win0_2.index t 1 ∧ win0_1.index t 1 = 0)

/-- A point's block of the product. -/
theorem part (x : Vec Ideal S1088x2048 .bf16) (w : Vec Ideal S1408x2048 .bf16) (a : Fin 1088) (b : Fin 1408) :
    k0_pay1 (F := Ideal) x w (ix2 a b) = ∑ k : Fin 2048, x (ix2 a k) * w (ix2 b k) := by
  pointwise [k0_pay1]

/-- The result array. -/
theorem final (c : Dev nD) : (dats m 0 c).arrAt 2 cfg0.N = nt (V m c main_arg0) (V m c main_arg1) := by
  refine (dats m 0 c).arrAt_eq_of_covers 2 _ (by decide +kernel) fun t hf y => ?_
  obtain ⟨⟨h0, h1⟩, h2, h3⟩ := index t
  blk_simp
  rw [after0_2]
  frame_out
  revert y
  intro (y : (⟨2, ![1088, 1408]⟩ : Shape).Idx)
  idx_vars y
  refine (part _ _ y0 y1).trans (Finset.sum_congr rfl fun k _ => congrArg₂ (· * ·) ?_ ?_)
  · blk_simp [iblk]
    refine congrArg (V m c main_arg0) ?_
    blk_ext [h0, h1]
  · blk_simp [iblk]
    refine congrArg (V m c main_arg1) ?_
    blk_ext [h2, h3]

/-- The reference's result is the same product. -/
theorem reference (A : Mat 4352 2048) (B : Mat 5632 2048) : Cert.DownX0RefIdeal.Read.val_main_v6 (F := Ideal) A B = nt A B := by
  funext i
  revert i
  intro (i : (⟨2, ![4352, 5632]⟩ : Shape).Idx)
  idx_vars i
  pointwise [Cert.DownX0RefIdeal.Read.val_main_v6, Cert.DownX0RefIdeal.Read.val_main_v5, Cert.DownX0RefIdeal.Read.val_main_v4, Cert.DownX0RefIdeal.Read.val_main_v2]
  rfl

/-- The kernel runs and keeps its arguments; every counter ends at zero. -/
theorem frame_p : Cert.quiescent_DownX0 (hDownX0 := Cert.DownX0.Gen.facts) := fun m ρ _ => Cert.DownX0.Gen.frame m ρ

/-- So does its idealization. -/
theorem frame_pi : Cert.quiescent_DownX0Ideal (hDownX0Ideal := Cert.DownX0Ideal.Gen.facts) := fun m ρ _ => Cert.DownX0Ideal.Gen.frame m ρ

/-- So does the reference, which declares no semaphore. -/
theorem frame_r : Cert.quiescent_DownX0RefIdeal (hDownX0RefIdeal := Cert.DownX0RefIdeal.Gen.facts) := fun m ρ _ =>
  (θ_run Cert.DownX0RefIdeal.defs _ _).mono (fun r h => ⟨fun c => (h c).2, sem_eq_zero_of_no_sems (by decide) r.2⟩)
    (Cert.DownX0RefIdeal.Value.run (F := Ideal) m ρ)

/-- The kernel's result is the reference's, over the extended reals. -/
theorem algebraic : Cert.algebraic_DownX0Ideal_DownX0RefIdeal (hDownX0Ideal := Cert.DownX0Ideal.Gen.facts) (hDownX0RefIdeal := Cert.DownX0RefIdeal.Gen.facts) := by
  intro m g m' g' _ hag
  refine ⟨_, (θ_run defs _ _).mono (fun r h c => ⟨(h c).1.trans (final m c), (h c).2⟩) (Value.run_blocks m g),
    (θ_run Cert.DownX0RefIdeal.defs _ _).mono (fun r h c => ⟨(h c).1.trans ?_, (h c).2⟩) (Cert.DownX0RefIdeal.Value.run (F := Ideal) m' g')⟩
  rw [(hag c).1, (hag c).2]
  exact reference (V m c main_arg0) (V m c main_arg1)

end Cert.DownX0Ideal.Mm

end
-- ==== Proof.Mm.DownW0.lean ====
/- The gradient of the second feed-forward product's weights, in the first layer. -/
module

public import Idealize.ShloMosaic.Lib.Pipeline.ReadBack
public import proofs.«01_k».proof.Proof.Mm.Sum
public import proofs.«01_k».proof.Proof.Gen.DownW0Ideal.Value
public import proofs.«01_k».proof.Proof.Gen.DownW0.Frame
public import proofs.«01_k».proof.Proof.Gen.DownW0RefIdeal.Read
public import proofs.«01_k».proof.Proof.Gen.DownW0RefIdeal
public import proofs.«01_k».proof.Defs

@[expose] public section

set_option maxRecDepth 16384

noncomputable section

namespace Cert.DownW0Ideal.Mm

open Cert.DownW0Ideal Cert.DownW0Ideal.Gen Cert.Mm Idealize.ShloMosaic Idealize.ShloMosaic.TcCoe Idealize.SL.Sem

variable (m : (ℓ : Loc nD τ sig) → Buf (Elt Ideal) ℓ) (ρ : Dev nD → PrngReg)

/-- The blocks a point reads and writes. -/
theorem index : ∀ t : Fin cfg0.N, (win0_0.index t 0 = t.val % 2 ∧ win0_0.index t 1 = t.val / 4) ∧ (win0_1.index t 0 = t.val % 2 ∧ win0_1.index t 1 = t.val / 2 % 2)
    ∧ win0_2.index t 0 = t.val / 4 ∧ win0_2.index t 1 = t.val / 2 % 2 :=
  (by decide +kernel : ∀ t : Fin grid0.N, (win0_0.index t 0 = t.val % 2 ∧ win0_0.index t 1 = t.val / 4) ∧ (win0_1.index t 0 = t.val % 2 ∧ win0_1.index t 1 = t.val / 2 % 2)
    ∧ win0_2.index t 0 = t.val / 4 ∧ win0_2.index t 1 = t.val / 2 % 2)

/-- A point's part of the product. -/
theorem part (x : Vec Ideal S2176x1408 .bf16) (w : Vec Ideal S2176x1024 .bf16) (a : Fin 1408) (b : Fin 1024) :
    k0_pay1 (F := Ideal) x w (ix2 a b) = ∑ k : Fin 2176, x (ix2 k a) * w (ix2 k b) := by
  pointwise [k0_pay1]

/-- What the first point of a run leaves for the next. -/
theorem first (x : Vec Ideal S2176x1408 .bf16) (w : Vec Ideal S2176x1024 .bf16) (a : Fin 1408) (b : Fin 1024) :
    k0_pay2 (F := Ideal) x w (ix2 a b) = ∑ k : Fin 2176, x (ix2 k a) * w (ix2 k b) := by
  unfold k0_pay2
  simp only [shapeCast_self]
  exact part x w a b

/-- What the last point stores, over what the one before left. -/
theorem last (x : Vec Ideal S2176x1408 .bf16) (w : Vec Ideal S2176x1024 .bf16) (v : Vec Ideal S1408x1024 .f32) (a : Fin 1408) (b : Fin 1024) (e f : EReal)
    (he : v (ix2 a b) = e) (hf : ∑ k : Fin 2176, x (ix2 k a) * w (ix2 k b) = f) : k0_pay4 (F := Ideal) x w v (ix2 a b) = e + f :=
  congrArg₂ (fun e f : EReal => e + f) he ((part x w a b).trans hf)

/-- The result array. -/
theorem final (c : Dev nD) : (dats m 0 c).arrAt 2 cfg0.N = tn (V m c main_arg0) (V m c main_arg1) := by
  refine (dats m 0 c).arrAt_eq_of_covers 2 _ (by decide +kernel) fun t hf y => ?_
  have ht := (flush0_2 t).mp hf
  have hlt : t.val - 1 < cfg0.N := Nat.lt_of_le_of_lt (Nat.sub_le _ _) t.isLt
  obtain ⟨⟨h0, h1⟩, ⟨h2, h3⟩, h4, h5⟩ := index t
  obtain ⟨⟨g0, g1⟩, ⟨g2, g3⟩, g4, g5⟩ := index ⟨t.val - 1, hlt⟩
  have hp : (outsAt0 m c (t.val - 1) hlt).2 = k0_pay2 (F := Ideal) (iblk m c 0 ⟨t.val - 1, hlt⟩) (iblk m c 1 ⟨t.val - 1, hlt⟩) := by
    rw [outsAt0_A m c ⟨t.val - 1, hlt⟩ (show (t.val - 1) % 2 = 0 by omega) (show ¬ (t.val - 1) % 2 = 1 by omega)]
    frame_out
  blk_simp
  rw [after0_2, outsAt0_B m c t (by omega) ht]
  frame_out
  rw [hp, read_unread_whole]
  revert y
  intro (y : (⟨2, ![1408, 1024]⟩ : Shape).Idx)
  idx_vars y
  refine (last _ _ _ y0 y1 _ _ (first _ _ y0 y1) rfl).trans (tn_two rfl (fun k => ?_) (fun k => ?_) (fun k => ?_) fun k => ?_) <;> blk_simp [iblk] <;>
    refine congrArg (V m c _) ?_ <;> blk_ext [g0, g1, g2, g3, h0, h1, h2, h3, h4, h5]

/-- The reference's result is the same product. -/
theorem reference (A : Mat 4352 5632) (B : Mat 4352 2048) : Cert.DownW0RefIdeal.Read.val_main_v5 (F := Ideal) A B = tn A B := by
  funext i
  revert i
  intro (i : (⟨2, ![5632, 2048]⟩ : Shape).Idx)
  idx_vars i
  pointwise [Cert.DownW0RefIdeal.Read.val_main_v5, Cert.DownW0RefIdeal.Read.val_main_v4, Cert.DownW0RefIdeal.Read.val_main_v3, Cert.DownW0RefIdeal.Read.val_main_v1]
  exact Finset.sum_congr rfl fun k _ => mul_comm _ _

/-- The kernel runs and keeps its arguments; every counter ends at zero. -/
theorem frame_p : Cert.quiescent_DownW0 (hDownW0 := Cert.DownW0.Gen.facts) := fun m ρ _ => Cert.DownW0.Gen.frame m ρ

/-- So does its idealization. -/
theorem frame_pi : Cert.quiescent_DownW0Ideal (hDownW0Ideal := Cert.DownW0Ideal.Gen.facts) := fun m ρ _ => Cert.DownW0Ideal.Gen.frame m ρ

/-- So does the reference, which declares no semaphore. -/
theorem frame_r : Cert.quiescent_DownW0RefIdeal (hDownW0RefIdeal := Cert.DownW0RefIdeal.Gen.facts) := fun m ρ _ =>
  (θ_run Cert.DownW0RefIdeal.defs _ _).mono (fun r h => ⟨fun c => (h c).2, sem_eq_zero_of_no_sems (by decide) r.2⟩)
    (Cert.DownW0RefIdeal.Value.run (F := Ideal) m ρ)

/-- The kernel's result is the reference's, over the extended reals. -/
theorem algebraic : Cert.algebraic_DownW0Ideal_DownW0RefIdeal (hDownW0Ideal := Cert.DownW0Ideal.Gen.facts) (hDownW0RefIdeal := Cert.DownW0RefIdeal.Gen.facts) := by
  intro m g m' g' _ hag
  refine ⟨_, (θ_run defs _ _).mono (fun r h c => ⟨(h c).1.trans (final m c), (h c).2⟩) (Value.run_blocks m g),
    (θ_run Cert.DownW0RefIdeal.defs _ _).mono (fun r h c => ⟨(h c).1.trans ?_, (h c).2⟩) (Cert.DownW0RefIdeal.Value.run (F := Ideal) m' g')⟩
  rw [(hag c).1, (hag c).2]
  exact reference (V m c main_arg0) (V m c main_arg1)

end Cert.DownW0Ideal.Mm

end
-- ==== Proof.Mm.GateW0.lean ====
/- The gradient of the gate product's weights, in the first layer. -/
module

public import Idealize.ShloMosaic.Lib.Pipeline.ReadBack
public import proofs.«01_k».proof.Proof.Mm.Sum
public import proofs.«01_k».proof.Proof.Gen.GateW0Ideal.Value
public import proofs.«01_k».proof.Proof.Gen.GateW0.Frame
public import proofs.«01_k».proof.Proof.Gen.GateW0RefIdeal.Read
public import proofs.«01_k».proof.Proof.Gen.GateW0RefIdeal
public import proofs.«01_k».proof.Defs

@[expose] public section

set_option maxRecDepth 16384

noncomputable section

namespace Cert.GateW0Ideal.Mm

open Cert.GateW0Ideal Cert.GateW0Ideal.Gen Cert.Mm Idealize.ShloMosaic Idealize.ShloMosaic.TcCoe Idealize.SL.Sem

variable (m : (ℓ : Loc nD τ sig) → Buf (Elt Ideal) ℓ) (ρ : Dev nD → PrngReg)

/-- The blocks a point reads and writes. -/
theorem index : ∀ t : Fin cfg0.N, (win0_0.index t 0 = t.val % 2 ∧ win0_0.index t 1 = t.val / 8) ∧ (win0_1.index t 0 = t.val % 2 ∧ win0_1.index t 1 = t.val / 2 % 4)
    ∧ (win0_2.index t 0 = 0 ∧ win0_2.index t 1 = t.val / 2 % 4) ∧ win0_2.index t 2 = t.val / 8 ∧ win0_2.index t 3 = 0 :=
  (by decide +kernel : ∀ t : Fin grid0.N, (win0_0.index t 0 = t.val % 2 ∧ win0_0.index t 1 = t.val / 8) ∧ (win0_1.index t 0 = t.val % 2 ∧ win0_1.index t 1 = t.val / 2 % 4)
    ∧ (win0_2.index t 0 = 0 ∧ win0_2.index t 1 = t.val / 2 % 4) ∧ win0_2.index t 2 = t.val / 8 ∧ win0_2.index t 3 = 0)

/-- A point's part of the product. -/
theorem part (x : Vec Ideal S2176x1024 .bf16) (w : Vec Ideal S2176x1408 .bf16) (a : Fin 1024) (b : Fin 1408) :
    k0_pay1 (F := Ideal) x w (ix2 a b) = ∑ k : Fin 2176, x (ix2 k a) * w (ix2 k b) := by
  pointwise [k0_pay1]

/-- What the first point of a run leaves for the next. -/
theorem first (x : Vec Ideal S2176x1024 .bf16) (w : Vec Ideal S2176x1408 .bf16) (a : Fin 1024) (b : Fin 1408) :
    k0_pay2 (F := Ideal) x w (ix2 a b) = ∑ k : Fin 2176, x (ix2 k a) * w (ix2 k b) := by
  unfold k0_pay2
  simp only [shapeCast_self]
  exact part x w a b

/-- What the last point stores, over what the one before left. -/
theorem last (x : Vec Ideal S2176x1024 .bf16) (w : Vec Ideal S2176x1408 .bf16) (v : Vec Ideal S1024x1408 .f32) (a : Fin 1024) (b : Fin 1408) (e f : EReal)
    (he : v (ix2 a b) = e) (hf : ∑ k : Fin 2176, x (ix2 k a) * w (ix2 k b) = f) : k0_pay4 (F := Ideal) x w v (ix4 0 0 a b) = e + f := by
  have h : k0_pay4 (F := Ideal) x w v (ix4 0 0 a b) = addf v (k0_pay1 x w) (ix2 a b) := by
    unfold k0_pay4
    generalize addf v (k0_pay1 x w) = z
    pointwise []
  exact h.trans (congrArg₂ (fun e f : EReal => e + f) he ((part x w a b).trans hf))

/-- The result array. -/
theorem final (c : Dev nD) : (dats m 0 c).arrAt 2 cfg0.N = split (V m c main_arg0) (V m c main_arg1) := by
  refine (dats m 0 c).arrAt_eq_of_covers 2 _ (by decide +kernel) fun t hf y => ?_
  have ht := (flush0_2 t).mp hf
  have hlt : t.val - 1 < cfg0.N := Nat.lt_of_le_of_lt (Nat.sub_le _ _) t.isLt
  obtain ⟨⟨h0, h1⟩, ⟨h2, h3⟩, ⟨h4, h5⟩, h6, h7⟩ := index t
  obtain ⟨⟨g0, g1⟩, ⟨g2, g3⟩, ⟨g4, g5⟩, g6, g7⟩ := index ⟨t.val - 1, hlt⟩
  have hp : (outsAt0 m c (t.val - 1) hlt).2 = k0_pay2 (F := Ideal) (iblk m c 0 ⟨t.val - 1, hlt⟩) (iblk m c 1 ⟨t.val - 1, hlt⟩) := by
    rw [outsAt0_A m c ⟨t.val - 1, hlt⟩ (show (t.val - 1) % 2 = 0 by omega) (show ¬ (t.val - 1) % 2 = 1 by omega)]
    frame_out
  blk_simp
  rw [after0_2, outsAt0_B m c t (by omega) ht]
  frame_out
  rw [hp, read_unread_whole]
  revert y
  intro (y : (⟨4, ![1, 1, 1024, 1408]⟩ : Shape).Idx)
  idx_vars y
  obtain rfl : y0 = 0 := Subsingleton.elim _ _
  obtain rfl : y1 = 0 := Subsingleton.elim _ _
  refine (last _ _ _ y2 y3 _ _ (first _ _ y2 y3) rfl).trans ?_
  unfold split
  refine tn_two rfl (fun k => ?_) (fun k => ?_) (fun k => ?_) fun k => ?_ <;> blk_simp [iblk] <;>
    refine congrArg (V m c _) ?_ <;> blk_ext [g0, g1, g2, g3, h0, h1, h2, h3, h5, h6, h7]

/-- The reference's result is the same. -/
theorem reference (A : Mat 4352 2048) (B : Mat 4352 5632) : Cert.GateW0RefIdeal.Read.val_main_v8 (F := Ideal) A B = split A B := by
  funext i
  revert i
  intro (i : (⟨4, ![1, 4, 2048, 1408]⟩ : Shape).Idx)
  idx_vars i
  pointwise [Cert.GateW0RefIdeal.Read.val_main_v8, Cert.GateW0RefIdeal.Read.val_main_v7, Cert.GateW0RefIdeal.Read.val_main_v6, Cert.GateW0RefIdeal.Read.val_main_v5, Cert.GateW0RefIdeal.Read.val_main_v4, Cert.GateW0RefIdeal.Read.val_main_v3, Cert.GateW0RefIdeal.Read.val_main_v1]
  exact Finset.sum_congr rfl fun k _ => mul_comm _ _

/-- The kernel runs and keeps its arguments; every counter ends at zero. -/
theorem frame_p : Cert.quiescent_GateW0 (hGateW0 := Cert.GateW0.Gen.facts) := fun m ρ _ => Cert.GateW0.Gen.frame m ρ

/-- So does its idealization. -/
theorem frame_pi : Cert.quiescent_GateW0Ideal (hGateW0Ideal := Cert.GateW0Ideal.Gen.facts) := fun m ρ _ => Cert.GateW0Ideal.Gen.frame m ρ

/-- So does the reference, which declares no semaphore. -/
theorem frame_r : Cert.quiescent_GateW0RefIdeal (hGateW0RefIdeal := Cert.GateW0RefIdeal.Gen.facts) := fun m ρ _ =>
  (θ_run Cert.GateW0RefIdeal.defs _ _).mono (fun r h => ⟨fun c => (h c).2, sem_eq_zero_of_no_sems (by decide) r.2⟩)
    (Cert.GateW0RefIdeal.Value.run (F := Ideal) m ρ)

/-- The kernel's result is the reference's, over the extended reals. -/
theorem algebraic : Cert.algebraic_GateW0Ideal_GateW0RefIdeal (hGateW0Ideal := Cert.GateW0Ideal.Gen.facts) (hGateW0RefIdeal := Cert.GateW0RefIdeal.Gen.facts) := by
  intro m g m' g' _ hag
  refine ⟨_, (θ_run defs _ _).mono (fun r h c => ⟨(h c).1.trans (final m c), (h c).2⟩) (Value.run_blocks m g),
    (θ_run Cert.GateW0RefIdeal.defs _ _).mono (fun r h c => ⟨(h c).1.trans ?_, (h c).2⟩) (Cert.GateW0RefIdeal.Value.run (F := Ideal) m' g')⟩
  rw [(hag c).1, (hag c).2]
  exact reference (V m c main_arg0) (V m c main_arg1)

end Cert.GateW0Ideal.Mm

end
-- ==== Proof.Mm.GateX0.lean ====
/- The gradient of the gate product's input, in the first layer. -/
module

public import Idealize.ShloMosaic.Lib.Pipeline.ReadBack
public import proofs.«01_k».proof.Proof.Mm.Sum
public import proofs.«01_k».proof.Proof.Gen.GateX0Ideal.Value
public import proofs.«01_k».proof.Proof.Gen.GateX0.Frame
public import proofs.«01_k».proof.Proof.Gen.GateX0RefIdeal.Read
public import proofs.«01_k».proof.Proof.Gen.GateX0RefIdeal
public import proofs.«01_k».proof.Defs

@[expose] public section

set_option maxRecDepth 16384

noncomputable section

namespace Cert.GateX0Ideal.Mm

open Cert.GateX0Ideal Cert.GateX0Ideal.Gen Cert.Mm Idealize.ShloMosaic Idealize.ShloMosaic.TcCoe Idealize.SL.Sem

variable (m : (ℓ : Loc nD τ sig) → Buf (Elt Ideal) ℓ) (ρ : Dev nD → PrngReg)

/-- The blocks a point reads and writes. -/
theorem index : ∀ t : Fin cfg0.N, (win0_0.index t 0 = t.val / 4 ∧ win0_0.index t 1 = t.val % 2) ∧ (win0_1.index t 0 = t.val / 2 % 2 ∧ win0_1.index t 1 = t.val % 2)
    ∧ win0_2.index t 0 = t.val / 4 ∧ win0_2.index t 1 = t.val / 2 % 2 :=
  (by decide +kernel : ∀ t : Fin grid0.N, (win0_0.index t 0 = t.val / 4 ∧ win0_0.index t 1 = t.val % 2) ∧ (win0_1.index t 0 = t.val / 2 % 2 ∧ win0_1.index t 1 = t.val % 2)
    ∧ win0_2.index t 0 = t.val / 4 ∧ win0_2.index t 1 = t.val / 2 % 2)

/-- A point's part of the product. -/
theorem part (x : Vec Ideal S1088x2816 .bf16) (w : Vec Ideal S1024x2816 .bf16) (a : Fin 1088) (b : Fin 1024) :
    k0_pay1 (F := Ideal) x w (ix2 a b) = ∑ k : Fin 2816, x (ix2 a k) * w (ix2 b k) := by
  pointwise [k0_pay1]

/-- What the first point of a run leaves for the next. -/
theorem first (x : Vec Ideal S1088x2816 .bf16) (w : Vec Ideal S1024x2816 .bf16) (a : Fin 1088) (b : Fin 1024) :
    k0_pay2 (F := Ideal) x w (ix2 a b) = ∑ k : Fin 2816, x (ix2 a k) * w (ix2 b k) := by
  unfold k0_pay2
  simp only [shapeCast_self]
  exact part x w a b

/-- What the last point stores, over what the one before left. -/
theorem last (x : Vec Ideal S1088x2816 .bf16) (w : Vec Ideal S1024x2816 .bf16) (v : Vec Ideal S1088x1024 .f32) (a : Fin 1088) (b : Fin 1024) (e f : EReal)
    (he : v (ix2 a b) = e) (hf : ∑ k : Fin 2816, x (ix2 a k) * w (ix2 b k) = f) : k0_pay4 (F := Ideal) x w v (ix2 a b) = e + f :=
  congrArg₂ (fun e f : EReal => e + f) he ((part x w a b).trans hf)

/-- The result array. -/
theorem final (c : Dev nD) : (dats m 0 c).arrAt 2 cfg0.N = nt (V m c main_arg0) (V m c main_arg1) := by
  refine (dats m 0 c).arrAt_eq_of_covers 2 _ (by decide +kernel) fun t hf y => ?_
  have ht := (flush0_2 t).mp hf
  have hlt : t.val - 1 < cfg0.N := Nat.lt_of_le_of_lt (Nat.sub_le _ _) t.isLt
  obtain ⟨⟨h0, h1⟩, ⟨h2, h3⟩, h4, h5⟩ := index t
  obtain ⟨⟨g0, g1⟩, ⟨g2, g3⟩, g4, g5⟩ := index ⟨t.val - 1, hlt⟩
  have hp : (outsAt0 m c (t.val - 1) hlt).2 = k0_pay2 (F := Ideal) (iblk m c 0 ⟨t.val - 1, hlt⟩) (iblk m c 1 ⟨t.val - 1, hlt⟩) := by
    rw [outsAt0_A m c ⟨t.val - 1, hlt⟩ (show (t.val - 1) % 2 = 0 by omega) (show ¬ (t.val - 1) % 2 = 1 by omega)]
    frame_out
  blk_simp
  rw [after0_2, outsAt0_B m c t (by omega) ht]
  frame_out
  rw [hp, read_unread_whole]
  revert y
  intro (y : (⟨2, ![1088, 1024]⟩ : Shape).Idx)
  idx_vars y
  refine (last _ _ _ y0 y1 _ _ (first _ _ y0 y1) rfl).trans (nt_two rfl (fun k => ?_) (fun k => ?_) (fun k => ?_) fun k => ?_) <;> blk_simp [iblk] <;>
    refine congrArg (V m c _) ?_ <;> blk_ext [g0, g1, g2, g3, h0, h1, h2, h3, h4, h5]

/-- The reference's result is the same product. -/
theorem reference (A : Mat 4352 5632) (B : Mat 2048 5632) : Cert.GateX0RefIdeal.Read.val_main_v4 (F := Ideal) A B = nt A B := by
  funext i
  revert i
  intro (i : (⟨2, ![4352, 2048]⟩ : Shape).Idx)
  idx_vars i
  pointwise [Cert.GateX0RefIdeal.Read.val_main_v4, Cert.GateX0RefIdeal.Read.val_main_v3, Cert.GateX0RefIdeal.Read.val_main_v1]
  rfl

/-- The kernel runs and keeps its arguments; every counter ends at zero. -/
theorem frame_p : Cert.quiescent_GateX0 (hGateX0 := Cert.GateX0.Gen.facts) := fun m ρ _ => Cert.GateX0.Gen.frame m ρ

/-- So does its idealization. -/
theorem frame_pi : Cert.quiescent_GateX0Ideal (hGateX0Ideal := Cert.GateX0Ideal.Gen.facts) := fun m ρ _ => Cert.GateX0Ideal.Gen.frame m ρ

/-- So does the reference, which declares no semaphore. -/
theorem frame_r : Cert.quiescent_GateX0RefIdeal (hGateX0RefIdeal := Cert.GateX0RefIdeal.Gen.facts) := fun m ρ _ =>
  (θ_run Cert.GateX0RefIdeal.defs _ _).mono (fun r h => ⟨fun c => (h c).2, sem_eq_zero_of_no_sems (by decide) r.2⟩)
    (Cert.GateX0RefIdeal.Value.run (F := Ideal) m ρ)

/-- The kernel's result is the reference's, over the extended reals. -/
theorem algebraic : Cert.algebraic_GateX0Ideal_GateX0RefIdeal (hGateX0Ideal := Cert.GateX0Ideal.Gen.facts) (hGateX0RefIdeal := Cert.GateX0RefIdeal.Gen.facts) := by
  intro m g m' g' _ hag
  refine ⟨_, (θ_run defs _ _).mono (fun r h c => ⟨(h c).1.trans (final m c), (h c).2⟩) (Value.run_blocks m g),
    (θ_run Cert.GateX0RefIdeal.defs _ _).mono (fun r h c => ⟨(h c).1.trans ?_, (h c).2⟩) (Cert.GateX0RefIdeal.Value.run (F := Ideal) m' g')⟩
  rw [(hag c).1, (hag c).2]
  exact reference (V m c main_arg0) (V m c main_arg1)

end Cert.GateX0Ideal.Mm

end
-- ==== Proof.Mm.UpX0.lean ====
/- The gradient of the up product's input, over the gate's, in the first layer. -/
module

public import Idealize.ShloMosaic.Lib.Pipeline.ReadBack
public import proofs.«01_k».proof.Proof.Mm.Sum
public import proofs.«01_k».proof.Proof.Gen.UpX0Ideal.Value
public import proofs.«01_k».proof.Proof.Gen.UpX0.Frame
public import proofs.«01_k».proof.Proof.Gen.UpX0RefIdeal.Read
public import proofs.«01_k».proof.Proof.Gen.UpX0RefIdeal
public import proofs.«01_k».proof.Defs

@[expose] public section

set_option maxRecDepth 16384

noncomputable section

namespace Cert.UpX0Ideal.Mm

open Cert.UpX0Ideal Cert.UpX0Ideal.Gen Cert.Mm Idealize.ShloMosaic Idealize.ShloMosaic.TcCoe Idealize.SL.Sem

variable (m : (ℓ : Loc nD τ sig) → Buf (Elt Ideal) ℓ) (ρ : Dev nD → PrngReg)

/-- The blocks a point reads and writes. -/
theorem index : ∀ t : Fin cfg0.N, (win0_0.index t 0 = t.val / 4 ∧ win0_0.index t 1 = t.val % 2) ∧ (win0_1.index t 0 = t.val / 2 % 2 ∧ win0_1.index t 1 = t.val % 2)
    ∧ (win0_3.index t 0 = t.val / 4 ∧ win0_3.index t 1 = t.val / 2 % 2) ∧ win0_2.index t 0 = t.val / 4 ∧ win0_2.index t 1 = t.val / 2 % 2 :=
  (by decide +kernel : ∀ t : Fin grid0.N, (win0_0.index t 0 = t.val / 4 ∧ win0_0.index t 1 = t.val % 2) ∧ (win0_1.index t 0 = t.val / 2 % 2 ∧ win0_1.index t 1 = t.val % 2)
    ∧ (win0_3.index t 0 = t.val / 4 ∧ win0_3.index t 1 = t.val / 2 % 2) ∧ win0_2.index t 0 = t.val / 4 ∧ win0_2.index t 1 = t.val / 2 % 2)

/-- A point's part of the product. -/
theorem part (x : Vec Ideal S544x2816 .bf16) (w : Vec Ideal S1024x2816 .bf16) (a : Fin 544) (b : Fin 1024) :
    k0_pay1 (F := Ideal) x w (ix2 a b) = ∑ k : Fin 2816, x (ix2 a k) * w (ix2 b k) := by
  pointwise [k0_pay1]

/-- What the first point of a run leaves for the next. -/
theorem first (x : Vec Ideal S544x2816 .bf16) (w : Vec Ideal S1024x2816 .bf16) (a : Fin 544) (b : Fin 1024) :
    k0_pay2 (F := Ideal) x w (ix2 a b) = ∑ k : Fin 2816, x (ix2 a k) * w (ix2 b k) := by
  unfold k0_pay2
  simp only [shapeCast_self]
  exact part x w a b

/-- What the last point stores, over what the one before left and the array added. -/
theorem last (x : Vec Ideal S544x2816 .bf16) (w : Vec Ideal S1024x2816 .bf16) (v u : Vec Ideal S544x1024 .f32) (a : Fin 544) (b : Fin 1024) (e f g : EReal)
    (he : v (ix2 a b) = e) (hf : ∑ k : Fin 2816, x (ix2 a k) * w (ix2 b k) = f) (hg : u (ix2 a b) = g) : k0_pay4 (F := Ideal) x w v u (ix2 a b) = e + f + g := by
  subst hg
  exact congrArg₂ (fun e f : EReal => e + f + u (ix2 a b)) he ((part x w a b).trans hf)

/-- The result array. -/
theorem final (c : Dev nD) : (dats m 0 c).arrAt 3 cfg0.N = ntPlus (V m c main_arg0) (V m c main_arg1) (V m c main_arg2) := by
  refine (dats m 0 c).arrAt_eq_of_covers 3 _ (by decide +kernel) fun t hf y => ?_
  have ht := (flush0_3 t).mp hf
  have hlt : t.val - 1 < cfg0.N := Nat.lt_of_le_of_lt (Nat.sub_le _ _) t.isLt
  obtain ⟨⟨h0, h1⟩, ⟨h2, h3⟩, ⟨h4, h5⟩, h6, h7⟩ := index t
  obtain ⟨⟨g0, g1⟩, ⟨g2, g3⟩, ⟨g4, g5⟩, g6, g7⟩ := index ⟨t.val - 1, hlt⟩
  have hp : (outsAt0 m c (t.val - 1) hlt).2 = k0_pay2 (F := Ideal) (iblk m c 0 ⟨t.val - 1, hlt⟩) (iblk m c 1 ⟨t.val - 1, hlt⟩) := by
    rw [outsAt0_A m c ⟨t.val - 1, hlt⟩ (show (t.val - 1) % 2 = 0 by omega) (show ¬ (t.val - 1) % 2 = 1 by omega)]
    frame_out
  blk_simp
  rw [after0_3, outsAt0_B m c t (by omega) ht]
  frame_out
  rw [hp, read_unread_whole]
  revert y
  intro (y : (⟨2, ![544, 1024]⟩ : Shape).Idx)
  idx_vars y
  refine (last _ _ _ _ y0 y1 _ _ _ (first _ _ y0 y1) rfl rfl).trans ?_
  unfold ntPlus
  refine congrArg₂ (fun e f : EReal => e + f) ?_ ?_
  · refine nt_two rfl (fun k => ?_) (fun k => ?_) (fun k => ?_) fun k => ?_ <;> blk_simp [iblk] <;>
      refine congrArg (V m c _) ?_ <;> blk_ext [g0, g1, g2, g3, h0, h1, h2, h3, h4, h5]
  · blk_simp [iblk]
    refine congrArg (V m c main_arg2) ?_
    blk_ext [h4, h5, h6, h7]

/-- The reference's result is the same. -/
theorem reference (A : Mat 4352 5632) (B : Mat 2048 5632) (H : Mat 4352 2048) : Cert.UpX0RefIdeal.Read.val_main_v5 (F := Ideal) A B H = ntPlus A B H := by
  funext i
  revert i
  intro (i : (⟨2, ![4352, 2048]⟩ : Shape).Idx)
  idx_vars i
  pointwise [Cert.UpX0RefIdeal.Read.val_main_v5, Cert.UpX0RefIdeal.Read.val_main_v4, Cert.UpX0RefIdeal.Read.val_main_v3, Cert.UpX0RefIdeal.Read.val_main_v1]
  exact add_comm _ _

/-- The kernel runs and keeps its arguments; every counter ends at zero. -/
theorem frame_p : Cert.quiescent_UpX0 (hUpX0 := Cert.UpX0.Gen.facts) := fun m ρ _ => Cert.UpX0.Gen.frame m ρ

/-- So does its idealization. -/
theorem frame_pi : Cert.quiescent_UpX0Ideal (hUpX0Ideal := Cert.UpX0Ideal.Gen.facts) := fun m ρ _ => Cert.UpX0Ideal.Gen.frame m ρ

/-- So does the reference, which declares no semaphore. -/
theorem frame_r : Cert.quiescent_UpX0RefIdeal (hUpX0RefIdeal := Cert.UpX0RefIdeal.Gen.facts) := fun m ρ _ =>
  (θ_run Cert.UpX0RefIdeal.defs _ _).mono (fun r h => ⟨fun c => (h c).2, sem_eq_zero_of_no_sems (by decide) r.2⟩)
    (Cert.UpX0RefIdeal.Value.run (F := Ideal) m ρ)

/-- The kernel's result is the reference's, over the extended reals. -/
theorem algebraic : Cert.algebraic_UpX0Ideal_UpX0RefIdeal (hUpX0Ideal := Cert.UpX0Ideal.Gen.facts) (hUpX0RefIdeal := Cert.UpX0RefIdeal.Gen.facts) := by
  intro m g m' g' _ hag
  refine ⟨_, (θ_run defs _ _).mono (fun r h c => ⟨(h c).1.trans (final m c), (h c).2⟩) (Value.run_blocks m g),
    (θ_run Cert.UpX0RefIdeal.defs _ _).mono (fun r h c => ⟨(h c).1.trans ?_, (h c).2⟩) (Cert.UpX0RefIdeal.Value.run (F := Ideal) m' g')⟩
  rw [(hag c).1, (hag c).2.1, (hag c).2.2]
  exact reference (V m c main_arg0) (V m c main_arg1) (V m c main_arg2)

end Cert.UpX0Ideal.Mm

end
-- ==== Proof.Mm.OutX.lean ====
/- The gradient of the output projection's input. -/
module

public import proofs.«01_k».proof.Proof.Mm.Sum
public import proofs.«01_k».proof.Proof.Gen.OutXIdeal.Value
public import proofs.«01_k».proof.Proof.Gen.OutX.Frame
public import proofs.«01_k».proof.Proof.Gen.OutXRefIdeal.Read
public import proofs.«01_k».proof.Proof.Gen.OutXRefIdeal
public import proofs.«01_k».proof.Defs

@[expose] public section

set_option maxRecDepth 16384

noncomputable section

namespace Cert.OutXIdeal.Mm

open Cert.OutXIdeal Cert.OutXIdeal.Gen Cert.Mm Idealize.ShloMosaic Idealize.ShloMosaic.TcCoe Idealize.SL.Sem

variable (m : (ℓ : Loc nD τ sig) → Buf (Elt Ideal) ℓ) (ρ : Dev nD → PrngReg)

/-- The blocks a point reads and writes. -/
theorem index : ∀ t : Fin cfg0.N, (win0_0.index t 0 = win0_2.index t 0 ∧ win0_0.index t 1 = 0) ∧ win0_1.index t 0 = win0_2.index t 1 ∧ win0_1.index t 1 = 0 :=
  (by decide +kernel : ∀ t : Fin grid0.N, (win0_0.index t 0 = win0_2.index t 0 ∧ win0_0.index t 1 = 0) ∧ win0_1.index t 0 = win0_2.index t 1 ∧ win0_1.index t 1 = 0)

/-- A point's block of the product. -/
theorem part (x : Vec Ideal S1024x2048 .bf16) (w : Vec Ideal S1024x2048 .bf16) (a : Fin 1024) (b : Fin 1024) :
    k0_pay1 (F := Ideal) x w (ix2 a b) = ∑ k : Fin 2048, x (ix2 a k) * w (ix2 b k) := by
  pointwise [k0_pay1]

/-- The result array. -/
theorem final (c : Dev nD) : (dats m 0 c).arrAt 2 cfg0.N = nt (V m c main_arg0) (V m c main_arg1) := by
  refine (dats m 0 c).arrAt_eq_of_covers 2 _ (by decide +kernel) fun t hf y => ?_
  obtain ⟨⟨h0, h1⟩, h2, h3⟩ := index t
  blk_simp
  rw [after0_2]
  frame_out
  revert y
  intro (y : (⟨2, ![1024, 1024]⟩ : Shape).Idx)
  idx_vars y
  refine (part _ _ y0 y1).trans (Finset.sum_congr rfl fun k _ => congrArg₂ (· * ·) ?_ ?_)
  · blk_simp [iblk]
    refine congrArg (V m c main_arg0) ?_
    blk_ext [h0, h1]
  · blk_simp [iblk]
    refine congrArg (V m c main_arg1) ?_
    blk_ext [h2, h3]

/-- The reference's result is the same product. -/
theorem reference (A : Mat 4096 2048) (B : Mat 2048 2048) : Cert.OutXRefIdeal.Read.val_main_v6 (F := Ideal) A B = nt A B := by
  funext i
  revert i
  intro (i : (⟨2, ![4096, 2048]⟩ : Shape).Idx)
  idx_vars i
  pointwise [Cert.OutXRefIdeal.Read.val_main_v6, Cert.OutXRefIdeal.Read.val_main_v5, Cert.OutXRefIdeal.Read.val_main_v4, Cert.OutXRefIdeal.Read.val_main_v2]
  rfl

/-- The kernel runs and keeps its arguments; every counter ends at zero. -/
theorem frame_p : Cert.quiescent_OutX (hOutX := Cert.OutX.Gen.facts) := fun m ρ _ => Cert.OutX.Gen.frame m ρ

/-- So does its idealization. -/
theorem frame_pi : Cert.quiescent_OutXIdeal (hOutXIdeal := Cert.OutXIdeal.Gen.facts) := fun m ρ _ => Cert.OutXIdeal.Gen.frame m ρ

/-- So does the reference, which declares no semaphore. -/
theorem frame_r : Cert.quiescent_OutXRefIdeal (hOutXRefIdeal := Cert.OutXRefIdeal.Gen.facts) := fun m ρ _ =>
  (θ_run Cert.OutXRefIdeal.defs _ _).mono (fun r h => ⟨fun c => (h c).2, sem_eq_zero_of_no_sems (by decide) r.2⟩)
    (Cert.OutXRefIdeal.Value.run (F := Ideal) m ρ)

/-- The kernel's result is the reference's, over the extended reals. -/
theorem algebraic : Cert.algebraic_OutXIdeal_OutXRefIdeal (hOutXIdeal := Cert.OutXIdeal.Gen.facts) (hOutXRefIdeal := Cert.OutXRefIdeal.Gen.facts) := by
  intro m g m' g' _ hag
  refine ⟨_, (θ_run defs _ _).mono (fun r h c => ⟨(h c).1.trans (final m c), (h c).2⟩) (Value.run_blocks m g),
    (θ_run Cert.OutXRefIdeal.defs _ _).mono (fun r h c => ⟨(h c).1.trans ?_, (h c).2⟩) (Cert.OutXRefIdeal.Value.run (F := Ideal) m' g')⟩
  rw [(hag c).1, (hag c).2]
  exact reference (V m c main_arg0) (V m c main_arg1)

end Cert.OutXIdeal.Mm

end
-- ==== Proof.Mm.OutW.lean ====
/- The gradient of the output projection's weights, in the last layer, which keeps the latents' rows alone. -/
module

public import Idealize.ShloMosaic.Lib.Pipeline.ReadBack
public import proofs.«01_k».proof.Proof.Mm.Sum
public import proofs.«01_k».proof.Proof.Gen.OutWIdeal.Value
public import proofs.«01_k».proof.Proof.Gen.OutW.Frame
public import proofs.«01_k».proof.Proof.Gen.OutWRefIdeal.Read
public import proofs.«01_k».proof.Proof.Gen.OutWRefIdeal
public import proofs.«01_k».proof.Defs

@[expose] public section

set_option maxRecDepth 16384

noncomputable section

namespace Cert.OutWIdeal.Mm

open Cert.OutWIdeal Cert.OutWIdeal.Gen Cert.Mm Idealize.ShloMosaic Idealize.ShloMosaic.TcCoe Idealize.SL.Sem

variable (m : (ℓ : Loc nD τ sig) → Buf (Elt Ideal) ℓ) (ρ : Dev nD → PrngReg)

/-- The blocks a point reads and writes. -/
theorem index : ∀ t : Fin cfg0.N, (win0_0.index t 0 = t.val % 2 ∧ win0_0.index t 1 = t.val / 4) ∧ (win0_1.index t 0 = t.val % 2 ∧ win0_1.index t 1 = t.val / 2 % 2)
    ∧ win0_2.index t 0 = t.val / 4 ∧ win0_2.index t 1 = t.val / 2 % 2 :=
  (by decide +kernel : ∀ t : Fin grid0.N, (win0_0.index t 0 = t.val % 2 ∧ win0_0.index t 1 = t.val / 4) ∧ (win0_1.index t 0 = t.val % 2 ∧ win0_1.index t 1 = t.val / 2 % 2)
    ∧ win0_2.index t 0 = t.val / 4 ∧ win0_2.index t 1 = t.val / 2 % 2)

/-- A point's part of the product. -/
theorem part (x : Vec Ideal S2048x1024 .bf16) (w : Vec Ideal S2048x1024 .bf16) (a : Fin 1024) (b : Fin 1024) :
    k0_pay1 (F := Ideal) x w (ix2 a b) = ∑ k : Fin 2048, x (ix2 k a) * w (ix2 k b) := by
  pointwise [k0_pay1]

/-- What the first point of a run leaves for the next. -/
theorem first (x : Vec Ideal S2048x1024 .bf16) (w : Vec Ideal S2048x1024 .bf16) (a : Fin 1024) (b : Fin 1024) :
    k0_pay2 (F := Ideal) x w (ix2 a b) = ∑ k : Fin 2048, x (ix2 k a) * w (ix2 k b) := by
  unfold k0_pay2
  simp only [shapeCast_self]
  exact part x w a b

/-- What the last point stores, over what the one before left. -/
theorem last (x : Vec Ideal S2048x1024 .bf16) (w : Vec Ideal S2048x1024 .bf16) (v : Vec Ideal S1024x1024 .f32) (a : Fin 1024) (b : Fin 1024) (e f : EReal)
    (he : v (ix2 a b) = e) (hf : ∑ k : Fin 2048, x (ix2 k a) * w (ix2 k b) = f) : k0_pay4 (F := Ideal) x w v (ix2 a b) = e + f :=
  congrArg₂ (fun e f : EReal => e + f) he ((part x w a b).trans hf)

/-- The rows that the last layer keeps. -/
def kept (A : Mat 4352 2048) : Mat 4096 2048 := fun i => A (ix2 ⟨(i 0 : Fin 4096).val, Nat.lt_of_lt_of_le (i 0 : Fin 4096).isLt (by decide)⟩ (i 1 : Fin 2048))

/-- An entry of the block of the first operand, none of whose blocks reaches past the rows kept. -/
theorem read (c : Dev nD) (t : Fin cfg0.N) (k : Fin 2048) (y : Fin 1024) : X0_0 m c t (ix2 k y)
    = kept (V m c main_arg0) (ix2 ⟨win0_0.index t 0 * 2048 + k.val, by have := (index t).1.1; omega⟩ ⟨win0_0.index t 1 * 1024 + y.val, by have := (index t).1.2; have := t.isLt; have : cfg0.N = 8 := rfl; omega⟩) := by
  unfold X0_0 Pipeline.Window.fill
  rw [dif_pos (moved0_0 t _)]
  blk_simp [iblk]
  unfold kept
  refine congrArg (V m c main_arg0) ?_
  blk_ext

/-- The result array. -/
theorem final (c : Dev nD) : (dats m 0 c).arrAt 2 cfg0.N = tn (kept (V m c main_arg0)) (V m c main_arg1) := by
  refine (dats m 0 c).arrAt_eq_of_covers 2 _ (by decide +kernel) fun t hf y => ?_
  have ht := (flush0_2 t).mp hf
  have hlt : t.val - 1 < cfg0.N := Nat.lt_of_le_of_lt (Nat.sub_le _ _) t.isLt
  obtain ⟨⟨h0, h1⟩, ⟨h2, h3⟩, h4, h5⟩ := index t
  obtain ⟨⟨g0, g1⟩, ⟨g2, g3⟩, g4, g5⟩ := index ⟨t.val - 1, hlt⟩
  have hp : (outsAt0 m c (t.val - 1) hlt).2 = k0_pay2 (F := Ideal) (X0_0 m c ⟨t.val - 1, hlt⟩) (iblk m c 1 ⟨t.val - 1, hlt⟩) := by
    rw [outsAt0_A m c ⟨t.val - 1, hlt⟩ (show (t.val - 1) % 2 = 0 by omega) (show ¬ (t.val - 1) % 2 = 1 by omega)]
    frame_out
  blk_simp
  rw [after0_2, outsAt0_B m c t (by omega) ht]
  frame_out
  rw [hp, read_unread_whole]
  revert y
  intro (y : (⟨2, ![1024, 1024]⟩ : Shape).Idx)
  idx_vars y
  refine (last _ _ _ y0 y1 _ _ (first _ _ y0 y1) rfl).trans (tn_two rfl (fun k => (read m c _ k y0).trans ?_) (fun k => ?_) (fun k => (read m c _ k y0).trans ?_) fun k => ?_)
  · refine congrArg (kept (V m c main_arg0)) ?_
    blk_ext [g0, g1, h4]
  · blk_simp [iblk]
    refine congrArg (V m c main_arg1) ?_
    blk_ext [g2, g3, h5]
  · refine congrArg (kept (V m c main_arg0)) ?_
    blk_ext [h0, h1, h4]
  · blk_simp [iblk]
    refine congrArg (V m c main_arg1) ?_
    blk_ext [h2, h3, h5]

/-- The reference's result is the same product. -/
theorem reference (A : Mat 4352 2048) (B : Mat 4096 2048) : Cert.OutWRefIdeal.Read.val_main_v6 (F := Ideal) A B = tn (kept A) B := by
  funext i
  revert i
  intro (i : (⟨2, ![2048, 2048]⟩ : Shape).Idx)
  idx_vars i
  pointwise [Cert.OutWRefIdeal.Read.val_main_v6, Cert.OutWRefIdeal.Read.val_main_v5, Cert.OutWRefIdeal.Read.val_main_v4, Cert.OutWRefIdeal.Read.val_main_v2, Cert.OutWRefIdeal.Read.val_main_v1]
  exact Finset.sum_congr rfl fun k _ => mul_comm _ _

/-- The kernel runs and keeps its arguments; every counter ends at zero. -/
theorem frame_p : Cert.quiescent_OutW (hOutW := Cert.OutW.Gen.facts) := fun m ρ _ => Cert.OutW.Gen.frame m ρ

/-- So does its idealization. -/
theorem frame_pi : Cert.quiescent_OutWIdeal (hOutWIdeal := Cert.OutWIdeal.Gen.facts) := fun m ρ _ => Cert.OutWIdeal.Gen.frame m ρ

/-- So does the reference, which declares no semaphore. -/
theorem frame_r : Cert.quiescent_OutWRefIdeal (hOutWRefIdeal := Cert.OutWRefIdeal.Gen.facts) := fun m ρ _ =>
  (θ_run Cert.OutWRefIdeal.defs _ _).mono (fun r h => ⟨fun c => (h c).2, sem_eq_zero_of_no_sems (by decide) r.2⟩)
    (Cert.OutWRefIdeal.Value.run (F := Ideal) m ρ)

/-- The kernel's result is the reference's, over the extended reals. -/
theorem algebraic : Cert.algebraic_OutWIdeal_OutWRefIdeal (hOutWIdeal := Cert.OutWIdeal.Gen.facts) (hOutWRefIdeal := Cert.OutWRefIdeal.Gen.facts) := by
  intro m g m' g' _ hag
  refine ⟨_, (θ_run defs _ _).mono (fun r h c => ⟨(h c).1.trans (final m c), (h c).2⟩) (Value.run_blocks m g),
    (θ_run Cert.OutWRefIdeal.defs _ _).mono (fun r h c => ⟨(h c).1.trans ?_, (h c).2⟩) (Cert.OutWRefIdeal.Value.run (F := Ideal) m' g')⟩
  rw [(hag c).1, (hag c).2]
  exact reference (V m c main_arg0) (V m c main_arg1)

end Cert.OutWIdeal.Mm

end
-- ==== Proof.Mm.OutX0.lean ====
/- The gradient of the output projection's input, in the first layer. -/
module

public import proofs.«01_k».proof.Proof.Mm.Sum
public import proofs.«01_k».proof.Proof.Gen.OutX0Ideal.Value
public import proofs.«01_k».proof.Proof.Gen.OutX0.Frame
public import proofs.«01_k».proof.Proof.Gen.OutX0RefIdeal.Read
public import proofs.«01_k».proof.Proof.Gen.OutX0RefIdeal
public import proofs.«01_k».proof.Defs

@[expose] public section

set_option maxRecDepth 16384

noncomputable section

namespace Cert.OutX0Ideal.Mm

open Cert.OutX0Ideal Cert.OutX0Ideal.Gen Cert.Mm Idealize.ShloMosaic Idealize.ShloMosaic.TcCoe Idealize.SL.Sem

variable (m : (ℓ : Loc nD τ sig) → Buf (Elt Ideal) ℓ) (ρ : Dev nD → PrngReg)

/-- The blocks a point reads and writes. -/
theorem index : ∀ t : Fin cfg0.N, (win0_0.index t 0 = win0_2.index t 0 ∧ win0_0.index t 1 = 0) ∧ win0_1.index t 0 = win0_2.index t 1 ∧ win0_1.index t 1 = 0 :=
  (by decide +kernel : ∀ t : Fin grid0.N, (win0_0.index t 0 = win0_2.index t 0 ∧ win0_0.index t 1 = 0) ∧ win0_1.index t 0 = win0_2.index t 1 ∧ win0_1.index t 1 = 0)

/-- A point's block of the product. -/
theorem part (x : Vec Ideal S1088x2048 .bf16) (w : Vec Ideal S1024x2048 .bf16) (a : Fin 1088) (b : Fin 1024) :
    k0_pay1 (F := Ideal) x w (ix2 a b) = ∑ k : Fin 2048, x (ix2 a k) * w (ix2 b k) := by
  pointwise [k0_pay1]

/-- The result array. -/
theorem final (c : Dev nD) : (dats m 0 c).arrAt 2 cfg0.N = nt (V m c main_arg0) (V m c main_arg1) := by
  refine (dats m 0 c).arrAt_eq_of_covers 2 _ (by decide +kernel) fun t hf y => ?_
  obtain ⟨⟨h0, h1⟩, h2, h3⟩ := index t
  blk_simp
  rw [after0_2]
  frame_out
  revert y
  intro (y : (⟨2, ![1088, 1024]⟩ : Shape).Idx)
  idx_vars y
  refine (part _ _ y0 y1).trans (Finset.sum_congr rfl fun k _ => congrArg₂ (· * ·) ?_ ?_)
  · blk_simp [iblk]
    refine congrArg (V m c main_arg0) ?_
    blk_ext [h0, h1]
  · blk_simp [iblk]
    refine congrArg (V m c main_arg1) ?_
    blk_ext [h2, h3]

/-- The reference's result is the same product. -/
theorem reference (A : Mat 4352 2048) (B : Mat 2048 2048) : Cert.OutX0RefIdeal.Read.val_main_v6 (F := Ideal) A B = nt A B := by
  funext i
  revert i
  intro (i : (⟨2, ![4352, 2048]⟩ : Shape).Idx)
  idx_vars i
  pointwise [Cert.OutX0RefIdeal.Read.val_main_v6, Cert.OutX0RefIdeal.Read.val_main_v5, Cert.OutX0RefIdeal.Read.val_main_v4, Cert.OutX0RefIdeal.Read.val_main_v2]
  rfl

/-- The kernel runs and keeps its arguments; every counter ends at zero. -/
theorem frame_p : Cert.quiescent_OutX0 (hOutX0 := Cert.OutX0.Gen.facts) := fun m ρ _ => Cert.OutX0.Gen.frame m ρ

/-- So does its idealization. -/
theorem frame_pi : Cert.quiescent_OutX0Ideal (hOutX0Ideal := Cert.OutX0Ideal.Gen.facts) := fun m ρ _ => Cert.OutX0Ideal.Gen.frame m ρ

/-- So does the reference, which declares no semaphore. -/
theorem frame_r : Cert.quiescent_OutX0RefIdeal (hOutX0RefIdeal := Cert.OutX0RefIdeal.Gen.facts) := fun m ρ _ =>
  (θ_run Cert.OutX0RefIdeal.defs _ _).mono (fun r h => ⟨fun c => (h c).2, sem_eq_zero_of_no_sems (by decide) r.2⟩)
    (Cert.OutX0RefIdeal.Value.run (F := Ideal) m ρ)

/-- The kernel's result is the reference's, over the extended reals. -/
theorem algebraic : Cert.algebraic_OutX0Ideal_OutX0RefIdeal (hOutX0Ideal := Cert.OutX0Ideal.Gen.facts) (hOutX0RefIdeal := Cert.OutX0RefIdeal.Gen.facts) := by
  intro m g m' g' _ hag
  refine ⟨_, (θ_run defs _ _).mono (fun r h c => ⟨(h c).1.trans (final m c), (h c).2⟩) (Value.run_blocks m g),
    (θ_run Cert.OutX0RefIdeal.defs _ _).mono (fun r h c => ⟨(h c).1.trans ?_, (h c).2⟩) (Cert.OutX0RefIdeal.Value.run (F := Ideal) m' g')⟩
  rw [(hag c).1, (hag c).2]
  exact reference (V m c main_arg0) (V m c main_arg1)

end Cert.OutX0Ideal.Mm

end
-- ==== Proof.Mm.OutW0.lean ====
/- The gradient of the output projection's weights, in the first layer. -/
module

public import Idealize.ShloMosaic.Lib.Pipeline.ReadBack
public import proofs.«01_k».proof.Proof.Mm.Sum
public import proofs.«01_k».proof.Proof.Gen.OutW0Ideal.Value
public import proofs.«01_k».proof.Proof.Gen.OutW0.Frame
public import proofs.«01_k».proof.Proof.Gen.OutW0RefIdeal.Read
public import proofs.«01_k».proof.Proof.Gen.OutW0RefIdeal
public import proofs.«01_k».proof.Defs

@[expose] public section

set_option maxRecDepth 16384

noncomputable section

namespace Cert.OutW0Ideal.Mm

open Cert.OutW0Ideal Cert.OutW0Ideal.Gen Cert.Mm Idealize.ShloMosaic Idealize.ShloMosaic.TcCoe Idealize.SL.Sem

variable (m : (ℓ : Loc nD τ sig) → Buf (Elt Ideal) ℓ) (ρ : Dev nD → PrngReg)

/-- The blocks a point reads and writes. -/
theorem index : ∀ t : Fin cfg0.N, (win0_0.index t 0 = t.val % 2 ∧ win0_0.index t 1 = t.val / 4) ∧ (win0_1.index t 0 = t.val % 2 ∧ win0_1.index t 1 = t.val / 2 % 2)
    ∧ win0_2.index t 0 = t.val / 4 ∧ win0_2.index t 1 = t.val / 2 % 2 :=
  (by decide +kernel : ∀ t : Fin grid0.N, (win0_0.index t 0 = t.val % 2 ∧ win0_0.index t 1 = t.val / 4) ∧ (win0_1.index t 0 = t.val % 2 ∧ win0_1.index t 1 = t.val / 2 % 2)
    ∧ win0_2.index t 0 = t.val / 4 ∧ win0_2.index t 1 = t.val / 2 % 2)

/-- A point's part of the product. -/
theorem part (x : Vec Ideal S2176x1024 .bf16) (w : Vec Ideal S2176x1024 .bf16) (a : Fin 1024) (b : Fin 1024) :
    k0_pay1 (F := Ideal) x w (ix2 a b) = ∑ k : Fin 2176, x (ix2 k a) * w (ix2 k b) := by
  pointwise [k0_pay1]

/-- What the first point of a run leaves for the next. -/
theorem first (x : Vec Ideal S2176x1024 .bf16) (w : Vec Ideal S2176x1024 .bf16) (a : Fin 1024) (b : Fin 1024) :
    k0_pay2 (F := Ideal) x w (ix2 a b) = ∑ k : Fin 2176, x (ix2 k a) * w (ix2 k b) := by
  unfold k0_pay2
  simp only [shapeCast_self]
  exact part x w a b

/-- What the last point stores, over what the one before left. -/
theorem last (x : Vec Ideal S2176x1024 .bf16) (w : Vec Ideal S2176x1024 .bf16) (v : Vec Ideal S1024x1024 .f32) (a : Fin 1024) (b : Fin 1024) (e f : EReal)
    (he : v (ix2 a b) = e) (hf : ∑ k : Fin 2176, x (ix2 k a) * w (ix2 k b) = f) : k0_pay4 (F := Ideal) x w v (ix2 a b) = e + f :=
  congrArg₂ (fun e f : EReal => e + f) he ((part x w a b).trans hf)

/-- The result array. -/
theorem final (c : Dev nD) : (dats m 0 c).arrAt 2 cfg0.N = tn (V m c main_arg0) (V m c main_arg1) := by
  refine (dats m 0 c).arrAt_eq_of_covers 2 _ (by decide +kernel) fun t hf y => ?_
  have ht := (flush0_2 t).mp hf
  have hlt : t.val - 1 < cfg0.N := Nat.lt_of_le_of_lt (Nat.sub_le _ _) t.isLt
  obtain ⟨⟨h0, h1⟩, ⟨h2, h3⟩, h4, h5⟩ := index t
  obtain ⟨⟨g0, g1⟩, ⟨g2, g3⟩, g4, g5⟩ := index ⟨t.val - 1, hlt⟩
  have hp : (outsAt0 m c (t.val - 1) hlt).2 = k0_pay2 (F := Ideal) (iblk m c 0 ⟨t.val - 1, hlt⟩) (iblk m c 1 ⟨t.val - 1, hlt⟩) := by
    rw [outsAt0_A m c ⟨t.val - 1, hlt⟩ (show (t.val - 1) % 2 = 0 by omega) (show ¬ (t.val - 1) % 2 = 1 by omega)]
    frame_out
  blk_simp
  rw [after0_2, outsAt0_B m c t (by omega) ht]
  frame_out
  rw [hp, read_unread_whole]
  revert y
  intro (y : (⟨2, ![1024, 1024]⟩ : Shape).Idx)
  idx_vars y
  refine (last _ _ _ y0 y1 _ _ (first _ _ y0 y1) rfl).trans (tn_two rfl (fun k => ?_) (fun k => ?_) (fun k => ?_) fun k => ?_) <;> blk_simp [iblk] <;>
    refine congrArg (V m c _) ?_ <;> blk_ext [g0, g1, g2, g3, h0, h1, h2, h3, h4, h5]

/-- The reference's result is the same product. -/
theorem reference (A : Mat 4352 2048) (B : Mat 4352 2048) : Cert.OutW0RefIdeal.Read.val_main_v5 (F := Ideal) A B = tn A B := by
  funext i
  revert i
  intro (i : (⟨2, ![2048, 2048]⟩ : Shape).Idx)
  idx_vars i
  pointwise [Cert.OutW0RefIdeal.Read.val_main_v5, Cert.OutW0RefIdeal.Read.val_main_v4, Cert.OutW0RefIdeal.Read.val_main_v3, Cert.OutW0RefIdeal.Read.val_main_v1]
  exact Finset.sum_congr rfl fun k _ => mul_comm _ _

/-- The kernel runs and keeps its arguments; every counter ends at zero. -/
theorem frame_p : Cert.quiescent_OutW0 (hOutW0 := Cert.OutW0.Gen.facts) := fun m ρ _ => Cert.OutW0.Gen.frame m ρ

/-- So does its idealization. -/
theorem frame_pi : Cert.quiescent_OutW0Ideal (hOutW0Ideal := Cert.OutW0Ideal.Gen.facts) := fun m ρ _ => Cert.OutW0Ideal.Gen.frame m ρ

/-- So does the reference, which declares no semaphore. -/
theorem frame_r : Cert.quiescent_OutW0RefIdeal (hOutW0RefIdeal := Cert.OutW0RefIdeal.Gen.facts) := fun m ρ _ =>
  (θ_run Cert.OutW0RefIdeal.defs _ _).mono (fun r h => ⟨fun c => (h c).2, sem_eq_zero_of_no_sems (by decide) r.2⟩)
    (Cert.OutW0RefIdeal.Value.run (F := Ideal) m ρ)

/-- The kernel's result is the reference's, over the extended reals. -/
theorem algebraic : Cert.algebraic_OutW0Ideal_OutW0RefIdeal (hOutW0Ideal := Cert.OutW0Ideal.Gen.facts) (hOutW0RefIdeal := Cert.OutW0RefIdeal.Gen.facts) := by
  intro m g m' g' _ hag
  refine ⟨_, (θ_run defs _ _).mono (fun r h c => ⟨(h c).1.trans (final m c), (h c).2⟩) (Value.run_blocks m g),
    (θ_run Cert.OutW0RefIdeal.defs _ _).mono (fun r h c => ⟨(h c).1.trans ?_, (h c).2⟩) (Cert.OutW0RefIdeal.Value.run (F := Ideal) m' g')⟩
  rw [(hag c).1, (hag c).2]
  exact reference (V m c main_arg0) (V m c main_arg1)

end Cert.OutW0Ideal.Mm

end
-- ==== Proof.Mm.Down.lean ====
/- The second feed-forward product, in the last layer. -/
module

public import Idealize.ShloMosaic.Lib.Pipeline.ReadBack
public import proofs.«01_k».proof.Proof.Mm.Sum
public import proofs.«01_k».proof.Proof.Gen.DownIdeal.Value
public import proofs.«01_k».proof.Proof.Gen.Down.Frame
public import proofs.«01_k».proof.Proof.Gen.DownRefIdeal.Read
public import proofs.«01_k».proof.Proof.Gen.DownRefIdeal
public import proofs.«01_k».proof.Defs

@[expose] public section

set_option maxRecDepth 16384

noncomputable section

namespace Cert.DownIdeal.Mm

open Cert.DownIdeal Cert.DownIdeal.Gen Cert.Mm Idealize.ShloMosaic Idealize.ShloMosaic.TcCoe Idealize.SL.Sem

variable (m : (ℓ : Loc nD τ sig) → Buf (Elt Ideal) ℓ) (ρ : Dev nD → PrngReg)

/-- The blocks a poinn reads and writes. -/
theorem index : ∀ t : Fin cfg0.N, (win0_0.index t 0 = t.val / 4 ∧ win0_0.index t 1 = t.val % 2) ∧ (win0_1.index t 0 = t.val % 2 ∧ win0_1.index t 1 = t.val / 2 % 2)
    ∧ win0_2.index t 0 = t.val / 4 ∧ win0_2.index t 1 = t.val / 2 % 2 :=
  (by decide +kernel : ∀ t : Fin grid0.N, (win0_0.index t 0 = t.val / 4 ∧ win0_0.index t 1 = t.val % 2) ∧ (win0_1.index t 0 = t.val % 2 ∧ win0_1.index t 1 = t.val / 2 % 2)
    ∧ win0_2.index t 0 = t.val / 4 ∧ win0_2.index t 1 = t.val / 2 % 2)

/-- A point's part of the product. -/
theorem part (x : Vec Ideal S1024x2816 .bf16) (w : Vec Ideal S2816x1024 .bf16) (a : Fin 1024) (b : Fin 1024) :
    k0_pay1 (F := Ideal) x w (ix2 a b) = ∑ k : Fin 2816, x (ix2 a k) * w (ix2 k b) := by
  pointwise [k0_pay1]

/-- What the first poinn of a run leaves for the next. -/
theorem first (x : Vec Ideal S1024x2816 .bf16) (w : Vec Ideal S2816x1024 .bf16) (a : Fin 1024) (b : Fin 1024) :
    k0_pay2 (F := Ideal) x w (ix2 a b) = ∑ k : Fin 2816, x (ix2 a k) * w (ix2 k b) := by
  unfold k0_pay2
  simp only [shapeCast_self]
  exact part x w a b

/-- What the last poinn stores, over what the one before left. -/
theorem last (x : Vec Ideal S1024x2816 .bf16) (w : Vec Ideal S2816x1024 .bf16) (v : Vec Ideal S1024x1024 .f32) (a : Fin 1024) (b : Fin 1024) (e f : EReal)
    (he : v (ix2 a b) = e) (hf : ∑ k : Fin 2816, x (ix2 a k) * w (ix2 k b) = f) : k0_pay4 (F := Ideal) x w v (ix2 a b) = e + f :=
  congrArg₂ (fun e f : EReal => e + f) he ((part x w a b).trans hf)

/-- The result array. -/
theorem final (c : Dev nD) : (dats m 0 c).arrAt 2 cfg0.N = nn (V m c main_arg0) (V m c main_arg1) := by
  refine (dats m 0 c).arrAt_eq_of_covers 2 _ (by decide +kernel) fun t hf y => ?_
  have ht := (flush0_2 t).mp hf
  have hlt : t.val - 1 < cfg0.N := Nat.lt_of_le_of_lt (Nat.sub_le _ _) t.isLt
  obtain ⟨⟨h0, h1⟩, ⟨h2, h3⟩, h4, h5⟩ := index t
  obtain ⟨⟨g0, g1⟩, ⟨g2, g3⟩, g4, g5⟩ := index ⟨t.val - 1, hlt⟩
  have hp : (outsAt0 m c (t.val - 1) hlt).2 = k0_pay2 (F := Ideal) (iblk m c 0 ⟨t.val - 1, hlt⟩) (iblk m c 1 ⟨t.val - 1, hlt⟩) := by
    rw [outsAt0_A m c ⟨t.val - 1, hlt⟩ (show (t.val - 1) % 2 = 0 by omega) (show ¬ (t.val - 1) % 2 = 1 by omega)]
    frame_out
  blk_simp
  rw [after0_2, outsAt0_B m c t (by omega) ht]
  frame_out
  rw [hp, read_unread_whole]
  revert y
  intro (y : (⟨2, ![1024, 1024]⟩ : Shape).Idx)
  idx_vars y
  refine (last _ _ _ y0 y1 _ _ (first _ _ y0 y1) rfl).trans (nn_two rfl (fun k => ?_) (fun k => ?_) (fun k => ?_) fun k => ?_) <;> blk_simp [iblk] <;>
    refine congrArg (V m c _) ?_ <;> blk_ext [g0, g1, g2, g3, h0, h1, h2, h3, h4, h5]

/-- The reference's result is the same product. -/
theorem reference (A : Mat 4096 5632) (B : Mat 5632 2048) : Cert.DownRefIdeal.Read.val_main_v2 (F := Ideal) A B = nn A B := by
  funext i
  revert i
  intro (i : (⟨2, ![4096, 2048]⟩ : Shape).Idx)
  idx_vars i
  pointwise [Cert.DownRefIdeal.Read.val_main_v2, Cert.DownRefIdeal.Read.val_main_v1, Cert.DownRefIdeal.Read.val_main_v0]
  rfl

/-- The kernel runs and keeps its arguments; every counter ends at zero. -/
theorem frame_p : Cert.quiescent_Down (hDown := Cert.Down.Gen.facts) := fun m ρ _ => Cert.Down.Gen.frame m ρ

/-- So does its idealization. -/
theorem frame_pi : Cert.quiescent_DownIdeal (hDownIdeal := Cert.DownIdeal.Gen.facts) := fun m ρ _ => Cert.DownIdeal.Gen.frame m ρ

/-- So does the reference, which declares no semaphore. -/
theorem frame_r : Cert.quiescent_DownRefIdeal (hDownRefIdeal := Cert.DownRefIdeal.Gen.facts) := fun m ρ _ =>
  (θ_run Cert.DownRefIdeal.defs _ _).mono (fun r h => ⟨fun c => (h c).2, sem_eq_zero_of_no_sems (by decide) r.2⟩)
    (Cert.DownRefIdeal.Value.run (F := Ideal) m ρ)

/-- The kernel's result is the reference's, over the extended reals. -/
theorem algebraic : Cert.algebraic_DownIdeal_DownRefIdeal (hDownIdeal := Cert.DownIdeal.Gen.facts) (hDownRefIdeal := Cert.DownRefIdeal.Gen.facts) := by
  intro m g m' g' _ hag
  refine ⟨_, (θ_run defs _ _).mono (fun r h c => ⟨(h c).1.trans (final m c), (h c).2⟩) (Value.run_blocks m g),
    (θ_run Cert.DownRefIdeal.defs _ _).mono (fun r h c => ⟨(h c).1.trans ?_, (h c).2⟩) (Cert.DownRefIdeal.Value.run (F := Ideal) m' g')⟩
  rw [(hag c).1, (hag c).2]
  exact reference (V m c main_arg0) (V m c main_arg1)

end Cert.DownIdeal.Mm

end
-- ==== Proof.Mm.Rows.lean ====
/- The rows beside a row in the convolution over the sequence, and the comparisons by which a block decides them. -/
module

public import proofs.«01_k».proof.Proof.Mm.Sum

@[expose] public section

noncomputable section

namespace Cert.Rows

open Cert.Mm Idealize.ShloMosaic

/-- The row before `r`, zero at the start of a sequence. -/
def above {T F : ℕ} (X : Mat T F) (r : Fin T) (j : Fin F) : EReal :=
  if r.val = 0 ∨ r.val = 4096 then 0 else X (ix2 ⟨r.val - 1, by omega⟩ j)

/-- The row after `r`, zero at the end of a sequence. -/
def below {T F : ℕ} (X : Mat T F) (r : Fin T) (j : Fin F) : EReal :=
  if h : r.val + 1 = 4096 ∨ r.val + 1 = T then 0 else X (ix2 ⟨r.val + 1, by omega⟩ j)

/-- The transpose of the three-tap convolution with weights `W`. -/
def across {T F : ℕ} (X : Mat T F) (W : Mat 3 F) : Mat T F := fun i =>
  below X (i 0) (i 1) * W (ix2 0 (i 1)) + X (ix2 (i 0) (i 1)) * W (ix2 1 (i 1)) + above X (i 0) (i 1) * W (ix2 2 (i 1))

/-- A sum of three terms read from its end. -/
theorem turn (x y z : EReal) : x + y + z = z + y + x := by
  rw [add_comm x y, add_comm (y + x) z, ← add_assoc]

/-- Whether a row is a block's first. -/
theorem first (a : Fin 256) (u v : EReal) :
    Scalar.select (IntOp.cmpi .eq (BitVec.ofNat 32 a.val) 0#32) u v = if a.val = 0 then u else v := by
  have h : ∀ a : Fin 256, IntOp.cmpi .eq (BitVec.ofNat 32 a.val) 0#32 = if a.val = 0 then 1#1 else 0#1 := by decide +kernel
  rw [h]
  split <;> rfl

/-- Whether a row is a block's last. -/
theorem last (a : Fin 256) (u v : EReal) :
    Scalar.select (IntOp.cmpi .eq (BitVec.ofNat 32 a.val) 255#32) u v = if a.val = 255 then u else v := by
  have h : ∀ a : Fin 256, IntOp.cmpi .eq (BitVec.ofNat 32 a.val) 255#32 = if a.val = 255 then 1#1 else 0#1 := by decide +kernel
  rw [h]
  split <;> rfl

/-- Whether block `n` begins a sequence. -/
theorem opens (n : ℕ) (hn : n < 17) (u v : EReal) :
    Scalar.select (Scalar.ori (Scalar.cmpi .eq (Scalar.muli (BitVec.ofNat 32 n) 256#32) 0#32)
      (Scalar.cmpi .eq (Scalar.muli (BitVec.ofNat 32 n) 256#32) 4096#32)) u v = if n = 0 ∨ n = 16 then u else v := by
  have h : ∀ n : Fin 17, Scalar.ori (Scalar.cmpi .eq (Scalar.muli (BitVec.ofNat 32 n.val) 256#32) 0#32)
      (Scalar.cmpi .eq (Scalar.muli (BitVec.ofNat 32 n.val) 256#32) 4096#32) = if n.val = 0 ∨ n.val = 16 then 1#1 else 0#1 := by
    decide +kernel
  rw [h ⟨n, hn⟩]
  dsimp only
  split <;> rfl

/-- Whether block `n` ends the one sequence of 4096 rows. -/
theorem closes (n : ℕ) (hn : n < 17) (u v : EReal) :
    Scalar.select (Scalar.ori (Scalar.cmpi .eq (Scalar.addi (Scalar.muli (BitVec.ofNat 32 n) 256#32) 256#32) 4096#32)
      (Scalar.cmpi .eq (Scalar.addi (Scalar.muli (BitVec.ofNat 32 n) 256#32) 256#32) 4096#32)) u v = if n = 15 then u else v := by
  have h : ∀ n : Fin 17, Scalar.ori (Scalar.cmpi .eq (Scalar.addi (Scalar.muli (BitVec.ofNat 32 n.val) 256#32) 256#32) 4096#32)
      (Scalar.cmpi .eq (Scalar.addi (Scalar.muli (BitVec.ofNat 32 n.val) 256#32) 256#32) 4096#32) = if n.val = 15 then 1#1 else 0#1 := by
    decide +kernel
  rw [h ⟨n, hn⟩]
  dsimp only
  split <;> rfl

/-- Whether block `n` ends either of the two sequences, of 4096 and of 256 rows. -/
theorem closes_two (n : ℕ) (hn : n < 17) (u v : EReal) :
    Scalar.select (Scalar.ori (Scalar.cmpi .eq (Scalar.addi (Scalar.muli (BitVec.ofNat 32 n) 256#32) 256#32) 4096#32)
      (Scalar.cmpi .eq (Scalar.addi (Scalar.muli (BitVec.ofNat 32 n) 256#32) 256#32) 4352#32)) u v = if n = 15 ∨ n = 16 then u else v := by
  have h : ∀ n : Fin 17, Scalar.ori (Scalar.cmpi .eq (Scalar.addi (Scalar.muli (BitVec.ofNat 32 n.val) 256#32) 256#32) 4096#32)
      (Scalar.cmpi .eq (Scalar.addi (Scalar.muli (BitVec.ofNat 32 n.val) 256#32) 256#32) 4352#32) =
        if n.val = 15 ∨ n.val = 16 then 1#1 else 0#1 := by
    decide +kernel
  rw [h ⟨n, hn⟩]
  dsimp only
  split <;> rfl

end Cert.Rows

end
-- ==== Proof.Mm.Conv.lean ====
/- The gradient of the gate's convolution with respect to its operand, in the last layer. -/
module

public import Idealize.ShloMosaic.Lib.Pipeline.ReadBack
public import proofs.«01_k».proof.Proof.Mm.Rows
public import proofs.«01_k».proof.Proof.Gen.ConvIdeal.Value
public import proofs.«01_k».proof.Proof.Gen.Conv.Frame
public import proofs.«01_k».proof.Proof.Gen.ConvRefIdeal.Read
public import proofs.«01_k».proof.Proof.Gen.ConvRefIdeal
public import proofs.«01_k».proof.Defs

@[expose] public section

set_option maxRecDepth 16384

noncomputable section

namespace Cert.ConvIdeal.Mm

open Cert.ConvIdeal Cert.ConvIdeal.Gen Cert.Mm Cert.Rows Idealize.ShloMosaic Idealize.ShloMosaic.TcCoe Idealize.SL.Sem

variable (m : (ℓ : Loc nD τ sig) → Buf (Elt Ideal) ℓ) (ρ : Dev nD → PrngReg)

/-- The row before. -/
theorem before (i : grid0.Coords) (x : Vec Ideal S256x1408 .f32) (p : Vec Ideal S8x1408 .f32) (a : Fin 256) (b : Fin 1408) :
    k0_pay2 (F := Ideal) i x p (ix2 a b) =
      if a.val = 0 then (if (i 1).val = 0 ∨ (i 1).val = 16 then 0 else p (ix2 7 b)) else x (ix2 ⟨a.val - 1, by omega⟩ b) := by
  have h : (i 1).val < 17 := lt_trans (i 1).isLt (by decide)
  pointwise [k0_pay2]
  rw [first, opens _ h]
  split
  · rfl
  · refine congrArg x ?_
    blk_ext [] <;> omega

/-- The row after, by its weight. -/
theorem after (i : grid0.Coords) (x : Vec Ideal S256x1408 .f32) (p : Vec Ideal S8x1408 .f32) (w : Vec Ideal S1x1408 .f32) (a : Fin 256) (b : Fin 1408) :
    k0_pay3 (F := Ideal) i x p w (ix2 a b) =
      (if h : a.val = 255 then (if (i 1).val = 15 then 0 else p (ix2 0 b)) else x (ix2 ⟨a.val + 1, by omega⟩ b)) * w (ix2 0 b) := by
  have h : (i 1).val < 17 := lt_trans (i 1).isLt (by decide)
  pointwise [k0_pay3]
  rw [last, closes _ h]
  refine congrArg (· * w (ix2 0 b)) ?_
  split
  · rfl
  · refine congrArg x ?_
    blk_ext [] <;> omega

/-- A point's block of the convolution. -/
theorem all (x y z : Vec Ideal S256x1408 .f32) (w w' : Vec Ideal S1x1408 .f32) (a : Fin 256) (b : Fin 1408) :
    k0_pay1 (F := Ideal) x y z w w' (ix2 a b) = z (ix2 a b) + x (ix2 a b) * w (ix2 0 b) + y (ix2 a b) * w' (ix2 0 b) := by
  pointwise [k0_pay1]

/-- The rows of a weight block. -/
theorem taps (X : Vec Ideal S3x1408 .f32) (b : Fin 1408) : View.ld X r0_2 (ix2 0 b) = X (ix2 0 b) ∧ View.ld X r0_3 (ix2 0 b) = X (ix2 1 b) ∧
    View.ld X r0_4 (ix2 0 b) = X (ix2 2 b) := by
  refine ⟨?_, ?_, ?_⟩ <;>
    exact View.ld_unit_apply_of X _ _ _ _ _ (Fin.forall_fin_two.mpr ⟨rfl, (Nat.zero_add _).symm⟩)

/-- A point's row block, and the block of the operand it reads. -/
theorem index : ∀ t : Fin cfg0.N, ((grid0.coords t 1).val = win0_4.index t 0 ∧ win0_4.index t 0 < 16 ∧ win0_0.index t 0 = win0_4.index t 0 ∧ win0_0.index t 1 = win0_4.index t 1) :=
  (by decide +kernel : ∀ t : Fin grid0.N, ((grid0.coords t 1).val = win0_4.index t 0 ∧ win0_4.index t 0 < 16 ∧ win0_0.index t 0 = win0_4.index t 0 ∧ win0_0.index t 1 = win0_4.index t 1))

/-- The rows beside a point's block, and its weights. -/
theorem ends : ∀ t : Fin cfg0.N, (win0_1.index t 0 = win0_4.index t 0 * 32 - 1 ∧ win0_1.index t 1 = win0_4.index t 1) ∧
   (win0_2.index t 0 = min (win0_4.index t 0 * 32 + 32) 511 ∧ win0_2.index t 1 = win0_4.index t 1) ∧ win0_3.index t 0 = 0 ∧ win0_3.index t 1 = win0_4.index t 1 :=
  (by decide +kernel : ∀ t : Fin grid0.N, (win0_1.index t 0 = win0_4.index t 0 * 32 - 1 ∧ win0_1.index t 1 = win0_4.index t 1) ∧
   (win0_2.index t 0 = min (win0_4.index t 0 * 32 + 32) 511 ∧ win0_2.index t 1 = win0_4.index t 1) ∧ win0_3.index t 0 = 0 ∧ win0_3.index t 1 = win0_4.index t 1)

/-- The result array. -/
theorem final (c : Dev nD) : (dats m 0 c).arrAt 4 cfg0.N = across (V m c main_arg0) (V m c main_arg1) := by
  refine (dats m 0 c).arrAt_eq_of_covers 4 _ (by decide +kernel) fun t hf y => ?_
  obtain ⟨g, hg, h0, h1⟩ := index t
  obtain ⟨⟨h2, h3⟩, ⟨h4, h5⟩, h6, h7⟩ := ends t
  blk_simp
  rw [after0_4]
  frame_out
  revert y
  intro (y : (⟨2, ![256, 1408]⟩ : Shape).Idx)
  idx_vars y
  rw [all, before, after, (taps _ _).1, (taps _ _).2.1, (taps _ _).2.2]
  unfold across above below
  refine congrArg₂ (· + ·) (congrArg₂ (· + ·) (congrArg₂ (· * ·) ?_ ?_) (congrArg₂ (· * ·) ?_ ?_)) (congrArg₂ (· * ·) ?_ ?_)
  all_goals blk_simp [iblk]
  · rw [g]
    split
    · split
      · rw [dif_pos (by omega)]
      · rw [dif_neg (by omega)]
        refine congrArg (V m c main_arg0) ?_
        blk_ext [h4, h5] <;> omega
    · rw [dif_neg (by omega)]
      refine congrArg (V m c main_arg0) ?_
      blk_ext [h0, h1] <;> omega
  · refine congrArg (V m c main_arg1) ?_
    blk_ext [h6, h7]
  · refine congrArg (V m c main_arg0) ?_
    blk_ext [h0, h1]
  · refine congrArg (V m c main_arg1) ?_
    blk_ext [h6, h7]
  · rw [g]
    split
    · split
      · rw [if_pos (by omega)]
      · rw [if_neg (by omega)]
        refine congrArg (V m c main_arg0) ?_
        blk_ext [h2, h3] <;> omega
    · rw [if_neg (by omega)]
      refine congrArg (V m c main_arg0) ?_
      blk_ext [h0, h1] <;> omega
  · refine congrArg (V m c main_arg1) ?_
    blk_ext [h6, h7]

/-- The reference's result is the same convolution. -/
theorem reference (A : Mat 4096 5632) (B : Mat 3 5632) : Cert.ConvRefIdeal.Read.val_main_v45 (F := Ideal) A B = across A B := by
  funext i
  revert i
  intro (i : (⟨2, ![4096, 5632]⟩ : Shape).Idx)
  idx_vars i
  simp only [across, above, below]
  pointwise [Cert.ConvRefIdeal.Read.val_main_v30, Cert.ConvRefIdeal.Read.val_main_v22, Cert.ConvRefIdeal.Read.val_main_v21, Cert.ConvRefIdeal.Read.val_main_v20, Cert.ConvRefIdeal.Read.val_main_v34, Cert.ConvRefIdeal.Read.val_main_v33, Cert.ConvRefIdeal.Read.val_main_v38, Cert.ConvRefIdeal.Read.val_main_v37, Cert.ConvRefIdeal.Read.val_main_v15, Cert.ConvRefIdeal.Read.val_main_v9, Cert.ConvRefIdeal.Read.val_main_v14, Cert.ConvRefIdeal.Read.val_main_v8, Cert.ConvRefIdeal.Read.val_main_v13, Cert.ConvRefIdeal.Read.val_main_v7, Cert.ConvRefIdeal.Read.val_main_cst_4, Cert.ConvRefIdeal.Read.val_main_cst_5, Cert.ConvRefIdeal.Read.val_main_cst_6, Cert.ConvRefIdeal.Read.val_main_v32, Cert.ConvRefIdeal.Read.val_main_v35, Cert.ConvRefIdeal.Read.val_main_v39, Cert.ConvRefIdeal.Read.val_main_v31, Cert.ConvRefIdeal.Read.val_main_v29, Cert.ConvRefIdeal.Read.val_main_v45, Cert.ConvRefIdeal.Read.val_main_v44, Cert.ConvRefIdeal.Read.val_main_v42, Cert.ConvRefIdeal.Read.val_main_v40, Cert.ConvRefIdeal.Read.val_main_v36]
  rw [turn]
  refine congrArg₂ (· + ·) (congrArg₂ (· + ·) ?_ rfl) ?_
  · split
    · rw [dif_neg (by omega)]
      refine congrArg₂ (· * ·) (congrArg A ?_) rfl
      blk_ext [] <;> omega
    · rw [dif_pos (by omega), zero_mul]
  · split
    · rw [if_neg (by omega)]
      refine congrArg₂ (· * ·) (congrArg A ?_) rfl
      blk_ext [] <;> omega
    · rw [if_pos (by omega), zero_mul]

/-- The kernel runs and keeps its arguments; every counter ends at zero. -/
theorem frame_p : Cert.quiescent_Conv (hConv := Cert.Conv.Gen.facts) := fun m ρ _ => Cert.Conv.Gen.frame m ρ

/-- So does its idealization. -/
theorem frame_pi : Cert.quiescent_ConvIdeal (hConvIdeal := Cert.ConvIdeal.Gen.facts) := fun m ρ _ => Cert.ConvIdeal.Gen.frame m ρ

/-- So does the reference, which declares no semaphore. -/
theorem frame_r : Cert.quiescent_ConvRefIdeal (hConvRefIdeal := Cert.ConvRefIdeal.Gen.facts) := fun m ρ _ =>
  (θ_run Cert.ConvRefIdeal.defs _ _).mono (fun r h => ⟨fun c => (h c).2, sem_eq_zero_of_no_sems (by decide) r.2⟩)
    (Cert.ConvRefIdeal.Value.run (F := Ideal) m ρ)

/-- The kernel's result is the reference's, over the extended reals. -/
theorem algebraic : Cert.algebraic_ConvIdeal_ConvRefIdeal (hConvIdeal := Cert.ConvIdeal.Gen.facts) (hConvRefIdeal := Cert.ConvRefIdeal.Gen.facts) := by
  intro m g m' g' _ hag
  refine ⟨_, (θ_run defs _ _).mono (fun r h c => ⟨(h c).1.trans (final m c), (h c).2⟩) (Value.run_blocks m g),
    (θ_run Cert.ConvRefIdeal.defs _ _).mono (fun r h c => ⟨(h c).1.trans ?_, (h c).2⟩) (Cert.ConvRefIdeal.Value.run (F := Ideal) m' g')⟩
  rw [(hag c).1, (hag c).2]
  exact reference (V m c main_arg0) (V m c main_arg1)

end Cert.ConvIdeal.Mm

end
-- ==== Proof.Mm.Conv0.lean ====
/- The gradient of the gate's convolution with respect to its operand, in the first layer, over its two sequences. -/
module

public import Idealize.ShloMosaic.Lib.Pipeline.ReadBack
public import proofs.«01_k».proof.Proof.Mm.Rows
public import proofs.«01_k».proof.Proof.Gen.Conv0Ideal.Value
public import proofs.«01_k».proof.Proof.Gen.Conv0.Frame
public import proofs.«01_k».proof.Proof.Gen.Conv0RefIdeal.Read
public import proofs.«01_k».proof.Proof.Gen.Conv0RefIdeal
public import proofs.«01_k».proof.Defs

@[expose] public section

set_option maxRecDepth 16384

noncomputable section

namespace Cert.Conv0Ideal.Mm

open Cert.Conv0Ideal Cert.Conv0Ideal.Gen Cert.Mm Cert.Rows Idealize.ShloMosaic Idealize.ShloMosaic.TcCoe Idealize.SL.Sem

variable (m : (ℓ : Loc nD τ sig) → Buf (Elt Ideal) ℓ) (ρ : Dev nD → PrngReg)

/-- The row before. -/
theorem before (i : grid0.Coords) (x : Vec Ideal S256x1408 .f32) (p : Vec Ideal S8x1408 .f32) (a : Fin 256) (b : Fin 1408) :
    k0_pay2 (F := Ideal) i x p (ix2 a b) =
      if a.val = 0 then (if (i 1).val = 0 ∨ (i 1).val = 16 then 0 else p (ix2 7 b)) else x (ix2 ⟨a.val - 1, by omega⟩ b) := by
  have h : (i 1).val < 17 := (i 1).isLt.trans_le (by decide)
  pointwise [k0_pay2]
  rw [first, opens _ h]
  split
  · rfl
  · refine congrArg x ?_
    blk_ext [] <;> omega

/-- The row after, by its weight. -/
theorem after (i : grid0.Coords) (x : Vec Ideal S256x1408 .f32) (p : Vec Ideal S8x1408 .f32) (w : Vec Ideal S1x1408 .f32) (a : Fin 256) (b : Fin 1408) :
    k0_pay3 (F := Ideal) i x p w (ix2 a b) =
      (if h : a.val = 255 then (if (i 1).val = 15 ∨ (i 1).val = 16 then 0 else p (ix2 0 b)) else x (ix2 ⟨a.val + 1, by omega⟩ b)) * w (ix2 0 b) := by
  have h : (i 1).val < 17 := (i 1).isLt.trans_le (by decide)
  pointwise [k0_pay3]
  rw [last, closes_two _ h]
  refine congrArg (· * w (ix2 0 b)) ?_
  split
  · rfl
  · refine congrArg x ?_
    blk_ext [] <;> omega

/-- A point's block of the convolution. -/
theorem all (x y z : Vec Ideal S256x1408 .f32) (w w' : Vec Ideal S1x1408 .f32) (a : Fin 256) (b : Fin 1408) :
    k0_pay1 (F := Ideal) x y z w w' (ix2 a b) = z (ix2 a b) + x (ix2 a b) * w (ix2 0 b) + y (ix2 a b) * w' (ix2 0 b) := by
  pointwise [k0_pay1]

/-- The rows of a weight block. -/
theorem taps (X : Vec Ideal S3x1408 .f32) (b : Fin 1408) : View.ld X r0_2 (ix2 0 b) = X (ix2 0 b) ∧ View.ld X r0_3 (ix2 0 b) = X (ix2 1 b) ∧
    View.ld X r0_4 (ix2 0 b) = X (ix2 2 b) := by
  refine ⟨?_, ?_, ?_⟩ <;>
    exact View.ld_unit_apply_of X _ _ _ _ _ (Fin.forall_fin_two.mpr ⟨rfl, (Nat.zero_add _).symm⟩)

/-- A point's row block, and the block of the operand it reads. -/
theorem index : ∀ t : Fin cfg0.N, ((grid0.coords t 1).val = win0_4.index t 0 ∧ win0_4.index t 0 < 17 ∧ win0_0.index t 0 = win0_4.index t 0 ∧ win0_0.index t 1 = win0_4.index t 1) :=
  (by decide +kernel : ∀ t : Fin grid0.N, ((grid0.coords t 1).val = win0_4.index t 0 ∧ win0_4.index t 0 < 17 ∧ win0_0.index t 0 = win0_4.index t 0 ∧ win0_0.index t 1 = win0_4.index t 1))

/-- The rows beside a point's block, and its weights. -/
theorem ends : ∀ t : Fin cfg0.N, (win0_1.index t 0 = win0_4.index t 0 * 32 - 1 ∧ win0_1.index t 1 = win0_4.index t 1) ∧
   (win0_2.index t 0 = min (win0_4.index t 0 * 32 + 32) 543 ∧ win0_2.index t 1 = win0_4.index t 1) ∧ win0_3.index t 0 = 0 ∧ win0_3.index t 1 = win0_4.index t 1 :=
  (by decide +kernel : ∀ t : Fin grid0.N, (win0_1.index t 0 = win0_4.index t 0 * 32 - 1 ∧ win0_1.index t 1 = win0_4.index t 1) ∧
   (win0_2.index t 0 = min (win0_4.index t 0 * 32 + 32) 543 ∧ win0_2.index t 1 = win0_4.index t 1) ∧ win0_3.index t 0 = 0 ∧ win0_3.index t 1 = win0_4.index t 1)

/-- The result array. -/
theorem final (c : Dev nD) : (dats m 0 c).arrAt 4 cfg0.N = across (V m c main_arg0) (V m c main_arg1) := by
  refine (dats m 0 c).arrAt_eq_of_covers 4 _ (by decide +kernel) fun t hf y => ?_
  obtain ⟨g, hg, h0, h1⟩ := index t
  obtain ⟨⟨h2, h3⟩, ⟨h4, h5⟩, h6, h7⟩ := ends t
  blk_simp
  rw [after0_4]
  frame_out
  revert y
  intro (y : (⟨2, ![256, 1408]⟩ : Shape).Idx)
  idx_vars y
  rw [all, before, after, (taps _ _).1, (taps _ _).2.1, (taps _ _).2.2]
  unfold across above below
  refine congrArg₂ (· + ·) (congrArg₂ (· + ·) (congrArg₂ (· * ·) ?_ ?_) (congrArg₂ (· * ·) ?_ ?_)) (congrArg₂ (· * ·) ?_ ?_)
  all_goals blk_simp [iblk]
  · rw [g]
    split
    · split
      · rw [dif_pos (by omega)]
      · rw [dif_neg (by omega)]
        refine congrArg (V m c main_arg0) ?_
        blk_ext [h4, h5] <;> omega
    · rw [dif_neg (by omega)]
      refine congrArg (V m c main_arg0) ?_
      blk_ext [h0, h1] <;> omega
  · refine congrArg (V m c main_arg1) ?_
    blk_ext [h6, h7]
  · refine congrArg (V m c main_arg0) ?_
    blk_ext [h0, h1]
  · refine congrArg (V m c main_arg1) ?_
    blk_ext [h6, h7]
  · rw [g]
    split
    · split
      · rw [if_pos (by omega)]
      · rw [if_neg (by omega)]
        refine congrArg (V m c main_arg0) ?_
        blk_ext [h2, h3] <;> omega
    · rw [if_neg (by omega)]
      refine congrArg (V m c main_arg0) ?_
      blk_ext [h0, h1] <;> omega
  · refine congrArg (V m c main_arg1) ?_
    blk_ext [h6, h7]

/-- The reference's first sequence. -/
theorem latents (A : Mat 4352 5632) (B : Mat 3 5632) (r : Fin 4096) (j : Fin 5632) :
    Cert.Conv0RefIdeal.Read.val_main_v46 (F := Ideal) A B (ix2 r j) = across A B (ix2 ⟨r.val, by omega⟩ j) := by
  simp only [across, above, below]
  pointwise [Cert.Conv0RefIdeal.Read.val_main_cst_4, Cert.Conv0RefIdeal.Read.val_main_cst_6, Cert.Conv0RefIdeal.Read.val_main_v0, Cert.Conv0RefIdeal.Read.val_main_v1, Cert.Conv0RefIdeal.Read.val_main_v2, Cert.Conv0RefIdeal.Read.val_main_v3, Cert.Conv0RefIdeal.Read.val_main_v4, Cert.Conv0RefIdeal.Read.val_main_v5, Cert.Conv0RefIdeal.Read.val_main_v6, Cert.Conv0RefIdeal.Read.val_main_v7, Cert.Conv0RefIdeal.Read.val_main_v8, Cert.Conv0RefIdeal.Read.val_main_v9, Cert.Conv0RefIdeal.Read.val_main_v10, Cert.Conv0RefIdeal.Read.val_main_v11, Cert.Conv0RefIdeal.Read.val_main_v12, Cert.Conv0RefIdeal.Read.val_main_v13, Cert.Conv0RefIdeal.Read.val_main_v14, Cert.Conv0RefIdeal.Read.val_main_v15, Cert.Conv0RefIdeal.Read.val_main_v16, Cert.Conv0RefIdeal.Read.val_main_v17, Cert.Conv0RefIdeal.Read.val_main_v18, Cert.Conv0RefIdeal.Read.val_main_v19, Cert.Conv0RefIdeal.Read.val_main_v20, Cert.Conv0RefIdeal.Read.val_main_v21, Cert.Conv0RefIdeal.Read.val_main_v22, Cert.Conv0RefIdeal.Read.val_main_v23, Cert.Conv0RefIdeal.Read.val_main_v24, Cert.Conv0RefIdeal.Read.val_main_v25, Cert.Conv0RefIdeal.Read.val_main_v26, Cert.Conv0RefIdeal.Read.val_main_v27, Cert.Conv0RefIdeal.Read.val_main_v28, Cert.Conv0RefIdeal.Read.val_main_v29, Cert.Conv0RefIdeal.Read.val_main_v30, Cert.Conv0RefIdeal.Read.val_main_v31, Cert.Conv0RefIdeal.Read.val_main_v32, Cert.Conv0RefIdeal.Read.val_main_v33, Cert.Conv0RefIdeal.Read.val_main_v34, Cert.Conv0RefIdeal.Read.val_main_v35, Cert.Conv0RefIdeal.Read.val_main_v36, Cert.Conv0RefIdeal.Read.val_main_v37, Cert.Conv0RefIdeal.Read.val_main_v38, Cert.Conv0RefIdeal.Read.val_main_v39, Cert.Conv0RefIdeal.Read.val_main_v40, Cert.Conv0RefIdeal.Read.val_main_v41, Cert.Conv0RefIdeal.Read.val_main_v42, Cert.Conv0RefIdeal.Read.val_main_v43, Cert.Conv0RefIdeal.Read.val_main_v44, Cert.Conv0RefIdeal.Read.val_main_v45, Cert.Conv0RefIdeal.Read.val_main_v46]
  rw [turn]
  refine congrArg₂ (· + ·) (congrArg₂ (· + ·) ?_ rfl) ?_
  · split
    · rw [dif_neg (by omega)]
      refine congrArg₂ (· * ·) (congrArg A ?_) rfl
      blk_ext [] <;> omega
    · rw [dif_pos (by omega), zero_mul]
  · split
    · rw [if_neg (by omega)]
      refine congrArg₂ (· * ·) (congrArg A ?_) rfl
      blk_ext [] <;> omega
    · rw [if_pos (by omega), zero_mul]

/-- The reference's second sequence. -/
theorem context (A : Mat 4352 5632) (B : Mat 3 5632) (r : Fin 256) (j : Fin 5632) :
    Cert.Conv0RefIdeal.Read.val_main_v93 (F := Ideal) A B (ix2 r j) = across A B (ix2 ⟨4096 + r.val, by omega⟩ j) := by
  simp only [across, above, below]
  pointwise [Cert.Conv0RefIdeal.Read.val_main_cst_12, Cert.Conv0RefIdeal.Read.val_main_cst_14, Cert.Conv0RefIdeal.Read.val_main_v47, Cert.Conv0RefIdeal.Read.val_main_v48, Cert.Conv0RefIdeal.Read.val_main_v49, Cert.Conv0RefIdeal.Read.val_main_v50, Cert.Conv0RefIdeal.Read.val_main_v51, Cert.Conv0RefIdeal.Read.val_main_v52, Cert.Conv0RefIdeal.Read.val_main_v53, Cert.Conv0RefIdeal.Read.val_main_v54, Cert.Conv0RefIdeal.Read.val_main_v55, Cert.Conv0RefIdeal.Read.val_main_v56, Cert.Conv0RefIdeal.Read.val_main_v57, Cert.Conv0RefIdeal.Read.val_main_v58, Cert.Conv0RefIdeal.Read.val_main_v59, Cert.Conv0RefIdeal.Read.val_main_v60, Cert.Conv0RefIdeal.Read.val_main_v61, Cert.Conv0RefIdeal.Read.val_main_v62, Cert.Conv0RefIdeal.Read.val_main_v63, Cert.Conv0RefIdeal.Read.val_main_v64, Cert.Conv0RefIdeal.Read.val_main_v65, Cert.Conv0RefIdeal.Read.val_main_v66, Cert.Conv0RefIdeal.Read.val_main_v67, Cert.Conv0RefIdeal.Read.val_main_v68, Cert.Conv0RefIdeal.Read.val_main_v69, Cert.Conv0RefIdeal.Read.val_main_v70, Cert.Conv0RefIdeal.Read.val_main_v71, Cert.Conv0RefIdeal.Read.val_main_v72, Cert.Conv0RefIdeal.Read.val_main_v73, Cert.Conv0RefIdeal.Read.val_main_v74, Cert.Conv0RefIdeal.Read.val_main_v75, Cert.Conv0RefIdeal.Read.val_main_v76, Cert.Conv0RefIdeal.Read.val_main_v77, Cert.Conv0RefIdeal.Read.val_main_v78, Cert.Conv0RefIdeal.Read.val_main_v79, Cert.Conv0RefIdeal.Read.val_main_v80, Cert.Conv0RefIdeal.Read.val_main_v81, Cert.Conv0RefIdeal.Read.val_main_v82, Cert.Conv0RefIdeal.Read.val_main_v83, Cert.Conv0RefIdeal.Read.val_main_v84, Cert.Conv0RefIdeal.Read.val_main_v85, Cert.Conv0RefIdeal.Read.val_main_v86, Cert.Conv0RefIdeal.Read.val_main_v87, Cert.Conv0RefIdeal.Read.val_main_v88, Cert.Conv0RefIdeal.Read.val_main_v89, Cert.Conv0RefIdeal.Read.val_main_v90, Cert.Conv0RefIdeal.Read.val_main_v91, Cert.Conv0RefIdeal.Read.val_main_v92, Cert.Conv0RefIdeal.Read.val_main_v93]
  rw [turn]
  refine congrArg₂ (· + ·) (congrArg₂ (· + ·) ?_ rfl) ?_
  · split
    · rw [dif_neg (by omega)]
      refine congrArg₂ (· * ·) (congrArg A ?_) rfl
      blk_ext [] <;> omega
    · rw [dif_pos (by omega), zero_mul]
  · split
    · rw [if_neg (by omega)]
      refine congrArg₂ (· * ·) (congrArg A ?_) rfl
      blk_ext [] <;> omega
    · rw [if_pos (by omega), zero_mul]

/-- The reference's result is the same convolution. -/
theorem reference (A : Mat 4352 5632) (B : Mat 3 5632) : Cert.Conv0RefIdeal.Read.val_main_v94 (F := Ideal) A B = across A B := by
  funext i
  revert i
  intro (i : (⟨2, ![4352, 5632]⟩ : Shape).Idx)
  idx_vars i
  pointwise [Cert.Conv0RefIdeal.Read.val_main_v94]
  split
  · exact latents A B _ i1
  · refine (context A B _ i1).trans (congrArg (across A B) ?_)
    blk_ext [] <;> omega

/-- The kernel runs and keeps its arguments; every counter ends at zero. -/
theorem frame_p : Cert.quiescent_Conv0 (hConv0 := Cert.Conv0.Gen.facts) := fun m ρ _ => Cert.Conv0.Gen.frame m ρ

/-- So does its idealization. -/
theorem frame_pi : Cert.quiescent_Conv0Ideal (hConv0Ideal := Cert.Conv0Ideal.Gen.facts) := fun m ρ _ => Cert.Conv0Ideal.Gen.frame m ρ

/-- So does the reference, which declares no semaphore. -/
theorem frame_r : Cert.quiescent_Conv0RefIdeal (hConv0RefIdeal := Cert.Conv0RefIdeal.Gen.facts) := fun m ρ _ =>
  (θ_run Cert.Conv0RefIdeal.defs _ _).mono (fun r h => ⟨fun c => (h c).2, sem_eq_zero_of_no_sems (by decide) r.2⟩)
    (Cert.Conv0RefIdeal.Value.run (F := Ideal) m ρ)

/-- The kernel's result is the reference's, over the extended reals. -/
theorem algebraic : Cert.algebraic_Conv0Ideal_Conv0RefIdeal (hConv0Ideal := Cert.Conv0Ideal.Gen.facts) (hConv0RefIdeal := Cert.Conv0RefIdeal.Gen.facts) := by
  intro m g m' g' _ hag
  refine ⟨_, (θ_run defs _ _).mono (fun r h c => ⟨(h c).1.trans (final m c), (h c).2⟩) (Value.run_blocks m g),
    (θ_run Cert.Conv0RefIdeal.defs _ _).mono (fun r h c => ⟨(h c).1.trans ?_, (h c).2⟩) (Cert.Conv0RefIdeal.Value.run (F := Ideal) m' g')⟩
  rw [Cert.Conv0RefIdeal.Read.val_main_v94_eq, (hag c).1, (hag c).2]
  exact reference (V m c main_arg0) (V m c main_arg1)

end Cert.Conv0Ideal.Mm

end
-- ==== Proof.Mm.Gate.lean ====
/- The gate of the feed-forward layer and its gradients, as the kernel and as the reference write them. -/
module

public import proofs.«01_k».proof.Proof.Mm.Rows

@[expose] public section

noncomputable section

namespace Cert.Gate

open Cert.Mm Cert.Rows Idealize.ShloMosaic

/-- The gate's operand: a three-tap convolution over the sequence, and a bias. -/
def pre {T F : ℕ} (G : Mat T F) (W : Mat 3 F) (b : Mat 1 F) (r : Fin T) (j : Fin F) : EReal :=
  above G r j * W (ix2 0 j) + G (ix2 r j) * W (ix2 1 j) + below G r j * W (ix2 2 j) + b (ix2 0 j)

/-- The logistic function. -/
def sg (a : EReal) : EReal := Ideal.div 1 (1 + Ideal.exp (-a))

/-- The gradient of the operand, as the kernel writes it. -/
def grad (d u a : EReal) : EReal := d * u * (sg a * (1 + a * (1 - sg a)))

/-- The gradient of the gated factor. -/
def other (d a : EReal) : EReal := d * (a * sg a)

/-- What four of eight rows hold, the others zero. -/
def pick (a : Fin 8) (s0 s1 s2 s3 : EReal) : EReal :=
  if a.val = 0 then s0 else if a.val = 1 then s1 else if a.val = 2 then s2 else if a.val = 3 then s3 else 0

/-- Added up, the rows are added up one by one. -/
theorem pick_sum {n : ℕ} (a : Fin 8) (f0 f1 f2 f3 : Fin n → EReal) :
    ∑ s, pick a (f0 s) (f1 s) (f2 s) (f3 s) = pick a (∑ s, f0 s) (∑ s, f1 s) (∑ s, f2 s) (∑ s, f3 s) := by
  unfold pick
  split_ifs <;> simp

/-- Rows equal one by one are equal. -/
theorem pick_congr (a : Fin 8) {s0 s1 s2 s3 u0 u1 u2 u3 : EReal} (h0 : s0 = u0) (h1 : s1 = u1) (h2 : s2 = u2) (h3 : s3 = u3) :
    pick a s0 s1 s2 s3 = pick a u0 u1 u2 u3 := by
  rw [h0, h1, h2, h3]

/-- Where `d` and `u` are reals, the gradient by the rules of the product and of the logistic function is the kernel's. -/
theorem grad_eq (x y : ℝ) (a : EReal) :
    (x : EReal) * y * sg a + a * ((x : EReal) * y) * (sg a * (1 - sg a)) = grad x y a := by
  unfold grad
  rw [← EReal.coe_mul]
  induction a with
  | bot =>
    have e : (1 : EReal) + ⊤ = ⊤ := EReal.coe_add_top 1
    have h : sg ⊥ = 0 := by simp [sg, Ideal.div, e]
    rw [h]
    simp
  | top =>
    have h : sg ⊤ = 1 := by simp [sg, Ideal.div]
    have e : (1 : EReal) - 1 = 0 := by rw [← EReal.coe_one, ← EReal.coe_sub, sub_self, EReal.coe_zero]
    rw [h, e]
    simp
  | coe a =>
    have hp : (1 + Real.exp (-a)) ≠ 0 := ne_of_gt (by positivity)
    have h : sg (a : EReal) = ((1 / (1 + Real.exp (-a)) : ℝ) : EReal) := by
      unfold sg
      rw [← EReal.coe_neg, Ideal.exp_coe, ← EReal.coe_one, ← EReal.coe_add, Ideal.div_coe hp, ← EReal.coe_mul, one_mul]
    rw [h, ← EReal.coe_one]
    norm_cast
    ring

/-- The gradient of the operand, over the arrays. -/
def gradAt {T F : ℕ} (G U D : Mat T F) (W : Mat 3 F) (b : Mat 1 F) (r : Fin T) (j : Fin F) : EReal :=
  grad (D (ix2 r j)) (U (ix2 r j)) (pre G W b r j)

/-- The gradients of the weights and of the bias, in the first four of eight rows: an entry. -/
def sumsAt {T F : ℕ} (G U D : Mat T F) (W : Mat 3 F) (b : Mat 1 F) (a : Fin 8) (j : Fin F) : EReal :=
  pick a (∑ r : Fin T, gradAt G U D W b r j * above G r j) (∑ r : Fin T, gradAt G U D W b r j * G (ix2 r j))
    (∑ r : Fin T, gradAt G U D W b r j * below G r j) (∑ r : Fin T, gradAt G U D W b r j)

/-- The array of them. -/
def sums {T F : ℕ} (G U D : Mat T F) (W : Mat 3 F) (b : Mat 1 F) : Mat 8 F := fun i => sumsAt G U D W b (i 0) (i 1)

end Cert.Gate

end
-- ==== Proof.Mm.ActRows.lean ====
/- The four rows a point adds to the sums it carries. -/
module

public import Idealize.ShloMosaic.Lib.Pipeline.ReadBack
public import Idealize.ShloMosaic.Lib.WritesUnit
public import proofs.«01_k».proof.Proof.Mm.Gate
public import proofs.«01_k».proof.Proof.Gen.ActIdeal.Value

@[expose] public section

set_option maxRecDepth 16384

noncomputable section

namespace Cert.ActIdeal.Mm

open Cert.ActIdeal Cert.ActIdeal.Gen Cert.Mm Cert.Rows Cert.Gate Idealize.ShloMosaic Idealize.ShloMosaic.TcCoe Idealize.SL.Sem

/-- A store of one row, over whatever was stored before. -/
theorem one {κ : Kind} {sp : Space} (v : View sig κ sp S8x1408 .f32) (f : v.ty.Contents (Elt Ideal)) (L : List (View.Piece (Elt Ideal) S8x1408 .f32))
    (o : ℕ) (inb : ∀ a : Fin 2, (![o, 0] : Fin 2 → ℕ) a + (![1, 1408] : Fin 2 → ℕ) a ≤ S8x1408.size a) (w : Vec Ideal S1x1408 .f32) (a : Fin 8) (b : Fin 1408) :
    v.read (Elt Ideal) (v.writes (Elt Ideal) f (⟨Rect.unit ![o, 0] ![1, 1408] inb, w⟩ :: L)) (ix2 a b) =
      if a.val = o then w (ix2 0 b) else v.read (Elt Ideal) (v.writes (Elt Ideal) f L) (ix2 a b) := by
  split
  · exact View.read_writes_cons_rows_of_mem v f inb w L (ix2 a b) (ix2 (0 : Fin 1) b) rfl (by show a.val = o + 0; omega) rfl
  · exact View.read_writes_cons_rows_of_not_mem v f inb w L (ix2 a b) (W := 1) rfl rfl (by show a.val < o ∨ o + 1 ≤ a.val; omega)

/-- Four stores of a row each, over a buffer that held `X`. -/
theorem four {κ : Kind} {sp : Space} (v : View sig κ sp S8x1408 .f32) (f : v.ty.Contents (Elt Ideal)) (L : List (View.Piece (Elt Ideal) S8x1408 .f32))
    (X : Vec Ideal S8x1408 .f32) (h : ∀ y, v.read (Elt Ideal) (v.writes (Elt Ideal) f L) y = X y) (w0 w1 w2 w3 : Vec Ideal S1x1408 .f32) (s0 s1 s2 s3 : EReal) (a : Fin 8) (b : Fin 1408)
    (h0 : w0 (ix2 0 b) = X (ix2 0 b) + s0) (h1 : w1 (ix2 0 b) = X (ix2 1 b) + s1) (h2 : w2 (ix2 0 b) = X (ix2 2 b) + s2) (h3 : w3 (ix2 0 b) = X (ix2 3 b) + s3) :
    v.read (Elt Ideal) (v.writes (Elt Ideal) f (⟨Rect.unit ![3, 0] ![1, 1408] inb_S8x1408_S1x1408_3_0, w3⟩ :: ⟨Rect.unit ![2, 0] ![1, 1408] inb_S8x1408_S1x1408_2_0, w2⟩ ::
      ⟨Rect.unit ![1, 0] ![1, 1408] inb_S8x1408_S1x1408_1_0, w1⟩ :: ⟨Rect.unit ![0, 0] ![1, 1408] inb_S8x1408_S1x1408_0_0, w0⟩ :: L)) (ix2 a b) =
      X (ix2 a b) + pick a s0 s1 s2 s3 := by
  rw [one, one, one, one, h, h0, h1, h2, h3]
  revert a
  intro a
  fin_cases a <;> simp [pick]

/-- The sum a point adds to the first row. -/
theorem sum0 (x d : Vec Ideal S256x1408 .f32) (w : Vec Ideal S1x1408 .f32) (b : Fin 1408) :
    k0_pay1 (F := Ideal) x d w (ix2 0 b) = w (ix2 0 b) + ∑ r : Fin 256, d (ix2 r b) * x (ix2 r b) := by
  pointwise [k0_pay1]

/-- The sum a point adds to the second row. -/
theorem sum1 (x d : Vec Ideal S256x1408 .f32) (w : Vec Ideal S1x1408 .f32) (b : Fin 1408) :
    k0_pay2 (F := Ideal) x d w (ix2 0 b) = w (ix2 0 b) + ∑ r : Fin 256, d (ix2 r b) * x (ix2 r b) := by
  pointwise [k0_pay2]

/-- The sum a point adds to the third row. -/
theorem sum2 (x d : Vec Ideal S256x1408 .f32) (w : Vec Ideal S1x1408 .f32) (b : Fin 1408) :
    k0_pay3 (F := Ideal) x d w (ix2 0 b) = w (ix2 0 b) + ∑ r : Fin 256, d (ix2 r b) * x (ix2 r b) := by
  pointwise [k0_pay3]

/-- The sum a point adds to the fourth row. -/
theorem sum3 (d : Vec Ideal S256x1408 .f32) (w : Vec Ideal S1x1408 .f32) (b : Fin 1408) :
    k0_pay4 (F := Ideal) d w (ix2 0 b) = w (ix2 0 b) + ∑ r : Fin 256, d (ix2 r b) := by
  pointwise [k0_pay4]

end Cert.ActIdeal.Mm

end
-- ==== Proof.Mm.ActBlock.lean ====
/- What a point reads and writes, in the rows and columns of the arrays. -/
module

public import proofs.«01_k».proof.Proof.Mm.ActRows

@[expose] public section

set_option maxRecDepth 16384

noncomputable section

namespace Cert.ActIdeal.Mm

open Cert.ActIdeal Cert.ActIdeal.Gen Cert.Mm Cert.Rows Cert.Gate Idealize.ShloMosaic Idealize.ShloMosaic.TcCoe Idealize.SL.Sem

variable (m : (ℓ : Loc nD τ sig) → Buf (Elt Ideal) ℓ) (ρ : Dev nD → PrngReg)

/-- The row before. -/
theorem before (i : grid0.Coords) (x : Vec Ideal S256x1408 .bf16) (p : Vec Ideal S16x1408 .bf16) (a : Fin 256) (b : Fin 1408) :
    k0_pay7 (F := Ideal) i x p (ix2 a b) =
      if a.val = 0 then (if (i 1).val = 0 ∨ (i 1).val = 16 then 0 else p (ix2 15 b)) else x (ix2 ⟨a.val - 1, by omega⟩ b) := by
  have h : (i 1).val < 17 := lt_trans (i 1).isLt (by decide)
  pointwise [k0_pay7, k0_pay6]
  rw [first, opens _ h]
  split
  · rfl
  · refine congrArg x ?_
    blk_ext [] <;> omega

/-- The row after. -/
theorem after (i : grid0.Coords) (x : Vec Ideal S256x1408 .bf16) (p : Vec Ideal S16x1408 .bf16) (a : Fin 256) (b : Fin 1408) :
    k0_pay11 (F := Ideal) k0_pay8 (k0_pay9 x) (k0_pay10 i p) (ix2 a b) =
      if h : a.val = 255 then (if (i 1).val = 15 then 0 else p (ix2 0 b)) else x (ix2 ⟨a.val + 1, by omega⟩ b) := by
  have h : (i 1).val < 17 := lt_trans (i 1).isLt (by decide)
  pointwise [k0_pay11, k0_pay10, k0_pay9, k0_pay8, k0_pay6]
  rw [last, closes _ h]
  split
  · rfl
  · refine congrArg x ?_
    blk_ext [] <;> omega

/-- The gate's operand. -/
theorem pre_apply (x y : Vec Ideal S256x1408 .f32) (k : IVec S256x1408 1) (z z' : Vec Ideal S256x1408 .f32) (w w' w'' o : Vec Ideal S1x1408 .f32) (a : Fin 256) (b : Fin 1408) :
    k0_pay12 (F := Ideal) x y k z z' w w' w'' o (ix2 a b) =
      y (ix2 a b) * w (ix2 0 b) + x (ix2 a b) * w' (ix2 0 b) + k0_pay11 (F := Ideal) k z z' (ix2 a b) * w'' (ix2 0 b) + o (ix2 0 b) := by
  pointwise [k0_pay12]

/-- Its logistic function. -/
theorem sg_apply (x y : Vec Ideal S256x1408 .f32) (k : IVec S256x1408 1) (z z' : Vec Ideal S256x1408 .f32) (w w' w'' o : Vec Ideal S1x1408 .f32) (a : Fin 256) (b : Fin 1408) :
    k0_pay13 (F := Ideal) x y k z z' w w' w'' o (ix2 a b) = sg (k0_pay12 (F := Ideal) x y k z z' w w' w'' o (ix2 a b)) := by
  pointwise [k0_pay13]
  unfold sg
  simp

/-- The gradient of the gated factor. -/
theorem other_apply (x y : Vec Ideal S256x1408 .f32) (k : IVec S256x1408 1) (z z' : Vec Ideal S256x1408 .f32) (w w' w'' o : Vec Ideal S1x1408 .f32) (d : Vec Ideal S256x1408 .bf16)
    (a : Fin 256) (b : Fin 1408) :
    k0_pay15 (F := Ideal) x y k z z' w w' w'' o d (ix2 a b) = other (d (ix2 a b)) (k0_pay12 (F := Ideal) x y k z z' w w' w'' o (ix2 a b)) := by
  pointwise [k0_pay15, k0_pay14]
  rw [sg_apply]
  rfl

/-- The gradient of the operand. -/
theorem grad_apply (x y : Vec Ideal S256x1408 .f32) (k : IVec S256x1408 1) (z z' : Vec Ideal S256x1408 .f32) (w w' w'' o : Vec Ideal S1x1408 .f32) (d u : Vec Ideal S256x1408 .bf16)
    (a : Fin 256) (b : Fin 1408) :
    k0_pay16 (F := Ideal) x y k z z' w w' w'' o d u (ix2 a b) = grad (d (ix2 a b)) (u (ix2 a b)) (k0_pay12 (F := Ideal) x y k z z' w w' w'' o (ix2 a b)) := by
  pointwise [k0_pay16, k0_pay14]
  rw [sg_apply]
  unfold grad
  simp

end Cert.ActIdeal.Mm

end
-- ==== Proof.Mm.ActPoint.lean ====
/- The values of a point, in the rows and columns of the arrays. -/
module

public import proofs.«01_k».proof.Proof.Mm.ActBlock

@[expose] public section

set_option maxRecDepth 16384

noncomputable section

namespace Cert.ActIdeal.Mm

open Cert.ActIdeal Cert.ActIdeal.Gen Cert.Mm Cert.Rows Cert.Gate Idealize.ShloMosaic Idealize.ShloMosaic.TcCoe Idealize.SL.Sem

variable (m : (ℓ : Loc nD τ sig) → Buf (Elt Ideal) ℓ) (ρ : Dev nD → PrngReg)

/-- The array's row at row `a` of a point's block. -/
def row (t : Fin cfg0.N) (a : Fin 256) : Fin 4096 := ⟨t.val % 16 * 256 + a.val, by omega⟩

/-- The array's column at column `b` of a point's block. -/
def col (t : Fin cfg0.N) (b : Fin 1408) : Fin 5632 := ⟨t.val / 16 * 1408 + b.val, by
  have h : t.val < 64 := lt_of_lt_of_le t.isLt (by decide)
  omega⟩

/-- A point's block of the three operands, of the weights and of the bias. -/
theorem index : ∀ t : Fin cfg0.N, (grid0.coords t 1).val = t.val % 16 ∧ (win0_0.index t 0 = t.val % 16 ∧ win0_0.index t 1 = t.val / 16) ∧
    (win0_3.index t 0 = t.val % 16 ∧ win0_3.index t 1 = t.val / 16) ∧ (win0_4.index t 0 = t.val % 16 ∧ win0_4.index t 1 = t.val / 16) ∧
    (win0_5.index t 0 = 0 ∧ win0_5.index t 1 = t.val / 16) ∧ win0_6.index t 0 = 0 ∧ win0_6.index t 1 = t.val / 16 :=
  (by decide +kernel : ∀ t : Fin grid0.N, (grid0.coords t 1).val = t.val % 16 ∧ (win0_0.index t 0 = t.val % 16 ∧ win0_0.index t 1 = t.val / 16) ∧
    (win0_3.index t 0 = t.val % 16 ∧ win0_3.index t 1 = t.val / 16) ∧ (win0_4.index t 0 = t.val % 16 ∧ win0_4.index t 1 = t.val / 16) ∧
    (win0_5.index t 0 = 0 ∧ win0_5.index t 1 = t.val / 16) ∧ win0_6.index t 0 = 0 ∧ win0_6.index t 1 = t.val / 16)

/-- Reading the gate's block in the wider format changes nothing. -/
theorem same (x : Vec Ideal S256x1408 .bf16) (i : S256x1408.Idx) : k0_pay6 (F := Ideal) x i = x i := rfl

/-- The rows beside it. -/
theorem ends : ∀ t : Fin cfg0.N, (win0_1.index t 0 = t.val % 16 * 16 - 1 ∧ win0_1.index t 1 = t.val / 16) ∧
    win0_2.index t 0 = min (t.val % 16 * 16 + 16) 255 ∧ win0_2.index t 1 = t.val / 16 :=
  (by decide +kernel : ∀ t : Fin grid0.N, (win0_1.index t 0 = t.val % 16 * 16 - 1 ∧ win0_1.index t 1 = t.val / 16) ∧
    win0_2.index t 0 = min (t.val % 16 * 16 + 16) 255 ∧ win0_2.index t 1 = t.val / 16)

/-- An entry of the gate's block. -/
theorem blk0 (c : Dev nD) (t : Fin cfg0.N) (a : Fin 256) (b : Fin 1408) :
    (iblk m c 0 t : Vec Ideal S256x1408 .bf16) (ix2 a b) = V m c main_arg0 (ix2 (row t a) (col t b)) := by
  obtain ⟨g, ⟨h0, h1⟩, -⟩ := index t
  blk_simp [iblk]
  refine congrArg (V m c main_arg0) ?_
  blk_ext [h0, h1, row, col]

/-- An entry of the other factor's block. -/
theorem blk3 (c : Dev nD) (t : Fin cfg0.N) (a : Fin 256) (b : Fin 1408) :
    (iblk m c 3 t : Vec Ideal S256x1408 .bf16) (ix2 a b) = V m c main_arg1 (ix2 (row t a) (col t b)) := by
  obtain ⟨g, -, ⟨h0, h1⟩, -⟩ := index t
  blk_simp [iblk]
  refine congrArg (V m c main_arg1) ?_
  blk_ext [h0, h1, row, col]

/-- An entry of the incoming gradient's block. -/
theorem blk4 (c : Dev nD) (t : Fin cfg0.N) (a : Fin 256) (b : Fin 1408) :
    (iblk m c 4 t : Vec Ideal S256x1408 .bf16) (ix2 a b) = V m c main_arg2 (ix2 (row t a) (col t b)) := by
  obtain ⟨g, -, -, ⟨h0, h1⟩, -⟩ := index t
  blk_simp [iblk]
  refine congrArg (V m c main_arg2) ?_
  blk_ext [h0, h1, row, col]

/-- The weights' rows. -/
theorem taps (c : Dev nD) (t : Fin cfg0.N) (b : Fin 1408) :
    View.ld (iblk m c 5 t : Vec Ideal S3x1408 .f32) (Rect.unit ![0, 0] ![1, 1408] inb_S3x1408_S1x1408_0_0) (ix2 0 b) = V m c main_arg3 (ix2 0 (col t b)) ∧
    View.ld (iblk m c 5 t : Vec Ideal S3x1408 .f32) (Rect.unit ![1, 0] ![1, 1408] inb_S3x1408_S1x1408_1_0) (ix2 0 b) = V m c main_arg3 (ix2 1 (col t b)) ∧
    View.ld (iblk m c 5 t : Vec Ideal S3x1408 .f32) (Rect.unit ![2, 0] ![1, 1408] inb_S3x1408_S1x1408_2_0) (ix2 0 b) = V m c main_arg3 (ix2 2 (col t b)) := by
  obtain ⟨g, -, -, -, ⟨h0, h1⟩, -⟩ := index t
  have h : ∀ k : Fin 3, (iblk m c 5 t : Vec Ideal S3x1408 .f32) (ix2 k b) = V m c main_arg3 (ix2 k (col t b)) := by
    intro k
    blk_simp [iblk]
    refine congrArg (V m c main_arg3) ?_
    blk_ext [h0, h1, col]
  refine ⟨(View.ld_unit_apply_of (iblk m c 5 t) _ _ _ _ (ix2 0 b) ?_).trans (h 0), (View.ld_unit_apply_of (iblk m c 5 t) _ _ _ _ (ix2 1 b) ?_).trans (h 1),
    (View.ld_unit_apply_of (iblk m c 5 t) _ _ _ _ (ix2 2 b) ?_).trans (h 2)⟩ <;>
    exact Fin.forall_fin_two.mpr ⟨rfl, (Nat.zero_add _).symm⟩

/-- The bias. -/
theorem bias (c : Dev nD) (t : Fin cfg0.N) (b : Fin 1408) : (iblk m c 6 t : Vec Ideal S1x1408 .f32) (ix2 0 b) = V m c main_arg4 (ix2 0 (col t b)) := by
  obtain ⟨g, -, -, -, -, h0, h1⟩ := index t
  blk_simp [iblk]
  refine congrArg (V m c main_arg4) ?_
  blk_ext [h0, h1, col]

/-- The row before, in the array. -/
theorem before_point (c : Dev nD) (t : Fin cfg0.N) (a : Fin 256) (b : Fin 1408) :
    k0_pay7 (F := Ideal) (grid0.coords t) (iblk m c 0 t) (iblk m c 1 t) (ix2 a b) = above (V m c main_arg0) (row t a) (col t b) := by
  obtain ⟨g, -⟩ := index t
  obtain ⟨⟨h0, h1⟩, -⟩ := ends t
  rw [before, g]
  unfold above
  split
  · split
    · rw [if_pos (by simp only [row]; omega)]
    · rw [if_neg (by simp only [row]; omega)]
      blk_simp [iblk]
      refine congrArg (V m c main_arg0) ?_
      blk_ext [h0, h1, row, col] <;> omega
  · rw [if_neg (by simp only [row]; omega), blk0]
    refine congrArg (V m c main_arg0) ?_
    blk_ext [row, col] <;> omega

/-- The row after, in the array. -/
theorem after_point (c : Dev nD) (t : Fin cfg0.N) (a : Fin 256) (b : Fin 1408) :
    k0_pay11 (F := Ideal) k0_pay8 (k0_pay9 (iblk m c 0 t)) (k0_pay10 (grid0.coords t) (iblk m c 2 t)) (ix2 a b) = below (V m c main_arg0) (row t a) (col t b) := by
  obtain ⟨g, -⟩ := index t
  obtain ⟨-, h0, h1⟩ := ends t
  rw [after, g]
  unfold below
  split
  · split
    · rw [dif_pos (by simp only [row]; omega)]
    · rw [dif_neg (by simp only [row]; omega)]
      blk_simp [iblk]
      refine congrArg (V m c main_arg0) ?_
      blk_ext [h0, h1, row, col] <;> omega
  · rw [dif_neg (by simp only [row]; omega), blk0]
    refine congrArg (V m c main_arg0) ?_
    blk_ext [row, col] <;> omega

/-- The gate's operand at a point. -/
theorem pre_point (c : Dev nD) (t : Fin cfg0.N) (a : Fin 256) (b : Fin 1408) :
    k0_pay12 (F := Ideal) (k0_pay6 (iblk m c 0 t)) (k0_pay7 (grid0.coords t) (iblk m c 0 t) (iblk m c 1 t)) k0_pay8 (k0_pay9 (iblk m c 0 t)) (k0_pay10 (grid0.coords t) (iblk m c 2 t))
      (View.ld (iblk m c 5 t) (Rect.unit ![0, 0] ![1, 1408] inb_S3x1408_S1x1408_0_0)) (View.ld (iblk m c 5 t) (Rect.unit ![1, 0] ![1, 1408] inb_S3x1408_S1x1408_1_0))
      (View.ld (iblk m c 5 t) (Rect.unit ![2, 0] ![1, 1408] inb_S3x1408_S1x1408_2_0)) (iblk m c 6 t) (ix2 a b) =
      pre (V m c main_arg0) (V m c main_arg3) (V m c main_arg4) (row t a) (col t b) := by
  rw [pre_apply, before_point, after_point, bias, (taps m c t b).1, (taps m c t b).2.1, (taps m c t b).2.2, same, blk0]
  rfl

/-- A point's block of the operand's gradient. -/
def da (c : Dev nD) (t : Fin cfg0.N) : Vec Ideal S256x1408 .f32 :=
  k0_pay16 (F := Ideal) (k0_pay6 (iblk m c 0 t)) (k0_pay7 (grid0.coords t) (iblk m c 0 t) (iblk m c 1 t)) k0_pay8 (k0_pay9 (iblk m c 0 t)) (k0_pay10 (grid0.coords t) (iblk m c 2 t))
      (View.ld (iblk m c 5 t) (Rect.unit ![0, 0] ![1, 1408] inb_S3x1408_S1x1408_0_0)) (View.ld (iblk m c 5 t) (Rect.unit ![1, 0] ![1, 1408] inb_S3x1408_S1x1408_1_0))
      (View.ld (iblk m c 5 t) (Rect.unit ![2, 0] ![1, 1408] inb_S3x1408_S1x1408_2_0)) (iblk m c 6 t) (iblk m c 4 t) (iblk m c 3 t)

/-- Its entries. -/
theorem da_apply (c : Dev nD) (t : Fin cfg0.N) (a : Fin 256) (b : Fin 1408) :
    da m c t (ix2 a b) = gradAt (V m c main_arg0) (V m c main_arg1) (V m c main_arg2) (V m c main_arg3) (V m c main_arg4) (row t a) (col t b) := by
  unfold da gradAt
  rw [grad_apply, pre_point, blk3, blk4]

end Cert.ActIdeal.Mm

end
-- ==== Proof.Mm.ActSum.lean ====
/- The sums a column of blocks leaves. -/
module

public import proofs.«01_k».proof.Proof.Mm.ActPoint

@[expose] public section

set_option maxRecDepth 16384

noncomputable section

namespace Cert.ActIdeal.Mm

open Cert.ActIdeal Cert.ActIdeal.Gen Cert.Mm Cert.Rows Cert.Gate Idealize.ShloMosaic Idealize.ShloMosaic.TcCoe Idealize.SL.Sem

variable (m : (ℓ : Loc nD τ sig) → Buf (Elt Ideal) ℓ) (ρ : Dev nD → PrngReg)

/-- What a block `d` of the operand's gradient adds, `x`, `y` and `z` being the rows before, at and after. -/
def adds (x y z d : Vec Ideal S256x1408 .f32) (a : Fin 8) (b : Fin 1408) : EReal :=
  pick a (∑ r : Fin 256, d (ix2 r b) * x (ix2 r b)) (∑ r : Fin 256, d (ix2 r b) * y (ix2 r b)) (∑ r : Fin 256, d (ix2 r b) * z (ix2 r b)) (∑ r : Fin 256, d (ix2 r b))

/-- What a point adds. -/
def part (c : Dev nD) (t : Fin cfg0.N) (i : S8x1408.Idx) : EReal :=
  adds (k0_pay7 (F := Ideal) (grid0.coords t) (iblk m c 0 t) (iblk m c 1 t)) (k0_pay6 (F := Ideal) (iblk m c 0 t))
    (k0_pay11 (F := Ideal) k0_pay8 (k0_pay9 (iblk m c 0 t)) (k0_pay10 (grid0.coords t) (iblk m c 2 t))) (da m c t) (i 0) (i 1)

/-- A row of a block of eight. -/
theorem ldRow (X : Vec Ideal S8x1408 .f32) (b : Fin 1408) :
    View.ld X (Rect.unit ![0, 0] ![1, 1408] inb_S8x1408_S1x1408_0_0) (ix2 0 b) = X (ix2 0 b) ∧
    View.ld X (Rect.unit ![1, 0] ![1, 1408] inb_S8x1408_S1x1408_1_0) (ix2 0 b) = X (ix2 1 b) ∧
    View.ld X (Rect.unit ![2, 0] ![1, 1408] inb_S8x1408_S1x1408_2_0) (ix2 0 b) = X (ix2 2 b) ∧
    View.ld X (Rect.unit ![3, 0] ![1, 1408] inb_S8x1408_S1x1408_3_0) (ix2 0 b) = X (ix2 3 b) := by
  refine ⟨?_, ?_, ?_, ?_⟩ <;> exact View.ld_unit_apply_of X _ _ _ _ _ (Fin.forall_fin_two.mpr ⟨rfl, (Nat.zero_add _).symm⟩)

/-- The four stores of a point, over a buffer that held `X`. -/
theorem stored {κ : Kind} {sp : Space} (v : View sig κ sp S8x1408 .f32) (f : v.ty.Contents (Elt Ideal)) (L : List (View.Piece (Elt Ideal) S8x1408 .f32))
    (X : Vec Ideal S8x1408 .f32) (h : ∀ y, v.read (Elt Ideal) (v.writes (Elt Ideal) f L) y = X y) (x y z d : Vec Ideal S256x1408 .f32) (a : Fin 8) (b : Fin 1408) :
    v.read (Elt Ideal) (v.writes (Elt Ideal) f
      (⟨Rect.unit ![3, 0] ![1, 1408] inb_S8x1408_S1x1408_3_0, k0_pay4 d (View.ld X (Rect.unit ![3, 0] ![1, 1408] inb_S8x1408_S1x1408_3_0))⟩ ::
       ⟨Rect.unit ![2, 0] ![1, 1408] inb_S8x1408_S1x1408_2_0, k0_pay3 z d (View.ld X (Rect.unit ![2, 0] ![1, 1408] inb_S8x1408_S1x1408_2_0))⟩ ::
       ⟨Rect.unit ![1, 0] ![1, 1408] inb_S8x1408_S1x1408_1_0, k0_pay2 y d (View.ld X (Rect.unit ![1, 0] ![1, 1408] inb_S8x1408_S1x1408_1_0))⟩ ::
       ⟨Rect.unit ![0, 0] ![1, 1408] inb_S8x1408_S1x1408_0_0, k0_pay1 x d (View.ld X (Rect.unit ![0, 0] ![1, 1408] inb_S8x1408_S1x1408_0_0))⟩ :: L)) (ix2 a b) =
      X (ix2 a b) + adds x y z d a b := by
  obtain ⟨e0, e1, e2, e3⟩ := ldRow X b
  exact four v f L X h _ _ _ _ _ _ _ _ a b
    ((sum0 _ _ _ b).trans (congrArg (· + _) e0)) ((sum1 _ _ _ b).trans (congrArg (· + _) e1))
    ((sum2 _ _ _ b).trans (congrArg (· + _) e2)) ((sum3 _ _ b).trans (congrArg (· + _) e3))

/-- A later point adds its part. -/
theorem next (c : Dev nD) (t : Fin cfg0.N) (h : ¬ t.val % 16 = 0) (i : S8x1408.Idx) :
    (outsAt0 m c t.val t.isLt).2.2 i = (outsAt0 m c (t.val - 1) (Nat.lt_of_le_of_lt (Nat.sub_le _ _) t.isLt)).2.2 i + part m c t i := by
  rw [outsAt0_B m c t h]
  frame_out
  revert i
  intro (i : (⟨2, ![8, 1408]⟩ : Shape).Idx)
  idx_vars i
  generalize (outsAt0 m c (t.val - 1) _).2.2 = X
  exact stored _ ((hs0_9 t).unread X) [] X (fun y => congrFun ((hs0_9 t).read_unread X) y) _ _ _ (da m c t) i0 i1

/-- The first point starts from zero. -/
theorem start (c : Dev nD) (t : Fin cfg0.N) (h : t.val % 16 = 0) (i : S8x1408.Idx) :
    (outsAt0 m c t.val t.isLt).2.2 i = 0 + part m c t i := by
  rw [outsAt0_A m c t h]
  frame_out
  revert i
  intro (i : (⟨2, ![8, 1408]⟩ : Shape).Idx)
  idx_vars i
  simp (disch := decide) only [↓View.readCov_skip, View.readCov_fill]
  rw [← View.read_writes_junk_eq_canon (ms0_9 t).view]
  refine (stored _ _ _ (k0_pay5 (F := Ideal)) (fun y => ?_) _ _ _ (da m c t) i0 i1).trans ?_
  · rw [View.read_writes_junk_eq_canon, View.canon_cons_unit_lit _ _ _ (by decide)]
  · refine congrArg (· + _) ?_
    pointwise [k0_pay5]

/-- The columns of a column of blocks. -/
theorem col_run (t : Fin cfg0.N) (s : Fin 16) (h : 16 * (t.val / 16) + s.val < cfg0.N) (b : Fin 1408) : col ⟨16 * (t.val / 16) + s.val, h⟩ b = col t b :=
  Fin.ext (by simp only [col]; omega)

/-- Its rows. -/
theorem row_run (t : Fin cfg0.N) (s : Fin 16) (h : 16 * (t.val / 16) + s.val < cfg0.N) (a : Fin 256) (hl : s.val * 256 + a.val < 4096) :
    row ⟨16 * (t.val / 16) + s.val, h⟩ a = ⟨s.val * 256 + a.val, hl⟩ :=
  Fin.ext (by simp only [row]; omega)

/-- The sums the last point of a column of blocks leaves. -/
theorem total (c : Dev nD) (t : Fin cfg0.N) (h : t.val % 16 = 15) (a : Fin 8) (b : Fin 1408) :
    (outsAt0 m c t.val t.isLt).2.2 (ix2 a b) =
      sums (V m c main_arg0) (V m c main_arg1) (V m c main_arg2) (V m c main_arg3) (V m c main_arg4) (ix2 a (col t b)) := by
  rw [Pipeline.eq_sum_fin_of_reset_step_apply_of_flush (fun n h => (outsAt0 m c n h).2.2) 16 (fun _ => 0) (part m c) (start m c) (next m c) t h (ix2 a b), zero_add]
  show ∑ s : Fin 16, adds _ _ _ _ a b = sumsAt _ _ _ _ _ a (col t b)
  unfold adds sumsAt
  rw [pick_sum]
  refine pick_congr a ?_ ?_ ?_ ?_ <;> refine Fin.sum_mul_add_congr fun s k hl => ?_
  · rw [da_apply, before_point, col_run, row_run _ _ _ _ hl]
  · rw [da_apply, same, blk0, col_run, row_run _ _ _ _ hl]
  · rw [da_apply, after_point, col_run, row_run _ _ _ _ hl]
  · rw [da_apply, col_run, row_run _ _ _ _ hl]

end Cert.ActIdeal.Mm

end
-- ==== Proof.Mm.Act.lean ====
/- The arrays the kernel leaves: the gradients of the gate's operand, of the gated factor, of the weights and of the bias. -/
module

public import proofs.«01_k».proof.Proof.Mm.ActSum

@[expose] public section

set_option maxRecDepth 16384

noncomputable section

namespace Cert.ActIdeal.Mm

open Cert.ActIdeal Cert.ActIdeal.Gen Cert.Mm Cert.Rows Cert.Gate Idealize.ShloMosaic Idealize.ShloMosaic.TcCoe Idealize.SL.Sem

variable (m : (ℓ : Loc nD τ sig) → Buf (Elt Ideal) ℓ) (ρ : Dev nD → PrngReg)

/-- A point's blocks of the results. -/
theorem places : ∀ t : Fin cfg0.N, (win0_7.index t 0 = t.val % 16 ∧ win0_7.index t 1 = t.val / 16) ∧ (win0_8.index t 0 = t.val % 16 ∧ win0_8.index t 1 = t.val / 16) ∧
    win0_9.index t 0 = 0 ∧ win0_9.index t 1 = t.val / 16 :=
  (by decide +kernel : ∀ t : Fin grid0.N, (win0_7.index t 0 = t.val % 16 ∧ win0_7.index t 1 = t.val / 16) ∧ (win0_8.index t 0 = t.val % 16 ∧ win0_8.index t 1 = t.val / 16) ∧
    win0_9.index t 0 = 0 ∧ win0_9.index t 1 = t.val / 16)

/-- The gradient of the operand that a point leaves. -/
theorem out7 (c : Dev nD) (t : Fin cfg0.N) : (outsAt0 m c t.val t.isLt).1 = da m c t := by
  by_cases h : t.val % 16 = 0
  · rw [outsAt0_A m c t h]
    frame_out
    rfl
  · rw [outsAt0_B m c t h]
    frame_out
    rfl

/-- The gradient of the gated factor that a point leaves. -/
theorem out8 (c : Dev nD) (t : Fin cfg0.N) (a : Fin 256) (b : Fin 1408) : (outsAt0 m c t.val t.isLt).2.1 (ix2 a b) =
    other (V m c main_arg2 (ix2 (row t a) (col t b))) (pre (V m c main_arg0) (V m c main_arg3) (V m c main_arg4) (row t a) (col t b)) := by
  rw [← pre_point, ← blk4]
  by_cases h : t.val % 16 = 0
  · rw [outsAt0_A m c t h]
    frame_out
    exact other_apply _ _ _ _ _ _ _ _ _ _ a b
  · rw [outsAt0_B m c t h]
    frame_out
    exact other_apply _ _ _ _ _ _ _ _ _ _ a b

/-- The array of the operand's gradient. -/
theorem final7 (c : Dev nD) : (dats m 0 c).arrAt 7 cfg0.N =
    fun i : (⟨2, ![4096, 5632]⟩ : Shape).Idx => gradAt (V m c main_arg0) (V m c main_arg1) (V m c main_arg2) (V m c main_arg3) (V m c main_arg4) (i 0) (i 1) := by
  refine (dats m 0 c).arrAt_eq_of_covers 7 _ (by decide +kernel) fun t hf y => ?_
  obtain ⟨⟨h0, h1⟩, -⟩ := places t
  blk_simp
  rw [after0_7, out7]
  revert y
  intro (y : (⟨2, ![256, 1408]⟩ : Shape).Idx)
  idx_vars y
  rw [da_apply]
  refine congrArg (fun i : (⟨2, ![4096, 5632]⟩ : Shape).Idx => gradAt _ _ _ _ _ (i 0) (i 1)) (a₁ := ix2 (row t y0) (col t y1)) ?_
  blk_ext [h0, h1, row, col]

/-- The array of the gated factor's gradient. -/
theorem final8 (c : Dev nD) : (dats m 0 c).arrAt 8 cfg0.N =
    fun i : (⟨2, ![4096, 5632]⟩ : Shape).Idx => other (V m c main_arg2 (ix2 (i 0) (i 1))) (pre (V m c main_arg0) (V m c main_arg3) (V m c main_arg4) (i 0) (i 1)) := by
  refine (dats m 0 c).arrAt_eq_of_covers 8 _ (by decide +kernel) fun t hf y => ?_
  obtain ⟨-, ⟨h0, h1⟩, -⟩ := places t
  blk_simp
  rw [after0_8]
  revert y
  intro (y : (⟨2, ![256, 1408]⟩ : Shape).Idx)
  idx_vars y
  rw [out8]
  refine congrArg (fun i : (⟨2, ![4096, 5632]⟩ : Shape).Idx => other (V m c main_arg2 (ix2 (i 0) (i 1))) (pre _ _ _ (i 0) (i 1)))
    (a₁ := ix2 (row t y0) (col t y1)) ?_
  blk_ext [h0, h1, row, col]

/-- The array of the sums. -/
theorem final9 (c : Dev nD) : (dats m 0 c).arrAt 9 cfg0.N =
    sums (V m c main_arg0) (V m c main_arg1) (V m c main_arg2) (V m c main_arg3) (V m c main_arg4) := by
  refine (dats m 0 c).arrAt_eq_of_covers 9 _ (by decide +kernel) fun t hf y => ?_
  obtain ⟨-, -, h0, h1⟩ := places t
  blk_simp
  rw [after0_9]
  revert y
  intro (y : (⟨2, ![8, 1408]⟩ : Shape).Idx)
  idx_vars y
  rw [total m c t ((flush0_9 t).mp hf)]
  refine congrArg (sums _ _ _ _ _) ?_
  blk_ext [h0, h1, col]

end Cert.ActIdeal.Mm

end
-- ==== Proof.Mm.ActFinite.lean ====
/- The gate's precondition read back: every entry of the gated factor and of the arriving gradient is a real. -/
module

public import proofs.«01_k».proof.Pre_finite_act
public import proofs.«01_k».proof.Proof.Bwd.Finite

@[expose] public section

noncomputable section

namespace Cert.Pre_finite_act

open Idealize.ShloMosaic Cert.Pre_finite

/-- The predicate's side conditions. -/
theorem facts : Facts where
  bitsLt_bf16_f32 := by decide
  bcast_S_S4096x5632 := by decide
  reducesTo_S4096x5632_S_d0_1 := by decide
  h_S_ := by decide

/-- Under the precondition both arrays hold reals. -/
theorem reals [Facts] (G U D : FVec Ideal S4096x5632 .bf16) (W : FVec Ideal S3x5632 .f32) (b : FVec Ideal S1x5632 .f32)
    (h : fn (F := Ideal) G U D W b = fun _ => 1#1) : (∀ i, ∃ y : ℝ, U i = (y : EReal)) ∧ ∀ i, ∃ y : ℝ, D i = (y : EReal) := by
  have h0 := congrFun h (fun a => a.elim0)
  obtain ⟨ha, hb⟩ := and_one _ _ h0
  haveI : Subsingleton S_.Idx := ⟨fun x y => funext fun a => a.elim0⟩
  exact ⟨fun i => real_of_lt _ (Host.reduce_andi_all _ _ _ _ _ ha i), fun i => real_of_lt _ (Host.reduce_andi_all _ _ _ _ _ hb i)⟩

end Cert.Pre_finite_act

end
-- ==== Proof.Mm.ActRef.lean ====
/- The reference's gradients of the gate, entry by entry. -/
module

public import Idealize.ShloMosaic.Lib.IdealHost
public import proofs.«01_k».proof.Proof.Mm.Gate
public import proofs.«01_k».proof.Proof.Gen.ActRefIdeal.Read

@[expose] public section

set_option maxRecDepth 16384

noncomputable section

namespace Cert.ActRefIdeal.Mm

open Cert.ActRefIdeal Cert.ActRefIdeal.Gen Cert.ActRefIdeal.Read Cert.Mm Cert.Rows Cert.Gate Idealize.ShloMosaic

variable (G U D : FVec Ideal S4096x5632 .bf16) (W : FVec Ideal S3x5632 .f32) (b : FVec Ideal S1x5632 .f32) (r : Fin 4096) (j : Fin 5632)

/-- The rows before, at and after a row, for the gate's operand. -/
theorem taps : val_main_v7 (F := Ideal) G (ix3 0 r j) = above G r j ∧ val_main_v13 (F := Ideal) G (ix3 0 r j) = G (ix2 r j) ∧
    val_main_v20 (F := Ideal) G (ix3 0 r j) = below G r j := by
  refine ⟨?_, ?_, ?_⟩
  · pointwise [val_main_v7, val_main_v6, val_main_v5, val_main_cst, val_main_v3, val_main_v2]
    unfold above
    by_cases h : r.val = 0
    · exact (dif_pos (by omega)).trans (if_pos (Or.inl h)).symm
    · exact (dif_neg (by omega)).trans ((dif_pos (by omega)).trans (if_neg (by omega)).symm)
  · pointwise [val_main_v13, val_main_v6, val_main_v5, val_main_cst, val_main_v3, val_main_v2]
  · pointwise [val_main_v20, val_main_v6, val_main_v5, val_main_cst, val_main_v3, val_main_v2]
    by_cases h : r.val + 1 = 4096
    · have e : below G r j = 0 := by
        unfold below
        exact dif_pos (Or.inl h)
      exact (dif_neg (by omega)).trans ((dif_neg (by omega)).trans e.symm)
    · have e : below G r j = G (ix2 ⟨r.val + 1, by omega⟩ j) := by
        unfold below
        exact dif_neg (by omega)
      refine (dif_neg (by omega)).trans ((dif_pos (by omega)).trans (Eq.trans (congrArg G ?_) e.symm))
      blk_ext [] <;> omega

/-- The gate's operand. -/
theorem pre_at : val_main_v29 (F := Ideal) G W b (ix3 0 r j) = pre G W b r j := by
  obtain ⟨h0, h1, h2⟩ := taps G r j
  pointwise [val_main_v29, val_main_v28, val_main_v27, val_main_v26, val_main_v25, val_main_v24, val_main_v23, val_main_v22, val_main_v21, val_main_v19, val_main_v18, val_main_v17, val_main_v16, val_main_v15,
    val_main_v14, val_main_v12, val_main_v11, val_main_v10, val_main_v9, val_main_v8, val_main_v4]
  rw [h0, h1, h2]
  rfl

/-- The gradient of the operand. -/
theorem grad_at (hu : ∃ x : ℝ, U (ix2 r j) = (x : EReal)) (hd : ∃ x : ℝ, D (ix2 r j) = (x : EReal)) :
    val_main_v35 (F := Ideal) G U D W b (ix3 0 r j) = gradAt G U D W b r j := by
  have h := pre_at G W b r j
  pointwise [val_main_v35, val_main_call1_v0, val_main_call1_v1, val_main_call1_v2, val_main_v34, val_main_v33, val_main_v32, val_main_v31, val_main_v30_2, val_main_v30_1, val_main_call0_v0, val_main_call0_v1, val_main_call0_v2,
   val_main_call0_v3, val_main_call0_v4, val_main_call0_v6, val_main_call0_v7, val_main_call0_cst, val_main_call0_cst_0, val_main_call0_cst_1, val_main_v1, val_main_v0]
  rw [h]
  obtain ⟨x, hx⟩ := hd
  obtain ⟨y, hy⟩ := hu
  unfold gradAt
  rw [hx, hy]
  exact grad_eq x y _

/-- The gradient of the gated factor. -/
theorem other_at : val_main_v94 (F := Ideal) G D W b (ix2 r j) = other (D (ix2 r j)) (pre G W b r j) := by
  have h := pre_at G W b r j
  pointwise [val_main_v94, val_main_v93, val_main_v40, val_main_v38, val_main_call2_v0, val_main_call2_v1, val_main_call2_v2, val_main_call2_v3, val_main_call2_v4, val_main_call2_v5, val_main_call2_cst, val_main_call2_cst_0, val_main_v1, val_main_v0]
  rw [h]
  exact mul_comm _ _

end Cert.ActRefIdeal.Mm

end
-- ==== Proof.Mm.ActRefSum.lean ====
/- The reference's gradients of the weights and of the bias. -/
module

public import proofs.«01_k».proof.Proof.Mm.ActRef

@[expose] public section

set_option maxRecDepth 16384

noncomputable section

namespace Cert.ActRefIdeal.Mm

open Cert.ActRefIdeal Cert.ActRefIdeal.Gen Cert.ActRefIdeal.Read Cert.Mm Cert.Rows Cert.Gate Idealize.ShloMosaic

/-- A sum over two axes of one entry each is that entry. -/
theorem unit_sum (y : FVec Ideal S1x1x5632 .f32) (z : FVec Ideal S_ .f32) (hz : z (Shape.Idx.first h_S_) = 0) (j : Fin 5632) :
    Host.reduceAdd y z reducesTo_S1x1x5632_S5632_d0_1 h_S_ (ix1 j) = y (ix3 0 0 j) := by
  simp only [Host.reduceAdd, Ideal.hostReduceAdd_def]
  unfold Ideal.hostReduceAdd
  have hf : (Finset.univ.filter fun i => Shape.ReducesTo.drop reducesTo_S1x1x5632_S5632_d0_1 i = ix1 j) = {ix3 (0 : Fin 1) (0 : Fin 1) j} := by
    ext i
    rw [Finset.mem_filter, Finset.mem_singleton]
    constructor
    · rintro ⟨-, hi⟩
      have e2 : (i 2).val = j.val := congrArg (fun k : S5632.Idx => (k 0).val) hi
      have e0 : (i 0).val < 1 := (i 0).isLt
      have e1 : (i 1).val < 1 := (i 1).isLt
      funext a
      apply Fin.ext
      match a with
      | ⟨0, _⟩ => show (i 0).val = 0; omega
      | ⟨1, _⟩ => show (i 1).val = 0; omega
      | ⟨2, _⟩ => exact e2
    · rintro rfl
      refine ⟨Finset.mem_univ _, funext fun a => Fin.ext ?_⟩
      match a with
      | ⟨0, _⟩ => rfl
  rw [hf, Finset.sum_singleton, hz, zero_add]

/-- Three padded rows added up, a fourth and four of zeros below them. -/
theorem padded (a : Fin 8) (s0 s1 s2 s3 : EReal) :
    (if h : a.val < 3 then ((if h : 2 ≤ a.val ∧ a.val - 2 < 1 then s2 else 0) + if h : 1 ≤ a.val ∧ a.val - 1 < 1 then s1 else 0) + if h : a.val < 1 then s0 else 0
      else if h : a.val - 3 < 1 then s3 else 0) = pick a s0 s1 s2 s3 := by
  unfold pick
  fin_cases a <;> simp

variable (G U D : FVec Ideal S4096x5632 .bf16) (W : FVec Ideal S3x5632 .f32) (b : FVec Ideal S1x5632 .f32)

/-- The rows before, at and after a row, for the weights' gradient. -/
theorem taps' (r : Fin 4096) (j : Fin 5632) : val_main_v46 (F := Ideal) G (ix3 0 r j) = above G r j ∧ val_main_v52 (F := Ideal) G (ix3 0 r j) = G (ix2 r j) ∧
    val_main_v59 (F := Ideal) G (ix3 0 r j) = below G r j := taps G r j

variable (hu : ∀ i, ∃ x : ℝ, U i = (x : EReal)) (hd : ∀ i, ∃ x : ℝ, D i = (x : EReal))
include hu hd

/-- The bias' gradient. -/
theorem bias_at (j : Fin 5632) : val_main_v71 (F := Ideal) G U D W b (ix1 j) = ∑ r : Fin 4096, gradAt G U D W b r j := by
  unfold val_main_v71
  rw [unit_sum _ _ (by pointwise [val_main_cst_2])]
  pointwise [val_main_v70, val_main_v69, val_main_cst_1]
  exact Finset.sum_congr rfl fun r _ => grad_at G U D W b r j (hu _) (hd _)

/-- The third weight's gradient. -/
theorem below_at (j : Fin 5632) : val_main_v75 (F := Ideal) G U D W b (ix1 j) = ∑ r : Fin 4096, gradAt G U D W b r j * below G r j := by
  unfold val_main_v75
  rw [unit_sum _ _ (by pointwise [val_main_cst_4])]
  pointwise [val_main_v74, val_main_v73, val_main_v72, val_main_cst_3]
  refine Finset.sum_congr rfl fun r _ => ?_
  rw [grad_at G U D W b r j (hu _) (hd _), (taps' G r j).2.2, mul_comm]

/-- The second weight's gradient. -/
theorem at_at (j : Fin 5632) : val_main_v81 (F := Ideal) G U D W b (ix1 j) = ∑ r : Fin 4096, gradAt G U D W b r j * G (ix2 r j) := by
  unfold val_main_v81
  rw [unit_sum _ _ (by pointwise [val_main_cst_7])]
  pointwise [val_main_v80, val_main_v79, val_main_v78, val_main_cst_6]
  refine Finset.sum_congr rfl fun r _ => ?_
  rw [grad_at G U D W b r j (hu _) (hd _), (taps' G r j).2.1, mul_comm]

/-- The first weight's gradient. -/
theorem above_at (j : Fin 5632) : val_main_v88 (F := Ideal) G U D W b (ix1 j) = ∑ r : Fin 4096, gradAt G U D W b r j * above G r j := by
  unfold val_main_v88
  rw [unit_sum _ _ (by pointwise [val_main_cst_10])]
  pointwise [val_main_v87, val_main_v86, val_main_v85, val_main_cst_9]
  refine Finset.sum_congr rfl fun r _ => ?_
  rw [grad_at G U D W b r j (hu _) (hd _), (taps' G r j).1, mul_comm]

/-- The array of the sums. -/
theorem sums_eq : val_main_v97 (F := Ideal) G U D W b = sums G U D W b := by
  funext i
  revert i
  intro (i : (⟨2, ![8, 5632]⟩ : Shape).Idx)
  idx_vars i
  show val_main_v97 (F := Ideal) G U D W b (ix2 i0 i1) = sumsAt G U D W b i0 i1
  unfold sumsAt
  rw [← bias_at G U D W b hu hd, ← below_at G U D W b hu hd, ← at_at G U D W b hu hd, ← above_at G U D W b hu hd]
  unfold pick
  pointwise [val_main_v97, val_main_v91, val_main_v90, val_main_v89, val_main_v84, val_main_v83, val_main_v82, val_main_v77, val_main_v76, val_main_v95, val_main_v96, val_main_cst_5, val_main_cst_8, val_main_cst_11, val_main_cst_12]
  exact padded i0 _ _ _ _

end Cert.ActRefIdeal.Mm

end
-- ==== Proof.Mm.ActClaims.lean ====
/- The gate's gradients: what is claimed of them. -/
module

public import proofs.«01_k».proof.Defs
public import proofs.«01_k».proof.Proof.Gen.Act
public import proofs.«01_k».proof.Proof.Gen.Act.Frame
public import proofs.«01_k».proof.Proof.Mm.Act
public import proofs.«01_k».proof.Proof.Mm.ActFinite
public import proofs.«01_k».proof.Proof.Mm.ActRefSum

@[expose] public section

set_option maxRecDepth 16384

noncomputable section

namespace Cert.ActIdeal.Mm

open Cert.ActIdeal Cert.ActIdeal.Gen Cert.Mm Cert.Gate Idealize.ShloMosaic Idealize.ShloMosaic.TcCoe Idealize.SL.Sem

/-- The kernel runs and keeps its arguments; every counter ends at zero. -/
theorem frame_p : Cert.quiescent_Act (hAct := Cert.Act.Gen.facts) := fun m ρ _ => Cert.Act.Gen.frame m ρ

/-- So does its idealization. -/
theorem frame_pi : Cert.quiescent_ActIdeal (hActIdeal := Cert.ActIdeal.Gen.facts) := fun m ρ _ => Cert.ActIdeal.Gen.frame m ρ

/-- The same under the precondition. -/
theorem frame_pi_pre : Cert.quiescent_ActIdeal_pre_finite_act (hActIdeal := Cert.ActIdeal.Gen.facts) (hPre_finite_act := Cert.Pre_finite_act.facts) :=
  fun m ρ _ => Cert.ActIdeal.Gen.frame m ρ

/-- So does the reference, which declares no semaphore. -/
theorem frame_r : Cert.quiescent_ActRefIdeal (hActRefIdeal := Cert.ActRefIdeal.Gen.facts) := fun m ρ _ =>
  (θ_run Cert.ActRefIdeal.defs _ _).mono (fun r h => ⟨fun c => (h c).2.2.2, sem_eq_zero_of_no_sems (by decide) r.2⟩)
    (Cert.ActRefIdeal.Value.run (F := Ideal) m ρ)

/-- The same under the precondition. -/
theorem frame_r_pre : Cert.quiescent_ActRefIdeal_pre_finite_act (hActRefIdeal := Cert.ActRefIdeal.Gen.facts) (hPre_finite_act := Cert.Pre_finite_act.facts) :=
  fun m ρ _ => frame_r m ρ trivial

/-- The three results of the reference are the kernel's, where `U` and `D` hold reals. -/
theorem reference (G U D : Mat 4096 5632) (W : Mat 3 5632) (b : Mat 1 5632) (hu : ∀ i, ∃ x : ℝ, U i = (x : EReal)) (hd : ∀ i, ∃ x : ℝ, D i = (x : EReal)) :
    (Cert.ActRefIdeal.Read.val_main_v92 (F := Ideal) G U D W b = fun i : (⟨2, ![4096, 5632]⟩ : Shape).Idx => gradAt G U D W b (i 0) (i 1)) ∧
    (Cert.ActRefIdeal.Read.val_main_v94 (F := Ideal) G D W b = fun i : (⟨2, ![4096, 5632]⟩ : Shape).Idx => other (D (ix2 (i 0) (i 1))) (pre G W b (i 0) (i 1))) ∧
    Cert.ActRefIdeal.Read.val_main_v97 (F := Ideal) G U D W b = sums G U D W b := by
  refine ⟨?_, ?_, Cert.ActRefIdeal.Mm.sums_eq G U D W b hu hd⟩
  · funext i
    revert i
    intro (i : (⟨2, ![4096, 5632]⟩ : Shape).Idx)
    idx_vars i
    pointwise [Cert.ActRefIdeal.Read.val_main_v92]
    exact Cert.ActRefIdeal.Mm.grad_at G U D W b i0 i1 (hu _) (hd _)
  · funext i
    revert i
    intro (i : (⟨2, ![4096, 5632]⟩ : Shape).Idx)
    idx_vars i
    exact Cert.ActRefIdeal.Mm.other_at G D W b i0 i1

/-- The kernel's results are the reference's, over the extended reals, where the gated factor and the arriving gradient are finite. -/
theorem algebraic : Cert.algebraic_ActIdeal_ActRefIdeal_pre_finite_act (hActIdeal := Cert.ActIdeal.Gen.facts) (hActRefIdeal := Cert.ActRefIdeal.Gen.facts)
    (hPre_finite_act := Cert.Pre_finite_act.facts) := by
  intro m g m' g' hpre hag
  have key := fun c => reference (V m c main_arg0) (V m c main_arg1) (V m c main_arg2) (V m c main_arg3) (V m c main_arg4)
    (@Cert.Pre_finite_act.reals Cert.Pre_finite_act.facts _ _ _ _ _ (hpre c)).1 (@Cert.Pre_finite_act.reals Cert.Pre_finite_act.facts _ _ _ _ _ (hpre c)).2
  refine ⟨_, _, _, (θ_run defs _ _).mono (fun r h c => ⟨(h c).1.trans (final7 m c), (h c).2.1.trans (final8 m c), (h c).2.2.1.trans (final9 m c), (h c).2.2.2⟩)
      (Value.run_blocks m g),
    (θ_run Cert.ActRefIdeal.defs _ _).mono (fun r h c => ?_) (Cert.ActRefIdeal.Value.run (F := Ideal) m' g')⟩
  obtain ⟨e0, e1, e2, e3, e4⟩ := hag c
  obtain ⟨h0, h1, h2, h3⟩ := h c
  refine ⟨h0.trans ?_, h1.trans ?_, h2.trans ?_, h3⟩
  · refine (Cert.ActRefIdeal.Read.val_main_v92_eq m' c).trans (Eq.trans ?_ (key c).1)
    rw [e0, e1, e2, e3, e4]
  · refine (Cert.ActRefIdeal.Read.val_main_v94_eq m' c).trans (Eq.trans ?_ (key c).2.1)
    rw [e0, e2, e3, e4]
  · refine (Cert.ActRefIdeal.Read.val_main_v97_eq m' c).trans (Eq.trans ?_ (key c).2.2)
    rw [e0, e1, e2, e3, e4]

end Cert.ActIdeal.Mm

end
-- ==== Proof.Mm.Pass.lean ====
/- The feed-forward layer's gated product. -/
module

public import proofs.«01_k».proof.Proof.Mm.Gate

@[expose] public section

noncomputable section

namespace Cert.Gate

open Cert.Mm Idealize.ShloMosaic

/-- The gated factor, times the gate's operand and its logistic function. -/
def pass {T F : ℕ} (G U : Mat T F) (W : Mat 3 F) (b : Mat 1 F) (r : Fin T) (j : Fin F) : EReal :=
  pre G W b r j * sg (pre G W b r j) * U (ix2 r j)

end Cert.Gate

end
-- ==== Proof.Mm.MidBlock.lean ====
/- What a point of the gate reads and writes, in the rows and columns of the arrays. -/
module

public import Idealize.ShloMosaic.Lib.Pipeline.ReadBack
public import proofs.«01_k».proof.Proof.Mm.Gate
public import proofs.«01_k».proof.Proof.Gen.MidIdeal.Value

@[expose] public section

set_option maxRecDepth 16384

noncomputable section

namespace Cert.MidIdeal.Mm

open Cert.MidIdeal Cert.MidIdeal.Gen Cert.Mm Cert.Rows Cert.Gate Idealize.ShloMosaic Idealize.ShloMosaic.TcCoe Idealize.SL.Sem

variable (m : (ℓ : Loc nD τ sig) → Buf (Elt Ideal) ℓ) (ρ : Dev nD → PrngReg)

/-- The first weight's share: the row before. -/
theorem before (i : grid0.Coords) (x : Vec Ideal S256x1408 .bf16) (p : Vec Ideal S16x1408 .bf16) (w : Vec Ideal S1x1408 .f32) (a : Fin 256) (b : Fin 1408) :
    k0_pay4 (F := Ideal) i x p w (ix2 a b) =
      (if a.val = 0 then (if (i 1).val = 0 ∨ (i 1).val = 16 then 0 else p (ix2 15 b)) else x (ix2 ⟨a.val - 1, by omega⟩ b)) * w (ix2 0 b) := by
  have h : (i 1).val < 17 := lt_trans (i 1).isLt (by decide)
  pointwise [k0_pay4, k0_pay2]
  rw [first, opens _ h]
  refine congrArg (· * _) ?_
  split
  · rfl
  · refine congrArg x ?_
    blk_ext [] <;> omega

/-- The row after. -/
theorem after (i : grid0.Coords) (x : Vec Ideal S256x1408 .bf16) (p : Vec Ideal S16x1408 .bf16) (a : Fin 256) (b : Fin 1408) :
    k0_pay3 (F := Ideal) i x p (ix2 a b) =
      if h : a.val = 255 then (if (i 1).val = 15 then 0 else p (ix2 0 b)) else x (ix2 ⟨a.val + 1, by omega⟩ b) := by
  have h : (i 1).val < 17 := lt_trans (i 1).isLt (by decide)
  pointwise [k0_pay3, k0_pay2]
  rw [last, closes _ h]
  split
  · rfl
  · refine congrArg x ?_
    blk_ext [] <;> omega

/-- What the point stores, over the gate's operand. -/
theorem gated (x y z : Vec Ideal S256x1408 .f32) (w w' o : Vec Ideal S1x1408 .f32) (u : Vec Ideal S256x1408 .bf16) (a : Fin 256) (b : Fin 1408) (q : EReal)
    (h : z (ix2 a b) + x (ix2 a b) * w (ix2 0 b) + y (ix2 a b) * w' (ix2 0 b) + o (ix2 0 b) = q) :
    k0_pay1 (F := Ideal) x y z w w' o u (ix2 a b) = q * sg q * u (ix2 a b) := by
  pointwise [k0_pay1]
  rw [h]
  unfold sg
  simp

end Cert.MidIdeal.Mm

end
-- ==== Proof.Mm.MidPoint.lean ====
/- The values of a point of the gate, and the array they make up. -/
module

public import proofs.«01_k».proof.Proof.Mm.Pass
public import proofs.«01_k».proof.Proof.Mm.MidBlock

@[expose] public section

set_option maxRecDepth 16384

noncomputable section

namespace Cert.MidIdeal.Mm

open Cert.MidIdeal Cert.MidIdeal.Gen Cert.Mm Cert.Rows Cert.Gate Idealize.ShloMosaic Idealize.ShloMosaic.TcCoe Idealize.SL.Sem

variable (m : (ℓ : Loc nD τ sig) → Buf (Elt Ideal) ℓ) (ρ : Dev nD → PrngReg)

/-- The array's row at row `a` of a point's block. -/
def row (t : Fin cfg0.N) (a : Fin 256) : Fin 4096 := ⟨t.val % 16 * 256 + a.val, by omega⟩

/-- The array's column at column `b` of a point's block. -/
def col (t : Fin cfg0.N) (b : Fin 1408) : Fin 5632 := ⟨t.val / 16 * 1408 + b.val, by
  have h : t.val < 64 := lt_of_lt_of_le t.isLt (by decide)
  omega⟩

/-- A point's block of the gate, of the other factor, of the result, of the weights and of the bias. -/
theorem index : ∀ t : Fin cfg0.N, (grid0.coords t 1).val = t.val % 16 ∧ (win0_0.index t 0 = t.val % 16 ∧ win0_0.index t 1 = t.val / 16) ∧
    (win0_3.index t 0 = t.val % 16 ∧ win0_3.index t 1 = t.val / 16) ∧ (win0_6.index t 0 = t.val % 16 ∧ win0_6.index t 1 = t.val / 16) ∧
    (win0_4.index t 0 = 0 ∧ win0_4.index t 1 = t.val / 16) ∧ win0_5.index t 0 = 0 ∧ win0_5.index t 1 = t.val / 16 :=
  (by decide +kernel : ∀ t : Fin grid0.N, (grid0.coords t 1).val = t.val % 16 ∧ (win0_0.index t 0 = t.val % 16 ∧ win0_0.index t 1 = t.val / 16) ∧
    (win0_3.index t 0 = t.val % 16 ∧ win0_3.index t 1 = t.val / 16) ∧ (win0_6.index t 0 = t.val % 16 ∧ win0_6.index t 1 = t.val / 16) ∧
    (win0_4.index t 0 = 0 ∧ win0_4.index t 1 = t.val / 16) ∧ win0_5.index t 0 = 0 ∧ win0_5.index t 1 = t.val / 16)

/-- Reading the gate's block in the wider format changes nothing. -/
theorem same (x : Vec Ideal S256x1408 .bf16) (i : S256x1408.Idx) : k0_pay2 (F := Ideal) x i = x i := rfl

/-- The rows beside it. -/
theorem ends : ∀ t : Fin cfg0.N, (win0_1.index t 0 = t.val % 16 * 16 - 1 ∧ win0_1.index t 1 = t.val / 16) ∧
    win0_2.index t 0 = min (t.val % 16 * 16 + 16) 255 ∧ win0_2.index t 1 = t.val / 16 :=
  (by decide +kernel : ∀ t : Fin grid0.N, (win0_1.index t 0 = t.val % 16 * 16 - 1 ∧ win0_1.index t 1 = t.val / 16) ∧
    win0_2.index t 0 = min (t.val % 16 * 16 + 16) 255 ∧ win0_2.index t 1 = t.val / 16)

/-- An entry of the gate's block. -/
theorem blk0 (c : Dev nD) (t : Fin cfg0.N) (a : Fin 256) (b : Fin 1408) :
    (iblk m c 0 t : Vec Ideal S256x1408 .bf16) (ix2 a b) = V m c main_arg0 (ix2 (row t a) (col t b)) := by
  obtain ⟨g, ⟨h0, h1⟩, -⟩ := index t
  blk_simp [iblk]
  refine congrArg (V m c main_arg0) ?_
  blk_ext [h0, h1, row, col]

/-- An entry of the other factor's block. -/
theorem blk3 (c : Dev nD) (t : Fin cfg0.N) (a : Fin 256) (b : Fin 1408) :
    (iblk m c 3 t : Vec Ideal S256x1408 .bf16) (ix2 a b) = V m c main_arg1 (ix2 (row t a) (col t b)) := by
  obtain ⟨g, -, ⟨h0, h1⟩, -⟩ := index t
  blk_simp [iblk]
  refine congrArg (V m c main_arg1) ?_
  blk_ext [h0, h1, row, col]

/-- The weights' rows. -/
theorem taps (c : Dev nD) (t : Fin cfg0.N) (b : Fin 1408) :
    View.ld (iblk m c 4 t : Vec Ideal S3x1408 .f32) (Rect.unit ![0, 0] ![1, 1408] inb_S3x1408_S1x1408_0_0) (ix2 0 b) = V m c main_arg2 (ix2 0 (col t b)) ∧
    View.ld (iblk m c 4 t : Vec Ideal S3x1408 .f32) (Rect.unit ![1, 0] ![1, 1408] inb_S3x1408_S1x1408_1_0) (ix2 0 b) = V m c main_arg2 (ix2 1 (col t b)) ∧
    View.ld (iblk m c 4 t : Vec Ideal S3x1408 .f32) (Rect.unit ![2, 0] ![1, 1408] inb_S3x1408_S1x1408_2_0) (ix2 0 b) = V m c main_arg2 (ix2 2 (col t b)) := by
  obtain ⟨g, -, -, -, ⟨h0, h1⟩, -⟩ := index t
  have h : ∀ k : Fin 3, (iblk m c 4 t : Vec Ideal S3x1408 .f32) (ix2 k b) = V m c main_arg2 (ix2 k (col t b)) := by
    intro k
    blk_simp [iblk]
    refine congrArg (V m c main_arg2) ?_
    blk_ext [h0, h1, col]
  refine ⟨(View.ld_unit_apply_of (iblk m c 4 t) _ _ _ _ (ix2 0 b) ?_).trans (h 0), (View.ld_unit_apply_of (iblk m c 4 t) _ _ _ _ (ix2 1 b) ?_).trans (h 1),
    (View.ld_unit_apply_of (iblk m c 4 t) _ _ _ _ (ix2 2 b) ?_).trans (h 2)⟩ <;>
    exact Fin.forall_fin_two.mpr ⟨rfl, (Nat.zero_add _).symm⟩

/-- The bias. -/
theorem bias (c : Dev nD) (t : Fin cfg0.N) (b : Fin 1408) : (iblk m c 5 t : Vec Ideal S1x1408 .f32) (ix2 0 b) = V m c main_arg3 (ix2 0 (col t b)) := by
  obtain ⟨g, -, -, -, -, h0, h1⟩ := index t
  blk_simp [iblk]
  refine congrArg (V m c main_arg3) ?_
  blk_ext [h0, h1, col]

/-- The row before, in the array. -/
theorem before_point (c : Dev nD) (t : Fin cfg0.N) (w : Vec Ideal S1x1408 .f32) (a : Fin 256) (b : Fin 1408) :
    k0_pay4 (F := Ideal) (grid0.coords t) (iblk m c 0 t) (iblk m c 1 t) w (ix2 a b) = above (V m c main_arg0) (row t a) (col t b) * w (ix2 0 b) := by
  obtain ⟨g, -⟩ := index t
  obtain ⟨⟨h0, h1⟩, -⟩ := ends t
  rw [before, g]
  refine congrArg (· * _) ?_
  unfold above
  split
  · split
    · rw [if_pos (by simp only [row]; omega)]
    · rw [if_neg (by simp only [row]; omega)]
      blk_simp [iblk]
      refine congrArg (V m c main_arg0) ?_
      blk_ext [h0, h1, row, col] <;> omega
  · rw [if_neg (by simp only [row]; omega), blk0]
    refine congrArg (V m c main_arg0) ?_
    blk_ext [row, col] <;> omega

/-- The row after, in the array. -/
theorem after_point (c : Dev nD) (t : Fin cfg0.N) (a : Fin 256) (b : Fin 1408) :
    k0_pay3 (F := Ideal) (grid0.coords t) (iblk m c 0 t) (iblk m c 2 t) (ix2 a b) = below (V m c main_arg0) (row t a) (col t b) := by
  obtain ⟨g, -⟩ := index t
  obtain ⟨-, h0, h1⟩ := ends t
  rw [after, g]
  unfold below
  split
  · split
    · rw [dif_pos (by simp only [row]; omega)]
    · rw [dif_neg (by simp only [row]; omega)]
      blk_simp [iblk]
      refine congrArg (V m c main_arg0) ?_
      blk_ext [h0, h1, row, col] <;> omega
  · rw [dif_neg (by simp only [row]; omega), blk0]
    refine congrArg (V m c main_arg0) ?_
    blk_ext [row, col] <;> omega

/-- What a point leaves. -/
theorem gated_point (c : Dev nD) (t : Fin cfg0.N) (a : Fin 256) (b : Fin 1408) :
    k0_pay1 (F := Ideal) (k0_pay2 (iblk m c 0 t)) (k0_pay3 (grid0.coords t) (iblk m c 0 t) (iblk m c 2 t))
      (k0_pay4 (grid0.coords t) (iblk m c 0 t) (iblk m c 1 t) (View.ld (iblk m c 4 t) (Rect.unit ![0, 0] ![1, 1408] inb_S3x1408_S1x1408_0_0)))
      (View.ld (iblk m c 4 t) (Rect.unit ![1, 0] ![1, 1408] inb_S3x1408_S1x1408_1_0)) (View.ld (iblk m c 4 t) (Rect.unit ![2, 0] ![1, 1408] inb_S3x1408_S1x1408_2_0))
      (iblk m c 5 t) (iblk m c 3 t) (ix2 a b) =
      pass (V m c main_arg0) (V m c main_arg1) (V m c main_arg2) (V m c main_arg3) (row t a) (col t b) := by
  refine (gated _ _ _ _ _ _ _ a b (pre (V m c main_arg0) (V m c main_arg2) (V m c main_arg3) (row t a) (col t b)) ?_).trans ?_
  · rw [before_point, after_point, bias, (taps m c t b).1, (taps m c t b).2.1, (taps m c t b).2.2, same, blk0]
    rfl
  · rw [blk3]
    rfl

/-- The result array. -/
theorem final (c : Dev nD) : (dats m 0 c).arrAt 6 cfg0.N =
    fun i : (⟨2, ![4096, 5632]⟩ : Shape).Idx => pass (V m c main_arg0) (V m c main_arg1) (V m c main_arg2) (V m c main_arg3) (i 0) (i 1) := by
  refine (dats m 0 c).arrAt_eq_of_covers 6 _ (by decide +kernel) fun t hf y => ?_
  obtain ⟨-, -, -, ⟨h0, h1⟩, -⟩ := index t
  blk_simp
  rw [after0_6]
  frame_out
  revert y
  intro (y : (⟨2, ![256, 1408]⟩ : Shape).Idx)
  idx_vars y
  refine (gated_point m c t y0 y1).trans ?_
  refine congrArg (fun i : (⟨2, ![4096, 5632]⟩ : Shape).Idx => pass _ _ _ _ (i 0) (i 1)) (a₁ := ix2 (row t y0) (col t y1)) ?_
  blk_ext [h0, h1, row, col]

end Cert.MidIdeal.Mm

end
-- ==== Proof.Mm.Mid.lean ====
/- The gate: what is claimed of it. -/
module

public import Idealize.ShloMosaic.Lib.IdealHost
public import proofs.«01_k».proof.Defs
public import proofs.«01_k».proof.Proof.Gen.Mid
public import proofs.«01_k».proof.Proof.Gen.Mid.Frame
public import proofs.«01_k».proof.Proof.Gen.MidRefIdeal
public import proofs.«01_k».proof.Proof.Gen.MidRefIdeal.Read
public import proofs.«01_k».proof.Proof.Mm.MidPoint

@[expose] public section

set_option maxRecDepth 16384

noncomputable section

namespace Cert.MidRefIdeal.Mm

open Cert.MidRefIdeal Cert.MidRefIdeal.Gen Cert.MidRefIdeal.Read Cert.Mm Cert.Rows Cert.Gate Idealize.ShloMosaic

variable (G U : FVec Ideal S4096x5632 .bf16) (W : FVec Ideal S3x5632 .f32) (b : FVec Ideal S1x5632 .f32) (r : Fin 4096) (j : Fin 5632)

/-- The rows before, at and after a row, for the gate's operand. -/
theorem taps : val_main_v5 (F := Ideal) G (ix3 0 r j) = above G r j ∧ val_main_v11 (F := Ideal) G (ix3 0 r j) = G (ix2 r j) ∧
    val_main_v18 (F := Ideal) G (ix3 0 r j) = below G r j := by
  refine ⟨?_, ?_, ?_⟩
  · pointwise [val_main_v5, val_main_v4, val_main_v3, val_main_cst, val_main_v1, val_main_v0]
    unfold above
    by_cases h : r.val = 0
    · exact (dif_pos (by omega)).trans (if_pos (Or.inl h)).symm
    · exact (dif_neg (by omega)).trans ((dif_pos (by omega)).trans (if_neg (by omega)).symm)
  · pointwise [val_main_v11, val_main_v4, val_main_v3, val_main_cst, val_main_v1, val_main_v0]
  · pointwise [val_main_v18, val_main_v4, val_main_v3, val_main_cst, val_main_v1, val_main_v0]
    by_cases h : r.val + 1 = 4096
    · have e : below G r j = 0 := by
        unfold below
        exact dif_pos (Or.inl h)
      exact (dif_neg (by omega)).trans ((dif_neg (by omega)).trans e.symm)
    · have e : below G r j = G (ix2 ⟨r.val + 1, by omega⟩ j) := by
        unfold below
        exact dif_neg (by omega)
      refine (dif_neg (by omega)).trans ((dif_pos (by omega)).trans (Eq.trans (congrArg G ?_) e.symm))
      blk_ext [] <;> omega

/-- The gate's operand. -/
theorem pre_at : val_main_v27 (F := Ideal) G W b (ix3 0 r j) = pre G W b r j := by
  obtain ⟨h0, h1, h2⟩ := taps G r j
  pointwise [val_main_v27, val_main_v26, val_main_v25, val_main_v24, val_main_v23, val_main_v22, val_main_v21, val_main_v20, val_main_v19, val_main_v17, val_main_v16, val_main_v15, val_main_v14, val_main_v13, val_main_v12, val_main_v10, val_main_v9, val_main_v8, val_main_v7, val_main_v6, val_main_v2]
  rw [h0, h1, h2]
  rfl

/-- The result. -/
theorem pass_at : val_main_v33 (F := Ideal) G U W b (ix2 r j) = pass G U W b r j := by
  have h := pre_at G W b r j
  pointwise [val_main_v33, val_main_v32, val_main_v31, val_main_v30, val_main_v29, val_main_v28, val_main_call0_v0, val_main_call0_v1, val_main_call0_v2, val_main_call0_v3, val_main_call0_v4, val_main_call0_v5,
    val_main_call0_cst, val_main_call0_cst_0]
  rw [h]
  rfl

end Cert.MidRefIdeal.Mm

namespace Cert.MidIdeal.Mm

open Cert.MidIdeal Cert.MidIdeal.Gen Cert.Mm Cert.Gate Idealize.ShloMosaic Idealize.ShloMosaic.TcCoe Idealize.SL.Sem

/-- The kernel runs and keeps its arguments; every counter ends at zero. -/
theorem frame_p : Cert.quiescent_Mid (hMid := Cert.Mid.Gen.facts) := fun m ρ _ => Cert.Mid.Gen.frame m ρ

/-- So does its idealization. -/
theorem frame_pi : Cert.quiescent_MidIdeal (hMidIdeal := Cert.MidIdeal.Gen.facts) := fun m ρ _ => Cert.MidIdeal.Gen.frame m ρ

/-- So does the reference, which declares no semaphore. -/
theorem frame_r : Cert.quiescent_MidRefIdeal (hMidRefIdeal := Cert.MidRefIdeal.Gen.facts) := fun m ρ _ =>
  (θ_run Cert.MidRefIdeal.defs _ _).mono (fun r h => ⟨fun c => (h c).2, sem_eq_zero_of_no_sems (by decide) r.2⟩)
    (Cert.MidRefIdeal.Value.run (F := Ideal) m ρ)

/-- The reference's result, as an array. -/
theorem reference (G U : Mat 4096 5632) (W : Mat 3 5632) (b : Mat 1 5632) : Cert.MidRefIdeal.Read.val_main_v33 (F := Ideal) G U W b =
    fun i : (⟨2, ![4096, 5632]⟩ : Shape).Idx => pass G U W b (i 0) (i 1) := by
  funext i
  revert i
  intro (i : (⟨2, ![4096, 5632]⟩ : Shape).Idx)
  idx_vars i
  exact Cert.MidRefIdeal.Mm.pass_at G U W b i0 i1

/-- The kernel's result is the reference's, over the extended reals. -/
theorem algebraic : Cert.algebraic_MidIdeal_MidRefIdeal (hMidIdeal := Cert.MidIdeal.Gen.facts) (hMidRefIdeal := Cert.MidRefIdeal.Gen.facts) := by
  intro m g m' g' _ hag
  refine ⟨_, (θ_run defs _ _).mono (fun r h c => ⟨(h c).1.trans (final m c), (h c).2⟩) (Value.run_blocks m g),
    (θ_run Cert.MidRefIdeal.defs _ _).mono (fun r h c => ⟨(h c).1.trans ?_, (h c).2⟩) (Cert.MidRefIdeal.Value.run (F := Ideal) m' g')⟩
  obtain ⟨e0, e1, e2, e3⟩ := hag c
  refine (Cert.MidRefIdeal.Read.val_main_v33_eq m' c).trans (Eq.trans ?_ (reference (V m c main_arg0) (V m c main_arg1) (V m c main_arg2) (V m c main_arg3)))
  rw [e0, e1, e2, e3]

end Cert.MidIdeal.Mm

end
-- ==== Proof.Mm.Cols.lean ====
/- Consecutive columns of a matrix. -/
module

public import proofs.«01_k».proof.Proof.Mm.Sum

@[expose] public section

noncomputable section

namespace Cert.Mm

open Idealize.ShloMosaic

/-- The `K` columns of a matrix from column `o` on. -/
def cols {M L : ℕ} (K o : ℕ) (h : o + K ≤ L) (A : Mat M L) : Mat M K := fun i => A (ix2 (i 0 : Fin M) ⟨o + (i 1 : Fin K).val, lt_of_lt_of_le (Nat.add_lt_add_left (i 1 : Fin K).isLt o) h⟩)

end Cert.Mm

end
-- ==== Proof.Mm.Uq.lean ====
/- The expansion of the query's latent columns. -/
module

public import Idealize.ShloMosaic.Lib.Pipeline.ReadBack
public import proofs.«01_k».proof.Proof.Mm.Cols
public import proofs.«01_k».proof.Proof.Gen.UqIdeal.Value
public import proofs.«01_k».proof.Proof.Gen.Uq.Frame
public import proofs.«01_k».proof.Proof.Gen.UqRefIdeal.Read
public import proofs.«01_k».proof.Proof.Gen.UqRefIdeal
public import proofs.«01_k».proof.Defs

@[expose] public section

set_option maxRecDepth 16384

noncomputable section

namespace Cert.UqIdeal.Mm

open Cert.UqIdeal Cert.UqIdeal.Gen Cert.Mm Idealize.ShloMosaic Idealize.ShloMosaic.TcCoe Idealize.SL.Sem

variable (m : (ℓ : Loc nD τ sig) → Buf (Elt Ideal) ℓ) (ρ : Dev nD → PrngReg)

/-- The blocks a point reads and writes. -/
theorem index : ∀ t : Fin cfg0.N, (win0_0.index t 0 = t.val / 3 ∧ win0_0.index t 1 = 20 + t.val % 3) ∧ (win0_1.index t 0 = t.val % 3 ∧ win0_1.index t 1 = 0)
    ∧ win0_2.index t 0 = t.val / 3 ∧ win0_2.index t 1 = 0 :=
  (by decide +kernel : ∀ t : Fin grid0.N, (win0_0.index t 0 = t.val / 3 ∧ win0_0.index t 1 = 20 + t.val % 3) ∧ (win0_1.index t 0 = t.val % 3 ∧ win0_1.index t 1 = 0)
    ∧ win0_2.index t 0 = t.val / 3 ∧ win0_2.index t 1 = 0)

/-- A point's part of the product. -/
theorem part (x : Vec Ideal S1088x128 .bf16) (w : Vec Ideal S128x1024 .bf16) (a : Fin 1088) (b : Fin 1024) :
    k0_pay1 (F := Ideal) x w (ix2 a b) = ∑ k : Fin 128, x (ix2 a k) * w (ix2 k b) := by
  pointwise [k0_pay1]

/-- What the first point of a run leaves for the next. -/
theorem first (x : Vec Ideal S1088x128 .bf16) (w : Vec Ideal S128x1024 .bf16) (a : Fin 1088) (b : Fin 1024) :
    k0_pay2 (F := Ideal) x w (ix2 a b) = ∑ k : Fin 128, x (ix2 a k) * w (ix2 k b) := by
  unfold k0_pay2
  simp only [shapeCast_self]
  exact part x w a b

/-- What the middle point leaves for the last, over what the first left. -/
theorem middle (x : Vec Ideal S1088x128 .bf16) (w : Vec Ideal S128x1024 .bf16) (v : Vec Ideal S1088x1024 .f32) (a : Fin 1088) (b : Fin 1024) (e f : EReal)
    (he : v (ix2 a b) = e) (hf : ∑ k : Fin 128, x (ix2 a k) * w (ix2 k b) = f) : k0_pay3 (F := Ideal) x w v (ix2 a b) = e + f := by
  unfold k0_pay3
  simp only [shapeCast_self]
  exact congrArg₂ (fun e f : EReal => e + f) he ((part x w a b).trans hf)

/-- What the last point stores, over what the one before left. -/
theorem last (x : Vec Ideal S1088x128 .bf16) (w : Vec Ideal S128x1024 .bf16) (v : Vec Ideal S1088x1024 .f32) (a : Fin 1088) (b : Fin 1024) (e f : EReal)
    (he : v (ix2 a b) = e) (hf : ∑ k : Fin 128, x (ix2 a k) * w (ix2 k b) = f) : k0_pay4 (F := Ideal) x w v (ix2 a b) = e + f :=
  congrArg₂ (fun e f : EReal => e + f) he ((part x w a b).trans hf)

/-- The result array. -/
theorem final (c : Dev nD) : (dats m 0 c).arrAt 2 cfg0.N = nn (cols 384 2560 (by omega) (V m c main_arg0)) (V m c main_arg1) := by
  refine (dats m 0 c).arrAt_eq_of_covers 2 _ (by decide +kernel) fun t hf y => ?_
  have ht := (flush0_2 t).mp hf
  have hlt : t.val - 1 < cfg0.N := Nat.lt_of_le_of_lt (Nat.sub_le _ _) t.isLt
  have hlt' : t.val - 1 - 1 < cfg0.N := Nat.lt_of_le_of_lt (Nat.sub_le _ _) hlt
  obtain ⟨⟨h0, h1⟩, ⟨h2, h3⟩, h4, h5⟩ := index t
  obtain ⟨⟨g0, g1⟩, ⟨g2, g3⟩, g4, g5⟩ := index ⟨t.val - 1, hlt⟩
  obtain ⟨⟨f0, f1⟩, ⟨f2, f3⟩, f4, f5⟩ := index ⟨t.val - 1 - 1, hlt'⟩
  have hp : (outsAt0 m c (t.val - 1 - 1) hlt').2 = k0_pay2 (F := Ideal) (iblk m c 0 ⟨t.val - 1 - 1, hlt'⟩) (iblk m c 1 ⟨t.val - 1 - 1, hlt'⟩) := by
    rw [outsAt0_A m c ⟨t.val - 1 - 1, hlt'⟩ (show (t.val - 1 - 1) % 3 = 0 by omega) (show ¬ (t.val - 1 - 1) % 3 = 1 by omega) (show ¬ (t.val - 1 - 1) % 3 = 2 by omega)]
    frame_out
  have hq : (outsAt0 m c (t.val - 1) hlt).2 = k0_pay3 (F := Ideal) (iblk m c 0 ⟨t.val - 1, hlt⟩) (iblk m c 1 ⟨t.val - 1, hlt⟩)
      (k0_pay2 (F := Ideal) (iblk m c 0 ⟨t.val - 1 - 1, hlt'⟩) (iblk m c 1 ⟨t.val - 1 - 1, hlt'⟩)) := by
    rw [outsAt0_B m c ⟨t.val - 1, hlt⟩ (show ¬ (t.val - 1) % 3 = 0 by omega) (show (t.val - 1) % 3 = 1 by omega) (show ¬ (t.val - 1) % 3 = 2 by omega)]
    frame_out
    rw [hp, read_unread_whole]
  blk_simp
  rw [after0_2, outsAt0_C m c t (by omega) (by omega) ht]
  frame_out
  rw [hq, read_unread_whole]
  revert y
  intro (y : (⟨2, ![1088, 1024]⟩ : Shape).Idx)
  idx_vars y
  refine (last _ _ _ y0 y1 _ _ (middle _ _ _ y0 y1 _ _ (first _ _ y0 y1) rfl) rfl).trans (add_three (n := 128) rfl _ ?_ ?_ ?_)
  · refine Finset.sum_congr rfl fun k _ => congrArg₂ (· * ·) ?_ ?_
    · blk_simp [iblk]
      refine congrArg (V m c main_arg0) ?_
      blk_ext [f0, f1, h4]
    · blk_simp [iblk]
      refine congrArg (V m c main_arg1) ?_
      blk_ext [f2, f3, h5]
  · refine Finset.sum_congr rfl fun k _ => congrArg₂ (· * ·) ?_ ?_
    · blk_simp [iblk]
      refine congrArg (V m c main_arg0) ?_
      blk_ext [g0, g1, h4]
    · blk_simp [iblk]
      refine congrArg (V m c main_arg1) ?_
      blk_ext [g2, g3, h5]
  · refine Finset.sum_congr rfl fun k _ => congrArg₂ (· * ·) ?_ ?_
    · blk_simp [iblk]
      refine congrArg (V m c main_arg0) ?_
      blk_ext [h0, h1, h4]
    · blk_simp [iblk]
      refine congrArg (V m c main_arg1) ?_
      blk_ext [h2, h3, h5]

/-- The reference's result is the same product. -/
theorem reference (A : Mat 4352 4224) (B : Mat 384 1024) : Cert.UqRefIdeal.Read.val_main_v3 (F := Ideal) A B = nn (cols 384 2560 (by omega) A) B := by
  funext i
  revert i
  intro (i : (⟨2, ![4352, 1024]⟩ : Shape).Idx)
  idx_vars i
  pointwise [Cert.UqRefIdeal.Read.val_main_v3, Cert.UqRefIdeal.Read.val_main_v2, Cert.UqRefIdeal.Read.val_main_v1, Cert.UqRefIdeal.Read.val_main_v0]
  rfl

/-- The kernel runs and keeps its arguments; every counter ends at zero. -/
theorem frame_p : Cert.quiescent_Uq (hUq := Cert.Uq.Gen.facts) := fun m ρ _ => Cert.Uq.Gen.frame m ρ

/-- So does its idealization. -/
theorem frame_pi : Cert.quiescent_UqIdeal (hUqIdeal := Cert.UqIdeal.Gen.facts) := fun m ρ _ => Cert.UqIdeal.Gen.frame m ρ

/-- So does the reference, which declares no semaphore. -/
theorem frame_r : Cert.quiescent_UqRefIdeal (hUqRefIdeal := Cert.UqRefIdeal.Gen.facts) := fun m ρ _ =>
  (θ_run Cert.UqRefIdeal.defs _ _).mono (fun r h => ⟨fun c => (h c).2, sem_eq_zero_of_no_sems (by decide) r.2⟩)
    (Cert.UqRefIdeal.Value.run (F := Ideal) m ρ)

/-- The kernel's result is the reference's, over the extended reals. -/
theorem algebraic : Cert.algebraic_UqIdeal_UqRefIdeal (hUqIdeal := Cert.UqIdeal.Gen.facts) (hUqRefIdeal := Cert.UqRefIdeal.Gen.facts) := by
  intro m g m' g' _ hag
  refine ⟨_, (θ_run defs _ _).mono (fun r h c => ⟨(h c).1.trans (final m c), (h c).2⟩) (Value.run_blocks m g),
    (θ_run Cert.UqRefIdeal.defs _ _).mono (fun r h c => ⟨(h c).1.trans ?_, (h c).2⟩) (Cert.UqRefIdeal.Value.run (F := Ideal) m' g')⟩
  rw [(hag c).1, (hag c).2]
  exact reference (V m c main_arg0) (V m c main_arg1)

end Cert.UqIdeal.Mm

end
-- ==== Proof.Mm.Ukv.lean ====
/- The expansion of the key's and the value's latent columns. -/
module

public import proofs.«01_k».proof.Proof.Mm.Cols
public import proofs.«01_k».proof.Proof.Gen.UkvIdeal.Value
public import proofs.«01_k».proof.Proof.Gen.Ukv.Frame
public import proofs.«01_k».proof.Proof.Gen.UkvRefIdeal.Read
public import proofs.«01_k».proof.Proof.Gen.UkvRefIdeal
public import proofs.«01_k».proof.Defs

@[expose] public section

set_option maxRecDepth 16384

noncomputable section

namespace Cert.UkvIdeal.Mm

open Cert.UkvIdeal Cert.UkvIdeal.Gen Cert.Mm Idealize.ShloMosaic Idealize.ShloMosaic.TcCoe Idealize.SL.Sem

variable (m : (ℓ : Loc nD τ sig) → Buf (Elt Ideal) ℓ) (ρ : Dev nD → PrngReg)

/-- The blocks a point reads and writes. -/
theorem index : ∀ t : Fin cfg0.N, (win0_0.index t 0 = win0_2.index t 0 ∧ win0_0.index t 1 = 23) ∧ win0_1.index t 0 = 0 ∧ win0_1.index t 1 = win0_2.index t 1 :=
  (by decide +kernel : ∀ t : Fin grid0.N, (win0_0.index t 0 = win0_2.index t 0 ∧ win0_0.index t 1 = 23) ∧ win0_1.index t 0 = 0 ∧ win0_1.index t 1 = win0_2.index t 1)

/-- A point's block of the product. -/
theorem part (x : Vec Ideal S1088x128 .bf16) (w : Vec Ideal S128x1024 .bf16) (a : Fin 1088) (b : Fin 1024) :
    k0_pay1 (F := Ideal) x w (ix2 a b) = ∑ k : Fin 128, x (ix2 a k) * w (ix2 k b) := by
  pointwise [k0_pay1]

/-- The result array. -/
theorem final (c : Dev nD) : (dats m 0 c).arrAt 2 cfg0.N = nn (cols 128 2944 (by omega) (V m c main_arg0)) (V m c main_arg1) := by
  refine (dats m 0 c).arrAt_eq_of_covers 2 _ (by decide +kernel) fun t hf y => ?_
  obtain ⟨⟨h0, h1⟩, h2, h3⟩ := index t
  blk_simp
  rw [after0_2]
  frame_out
  revert y
  intro (y : (⟨2, ![1088, 1024]⟩ : Shape).Idx)
  idx_vars y
  refine (part _ _ y0 y1).trans (Finset.sum_congr rfl fun k _ => congrArg₂ (· * ·) ?_ ?_)
  · blk_simp [iblk]
    refine congrArg (V m c main_arg0) ?_
    blk_ext [h0, h1]
  · blk_simp [iblk]
    refine congrArg (V m c main_arg1) ?_
    blk_ext [h2, h3]

/-- The reference's result is the same product. -/
theorem reference (A : Mat 4352 4224) (B : Mat 128 1024) : Cert.UkvRefIdeal.Read.val_main_v4 (F := Ideal) A B = nn (cols 128 2944 (by omega) A) B := by
  funext i
  revert i
  intro (i : (⟨2, ![4352, 1024]⟩ : Shape).Idx)
  idx_vars i
  pointwise [Cert.UkvRefIdeal.Read.val_main_v4, Cert.UkvRefIdeal.Read.val_main_v3, Cert.UkvRefIdeal.Read.val_main_v2, Cert.UkvRefIdeal.Read.val_main_v1, Cert.UkvRefIdeal.Read.val_main_v0]
  rfl

/-- The kernel runs and keeps its arguments; every counter ends at zero. -/
theorem frame_p : Cert.quiescent_Ukv (hUkv := Cert.Ukv.Gen.facts) := fun m ρ _ => Cert.Ukv.Gen.frame m ρ

/-- So does its idealization. -/
theorem frame_pi : Cert.quiescent_UkvIdeal (hUkvIdeal := Cert.UkvIdeal.Gen.facts) := fun m ρ _ => Cert.UkvIdeal.Gen.frame m ρ

/-- So does the reference, which declares no semaphore. -/
theorem frame_r : Cert.quiescent_UkvRefIdeal (hUkvRefIdeal := Cert.UkvRefIdeal.Gen.facts) := fun m ρ _ =>
  (θ_run Cert.UkvRefIdeal.defs _ _).mono (fun r h => ⟨fun c => (h c).2, sem_eq_zero_of_no_sems (by decide) r.2⟩)
    (Cert.UkvRefIdeal.Value.run (F := Ideal) m ρ)

/-- The kernel's result is the reference's, over the extended reals. -/
theorem algebraic : Cert.algebraic_UkvIdeal_UkvRefIdeal (hUkvIdeal := Cert.UkvIdeal.Gen.facts) (hUkvRefIdeal := Cert.UkvRefIdeal.Gen.facts) := by
  intro m g m' g' _ hag
  refine ⟨_, (θ_run defs _ _).mono (fun r h c => ⟨(h c).1.trans (final m c), (h c).2⟩) (Value.run_blocks m g),
    (θ_run Cert.UkvRefIdeal.defs _ _).mono (fun r h c => ⟨(h c).1.trans ?_, (h c).2⟩) (Cert.UkvRefIdeal.Value.run (F := Ideal) m' g')⟩
  rw [(hag c).1, (hag c).2]
  exact reference (V m c main_arg0) (V m c main_arg1)

end Cert.UkvIdeal.Mm

end
-- ==== Proof.Mm.UqX.lean ====
/- The gradient of the query's expansion with respect to its input. -/
module

public import proofs.«01_k».proof.Proof.Mm.Sum
public import proofs.«01_k».proof.Proof.Gen.UqXIdeal.Value
public import proofs.«01_k».proof.Proof.Gen.UqX.Frame
public import proofs.«01_k».proof.Proof.Gen.UqXRefIdeal.Read
public import proofs.«01_k».proof.Proof.Gen.UqXRefIdeal
public import proofs.«01_k».proof.Defs

@[expose] public section

set_option maxRecDepth 16384

noncomputable section

namespace Cert.UqXIdeal.Mm

open Cert.UqXIdeal Cert.UqXIdeal.Gen Cert.Mm Idealize.ShloMosaic Idealize.ShloMosaic.TcCoe Idealize.SL.Sem

variable (m : (ℓ : Loc nD τ sig) → Buf (Elt Ideal) ℓ) (ρ : Dev nD → PrngReg)

/-- The blocks a point reads and writes. -/
theorem index : ∀ t : Fin cfg0.N, (win0_0.index t 0 = win0_2.index t 0 ∧ win0_0.index t 1 = 0) ∧ win0_1.index t 0 = win0_2.index t 1 ∧ win0_1.index t 1 = 0 :=
  (by decide +kernel : ∀ t : Fin grid0.N, (win0_0.index t 0 = win0_2.index t 0 ∧ win0_0.index t 1 = 0) ∧ win0_1.index t 0 = win0_2.index t 1 ∧ win0_1.index t 1 = 0)

/-- A point's block of the product. -/
theorem part (x : Vec Ideal S1088x1024 .bf16) (w : Vec Ideal S384x1024 .bf16) (a : Fin 1088) (b : Fin 384) :
    k0_pay1 (F := Ideal) x w (ix2 a b) = ∑ k : Fin 1024, x (ix2 a k) * w (ix2 b k) := by
  pointwise [k0_pay1]

/-- The result array. -/
theorem final (c : Dev nD) : (dats m 0 c).arrAt 2 cfg0.N = nt (V m c main_arg0) (V m c main_arg1) := by
  refine (dats m 0 c).arrAt_eq_of_covers 2 _ (by decide +kernel) fun t hf y => ?_
  obtain ⟨⟨h0, h1⟩, h2, h3⟩ := index t
  blk_simp
  rw [after0_2]
  frame_out
  revert y
  intro (y : (⟨2, ![1088, 384]⟩ : Shape).Idx)
  idx_vars y
  refine (part _ _ y0 y1).trans (Finset.sum_congr rfl fun k _ => congrArg₂ (· * ·) ?_ ?_)
  · blk_simp [iblk]
    refine congrArg (V m c main_arg0) ?_
    blk_ext [h0, h1]
  · blk_simp [iblk]
    refine congrArg (V m c main_arg1) ?_
    blk_ext [h2, h3]

/-- The reference's result is the same product. -/
theorem reference (A : Mat 4352 1024) (B : Mat 384 1024) : Cert.UqXRefIdeal.Read.val_main_v4 (F := Ideal) A B = nt A B := by
  funext i
  revert i
  intro (i : (⟨2, ![4352, 384]⟩ : Shape).Idx)
  idx_vars i
  pointwise [Cert.UqXRefIdeal.Read.val_main_v4, Cert.UqXRefIdeal.Read.val_main_v3, Cert.UqXRefIdeal.Read.val_main_v1]
  rfl

/-- The kernel runs and keeps its arguments; every counter ends at zero. -/
theorem frame_p : Cert.quiescent_UqX (hUqX := Cert.UqX.Gen.facts) := fun m ρ _ => Cert.UqX.Gen.frame m ρ

/-- So does its idealization. -/
theorem frame_pi : Cert.quiescent_UqXIdeal (hUqXIdeal := Cert.UqXIdeal.Gen.facts) := fun m ρ _ => Cert.UqXIdeal.Gen.frame m ρ

/-- So does the reference, which declares no semaphore. -/
theorem frame_r : Cert.quiescent_UqXRefIdeal (hUqXRefIdeal := Cert.UqXRefIdeal.Gen.facts) := fun m ρ _ =>
  (θ_run Cert.UqXRefIdeal.defs _ _).mono (fun r h => ⟨fun c => (h c).2, sem_eq_zero_of_no_sems (by decide) r.2⟩)
    (Cert.UqXRefIdeal.Value.run (F := Ideal) m ρ)

/-- The kernel's result is the reference's, over the extended reals. -/
theorem algebraic : Cert.algebraic_UqXIdeal_UqXRefIdeal (hUqXIdeal := Cert.UqXIdeal.Gen.facts) (hUqXRefIdeal := Cert.UqXRefIdeal.Gen.facts) := by
  intro m g m' g' _ hag
  refine ⟨_, (θ_run defs _ _).mono (fun r h c => ⟨(h c).1.trans (final m c), (h c).2⟩) (Value.run_blocks m g),
    (θ_run Cert.UqXRefIdeal.defs _ _).mono (fun r h c => ⟨(h c).1.trans ?_, (h c).2⟩) (Cert.UqXRefIdeal.Value.run (F := Ideal) m' g')⟩
  rw [(hag c).1, (hag c).2]
  exact reference (V m c main_arg0) (V m c main_arg1)

end Cert.UqXIdeal.Mm

end
-- ==== Proof.Mm.UkvX.lean ====
/- The gradient of the key and value expansion with respect to its input. -/
module

public import proofs.«01_k».proof.Proof.Mm.Sum
public import proofs.«01_k».proof.Proof.Gen.UkvXIdeal.Value
public import proofs.«01_k».proof.Proof.Gen.UkvX.Frame
public import proofs.«01_k».proof.Proof.Gen.UkvXRefIdeal.Read
public import proofs.«01_k».proof.Proof.Gen.UkvXRefIdeal
public import proofs.«01_k».proof.Defs

@[expose] public section

set_option maxRecDepth 16384

noncomputable section

namespace Cert.UkvXIdeal.Mm

open Cert.UkvXIdeal Cert.UkvXIdeal.Gen Cert.Mm Idealize.ShloMosaic Idealize.ShloMosaic.TcCoe Idealize.SL.Sem

variable (m : (ℓ : Loc nD τ sig) → Buf (Elt Ideal) ℓ) (ρ : Dev nD → PrngReg)

/-- The blocks a point reads and writes. -/
theorem index : ∀ t : Fin cfg0.N, (win0_0.index t 0 = win0_2.index t 0 ∧ win0_0.index t 1 = 0) ∧ win0_1.index t 0 = win0_2.index t 1 ∧ win0_1.index t 1 = 0 :=
  (by decide +kernel : ∀ t : Fin grid0.N, (win0_0.index t 0 = win0_2.index t 0 ∧ win0_0.index t 1 = 0) ∧ win0_1.index t 0 = win0_2.index t 1 ∧ win0_1.index t 1 = 0)

/-- A point's block of the product. -/
theorem part (x : Vec Ideal S1088x1024 .bf16) (w : Vec Ideal S128x1024 .bf16) (a : Fin 1088) (b : Fin 128) :
    k0_pay1 (F := Ideal) x w (ix2 a b) = ∑ k : Fin 1024, x (ix2 a k) * w (ix2 b k) := by
  pointwise [k0_pay1]

/-- The result array. -/
theorem final (c : Dev nD) : (dats m 0 c).arrAt 2 cfg0.N = nt (V m c main_arg0) (V m c main_arg1) := by
  refine (dats m 0 c).arrAt_eq_of_covers 2 _ (by decide +kernel) fun t hf y => ?_
  obtain ⟨⟨h0, h1⟩, h2, h3⟩ := index t
  blk_simp
  rw [after0_2]
  frame_out
  revert y
  intro (y : (⟨2, ![1088, 128]⟩ : Shape).Idx)
  idx_vars y
  refine (part _ _ y0 y1).trans (Finset.sum_congr rfl fun k _ => congrArg₂ (· * ·) ?_ ?_)
  · blk_simp [iblk]
    refine congrArg (V m c main_arg0) ?_
    blk_ext [h0, h1]
  · blk_simp [iblk]
    refine congrArg (V m c main_arg1) ?_
    blk_ext [h2, h3]

/-- The reference's result is the same product. -/
theorem reference (A : Mat 4352 1024) (B : Mat 128 1024) : Cert.UkvXRefIdeal.Read.val_main_v4 (F := Ideal) A B = nt A B := by
  funext i
  revert i
  intro (i : (⟨2, ![4352, 128]⟩ : Shape).Idx)
  idx_vars i
  pointwise [Cert.UkvXRefIdeal.Read.val_main_v4, Cert.UkvXRefIdeal.Read.val_main_v3, Cert.UkvXRefIdeal.Read.val_main_v1]
  rfl

/-- The kernel runs and keeps its arguments; every counter ends at zero. -/
theorem frame_p : Cert.quiescent_UkvX (hUkvX := Cert.UkvX.Gen.facts) := fun m ρ _ => Cert.UkvX.Gen.frame m ρ

/-- So does its idealization. -/
theorem frame_pi : Cert.quiescent_UkvXIdeal (hUkvXIdeal := Cert.UkvXIdeal.Gen.facts) := fun m ρ _ => Cert.UkvXIdeal.Gen.frame m ρ

/-- So does the reference, which declares no semaphore. -/
theorem frame_r : Cert.quiescent_UkvXRefIdeal (hUkvXRefIdeal := Cert.UkvXRefIdeal.Gen.facts) := fun m ρ _ =>
  (θ_run Cert.UkvXRefIdeal.defs _ _).mono (fun r h => ⟨fun c => (h c).2, sem_eq_zero_of_no_sems (by decide) r.2⟩)
    (Cert.UkvXRefIdeal.Value.run (F := Ideal) m ρ)

/-- The kernel's result is the reference's, over the extended reals. -/
theorem algebraic : Cert.algebraic_UkvXIdeal_UkvXRefIdeal (hUkvXIdeal := Cert.UkvXIdeal.Gen.facts) (hUkvXRefIdeal := Cert.UkvXRefIdeal.Gen.facts) := by
  intro m g m' g' _ hag
  refine ⟨_, (θ_run defs _ _).mono (fun r h c => ⟨(h c).1.trans (final m c), (h c).2⟩) (Value.run_blocks m g),
    (θ_run Cert.UkvXRefIdeal.defs _ _).mono (fun r h c => ⟨(h c).1.trans ?_, (h c).2⟩) (Cert.UkvXRefIdeal.Value.run (F := Ideal) m' g')⟩
  rw [(hag c).1, (hag c).2]
  exact reference (V m c main_arg0) (V m c main_arg1)

end Cert.UkvXIdeal.Mm

end
-- ==== Proof.Mm.UqW.lean ====
/- The gradient of the query's expansion with respect to its weights. -/
module

public import Idealize.ShloMosaic.Lib.Pipeline.ReadBack
public import proofs.«01_k».proof.Proof.Mm.Sum
public import proofs.«01_k».proof.Proof.Gen.UqWIdeal.Value
public import proofs.«01_k».proof.Proof.Gen.UqW.Frame
public import proofs.«01_k».proof.Proof.Gen.UqWRefIdeal.Read
public import proofs.«01_k».proof.Proof.Gen.UqWRefIdeal
public import proofs.«01_k».proof.Defs

@[expose] public section

set_option maxRecDepth 16384

noncomputable section

namespace Cert.UqWIdeal.Mm

open Cert.UqWIdeal Cert.UqWIdeal.Gen Cert.Mm Idealize.ShloMosaic Idealize.ShloMosaic.TcCoe Idealize.SL.Sem

variable (m : (ℓ : Loc nD τ sig) → Buf (Elt Ideal) ℓ) (ρ : Dev nD → PrngReg)

/-- The blocks a point reads and writes. -/
theorem index : ∀ t : Fin cfg0.N, (win0_0.index t 0 = t.val % 2 ∧ win0_0.index t 1 = 0) ∧ (win0_1.index t 0 = t.val % 2 ∧ win0_1.index t 1 = 0)
    ∧ win0_2.index t 0 = 0 ∧ win0_2.index t 1 = 0 :=
  (by decide +kernel : ∀ t : Fin grid0.N, (win0_0.index t 0 = t.val % 2 ∧ win0_0.index t 1 = 0) ∧ (win0_1.index t 0 = t.val % 2 ∧ win0_1.index t 1 = 0)
    ∧ win0_2.index t 0 = 0 ∧ win0_2.index t 1 = 0)

/-- A point's part of the product. -/
theorem part (x : Vec Ideal S2176x384 .bf16) (w : Vec Ideal S2176x1024 .bf16) (a : Fin 384) (b : Fin 1024) :
    k0_pay1 (F := Ideal) x w (ix2 a b) = ∑ k : Fin 2176, x (ix2 k a) * w (ix2 k b) := by
  pointwise [k0_pay1]

/-- What the first point of a run leaves for the next. -/
theorem first (x : Vec Ideal S2176x384 .bf16) (w : Vec Ideal S2176x1024 .bf16) (a : Fin 384) (b : Fin 1024) :
    k0_pay2 (F := Ideal) x w (ix2 a b) = ∑ k : Fin 2176, x (ix2 k a) * w (ix2 k b) := by
  unfold k0_pay2
  simp only [shapeCast_self]
  exact part x w a b

/-- What the last point stores, over what the one before left. -/
theorem last (x : Vec Ideal S2176x384 .bf16) (w : Vec Ideal S2176x1024 .bf16) (v : Vec Ideal S384x1024 .f32) (a : Fin 384) (b : Fin 1024) (e f : EReal)
    (he : v (ix2 a b) = e) (hf : ∑ k : Fin 2176, x (ix2 k a) * w (ix2 k b) = f) : k0_pay4 (F := Ideal) x w v (ix2 a b) = e + f :=
  congrArg₂ (fun e f : EReal => e + f) he ((part x w a b).trans hf)

/-- The result array. -/
theorem final (c : Dev nD) : (dats m 0 c).arrAt 2 cfg0.N = tn (V m c main_arg0) (V m c main_arg1) := by
  refine (dats m 0 c).arrAt_eq_of_covers 2 _ (by decide +kernel) fun t hf y => ?_
  have ht := (flush0_2 t).mp hf
  have hlt : t.val - 1 < cfg0.N := Nat.lt_of_le_of_lt (Nat.sub_le _ _) t.isLt
  obtain ⟨⟨h0, h1⟩, ⟨h2, h3⟩, h4, h5⟩ := index t
  obtain ⟨⟨g0, g1⟩, ⟨g2, g3⟩, g4, g5⟩ := index ⟨t.val - 1, hlt⟩
  have hp : (outsAt0 m c (t.val - 1) hlt).2 = k0_pay2 (F := Ideal) (iblk m c 0 ⟨t.val - 1, hlt⟩) (iblk m c 1 ⟨t.val - 1, hlt⟩) := by
    rw [outsAt0_A m c ⟨t.val - 1, hlt⟩ (show (t.val - 1) % 2 = 0 by omega) (show ¬ (t.val - 1) % 2 = 1 by omega)]
    frame_out
  blk_simp
  rw [after0_2, outsAt0_B m c t (by omega) ht]
  frame_out
  rw [hp, read_unread_whole]
  revert y
  intro (y : (⟨2, ![384, 1024]⟩ : Shape).Idx)
  idx_vars y
  refine (last _ _ _ y0 y1 _ _ (first _ _ y0 y1) rfl).trans (tn_two rfl (fun k => ?_) (fun k => ?_) (fun k => ?_) fun k => ?_) <;> blk_simp [iblk] <;>
    refine congrArg (V m c _) ?_ <;> blk_ext [g0, g1, g2, g3, h0, h1, h2, h3, h4, h5]

/-- The reference's result is the same product. -/
theorem reference (A : Mat 4352 384) (B : Mat 4352 1024) : Cert.UqWRefIdeal.Read.val_main_v5 (F := Ideal) A B = tn A B := by
  funext i
  revert i
  intro (i : (⟨2, ![384, 1024]⟩ : Shape).Idx)
  idx_vars i
  pointwise [Cert.UqWRefIdeal.Read.val_main_v5, Cert.UqWRefIdeal.Read.val_main_v4, Cert.UqWRefIdeal.Read.val_main_v3, Cert.UqWRefIdeal.Read.val_main_v1]
  exact Finset.sum_congr rfl fun k _ => mul_comm _ _

/-- The kernel runs and keeps its arguments; every counter ends at zero. -/
theorem frame_p : Cert.quiescent_UqW (hUqW := Cert.UqW.Gen.facts) := fun m ρ _ => Cert.UqW.Gen.frame m ρ

/-- So does its idealization. -/
theorem frame_pi : Cert.quiescent_UqWIdeal (hUqWIdeal := Cert.UqWIdeal.Gen.facts) := fun m ρ _ => Cert.UqWIdeal.Gen.frame m ρ

/-- So does the reference, which declares no semaphore. -/
theorem frame_r : Cert.quiescent_UqWRefIdeal (hUqWRefIdeal := Cert.UqWRefIdeal.Gen.facts) := fun m ρ _ =>
  (θ_run Cert.UqWRefIdeal.defs _ _).mono (fun r h => ⟨fun c => (h c).2, sem_eq_zero_of_no_sems (by decide) r.2⟩)
    (Cert.UqWRefIdeal.Value.run (F := Ideal) m ρ)

/-- The kernel's result is the reference's, over the extended reals. -/
theorem algebraic : Cert.algebraic_UqWIdeal_UqWRefIdeal (hUqWIdeal := Cert.UqWIdeal.Gen.facts) (hUqWRefIdeal := Cert.UqWRefIdeal.Gen.facts) := by
  intro m g m' g' _ hag
  refine ⟨_, (θ_run defs _ _).mono (fun r h c => ⟨(h c).1.trans (final m c), (h c).2⟩) (Value.run_blocks m g),
    (θ_run Cert.UqWRefIdeal.defs _ _).mono (fun r h c => ⟨(h c).1.trans ?_, (h c).2⟩) (Cert.UqWRefIdeal.Value.run (F := Ideal) m' g')⟩
  rw [(hag c).1, (hag c).2]
  exact reference (V m c main_arg0) (V m c main_arg1)

end Cert.UqWIdeal.Mm

end
-- ==== Proof.Mm.UkvW.lean ====
/- The gradient of the key and value expansion with respect to its weights. -/
module

public import Idealize.ShloMosaic.Lib.Pipeline.ReadBack
public import proofs.«01_k».proof.Proof.Mm.Sum
public import proofs.«01_k».proof.Proof.Gen.UkvWIdeal.Value
public import proofs.«01_k».proof.Proof.Gen.UkvW.Frame
public import proofs.«01_k».proof.Proof.Gen.UkvWRefIdeal.Read
public import proofs.«01_k».proof.Proof.Gen.UkvWRefIdeal
public import proofs.«01_k».proof.Defs

@[expose] public section

set_option maxRecDepth 16384

noncomputable section

namespace Cert.UkvWIdeal.Mm

open Cert.UkvWIdeal Cert.UkvWIdeal.Gen Cert.Mm Idealize.ShloMosaic Idealize.ShloMosaic.TcCoe Idealize.SL.Sem

variable (m : (ℓ : Loc nD τ sig) → Buf (Elt Ideal) ℓ) (ρ : Dev nD → PrngReg)

/-- The blocks a point reads and writes. -/
theorem index : ∀ t : Fin cfg0.N, (win0_0.index t 0 = t.val % 2 ∧ win0_0.index t 1 = 0) ∧ (win0_1.index t 0 = t.val % 2 ∧ win0_1.index t 1 = 0)
    ∧ win0_2.index t 0 = 0 ∧ win0_2.index t 1 = 0 :=
  (by decide +kernel : ∀ t : Fin grid0.N, (win0_0.index t 0 = t.val % 2 ∧ win0_0.index t 1 = 0) ∧ (win0_1.index t 0 = t.val % 2 ∧ win0_1.index t 1 = 0)
    ∧ win0_2.index t 0 = 0 ∧ win0_2.index t 1 = 0)

/-- A point's part of the product. -/
theorem part (x : Vec Ideal S2176x128 .bf16) (w : Vec Ideal S2176x1024 .bf16) (a : Fin 128) (b : Fin 1024) :
    k0_pay1 (F := Ideal) x w (ix2 a b) = ∑ k : Fin 2176, x (ix2 k a) * w (ix2 k b) := by
  pointwise [k0_pay1]

/-- What the first point of a run leaves for the next. -/
theorem first (x : Vec Ideal S2176x128 .bf16) (w : Vec Ideal S2176x1024 .bf16) (a : Fin 128) (b : Fin 1024) :
    k0_pay2 (F := Ideal) x w (ix2 a b) = ∑ k : Fin 2176, x (ix2 k a) * w (ix2 k b) := by
  unfold k0_pay2
  simp only [shapeCast_self]
  exact part x w a b

/-- What the last point stores, over what the one before left. -/
theorem last (x : Vec Ideal S2176x128 .bf16) (w : Vec Ideal S2176x1024 .bf16) (v : Vec Ideal S128x1024 .f32) (a : Fin 128) (b : Fin 1024) (e f : EReal)
    (he : v (ix2 a b) = e) (hf : ∑ k : Fin 2176, x (ix2 k a) * w (ix2 k b) = f) : k0_pay4 (F := Ideal) x w v (ix2 a b) = e + f :=
  congrArg₂ (fun e f : EReal => e + f) he ((part x w a b).trans hf)

/-- The result array. -/
theorem final (c : Dev nD) : (dats m 0 c).arrAt 2 cfg0.N = tn (V m c main_arg0) (V m c main_arg1) := by
  refine (dats m 0 c).arrAt_eq_of_covers 2 _ (by decide +kernel) fun t hf y => ?_
  have ht := (flush0_2 t).mp hf
  have hlt : t.val - 1 < cfg0.N := Nat.lt_of_le_of_lt (Nat.sub_le _ _) t.isLt
  obtain ⟨⟨h0, h1⟩, ⟨h2, h3⟩, h4, h5⟩ := index t
  obtain ⟨⟨g0, g1⟩, ⟨g2, g3⟩, g4, g5⟩ := index ⟨t.val - 1, hlt⟩
  have hp : (outsAt0 m c (t.val - 1) hlt).2 = k0_pay2 (F := Ideal) (iblk m c 0 ⟨t.val - 1, hlt⟩) (iblk m c 1 ⟨t.val - 1, hlt⟩) := by
    rw [outsAt0_A m c ⟨t.val - 1, hlt⟩ (show (t.val - 1) % 2 = 0 by omega) (show ¬ (t.val - 1) % 2 = 1 by omega)]
    frame_out
  blk_simp
  rw [after0_2, outsAt0_B m c t (by omega) ht]
  frame_out
  rw [hp, read_unread_whole]
  revert y
  intro (y : (⟨2, ![128, 1024]⟩ : Shape).Idx)
  idx_vars y
  refine (last _ _ _ y0 y1 _ _ (first _ _ y0 y1) rfl).trans (tn_two rfl (fun k => ?_) (fun k => ?_) (fun k => ?_) fun k => ?_) <;> blk_simp [iblk] <;>
    refine congrArg (V m c _) ?_ <;> blk_ext [g0, g1, g2, g3, h0, h1, h2, h3, h4, h5]

/-- The reference's result is the same product. -/
theorem reference (A : Mat 4352 128) (B : Mat 4352 1024) : Cert.UkvWRefIdeal.Read.val_main_v5 (F := Ideal) A B = tn A B := by
  funext i
  revert i
  intro (i : (⟨2, ![128, 1024]⟩ : Shape).Idx)
  idx_vars i
  pointwise [Cert.UkvWRefIdeal.Read.val_main_v5, Cert.UkvWRefIdeal.Read.val_main_v4, Cert.UkvWRefIdeal.Read.val_main_v3, Cert.UkvWRefIdeal.Read.val_main_v1]
  exact Finset.sum_congr rfl fun k _ => mul_comm _ _

/-- The kernel runs and keeps its arguments; every counter ends at zero. -/
theorem frame_p : Cert.quiescent_UkvW (hUkvW := Cert.UkvW.Gen.facts) := fun m ρ _ => Cert.UkvW.Gen.frame m ρ

/-- So does its idealization. -/
theorem frame_pi : Cert.quiescent_UkvWIdeal (hUkvWIdeal := Cert.UkvWIdeal.Gen.facts) := fun m ρ _ => Cert.UkvWIdeal.Gen.frame m ρ

/-- So does the reference, which declares no semaphore. -/
theorem frame_r : Cert.quiescent_UkvWRefIdeal (hUkvWRefIdeal := Cert.UkvWRefIdeal.Gen.facts) := fun m ρ _ =>
  (θ_run Cert.UkvWRefIdeal.defs _ _).mono (fun r h => ⟨fun c => (h c).2, sem_eq_zero_of_no_sems (by decide) r.2⟩)
    (Cert.UkvWRefIdeal.Value.run (F := Ideal) m ρ)

/-- The kernel's result is the reference's, over the extended reals. -/
theorem algebraic : Cert.algebraic_UkvWIdeal_UkvWRefIdeal (hUkvWIdeal := Cert.UkvWIdeal.Gen.facts) (hUkvWRefIdeal := Cert.UkvWRefIdeal.Gen.facts) := by
  intro m g m' g' _ hag
  refine ⟨_, (θ_run defs _ _).mono (fun r h c => ⟨(h c).1.trans (final m c), (h c).2⟩) (Value.run_blocks m g),
    (θ_run Cert.UkvWRefIdeal.defs _ _).mono (fun r h c => ⟨(h c).1.trans ?_, (h c).2⟩) (Cert.UkvWRefIdeal.Value.run (F := Ideal) m' g')⟩
  rw [(hag c).1, (hag c).2]
  exact reference (V m c main_arg0) (V m c main_arg1)

end Cert.UkvWIdeal.Mm

end
-- ==== Proof.lean ====
module

public import proofs.«01_k».proof.Defs
public import proofs.«01_k».proof.Proof.Bwd.Claims
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.DownXIdeal.Value
public import proofs.«01_k».proof.Proof.Gen.DownWIdeal.Value
public import proofs.«01_k».proof.Proof.Mm.DownX
public import proofs.«01_k».proof.Proof.Mm.DownW
public import proofs.«01_k».proof.Proof.Mm.In
public import proofs.«01_k».proof.Proof.Mm.InX
public import proofs.«01_k».proof.Proof.Mm.InW
public import proofs.«01_k».proof.Proof.Mm.GateW
public import proofs.«01_k».proof.Proof.Mm.GateX
public import proofs.«01_k».proof.Proof.Mm.UpX
public import proofs.«01_k».proof.Proof.Mm.DownX0
public import proofs.«01_k».proof.Proof.Mm.DownW0
public import proofs.«01_k».proof.Proof.Mm.GateW0
public import proofs.«01_k».proof.Proof.Mm.GateX0
public import proofs.«01_k».proof.Proof.Mm.UpX0
public import proofs.«01_k».proof.Proof.Mm.OutX
public import proofs.«01_k».proof.Proof.Mm.OutW
public import proofs.«01_k».proof.Proof.Mm.OutX0
public import proofs.«01_k».proof.Proof.Mm.OutW0
public import proofs.«01_k».proof.Proof.Mm.Down
public import Idealize.ShloMosaic.Adequacy
public import Idealize.ShloMosaic.Init
public import proofs.«01_k».proof.Proof.Gen.DownX
public import proofs.«01_k».proof.Proof.Gen.DownX.Frame
public import proofs.«01_k».proof.Proof.Gen.DownXRefIdeal
public import proofs.«01_k».proof.Proof.Gen.DownXRefIdeal.Run
public import proofs.«01_k».proof.Proof.Gen.DownXRefIdeal.Read
public import proofs.«01_k».proof.Proof.Gen.DownXIdeal.Frame
public import proofs.«01_k».proof.Proof.Gen.DownW
public import proofs.«01_k».proof.Proof.Gen.DownW.Frame
public import proofs.«01_k».proof.Proof.Gen.DownWRefIdeal
public import proofs.«01_k».proof.Proof.Gen.DownWRefIdeal.Run
public import proofs.«01_k».proof.Proof.Gen.DownWRefIdeal.Read
public import proofs.«01_k».proof.Proof.Gen.DownWIdeal.Frame
public import proofs.«01_k».proof.Proof.Gen.DownXIdeal
public import proofs.«01_k».proof.Proof.Gen.DownWIdeal
public import proofs.«01_k».proof.Proof.Gen.In
public import proofs.«01_k».proof.Proof.Gen.In.Frame
public import proofs.«01_k».proof.Proof.Gen.InRefIdeal
public import proofs.«01_k».proof.Proof.Gen.InRefIdeal.Run
public import proofs.«01_k».proof.Proof.Gen.InRefIdeal.Read
public import proofs.«01_k».proof.Proof.Gen.InIdeal
public import proofs.«01_k».proof.Proof.Gen.InIdeal.Frame
public import proofs.«01_k».proof.Proof.Gen.InIdeal.Value
public import proofs.«01_k».proof.Proof.Gen.InX
public import proofs.«01_k».proof.Proof.Gen.InX.Frame
public import proofs.«01_k».proof.Proof.Gen.InXRefIdeal
public import proofs.«01_k».proof.Proof.Gen.InXRefIdeal.Run
public import proofs.«01_k».proof.Proof.Gen.InXRefIdeal.Read
public import proofs.«01_k».proof.Proof.Gen.InXIdeal
public import proofs.«01_k».proof.Proof.Gen.InXIdeal.Frame
public import proofs.«01_k».proof.Proof.Gen.InXIdeal.Value
public import proofs.«01_k».proof.Proof.Gen.InW
public import proofs.«01_k».proof.Proof.Gen.InW.Frame
public import proofs.«01_k».proof.Proof.Gen.InWRefIdeal
public import proofs.«01_k».proof.Proof.Gen.InWRefIdeal.Run
public import proofs.«01_k».proof.Proof.Gen.InWRefIdeal.Read
public import proofs.«01_k».proof.Proof.Gen.InWIdeal
public import proofs.«01_k».proof.Proof.Gen.InWIdeal.Frame
public import proofs.«01_k».proof.Proof.Gen.InWIdeal.Value
public import proofs.«01_k».proof.Proof.Gen.GateW
public import proofs.«01_k».proof.Proof.Gen.GateW.Frame
public import proofs.«01_k».proof.Proof.Gen.GateWRefIdeal
public import proofs.«01_k».proof.Proof.Gen.GateWRefIdeal.Run
public import proofs.«01_k».proof.Proof.Gen.GateWRefIdeal.Read
public import proofs.«01_k».proof.Proof.Gen.GateWIdeal
public import proofs.«01_k».proof.Proof.Gen.GateWIdeal.Frame
public import proofs.«01_k».proof.Proof.Gen.GateWIdeal.Value
public import proofs.«01_k».proof.Proof.Gen.GateX
public import proofs.«01_k».proof.Proof.Gen.GateX.Frame
public import proofs.«01_k».proof.Proof.Gen.GateXRefIdeal
public import proofs.«01_k».proof.Proof.Gen.GateXRefIdeal.Run
public import proofs.«01_k».proof.Proof.Gen.GateXRefIdeal.Read
public import proofs.«01_k».proof.Proof.Gen.GateXIdeal
public import proofs.«01_k».proof.Proof.Gen.GateXIdeal.Frame
public import proofs.«01_k».proof.Proof.Gen.GateXIdeal.Value
public import proofs.«01_k».proof.Proof.Gen.UpX
public import proofs.«01_k».proof.Proof.Gen.UpX.Frame
public import proofs.«01_k».proof.Proof.Gen.UpXRefIdeal
public import proofs.«01_k».proof.Proof.Gen.UpXRefIdeal.Run
public import proofs.«01_k».proof.Proof.Gen.UpXRefIdeal.Read
public import proofs.«01_k».proof.Proof.Gen.UpXIdeal
public import proofs.«01_k».proof.Proof.Gen.UpXIdeal.Frame
public import proofs.«01_k».proof.Proof.Gen.UpXIdeal.Value
public import proofs.«01_k».proof.Proof.Gen.DownX0
public import proofs.«01_k».proof.Proof.Gen.DownX0.Frame
public import proofs.«01_k».proof.Proof.Gen.DownX0RefIdeal
public import proofs.«01_k».proof.Proof.Gen.DownX0RefIdeal.Run
public import proofs.«01_k».proof.Proof.Gen.DownX0RefIdeal.Read
public import proofs.«01_k».proof.Proof.Gen.DownX0Ideal
public import proofs.«01_k».proof.Proof.Gen.DownX0Ideal.Frame
public import proofs.«01_k».proof.Proof.Gen.DownX0Ideal.Value
public import proofs.«01_k».proof.Proof.Gen.DownW0
public import proofs.«01_k».proof.Proof.Gen.DownW0.Frame
public import proofs.«01_k».proof.Proof.Gen.DownW0RefIdeal
public import proofs.«01_k».proof.Proof.Gen.DownW0RefIdeal.Run
public import proofs.«01_k».proof.Proof.Gen.DownW0RefIdeal.Read
public import proofs.«01_k».proof.Proof.Gen.DownW0Ideal
public import proofs.«01_k».proof.Proof.Gen.DownW0Ideal.Frame
public import proofs.«01_k».proof.Proof.Gen.DownW0Ideal.Value
public import proofs.«01_k».proof.Proof.Gen.GateW0
public import proofs.«01_k».proof.Proof.Gen.GateW0.Frame
public import proofs.«01_k».proof.Proof.Gen.GateW0RefIdeal
public import proofs.«01_k».proof.Proof.Gen.GateW0RefIdeal.Run
public import proofs.«01_k».proof.Proof.Gen.GateW0RefIdeal.Read
public import proofs.«01_k».proof.Proof.Gen.GateW0Ideal
public import proofs.«01_k».proof.Proof.Gen.GateW0Ideal.Frame
public import proofs.«01_k».proof.Proof.Gen.GateW0Ideal.Value
public import proofs.«01_k».proof.Proof.Gen.GateX0
public import proofs.«01_k».proof.Proof.Gen.GateX0.Frame
public import proofs.«01_k».proof.Proof.Gen.GateX0RefIdeal
public import proofs.«01_k».proof.Proof.Gen.GateX0RefIdeal.Run
public import proofs.«01_k».proof.Proof.Gen.GateX0RefIdeal.Read
public import proofs.«01_k».proof.Proof.Gen.GateX0Ideal
public import proofs.«01_k».proof.Proof.Gen.GateX0Ideal.Frame
public import proofs.«01_k».proof.Proof.Gen.GateX0Ideal.Value
public import proofs.«01_k».proof.Proof.Gen.UpX0
public import proofs.«01_k».proof.Proof.Gen.UpX0.Frame
public import proofs.«01_k».proof.Proof.Gen.UpX0RefIdeal
public import proofs.«01_k».proof.Proof.Gen.UpX0RefIdeal.Run
public import proofs.«01_k».proof.Proof.Gen.UpX0RefIdeal.Read
public import proofs.«01_k».proof.Proof.Gen.UpX0Ideal
public import proofs.«01_k».proof.Proof.Gen.UpX0Ideal.Frame
public import proofs.«01_k».proof.Proof.Gen.UpX0Ideal.Value
public import proofs.«01_k».proof.Proof.Gen.OutX
public import proofs.«01_k».proof.Proof.Gen.OutX.Frame
public import proofs.«01_k».proof.Proof.Gen.OutXRefIdeal
public import proofs.«01_k».proof.Proof.Gen.OutXRefIdeal.Run
public import proofs.«01_k».proof.Proof.Gen.OutXRefIdeal.Read
public import proofs.«01_k».proof.Proof.Gen.OutXIdeal
public import proofs.«01_k».proof.Proof.Gen.OutXIdeal.Frame
public import proofs.«01_k».proof.Proof.Gen.OutXIdeal.Value
public import proofs.«01_k».proof.Proof.Gen.OutW
public import proofs.«01_k».proof.Proof.Gen.OutW.Frame
public import proofs.«01_k».proof.Proof.Gen.OutWRefIdeal
public import proofs.«01_k».proof.Proof.Gen.OutWRefIdeal.Run
public import proofs.«01_k».proof.Proof.Gen.OutWRefIdeal.Read
public import proofs.«01_k».proof.Proof.Gen.OutWIdeal
public import proofs.«01_k».proof.Proof.Gen.OutWIdeal.Frame
public import proofs.«01_k».proof.Proof.Gen.OutWIdeal.Value
public import proofs.«01_k».proof.Proof.Gen.OutX0
public import proofs.«01_k».proof.Proof.Gen.OutX0.Frame
public import proofs.«01_k».proof.Proof.Gen.OutX0RefIdeal
public import proofs.«01_k».proof.Proof.Gen.OutX0RefIdeal.Run
public import proofs.«01_k».proof.Proof.Gen.OutX0RefIdeal.Read
public import proofs.«01_k».proof.Proof.Gen.OutX0Ideal
public import proofs.«01_k».proof.Proof.Gen.OutX0Ideal.Frame
public import proofs.«01_k».proof.Proof.Gen.OutX0Ideal.Value
public import proofs.«01_k».proof.Proof.Gen.OutW0
public import proofs.«01_k».proof.Proof.Gen.OutW0.Frame
public import proofs.«01_k».proof.Proof.Gen.OutW0RefIdeal
public import proofs.«01_k».proof.Proof.Gen.OutW0RefIdeal.Run
public import proofs.«01_k».proof.Proof.Gen.OutW0RefIdeal.Read
public import proofs.«01_k».proof.Proof.Gen.OutW0Ideal
public import proofs.«01_k».proof.Proof.Gen.OutW0Ideal.Frame
public import proofs.«01_k».proof.Proof.Gen.OutW0Ideal.Value
public import proofs.«01_k».proof.Proof.Gen.Down
public import proofs.«01_k».proof.Proof.Gen.Down.Frame
public import proofs.«01_k».proof.Proof.Gen.DownRefIdeal
public import proofs.«01_k».proof.Proof.Gen.DownRefIdeal.Run
public import proofs.«01_k».proof.Proof.Gen.DownRefIdeal.Read
public import proofs.«01_k».proof.Proof.Gen.DownIdeal
public import proofs.«01_k».proof.Proof.Gen.DownIdeal.Frame
public import proofs.«01_k».proof.Proof.Gen.DownIdeal.Value
public import proofs.«01_k».proof.Proof.Gen.Conv
public import proofs.«01_k».proof.Proof.Gen.Conv.Frame
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.ConvIdeal
public import proofs.«01_k».proof.Proof.Gen.ConvIdeal.Frame
public import proofs.«01_k».proof.Proof.Gen.ConvIdeal.Value
public import proofs.«01_k».proof.Proof.Gen.Conv0
public import proofs.«01_k».proof.Proof.Gen.Conv0.Frame
public import proofs.«01_k».proof.Proof.Gen.Conv0RefIdeal
public import proofs.«01_k».proof.Proof.Gen.Conv0RefIdeal.Run
public import proofs.«01_k».proof.Proof.Gen.Conv0RefIdeal.Read
public import proofs.«01_k».proof.Proof.Gen.Conv0Ideal
public import proofs.«01_k».proof.Proof.Gen.Conv0Ideal.Frame
public import proofs.«01_k».proof.Proof.Gen.Conv0Ideal.Value
public import proofs.«01_k».proof.Proof.Gen.Act
public import proofs.«01_k».proof.Proof.Gen.Act.Frame
public import proofs.«01_k».proof.Proof.Gen.ActRefIdeal
public import proofs.«01_k».proof.Proof.Gen.ActRefIdeal.Run
public import proofs.«01_k».proof.Proof.Gen.ActRefIdeal.Read
public import proofs.«01_k».proof.Proof.Gen.ActIdeal
public import proofs.«01_k».proof.Proof.Gen.ActIdeal.Frame
public import proofs.«01_k».proof.Proof.Gen.ActIdeal.Value
public import proofs.«01_k».proof.Proof.Gen.Mid
public import proofs.«01_k».proof.Proof.Gen.Mid.Frame
public import proofs.«01_k».proof.Proof.Gen.MidRefIdeal
public import proofs.«01_k».proof.Proof.Gen.MidRefIdeal.Run
public import proofs.«01_k».proof.Proof.Gen.MidRefIdeal.Read
public import proofs.«01_k».proof.Proof.Gen.MidIdeal
public import proofs.«01_k».proof.Proof.Gen.MidIdeal.Frame
public import proofs.«01_k».proof.Proof.Gen.MidIdeal.Value
public import proofs.«01_k».proof.Proof.Gen.Uq
public import proofs.«01_k».proof.Proof.Gen.Uq.Frame
public import proofs.«01_k».proof.Proof.Gen.UqRefIdeal
public import proofs.«01_k».proof.Proof.Gen.UqRefIdeal.Run
public import proofs.«01_k».proof.Proof.Gen.UqRefIdeal.Read
public import proofs.«01_k».proof.Proof.Gen.UqIdeal
public import proofs.«01_k».proof.Proof.Gen.UqIdeal.Frame
public import proofs.«01_k».proof.Proof.Gen.UqIdeal.Value
public import proofs.«01_k».proof.Proof.Gen.Ukv
public import proofs.«01_k».proof.Proof.Gen.Ukv.Frame
public import proofs.«01_k».proof.Proof.Gen.UkvRefIdeal
public import proofs.«01_k».proof.Proof.Gen.UkvRefIdeal.Run
public import proofs.«01_k».proof.Proof.Gen.UkvRefIdeal.Read
public import proofs.«01_k».proof.Proof.Gen.UkvIdeal
public import proofs.«01_k».proof.Proof.Gen.UkvIdeal.Frame
public import proofs.«01_k».proof.Proof.Gen.UkvIdeal.Value
public import proofs.«01_k».proof.Proof.Gen.UqX
public import proofs.«01_k».proof.Proof.Gen.UqX.Frame
public import proofs.«01_k».proof.Proof.Gen.UqXRefIdeal
public import proofs.«01_k».proof.Proof.Gen.UqXRefIdeal.Run
public import proofs.«01_k».proof.Proof.Gen.UqXRefIdeal.Read
public import proofs.«01_k».proof.Proof.Gen.UqXIdeal
public import proofs.«01_k».proof.Proof.Gen.UqXIdeal.Frame
public import proofs.«01_k».proof.Proof.Gen.UqXIdeal.Value
public import proofs.«01_k».proof.Proof.Gen.UkvX
public import proofs.«01_k».proof.Proof.Gen.UkvX.Frame
public import proofs.«01_k».proof.Proof.Gen.UkvXRefIdeal
public import proofs.«01_k».proof.Proof.Gen.UkvXRefIdeal.Run
public import proofs.«01_k».proof.Proof.Gen.UkvXRefIdeal.Read
public import proofs.«01_k».proof.Proof.Gen.UkvXIdeal
public import proofs.«01_k».proof.Proof.Gen.UkvXIdeal.Frame
public import proofs.«01_k».proof.Proof.Gen.UkvXIdeal.Value
public import proofs.«01_k».proof.Proof.Gen.UqW
public import proofs.«01_k».proof.Proof.Gen.UqW.Frame
public import proofs.«01_k».proof.Proof.Gen.UqWRefIdeal
public import proofs.«01_k».proof.Proof.Gen.UqWRefIdeal.Run
public import proofs.«01_k».proof.Proof.Gen.UqWRefIdeal.Read
public import proofs.«01_k».proof.Proof.Gen.UqWIdeal
public import proofs.«01_k».proof.Proof.Gen.UqWIdeal.Frame
public import proofs.«01_k».proof.Proof.Gen.UqWIdeal.Value
public import proofs.«01_k».proof.Proof.Gen.UkvW
public import proofs.«01_k».proof.Proof.Gen.UkvW.Frame
public import proofs.«01_k».proof.Proof.Gen.UkvWRefIdeal
public import proofs.«01_k».proof.Proof.Gen.UkvWRefIdeal.Run
public import proofs.«01_k».proof.Proof.Gen.UkvWRefIdeal.Read
public import proofs.«01_k».proof.Proof.Gen.UkvWIdeal
public import proofs.«01_k».proof.Proof.Gen.UkvWIdeal.Frame
public import proofs.«01_k».proof.Proof.Gen.UkvWIdeal.Value
public import proofs.«01_k».proof.Proof.Mm.Conv
public import proofs.«01_k».proof.Proof.Mm.Conv0
public import proofs.«01_k».proof.Proof.Mm.ActClaims
public import proofs.«01_k».proof.Proof.Mm.Mid
public import proofs.«01_k».proof.Proof.Mm.Uq
public import proofs.«01_k».proof.Proof.Mm.Ukv
public import proofs.«01_k».proof.Proof.Mm.UqX
public import proofs.«01_k».proof.Proof.Mm.UkvX
public import proofs.«01_k».proof.Proof.Mm.UqW
public import proofs.«01_k».proof.Proof.Mm.UkvW

@[expose] public section

noncomputable section

namespace Cert.Proof

open Idealize.ShloMosaic Idealize.SL.Sem Cert.Kernel

/-- Everything claimed: three frames, the idealization's, and the values. -/
theorem claim : Cert.Claim := ⟨Cert.Kernel.Gen.facts, Cert.KernelIdeal.Gen.facts, Cert.ReferenceIdeal.Gen.facts,
  Cert.DownX.Gen.facts, Cert.DownXIdeal.Gen.facts, Cert.DownXRefIdeal.Gen.facts, Cert.DownW.Gen.facts, Cert.DownWIdeal.Gen.facts, Cert.DownWRefIdeal.Gen.facts, Cert.In.Gen.facts, Cert.InIdeal.Gen.facts, Cert.InRefIdeal.Gen.facts, Cert.InX.Gen.facts, Cert.InXIdeal.Gen.facts, Cert.InXRefIdeal.Gen.facts, Cert.InW.Gen.facts, Cert.InWIdeal.Gen.facts, Cert.InWRefIdeal.Gen.facts, Cert.GateW.Gen.facts, Cert.GateWIdeal.Gen.facts, Cert.GateWRefIdeal.Gen.facts, Cert.GateX.Gen.facts, Cert.GateXIdeal.Gen.facts, Cert.GateXRefIdeal.Gen.facts, Cert.UpX.Gen.facts, Cert.UpXIdeal.Gen.facts, Cert.UpXRefIdeal.Gen.facts, Cert.DownX0.Gen.facts, Cert.DownX0Ideal.Gen.facts, Cert.DownX0RefIdeal.Gen.facts, Cert.DownW0.Gen.facts, Cert.DownW0Ideal.Gen.facts, Cert.DownW0RefIdeal.Gen.facts, Cert.GateW0.Gen.facts, Cert.GateW0Ideal.Gen.facts, Cert.GateW0RefIdeal.Gen.facts, Cert.GateX0.Gen.facts, Cert.GateX0Ideal.Gen.facts, Cert.GateX0RefIdeal.Gen.facts, Cert.UpX0.Gen.facts, Cert.UpX0Ideal.Gen.facts, Cert.UpX0RefIdeal.Gen.facts, Cert.OutX.Gen.facts, Cert.OutXIdeal.Gen.facts, Cert.OutXRefIdeal.Gen.facts, Cert.OutW.Gen.facts, Cert.OutWIdeal.Gen.facts, Cert.OutWRefIdeal.Gen.facts, Cert.OutX0.Gen.facts, Cert.OutX0Ideal.Gen.facts, Cert.OutX0RefIdeal.Gen.facts, Cert.OutW0.Gen.facts, Cert.OutW0Ideal.Gen.facts, Cert.OutW0RefIdeal.Gen.facts, Cert.Down.Gen.facts, Cert.DownIdeal.Gen.facts, Cert.DownRefIdeal.Gen.facts, Cert.Conv.Gen.facts, Cert.ConvIdeal.Gen.facts, Cert.ConvRefIdeal.Gen.facts, Cert.Conv0.Gen.facts, Cert.Conv0Ideal.Gen.facts, Cert.Conv0RefIdeal.Gen.facts, Cert.Act.Gen.facts, Cert.ActIdeal.Gen.facts, Cert.ActRefIdeal.Gen.facts, Cert.Mid.Gen.facts, Cert.MidIdeal.Gen.facts, Cert.MidRefIdeal.Gen.facts, Cert.Uq.Gen.facts, Cert.UqIdeal.Gen.facts, Cert.UqRefIdeal.Gen.facts, Cert.Ukv.Gen.facts, Cert.UkvIdeal.Gen.facts, Cert.UkvRefIdeal.Gen.facts, Cert.UqX.Gen.facts, Cert.UqXIdeal.Gen.facts, Cert.UqXRefIdeal.Gen.facts, Cert.UkvX.Gen.facts, Cert.UkvXIdeal.Gen.facts, Cert.UkvXRefIdeal.Gen.facts, Cert.UqW.Gen.facts, Cert.UqWIdeal.Gen.facts, Cert.UqWRefIdeal.Gen.facts, Cert.UkvW.Gen.facts, Cert.UkvWIdeal.Gen.facts, Cert.UkvWRefIdeal.Gen.facts, Cert.Pre_finite.facts, Cert.Pre_finite_act.facts,
  BwdClaims.frame_p, BwdClaims.frame_pi, BwdClaims.frame_pi_pre, fun m g _ => BwdClaims.frame_r m g, fun m g _ => BwdClaims.frame_r m g,
  DownXIdeal.Mm.frame_p, DownXIdeal.Mm.frame_pi, DownXIdeal.Mm.frame_r,
  DownWIdeal.Mm.frame_p, DownWIdeal.Mm.frame_pi, DownWIdeal.Mm.frame_r,
  InIdeal.Mm.frame_p, InIdeal.Mm.frame_pi, InIdeal.Mm.frame_r,
  InXIdeal.Mm.frame_p, InXIdeal.Mm.frame_pi, InXIdeal.Mm.frame_r,
  InWIdeal.Mm.frame_p, InWIdeal.Mm.frame_pi, InWIdeal.Mm.frame_r,
  GateWIdeal.Mm.frame_p, GateWIdeal.Mm.frame_pi, GateWIdeal.Mm.frame_r,
  GateXIdeal.Mm.frame_p, GateXIdeal.Mm.frame_pi, GateXIdeal.Mm.frame_r,
  UpXIdeal.Mm.frame_p, UpXIdeal.Mm.frame_pi, UpXIdeal.Mm.frame_r,
  DownX0Ideal.Mm.frame_p, DownX0Ideal.Mm.frame_pi, DownX0Ideal.Mm.frame_r,
  DownW0Ideal.Mm.frame_p, DownW0Ideal.Mm.frame_pi, DownW0Ideal.Mm.frame_r,
  GateW0Ideal.Mm.frame_p, GateW0Ideal.Mm.frame_pi, GateW0Ideal.Mm.frame_r,
  GateX0Ideal.Mm.frame_p, GateX0Ideal.Mm.frame_pi, GateX0Ideal.Mm.frame_r,
  UpX0Ideal.Mm.frame_p, UpX0Ideal.Mm.frame_pi, UpX0Ideal.Mm.frame_r,
  OutXIdeal.Mm.frame_p, OutXIdeal.Mm.frame_pi, OutXIdeal.Mm.frame_r,
  OutWIdeal.Mm.frame_p, OutWIdeal.Mm.frame_pi, OutWIdeal.Mm.frame_r,
  OutX0Ideal.Mm.frame_p, OutX0Ideal.Mm.frame_pi, OutX0Ideal.Mm.frame_r,
  OutW0Ideal.Mm.frame_p, OutW0Ideal.Mm.frame_pi, OutW0Ideal.Mm.frame_r,
  DownIdeal.Mm.frame_p, DownIdeal.Mm.frame_pi, DownIdeal.Mm.frame_r,
  ConvIdeal.Mm.frame_p, ConvIdeal.Mm.frame_pi, ConvIdeal.Mm.frame_r,
  Conv0Ideal.Mm.frame_p, Conv0Ideal.Mm.frame_pi, Conv0Ideal.Mm.frame_r,
  ActIdeal.Mm.frame_p, ActIdeal.Mm.frame_pi, ActIdeal.Mm.frame_pi_pre, ActIdeal.Mm.frame_r, ActIdeal.Mm.frame_r_pre,
  MidIdeal.Mm.frame_p, MidIdeal.Mm.frame_pi, MidIdeal.Mm.frame_r,
  UqIdeal.Mm.frame_p, UqIdeal.Mm.frame_pi, UqIdeal.Mm.frame_r,
  UkvIdeal.Mm.frame_p, UkvIdeal.Mm.frame_pi, UkvIdeal.Mm.frame_r,
  UqXIdeal.Mm.frame_p, UqXIdeal.Mm.frame_pi, UqXIdeal.Mm.frame_r,
  UkvXIdeal.Mm.frame_p, UkvXIdeal.Mm.frame_pi, UkvXIdeal.Mm.frame_r,
  UqWIdeal.Mm.frame_p, UqWIdeal.Mm.frame_pi, UqWIdeal.Mm.frame_r,
  UkvWIdeal.Mm.frame_p, UkvWIdeal.Mm.frame_pi, UkvWIdeal.Mm.frame_r,
  BwdClaims.preserves, BwdClaims.algebraic,
  trivial, DownXIdeal.Mm.algebraic,
  trivial, DownWIdeal.Mm.algebraic,
  trivial, InIdeal.Mm.algebraic,
  trivial, InXIdeal.Mm.algebraic,
  trivial, InWIdeal.Mm.algebraic,
  trivial, GateWIdeal.Mm.algebraic,
  trivial, GateXIdeal.Mm.algebraic,
  trivial, UpXIdeal.Mm.algebraic,
  trivial, DownX0Ideal.Mm.algebraic,
  trivial, DownW0Ideal.Mm.algebraic,
  trivial, GateW0Ideal.Mm.algebraic,
  trivial, GateX0Ideal.Mm.algebraic,
  trivial, UpX0Ideal.Mm.algebraic,
  trivial, OutXIdeal.Mm.algebraic,
  trivial, OutWIdeal.Mm.algebraic,
  trivial, OutX0Ideal.Mm.algebraic,
  trivial, OutW0Ideal.Mm.algebraic,
  trivial, DownIdeal.Mm.algebraic,
  trivial, ConvIdeal.Mm.algebraic,
  trivial, Conv0Ideal.Mm.algebraic,
  trivial, ActIdeal.Mm.algebraic,
  trivial, MidIdeal.Mm.algebraic,
  trivial, UqIdeal.Mm.algebraic,
  trivial, UkvIdeal.Mm.algebraic,
  trivial, UqXIdeal.Mm.algebraic,
  trivial, UkvXIdeal.Mm.algebraic,
  trivial, UqWIdeal.Mm.algebraic,
  trivial, UkvWIdeal.Mm.algebraic⟩

end Cert.Proof

end
